-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_above_padding [hPre_above_padding : Cert.Pre_above_padding.Facts] (m : (ℓ : Loc Cert.KernelIdeal.nD Cert.KernelIdeal.τ Cert.KernelIdeal.sig) → Buf (Elt Ideal) ℓ) : Prop :=
  ∀ c : Dev Cert.KernelIdeal.nD,
    (Cert.Pre_above_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_above_padding [hPre_above_padding : Cert.Pre_above_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_above_padding [hKernelIdeal : Cert.KernelIdeal.Facts] [hPre_above_padding : Cert.Pre_above_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_padding m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_above_padding [hReferenceIdeal : Cert.ReferenceIdeal.Facts] [hPre_above_padding : Cert.Pre_above_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_len" .f32 0x3D4CCCCD#32 ((1 / 20 : ℝ) : EReal)

def algebraic_KernelIdeal_ReferenceIdeal_pre_above_padding [hKernelIdeal : Cert.KernelIdeal.Facts] [hReferenceIdeal : Cert.ReferenceIdeal.Facts] [hPre_above_padding : Cert.Pre_above_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_above_padding : Cert.Pre_above_padding.Facts),
    quiescent_Kernel (hKernel := hKernel) (hPre_in_range := hPre_in_range)
    ∧ quiescent_KernelIdeal (hKernelIdeal := hKernelIdeal) (hPre_in_range := hPre_in_range)
    ∧ quiescent_KernelIdeal_pre_above_padding (hKernelIdeal := hKernelIdeal) (hPre_above_padding := hPre_above_padding)
    ∧ quiescent_ReferenceIdeal (hReferenceIdeal := hReferenceIdeal) (hPre_in_range := hPre_in_range)
    ∧ quiescent_ReferenceIdeal_pre_above_padding (hReferenceIdeal := hReferenceIdeal) (hPre_above_padding := hPre_above_padding)
    ∧ preserves_Kernel_KernelIdeal
    ∧ algebraic_KernelIdeal_ReferenceIdeal_pre_above_padding (hKernelIdeal := hKernelIdeal) (hReferenceIdeal := hReferenceIdeal) (hPre_above_padding := hPre_above_padding)
-- ==== Pre_above_padding.lean ====
abbrev S16384x20 : Shape := ⟨2, ![16384, 20]⟩
abbrev S1000x128 : Shape := ⟨2, ![1000, 128]⟩
abbrev S1000 : Shape := ⟨1, ![1000]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩
abbrev S16384x128 : Shape := ⟨2, ![16384, 128]⟩
abbrev S128x1000 : Shape := ⟨2, ![128, 1000]⟩
abbrev S16384x1000 : Shape := ⟨2, ![16384, 1000]⟩
abbrev S1x1000 : Shape := ⟨2, ![1, 1000]⟩
abbrev S16384 : Shape := ⟨1, ![16384]⟩

class Facts : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x128_0_1 : S16384x20.BroadcastsInDim S16384x20x128 (![0, 1] : Fin 2 → Fin S16384x20x128.rank)
  bcast_S_S16384x20x128 : S_.BroadcastsInDim S16384x20x128 (![] : Fin 0 → Fin S16384x20x128.rank)
  reducesTo_S16384x20x128_S16384x128_d1 : S16384x20x128.ReducesTo [1] S16384x128
  bcast_S_S16384x128 : S_.BroadcastsInDim S16384x128 (![] : Fin 0 → Fin S16384x128.rank)
  transposes_S1000x128_S128x1000_1_0 : S1000x128.Transposes [1, 0] S128x1000
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x20_S_d0_1 : S16384x20.ReducesTo [0, 1] S_
  bcast_S_S16384x1000 : S_.BroadcastsInDim S16384x1000 (![] : Fin 0 → Fin S16384x1000.rank)
  reducesTo_S16384x1000_S16384_d1 : S16384x1000.ReducesTo [1] S16384
  reducesTo_S16384_S_d0 : S16384.ReducesTo [0] S_
  gather_S1000x128_S16384x20x1_S16384x20x128_2_0_n_n_0_2_1128_wf : GatherDims.WF S1000x128 S16384x20x1 S16384x20x128 [2] [0] [] [0] [] 2 ![1, 128]
  dot_S16384x128_S128x1000_S16384x1000_1_0_0_1_n_n_wf : DotDims.WF S16384x128 S128x1000 S16384x1000 [1] [0] [0] [1] [] []

variable [Facts]

def gather_S1000x128_S16384x20x1_S16384x20x128_2_0_n_n_0_2_1128 : GatherDims S1000x128 S16384x20x1 S16384x20x128 where
  offsetDims := [2]
  collapsedSliceDims := [0]
  operandBatchingDims := []
  startIndicesBatchingDims := []
  startIndexMap := [0]
  indexVectorDim := 2
  sliceSizes := ![1, 128]
  wf := gather_S1000x128_S16384x20x1_S16384x20x128_2_0_n_n_0_2_1128_wf
def dot_S16384x128_S128x1000_S16384x1000_1_0_0_1_n_n : DotDims S16384x128 S128x1000 S16384x1000 where
  lhsContracting := [1]
  rhsContracting := [0]
  lhsNonContracting := [0]
  rhsNonContracting := [1]
  lhsBatch := []
  rhsBatch := []
  wf := dot_S16384x128_S128x1000_S16384x1000_1_0_0_1_n_n_wf
def fn_where {F : FTy → Type} [FloatOps F] (arg0 : IVec S16384x20 1) (arg1 : IVec S16384x20 32) (arg2 : IVec S16384x20 32) : IVec S16384x20 32 :=
  let v0 : IVec S16384x20 32 := select arg0 arg1 arg2
  v0

def fn_take {F : FTy → Type} [FloatOps F] (arg0 : FVec F S1000x128 .f32) (arg1 : IVec S16384x20 32) : FVec F S16384x20x128 .f32 :=
  let c : IVec S_ 32 := constantI S_ 32 0#32
  let v0 : IVec S16384x20 32 := broadcastInDim S16384x20 ![] bcast_S_S16384x20 c
  let v1 : IVec S16384x20 1 := cmpi .slt arg1 v0
  let c_0 : IVec S_ 32 := constantI S_ 32 1000#32
  let v2 : IVec S16384x20 32 := broadcastInDim S16384x20 ![] bcast_S_S16384x20 c_0
  let v3 : IVec S16384x20 32 := addi arg1 v2
  let v4 : IVec S16384x20 32 := fn_where (F := F) v1 v3 arg1
  let v5 : IVec S16384x20x1 32 := broadcastInDim S16384x20x1 ![0, 1] bcast_S16384x20_S16384x20x1_0_1 v4
  let c_1 : IVec S1 32 := constantI S1 32 999#32
  let c_2 : IVec S_ 32 := constantI S_ 32 0#32
  let v6 : IVec S16384x20x1 32 := broadcastInDim S16384x20x1 ![] bcast_S_S16384x20x1 c_2
  let v7 : IVec S16384x20x1 1 := cmpi .sge v5 v6
  let v8 : IVec S1x1x1 32 := broadcastInDim S1x1x1 ![2] bcast_S1_S1x1x1_2 c_1
  let v9 : IVec S16384x20x1 32 := broadcastInDim S16384x20x1 ![0, 1, 2] bcast_S1x1x1_S16384x20x1_0_1_2 v8
  let v10 : IVec S16384x20x1 1 := cmpi .sle v5 v9
  let v11 : IVec S16384x20x1 1 := andi v7 v10
  let c_3 : IVec S_ 1 := constantI S_ 1 1#1
  let v12 : IVec S16384x20 1 := (fun x v => Host.reduce IntOp.andi x v reducesTo_S16384x20x1_S16384x20_d2 h_S_) v11 c_3
  let v13 : FVec F S16384x20x128 .f32 := (fun x i => Host.gather gather_S1000x128_S16384x20x1_S16384x20x128_2_0_n_n_0_2_1128 x i) arg0 v5
  let v14 : IVec S16384x20x128 1 := broadcastInDim S16384x20x128 ![0, 1] bcast_S16384x20_S16384x20x128_0_1 v12
  let cst : FVec F S_ .f32 := constant S_ .f32 0x7FC00000#32
  let v15 : FVec F S16384x20x128 .f32 := broadcastInDim S16384x20x128 ![] bcast_S_S16384x20x128 cst
  let v16 : FVec F S16384x20x128 .f32 := select v14 v13 v15
  v16

def fn_part1 {F : FTy → Type} [FloatOps F] (main_v14 : IVec S_ 1) (main_v16 : IVec S16384x1000 1) (main_c_4 : IVec S_ 1) : IVec S_ 1 :=
  let main_v17 : IVec S16384 1 := (fun x v => Host.reduce IntOp.ori x v reducesTo_S16384x1000_S16384_d1 h_S_) main_v16 main_c_4
  let main_c_5 : IVec S_ 1 := constantI S_ 1 1#1
  let main_v18 : IVec S_ 1 := (fun x v => Host.reduce IntOp.andi x v reducesTo_S16384_S_d0 h_S_) main_v17 main_c_5
  let main_v19 : IVec S_ 1 := andi main_v14 main_v18
  main_v19

def fn {F : FTy → Type} [FloatOps F] (main_arg0 : IVec S16384x20 32) (main_arg1 : FVec F S1000x128 .f32) (main_arg2 : FVec F S1000x128 .f32) (main_arg3 : FVec F S1000 .f32) : IVec S_ 1 :=
  let main_v0 : FVec F S16384x20x128 .f32 := fn_take (F := F) main_arg1 main_arg0
  let main_cst : FVec F S_ .f32 := constant S_ .f32 0x00000000#32
  let main_v1 : FVec F S16384x128 .f32 := (fun x v => Host.reduceAdd x v reducesTo_S16384x20x128_S16384x128_d1 h_S_) main_v0 main_cst
  let main_cst_0 : FVec F S_ .f32 := constant S_ .f32 0x41A00000#32
  let main_v2 : FVec F S16384x128 .f32 := broadcastInDim S16384x128 ![] bcast_S_S16384x128 main_cst_0
  let main_v3 : FVec F S16384x128 .f32 := Host.divf main_v1 main_v2
  let main_v4 : FVec F S128x1000 .f32 := (transpose S128x1000 [1, 0] · transposes_S1000x128_S128x1000_1_0) main_arg2
  let main_v5 : FVec F S16384x1000 .f32 := (fun l r => Host.dotGeneral dot_S16384x128_S128x1000_S16384x1000_1_0_0_1_n_n none l r) main_v3 main_v4
  let main_v6 : FVec F S1x1000 .f32 := broadcastInDim S1x1000 ![1] bcast_S1000_S1x1000_1 main_arg3
  let main_v7 : FVec F S16384x1000 .f32 := broadcastInDim S16384x1000 ![0, 1] bcast_S1x1000_S16384x1000_0_1 main_v6
  let main_v8 : FVec F S16384x1000 .f32 := addf main_v5 main_v7
  let main_c : IVec S_ 32 := constantI S_ 32 0#32
  let main_v9 : IVec S16384x20 32 := broadcastInDim S16384x20 ![] bcast_S_S16384x20 main_c
  let main_v10 : IVec S16384x20 1 := cmpi .sge main_arg0 main_v9
  let main_c_1 : IVec S_ 32 := constantI S_ 32 1000#32
  let main_v11 : IVec S16384x20 32 := broadcastInDim S16384x20 ![] bcast_S_S16384x20 main_c_1
  let main_v12 : IVec S16384x20 1 := cmpi .slt main_arg0 main_v11
  let main_v13 : IVec S16384x20 1 := andi main_v10 main_v12
  let main_c_2 : IVec S_ 1 := constantI S_ 1 1#1
  let main_v14 : IVec S_ 1 := (fun x v => Host.reduce IntOp.andi x v reducesTo_S16384x20_S_d0_1 h_S_) main_v13 main_c_2
  let main_cst_3 : FVec F S_ .f32 := constant S_ .f32 0xF149F2CA#32
  let main_v15 : FVec F S16384x1000 .f32 := broadcastInDim S16384x1000 ![] bcast_S_S16384x1000 main_cst_3
  let main_v16 : IVec S16384x1000 1 := cmpf .oge main_v8 main_v15
  let main_c_4 : IVec S_ 1 := constantI S_ 1 0#1
  fn_part1 (F := F) main_v14 main_v16 main_c_4
-- ==== Pre_in_range.lean ====
abbrev S16384x20 : Shape := ⟨2, ![16384, 20]⟩
abbrev S1000x128 : Shape := ⟨2, ![1000, 128]⟩
abbrev S1000 : Shape := ⟨1, ![1000]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : IVec S16384x20 32) (main_arg1 : FVec F S1000x128 .f32) (main_arg2 : FVec F S1000x128 .f32) (main_arg3 : FVec F S1000 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 1000#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  main_v5
-- ==== Kernel.lean ====
abbrev S16384x20 : Shape := ⟨2, ![16384, 20]⟩
abbrev S1000x128 : Shape := ⟨2, ![1000, 128]⟩
abbrev S1000 : Shape := ⟨1, ![1000]⟩
abbrev S2x16x32x320 : Shape := ⟨4, ![2, 16, 32, 320]⟩
abbrev S1000x2x64 : Shape := ⟨3, ![1000, 2, 64]⟩
abbrev S2x1000x64 : Shape := ⟨3, ![2, 1000, 64]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S2 : Shape := ⟨1, ![2]⟩
abbrev S1x16x32x320 : Shape := ⟨4, ![1, 16, 32, 320]⟩
abbrev S16x32x320 : Shape := ⟨3, ![16, 32, 320]⟩
abbrev S2x524288 : Shape := ⟨2, ![2, 524288]⟩
abbrev S1000x64 : Shape := ⟨2, ![1000, 64]⟩
abbrev S320 : Shape := ⟨1, ![320]⟩
abbrev S1024 : Shape := ⟨1, ![1024]⟩
abbrev S1x1000x64 : Shape := ⟨3, ![1, 1000, 64]⟩
abbrev S1x1x320 : Shape := ⟨3, ![1, 1, 320]⟩
abbrev S16 : Shape := ⟨1, ![16]⟩
abbrev S1x16 : Shape := ⟨2, ![1, 16]⟩
abbrev S1x524288 : Shape := ⟨2, ![1, 524288]⟩
abbrev S524288 : Shape := ⟨1, ![524288]⟩
abbrev S8192x64 : Shape := ⟨2, ![8192, 64]⟩
abbrev S8192 : Shape := ⟨1, ![8192]⟩
abbrev S2048x64 : Shape := ⟨2, ![2048, 64]⟩
abbrev S2048 : Shape := ⟨1, ![2048]⟩
abbrev S2048x128 : Shape := ⟨2, ![2048, 128]⟩
abbrev S2048x1024 : Shape := ⟨2, ![2048, 1024]⟩
abbrev S2048x1 : Shape := ⟨2, ![2048, 1]⟩
abbrev S16384 : Shape := ⟨1, ![16384]⟩

abbrev nBuf : Table → Nat
  | .hbm => 43
  | .local .tc .vmem => 16
  | .local .scVector .vmem => 10
  | _ => 0

abbrev bufTy : (tb : Table) → Fin (nBuf tb) → BufTy
  | .hbm, ⟨0, _⟩ => ⟨S16384x20, .i32⟩
  | .hbm, ⟨1, _⟩ => ⟨S1000x128, .f32⟩
  | .hbm, ⟨2, _⟩ => ⟨S1000x128, .f32⟩
  | .hbm, ⟨3, _⟩ => ⟨S1000, .f32⟩
  | .hbm, ⟨4, _⟩ => ⟨S2x16x32x320, .i32⟩
  | .hbm, ⟨5, _⟩ => ⟨S1000x2x64, .f32⟩
  | .hbm, ⟨6, _⟩ => ⟨S2x1000x64, .f32⟩
  | .hbm, ⟨7, _⟩ => ⟨S_, .f32⟩
  | .hbm, ⟨8, _⟩ => ⟨S1024x128, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S_, .f32⟩
  | .hbm, ⟨13, _⟩ => ⟨S1x1024, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x1024, .f32⟩
  | .hbm, ⟨20, _⟩ => ⟨S1x16x32x320, .i32⟩
  | .hbm, ⟨21, _⟩ => ⟨S16x32x320, .i32⟩
  | .hbm, ⟨22, _⟩ => ⟨S2x524288, .f32⟩
  | .hbm, ⟨23, _⟩ => ⟨S1x524288, .f32⟩
  | .hbm, ⟨24, _⟩ => ⟨S524288, .f32⟩
  | .hbm, ⟨25, _⟩ => ⟨S8192x64, .f32⟩
  | .hbm, ⟨26, _⟩ => ⟨S1x524288, .f32⟩
  | .hbm, ⟨27, _⟩ => ⟨S524288, .f32⟩
  | .hbm, ⟨28, _⟩ => ⟨S8192x64, .f32⟩
  | .hbm, ⟨29, _⟩ => ⟨S8192, .i32⟩
  | .hbm, ⟨30, _⟩ => ⟨S1x16x32x320, .i32⟩
  | .hbm, ⟨31, _⟩ => ⟨S16x32x320, .i32⟩
  | .hbm, ⟨32, _⟩ => ⟨S16x32x320, .i32⟩
  | .hbm, ⟨33, _⟩ => ⟨S2x524288, .f32⟩
  | .hbm, ⟨34, _⟩ => ⟨S2x524288, .f32⟩
  | .hbm, ⟨35, _⟩ => ⟨S1x524288, .f32⟩
  | .hbm, ⟨36, _⟩ => ⟨S524288, .f32⟩
  | .hbm, ⟨37, _⟩ => ⟨S8192x64, .f32⟩
  | .hbm, ⟨38, _⟩ => ⟨S1x524288, .f32⟩
  | .hbm, ⟨39, _⟩ => ⟨S524288, .f32⟩
  | .hbm, ⟨40, _⟩ => ⟨S8192x64, .f32⟩
  | .hbm, ⟨41, _⟩ => ⟨S8192, .i32⟩
  | .hbm, ⟨42, _⟩ => ⟨S16384, .i32⟩
  | .local .tc .vmem, ⟨0, _⟩ => ⟨S2048x64, .f32⟩
  | .local .tc .vmem, ⟨1, _⟩ => ⟨S2048x64, .f32⟩
  | .local .tc .vmem, ⟨2, _⟩ => ⟨S2048x64, .f32⟩
  | .local .tc .vmem, ⟨3, _⟩ => ⟨S2048x64, .f32⟩
  | .local .tc .vmem, ⟨4, _⟩ => ⟨S1024x128, .f32⟩
  | .local .tc .vmem, ⟨5, _⟩ => ⟨S1x1024, .f32⟩
  | .local .tc .vmem, ⟨6, _⟩ => ⟨S2048, .i32⟩
  | .local .tc .vmem, ⟨7, _⟩ => ⟨S2048, .i32⟩
  | .local .tc .vmem, ⟨8, _⟩ => ⟨S2048x64, .f32⟩
  | .local .tc .vmem, ⟨9, _⟩ => ⟨S2048x64, .f32⟩
  | .local .tc .vmem, ⟨10, _⟩ => ⟨S2048x64, .f32⟩
  | .local .tc .vmem, ⟨11, _⟩ => ⟨S2048x64, .f32⟩
  | .local .tc .vmem, ⟨12, _⟩ => ⟨S1024x128, .f32⟩
  | .local .tc .vmem, ⟨13, _⟩ => ⟨S1x1024, .f32⟩
  | .local .tc .vmem, ⟨14, _⟩ => ⟨S2048, .i32⟩
  | .local .tc .vmem, ⟨15, _⟩ => ⟨S2048, .i32⟩
  | .local .scVector .vmem, ⟨0, _⟩ => ⟨S1000x64, .f32⟩
  | .local .scVector .vmem, ⟨1, _⟩ => ⟨S320, .i32⟩
  | .local .scVector .vmem, ⟨2, _⟩ => ⟨S320, .i32⟩
  | .local .scVector .vmem, ⟨3, _⟩ => ⟨S1024, .f32⟩
  | .local .scVector .vmem, ⟨4, _⟩ => ⟨S1024, .f32⟩
  | .local .scVector .vmem, ⟨5, _⟩ => ⟨S1000x64, .f32⟩
  | .local .scVector .vmem, ⟨6, _⟩ => ⟨S320, .i32⟩
  | .local .scVector .vmem, ⟨7, _⟩ => ⟨S320, .i32⟩
  | .local .scVector .vmem, ⟨8, _⟩ => ⟨S1024, .f32⟩
  | .local .scVector .vmem, ⟨9, _⟩ => ⟨S1024, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v12_scv : Ref sig .scVector := ⟨.hbm, 21, rfl⟩
abbrev main_v2_scv : Ref sig .scVector := ⟨.hbm, 6, rfl⟩
abbrev main_v13_scv : Ref sig .scVector := ⟨.hbm, 22, rfl⟩
abbrev main_v23_0_scv : Ref sig .scVector := ⟨.hbm, 32, rfl⟩
abbrev main_v24_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg4_1 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc2_scratch4 : Ref sig .scVector := ⟨.vmem, 9, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_11 : BitVec 32 := 0#32
  let c0_i32_12 : BitVec 32 := 0#32
  ![v11.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_15 : BitVec 32 := 0#32
  let c0_i32_16 : BitVec 32 := 0#32
  ![v28.toNat, 0, 0]
@[reducible] def k0_t1_loop : Scf.Loop 32 :=
  let c0_i32_22 : BitVec 32 := 0#32
  let c16_i32 : BitVec 32 := 16#32
  let v41 : BitVec 32 := Scalar.addi c0_i32_22 c16_i32
  let c1_i32_23 : BitVec 32 := 1#32
  ⟨c0_i32_22, v41, c1_i32_23⟩
def k0_cond1 (k0_t1 : Fin k0_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_30 : BitVec 32 := 2#32
  let v59 : BitVec 32 := Scalar.addi v58 c2_i32_30
  let c1_i32_31 : BitVec 32 := 1#32
  let v60 : BitVec 32 := Scalar.subi v59 c1_i32_31
  let c32_i32 : BitVec 32 := 32#32
  let v61 : BitVec 1 := Scalar.cmpi .slt v60 c32_i32
  let v62 : BitVec 32 := Scalar.extui v61
  let c0_i32_32 : BitVec 32 := 0#32
  let v63 : BitVec 1 := Scalar.cmpi .ne v62 c0_i32_32
  v63

def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_59 : BitVec 32 := 2#32
  let v102 : BitVec 32 := Scalar.addi v58 c2_i32_59
  let c1_i32_60 : BitVec 32 := 1#32
  let v103 : BitVec 32 := Scalar.subi v102 c1_i32_60
  let c0_i32_61 : BitVec 32 := 0#32
  ![v28.toNat, v103.toNat, 0]
def k0_off4 (i : grid0.Coords) (k0_t1 : Fin k0_t1_loop.trips) (c0_i32_29 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let v58 : BitVec 32 := Scalar.addi v57 c0_i32_29
  let c0_i32_33 : BitVec 32 := 0#32
  ![v28.toNat, v58.toNat, 0]
def k0_cond2 (k0_t1 : Fin k0_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_35 : BitVec 32 := 2#32
  let v68 : BitVec 1 := Scalar.cmpi .sge v58 c2_i32_35
  let v69 : BitVec 32 := Scalar.extui v68
  let c0_i32_36 : BitVec 32 := 0#32
  let v70 : BitVec 1 := Scalar.cmpi .ne v69 c0_i32_36
  v70

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32_60 : BitVec 32 := 512#32
  let v103 : BitVec 32 := Scalar.muli v28 c512_i32_60
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_59 : BitVec 32 := 2#32
  let v102 : BitVec 32 := Scalar.subi v58 c2_i32_59
  let c16_i32_61 : BitVec 32 := 16#32
  let v104 : BitVec 32 := Scalar.muli v102 c16_i32_61
  let v105 : BitVec 32 := Scalar.addi v103 v104
  let c64_i32_62 : BitVec 32 := 64#32
  let v106 : BitVec 32 := Scalar.muli v105 c64_i32_62
  ![v11.toNat, v106.toNat]
@[reducible] def k0_t2_loop : Scf.Loop 32 :=
  let c0_i32_37 : BitVec 32 := 0#32
  let c4_i32 : BitVec 32 := 4#32
  let v71 : BitVec 32 := Scalar.addi c0_i32_37 c4_i32
  let c1_i32_38 : BitVec 32 := 1#32
  ⟨c0_i32_37, v71, c1_i32_38⟩
def k0_off6 (k0_t2 : Fin k0_t2_loop.trips) (c0_i32_61 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k0_t2
  let c1_i32_59 : BitVec 32 := 1#32
  let v102 : BitVec 32 := Scalar.muli arg16 c1_i32_59
  let v103 : BitVec 32 := Scalar.addi c0_i32_60 v102
  let c80_i32 : BitVec 32 := 80#32
  let v104 : BitVec 32 := Scalar.muli v103 c80_i32
  let v105 : BitVec 32 := Scalar.addi v104 c0_i32_61
  let v106 : Index := Scalar.indexCast v105
  ![v106.toNat]
def k0_off7 (v130 : BitVec 32) : Fin 2 → Nat :=
  let v131 : Index := Scalar.indexCast v130
  let c0 : Index := 0#32
  ![v131.toNat, 0]

def k0_chk1 (v130 : BitVec 32) : Prop :=
  (∀ a, (k0_off7 v130) a + S1x16.size a ≤ S1000x64.size a)
theorem k0_off7_inb : ∀ (v130 : BitVec 32) (k0_hw1 : k0_chk1 v130), ∀ a, (k0_off7 v130) a + S1x16.size a ≤ S1000x64.size a := fun v130 k0_hw1 => k0_hw1

def k0_off8 (v135 : BitVec 32) : Fin 2 → Nat :=
  let v136 : Index := Scalar.indexCast v135
  let c16 : Index := 16#32
  ![v136.toNat, 16]

def k0_chk2 (v135 : BitVec 32) : Prop :=
  (∀ a, (k0_off8 v135) a + S1x16.size a ≤ S1000x64.size a)
theorem k0_off8_inb : ∀ (v135 : BitVec 32) (k0_hw2 : k0_chk2 v135), ∀ a, (k0_off8 v135) a + S1x16.size a ≤ S1000x64.size a := fun v135 k0_hw2 => k0_hw2

def k0_off9 (v140 : BitVec 32) : Fin 2 → Nat :=
  let v141 : Index := Scalar.indexCast v140
  let c32 : Index := 32#32
  ![v141.toNat, 32]

def k0_chk3 (v140 : BitVec 32) : Prop :=
  (∀ a, (k0_off9 v140) a + S1x16.size a ≤ S1000x64.size a)
theorem k0_off9_inb : ∀ (v140 : BitVec 32) (k0_hw3 : k0_chk3 v140), ∀ a, (k0_off9 v140) a + S1x16.size a ≤ S1000x64.size a := fun v140 k0_hw3 => k0_hw3

def k0_off10 (v145 : BitVec 32) : Fin 2 → Nat :=
  let v146 : Index := Scalar.indexCast v145
  let c48 : Index := 48#32
  ![v146.toNat, 48]

def k0_chk4 (v145 : BitVec 32) : Prop :=
  (∀ a, (k0_off10 v145) a + S1x16.size a ≤ S1000x64.size a)
theorem k0_off10_inb : ∀ (v145 : BitVec 32) (k0_hw4 : k0_chk4 v145), ∀ a, (k0_off10 v145) a + S1x16.size a ≤ S1000x64.size a := fun v145 k0_hw4 => k0_hw4

def k0_off11 (v150 : BitVec 32) : Fin 2 → Nat :=
  let v151 : Index := Scalar.indexCast v150
  let c0_69 : Index := 0#32
  ![v151.toNat, 0]

def k0_off12 (v150 : BitVec 32) : Fin 2 → Nat :=
  let v155 : Index := Scalar.indexCast v150
  let c16_70 : Index := 16#32
  ![v155.toNat, 16]
def k0_off13 (v150 : BitVec 32) : Fin 2 → Nat :=
  let v159 : Index := Scalar.indexCast v150
  let c32_71 : Index := 32#32
  ![v159.toNat, 32]
def k0_off14 (v150 : BitVec 32) : Fin 2 → Nat :=
  let v163 : Index := Scalar.indexCast v150
  let c48_72 : Index := 48#32
  ![v163.toNat, 48]

def k0_chk5 (v150 : BitVec 32) : Prop :=
  (∀ a, (k0_off11 v150) a + S1x16.size a ≤ S1000x64.size a) ∧
  (∀ a, (k0_off12 v150) a + S1x16.size a ≤ S1000x64.size a) ∧
  (∀ a, (k0_off13 v150) a + S1x16.size a ≤ S1000x64.size a) ∧
  (∀ a, (k0_off14 v150) a + S1x16.size a ≤ S1000x64.size a)
theorem k0_off11_inb : ∀ (v150 : BitVec 32) (k0_hw5 : k0_chk5 v150), ∀ a, (k0_off11 v150) a + S1x16.size a ≤ S1000x64.size a := fun v150 k0_hw5 => k0_hw5.1
theorem k0_off12_inb : ∀ (v150 : BitVec 32) (k0_hw5 : k0_chk5 v150), ∀ a, (k0_off12 v150) a + S1x16.size a ≤ S1000x64.size a := fun v150 k0_hw5 => k0_hw5.2.1
theorem k0_off13_inb : ∀ (v150 : BitVec 32) (k0_hw5 : k0_chk5 v150), ∀ a, (k0_off13 v150) a + S1x16.size a ≤ S1000x64.size a := fun v150 k0_hw5 => k0_hw5.2.2.1
theorem k0_off14_inb : ∀ (v150 : BitVec 32) (k0_hw5 : k0_chk5 v150), ∀ a, (k0_off14 v150) a + S1x16.size a ≤ S1000x64.size a := fun v150 k0_hw5 => k0_hw5.2.2.2

def k0_off15 (v168 : BitVec 32) : Fin 2 → Nat :=
  let v169 : Index := Scalar.indexCast v168
  let c0_73 : Index := 0#32
  ![v169.toNat, 0]

def k0_off16 (v168 : BitVec 32) : Fin 2 → Nat :=
  let v173 : Index := Scalar.indexCast v168
  let c16_74 : Index := 16#32
  ![v173.toNat, 16]
def k0_off17 (v168 : BitVec 32) : Fin 2 → Nat :=
  let v177 : Index := Scalar.indexCast v168
  let c32_75 : Index := 32#32
  ![v177.toNat, 32]
def k0_off18 (v168 : BitVec 32) : Fin 2 → Nat :=
  let v181 : Index := Scalar.indexCast v168
  let c48_76 : Index := 48#32
  ![v181.toNat, 48]

def k0_chk6 (v168 : BitVec 32) : Prop :=
  (∀ a, (k0_off15 v168) a + S1x16.size a ≤ S1000x64.size a) ∧
  (∀ a, (k0_off16 v168) a + S1x16.size a ≤ S1000x64.size a) ∧
  (∀ a, (k0_off17 v168) a + S1x16.size a ≤ S1000x64.size a) ∧
  (∀ a, (k0_off18 v168) a + S1x16.size a ≤ S1000x64.size a)
theorem k0_off15_inb : ∀ (v168 : BitVec 32) (k0_hw6 : k0_chk6 v168), ∀ a, (k0_off15 v168) a + S1x16.size a ≤ S1000x64.size a := fun v168 k0_hw6 => k0_hw6.1
theorem k0_off16_inb : ∀ (v168 : BitVec 32) (k0_hw6 : k0_chk6 v168), ∀ a, (k0_off16 v168) a + S1x16.size a ≤ S1000x64.size a := fun v168 k0_hw6 => k0_hw6.2.1
theorem k0_off17_inb : ∀ (v168 : BitVec 32) (k0_hw6 : k0_chk6 v168), ∀ a, (k0_off17 v168) a + S1x16.size a ≤ S1000x64.size a := fun v168 k0_hw6 => k0_hw6.2.2.1
theorem k0_off18_inb : ∀ (v168 : BitVec 32) (k0_hw6 : k0_chk6 v168), ∀ a, (k0_off18 v168) a + S1x16.size a ≤ S1000x64.size a := fun v168 k0_hw6 => k0_hw6.2.2.2

def k0_off19 (v186 : BitVec 32) : Fin 2 → Nat :=
  let v187 : Index := Scalar.indexCast v186
  let c0_77 : Index := 0#32
  ![v187.toNat, 0]

def k0_off20 (v186 : BitVec 32) : Fin 2 → Nat :=
  let v191 : Index := Scalar.indexCast v186
  let c16_78 : Index := 16#32
  ![v191.toNat, 16]
def k0_off21 (v186 : BitVec 32) : Fin 2 → Nat :=
  let v195 : Index := Scalar.indexCast v186
  let c32_79 : Index := 32#32
  ![v195.toNat, 32]
def k0_off22 (v186 : BitVec 32) : Fin 2 → Nat :=
  let v199 : Index := Scalar.indexCast v186
  let c48_80 : Index := 48#32
  ![v199.toNat, 48]

def k0_chk7 (v186 : BitVec 32) : Prop :=
  (∀ a, (k0_off19 v186) a + S1x16.size a ≤ S1000x64.size a) ∧
  (∀ a, (k0_off20 v186) a + S1x16.size a ≤ S1000x64.size a) ∧
  (∀ a, (k0_off21 v186) a + S1x16.size a ≤ S1000x64.size a) ∧
  (∀ a, (k0_off22 v186) a + S1x16.size a ≤ S1000x64.size a)
theorem k0_off19_inb : ∀ (v186 : BitVec 32) (k0_hw7 : k0_chk7 v186), ∀ a, (k0_off19 v186) a + S1x16.size a ≤ S1000x64.size a := fun v186 k0_hw7 => k0_hw7.1
theorem k0_off20_inb : ∀ (v186 : BitVec 32) (k0_hw7 : k0_chk7 v186), ∀ a, (k0_off20 v186) a + S1x16.size a ≤ S1000x64.size a := fun v186 k0_hw7 => k0_hw7.2.1
theorem k0_off21_inb : ∀ (v186 : BitVec 32) (k0_hw7 : k0_chk7 v186), ∀ a, (k0_off21 v186) a + S1x16.size a ≤ S1000x64.size a := fun v186 k0_hw7 => k0_hw7.2.2.1
theorem k0_off22_inb : ∀ (v186 : BitVec 32) (k0_hw7 : k0_chk7 v186), ∀ a, (k0_off22 v186) a + S1x16.size a ≤ S1000x64.size a := fun v186 k0_hw7 => k0_hw7.2.2.2

def k0_off23 (v204 : BitVec 32) : Fin 2 → Nat :=
  let v205 : Index := Scalar.indexCast v204
  let c0_81 : Index := 0#32
  ![v205.toNat, 0]

def k0_off24 (v204 : BitVec 32) : Fin 2 → Nat :=
  let v209 : Index := Scalar.indexCast v204
  let c16_82 : Index := 16#32
  ![v209.toNat, 16]
def k0_off25 (v204 : BitVec 32) : Fin 2 → Nat :=
  let v213 : Index := Scalar.indexCast v204
  let c32_83 : Index := 32#32
  ![v213.toNat, 32]
def k0_off26 (v204 : BitVec 32) : Fin 2 → Nat :=
  let v217 : Index := Scalar.indexCast v204
  let c48_84 : Index := 48#32
  ![v217.toNat, 48]

def k0_chk8 (v204 : BitVec 32) : Prop :=
  (∀ a, (k0_off23 v204) a + S1x16.size a ≤ S1000x64.size a) ∧
  (∀ a, (k0_off24 v204) a + S1x16.size a ≤ S1000x64.size a) ∧
  (∀ a, (k0_off25 v204) a + S1x16.size a ≤ S1000x64.size a) ∧
  (∀ a, (k0_off26 v204) a + S1x16.size a ≤ S1000x64.size a)
theorem k0_off23_inb : ∀ (v204 : BitVec 32) (k0_hw8 : k0_chk8 v204), ∀ a, (k0_off23 v204) a + S1x16.size a ≤ S1000x64.size a := fun v204 k0_hw8 => k0_hw8.1
theorem k0_off24_inb : ∀ (v204 : BitVec 32) (k0_hw8 : k0_chk8 v204), ∀ a, (k0_off24 v204) a + S1x16.size a ≤ S1000x64.size a := fun v204 k0_hw8 => k0_hw8.2.1
theorem k0_off25_inb : ∀ (v204 : BitVec 32) (k0_hw8 : k0_chk8 v204), ∀ a, (k0_off25 v204) a + S1x16.size a ≤ S1000x64.size a := fun v204 k0_hw8 => k0_hw8.2.2.1
theorem k0_off26_inb : ∀ (v204 : BitVec 32) (k0_hw8 : k0_chk8 v204), ∀ a, (k0_off26 v204) a + S1x16.size a ≤ S1000x64.size a := fun v204 k0_hw8 => k0_hw8.2.2.2

def k0_off27 (v222 : BitVec 32) : Fin 2 → Nat :=
  let v223 : Index := Scalar.indexCast v222
  let c0_85 : Index := 0#32
  ![v223.toNat, 0]

def k0_off28 (v222 : BitVec 32) : Fin 2 → Nat :=
  let v227 : Index := Scalar.indexCast v222
  let c16_86 : Index := 16#32
  ![v227.toNat, 16]
def k0_off29 (v222 : BitVec 32) : Fin 2 → Nat :=
  let v231 : Index := Scalar.indexCast v222
  let c32_87 : Index := 32#32
  ![v231.toNat, 32]
def k0_off30 (v222 : BitVec 32) : Fin 2 → Nat :=
  let v235 : Index := Scalar.indexCast v222
  let c48_88 : Index := 48#32
  ![v235.toNat, 48]

def k0_chk9 (v222 : BitVec 32) : Prop :=
  (∀ a, (k0_off27 v222) a + S1x16.size a ≤ S1000x64.size a) ∧
  (∀ a, (k0_off28 v222) a + S1x16.size a ≤ S1000x64.size a) ∧
  (∀ a, (k0_off29 v222) a + S1x16.size a ≤ S1000x64.size a) ∧
  (∀ a, (k0_off30 v222) a + S1x16.size a ≤ S1000x64.size a)
theorem k0_off27_inb : ∀ (v222 : BitVec 32) (k0_hw9 : k0_chk9 v222), ∀ a, (k0_off27 v222) a + S1x16.size a ≤ S1000x64.size a := fun v222 k0_hw9 => k0_hw9.1
theorem k0_off28_inb : ∀ (v222 : BitVec 32) (k0_hw9 : k0_chk9 v222), ∀ a, (k0_off28 v222) a + S1x16.size a ≤ S1000x64.size a := fun v222 k0_hw9 => k0_hw9.2.1
theorem k0_off29_inb : ∀ (v222 : BitVec 32) (k0_hw9 : k0_chk9 v222), ∀ a, (k0_off29 v222) a + S1x16.size a ≤ S1000x64.size a := fun v222 k0_hw9 => k0_hw9.2.2.1
theorem k0_off30_inb : ∀ (v222 : BitVec 32) (k0_hw9 : k0_chk9 v222), ∀ a, (k0_off30 v222) a + S1x16.size a ≤ S1000x64.size a := fun v222 k0_hw9 => k0_hw9.2.2.2

def k0_off31 (v240 : BitVec 32) : Fin 2 → Nat :=
  let v241 : Index := Scalar.indexCast v240
  let c0_89 : Index := 0#32
  ![v241.toNat, 0]

def k0_off32 (v240 : BitVec 32) : Fin 2 → Nat :=
  let v245 : Index := Scalar.indexCast v240
  let c16_90 : Index := 16#32
  ![v245.toNat, 16]
def k0_off33 (v240 : BitVec 32) : Fin 2 → Nat :=
  let v249 : Index := Scalar.indexCast v240
  let c32_91 : Index := 32#32
  ![v249.toNat, 32]
def k0_off34 (v240 : BitVec 32) : Fin 2 → Nat :=
  let v253 : Index := Scalar.indexCast v240
  let c48_92 : Index := 48#32
  ![v253.toNat, 48]

def k0_chk10 (v240 : BitVec 32) : Prop :=
  (∀ a, (k0_off31 v240) a + S1x16.size a ≤ S1000x64.size a) ∧
  (∀ a, (k0_off32 v240) a + S1x16.size a ≤ S1000x64.size a) ∧
  (∀ a, (k0_off33 v240) a + S1x16.size a ≤ S1000x64.size a) ∧
  (∀ a, (k0_off34 v240) a + S1x16.size a ≤ S1000x64.size a)
theorem k0_off31_inb : ∀ (v240 : BitVec 32) (k0_hw10 : k0_chk10 v240), ∀ a, (k0_off31 v240) a + S1x16.size a ≤ S1000x64.size a := fun v240 k0_hw10 => k0_hw10.1
theorem k0_off32_inb : ∀ (v240 : BitVec 32) (k0_hw10 : k0_chk10 v240), ∀ a, (k0_off32 v240) a + S1x16.size a ≤ S1000x64.size a := fun v240 k0_hw10 => k0_hw10.2.1
theorem k0_off33_inb : ∀ (v240 : BitVec 32) (k0_hw10 : k0_chk10 v240), ∀ a, (k0_off33 v240) a + S1x16.size a ≤ S1000x64.size a := fun v240 k0_hw10 => k0_hw10.2.2.1
theorem k0_off34_inb : ∀ (v240 : BitVec 32) (k0_hw10 : k0_chk10 v240), ∀ a, (k0_off34 v240) a + S1x16.size a ≤ S1000x64.size a := fun v240 k0_hw10 => k0_hw10.2.2.2

def k0_off35 (v258 : BitVec 32) : Fin 2 → Nat :=
  let v259 : Index := Scalar.indexCast v258
  let c0_93 : Index := 0#32
  ![v259.toNat, 0]

def k0_off36 (v258 : BitVec 32) : Fin 2 → Nat :=
  let v263 : Index := Scalar.indexCast v258
  let c16_94 : Index := 16#32
  ![v263.toNat, 16]
def k0_off37 (v258 : BitVec 32) : Fin 2 → Nat :=
  let v267 : Index := Scalar.indexCast v258
  let c32_95 : Index := 32#32
  ![v267.toNat, 32]
def k0_off38 (v258 : BitVec 32) : Fin 2 → Nat :=
  let v271 : Index := Scalar.indexCast v258
  let c48_96 : Index := 48#32
  ![v271.toNat, 48]

def k0_chk11 (v258 : BitVec 32) : Prop :=
  (∀ a, (k0_off35 v258) a + S1x16.size a ≤ S1000x64.size a) ∧
  (∀ a, (k0_off36 v258) a + S1x16.size a ≤ S1000x64.size a) ∧
  (∀ a, (k0_off37 v258) a + S1x16.size a ≤ S1000x64.size a) ∧
  (∀ a, (k0_off38 v258) a + S1x16.size a ≤ S1000x64.size a)
theorem k0_off35_inb : ∀ (v258 : BitVec 32) (k0_hw11 : k0_chk11 v258), ∀ a, (k0_off35 v258) a + S1x16.size a ≤ S1000x64.size a := fun v258 k0_hw11 => k0_hw11.1
theorem k0_off36_inb : ∀ (v258 : BitVec 32) (k0_hw11 : k0_chk11 v258), ∀ a, (k0_off36 v258) a + S1x16.size a ≤ S1000x64.size a := fun v258 k0_hw11 => k0_hw11.2.1
theorem k0_off37_inb : ∀ (v258 : BitVec 32) (k0_hw11 : k0_chk11 v258), ∀ a, (k0_off37 v258) a + S1x16.size a ≤ S1000x64.size a := fun v258 k0_hw11 => k0_hw11.2.2.1
theorem k0_off38_inb : ∀ (v258 : BitVec 32) (k0_hw11 : k0_chk11 v258), ∀ a, (k0_off38 v258) a + S1x16.size a ≤ S1000x64.size a := fun v258 k0_hw11 => k0_hw11.2.2.2

def k0_off39 (v276 : BitVec 32) : Fin 2 → Nat :=
  let v277 : Index := Scalar.indexCast v276
  let c0_97 : Index := 0#32
  ![v277.toNat, 0]

def k0_off40 (v276 : BitVec 32) : Fin 2 → Nat :=
  let v281 : Index := Scalar.indexCast v276
  let c16_98 : Index := 16#32
  ![v281.toNat, 16]
def k0_off41 (v276 : BitVec 32) : Fin 2 → Nat :=
  let v285 : Index := Scalar.indexCast v276
  let c32_99 : Index := 32#32
  ![v285.toNat, 32]
def k0_off42 (v276 : BitVec 32) : Fin 2 → Nat :=
  let v289 : Index := Scalar.indexCast v276
  let c48_100 : Index := 48#32
  ![v289.toNat, 48]

def k0_chk12 (v276 : BitVec 32) : Prop :=
  (∀ a, (k0_off39 v276) a + S1x16.size a ≤ S1000x64.size a) ∧
  (∀ a, (k0_off40 v276) a + S1x16.size a ≤ S1000x64.size a) ∧
  (∀ a, (k0_off41 v276) a + S1x16.size a ≤ S1000x64.size a) ∧
  (∀ a, (k0_off42 v276) a + S1x16.size a ≤ S1000x64.size a)
theorem k0_off39_inb : ∀ (v276 : BitVec 32) (k0_hw12 : k0_chk12 v276), ∀ a, (k0_off39 v276) a + S1x16.size a ≤ S1000x64.size a := fun v276 k0_hw12 => k0_hw12.1
theorem k0_off40_inb : ∀ (v276 : BitVec 32) (k0_hw12 : k0_chk12 v276), ∀ a, (k0_off40 v276) a + S1x16.size a ≤ S1000x64.size a := fun v276 k0_hw12 => k0_hw12.2.1
theorem k0_off41_inb : ∀ (v276 : BitVec 32) (k0_hw12 : k0_chk12 v276), ∀ a, (k0_off41 v276) a + S1x16.size a ≤ S1000x64.size a := fun v276 k0_hw12 => k0_hw12.2.2.1
theorem k0_off42_inb : ∀ (v276 : BitVec 32) (k0_hw12 : k0_chk12 v276), ∀ a, (k0_off42 v276) a + S1x16.size a ≤ S1000x64.size a := fun v276 k0_hw12 => k0_hw12.2.2.2

def k0_off43 (v294 : BitVec 32) : Fin 2 → Nat :=
  let v295 : Index := Scalar.indexCast v294
  let c0_101 : Index := 0#32
  ![v295.toNat, 0]

def k0_off44 (v294 : BitVec 32) : Fin 2 → Nat :=
  let v299 : Index := Scalar.indexCast v294
  let c16_102 : Index := 16#32
  ![v299.toNat, 16]
def k0_off45 (v294 : BitVec 32) : Fin 2 → Nat :=
  let v303 : Index := Scalar.indexCast v294
  let c32_103 : Index := 32#32
  ![v303.toNat, 32]
def k0_off46 (v294 : BitVec 32) : Fin 2 → Nat :=
  let v307 : Index := Scalar.indexCast v294
  let c48_104 : Index := 48#32
  ![v307.toNat, 48]

def k0_chk13 (v294 : BitVec 32) : Prop :=
  (∀ a, (k0_off43 v294) a + S1x16.size a ≤ S1000x64.size a) ∧
  (∀ a, (k0_off44 v294) a + S1x16.size a ≤ S1000x64.size a) ∧
  (∀ a, (k0_off45 v294) a + S1x16.size a ≤ S1000x64.size a) ∧
  (∀ a, (k0_off46 v294) a + S1x16.size a ≤ S1000x64.size a)
theorem k0_off43_inb : ∀ (v294 : BitVec 32) (k0_hw13 : k0_chk13 v294), ∀ a, (k0_off43 v294) a + S1x16.size a ≤ S1000x64.size a := fun v294 k0_hw13 => k0_hw13.1
theorem k0_off44_inb : ∀ (v294 : BitVec 32) (k0_hw13 : k0_chk13 v294), ∀ a, (k0_off44 v294) a + S1x16.size a ≤ S1000x64.size a := fun v294 k0_hw13 => k0_hw13.2.1
theorem k0_off45_inb : ∀ (v294 : BitVec 32) (k0_hw13 : k0_chk13 v294), ∀ a, (k0_off45 v294) a + S1x16.size a ≤ S1000x64.size a := fun v294 k0_hw13 => k0_hw13.2.2.1
theorem k0_off46_inb : ∀ (v294 : BitVec 32) (k0_hw13 : k0_chk13 v294), ∀ a, (k0_off46 v294) a + S1x16.size a ≤ S1000x64.size a := fun v294 k0_hw13 => k0_hw13.2.2.2

def k0_off47 (v312 : BitVec 32) : Fin 2 → Nat :=
  let v313 : Index := Scalar.indexCast v312
  let c0_105 : Index := 0#32
  ![v313.toNat, 0]

def k0_off48 (v312 : BitVec 32) : Fin 2 → Nat :=
  let v317 : Index := Scalar.indexCast v312
  let c16_106 : Index := 16#32
  ![v317.toNat, 16]
def k0_off49 (v312 : BitVec 32) : Fin 2 → Nat :=
  let v321 : Index := Scalar.indexCast v312
  let c32_107 : Index := 32#32
  ![v321.toNat, 32]
def k0_off50 (v312 : BitVec 32) : Fin 2 → Nat :=
  let v325 : Index := Scalar.indexCast v312
  let c48_108 : Index := 48#32
  ![v325.toNat, 48]

def k0_chk14 (v312 : BitVec 32) : Prop :=
  (∀ a, (k0_off47 v312) a + S1x16.size a ≤ S1000x64.size a) ∧
  (∀ a, (k0_off48 v312) a + S1x16.size a ≤ S1000x64.size a) ∧
  (∀ a, (k0_off49 v312) a + S1x16.size a ≤ S1000x64.size a) ∧
  (∀ a, (k0_off50 v312) a + S1x16.size a ≤ S1000x64.size a)
theorem k0_off47_inb : ∀ (v312 : BitVec 32) (k0_hw14 : k0_chk14 v312), ∀ a, (k0_off47 v312) a + S1x16.size a ≤ S1000x64.size a := fun v312 k0_hw14 => k0_hw14.1
theorem k0_off48_inb : ∀ (v312 : BitVec 32) (k0_hw14 : k0_chk14 v312), ∀ a, (k0_off48 v312) a + S1x16.size a ≤ S1000x64.size a := fun v312 k0_hw14 => k0_hw14.2.1
theorem k0_off49_inb : ∀ (v312 : BitVec 32) (k0_hw14 : k0_chk14 v312), ∀ a, (k0_off49 v312) a + S1x16.size a ≤ S1000x64.size a := fun v312 k0_hw14 => k0_hw14.2.2.1
theorem k0_off50_inb : ∀ (v312 : BitVec 32) (k0_hw14 : k0_chk14 v312), ∀ a, (k0_off50 v312) a + S1x16.size a ≤ S1000x64.size a := fun v312 k0_hw14 => k0_hw14.2.2.2

def k0_off51 (v330 : BitVec 32) : Fin 2 → Nat :=
  let v331 : Index := Scalar.indexCast v330
  let c0_109 : Index := 0#32
  ![v331.toNat, 0]

def k0_off52 (v330 : BitVec 32) : Fin 2 → Nat :=
  let v335 : Index := Scalar.indexCast v330
  let c16_110 : Index := 16#32
  ![v335.toNat, 16]
def k0_off53 (v330 : BitVec 32) : Fin 2 → Nat :=
  let v339 : Index := Scalar.indexCast v330
  let c32_111 : Index := 32#32
  ![v339.toNat, 32]
def k0_off54 (v330 : BitVec 32) : Fin 2 → Nat :=
  let v343 : Index := Scalar.indexCast v330
  let c48_112 : Index := 48#32
  ![v343.toNat, 48]

def k0_chk15 (v330 : BitVec 32) : Prop :=
  (∀ a, (k0_off51 v330) a + S1x16.size a ≤ S1000x64.size a) ∧
  (∀ a, (k0_off52 v330) a + S1x16.size a ≤ S1000x64.size a) ∧
  (∀ a, (k0_off53 v330) a + S1x16.size a ≤ S1000x64.size a) ∧
  (∀ a, (k0_off54 v330) a + S1x16.size a ≤ S1000x64.size a)
theorem k0_off51_inb : ∀ (v330 : BitVec 32) (k0_hw15 : k0_chk15 v330), ∀ a, (k0_off51 v330) a + S1x16.size a ≤ S1000x64.size a := fun v330 k0_hw15 => k0_hw15.1
theorem k0_off52_inb : ∀ (v330 : BitVec 32) (k0_hw15 : k0_chk15 v330), ∀ a, (k0_off52 v330) a + S1x16.size a ≤ S1000x64.size a := fun v330 k0_hw15 => k0_hw15.2.1
theorem k0_off53_inb : ∀ (v330 : BitVec 32) (k0_hw15 : k0_chk15 v330), ∀ a, (k0_off53 v330) a + S1x16.size a ≤ S1000x64.size a := fun v330 k0_hw15 => k0_hw15.2.2.1
theorem k0_off54_inb : ∀ (v330 : BitVec 32) (k0_hw15 : k0_chk15 v330), ∀ a, (k0_off54 v330) a + S1x16.size a ≤ S1000x64.size a := fun v330 k0_hw15 => k0_hw15.2.2.2

def k0_off55 (v348 : BitVec 32) : Fin 2 → Nat :=
  let v349 : Index := Scalar.indexCast v348
  let c0_113 : Index := 0#32
  ![v349.toNat, 0]

def k0_off56 (v348 : BitVec 32) : Fin 2 → Nat :=
  let v353 : Index := Scalar.indexCast v348
  let c16_114 : Index := 16#32
  ![v353.toNat, 16]
def k0_off57 (v348 : BitVec 32) : Fin 2 → Nat :=
  let v357 : Index := Scalar.indexCast v348
  let c32_115 : Index := 32#32
  ![v357.toNat, 32]
def k0_off58 (v348 : BitVec 32) : Fin 2 → Nat :=
  let v361 : Index := Scalar.indexCast v348
  let c48_116 : Index := 48#32
  ![v361.toNat, 48]

def k0_chk16 (v348 : BitVec 32) : Prop :=
  (∀ a, (k0_off55 v348) a + S1x16.size a ≤ S1000x64.size a) ∧
  (∀ a, (k0_off56 v348) a + S1x16.size a ≤ S1000x64.size a) ∧
  (∀ a, (k0_off57 v348) a + S1x16.size a ≤ S1000x64.size a) ∧
  (∀ a, (k0_off58 v348) a + S1x16.size a ≤ S1000x64.size a)
theorem k0_off55_inb : ∀ (v348 : BitVec 32) (k0_hw16 : k0_chk16 v348), ∀ a, (k0_off55 v348) a + S1x16.size a ≤ S1000x64.size a := fun v348 k0_hw16 => k0_hw16.1
theorem k0_off56_inb : ∀ (v348 : BitVec 32) (k0_hw16 : k0_chk16 v348), ∀ a, (k0_off56 v348) a + S1x16.size a ≤ S1000x64.size a := fun v348 k0_hw16 => k0_hw16.2.1
theorem k0_off57_inb : ∀ (v348 : BitVec 32) (k0_hw16 : k0_chk16 v348), ∀ a, (k0_off57 v348) a + S1x16.size a ≤ S1000x64.size a := fun v348 k0_hw16 => k0_hw16.2.2.1
theorem k0_off58_inb : ∀ (v348 : BitVec 32) (k0_hw16 : k0_chk16 v348), ∀ a, (k0_off58 v348) a + S1x16.size a ≤ S1000x64.size a := fun v348 k0_hw16 => k0_hw16.2.2.2

def k0_off59 (v366 : BitVec 32) : Fin 2 → Nat :=
  let v367 : Index := Scalar.indexCast v366
  let c0_117 : Index := 0#32
  ![v367.toNat, 0]

def k0_off60 (v366 : BitVec 32) : Fin 2 → Nat :=
  let v371 : Index := Scalar.indexCast v366
  let c16_118 : Index := 16#32
  ![v371.toNat, 16]
def k0_off61 (v366 : BitVec 32) : Fin 2 → Nat :=
  let v375 : Index := Scalar.indexCast v366
  let c32_119 : Index := 32#32
  ![v375.toNat, 32]
def k0_off62 (v366 : BitVec 32) : Fin 2 → Nat :=
  let v379 : Index := Scalar.indexCast v366
  let c48_120 : Index := 48#32
  ![v379.toNat, 48]

def k0_chk17 (v366 : BitVec 32) : Prop :=
  (∀ a, (k0_off59 v366) a + S1x16.size a ≤ S1000x64.size a) ∧
  (∀ a, (k0_off60 v366) a + S1x16.size a ≤ S1000x64.size a) ∧
  (∀ a, (k0_off61 v366) a + S1x16.size a ≤ S1000x64.size a) ∧
  (∀ a, (k0_off62 v366) a + S1x16.size a ≤ S1000x64.size a)
theorem k0_off59_inb : ∀ (v366 : BitVec 32) (k0_hw17 : k0_chk17 v366), ∀ a, (k0_off59 v366) a + S1x16.size a ≤ S1000x64.size a := fun v366 k0_hw17 => k0_hw17.1
theorem k0_off60_inb : ∀ (v366 : BitVec 32) (k0_hw17 : k0_chk17 v366), ∀ a, (k0_off60 v366) a + S1x16.size a ≤ S1000x64.size a := fun v366 k0_hw17 => k0_hw17.2.1
theorem k0_off61_inb : ∀ (v366 : BitVec 32) (k0_hw17 : k0_chk17 v366), ∀ a, (k0_off61 v366) a + S1x16.size a ≤ S1000x64.size a := fun v366 k0_hw17 => k0_hw17.2.2.1
theorem k0_off62_inb : ∀ (v366 : BitVec 32) (k0_hw17 : k0_chk17 v366), ∀ a, (k0_off62 v366) a + S1x16.size a ≤ S1000x64.size a := fun v366 k0_hw17 => k0_hw17.2.2.2

def k0_off63 (v384 : BitVec 32) : Fin 2 → Nat :=
  let v385 : Index := Scalar.indexCast v384
  let c0_121 : Index := 0#32
  ![v385.toNat, 0]

def k0_off64 (v384 : BitVec 32) : Fin 2 → Nat :=
  let v389 : Index := Scalar.indexCast v384
  let c16_122 : Index := 16#32
  ![v389.toNat, 16]
def k0_off65 (v384 : BitVec 32) : Fin 2 → Nat :=
  let v393 : Index := Scalar.indexCast v384
  let c32_123 : Index := 32#32
  ![v393.toNat, 32]
def k0_off66 (v384 : BitVec 32) : Fin 2 → Nat :=
  let v397 : Index := Scalar.indexCast v384
  let c48_124 : Index := 48#32
  ![v397.toNat, 48]

def k0_chk18 (v384 : BitVec 32) : Prop :=
  (∀ a, (k0_off63 v384) a + S1x16.size a ≤ S1000x64.size a) ∧
  (∀ a, (k0_off64 v384) a + S1x16.size a ≤ S1000x64.size a) ∧
  (∀ a, (k0_off65 v384) a + S1x16.size a ≤ S1000x64.size a) ∧
  (∀ a, (k0_off66 v384) a + S1x16.size a ≤ S1000x64.size a)
theorem k0_off63_inb : ∀ (v384 : BitVec 32) (k0_hw18 : k0_chk18 v384), ∀ a, (k0_off63 v384) a + S1x16.size a ≤ S1000x64.size a := fun v384 k0_hw18 => k0_hw18.1
theorem k0_off64_inb : ∀ (v384 : BitVec 32) (k0_hw18 : k0_chk18 v384), ∀ a, (k0_off64 v384) a + S1x16.size a ≤ S1000x64.size a := fun v384 k0_hw18 => k0_hw18.2.1
theorem k0_off65_inb : ∀ (v384 : BitVec 32) (k0_hw18 : k0_chk18 v384), ∀ a, (k0_off65 v384) a + S1x16.size a ≤ S1000x64.size a := fun v384 k0_hw18 => k0_hw18.2.2.1
theorem k0_off66_inb : ∀ (v384 : BitVec 32) (k0_hw18 : k0_chk18 v384), ∀ a, (k0_off66 v384) a + S1x16.size a ≤ S1000x64.size a := fun v384 k0_hw18 => k0_hw18.2.2.2

def k0_off67 (v402 : BitVec 32) : Fin 2 → Nat :=
  let v403 : Index := Scalar.indexCast v402
  let c0_125 : Index := 0#32
  ![v403.toNat, 0]

def k0_off68 (v402 : BitVec 32) : Fin 2 → Nat :=
  let v407 : Index := Scalar.indexCast v402
  let c16_126 : Index := 16#32
  ![v407.toNat, 16]
def k0_off69 (v402 : BitVec 32) : Fin 2 → Nat :=
  let v411 : Index := Scalar.indexCast v402
  let c32_127 : Index := 32#32
  ![v411.toNat, 32]
def k0_off70 (v402 : BitVec 32) : Fin 2 → Nat :=
  let v415 : Index := Scalar.indexCast v402
  let c48_128 : Index := 48#32
  ![v415.toNat, 48]

def k0_chk19 (v402 : BitVec 32) : Prop :=
  (∀ a, (k0_off67 v402) a + S1x16.size a ≤ S1000x64.size a) ∧
  (∀ a, (k0_off68 v402) a + S1x16.size a ≤ S1000x64.size a) ∧
  (∀ a, (k0_off69 v402) a + S1x16.size a ≤ S1000x64.size a) ∧
  (∀ a, (k0_off70 v402) a + S1x16.size a ≤ S1000x64.size a)
theorem k0_off67_inb : ∀ (v402 : BitVec 32) (k0_hw19 : k0_chk19 v402), ∀ a, (k0_off67 v402) a + S1x16.size a ≤ S1000x64.size a := fun v402 k0_hw19 => k0_hw19.1
theorem k0_off68_inb : ∀ (v402 : BitVec 32) (k0_hw19 : k0_chk19 v402), ∀ a, (k0_off68 v402) a + S1x16.size a ≤ S1000x64.size a := fun v402 k0_hw19 => k0_hw19.2.1
theorem k0_off69_inb : ∀ (v402 : BitVec 32) (k0_hw19 : k0_chk19 v402), ∀ a, (k0_off69 v402) a + S1x16.size a ≤ S1000x64.size a := fun v402 k0_hw19 => k0_hw19.2.2.1
theorem k0_off70_inb : ∀ (v402 : BitVec 32) (k0_hw19 : k0_chk19 v402), ∀ a, (k0_off70 v402) a + S1x16.size a ≤ S1000x64.size a := fun v402 k0_hw19 => k0_hw19.2.2.2

def k0_off71 (v420 : BitVec 32) : Fin 2 → Nat :=
  let v421 : Index := Scalar.indexCast v420
  let c0_129 : Index := 0#32
  ![v421.toNat, 0]

def k0_off72 (v420 : BitVec 32) : Fin 2 → Nat :=
  let v425 : Index := Scalar.indexCast v420
  let c16_130 : Index := 16#32
  ![v425.toNat, 16]
def k0_off73 (v420 : BitVec 32) : Fin 2 → Nat :=
  let v429 : Index := Scalar.indexCast v420
  let c32_131 : Index := 32#32
  ![v429.toNat, 32]
def k0_off74 (v420 : BitVec 32) : Fin 2 → Nat :=
  let v433 : Index := Scalar.indexCast v420
  let c48_132 : Index := 48#32
  ![v433.toNat, 48]

def k0_chk20 (v420 : BitVec 32) : Prop :=
  (∀ a, (k0_off71 v420) a + S1x16.size a ≤ S1000x64.size a) ∧
  (∀ a, (k0_off72 v420) a + S1x16.size a ≤ S1000x64.size a) ∧
  (∀ a, (k0_off73 v420) a + S1x16.size a ≤ S1000x64.size a) ∧
  (∀ a, (k0_off74 v420) a + S1x16.size a ≤ S1000x64.size a)
theorem k0_off71_inb : ∀ (v420 : BitVec 32) (k0_hw20 : k0_chk20 v420), ∀ a, (k0_off71 v420) a + S1x16.size a ≤ S1000x64.size a := fun v420 k0_hw20 => k0_hw20.1
theorem k0_off72_inb : ∀ (v420 : BitVec 32) (k0_hw20 : k0_chk20 v420), ∀ a, (k0_off72 v420) a + S1x16.size a ≤ S1000x64.size a := fun v420 k0_hw20 => k0_hw20.2.1
theorem k0_off73_inb : ∀ (v420 : BitVec 32) (k0_hw20 : k0_chk20 v420), ∀ a, (k0_off73 v420) a + S1x16.size a ≤ S1000x64.size a := fun v420 k0_hw20 => k0_hw20.2.2.1
theorem k0_off74_inb : ∀ (v420 : BitVec 32) (k0_hw20 : k0_chk20 v420), ∀ a, (k0_off74 v420) a + S1x16.size a ≤ S1000x64.size a := fun v420 k0_hw20 => k0_hw20.2.2.2

def k0_off75 (v438 : BitVec 32) : Fin 2 → Nat :=
  let v439 : Index := Scalar.indexCast v438
  let c0_133 : Index := 0#32
  ![v439.toNat, 0]

def k0_off76 (v438 : BitVec 32) : Fin 2 → Nat :=
  let v443 : Index := Scalar.indexCast v438
  let c16_134 : Index := 16#32
  ![v443.toNat, 16]
def k0_off77 (v438 : BitVec 32) : Fin 2 → Nat :=
  let v447 : Index := Scalar.indexCast v438
  let c32_135 : Index := 32#32
  ![v447.toNat, 32]
def k0_off78 (v438 : BitVec 32) : Fin 2 → Nat :=
  let v451 : Index := Scalar.indexCast v438
  let c48_136 : Index := 48#32
  ![v451.toNat, 48]

def k0_chk21 (v438 : BitVec 32) : Prop :=
  (∀ a, (k0_off75 v438) a + S1x16.size a ≤ S1000x64.size a) ∧
  (∀ a, (k0_off76 v438) a + S1x16.size a ≤ S1000x64.size a) ∧
  (∀ a, (k0_off77 v438) a + S1x16.size a ≤ S1000x64.size a) ∧
  (∀ a, (k0_off78 v438) a + S1x16.size a ≤ S1000x64.size a)
theorem k0_off75_inb : ∀ (v438 : BitVec 32) (k0_hw21 : k0_chk21 v438), ∀ a, (k0_off75 v438) a + S1x16.size a ≤ S1000x64.size a := fun v438 k0_hw21 => k0_hw21.1
theorem k0_off76_inb : ∀ (v438 : BitVec 32) (k0_hw21 : k0_chk21 v438), ∀ a, (k0_off76 v438) a + S1x16.size a ≤ S1000x64.size a := fun v438 k0_hw21 => k0_hw21.2.1
theorem k0_off77_inb : ∀ (v438 : BitVec 32) (k0_hw21 : k0_chk21 v438), ∀ a, (k0_off77 v438) a + S1x16.size a ≤ S1000x64.size a := fun v438 k0_hw21 => k0_hw21.2.2.1
theorem k0_off78_inb : ∀ (v438 : BitVec 32) (k0_hw21 : k0_chk21 v438), ∀ a, (k0_off78 v438) a + S1x16.size a ≤ S1000x64.size a := fun v438 k0_hw21 => k0_hw21.2.2.2

def k0_off79 (v456 : BitVec 32) : Fin 2 → Nat :=
  let v457 : Index := Scalar.indexCast v456
  let c0_137 : Index := 0#32
  ![v457.toNat, 0]

def k0_off80 (v456 : BitVec 32) : Fin 2 → Nat :=
  let v461 : Index := Scalar.indexCast v456
  let c16_138 : Index := 16#32
  ![v461.toNat, 16]
def k0_off81 (v456 : BitVec 32) : Fin 2 → Nat :=
  let v465 : Index := Scalar.indexCast v456
  let c32_139 : Index := 32#32
  ![v465.toNat, 32]
def k0_off82 (v456 : BitVec 32) : Fin 2 → Nat :=
  let v469 : Index := Scalar.indexCast v456
  let c48_140 : Index := 48#32
  ![v469.toNat, 48]

def k0_chk22 (v456 : BitVec 32) : Prop :=
  (∀ a, (k0_off79 v456) a + S1x16.size a ≤ S1000x64.size a) ∧
  (∀ a, (k0_off80 v456) a + S1x16.size a ≤ S1000x64.size a) ∧
  (∀ a, (k0_off81 v456) a + S1x16.size a ≤ S1000x64.size a) ∧
  (∀ a, (k0_off82 v456) a + S1x16.size a ≤ S1000x64.size a)
theorem k0_off79_inb : ∀ (v456 : BitVec 32) (k0_hw22 : k0_chk22 v456), ∀ a, (k0_off79 v456) a + S1x16.size a ≤ S1000x64.size a := fun v456 k0_hw22 => k0_hw22.1
theorem k0_off80_inb : ∀ (v456 : BitVec 32) (k0_hw22 : k0_chk22 v456), ∀ a, (k0_off80 v456) a + S1x16.size a ≤ S1000x64.size a := fun v456 k0_hw22 => k0_hw22.2.1
theorem k0_off81_inb : ∀ (v456 : BitVec 32) (k0_hw22 : k0_chk22 v456), ∀ a, (k0_off81 v456) a + S1x16.size a ≤ S1000x64.size a := fun v456 k0_hw22 => k0_hw22.2.2.1
theorem k0_off82_inb : ∀ (v456 : BitVec 32) (k0_hw22 : k0_chk22 v456), ∀ a, (k0_off82 v456) a + S1x16.size a ≤ S1000x64.size a := fun v456 k0_hw22 => k0_hw22.2.2.2

def k0_off83 (v474 : BitVec 32) : Fin 2 → Nat :=
  let v475 : Index := Scalar.indexCast v474
  let c0_141 : Index := 0#32
  ![v475.toNat, 0]

def k0_off84 (v474 : BitVec 32) : Fin 2 → Nat :=
  let v479 : Index := Scalar.indexCast v474
  let c16_142 : Index := 16#32
  ![v479.toNat, 16]
def k0_off85 (v474 : BitVec 32) : Fin 2 → Nat :=
  let v483 : Index := Scalar.indexCast v474
  let c32_143 : Index := 32#32
  ![v483.toNat, 32]
def k0_off86 (v474 : BitVec 32) : Fin 2 → Nat :=
  let v487 : Index := Scalar.indexCast v474
  let c48_144 : Index := 48#32
  ![v487.toNat, 48]

def k0_chk23 (v474 : BitVec 32) : Prop :=
  (∀ a, (k0_off83 v474) a + S1x16.size a ≤ S1000x64.size a) ∧
  (∀ a, (k0_off84 v474) a + S1x16.size a ≤ S1000x64.size a) ∧
  (∀ a, (k0_off85 v474) a + S1x16.size a ≤ S1000x64.size a) ∧
  (∀ a, (k0_off86 v474) a + S1x16.size a ≤ S1000x64.size a)
theorem k0_off83_inb : ∀ (v474 : BitVec 32) (k0_hw23 : k0_chk23 v474), ∀ a, (k0_off83 v474) a + S1x16.size a ≤ S1000x64.size a := fun v474 k0_hw23 => k0_hw23.1
theorem k0_off84_inb : ∀ (v474 : BitVec 32) (k0_hw23 : k0_chk23 v474), ∀ a, (k0_off84 v474) a + S1x16.size a ≤ S1000x64.size a := fun v474 k0_hw23 => k0_hw23.2.1
theorem k0_off85_inb : ∀ (v474 : BitVec 32) (k0_hw23 : k0_chk23 v474), ∀ a, (k0_off85 v474) a + S1x16.size a ≤ S1000x64.size a := fun v474 k0_hw23 => k0_hw23.2.2.1
theorem k0_off86_inb : ∀ (v474 : BitVec 32) (k0_hw23 : k0_chk23 v474), ∀ a, (k0_off86 v474) a + S1x16.size a ≤ S1000x64.size a := fun v474 k0_hw23 => k0_hw23.2.2.2

def k0_off87 (k0_t2 : Fin k0_t2_loop.trips) (c0_i32_148 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k0_t2
  let c1_i32_59 : BitVec 32 := 1#32
  let v102 : BitVec 32 := Scalar.muli arg16 c1_i32_59
  let v103 : BitVec 32 := Scalar.addi c0_i32_60 v102
  let c4_i32_145 : BitVec 32 := 4#32
  let v493 : BitVec 32 := Scalar.muli v103 c4_i32_145
  let c0_i32_146 : BitVec 32 := 0#32
  let v494 : BitVec 32 := Scalar.addi v493 c0_i32_146
  let c64_i32_147 : BitVec 32 := 64#32
  let v495 : BitVec 32 := Scalar.muli v494 c64_i32_147
  let v496 : BitVec 32 := Scalar.addi v495 c0_i32_148
  let v497 : Index := Scalar.indexCast v496
  ![v497.toNat]
def k0_off88 (v532 : BitVec 32) : Fin 2 → Nat :=
  let v533 : Index := Scalar.indexCast v532
  let c0_164 : Index := 0#32
  ![v533.toNat, 0]

def k0_chk24 (v532 : BitVec 32) : Prop :=
  (∀ a, (k0_off88 v532) a + S1x16.size a ≤ S1000x64.size a)
theorem k0_off88_inb : ∀ (v532 : BitVec 32) (k0_hw24 : k0_chk24 v532), ∀ a, (k0_off88 v532) a + S1x16.size a ≤ S1000x64.size a := fun v532 k0_hw24 => k0_hw24

def k0_off89 (v537 : BitVec 32) : Fin 2 → Nat :=
  let v538 : Index := Scalar.indexCast v537
  let c16_165 : Index := 16#32
  ![v538.toNat, 16]

def k0_chk25 (v537 : BitVec 32) : Prop :=
  (∀ a, (k0_off89 v537) a + S1x16.size a ≤ S1000x64.size a)
theorem k0_off89_inb : ∀ (v537 : BitVec 32) (k0_hw25 : k0_chk25 v537), ∀ a, (k0_off89 v537) a + S1x16.size a ≤ S1000x64.size a := fun v537 k0_hw25 => k0_hw25

def k0_off90 (v542 : BitVec 32) : Fin 2 → Nat :=
  let v543 : Index := Scalar.indexCast v542
  let c32_166 : Index := 32#32
  ![v543.toNat, 32]

def k0_chk26 (v542 : BitVec 32) : Prop :=
  (∀ a, (k0_off90 v542) a + S1x16.size a ≤ S1000x64.size a)
theorem k0_off90_inb : ∀ (v542 : BitVec 32) (k0_hw26 : k0_chk26 v542), ∀ a, (k0_off90 v542) a + S1x16.size a ≤ S1000x64.size a := fun v542 k0_hw26 => k0_hw26

def k0_off91 (v547 : BitVec 32) : Fin 2 → Nat :=
  let v548 : Index := Scalar.indexCast v547
  let c48_167 : Index := 48#32
  ![v548.toNat, 48]

def k0_chk27 (v547 : BitVec 32) : Prop :=
  (∀ a, (k0_off91 v547) a + S1x16.size a ≤ S1000x64.size a)
theorem k0_off91_inb : ∀ (v547 : BitVec 32) (k0_hw27 : k0_chk27 v547), ∀ a, (k0_off91 v547) a + S1x16.size a ≤ S1000x64.size a := fun v547 k0_hw27 => k0_hw27

def k0_off92 (v552 : BitVec 32) : Fin 2 → Nat :=
  let v553 : Index := Scalar.indexCast v552
  let c0_168 : Index := 0#32
  ![v553.toNat, 0]

def k0_off93 (v552 : BitVec 32) : Fin 2 → Nat :=
  let v557 : Index := Scalar.indexCast v552
  let c16_169 : Index := 16#32
  ![v557.toNat, 16]
def k0_off94 (v552 : BitVec 32) : Fin 2 → Nat :=
  let v561 : Index := Scalar.indexCast v552
  let c32_170 : Index := 32#32
  ![v561.toNat, 32]
def k0_off95 (v552 : BitVec 32) : Fin 2 → Nat :=
  let v565 : Index := Scalar.indexCast v552
  let c48_171 : Index := 48#32
  ![v565.toNat, 48]

def k0_chk28 (v552 : BitVec 32) : Prop :=
  (∀ a, (k0_off92 v552) a + S1x16.size a ≤ S1000x64.size a) ∧
  (∀ a, (k0_off93 v552) a + S1x16.size a ≤ S1000x64.size a) ∧
  (∀ a, (k0_off94 v552) a + S1x16.size a ≤ S1000x64.size a) ∧
  (∀ a, (k0_off95 v552) a + S1x16.size a ≤ S1000x64.size a)
theorem k0_off92_inb : ∀ (v552 : BitVec 32) (k0_hw28 : k0_chk28 v552), ∀ a, (k0_off92 v552) a + S1x16.size a ≤ S1000x64.size a := fun v552 k0_hw28 => k0_hw28.1
theorem k0_off93_inb : ∀ (v552 : BitVec 32) (k0_hw28 : k0_chk28 v552), ∀ a, (k0_off93 v552) a + S1x16.size a ≤ S1000x64.size a := fun v552 k0_hw28 => k0_hw28.2.1
theorem k0_off94_inb : ∀ (v552 : BitVec 32) (k0_hw28 : k0_chk28 v552), ∀ a, (k0_off94 v552) a + S1x16.size a ≤ S1000x64.size a := fun v552 k0_hw28 => k0_hw28.2.2.1
theorem k0_off95_inb : ∀ (v552 : BitVec 32) (k0_hw28 : k0_chk28 v552), ∀ a, (k0_off95 v552) a + S1x16.size a ≤ S1000x64.size a := fun v552 k0_hw28 => k0_hw28.2.2.2

def k0_off96 (v570 : BitVec 32) : Fin 2 → Nat :=
  let v571 : Index := Scalar.indexCast v570
  let c0_172 : Index := 0#32
  ![v571.toNat, 0]

def k0_off97 (v570 : BitVec 32) : Fin 2 → Nat :=
  let v575 : Index := Scalar.indexCast v570
  let c16_173 : Index := 16#32
  ![v575.toNat, 16]
def k0_off98 (v570 : BitVec 32) : Fin 2 → Nat :=
  let v579 : Index := Scalar.indexCast v570
  let c32_174 : Index := 32#32
  ![v579.toNat, 32]
def k0_off99 (v570 : BitVec 32) : Fin 2 → Nat :=
  let v583 : Index := Scalar.indexCast v570
  let c48_175 : Index := 48#32
  ![v583.toNat, 48]

def k0_chk29 (v570 : BitVec 32) : Prop :=
  (∀ a, (k0_off96 v570) a + S1x16.size a ≤ S1000x64.size a) ∧
  (∀ a, (k0_off97 v570) a + S1x16.size a ≤ S1000x64.size a) ∧
  (∀ a, (k0_off98 v570) a + S1x16.size a ≤ S1000x64.size a) ∧
  (∀ a, (k0_off99 v570) a + S1x16.size a ≤ S1000x64.size a)
theorem k0_off96_inb : ∀ (v570 : BitVec 32) (k0_hw29 : k0_chk29 v570), ∀ a, (k0_off96 v570) a + S1x16.size a ≤ S1000x64.size a := fun v570 k0_hw29 => k0_hw29.1
theorem k0_off97_inb : ∀ (v570 : BitVec 32) (k0_hw29 : k0_chk29 v570), ∀ a, (k0_off97 v570) a + S1x16.size a ≤ S1000x64.size a := fun v570 k0_hw29 => k0_hw29.2.1
theorem k0_off98_inb : ∀ (v570 : BitVec 32) (k0_hw29 : k0_chk29 v570), ∀ a, (k0_off98 v570) a + S1x16.size a ≤ S1000x64.size a := fun v570 k0_hw29 => k0_hw29.2.2.1
theorem k0_off99_inb : ∀ (v570 : BitVec 32) (k0_hw29 : k0_chk29 v570), ∀ a, (k0_off99 v570) a + S1x16.size a ≤ S1000x64.size a := fun v570 k0_hw29 => k0_hw29.2.2.2

def k0_off100 (v588 : BitVec 32) : Fin 2 → Nat :=
  let v589 : Index := Scalar.indexCast v588
  let c0_176 : Index := 0#32
  ![v589.toNat, 0]

def k0_off101 (v588 : BitVec 32) : Fin 2 → Nat :=
  let v593 : Index := Scalar.indexCast v588
  let c16_177 : Index := 16#32
  ![v593.toNat, 16]
def k0_off102 (v588 : BitVec 32) : Fin 2 → Nat :=
  let v597 : Index := Scalar.indexCast v588
  let c32_178 : Index := 32#32
  ![v597.toNat, 32]
def k0_off103 (v588 : BitVec 32) : Fin 2 → Nat :=
  let v601 : Index := Scalar.indexCast v588
  let c48_179 : Index := 48#32
  ![v601.toNat, 48]

def k0_chk30 (v588 : BitVec 32) : Prop :=
  (∀ a, (k0_off100 v588) a + S1x16.size a ≤ S1000x64.size a) ∧
  (∀ a, (k0_off101 v588) a + S1x16.size a ≤ S1000x64.size a) ∧
  (∀ a, (k0_off102 v588) a + S1x16.size a ≤ S1000x64.size a) ∧
  (∀ a, (k0_off103 v588) a + S1x16.size a ≤ S1000x64.size a)
theorem k0_off100_inb : ∀ (v588 : BitVec 32) (k0_hw30 : k0_chk30 v588), ∀ a, (k0_off100 v588) a + S1x16.size a ≤ S1000x64.size a := fun v588 k0_hw30 => k0_hw30.1
theorem k0_off101_inb : ∀ (v588 : BitVec 32) (k0_hw30 : k0_chk30 v588), ∀ a, (k0_off101 v588) a + S1x16.size a ≤ S1000x64.size a := fun v588 k0_hw30 => k0_hw30.2.1
theorem k0_off102_inb : ∀ (v588 : BitVec 32) (k0_hw30 : k0_chk30 v588), ∀ a, (k0_off102 v588) a + S1x16.size a ≤ S1000x64.size a := fun v588 k0_hw30 => k0_hw30.2.2.1
theorem k0_off103_inb : ∀ (v588 : BitVec 32) (k0_hw30 : k0_chk30 v588), ∀ a, (k0_off103 v588) a + S1x16.size a ≤ S1000x64.size a := fun v588 k0_hw30 => k0_hw30.2.2.2

def k0_off104 (v606 : BitVec 32) : Fin 2 → Nat :=
  let v607 : Index := Scalar.indexCast v606
  let c0_180 : Index := 0#32
  ![v607.toNat, 0]

def k0_off105 (v606 : BitVec 32) : Fin 2 → Nat :=
  let v611 : Index := Scalar.indexCast v606
  let c16_181 : Index := 16#32
  ![v611.toNat, 16]
def k0_off106 (v606 : BitVec 32) : Fin 2 → Nat :=
  let v615 : Index := Scalar.indexCast v606
  let c32_182 : Index := 32#32
  ![v615.toNat, 32]
def k0_off107 (v606 : BitVec 32) : Fin 2 → Nat :=
  let v619 : Index := Scalar.indexCast v606
  let c48_183 : Index := 48#32
  ![v619.toNat, 48]

def k0_chk31 (v606 : BitVec 32) : Prop :=
  (∀ a, (k0_off104 v606) a + S1x16.size a ≤ S1000x64.size a) ∧
  (∀ a, (k0_off105 v606) a + S1x16.size a ≤ S1000x64.size a) ∧
  (∀ a, (k0_off106 v606) a + S1x16.size a ≤ S1000x64.size a) ∧
  (∀ a, (k0_off107 v606) a + S1x16.size a ≤ S1000x64.size a)
theorem k0_off104_inb : ∀ (v606 : BitVec 32) (k0_hw31 : k0_chk31 v606), ∀ a, (k0_off104 v606) a + S1x16.size a ≤ S1000x64.size a := fun v606 k0_hw31 => k0_hw31.1
theorem k0_off105_inb : ∀ (v606 : BitVec 32) (k0_hw31 : k0_chk31 v606), ∀ a, (k0_off105 v606) a + S1x16.size a ≤ S1000x64.size a := fun v606 k0_hw31 => k0_hw31.2.1
theorem k0_off106_inb : ∀ (v606 : BitVec 32) (k0_hw31 : k0_chk31 v606), ∀ a, (k0_off106 v606) a + S1x16.size a ≤ S1000x64.size a := fun v606 k0_hw31 => k0_hw31.2.2.1
theorem k0_off107_inb : ∀ (v606 : BitVec 32) (k0_hw31 : k0_chk31 v606), ∀ a, (k0_off107 v606) a + S1x16.size a ≤ S1000x64.size a := fun v606 k0_hw31 => k0_hw31.2.2.2

def k0_off108 (v624 : BitVec 32) : Fin 2 → Nat :=
  let v625 : Index := Scalar.indexCast v624
  let c0_184 : Index := 0#32
  ![v625.toNat, 0]

def k0_off109 (v624 : BitVec 32) : Fin 2 → Nat :=
  let v629 : Index := Scalar.indexCast v624
  let c16_185 : Index := 16#32
  ![v629.toNat, 16]
def k0_off110 (v624 : BitVec 32) : Fin 2 → Nat :=
  let v633 : Index := Scalar.indexCast v624
  let c32_186 : Index := 32#32
  ![v633.toNat, 32]
def k0_off111 (v624 : BitVec 32) : Fin 2 → Nat :=
  let v637 : Index := Scalar.indexCast v624
  let c48_187 : Index := 48#32
  ![v637.toNat, 48]

def k0_chk32 (v624 : BitVec 32) : Prop :=
  (∀ a, (k0_off108 v624) a + S1x16.size a ≤ S1000x64.size a) ∧
  (∀ a, (k0_off109 v624) a + S1x16.size a ≤ S1000x64.size a) ∧
  (∀ a, (k0_off110 v624) a + S1x16.size a ≤ S1000x64.size a) ∧
  (∀ a, (k0_off111 v624) a + S1x16.size a ≤ S1000x64.size a)
theorem k0_off108_inb : ∀ (v624 : BitVec 32) (k0_hw32 : k0_chk32 v624), ∀ a, (k0_off108 v624) a + S1x16.size a ≤ S1000x64.size a := fun v624 k0_hw32 => k0_hw32.1
theorem k0_off109_inb : ∀ (v624 : BitVec 32) (k0_hw32 : k0_chk32 v624), ∀ a, (k0_off109 v624) a + S1x16.size a ≤ S1000x64.size a := fun v624 k0_hw32 => k0_hw32.2.1
theorem k0_off110_inb : ∀ (v624 : BitVec 32) (k0_hw32 : k0_chk32 v624), ∀ a, (k0_off110 v624) a + S1x16.size a ≤ S1000x64.size a := fun v624 k0_hw32 => k0_hw32.2.2.1
theorem k0_off111_inb : ∀ (v624 : BitVec 32) (k0_hw32 : k0_chk32 v624), ∀ a, (k0_off111 v624) a + S1x16.size a ≤ S1000x64.size a := fun v624 k0_hw32 => k0_hw32.2.2.2

def k0_off112 (v642 : BitVec 32) : Fin 2 → Nat :=
  let v643 : Index := Scalar.indexCast v642
  let c0_188 : Index := 0#32
  ![v643.toNat, 0]

def k0_off113 (v642 : BitVec 32) : Fin 2 → Nat :=
  let v647 : Index := Scalar.indexCast v642
  let c16_189 : Index := 16#32
  ![v647.toNat, 16]
def k0_off114 (v642 : BitVec 32) : Fin 2 → Nat :=
  let v651 : Index := Scalar.indexCast v642
  let c32_190 : Index := 32#32
  ![v651.toNat, 32]
def k0_off115 (v642 : BitVec 32) : Fin 2 → Nat :=
  let v655 : Index := Scalar.indexCast v642
  let c48_191 : Index := 48#32
  ![v655.toNat, 48]

def k0_chk33 (v642 : BitVec 32) : Prop :=
  (∀ a, (k0_off112 v642) a + S1x16.size a ≤ S1000x64.size a) ∧
  (∀ a, (k0_off113 v642) a + S1x16.size a ≤ S1000x64.size a) ∧
  (∀ a, (k0_off114 v642) a + S1x16.size a ≤ S1000x64.size a) ∧
  (∀ a, (k0_off115 v642) a + S1x16.size a ≤ S1000x64.size a)
theorem k0_off112_inb : ∀ (v642 : BitVec 32) (k0_hw33 : k0_chk33 v642), ∀ a, (k0_off112 v642) a + S1x16.size a ≤ S1000x64.size a := fun v642 k0_hw33 => k0_hw33.1
theorem k0_off113_inb : ∀ (v642 : BitVec 32) (k0_hw33 : k0_chk33 v642), ∀ a, (k0_off113 v642) a + S1x16.size a ≤ S1000x64.size a := fun v642 k0_hw33 => k0_hw33.2.1
theorem k0_off114_inb : ∀ (v642 : BitVec 32) (k0_hw33 : k0_chk33 v642), ∀ a, (k0_off114 v642) a + S1x16.size a ≤ S1000x64.size a := fun v642 k0_hw33 => k0_hw33.2.2.1
theorem k0_off115_inb : ∀ (v642 : BitVec 32) (k0_hw33 : k0_chk33 v642), ∀ a, (k0_off115 v642) a + S1x16.size a ≤ S1000x64.size a := fun v642 k0_hw33 => k0_hw33.2.2.2

def k0_off116 (v660 : BitVec 32) : Fin 2 → Nat :=
  let v661 : Index := Scalar.indexCast v660
  let c0_192 : Index := 0#32
  ![v661.toNat, 0]

def k0_off117 (v660 : BitVec 32) : Fin 2 → Nat :=
  let v665 : Index := Scalar.indexCast v660
  let c16_193 : Index := 16#32
  ![v665.toNat, 16]
def k0_off118 (v660 : BitVec 32) : Fin 2 → Nat :=
  let v669 : Index := Scalar.indexCast v660
  let c32_194 : Index := 32#32
  ![v669.toNat, 32]
def k0_off119 (v660 : BitVec 32) : Fin 2 → Nat :=
  let v673 : Index := Scalar.indexCast v660
  let c48_195 : Index := 48#32
  ![v673.toNat, 48]

def k0_chk34 (v660 : BitVec 32) : Prop :=
  (∀ a, (k0_off116 v660) a + S1x16.size a ≤ S1000x64.size a) ∧
  (∀ a, (k0_off117 v660) a + S1x16.size a ≤ S1000x64.size a) ∧
  (∀ a, (k0_off118 v660) a + S1x16.size a ≤ S1000x64.size a) ∧
  (∀ a, (k0_off119 v660) a + S1x16.size a ≤ S1000x64.size a)
theorem k0_off116_inb : ∀ (v660 : BitVec 32) (k0_hw34 : k0_chk34 v660), ∀ a, (k0_off116 v660) a + S1x16.size a ≤ S1000x64.size a := fun v660 k0_hw34 => k0_hw34.1
theorem k0_off117_inb : ∀ (v660 : BitVec 32) (k0_hw34 : k0_chk34 v660), ∀ a, (k0_off117 v660) a + S1x16.size a ≤ S1000x64.size a := fun v660 k0_hw34 => k0_hw34.2.1
theorem k0_off118_inb : ∀ (v660 : BitVec 32) (k0_hw34 : k0_chk34 v660), ∀ a, (k0_off118 v660) a + S1x16.size a ≤ S1000x64.size a := fun v660 k0_hw34 => k0_hw34.2.2.1
theorem k0_off119_inb : ∀ (v660 : BitVec 32) (k0_hw34 : k0_chk34 v660), ∀ a, (k0_off119 v660) a + S1x16.size a ≤ S1000x64.size a := fun v660 k0_hw34 => k0_hw34.2.2.2

def k0_off120 (v678 : BitVec 32) : Fin 2 → Nat :=
  let v679 : Index := Scalar.indexCast v678
  let c0_196 : Index := 0#32
  ![v679.toNat, 0]

def k0_off121 (v678 : BitVec 32) : Fin 2 → Nat :=
  let v683 : Index := Scalar.indexCast v678
  let c16_197 : Index := 16#32
  ![v683.toNat, 16]
def k0_off122 (v678 : BitVec 32) : Fin 2 → Nat :=
  let v687 : Index := Scalar.indexCast v678
  let c32_198 : Index := 32#32
  ![v687.toNat, 32]
def k0_off123 (v678 : BitVec 32) : Fin 2 → Nat :=
  let v691 : Index := Scalar.indexCast v678
  let c48_199 : Index := 48#32
  ![v691.toNat, 48]

def k0_chk35 (v678 : BitVec 32) : Prop :=
  (∀ a, (k0_off120 v678) a + S1x16.size a ≤ S1000x64.size a) ∧
  (∀ a, (k0_off121 v678) a + S1x16.size a ≤ S1000x64.size a) ∧
  (∀ a, (k0_off122 v678) a + S1x16.size a ≤ S1000x64.size a) ∧
  (∀ a, (k0_off123 v678) a + S1x16.size a ≤ S1000x64.size a)
theorem k0_off120_inb : ∀ (v678 : BitVec 32) (k0_hw35 : k0_chk35 v678), ∀ a, (k0_off120 v678) a + S1x16.size a ≤ S1000x64.size a := fun v678 k0_hw35 => k0_hw35.1
theorem k0_off121_inb : ∀ (v678 : BitVec 32) (k0_hw35 : k0_chk35 v678), ∀ a, (k0_off121 v678) a + S1x16.size a ≤ S1000x64.size a := fun v678 k0_hw35 => k0_hw35.2.1
theorem k0_off122_inb : ∀ (v678 : BitVec 32) (k0_hw35 : k0_chk35 v678), ∀ a, (k0_off122 v678) a + S1x16.size a ≤ S1000x64.size a := fun v678 k0_hw35 => k0_hw35.2.2.1
theorem k0_off123_inb : ∀ (v678 : BitVec 32) (k0_hw35 : k0_chk35 v678), ∀ a, (k0_off123 v678) a + S1x16.size a ≤ S1000x64.size a := fun v678 k0_hw35 => k0_hw35.2.2.2

def k0_off124 (v696 : BitVec 32) : Fin 2 → Nat :=
  let v697 : Index := Scalar.indexCast v696
  let c0_200 : Index := 0#32
  ![v697.toNat, 0]

def k0_off125 (v696 : BitVec 32) : Fin 2 → Nat :=
  let v701 : Index := Scalar.indexCast v696
  let c16_201 : Index := 16#32
  ![v701.toNat, 16]
def k0_off126 (v696 : BitVec 32) : Fin 2 → Nat :=
  let v705 : Index := Scalar.indexCast v696
  let c32_202 : Index := 32#32
  ![v705.toNat, 32]
def k0_off127 (v696 : BitVec 32) : Fin 2 → Nat :=
  let v709 : Index := Scalar.indexCast v696
  let c48_203 : Index := 48#32
  ![v709.toNat, 48]

def k0_chk36 (v696 : BitVec 32) : Prop :=
  (∀ a, (k0_off124 v696) a + S1x16.size a ≤ S1000x64.size a) ∧
  (∀ a, (k0_off125 v696) a + S1x16.size a ≤ S1000x64.size a) ∧
  (∀ a, (k0_off126 v696) a + S1x16.size a ≤ S1000x64.size a) ∧
  (∀ a, (k0_off127 v696) a + S1x16.size a ≤ S1000x64.size a)
theorem k0_off124_inb : ∀ (v696 : BitVec 32) (k0_hw36 : k0_chk36 v696), ∀ a, (k0_off124 v696) a + S1x16.size a ≤ S1000x64.size a := fun v696 k0_hw36 => k0_hw36.1
theorem k0_off125_inb : ∀ (v696 : BitVec 32) (k0_hw36 : k0_chk36 v696), ∀ a, (k0_off125 v696) a + S1x16.size a ≤ S1000x64.size a := fun v696 k0_hw36 => k0_hw36.2.1
theorem k0_off126_inb : ∀ (v696 : BitVec 32) (k0_hw36 : k0_chk36 v696), ∀ a, (k0_off126 v696) a + S1x16.size a ≤ S1000x64.size a := fun v696 k0_hw36 => k0_hw36.2.2.1
theorem k0_off127_inb : ∀ (v696 : BitVec 32) (k0_hw36 : k0_chk36 v696), ∀ a, (k0_off127 v696) a + S1x16.size a ≤ S1000x64.size a := fun v696 k0_hw36 => k0_hw36.2.2.2

def k0_off128 (v714 : BitVec 32) : Fin 2 → Nat :=
  let v715 : Index := Scalar.indexCast v714
  let c0_204 : Index := 0#32
  ![v715.toNat, 0]

def k0_off129 (v714 : BitVec 32) : Fin 2 → Nat :=
  let v719 : Index := Scalar.indexCast v714
  let c16_205 : Index := 16#32
  ![v719.toNat, 16]
def k0_off130 (v714 : BitVec 32) : Fin 2 → Nat :=
  let v723 : Index := Scalar.indexCast v714
  let c32_206 : Index := 32#32
  ![v723.toNat, 32]
def k0_off131 (v714 : BitVec 32) : Fin 2 → Nat :=
  let v727 : Index := Scalar.indexCast v714
  let c48_207 : Index := 48#32
  ![v727.toNat, 48]

def k0_chk37 (v714 : BitVec 32) : Prop :=
  (∀ a, (k0_off128 v714) a + S1x16.size a ≤ S1000x64.size a) ∧
  (∀ a, (k0_off129 v714) a + S1x16.size a ≤ S1000x64.size a) ∧
  (∀ a, (k0_off130 v714) a + S1x16.size a ≤ S1000x64.size a) ∧
  (∀ a, (k0_off131 v714) a + S1x16.size a ≤ S1000x64.size a)
theorem k0_off128_inb : ∀ (v714 : BitVec 32) (k0_hw37 : k0_chk37 v714), ∀ a, (k0_off128 v714) a + S1x16.size a ≤ S1000x64.size a := fun v714 k0_hw37 => k0_hw37.1
theorem k0_off129_inb : ∀ (v714 : BitVec 32) (k0_hw37 : k0_chk37 v714), ∀ a, (k0_off129 v714) a + S1x16.size a ≤ S1000x64.size a := fun v714 k0_hw37 => k0_hw37.2.1
theorem k0_off130_inb : ∀ (v714 : BitVec 32) (k0_hw37 : k0_chk37 v714), ∀ a, (k0_off130 v714) a + S1x16.size a ≤ S1000x64.size a := fun v714 k0_hw37 => k0_hw37.2.2.1
theorem k0_off131_inb : ∀ (v714 : BitVec 32) (k0_hw37 : k0_chk37 v714), ∀ a, (k0_off131 v714) a + S1x16.size a ≤ S1000x64.size a := fun v714 k0_hw37 => k0_hw37.2.2.2

def k0_off132 (v732 : BitVec 32) : Fin 2 → Nat :=
  let v733 : Index := Scalar.indexCast v732
  let c0_208 : Index := 0#32
  ![v733.toNat, 0]

def k0_off133 (v732 : BitVec 32) : Fin 2 → Nat :=
  let v737 : Index := Scalar.indexCast v732
  let c16_209 : Index := 16#32
  ![v737.toNat, 16]
def k0_off134 (v732 : BitVec 32) : Fin 2 → Nat :=
  let v741 : Index := Scalar.indexCast v732
  let c32_210 : Index := 32#32
  ![v741.toNat, 32]
def k0_off135 (v732 : BitVec 32) : Fin 2 → Nat :=
  let v745 : Index := Scalar.indexCast v732
  let c48_211 : Index := 48#32
  ![v745.toNat, 48]

def k0_chk38 (v732 : BitVec 32) : Prop :=
  (∀ a, (k0_off132 v732) a + S1x16.size a ≤ S1000x64.size a) ∧
  (∀ a, (k0_off133 v732) a + S1x16.size a ≤ S1000x64.size a) ∧
  (∀ a, (k0_off134 v732) a + S1x16.size a ≤ S1000x64.size a) ∧
  (∀ a, (k0_off135 v732) a + S1x16.size a ≤ S1000x64.size a)
theorem k0_off132_inb : ∀ (v732 : BitVec 32) (k0_hw38 : k0_chk38 v732), ∀ a, (k0_off132 v732) a + S1x16.size a ≤ S1000x64.size a := fun v732 k0_hw38 => k0_hw38.1
theorem k0_off133_inb : ∀ (v732 : BitVec 32) (k0_hw38 : k0_chk38 v732), ∀ a, (k0_off133 v732) a + S1x16.size a ≤ S1000x64.size a := fun v732 k0_hw38 => k0_hw38.2.1
theorem k0_off134_inb : ∀ (v732 : BitVec 32) (k0_hw38 : k0_chk38 v732), ∀ a, (k0_off134 v732) a + S1x16.size a ≤ S1000x64.size a := fun v732 k0_hw38 => k0_hw38.2.2.1
theorem k0_off135_inb : ∀ (v732 : BitVec 32) (k0_hw38 : k0_chk38 v732), ∀ a, (k0_off135 v732) a + S1x16.size a ≤ S1000x64.size a := fun v732 k0_hw38 => k0_hw38.2.2.2

def k0_off136 (v750 : BitVec 32) : Fin 2 → Nat :=
  let v751 : Index := Scalar.indexCast v750
  let c0_212 : Index := 0#32
  ![v751.toNat, 0]

def k0_off137 (v750 : BitVec 32) : Fin 2 → Nat :=
  let v755 : Index := Scalar.indexCast v750
  let c16_213 : Index := 16#32
  ![v755.toNat, 16]
def k0_off138 (v750 : BitVec 32) : Fin 2 → Nat :=
  let v759 : Index := Scalar.indexCast v750
  let c32_214 : Index := 32#32
  ![v759.toNat, 32]
def k0_off139 (v750 : BitVec 32) : Fin 2 → Nat :=
  let v763 : Index := Scalar.indexCast v750
  let c48_215 : Index := 48#32
  ![v763.toNat, 48]

def k0_chk39 (v750 : BitVec 32) : Prop :=
  (∀ a, (k0_off136 v750) a + S1x16.size a ≤ S1000x64.size a) ∧
  (∀ a, (k0_off137 v750) a + S1x16.size a ≤ S1000x64.size a) ∧
  (∀ a, (k0_off138 v750) a + S1x16.size a ≤ S1000x64.size a) ∧
  (∀ a, (k0_off139 v750) a + S1x16.size a ≤ S1000x64.size a)
theorem k0_off136_inb : ∀ (v750 : BitVec 32) (k0_hw39 : k0_chk39 v750), ∀ a, (k0_off136 v750) a + S1x16.size a ≤ S1000x64.size a := fun v750 k0_hw39 => k0_hw39.1
theorem k0_off137_inb : ∀ (v750 : BitVec 32) (k0_hw39 : k0_chk39 v750), ∀ a, (k0_off137 v750) a + S1x16.size a ≤ S1000x64.size a := fun v750 k0_hw39 => k0_hw39.2.1
theorem k0_off138_inb : ∀ (v750 : BitVec 32) (k0_hw39 : k0_chk39 v750), ∀ a, (k0_off138 v750) a + S1x16.size a ≤ S1000x64.size a := fun v750 k0_hw39 => k0_hw39.2.2.1
theorem k0_off139_inb : ∀ (v750 : BitVec 32) (k0_hw39 : k0_chk39 v750), ∀ a, (k0_off139 v750) a + S1x16.size a ≤ S1000x64.size a := fun v750 k0_hw39 => k0_hw39.2.2.2

def k0_off140 (v768 : BitVec 32) : Fin 2 → Nat :=
  let v769 : Index := Scalar.indexCast v768
  let c0_216 : Index := 0#32
  ![v769.toNat, 0]

def k0_off141 (v768 : BitVec 32) : Fin 2 → Nat :=
  let v773 : Index := Scalar.indexCast v768
  let c16_217 : Index := 16#32
  ![v773.toNat, 16]
def k0_off142 (v768 : BitVec 32) : Fin 2 → Nat :=
  let v777 : Index := Scalar.indexCast v768
  let c32_218 : Index := 32#32
  ![v777.toNat, 32]
def k0_off143 (v768 : BitVec 32) : Fin 2 → Nat :=
  let v781 : Index := Scalar.indexCast v768
  let c48_219 : Index := 48#32
  ![v781.toNat, 48]

def k0_chk40 (v768 : BitVec 32) : Prop :=
  (∀ a, (k0_off140 v768) a + S1x16.size a ≤ S1000x64.size a) ∧
  (∀ a, (k0_off141 v768) a + S1x16.size a ≤ S1000x64.size a) ∧
  (∀ a, (k0_off142 v768) a + S1x16.size a ≤ S1000x64.size a) ∧
  (∀ a, (k0_off143 v768) a + S1x16.size a ≤ S1000x64.size a)
theorem k0_off140_inb : ∀ (v768 : BitVec 32) (k0_hw40 : k0_chk40 v768), ∀ a, (k0_off140 v768) a + S1x16.size a ≤ S1000x64.size a := fun v768 k0_hw40 => k0_hw40.1
theorem k0_off141_inb : ∀ (v768 : BitVec 32) (k0_hw40 : k0_chk40 v768), ∀ a, (k0_off141 v768) a + S1x16.size a ≤ S1000x64.size a := fun v768 k0_hw40 => k0_hw40.2.1
theorem k0_off142_inb : ∀ (v768 : BitVec 32) (k0_hw40 : k0_chk40 v768), ∀ a, (k0_off142 v768) a + S1x16.size a ≤ S1000x64.size a := fun v768 k0_hw40 => k0_hw40.2.2.1
theorem k0_off143_inb : ∀ (v768 : BitVec 32) (k0_hw40 : k0_chk40 v768), ∀ a, (k0_off143 v768) a + S1x16.size a ≤ S1000x64.size a := fun v768 k0_hw40 => k0_hw40.2.2.2

def k0_off144 (v786 : BitVec 32) : Fin 2 → Nat :=
  let v787 : Index := Scalar.indexCast v786
  let c0_220 : Index := 0#32
  ![v787.toNat, 0]

def k0_off145 (v786 : BitVec 32) : Fin 2 → Nat :=
  let v791 : Index := Scalar.indexCast v786
  let c16_221 : Index := 16#32
  ![v791.toNat, 16]
def k0_off146 (v786 : BitVec 32) : Fin 2 → Nat :=
  let v795 : Index := Scalar.indexCast v786
  let c32_222 : Index := 32#32
  ![v795.toNat, 32]
def k0_off147 (v786 : BitVec 32) : Fin 2 → Nat :=
  let v799 : Index := Scalar.indexCast v786
  let c48_223 : Index := 48#32
  ![v799.toNat, 48]

def k0_chk41 (v786 : BitVec 32) : Prop :=
  (∀ a, (k0_off144 v786) a + S1x16.size a ≤ S1000x64.size a) ∧
  (∀ a, (k0_off145 v786) a + S1x16.size a ≤ S1000x64.size a) ∧
  (∀ a, (k0_off146 v786) a + S1x16.size a ≤ S1000x64.size a) ∧
  (∀ a, (k0_off147 v786) a + S1x16.size a ≤ S1000x64.size a)
theorem k0_off144_inb : ∀ (v786 : BitVec 32) (k0_hw41 : k0_chk41 v786), ∀ a, (k0_off144 v786) a + S1x16.size a ≤ S1000x64.size a := fun v786 k0_hw41 => k0_hw41.1
theorem k0_off145_inb : ∀ (v786 : BitVec 32) (k0_hw41 : k0_chk41 v786), ∀ a, (k0_off145 v786) a + S1x16.size a ≤ S1000x64.size a := fun v786 k0_hw41 => k0_hw41.2.1
theorem k0_off146_inb : ∀ (v786 : BitVec 32) (k0_hw41 : k0_chk41 v786), ∀ a, (k0_off146 v786) a + S1x16.size a ≤ S1000x64.size a := fun v786 k0_hw41 => k0_hw41.2.2.1
theorem k0_off147_inb : ∀ (v786 : BitVec 32) (k0_hw41 : k0_chk41 v786), ∀ a, (k0_off147 v786) a + S1x16.size a ≤ S1000x64.size a := fun v786 k0_hw41 => k0_hw41.2.2.2

def k0_off148 (v804 : BitVec 32) : Fin 2 → Nat :=
  let v805 : Index := Scalar.indexCast v804
  let c0_224 : Index := 0#32
  ![v805.toNat, 0]

def k0_off149 (v804 : BitVec 32) : Fin 2 → Nat :=
  let v809 : Index := Scalar.indexCast v804
  let c16_225 : Index := 16#32
  ![v809.toNat, 16]
def k0_off150 (v804 : BitVec 32) : Fin 2 → Nat :=
  let v813 : Index := Scalar.indexCast v804
  let c32_226 : Index := 32#32
  ![v813.toNat, 32]
def k0_off151 (v804 : BitVec 32) : Fin 2 → Nat :=
  let v817 : Index := Scalar.indexCast v804
  let c48_227 : Index := 48#32
  ![v817.toNat, 48]

def k0_chk42 (v804 : BitVec 32) : Prop :=
  (∀ a, (k0_off148 v804) a + S1x16.size a ≤ S1000x64.size a) ∧
  (∀ a, (k0_off149 v804) a + S1x16.size a ≤ S1000x64.size a) ∧
  (∀ a, (k0_off150 v804) a + S1x16.size a ≤ S1000x64.size a) ∧
  (∀ a, (k0_off151 v804) a + S1x16.size a ≤ S1000x64.size a)
theorem k0_off148_inb : ∀ (v804 : BitVec 32) (k0_hw42 : k0_chk42 v804), ∀ a, (k0_off148 v804) a + S1x16.size a ≤ S1000x64.size a := fun v804 k0_hw42 => k0_hw42.1
theorem k0_off149_inb : ∀ (v804 : BitVec 32) (k0_hw42 : k0_chk42 v804), ∀ a, (k0_off149 v804) a + S1x16.size a ≤ S1000x64.size a := fun v804 k0_hw42 => k0_hw42.2.1
theorem k0_off150_inb : ∀ (v804 : BitVec 32) (k0_hw42 : k0_chk42 v804), ∀ a, (k0_off150 v804) a + S1x16.size a ≤ S1000x64.size a := fun v804 k0_hw42 => k0_hw42.2.2.1
theorem k0_off151_inb : ∀ (v804 : BitVec 32) (k0_hw42 : k0_chk42 v804), ∀ a, (k0_off151 v804) a + S1x16.size a ≤ S1000x64.size a := fun v804 k0_hw42 => k0_hw42.2.2.2

def k0_off152 (v822 : BitVec 32) : Fin 2 → Nat :=
  let v823 : Index := Scalar.indexCast v822
  let c0_228 : Index := 0#32
  ![v823.toNat, 0]

def k0_off153 (v822 : BitVec 32) : Fin 2 → Nat :=
  let v827 : Index := Scalar.indexCast v822
  let c16_229 : Index := 16#32
  ![v827.toNat, 16]
def k0_off154 (v822 : BitVec 32) : Fin 2 → Nat :=
  let v831 : Index := Scalar.indexCast v822
  let c32_230 : Index := 32#32
  ![v831.toNat, 32]
def k0_off155 (v822 : BitVec 32) : Fin 2 → Nat :=
  let v835 : Index := Scalar.indexCast v822
  let c48_231 : Index := 48#32
  ![v835.toNat, 48]

def k0_chk43 (v822 : BitVec 32) : Prop :=
  (∀ a, (k0_off152 v822) a + S1x16.size a ≤ S1000x64.size a) ∧
  (∀ a, (k0_off153 v822) a + S1x16.size a ≤ S1000x64.size a) ∧
  (∀ a, (k0_off154 v822) a + S1x16.size a ≤ S1000x64.size a) ∧
  (∀ a, (k0_off155 v822) a + S1x16.size a ≤ S1000x64.size a)
theorem k0_off152_inb : ∀ (v822 : BitVec 32) (k0_hw43 : k0_chk43 v822), ∀ a, (k0_off152 v822) a + S1x16.size a ≤ S1000x64.size a := fun v822 k0_hw43 => k0_hw43.1
theorem k0_off153_inb : ∀ (v822 : BitVec 32) (k0_hw43 : k0_chk43 v822), ∀ a, (k0_off153 v822) a + S1x16.size a ≤ S1000x64.size a := fun v822 k0_hw43 => k0_hw43.2.1
theorem k0_off154_inb : ∀ (v822 : BitVec 32) (k0_hw43 : k0_chk43 v822), ∀ a, (k0_off154 v822) a + S1x16.size a ≤ S1000x64.size a := fun v822 k0_hw43 => k0_hw43.2.2.1
theorem k0_off155_inb : ∀ (v822 : BitVec 32) (k0_hw43 : k0_chk43 v822), ∀ a, (k0_off155 v822) a + S1x16.size a ≤ S1000x64.size a := fun v822 k0_hw43 => k0_hw43.2.2.2

def k0_off156 (v840 : BitVec 32) : Fin 2 → Nat :=
  let v841 : Index := Scalar.indexCast v840
  let c0_232 : Index := 0#32
  ![v841.toNat, 0]

def k0_off157 (v840 : BitVec 32) : Fin 2 → Nat :=
  let v845 : Index := Scalar.indexCast v840
  let c16_233 : Index := 16#32
  ![v845.toNat, 16]
def k0_off158 (v840 : BitVec 32) : Fin 2 → Nat :=
  let v849 : Index := Scalar.indexCast v840
  let c32_234 : Index := 32#32
  ![v849.toNat, 32]
def k0_off159 (v840 : BitVec 32) : Fin 2 → Nat :=
  let v853 : Index := Scalar.indexCast v840
  let c48_235 : Index := 48#32
  ![v853.toNat, 48]

def k0_chk44 (v840 : BitVec 32) : Prop :=
  (∀ a, (k0_off156 v840) a + S1x16.size a ≤ S1000x64.size a) ∧
  (∀ a, (k0_off157 v840) a + S1x16.size a ≤ S1000x64.size a) ∧
  (∀ a, (k0_off158 v840) a + S1x16.size a ≤ S1000x64.size a) ∧
  (∀ a, (k0_off159 v840) a + S1x16.size a ≤ S1000x64.size a)
theorem k0_off156_inb : ∀ (v840 : BitVec 32) (k0_hw44 : k0_chk44 v840), ∀ a, (k0_off156 v840) a + S1x16.size a ≤ S1000x64.size a := fun v840 k0_hw44 => k0_hw44.1
theorem k0_off157_inb : ∀ (v840 : BitVec 32) (k0_hw44 : k0_chk44 v840), ∀ a, (k0_off157 v840) a + S1x16.size a ≤ S1000x64.size a := fun v840 k0_hw44 => k0_hw44.2.1
theorem k0_off158_inb : ∀ (v840 : BitVec 32) (k0_hw44 : k0_chk44 v840), ∀ a, (k0_off158 v840) a + S1x16.size a ≤ S1000x64.size a := fun v840 k0_hw44 => k0_hw44.2.2.1
theorem k0_off159_inb : ∀ (v840 : BitVec 32) (k0_hw44 : k0_chk44 v840), ∀ a, (k0_off159 v840) a + S1x16.size a ≤ S1000x64.size a := fun v840 k0_hw44 => k0_hw44.2.2.2

def k0_off160 (v858 : BitVec 32) : Fin 2 → Nat :=
  let v859 : Index := Scalar.indexCast v858
  let c0_236 : Index := 0#32
  ![v859.toNat, 0]

def k0_off161 (v858 : BitVec 32) : Fin 2 → Nat :=
  let v863 : Index := Scalar.indexCast v858
  let c16_237 : Index := 16#32
  ![v863.toNat, 16]
def k0_off162 (v858 : BitVec 32) : Fin 2 → Nat :=
  let v867 : Index := Scalar.indexCast v858
  let c32_238 : Index := 32#32
  ![v867.toNat, 32]
def k0_off163 (v858 : BitVec 32) : Fin 2 → Nat :=
  let v871 : Index := Scalar.indexCast v858
  let c48_239 : Index := 48#32
  ![v871.toNat, 48]

def k0_chk45 (v858 : BitVec 32) : Prop :=
  (∀ a, (k0_off160 v858) a + S1x16.size a ≤ S1000x64.size a) ∧
  (∀ a, (k0_off161 v858) a + S1x16.size a ≤ S1000x64.size a) ∧
  (∀ a, (k0_off162 v858) a + S1x16.size a ≤ S1000x64.size a) ∧
  (∀ a, (k0_off163 v858) a + S1x16.size a ≤ S1000x64.size a)
theorem k0_off160_inb : ∀ (v858 : BitVec 32) (k0_hw45 : k0_chk45 v858), ∀ a, (k0_off160 v858) a + S1x16.size a ≤ S1000x64.size a := fun v858 k0_hw45 => k0_hw45.1
theorem k0_off161_inb : ∀ (v858 : BitVec 32) (k0_hw45 : k0_chk45 v858), ∀ a, (k0_off161 v858) a + S1x16.size a ≤ S1000x64.size a := fun v858 k0_hw45 => k0_hw45.2.1
theorem k0_off162_inb : ∀ (v858 : BitVec 32) (k0_hw45 : k0_chk45 v858), ∀ a, (k0_off162 v858) a + S1x16.size a ≤ S1000x64.size a := fun v858 k0_hw45 => k0_hw45.2.2.1
theorem k0_off163_inb : ∀ (v858 : BitVec 32) (k0_hw45 : k0_chk45 v858), ∀ a, (k0_off163 v858) a + S1x16.size a ≤ S1000x64.size a := fun v858 k0_hw45 => k0_hw45.2.2.2

def k0_off164 (v876 : BitVec 32) : Fin 2 → Nat :=
  let v877 : Index := Scalar.indexCast v876
  let c0_240 : Index := 0#32
  ![v877.toNat, 0]

def k0_off165 (v876 : BitVec 32) : Fin 2 → Nat :=
  let v881 : Index := Scalar.indexCast v876
  let c16_241 : Index := 16#32
  ![v881.toNat, 16]
def k0_off166 (v876 : BitVec 32) : Fin 2 → Nat :=
  let v885 : Index := Scalar.indexCast v876
  let c32_242 : Index := 32#32
  ![v885.toNat, 32]
def k0_off167 (v876 : BitVec 32) : Fin 2 → Nat :=
  let v889 : Index := Scalar.indexCast v876
  let c48_243 : Index := 48#32
  ![v889.toNat, 48]

def k0_chk46 (v876 : BitVec 32) : Prop :=
  (∀ a, (k0_off164 v876) a + S1x16.size a ≤ S1000x64.size a) ∧
  (∀ a, (k0_off165 v876) a + S1x16.size a ≤ S1000x64.size a) ∧
  (∀ a, (k0_off166 v876) a + S1x16.size a ≤ S1000x64.size a) ∧
  (∀ a, (k0_off167 v876) a + S1x16.size a ≤ S1000x64.size a)
theorem k0_off164_inb : ∀ (v876 : BitVec 32) (k0_hw46 : k0_chk46 v876), ∀ a, (k0_off164 v876) a + S1x16.size a ≤ S1000x64.size a := fun v876 k0_hw46 => k0_hw46.1
theorem k0_off165_inb : ∀ (v876 : BitVec 32) (k0_hw46 : k0_chk46 v876), ∀ a, (k0_off165 v876) a + S1x16.size a ≤ S1000x64.size a := fun v876 k0_hw46 => k0_hw46.2.1
theorem k0_off166_inb : ∀ (v876 : BitVec 32) (k0_hw46 : k0_chk46 v876), ∀ a, (k0_off166 v876) a + S1x16.size a ≤ S1000x64.size a := fun v876 k0_hw46 => k0_hw46.2.2.1
theorem k0_off167_inb : ∀ (v876 : BitVec 32) (k0_hw46 : k0_chk46 v876), ∀ a, (k0_off167 v876) a + S1x16.size a ≤ S1000x64.size a := fun v876 k0_hw46 => k0_hw46.2.2.2

def k0_off168 (k0_t2 : Fin k0_t2_loop.trips) (c0_i32_248 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k0_t2
  let c1_i32_59 : BitVec 32 := 1#32
  let v102 : BitVec 32 := Scalar.muli arg16 c1_i32_59
  let v103 : BitVec 32 := Scalar.addi c0_i32_60 v102
  let c4_i32_245 : BitVec 32 := 4#32
  let v895 : BitVec 32 := Scalar.muli v103 c4_i32_245
  let c1_i32_246 : BitVec 32 := 1#32
  let v896 : BitVec 32 := Scalar.addi v895 c1_i32_246
  let c64_i32_247 : BitVec 32 := 64#32
  let v897 : BitVec 32 := Scalar.muli v896 c64_i32_247
  let v898 : BitVec 32 := Scalar.addi v897 c0_i32_248
  let v899 : Index := Scalar.indexCast v898
  ![v899.toNat]
def k0_off169 (v934 : BitVec 32) : Fin 2 → Nat :=
  let v935 : Index := Scalar.indexCast v934
  let c0_264 : Index := 0#32
  ![v935.toNat, 0]

def k0_chk47 (v934 : BitVec 32) : Prop :=
  (∀ a, (k0_off169 v934) a + S1x16.size a ≤ S1000x64.size a)
theorem k0_off169_inb : ∀ (v934 : BitVec 32) (k0_hw47 : k0_chk47 v934), ∀ a, (k0_off169 v934) a + S1x16.size a ≤ S1000x64.size a := fun v934 k0_hw47 => k0_hw47

def k0_off170 (v939 : BitVec 32) : Fin 2 → Nat :=
  let v940 : Index := Scalar.indexCast v939
  let c16_265 : Index := 16#32
  ![v940.toNat, 16]

def k0_chk48 (v939 : BitVec 32) : Prop :=
  (∀ a, (k0_off170 v939) a + S1x16.size a ≤ S1000x64.size a)
theorem k0_off170_inb : ∀ (v939 : BitVec 32) (k0_hw48 : k0_chk48 v939), ∀ a, (k0_off170 v939) a + S1x16.size a ≤ S1000x64.size a := fun v939 k0_hw48 => k0_hw48

def k0_off171 (v944 : BitVec 32) : Fin 2 → Nat :=
  let v945 : Index := Scalar.indexCast v944
  let c32_266 : Index := 32#32
  ![v945.toNat, 32]

def k0_chk49 (v944 : BitVec 32) : Prop :=
  (∀ a, (k0_off171 v944) a + S1x16.size a ≤ S1000x64.size a)
theorem k0_off171_inb : ∀ (v944 : BitVec 32) (k0_hw49 : k0_chk49 v944), ∀ a, (k0_off171 v944) a + S1x16.size a ≤ S1000x64.size a := fun v944 k0_hw49 => k0_hw49

def k0_off172 (v949 : BitVec 32) : Fin 2 → Nat :=
  let v950 : Index := Scalar.indexCast v949
  let c48_267 : Index := 48#32
  ![v950.toNat, 48]

def k0_chk50 (v949 : BitVec 32) : Prop :=
  (∀ a, (k0_off172 v949) a + S1x16.size a ≤ S1000x64.size a)
theorem k0_off172_inb : ∀ (v949 : BitVec 32) (k0_hw50 : k0_chk50 v949), ∀ a, (k0_off172 v949) a + S1x16.size a ≤ S1000x64.size a := fun v949 k0_hw50 => k0_hw50

def k0_off173 (v954 : BitVec 32) : Fin 2 → Nat :=
  let v955 : Index := Scalar.indexCast v954
  let c0_268 : Index := 0#32
  ![v955.toNat, 0]

def k0_off174 (v954 : BitVec 32) : Fin 2 → Nat :=
  let v959 : Index := Scalar.indexCast v954
  let c16_269 : Index := 16#32
  ![v959.toNat, 16]
def k0_off175 (v954 : BitVec 32) : Fin 2 → Nat :=
  let v963 : Index := Scalar.indexCast v954
  let c32_270 : Index := 32#32
  ![v963.toNat, 32]
def k0_off176 (v954 : BitVec 32) : Fin 2 → Nat :=
  let v967 : Index := Scalar.indexCast v954
  let c48_271 : Index := 48#32
  ![v967.toNat, 48]

def k0_chk51 (v954 : BitVec 32) : Prop :=
  (∀ a, (k0_off173 v954) a + S1x16.size a ≤ S1000x64.size a) ∧
  (∀ a, (k0_off174 v954) a + S1x16.size a ≤ S1000x64.size a) ∧
  (∀ a, (k0_off175 v954) a + S1x16.size a ≤ S1000x64.size a) ∧
  (∀ a, (k0_off176 v954) a + S1x16.size a ≤ S1000x64.size a)
theorem k0_off173_inb : ∀ (v954 : BitVec 32) (k0_hw51 : k0_chk51 v954), ∀ a, (k0_off173 v954) a + S1x16.size a ≤ S1000x64.size a := fun v954 k0_hw51 => k0_hw51.1
theorem k0_off174_inb : ∀ (v954 : BitVec 32) (k0_hw51 : k0_chk51 v954), ∀ a, (k0_off174 v954) a + S1x16.size a ≤ S1000x64.size a := fun v954 k0_hw51 => k0_hw51.2.1
theorem k0_off175_inb : ∀ (v954 : BitVec 32) (k0_hw51 : k0_chk51 v954), ∀ a, (k0_off175 v954) a + S1x16.size a ≤ S1000x64.size a := fun v954 k0_hw51 => k0_hw51.2.2.1
theorem k0_off176_inb : ∀ (v954 : BitVec 32) (k0_hw51 : k0_chk51 v954), ∀ a, (k0_off176 v954) a + S1x16.size a ≤ S1000x64.size a := fun v954 k0_hw51 => k0_hw51.2.2.2

def k0_off177 (v972 : BitVec 32) : Fin 2 → Nat :=
  let v973 : Index := Scalar.indexCast v972
  let c0_272 : Index := 0#32
  ![v973.toNat, 0]

def k0_off178 (v972 : BitVec 32) : Fin 2 → Nat :=
  let v977 : Index := Scalar.indexCast v972
  let c16_273 : Index := 16#32
  ![v977.toNat, 16]
def k0_off179 (v972 : BitVec 32) : Fin 2 → Nat :=
  let v981 : Index := Scalar.indexCast v972
  let c32_274 : Index := 32#32
  ![v981.toNat, 32]
def k0_off180 (v972 : BitVec 32) : Fin 2 → Nat :=
  let v985 : Index := Scalar.indexCast v972
  let c48_275 : Index := 48#32
  ![v985.toNat, 48]

def k0_chk52 (v972 : BitVec 32) : Prop :=
  (∀ a, (k0_off177 v972) a + S1x16.size a ≤ S1000x64.size a) ∧
  (∀ a, (k0_off178 v972) a + S1x16.size a ≤ S1000x64.size a) ∧
  (∀ a, (k0_off179 v972) a + S1x16.size a ≤ S1000x64.size a) ∧
  (∀ a, (k0_off180 v972) a + S1x16.size a ≤ S1000x64.size a)
theorem k0_off177_inb : ∀ (v972 : BitVec 32) (k0_hw52 : k0_chk52 v972), ∀ a, (k0_off177 v972) a + S1x16.size a ≤ S1000x64.size a := fun v972 k0_hw52 => k0_hw52.1
theorem k0_off178_inb : ∀ (v972 : BitVec 32) (k0_hw52 : k0_chk52 v972), ∀ a, (k0_off178 v972) a + S1x16.size a ≤ S1000x64.size a := fun v972 k0_hw52 => k0_hw52.2.1
theorem k0_off179_inb : ∀ (v972 : BitVec 32) (k0_hw52 : k0_chk52 v972), ∀ a, (k0_off179 v972) a + S1x16.size a ≤ S1000x64.size a := fun v972 k0_hw52 => k0_hw52.2.2.1
theorem k0_off180_inb : ∀ (v972 : BitVec 32) (k0_hw52 : k0_chk52 v972), ∀ a, (k0_off180 v972) a + S1x16.size a ≤ S1000x64.size a := fun v972 k0_hw52 => k0_hw52.2.2.2

def k0_off181 (v990 : BitVec 32) : Fin 2 → Nat :=
  let v991 : Index := Scalar.indexCast v990
  let c0_276 : Index := 0#32
  ![v991.toNat, 0]

def k0_off182 (v990 : BitVec 32) : Fin 2 → Nat :=
  let v995 : Index := Scalar.indexCast v990
  let c16_277 : Index := 16#32
  ![v995.toNat, 16]
def k0_off183 (v990 : BitVec 32) : Fin 2 → Nat :=
  let v999 : Index := Scalar.indexCast v990
  let c32_278 : Index := 32#32
  ![v999.toNat, 32]
def k0_off184 (v990 : BitVec 32) : Fin 2 → Nat :=
  let v1003 : Index := Scalar.indexCast v990
  let c48_279 : Index := 48#32
  ![v1003.toNat, 48]

def k0_chk53 (v990 : BitVec 32) : Prop :=
  (∀ a, (k0_off181 v990) a + S1x16.size a ≤ S1000x64.size a) ∧
  (∀ a, (k0_off182 v990) a + S1x16.size a ≤ S1000x64.size a) ∧
  (∀ a, (k0_off183 v990) a + S1x16.size a ≤ S1000x64.size a) ∧
  (∀ a, (k0_off184 v990) a + S1x16.size a ≤ S1000x64.size a)
theorem k0_off181_inb : ∀ (v990 : BitVec 32) (k0_hw53 : k0_chk53 v990), ∀ a, (k0_off181 v990) a + S1x16.size a ≤ S1000x64.size a := fun v990 k0_hw53 => k0_hw53.1
theorem k0_off182_inb : ∀ (v990 : BitVec 32) (k0_hw53 : k0_chk53 v990), ∀ a, (k0_off182 v990) a + S1x16.size a ≤ S1000x64.size a := fun v990 k0_hw53 => k0_hw53.2.1
theorem k0_off183_inb : ∀ (v990 : BitVec 32) (k0_hw53 : k0_chk53 v990), ∀ a, (k0_off183 v990) a + S1x16.size a ≤ S1000x64.size a := fun v990 k0_hw53 => k0_hw53.2.2.1
theorem k0_off184_inb : ∀ (v990 : BitVec 32) (k0_hw53 : k0_chk53 v990), ∀ a, (k0_off184 v990) a + S1x16.size a ≤ S1000x64.size a := fun v990 k0_hw53 => k0_hw53.2.2.2

def k0_off185 (v1008 : BitVec 32) : Fin 2 → Nat :=
  let v1009 : Index := Scalar.indexCast v1008
  let c0_280 : Index := 0#32
  ![v1009.toNat, 0]

def k0_off186 (v1008 : BitVec 32) : Fin 2 → Nat :=
  let v1013 : Index := Scalar.indexCast v1008
  let c16_281 : Index := 16#32
  ![v1013.toNat, 16]
def k0_off187 (v1008 : BitVec 32) : Fin 2 → Nat :=
  let v1017 : Index := Scalar.indexCast v1008
  let c32_282 : Index := 32#32
  ![v1017.toNat, 32]
def k0_off188 (v1008 : BitVec 32) : Fin 2 → Nat :=
  let v1021 : Index := Scalar.indexCast v1008
  let c48_283 : Index := 48#32
  ![v1021.toNat, 48]

def k0_chk54 (v1008 : BitVec 32) : Prop :=
  (∀ a, (k0_off185 v1008) a + S1x16.size a ≤ S1000x64.size a) ∧
  (∀ a, (k0_off186 v1008) a + S1x16.size a ≤ S1000x64.size a) ∧
  (∀ a, (k0_off187 v1008) a + S1x16.size a ≤ S1000x64.size a) ∧
  (∀ a, (k0_off188 v1008) a + S1x16.size a ≤ S1000x64.size a)
theorem k0_off185_inb : ∀ (v1008 : BitVec 32) (k0_hw54 : k0_chk54 v1008), ∀ a, (k0_off185 v1008) a + S1x16.size a ≤ S1000x64.size a := fun v1008 k0_hw54 => k0_hw54.1
theorem k0_off186_inb : ∀ (v1008 : BitVec 32) (k0_hw54 : k0_chk54 v1008), ∀ a, (k0_off186 v1008) a + S1x16.size a ≤ S1000x64.size a := fun v1008 k0_hw54 => k0_hw54.2.1
theorem k0_off187_inb : ∀ (v1008 : BitVec 32) (k0_hw54 : k0_chk54 v1008), ∀ a, (k0_off187 v1008) a + S1x16.size a ≤ S1000x64.size a := fun v1008 k0_hw54 => k0_hw54.2.2.1
theorem k0_off188_inb : ∀ (v1008 : BitVec 32) (k0_hw54 : k0_chk54 v1008), ∀ a, (k0_off188 v1008) a + S1x16.size a ≤ S1000x64.size a := fun v1008 k0_hw54 => k0_hw54.2.2.2

def k0_off189 (v1026 : BitVec 32) : Fin 2 → Nat :=
  let v1027 : Index := Scalar.indexCast v1026
  let c0_284 : Index := 0#32
  ![v1027.toNat, 0]

def k0_off190 (v1026 : BitVec 32) : Fin 2 → Nat :=
  let v1031 : Index := Scalar.indexCast v1026
  let c16_285 : Index := 16#32
  ![v1031.toNat, 16]
def k0_off191 (v1026 : BitVec 32) : Fin 2 → Nat :=
  let v1035 : Index := Scalar.indexCast v1026
  let c32_286 : Index := 32#32
  ![v1035.toNat, 32]
def k0_off192 (v1026 : BitVec 32) : Fin 2 → Nat :=
  let v1039 : Index := Scalar.indexCast v1026
  let c48_287 : Index := 48#32
  ![v1039.toNat, 48]

def k0_chk55 (v1026 : BitVec 32) : Prop :=
  (∀ a, (k0_off189 v1026) a + S1x16.size a ≤ S1000x64.size a) ∧
  (∀ a, (k0_off190 v1026) a + S1x16.size a ≤ S1000x64.size a) ∧
  (∀ a, (k0_off191 v1026) a + S1x16.size a ≤ S1000x64.size a) ∧
  (∀ a, (k0_off192 v1026) a + S1x16.size a ≤ S1000x64.size a)
theorem k0_off189_inb : ∀ (v1026 : BitVec 32) (k0_hw55 : k0_chk55 v1026), ∀ a, (k0_off189 v1026) a + S1x16.size a ≤ S1000x64.size a := fun v1026 k0_hw55 => k0_hw55.1
theorem k0_off190_inb : ∀ (v1026 : BitVec 32) (k0_hw55 : k0_chk55 v1026), ∀ a, (k0_off190 v1026) a + S1x16.size a ≤ S1000x64.size a := fun v1026 k0_hw55 => k0_hw55.2.1
theorem k0_off191_inb : ∀ (v1026 : BitVec 32) (k0_hw55 : k0_chk55 v1026), ∀ a, (k0_off191 v1026) a + S1x16.size a ≤ S1000x64.size a := fun v1026 k0_hw55 => k0_hw55.2.2.1
theorem k0_off192_inb : ∀ (v1026 : BitVec 32) (k0_hw55 : k0_chk55 v1026), ∀ a, (k0_off192 v1026) a + S1x16.size a ≤ S1000x64.size a := fun v1026 k0_hw55 => k0_hw55.2.2.2

def k0_off193 (v1044 : BitVec 32) : Fin 2 → Nat :=
  let v1045 : Index := Scalar.indexCast v1044
  let c0_288 : Index := 0#32
  ![v1045.toNat, 0]

def k0_off194 (v1044 : BitVec 32) : Fin 2 → Nat :=
  let v1049 : Index := Scalar.indexCast v1044
  let c16_289 : Index := 16#32
  ![v1049.toNat, 16]
def k0_off195 (v1044 : BitVec 32) : Fin 2 → Nat :=
  let v1053 : Index := Scalar.indexCast v1044
  let c32_290 : Index := 32#32
  ![v1053.toNat, 32]
def k0_off196 (v1044 : BitVec 32) : Fin 2 → Nat :=
  let v1057 : Index := Scalar.indexCast v1044
  let c48_291 : Index := 48#32
  ![v1057.toNat, 48]

def k0_chk56 (v1044 : BitVec 32) : Prop :=
  (∀ a, (k0_off193 v1044) a + S1x16.size a ≤ S1000x64.size a) ∧
  (∀ a, (k0_off194 v1044) a + S1x16.size a ≤ S1000x64.size a) ∧
  (∀ a, (k0_off195 v1044) a + S1x16.size a ≤ S1000x64.size a) ∧
  (∀ a, (k0_off196 v1044) a + S1x16.size a ≤ S1000x64.size a)
theorem k0_off193_inb : ∀ (v1044 : BitVec 32) (k0_hw56 : k0_chk56 v1044), ∀ a, (k0_off193 v1044) a + S1x16.size a ≤ S1000x64.size a := fun v1044 k0_hw56 => k0_hw56.1
theorem k0_off194_inb : ∀ (v1044 : BitVec 32) (k0_hw56 : k0_chk56 v1044), ∀ a, (k0_off194 v1044) a + S1x16.size a ≤ S1000x64.size a := fun v1044 k0_hw56 => k0_hw56.2.1
theorem k0_off195_inb : ∀ (v1044 : BitVec 32) (k0_hw56 : k0_chk56 v1044), ∀ a, (k0_off195 v1044) a + S1x16.size a ≤ S1000x64.size a := fun v1044 k0_hw56 => k0_hw56.2.2.1
theorem k0_off196_inb : ∀ (v1044 : BitVec 32) (k0_hw56 : k0_chk56 v1044), ∀ a, (k0_off196 v1044) a + S1x16.size a ≤ S1000x64.size a := fun v1044 k0_hw56 => k0_hw56.2.2.2

def k0_off197 (v1062 : BitVec 32) : Fin 2 → Nat :=
  let v1063 : Index := Scalar.indexCast v1062
  let c0_292 : Index := 0#32
  ![v1063.toNat, 0]

def k0_off198 (v1062 : BitVec 32) : Fin 2 → Nat :=
  let v1067 : Index := Scalar.indexCast v1062
  let c16_293 : Index := 16#32
  ![v1067.toNat, 16]
def k0_off199 (v1062 : BitVec 32) : Fin 2 → Nat :=
  let v1071 : Index := Scalar.indexCast v1062
  let c32_294 : Index := 32#32
  ![v1071.toNat, 32]
def k0_off200 (v1062 : BitVec 32) : Fin 2 → Nat :=
  let v1075 : Index := Scalar.indexCast v1062
  let c48_295 : Index := 48#32
  ![v1075.toNat, 48]

def k0_chk57 (v1062 : BitVec 32) : Prop :=
  (∀ a, (k0_off197 v1062) a + S1x16.size a ≤ S1000x64.size a) ∧
  (∀ a, (k0_off198 v1062) a + S1x16.size a ≤ S1000x64.size a) ∧
  (∀ a, (k0_off199 v1062) a + S1x16.size a ≤ S1000x64.size a) ∧
  (∀ a, (k0_off200 v1062) a + S1x16.size a ≤ S1000x64.size a)
theorem k0_off197_inb : ∀ (v1062 : BitVec 32) (k0_hw57 : k0_chk57 v1062), ∀ a, (k0_off197 v1062) a + S1x16.size a ≤ S1000x64.size a := fun v1062 k0_hw57 => k0_hw57.1
theorem k0_off198_inb : ∀ (v1062 : BitVec 32) (k0_hw57 : k0_chk57 v1062), ∀ a, (k0_off198 v1062) a + S1x16.size a ≤ S1000x64.size a := fun v1062 k0_hw57 => k0_hw57.2.1
theorem k0_off199_inb : ∀ (v1062 : BitVec 32) (k0_hw57 : k0_chk57 v1062), ∀ a, (k0_off199 v1062) a + S1x16.size a ≤ S1000x64.size a := fun v1062 k0_hw57 => k0_hw57.2.2.1
theorem k0_off200_inb : ∀ (v1062 : BitVec 32) (k0_hw57 : k0_chk57 v1062), ∀ a, (k0_off200 v1062) a + S1x16.size a ≤ S1000x64.size a := fun v1062 k0_hw57 => k0_hw57.2.2.2

def k0_off201 (v1080 : BitVec 32) : Fin 2 → Nat :=
  let v1081 : Index := Scalar.indexCast v1080
  let c0_296 : Index := 0#32
  ![v1081.toNat, 0]

def k0_off202 (v1080 : BitVec 32) : Fin 2 → Nat :=
  let v1085 : Index := Scalar.indexCast v1080
  let c16_297 : Index := 16#32
  ![v1085.toNat, 16]
def k0_off203 (v1080 : BitVec 32) : Fin 2 → Nat :=
  let v1089 : Index := Scalar.indexCast v1080
  let c32_298 : Index := 32#32
  ![v1089.toNat, 32]
def k0_off204 (v1080 : BitVec 32) : Fin 2 → Nat :=
  let v1093 : Index := Scalar.indexCast v1080
  let c48_299 : Index := 48#32
  ![v1093.toNat, 48]

def k0_chk58 (v1080 : BitVec 32) : Prop :=
  (∀ a, (k0_off201 v1080) a + S1x16.size a ≤ S1000x64.size a) ∧
  (∀ a, (k0_off202 v1080) a + S1x16.size a ≤ S1000x64.size a) ∧
  (∀ a, (k0_off203 v1080) a + S1x16.size a ≤ S1000x64.size a) ∧
  (∀ a, (k0_off204 v1080) a + S1x16.size a ≤ S1000x64.size a)
theorem k0_off201_inb : ∀ (v1080 : BitVec 32) (k0_hw58 : k0_chk58 v1080), ∀ a, (k0_off201 v1080) a + S1x16.size a ≤ S1000x64.size a := fun v1080 k0_hw58 => k0_hw58.1
theorem k0_off202_inb : ∀ (v1080 : BitVec 32) (k0_hw58 : k0_chk58 v1080), ∀ a, (k0_off202 v1080) a + S1x16.size a ≤ S1000x64.size a := fun v1080 k0_hw58 => k0_hw58.2.1
theorem k0_off203_inb : ∀ (v1080 : BitVec 32) (k0_hw58 : k0_chk58 v1080), ∀ a, (k0_off203 v1080) a + S1x16.size a ≤ S1000x64.size a := fun v1080 k0_hw58 => k0_hw58.2.2.1
theorem k0_off204_inb : ∀ (v1080 : BitVec 32) (k0_hw58 : k0_chk58 v1080), ∀ a, (k0_off204 v1080) a + S1x16.size a ≤ S1000x64.size a := fun v1080 k0_hw58 => k0_hw58.2.2.2

def k0_off205 (v1098 : BitVec 32) : Fin 2 → Nat :=
  let v1099 : Index := Scalar.indexCast v1098
  let c0_300 : Index := 0#32
  ![v1099.toNat, 0]

def k0_off206 (v1098 : BitVec 32) : Fin 2 → Nat :=
  let v1103 : Index := Scalar.indexCast v1098
  let c16_301 : Index := 16#32
  ![v1103.toNat, 16]
def k0_off207 (v1098 : BitVec 32) : Fin 2 → Nat :=
  let v1107 : Index := Scalar.indexCast v1098
  let c32_302 : Index := 32#32
  ![v1107.toNat, 32]
def k0_off208 (v1098 : BitVec 32) : Fin 2 → Nat :=
  let v1111 : Index := Scalar.indexCast v1098
  let c48_303 : Index := 48#32
  ![v1111.toNat, 48]

def k0_chk59 (v1098 : BitVec 32) : Prop :=
  (∀ a, (k0_off205 v1098) a + S1x16.size a ≤ S1000x64.size a) ∧
  (∀ a, (k0_off206 v1098) a + S1x16.size a ≤ S1000x64.size a) ∧
  (∀ a, (k0_off207 v1098) a + S1x16.size a ≤ S1000x64.size a) ∧
  (∀ a, (k0_off208 v1098) a + S1x16.size a ≤ S1000x64.size a)
theorem k0_off205_inb : ∀ (v1098 : BitVec 32) (k0_hw59 : k0_chk59 v1098), ∀ a, (k0_off205 v1098) a + S1x16.size a ≤ S1000x64.size a := fun v1098 k0_hw59 => k0_hw59.1
theorem k0_off206_inb : ∀ (v1098 : BitVec 32) (k0_hw59 : k0_chk59 v1098), ∀ a, (k0_off206 v1098) a + S1x16.size a ≤ S1000x64.size a := fun v1098 k0_hw59 => k0_hw59.2.1
theorem k0_off207_inb : ∀ (v1098 : BitVec 32) (k0_hw59 : k0_chk59 v1098), ∀ a, (k0_off207 v1098) a + S1x16.size a ≤ S1000x64.size a := fun v1098 k0_hw59 => k0_hw59.2.2.1
theorem k0_off208_inb : ∀ (v1098 : BitVec 32) (k0_hw59 : k0_chk59 v1098), ∀ a, (k0_off208 v1098) a + S1x16.size a ≤ S1000x64.size a := fun v1098 k0_hw59 => k0_hw59.2.2.2

def k0_off209 (v1116 : BitVec 32) : Fin 2 → Nat :=
  let v1117 : Index := Scalar.indexCast v1116
  let c0_304 : Index := 0#32
  ![v1117.toNat, 0]

def k0_off210 (v1116 : BitVec 32) : Fin 2 → Nat :=
  let v1121 : Index := Scalar.indexCast v1116
  let c16_305 : Index := 16#32
  ![v1121.toNat, 16]
def k0_off211 (v1116 : BitVec 32) : Fin 2 → Nat :=
  let v1125 : Index := Scalar.indexCast v1116
  let c32_306 : Index := 32#32
  ![v1125.toNat, 32]
def k0_off212 (v1116 : BitVec 32) : Fin 2 → Nat :=
  let v1129 : Index := Scalar.indexCast v1116
  let c48_307 : Index := 48#32
  ![v1129.toNat, 48]

def k0_chk60 (v1116 : BitVec 32) : Prop :=
  (∀ a, (k0_off209 v1116) a + S1x16.size a ≤ S1000x64.size a) ∧
  (∀ a, (k0_off210 v1116) a + S1x16.size a ≤ S1000x64.size a) ∧
  (∀ a, (k0_off211 v1116) a + S1x16.size a ≤ S1000x64.size a) ∧
  (∀ a, (k0_off212 v1116) a + S1x16.size a ≤ S1000x64.size a)
theorem k0_off209_inb : ∀ (v1116 : BitVec 32) (k0_hw60 : k0_chk60 v1116), ∀ a, (k0_off209 v1116) a + S1x16.size a ≤ S1000x64.size a := fun v1116 k0_hw60 => k0_hw60.1
theorem k0_off210_inb : ∀ (v1116 : BitVec 32) (k0_hw60 : k0_chk60 v1116), ∀ a, (k0_off210 v1116) a + S1x16.size a ≤ S1000x64.size a := fun v1116 k0_hw60 => k0_hw60.2.1
theorem k0_off211_inb : ∀ (v1116 : BitVec 32) (k0_hw60 : k0_chk60 v1116), ∀ a, (k0_off211 v1116) a + S1x16.size a ≤ S1000x64.size a := fun v1116 k0_hw60 => k0_hw60.2.2.1
theorem k0_off212_inb : ∀ (v1116 : BitVec 32) (k0_hw60 : k0_chk60 v1116), ∀ a, (k0_off212 v1116) a + S1x16.size a ≤ S1000x64.size a := fun v1116 k0_hw60 => k0_hw60.2.2.2

def k0_off213 (v1134 : BitVec 32) : Fin 2 → Nat :=
  let v1135 : Index := Scalar.indexCast v1134
  let c0_308 : Index := 0#32
  ![v1135.toNat, 0]

def k0_off214 (v1134 : BitVec 32) : Fin 2 → Nat :=
  let v1139 : Index := Scalar.indexCast v1134
  let c16_309 : Index := 16#32
  ![v1139.toNat, 16]
def k0_off215 (v1134 : BitVec 32) : Fin 2 → Nat :=
  let v1143 : Index := Scalar.indexCast v1134
  let c32_310 : Index := 32#32
  ![v1143.toNat, 32]
def k0_off216 (v1134 : BitVec 32) : Fin 2 → Nat :=
  let v1147 : Index := Scalar.indexCast v1134
  let c48_311 : Index := 48#32
  ![v1147.toNat, 48]

def k0_chk61 (v1134 : BitVec 32) : Prop :=
  (∀ a, (k0_off213 v1134) a + S1x16.size a ≤ S1000x64.size a) ∧
  (∀ a, (k0_off214 v1134) a + S1x16.size a ≤ S1000x64.size a) ∧
  (∀ a, (k0_off215 v1134) a + S1x16.size a ≤ S1000x64.size a) ∧
  (∀ a, (k0_off216 v1134) a + S1x16.size a ≤ S1000x64.size a)
theorem k0_off213_inb : ∀ (v1134 : BitVec 32) (k0_hw61 : k0_chk61 v1134), ∀ a, (k0_off213 v1134) a + S1x16.size a ≤ S1000x64.size a := fun v1134 k0_hw61 => k0_hw61.1
theorem k0_off214_inb : ∀ (v1134 : BitVec 32) (k0_hw61 : k0_chk61 v1134), ∀ a, (k0_off214 v1134) a + S1x16.size a ≤ S1000x64.size a := fun v1134 k0_hw61 => k0_hw61.2.1
theorem k0_off215_inb : ∀ (v1134 : BitVec 32) (k0_hw61 : k0_chk61 v1134), ∀ a, (k0_off215 v1134) a + S1x16.size a ≤ S1000x64.size a := fun v1134 k0_hw61 => k0_hw61.2.2.1
theorem k0_off216_inb : ∀ (v1134 : BitVec 32) (k0_hw61 : k0_chk61 v1134), ∀ a, (k0_off216 v1134) a + S1x16.size a ≤ S1000x64.size a := fun v1134 k0_hw61 => k0_hw61.2.2.2

def k0_off217 (v1152 : BitVec 32) : Fin 2 → Nat :=
  let v1153 : Index := Scalar.indexCast v1152
  let c0_312 : Index := 0#32
  ![v1153.toNat, 0]

def k0_off218 (v1152 : BitVec 32) : Fin 2 → Nat :=
  let v1157 : Index := Scalar.indexCast v1152
  let c16_313 : Index := 16#32
  ![v1157.toNat, 16]
def k0_off219 (v1152 : BitVec 32) : Fin 2 → Nat :=
  let v1161 : Index := Scalar.indexCast v1152
  let c32_314 : Index := 32#32
  ![v1161.toNat, 32]
def k0_off220 (v1152 : BitVec 32) : Fin 2 → Nat :=
  let v1165 : Index := Scalar.indexCast v1152
  let c48_315 : Index := 48#32
  ![v1165.toNat, 48]

def k0_chk62 (v1152 : BitVec 32) : Prop :=
  (∀ a, (k0_off217 v1152) a + S1x16.size a ≤ S1000x64.size a) ∧
  (∀ a, (k0_off218 v1152) a + S1x16.size a ≤ S1000x64.size a) ∧
  (∀ a, (k0_off219 v1152) a + S1x16.size a ≤ S1000x64.size a) ∧
  (∀ a, (k0_off220 v1152) a + S1x16.size a ≤ S1000x64.size a)
theorem k0_off217_inb : ∀ (v1152 : BitVec 32) (k0_hw62 : k0_chk62 v1152), ∀ a, (k0_off217 v1152) a + S1x16.size a ≤ S1000x64.size a := fun v1152 k0_hw62 => k0_hw62.1
theorem k0_off218_inb : ∀ (v1152 : BitVec 32) (k0_hw62 : k0_chk62 v1152), ∀ a, (k0_off218 v1152) a + S1x16.size a ≤ S1000x64.size a := fun v1152 k0_hw62 => k0_hw62.2.1
theorem k0_off219_inb : ∀ (v1152 : BitVec 32) (k0_hw62 : k0_chk62 v1152), ∀ a, (k0_off219 v1152) a + S1x16.size a ≤ S1000x64.size a := fun v1152 k0_hw62 => k0_hw62.2.2.1
theorem k0_off220_inb : ∀ (v1152 : BitVec 32) (k0_hw62 : k0_chk62 v1152), ∀ a, (k0_off220 v1152) a + S1x16.size a ≤ S1000x64.size a := fun v1152 k0_hw62 => k0_hw62.2.2.2

def k0_off221 (v1170 : BitVec 32) : Fin 2 → Nat :=
  let v1171 : Index := Scalar.indexCast v1170
  let c0_316 : Index := 0#32
  ![v1171.toNat, 0]

def k0_off222 (v1170 : BitVec 32) : Fin 2 → Nat :=
  let v1175 : Index := Scalar.indexCast v1170
  let c16_317 : Index := 16#32
  ![v1175.toNat, 16]
def k0_off223 (v1170 : BitVec 32) : Fin 2 → Nat :=
  let v1179 : Index := Scalar.indexCast v1170
  let c32_318 : Index := 32#32
  ![v1179.toNat, 32]
def k0_off224 (v1170 : BitVec 32) : Fin 2 → Nat :=
  let v1183 : Index := Scalar.indexCast v1170
  let c48_319 : Index := 48#32
  ![v1183.toNat, 48]

def k0_chk63 (v1170 : BitVec 32) : Prop :=
  (∀ a, (k0_off221 v1170) a + S1x16.size a ≤ S1000x64.size a) ∧
  (∀ a, (k0_off222 v1170) a + S1x16.size a ≤ S1000x64.size a) ∧
  (∀ a, (k0_off223 v1170) a + S1x16.size a ≤ S1000x64.size a) ∧
  (∀ a, (k0_off224 v1170) a + S1x16.size a ≤ S1000x64.size a)
theorem k0_off221_inb : ∀ (v1170 : BitVec 32) (k0_hw63 : k0_chk63 v1170), ∀ a, (k0_off221 v1170) a + S1x16.size a ≤ S1000x64.size a := fun v1170 k0_hw63 => k0_hw63.1
theorem k0_off222_inb : ∀ (v1170 : BitVec 32) (k0_hw63 : k0_chk63 v1170), ∀ a, (k0_off222 v1170) a + S1x16.size a ≤ S1000x64.size a := fun v1170 k0_hw63 => k0_hw63.2.1
theorem k0_off223_inb : ∀ (v1170 : BitVec 32) (k0_hw63 : k0_chk63 v1170), ∀ a, (k0_off223 v1170) a + S1x16.size a ≤ S1000x64.size a := fun v1170 k0_hw63 => k0_hw63.2.2.1
theorem k0_off224_inb : ∀ (v1170 : BitVec 32) (k0_hw63 : k0_chk63 v1170), ∀ a, (k0_off224 v1170) a + S1x16.size a ≤ S1000x64.size a := fun v1170 k0_hw63 => k0_hw63.2.2.2

def k0_off225 (v1188 : BitVec 32) : Fin 2 → Nat :=
  let v1189 : Index := Scalar.indexCast v1188
  let c0_320 : Index := 0#32
  ![v1189.toNat, 0]

def k0_off226 (v1188 : BitVec 32) : Fin 2 → Nat :=
  let v1193 : Index := Scalar.indexCast v1188
  let c16_321 : Index := 16#32
  ![v1193.toNat, 16]
def k0_off227 (v1188 : BitVec 32) : Fin 2 → Nat :=
  let v1197 : Index := Scalar.indexCast v1188
  let c32_322 : Index := 32#32
  ![v1197.toNat, 32]
def k0_off228 (v1188 : BitVec 32) : Fin 2 → Nat :=
  let v1201 : Index := Scalar.indexCast v1188
  let c48_323 : Index := 48#32
  ![v1201.toNat, 48]

def k0_chk64 (v1188 : BitVec 32) : Prop :=
  (∀ a, (k0_off225 v1188) a + S1x16.size a ≤ S1000x64.size a) ∧
  (∀ a, (k0_off226 v1188) a + S1x16.size a ≤ S1000x64.size a) ∧
  (∀ a, (k0_off227 v1188) a + S1x16.size a ≤ S1000x64.size a) ∧
  (∀ a, (k0_off228 v1188) a + S1x16.size a ≤ S1000x64.size a)
theorem k0_off225_inb : ∀ (v1188 : BitVec 32) (k0_hw64 : k0_chk64 v1188), ∀ a, (k0_off225 v1188) a + S1x16.size a ≤ S1000x64.size a := fun v1188 k0_hw64 => k0_hw64.1
theorem k0_off226_inb : ∀ (v1188 : BitVec 32) (k0_hw64 : k0_chk64 v1188), ∀ a, (k0_off226 v1188) a + S1x16.size a ≤ S1000x64.size a := fun v1188 k0_hw64 => k0_hw64.2.1
theorem k0_off227_inb : ∀ (v1188 : BitVec 32) (k0_hw64 : k0_chk64 v1188), ∀ a, (k0_off227 v1188) a + S1x16.size a ≤ S1000x64.size a := fun v1188 k0_hw64 => k0_hw64.2.2.1
theorem k0_off228_inb : ∀ (v1188 : BitVec 32) (k0_hw64 : k0_chk64 v1188), ∀ a, (k0_off228 v1188) a + S1x16.size a ≤ S1000x64.size a := fun v1188 k0_hw64 => k0_hw64.2.2.2

def k0_off229 (v1206 : BitVec 32) : Fin 2 → Nat :=
  let v1207 : Index := Scalar.indexCast v1206
  let c0_324 : Index := 0#32
  ![v1207.toNat, 0]

def k0_off230 (v1206 : BitVec 32) : Fin 2 → Nat :=
  let v1211 : Index := Scalar.indexCast v1206
  let c16_325 : Index := 16#32
  ![v1211.toNat, 16]
def k0_off231 (v1206 : BitVec 32) : Fin 2 → Nat :=
  let v1215 : Index := Scalar.indexCast v1206
  let c32_326 : Index := 32#32
  ![v1215.toNat, 32]
def k0_off232 (v1206 : BitVec 32) : Fin 2 → Nat :=
  let v1219 : Index := Scalar.indexCast v1206
  let c48_327 : Index := 48#32
  ![v1219.toNat, 48]

def k0_chk65 (v1206 : BitVec 32) : Prop :=
  (∀ a, (k0_off229 v1206) a + S1x16.size a ≤ S1000x64.size a) ∧
  (∀ a, (k0_off230 v1206) a + S1x16.size a ≤ S1000x64.size a) ∧
  (∀ a, (k0_off231 v1206) a + S1x16.size a ≤ S1000x64.size a) ∧
  (∀ a, (k0_off232 v1206) a + S1x16.size a ≤ S1000x64.size a)
theorem k0_off229_inb : ∀ (v1206 : BitVec 32) (k0_hw65 : k0_chk65 v1206), ∀ a, (k0_off229 v1206) a + S1x16.size a ≤ S1000x64.size a := fun v1206 k0_hw65 => k0_hw65.1
theorem k0_off230_inb : ∀ (v1206 : BitVec 32) (k0_hw65 : k0_chk65 v1206), ∀ a, (k0_off230 v1206) a + S1x16.size a ≤ S1000x64.size a := fun v1206 k0_hw65 => k0_hw65.2.1
theorem k0_off231_inb : ∀ (v1206 : BitVec 32) (k0_hw65 : k0_chk65 v1206), ∀ a, (k0_off231 v1206) a + S1x16.size a ≤ S1000x64.size a := fun v1206 k0_hw65 => k0_hw65.2.2.1
theorem k0_off232_inb : ∀ (v1206 : BitVec 32) (k0_hw65 : k0_chk65 v1206), ∀ a, (k0_off232 v1206) a + S1x16.size a ≤ S1000x64.size a := fun v1206 k0_hw65 => k0_hw65.2.2.2

def k0_off233 (v1224 : BitVec 32) : Fin 2 → Nat :=
  let v1225 : Index := Scalar.indexCast v1224
  let c0_328 : Index := 0#32
  ![v1225.toNat, 0]

def k0_off234 (v1224 : BitVec 32) : Fin 2 → Nat :=
  let v1229 : Index := Scalar.indexCast v1224
  let c16_329 : Index := 16#32
  ![v1229.toNat, 16]
def k0_off235 (v1224 : BitVec 32) : Fin 2 → Nat :=
  let v1233 : Index := Scalar.indexCast v1224
  let c32_330 : Index := 32#32
  ![v1233.toNat, 32]
def k0_off236 (v1224 : BitVec 32) : Fin 2 → Nat :=
  let v1237 : Index := Scalar.indexCast v1224
  let c48_331 : Index := 48#32
  ![v1237.toNat, 48]

def k0_chk66 (v1224 : BitVec 32) : Prop :=
  (∀ a, (k0_off233 v1224) a + S1x16.size a ≤ S1000x64.size a) ∧
  (∀ a, (k0_off234 v1224) a + S1x16.size a ≤ S1000x64.size a) ∧
  (∀ a, (k0_off235 v1224) a + S1x16.size a ≤ S1000x64.size a) ∧
  (∀ a, (k0_off236 v1224) a + S1x16.size a ≤ S1000x64.size a)
theorem k0_off233_inb : ∀ (v1224 : BitVec 32) (k0_hw66 : k0_chk66 v1224), ∀ a, (k0_off233 v1224) a + S1x16.size a ≤ S1000x64.size a := fun v1224 k0_hw66 => k0_hw66.1
theorem k0_off234_inb : ∀ (v1224 : BitVec 32) (k0_hw66 : k0_chk66 v1224), ∀ a, (k0_off234 v1224) a + S1x16.size a ≤ S1000x64.size a := fun v1224 k0_hw66 => k0_hw66.2.1
theorem k0_off235_inb : ∀ (v1224 : BitVec 32) (k0_hw66 : k0_chk66 v1224), ∀ a, (k0_off235 v1224) a + S1x16.size a ≤ S1000x64.size a := fun v1224 k0_hw66 => k0_hw66.2.2.1
theorem k0_off236_inb : ∀ (v1224 : BitVec 32) (k0_hw66 : k0_chk66 v1224), ∀ a, (k0_off236 v1224) a + S1x16.size a ≤ S1000x64.size a := fun v1224 k0_hw66 => k0_hw66.2.2.2

def k0_off237 (v1242 : BitVec 32) : Fin 2 → Nat :=
  let v1243 : Index := Scalar.indexCast v1242
  let c0_332 : Index := 0#32
  ![v1243.toNat, 0]

def k0_off238 (v1242 : BitVec 32) : Fin 2 → Nat :=
  let v1247 : Index := Scalar.indexCast v1242
  let c16_333 : Index := 16#32
  ![v1247.toNat, 16]
def k0_off239 (v1242 : BitVec 32) : Fin 2 → Nat :=
  let v1251 : Index := Scalar.indexCast v1242
  let c32_334 : Index := 32#32
  ![v1251.toNat, 32]
def k0_off240 (v1242 : BitVec 32) : Fin 2 → Nat :=
  let v1255 : Index := Scalar.indexCast v1242
  let c48_335 : Index := 48#32
  ![v1255.toNat, 48]

def k0_chk67 (v1242 : BitVec 32) : Prop :=
  (∀ a, (k0_off237 v1242) a + S1x16.size a ≤ S1000x64.size a) ∧
  (∀ a, (k0_off238 v1242) a + S1x16.size a ≤ S1000x64.size a) ∧
  (∀ a, (k0_off239 v1242) a + S1x16.size a ≤ S1000x64.size a) ∧
  (∀ a, (k0_off240 v1242) a + S1x16.size a ≤ S1000x64.size a)
theorem k0_off237_inb : ∀ (v1242 : BitVec 32) (k0_hw67 : k0_chk67 v1242), ∀ a, (k0_off237 v1242) a + S1x16.size a ≤ S1000x64.size a := fun v1242 k0_hw67 => k0_hw67.1
theorem k0_off238_inb : ∀ (v1242 : BitVec 32) (k0_hw67 : k0_chk67 v1242), ∀ a, (k0_off238 v1242) a + S1x16.size a ≤ S1000x64.size a := fun v1242 k0_hw67 => k0_hw67.2.1
theorem k0_off239_inb : ∀ (v1242 : BitVec 32) (k0_hw67 : k0_chk67 v1242), ∀ a, (k0_off239 v1242) a + S1x16.size a ≤ S1000x64.size a := fun v1242 k0_hw67 => k0_hw67.2.2.1
theorem k0_off240_inb : ∀ (v1242 : BitVec 32) (k0_hw67 : k0_chk67 v1242), ∀ a, (k0_off240 v1242) a + S1x16.size a ≤ S1000x64.size a := fun v1242 k0_hw67 => k0_hw67.2.2.2

def k0_off241 (v1260 : BitVec 32) : Fin 2 → Nat :=
  let v1261 : Index := Scalar.indexCast v1260
  let c0_336 : Index := 0#32
  ![v1261.toNat, 0]

def k0_off242 (v1260 : BitVec 32) : Fin 2 → Nat :=
  let v1265 : Index := Scalar.indexCast v1260
  let c16_337 : Index := 16#32
  ![v1265.toNat, 16]
def k0_off243 (v1260 : BitVec 32) : Fin 2 → Nat :=
  let v1269 : Index := Scalar.indexCast v1260
  let c32_338 : Index := 32#32
  ![v1269.toNat, 32]
def k0_off244 (v1260 : BitVec 32) : Fin 2 → Nat :=
  let v1273 : Index := Scalar.indexCast v1260
  let c48_339 : Index := 48#32
  ![v1273.toNat, 48]

def k0_chk68 (v1260 : BitVec 32) : Prop :=
  (∀ a, (k0_off241 v1260) a + S1x16.size a ≤ S1000x64.size a) ∧
  (∀ a, (k0_off242 v1260) a + S1x16.size a ≤ S1000x64.size a) ∧
  (∀ a, (k0_off243 v1260) a + S1x16.size a ≤ S1000x64.size a) ∧
  (∀ a, (k0_off244 v1260) a + S1x16.size a ≤ S1000x64.size a)
theorem k0_off241_inb : ∀ (v1260 : BitVec 32) (k0_hw68 : k0_chk68 v1260), ∀ a, (k0_off241 v1260) a + S1x16.size a ≤ S1000x64.size a := fun v1260 k0_hw68 => k0_hw68.1
theorem k0_off242_inb : ∀ (v1260 : BitVec 32) (k0_hw68 : k0_chk68 v1260), ∀ a, (k0_off242 v1260) a + S1x16.size a ≤ S1000x64.size a := fun v1260 k0_hw68 => k0_hw68.2.1
theorem k0_off243_inb : ∀ (v1260 : BitVec 32) (k0_hw68 : k0_chk68 v1260), ∀ a, (k0_off243 v1260) a + S1x16.size a ≤ S1000x64.size a := fun v1260 k0_hw68 => k0_hw68.2.2.1
theorem k0_off244_inb : ∀ (v1260 : BitVec 32) (k0_hw68 : k0_chk68 v1260), ∀ a, (k0_off244 v1260) a + S1x16.size a ≤ S1000x64.size a := fun v1260 k0_hw68 => k0_hw68.2.2.2

def k0_off245 (v1278 : BitVec 32) : Fin 2 → Nat :=
  let v1279 : Index := Scalar.indexCast v1278
  let c0_340 : Index := 0#32
  ![v1279.toNat, 0]

def k0_off246 (v1278 : BitVec 32) : Fin 2 → Nat :=
  let v1283 : Index := Scalar.indexCast v1278
  let c16_341 : Index := 16#32
  ![v1283.toNat, 16]
def k0_off247 (v1278 : BitVec 32) : Fin 2 → Nat :=
  let v1287 : Index := Scalar.indexCast v1278
  let c32_342 : Index := 32#32
  ![v1287.toNat, 32]
def k0_off248 (v1278 : BitVec 32) : Fin 2 → Nat :=
  let v1291 : Index := Scalar.indexCast v1278
  let c48_343 : Index := 48#32
  ![v1291.toNat, 48]

def k0_chk69 (v1278 : BitVec 32) : Prop :=
  (∀ a, (k0_off245 v1278) a + S1x16.size a ≤ S1000x64.size a) ∧
  (∀ a, (k0_off246 v1278) a + S1x16.size a ≤ S1000x64.size a) ∧
  (∀ a, (k0_off247 v1278) a + S1x16.size a ≤ S1000x64.size a) ∧
  (∀ a, (k0_off248 v1278) a + S1x16.size a ≤ S1000x64.size a)
theorem k0_off245_inb : ∀ (v1278 : BitVec 32) (k0_hw69 : k0_chk69 v1278), ∀ a, (k0_off245 v1278) a + S1x16.size a ≤ S1000x64.size a := fun v1278 k0_hw69 => k0_hw69.1
theorem k0_off246_inb : ∀ (v1278 : BitVec 32) (k0_hw69 : k0_chk69 v1278), ∀ a, (k0_off246 v1278) a + S1x16.size a ≤ S1000x64.size a := fun v1278 k0_hw69 => k0_hw69.2.1
theorem k0_off247_inb : ∀ (v1278 : BitVec 32) (k0_hw69 : k0_chk69 v1278), ∀ a, (k0_off247 v1278) a + S1x16.size a ≤ S1000x64.size a := fun v1278 k0_hw69 => k0_hw69.2.2.1
theorem k0_off248_inb : ∀ (v1278 : BitVec 32) (k0_hw69 : k0_chk69 v1278), ∀ a, (k0_off248 v1278) a + S1x16.size a ≤ S1000x64.size a := fun v1278 k0_hw69 => k0_hw69.2.2.2

def k0_off249 (k0_t2 : Fin k0_t2_loop.trips) (c0_i32_348 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k0_t2
  let c1_i32_59 : BitVec 32 := 1#32
  let v102 : BitVec 32 := Scalar.muli arg16 c1_i32_59
  let v103 : BitVec 32 := Scalar.addi c0_i32_60 v102
  let c4_i32_345 : BitVec 32 := 4#32
  let v1297 : BitVec 32 := Scalar.muli v103 c4_i32_345
  let c2_i32_346 : BitVec 32 := 2#32
  let v1298 : BitVec 32 := Scalar.addi v1297 c2_i32_346
  let c64_i32_347 : BitVec 32 := 64#32
  let v1299 : BitVec 32 := Scalar.muli v1298 c64_i32_347
  let v1300 : BitVec 32 := Scalar.addi v1299 c0_i32_348
  let v1301 : Index := Scalar.indexCast v1300
  ![v1301.toNat]
def k0_off250 (v1336 : BitVec 32) : Fin 2 → Nat :=
  let v1337 : Index := Scalar.indexCast v1336
  let c0_364 : Index := 0#32
  ![v1337.toNat, 0]

def k0_chk70 (v1336 : BitVec 32) : Prop :=
  (∀ a, (k0_off250 v1336) a + S1x16.size a ≤ S1000x64.size a)
theorem k0_off250_inb : ∀ (v1336 : BitVec 32) (k0_hw70 : k0_chk70 v1336), ∀ a, (k0_off250 v1336) a + S1x16.size a ≤ S1000x64.size a := fun v1336 k0_hw70 => k0_hw70

def k0_off251 (v1341 : BitVec 32) : Fin 2 → Nat :=
  let v1342 : Index := Scalar.indexCast v1341
  let c16_365 : Index := 16#32
  ![v1342.toNat, 16]

def k0_chk71 (v1341 : BitVec 32) : Prop :=
  (∀ a, (k0_off251 v1341) a + S1x16.size a ≤ S1000x64.size a)
theorem k0_off251_inb : ∀ (v1341 : BitVec 32) (k0_hw71 : k0_chk71 v1341), ∀ a, (k0_off251 v1341) a + S1x16.size a ≤ S1000x64.size a := fun v1341 k0_hw71 => k0_hw71

def k0_off252 (v1346 : BitVec 32) : Fin 2 → Nat :=
  let v1347 : Index := Scalar.indexCast v1346
  let c32_366 : Index := 32#32
  ![v1347.toNat, 32]

def k0_chk72 (v1346 : BitVec 32) : Prop :=
  (∀ a, (k0_off252 v1346) a + S1x16.size a ≤ S1000x64.size a)
theorem k0_off252_inb : ∀ (v1346 : BitVec 32) (k0_hw72 : k0_chk72 v1346), ∀ a, (k0_off252 v1346) a + S1x16.size a ≤ S1000x64.size a := fun v1346 k0_hw72 => k0_hw72

def k0_off253 (v1351 : BitVec 32) : Fin 2 → Nat :=
  let v1352 : Index := Scalar.indexCast v1351
  let c48_367 : Index := 48#32
  ![v1352.toNat, 48]

def k0_chk73 (v1351 : BitVec 32) : Prop :=
  (∀ a, (k0_off253 v1351) a + S1x16.size a ≤ S1000x64.size a)
theorem k0_off253_inb : ∀ (v1351 : BitVec 32) (k0_hw73 : k0_chk73 v1351), ∀ a, (k0_off253 v1351) a + S1x16.size a ≤ S1000x64.size a := fun v1351 k0_hw73 => k0_hw73

def k0_off254 (v1356 : BitVec 32) : Fin 2 → Nat :=
  let v1357 : Index := Scalar.indexCast v1356
  let c0_368 : Index := 0#32
  ![v1357.toNat, 0]

def k0_off255 (v1356 : BitVec 32) : Fin 2 → Nat :=
  let v1361 : Index := Scalar.indexCast v1356
  let c16_369 : Index := 16#32
  ![v1361.toNat, 16]
def k0_off256 (v1356 : BitVec 32) : Fin 2 → Nat :=
  let v1365 : Index := Scalar.indexCast v1356
  let c32_370 : Index := 32#32
  ![v1365.toNat, 32]
def k0_off257 (v1356 : BitVec 32) : Fin 2 → Nat :=
  let v1369 : Index := Scalar.indexCast v1356
  let c48_371 : Index := 48#32
  ![v1369.toNat, 48]

def k0_chk74 (v1356 : BitVec 32) : Prop :=
  (∀ a, (k0_off254 v1356) a + S1x16.size a ≤ S1000x64.size a) ∧
  (∀ a, (k0_off255 v1356) a + S1x16.size a ≤ S1000x64.size a) ∧
  (∀ a, (k0_off256 v1356) a + S1x16.size a ≤ S1000x64.size a) ∧
  (∀ a, (k0_off257 v1356) a + S1x16.size a ≤ S1000x64.size a)
theorem k0_off254_inb : ∀ (v1356 : BitVec 32) (k0_hw74 : k0_chk74 v1356), ∀ a, (k0_off254 v1356) a + S1x16.size a ≤ S1000x64.size a := fun v1356 k0_hw74 => k0_hw74.1
theorem k0_off255_inb : ∀ (v1356 : BitVec 32) (k0_hw74 : k0_chk74 v1356), ∀ a, (k0_off255 v1356) a + S1x16.size a ≤ S1000x64.size a := fun v1356 k0_hw74 => k0_hw74.2.1
theorem k0_off256_inb : ∀ (v1356 : BitVec 32) (k0_hw74 : k0_chk74 v1356), ∀ a, (k0_off256 v1356) a + S1x16.size a ≤ S1000x64.size a := fun v1356 k0_hw74 => k0_hw74.2.2.1
theorem k0_off257_inb : ∀ (v1356 : BitVec 32) (k0_hw74 : k0_chk74 v1356), ∀ a, (k0_off257 v1356) a + S1x16.size a ≤ S1000x64.size a := fun v1356 k0_hw74 => k0_hw74.2.2.2

def k0_off258 (v1374 : BitVec 32) : Fin 2 → Nat :=
  let v1375 : Index := Scalar.indexCast v1374
  let c0_372 : Index := 0#32
  ![v1375.toNat, 0]

def k0_off259 (v1374 : BitVec 32) : Fin 2 → Nat :=
  let v1379 : Index := Scalar.indexCast v1374
  let c16_373 : Index := 16#32
  ![v1379.toNat, 16]
def k0_off260 (v1374 : BitVec 32) : Fin 2 → Nat :=
  let v1383 : Index := Scalar.indexCast v1374
  let c32_374 : Index := 32#32
  ![v1383.toNat, 32]
def k0_off261 (v1374 : BitVec 32) : Fin 2 → Nat :=
  let v1387 : Index := Scalar.indexCast v1374
  let c48_375 : Index := 48#32
  ![v1387.toNat, 48]

def k0_chk75 (v1374 : BitVec 32) : Prop :=
  (∀ a, (k0_off258 v1374) a + S1x16.size a ≤ S1000x64.size a) ∧
  (∀ a, (k0_off259 v1374) a + S1x16.size a ≤ S1000x64.size a) ∧
  (∀ a, (k0_off260 v1374) a + S1x16.size a ≤ S1000x64.size a) ∧
  (∀ a, (k0_off261 v1374) a + S1x16.size a ≤ S1000x64.size a)
theorem k0_off258_inb : ∀ (v1374 : BitVec 32) (k0_hw75 : k0_chk75 v1374), ∀ a, (k0_off258 v1374) a + S1x16.size a ≤ S1000x64.size a := fun v1374 k0_hw75 => k0_hw75.1
theorem k0_off259_inb : ∀ (v1374 : BitVec 32) (k0_hw75 : k0_chk75 v1374), ∀ a, (k0_off259 v1374) a + S1x16.size a ≤ S1000x64.size a := fun v1374 k0_hw75 => k0_hw75.2.1
theorem k0_off260_inb : ∀ (v1374 : BitVec 32) (k0_hw75 : k0_chk75 v1374), ∀ a, (k0_off260 v1374) a + S1x16.size a ≤ S1000x64.size a := fun v1374 k0_hw75 => k0_hw75.2.2.1
theorem k0_off261_inb : ∀ (v1374 : BitVec 32) (k0_hw75 : k0_chk75 v1374), ∀ a, (k0_off261 v1374) a + S1x16.size a ≤ S1000x64.size a := fun v1374 k0_hw75 => k0_hw75.2.2.2

def k0_off262 (v1392 : BitVec 32) : Fin 2 → Nat :=
  let v1393 : Index := Scalar.indexCast v1392
  let c0_376 : Index := 0#32
  ![v1393.toNat, 0]

def k0_off263 (v1392 : BitVec 32) : Fin 2 → Nat :=
  let v1397 : Index := Scalar.indexCast v1392
  let c16_377 : Index := 16#32
  ![v1397.toNat, 16]
def k0_off264 (v1392 : BitVec 32) : Fin 2 → Nat :=
  let v1401 : Index := Scalar.indexCast v1392
  let c32_378 : Index := 32#32
  ![v1401.toNat, 32]
def k0_off265 (v1392 : BitVec 32) : Fin 2 → Nat :=
  let v1405 : Index := Scalar.indexCast v1392
  let c48_379 : Index := 48#32
  ![v1405.toNat, 48]

def k0_chk76 (v1392 : BitVec 32) : Prop :=
  (∀ a, (k0_off262 v1392) a + S1x16.size a ≤ S1000x64.size a) ∧
  (∀ a, (k0_off263 v1392) a + S1x16.size a ≤ S1000x64.size a) ∧
  (∀ a, (k0_off264 v1392) a + S1x16.size a ≤ S1000x64.size a) ∧
  (∀ a, (k0_off265 v1392) a + S1x16.size a ≤ S1000x64.size a)
theorem k0_off262_inb : ∀ (v1392 : BitVec 32) (k0_hw76 : k0_chk76 v1392), ∀ a, (k0_off262 v1392) a + S1x16.size a ≤ S1000x64.size a := fun v1392 k0_hw76 => k0_hw76.1
theorem k0_off263_inb : ∀ (v1392 : BitVec 32) (k0_hw76 : k0_chk76 v1392), ∀ a, (k0_off263 v1392) a + S1x16.size a ≤ S1000x64.size a := fun v1392 k0_hw76 => k0_hw76.2.1
theorem k0_off264_inb : ∀ (v1392 : BitVec 32) (k0_hw76 : k0_chk76 v1392), ∀ a, (k0_off264 v1392) a + S1x16.size a ≤ S1000x64.size a := fun v1392 k0_hw76 => k0_hw76.2.2.1
theorem k0_off265_inb : ∀ (v1392 : BitVec 32) (k0_hw76 : k0_chk76 v1392), ∀ a, (k0_off265 v1392) a + S1x16.size a ≤ S1000x64.size a := fun v1392 k0_hw76 => k0_hw76.2.2.2

def k0_off266 (v1410 : BitVec 32) : Fin 2 → Nat :=
  let v1411 : Index := Scalar.indexCast v1410
  let c0_380 : Index := 0#32
  ![v1411.toNat, 0]

def k0_off267 (v1410 : BitVec 32) : Fin 2 → Nat :=
  let v1415 : Index := Scalar.indexCast v1410
  let c16_381 : Index := 16#32
  ![v1415.toNat, 16]
def k0_off268 (v1410 : BitVec 32) : Fin 2 → Nat :=
  let v1419 : Index := Scalar.indexCast v1410
  let c32_382 : Index := 32#32
  ![v1419.toNat, 32]
def k0_off269 (v1410 : BitVec 32) : Fin 2 → Nat :=
  let v1423 : Index := Scalar.indexCast v1410
  let c48_383 : Index := 48#32
  ![v1423.toNat, 48]

def k0_chk77 (v1410 : BitVec 32) : Prop :=
  (∀ a, (k0_off266 v1410) a + S1x16.size a ≤ S1000x64.size a) ∧
  (∀ a, (k0_off267 v1410) a + S1x16.size a ≤ S1000x64.size a) ∧
  (∀ a, (k0_off268 v1410) a + S1x16.size a ≤ S1000x64.size a) ∧
  (∀ a, (k0_off269 v1410) a + S1x16.size a ≤ S1000x64.size a)
theorem k0_off266_inb : ∀ (v1410 : BitVec 32) (k0_hw77 : k0_chk77 v1410), ∀ a, (k0_off266 v1410) a + S1x16.size a ≤ S1000x64.size a := fun v1410 k0_hw77 => k0_hw77.1
theorem k0_off267_inb : ∀ (v1410 : BitVec 32) (k0_hw77 : k0_chk77 v1410), ∀ a, (k0_off267 v1410) a + S1x16.size a ≤ S1000x64.size a := fun v1410 k0_hw77 => k0_hw77.2.1
theorem k0_off268_inb : ∀ (v1410 : BitVec 32) (k0_hw77 : k0_chk77 v1410), ∀ a, (k0_off268 v1410) a + S1x16.size a ≤ S1000x64.size a := fun v1410 k0_hw77 => k0_hw77.2.2.1
theorem k0_off269_inb : ∀ (v1410 : BitVec 32) (k0_hw77 : k0_chk77 v1410), ∀ a, (k0_off269 v1410) a + S1x16.size a ≤ S1000x64.size a := fun v1410 k0_hw77 => k0_hw77.2.2.2

def k0_off270 (v1428 : BitVec 32) : Fin 2 → Nat :=
  let v1429 : Index := Scalar.indexCast v1428
  let c0_384 : Index := 0#32
  ![v1429.toNat, 0]

def k0_off271 (v1428 : BitVec 32) : Fin 2 → Nat :=
  let v1433 : Index := Scalar.indexCast v1428
  let c16_385 : Index := 16#32
  ![v1433.toNat, 16]
def k0_off272 (v1428 : BitVec 32) : Fin 2 → Nat :=
  let v1437 : Index := Scalar.indexCast v1428
  let c32_386 : Index := 32#32
  ![v1437.toNat, 32]
def k0_off273 (v1428 : BitVec 32) : Fin 2 → Nat :=
  let v1441 : Index := Scalar.indexCast v1428
  let c48_387 : Index := 48#32
  ![v1441.toNat, 48]

def k0_chk78 (v1428 : BitVec 32) : Prop :=
  (∀ a, (k0_off270 v1428) a + S1x16.size a ≤ S1000x64.size a) ∧
  (∀ a, (k0_off271 v1428) a + S1x16.size a ≤ S1000x64.size a) ∧
  (∀ a, (k0_off272 v1428) a + S1x16.size a ≤ S1000x64.size a) ∧
  (∀ a, (k0_off273 v1428) a + S1x16.size a ≤ S1000x64.size a)
theorem k0_off270_inb : ∀ (v1428 : BitVec 32) (k0_hw78 : k0_chk78 v1428), ∀ a, (k0_off270 v1428) a + S1x16.size a ≤ S1000x64.size a := fun v1428 k0_hw78 => k0_hw78.1
theorem k0_off271_inb : ∀ (v1428 : BitVec 32) (k0_hw78 : k0_chk78 v1428), ∀ a, (k0_off271 v1428) a + S1x16.size a ≤ S1000x64.size a := fun v1428 k0_hw78 => k0_hw78.2.1
theorem k0_off272_inb : ∀ (v1428 : BitVec 32) (k0_hw78 : k0_chk78 v1428), ∀ a, (k0_off272 v1428) a + S1x16.size a ≤ S1000x64.size a := fun v1428 k0_hw78 => k0_hw78.2.2.1
theorem k0_off273_inb : ∀ (v1428 : BitVec 32) (k0_hw78 : k0_chk78 v1428), ∀ a, (k0_off273 v1428) a + S1x16.size a ≤ S1000x64.size a := fun v1428 k0_hw78 => k0_hw78.2.2.2

def k0_off274 (v1446 : BitVec 32) : Fin 2 → Nat :=
  let v1447 : Index := Scalar.indexCast v1446
  let c0_388 : Index := 0#32
  ![v1447.toNat, 0]

def k0_off275 (v1446 : BitVec 32) : Fin 2 → Nat :=
  let v1451 : Index := Scalar.indexCast v1446
  let c16_389 : Index := 16#32
  ![v1451.toNat, 16]
def k0_off276 (v1446 : BitVec 32) : Fin 2 → Nat :=
  let v1455 : Index := Scalar.indexCast v1446
  let c32_390 : Index := 32#32
  ![v1455.toNat, 32]
def k0_off277 (v1446 : BitVec 32) : Fin 2 → Nat :=
  let v1459 : Index := Scalar.indexCast v1446
  let c48_391 : Index := 48#32
  ![v1459.toNat, 48]

def k0_chk79 (v1446 : BitVec 32) : Prop :=
  (∀ a, (k0_off274 v1446) a + S1x16.size a ≤ S1000x64.size a) ∧
  (∀ a, (k0_off275 v1446) a + S1x16.size a ≤ S1000x64.size a) ∧
  (∀ a, (k0_off276 v1446) a + S1x16.size a ≤ S1000x64.size a) ∧
  (∀ a, (k0_off277 v1446) a + S1x16.size a ≤ S1000x64.size a)
theorem k0_off274_inb : ∀ (v1446 : BitVec 32) (k0_hw79 : k0_chk79 v1446), ∀ a, (k0_off274 v1446) a + S1x16.size a ≤ S1000x64.size a := fun v1446 k0_hw79 => k0_hw79.1
theorem k0_off275_inb : ∀ (v1446 : BitVec 32) (k0_hw79 : k0_chk79 v1446), ∀ a, (k0_off275 v1446) a + S1x16.size a ≤ S1000x64.size a := fun v1446 k0_hw79 => k0_hw79.2.1
theorem k0_off276_inb : ∀ (v1446 : BitVec 32) (k0_hw79 : k0_chk79 v1446), ∀ a, (k0_off276 v1446) a + S1x16.size a ≤ S1000x64.size a := fun v1446 k0_hw79 => k0_hw79.2.2.1
theorem k0_off277_inb : ∀ (v1446 : BitVec 32) (k0_hw79 : k0_chk79 v1446), ∀ a, (k0_off277 v1446) a + S1x16.size a ≤ S1000x64.size a := fun v1446 k0_hw79 => k0_hw79.2.2.2

def k0_off278 (v1464 : BitVec 32) : Fin 2 → Nat :=
  let v1465 : Index := Scalar.indexCast v1464
  let c0_392 : Index := 0#32
  ![v1465.toNat, 0]

def k0_off279 (v1464 : BitVec 32) : Fin 2 → Nat :=
  let v1469 : Index := Scalar.indexCast v1464
  let c16_393 : Index := 16#32
  ![v1469.toNat, 16]
def k0_off280 (v1464 : BitVec 32) : Fin 2 → Nat :=
  let v1473 : Index := Scalar.indexCast v1464
  let c32_394 : Index := 32#32
  ![v1473.toNat, 32]
def k0_off281 (v1464 : BitVec 32) : Fin 2 → Nat :=
  let v1477 : Index := Scalar.indexCast v1464
  let c48_395 : Index := 48#32
  ![v1477.toNat, 48]

def k0_chk80 (v1464 : BitVec 32) : Prop :=
  (∀ a, (k0_off278 v1464) a + S1x16.size a ≤ S1000x64.size a) ∧
  (∀ a, (k0_off279 v1464) a + S1x16.size a ≤ S1000x64.size a) ∧
  (∀ a, (k0_off280 v1464) a + S1x16.size a ≤ S1000x64.size a) ∧
  (∀ a, (k0_off281 v1464) a + S1x16.size a ≤ S1000x64.size a)
theorem k0_off278_inb : ∀ (v1464 : BitVec 32) (k0_hw80 : k0_chk80 v1464), ∀ a, (k0_off278 v1464) a + S1x16.size a ≤ S1000x64.size a := fun v1464 k0_hw80 => k0_hw80.1
theorem k0_off279_inb : ∀ (v1464 : BitVec 32) (k0_hw80 : k0_chk80 v1464), ∀ a, (k0_off279 v1464) a + S1x16.size a ≤ S1000x64.size a := fun v1464 k0_hw80 => k0_hw80.2.1
theorem k0_off280_inb : ∀ (v1464 : BitVec 32) (k0_hw80 : k0_chk80 v1464), ∀ a, (k0_off280 v1464) a + S1x16.size a ≤ S1000x64.size a := fun v1464 k0_hw80 => k0_hw80.2.2.1
theorem k0_off281_inb : ∀ (v1464 : BitVec 32) (k0_hw80 : k0_chk80 v1464), ∀ a, (k0_off281 v1464) a + S1x16.size a ≤ S1000x64.size a := fun v1464 k0_hw80 => k0_hw80.2.2.2

def k0_off282 (v1482 : BitVec 32) : Fin 2 → Nat :=
  let v1483 : Index := Scalar.indexCast v1482
  let c0_396 : Index := 0#32
  ![v1483.toNat, 0]

def k0_off283 (v1482 : BitVec 32) : Fin 2 → Nat :=
  let v1487 : Index := Scalar.indexCast v1482
  let c16_397 : Index := 16#32
  ![v1487.toNat, 16]
def k0_off284 (v1482 : BitVec 32) : Fin 2 → Nat :=
  let v1491 : Index := Scalar.indexCast v1482
  let c32_398 : Index := 32#32
  ![v1491.toNat, 32]
def k0_off285 (v1482 : BitVec 32) : Fin 2 → Nat :=
  let v1495 : Index := Scalar.indexCast v1482
  let c48_399 : Index := 48#32
  ![v1495.toNat, 48]

def k0_chk81 (v1482 : BitVec 32) : Prop :=
  (∀ a, (k0_off282 v1482) a + S1x16.size a ≤ S1000x64.size a) ∧
  (∀ a, (k0_off283 v1482) a + S1x16.size a ≤ S1000x64.size a) ∧
  (∀ a, (k0_off284 v1482) a + S1x16.size a ≤ S1000x64.size a) ∧
  (∀ a, (k0_off285 v1482) a + S1x16.size a ≤ S1000x64.size a)
theorem k0_off282_inb : ∀ (v1482 : BitVec 32) (k0_hw81 : k0_chk81 v1482), ∀ a, (k0_off282 v1482) a + S1x16.size a ≤ S1000x64.size a := fun v1482 k0_hw81 => k0_hw81.1
theorem k0_off283_inb : ∀ (v1482 : BitVec 32) (k0_hw81 : k0_chk81 v1482), ∀ a, (k0_off283 v1482) a + S1x16.size a ≤ S1000x64.size a := fun v1482 k0_hw81 => k0_hw81.2.1
theorem k0_off284_inb : ∀ (v1482 : BitVec 32) (k0_hw81 : k0_chk81 v1482), ∀ a, (k0_off284 v1482) a + S1x16.size a ≤ S1000x64.size a := fun v1482 k0_hw81 => k0_hw81.2.2.1
theorem k0_off285_inb : ∀ (v1482 : BitVec 32) (k0_hw81 : k0_chk81 v1482), ∀ a, (k0_off285 v1482) a + S1x16.size a ≤ S1000x64.size a := fun v1482 k0_hw81 => k0_hw81.2.2.2

def k0_off286 (v1500 : BitVec 32) : Fin 2 → Nat :=
  let v1501 : Index := Scalar.indexCast v1500
  let c0_400 : Index := 0#32
  ![v1501.toNat, 0]

def k0_off287 (v1500 : BitVec 32) : Fin 2 → Nat :=
  let v1505 : Index := Scalar.indexCast v1500
  let c16_401 : Index := 16#32
  ![v1505.toNat, 16]
def k0_off288 (v1500 : BitVec 32) : Fin 2 → Nat :=
  let v1509 : Index := Scalar.indexCast v1500
  let c32_402 : Index := 32#32
  ![v1509.toNat, 32]
def k0_off289 (v1500 : BitVec 32) : Fin 2 → Nat :=
  let v1513 : Index := Scalar.indexCast v1500
  let c48_403 : Index := 48#32
  ![v1513.toNat, 48]

def k0_chk82 (v1500 : BitVec 32) : Prop :=
  (∀ a, (k0_off286 v1500) a + S1x16.size a ≤ S1000x64.size a) ∧
  (∀ a, (k0_off287 v1500) a + S1x16.size a ≤ S1000x64.size a) ∧
  (∀ a, (k0_off288 v1500) a + S1x16.size a ≤ S1000x64.size a) ∧
  (∀ a, (k0_off289 v1500) a + S1x16.size a ≤ S1000x64.size a)
theorem k0_off286_inb : ∀ (v1500 : BitVec 32) (k0_hw82 : k0_chk82 v1500), ∀ a, (k0_off286 v1500) a + S1x16.size a ≤ S1000x64.size a := fun v1500 k0_hw82 => k0_hw82.1
theorem k0_off287_inb : ∀ (v1500 : BitVec 32) (k0_hw82 : k0_chk82 v1500), ∀ a, (k0_off287 v1500) a + S1x16.size a ≤ S1000x64.size a := fun v1500 k0_hw82 => k0_hw82.2.1
theorem k0_off288_inb : ∀ (v1500 : BitVec 32) (k0_hw82 : k0_chk82 v1500), ∀ a, (k0_off288 v1500) a + S1x16.size a ≤ S1000x64.size a := fun v1500 k0_hw82 => k0_hw82.2.2.1
theorem k0_off289_inb : ∀ (v1500 : BitVec 32) (k0_hw82 : k0_chk82 v1500), ∀ a, (k0_off289 v1500) a + S1x16.size a ≤ S1000x64.size a := fun v1500 k0_hw82 => k0_hw82.2.2.2

def k0_off290 (v1518 : BitVec 32) : Fin 2 → Nat :=
  let v1519 : Index := Scalar.indexCast v1518
  let c0_404 : Index := 0#32
  ![v1519.toNat, 0]

def k0_off291 (v1518 : BitVec 32) : Fin 2 → Nat :=
  let v1523 : Index := Scalar.indexCast v1518
  let c16_405 : Index := 16#32
  ![v1523.toNat, 16]
def k0_off292 (v1518 : BitVec 32) : Fin 2 → Nat :=
  let v1527 : Index := Scalar.indexCast v1518
  let c32_406 : Index := 32#32
  ![v1527.toNat, 32]
def k0_off293 (v1518 : BitVec 32) : Fin 2 → Nat :=
  let v1531 : Index := Scalar.indexCast v1518
  let c48_407 : Index := 48#32
  ![v1531.toNat, 48]

def k0_chk83 (v1518 : BitVec 32) : Prop :=
  (∀ a, (k0_off290 v1518) a + S1x16.size a ≤ S1000x64.size a) ∧
  (∀ a, (k0_off291 v1518) a + S1x16.size a ≤ S1000x64.size a) ∧
  (∀ a, (k0_off292 v1518) a + S1x16.size a ≤ S1000x64.size a) ∧
  (∀ a, (k0_off293 v1518) a + S1x16.size a ≤ S1000x64.size a)
theorem k0_off290_inb : ∀ (v1518 : BitVec 32) (k0_hw83 : k0_chk83 v1518), ∀ a, (k0_off290 v1518) a + S1x16.size a ≤ S1000x64.size a := fun v1518 k0_hw83 => k0_hw83.1
theorem k0_off291_inb : ∀ (v1518 : BitVec 32) (k0_hw83 : k0_chk83 v1518), ∀ a, (k0_off291 v1518) a + S1x16.size a ≤ S1000x64.size a := fun v1518 k0_hw83 => k0_hw83.2.1
theorem k0_off292_inb : ∀ (v1518 : BitVec 32) (k0_hw83 : k0_chk83 v1518), ∀ a, (k0_off292 v1518) a + S1x16.size a ≤ S1000x64.size a := fun v1518 k0_hw83 => k0_hw83.2.2.1
theorem k0_off293_inb : ∀ (v1518 : BitVec 32) (k0_hw83 : k0_chk83 v1518), ∀ a, (k0_off293 v1518) a + S1x16.size a ≤ S1000x64.size a := fun v1518 k0_hw83 => k0_hw83.2.2.2

def k0_off294 (v1536 : BitVec 32) : Fin 2 → Nat :=
  let v1537 : Index := Scalar.indexCast v1536
  let c0_408 : Index := 0#32
  ![v1537.toNat, 0]

def k0_off295 (v1536 : BitVec 32) : Fin 2 → Nat :=
  let v1541 : Index := Scalar.indexCast v1536
  let c16_409 : Index := 16#32
  ![v1541.toNat, 16]
def k0_off296 (v1536 : BitVec 32) : Fin 2 → Nat :=
  let v1545 : Index := Scalar.indexCast v1536
  let c32_410 : Index := 32#32
  ![v1545.toNat, 32]
def k0_off297 (v1536 : BitVec 32) : Fin 2 → Nat :=
  let v1549 : Index := Scalar.indexCast v1536
  let c48_411 : Index := 48#32
  ![v1549.toNat, 48]

def k0_chk84 (v1536 : BitVec 32) : Prop :=
  (∀ a, (k0_off294 v1536) a + S1x16.size a ≤ S1000x64.size a) ∧
  (∀ a, (k0_off295 v1536) a + S1x16.size a ≤ S1000x64.size a) ∧
  (∀ a, (k0_off296 v1536) a + S1x16.size a ≤ S1000x64.size a) ∧
  (∀ a, (k0_off297 v1536) a + S1x16.size a ≤ S1000x64.size a)
theorem k0_off294_inb : ∀ (v1536 : BitVec 32) (k0_hw84 : k0_chk84 v1536), ∀ a, (k0_off294 v1536) a + S1x16.size a ≤ S1000x64.size a := fun v1536 k0_hw84 => k0_hw84.1
theorem k0_off295_inb : ∀ (v1536 : BitVec 32) (k0_hw84 : k0_chk84 v1536), ∀ a, (k0_off295 v1536) a + S1x16.size a ≤ S1000x64.size a := fun v1536 k0_hw84 => k0_hw84.2.1
theorem k0_off296_inb : ∀ (v1536 : BitVec 32) (k0_hw84 : k0_chk84 v1536), ∀ a, (k0_off296 v1536) a + S1x16.size a ≤ S1000x64.size a := fun v1536 k0_hw84 => k0_hw84.2.2.1
theorem k0_off297_inb : ∀ (v1536 : BitVec 32) (k0_hw84 : k0_chk84 v1536), ∀ a, (k0_off297 v1536) a + S1x16.size a ≤ S1000x64.size a := fun v1536 k0_hw84 => k0_hw84.2.2.2

def k0_off298 (v1554 : BitVec 32) : Fin 2 → Nat :=
  let v1555 : Index := Scalar.indexCast v1554
  let c0_412 : Index := 0#32
  ![v1555.toNat, 0]

def k0_off299 (v1554 : BitVec 32) : Fin 2 → Nat :=
  let v1559 : Index := Scalar.indexCast v1554
  let c16_413 : Index := 16#32
  ![v1559.toNat, 16]
def k0_off300 (v1554 : BitVec 32) : Fin 2 → Nat :=
  let v1563 : Index := Scalar.indexCast v1554
  let c32_414 : Index := 32#32
  ![v1563.toNat, 32]
def k0_off301 (v1554 : BitVec 32) : Fin 2 → Nat :=
  let v1567 : Index := Scalar.indexCast v1554
  let c48_415 : Index := 48#32
  ![v1567.toNat, 48]

def k0_chk85 (v1554 : BitVec 32) : Prop :=
  (∀ a, (k0_off298 v1554) a + S1x16.size a ≤ S1000x64.size a) ∧
  (∀ a, (k0_off299 v1554) a + S1x16.size a ≤ S1000x64.size a) ∧
  (∀ a, (k0_off300 v1554) a + S1x16.size a ≤ S1000x64.size a) ∧
  (∀ a, (k0_off301 v1554) a + S1x16.size a ≤ S1000x64.size a)
theorem k0_off298_inb : ∀ (v1554 : BitVec 32) (k0_hw85 : k0_chk85 v1554), ∀ a, (k0_off298 v1554) a + S1x16.size a ≤ S1000x64.size a := fun v1554 k0_hw85 => k0_hw85.1
theorem k0_off299_inb : ∀ (v1554 : BitVec 32) (k0_hw85 : k0_chk85 v1554), ∀ a, (k0_off299 v1554) a + S1x16.size a ≤ S1000x64.size a := fun v1554 k0_hw85 => k0_hw85.2.1
theorem k0_off300_inb : ∀ (v1554 : BitVec 32) (k0_hw85 : k0_chk85 v1554), ∀ a, (k0_off300 v1554) a + S1x16.size a ≤ S1000x64.size a := fun v1554 k0_hw85 => k0_hw85.2.2.1
theorem k0_off301_inb : ∀ (v1554 : BitVec 32) (k0_hw85 : k0_chk85 v1554), ∀ a, (k0_off301 v1554) a + S1x16.size a ≤ S1000x64.size a := fun v1554 k0_hw85 => k0_hw85.2.2.2

def k0_off302 (v1572 : BitVec 32) : Fin 2 → Nat :=
  let v1573 : Index := Scalar.indexCast v1572
  let c0_416 : Index := 0#32
  ![v1573.toNat, 0]

def k0_off303 (v1572 : BitVec 32) : Fin 2 → Nat :=
  let v1577 : Index := Scalar.indexCast v1572
  let c16_417 : Index := 16#32
  ![v1577.toNat, 16]
def k0_off304 (v1572 : BitVec 32) : Fin 2 → Nat :=
  let v1581 : Index := Scalar.indexCast v1572
  let c32_418 : Index := 32#32
  ![v1581.toNat, 32]
def k0_off305 (v1572 : BitVec 32) : Fin 2 → Nat :=
  let v1585 : Index := Scalar.indexCast v1572
  let c48_419 : Index := 48#32
  ![v1585.toNat, 48]

def k0_chk86 (v1572 : BitVec 32) : Prop :=
  (∀ a, (k0_off302 v1572) a + S1x16.size a ≤ S1000x64.size a) ∧
  (∀ a, (k0_off303 v1572) a + S1x16.size a ≤ S1000x64.size a) ∧
  (∀ a, (k0_off304 v1572) a + S1x16.size a ≤ S1000x64.size a) ∧
  (∀ a, (k0_off305 v1572) a + S1x16.size a ≤ S1000x64.size a)
theorem k0_off302_inb : ∀ (v1572 : BitVec 32) (k0_hw86 : k0_chk86 v1572), ∀ a, (k0_off302 v1572) a + S1x16.size a ≤ S1000x64.size a := fun v1572 k0_hw86 => k0_hw86.1
theorem k0_off303_inb : ∀ (v1572 : BitVec 32) (k0_hw86 : k0_chk86 v1572), ∀ a, (k0_off303 v1572) a + S1x16.size a ≤ S1000x64.size a := fun v1572 k0_hw86 => k0_hw86.2.1
theorem k0_off304_inb : ∀ (v1572 : BitVec 32) (k0_hw86 : k0_chk86 v1572), ∀ a, (k0_off304 v1572) a + S1x16.size a ≤ S1000x64.size a := fun v1572 k0_hw86 => k0_hw86.2.2.1
theorem k0_off305_inb : ∀ (v1572 : BitVec 32) (k0_hw86 : k0_chk86 v1572), ∀ a, (k0_off305 v1572) a + S1x16.size a ≤ S1000x64.size a := fun v1572 k0_hw86 => k0_hw86.2.2.2

def k0_off306 (v1590 : BitVec 32) : Fin 2 → Nat :=
  let v1591 : Index := Scalar.indexCast v1590
  let c0_420 : Index := 0#32
  ![v1591.toNat, 0]

def k0_off307 (v1590 : BitVec 32) : Fin 2 → Nat :=
  let v1595 : Index := Scalar.indexCast v1590
  let c16_421 : Index := 16#32
  ![v1595.toNat, 16]
def k0_off308 (v1590 : BitVec 32) : Fin 2 → Nat :=
  let v1599 : Index := Scalar.indexCast v1590
  let c32_422 : Index := 32#32
  ![v1599.toNat, 32]
def k0_off309 (v1590 : BitVec 32) : Fin 2 → Nat :=
  let v1603 : Index := Scalar.indexCast v1590
  let c48_423 : Index := 48#32
  ![v1603.toNat, 48]

def k0_chk87 (v1590 : BitVec 32) : Prop :=
  (∀ a, (k0_off306 v1590) a + S1x16.size a ≤ S1000x64.size a) ∧
  (∀ a, (k0_off307 v1590) a + S1x16.size a ≤ S1000x64.size a) ∧
  (∀ a, (k0_off308 v1590) a + S1x16.size a ≤ S1000x64.size a) ∧
  (∀ a, (k0_off309 v1590) a + S1x16.size a ≤ S1000x64.size a)
theorem k0_off306_inb : ∀ (v1590 : BitVec 32) (k0_hw87 : k0_chk87 v1590), ∀ a, (k0_off306 v1590) a + S1x16.size a ≤ S1000x64.size a := fun v1590 k0_hw87 => k0_hw87.1
theorem k0_off307_inb : ∀ (v1590 : BitVec 32) (k0_hw87 : k0_chk87 v1590), ∀ a, (k0_off307 v1590) a + S1x16.size a ≤ S1000x64.size a := fun v1590 k0_hw87 => k0_hw87.2.1
theorem k0_off308_inb : ∀ (v1590 : BitVec 32) (k0_hw87 : k0_chk87 v1590), ∀ a, (k0_off308 v1590) a + S1x16.size a ≤ S1000x64.size a := fun v1590 k0_hw87 => k0_hw87.2.2.1
theorem k0_off309_inb : ∀ (v1590 : BitVec 32) (k0_hw87 : k0_chk87 v1590), ∀ a, (k0_off309 v1590) a + S1x16.size a ≤ S1000x64.size a := fun v1590 k0_hw87 => k0_hw87.2.2.2

def k0_off310 (v1608 : BitVec 32) : Fin 2 → Nat :=
  let v1609 : Index := Scalar.indexCast v1608
  let c0_424 : Index := 0#32
  ![v1609.toNat, 0]

def k0_off311 (v1608 : BitVec 32) : Fin 2 → Nat :=
  let v1613 : Index := Scalar.indexCast v1608
  let c16_425 : Index := 16#32
  ![v1613.toNat, 16]
def k0_off312 (v1608 : BitVec 32) : Fin 2 → Nat :=
  let v1617 : Index := Scalar.indexCast v1608
  let c32_426 : Index := 32#32
  ![v1617.toNat, 32]
def k0_off313 (v1608 : BitVec 32) : Fin 2 → Nat :=
  let v1621 : Index := Scalar.indexCast v1608
  let c48_427 : Index := 48#32
  ![v1621.toNat, 48]

def k0_chk88 (v1608 : BitVec 32) : Prop :=
  (∀ a, (k0_off310 v1608) a + S1x16.size a ≤ S1000x64.size a) ∧
  (∀ a, (k0_off311 v1608) a + S1x16.size a ≤ S1000x64.size a) ∧
  (∀ a, (k0_off312 v1608) a + S1x16.size a ≤ S1000x64.size a) ∧
  (∀ a, (k0_off313 v1608) a + S1x16.size a ≤ S1000x64.size a)
theorem k0_off310_inb : ∀ (v1608 : BitVec 32) (k0_hw88 : k0_chk88 v1608), ∀ a, (k0_off310 v1608) a + S1x16.size a ≤ S1000x64.size a := fun v1608 k0_hw88 => k0_hw88.1
theorem k0_off311_inb : ∀ (v1608 : BitVec 32) (k0_hw88 : k0_chk88 v1608), ∀ a, (k0_off311 v1608) a + S1x16.size a ≤ S1000x64.size a := fun v1608 k0_hw88 => k0_hw88.2.1
theorem k0_off312_inb : ∀ (v1608 : BitVec 32) (k0_hw88 : k0_chk88 v1608), ∀ a, (k0_off312 v1608) a + S1x16.size a ≤ S1000x64.size a := fun v1608 k0_hw88 => k0_hw88.2.2.1
theorem k0_off313_inb : ∀ (v1608 : BitVec 32) (k0_hw88 : k0_chk88 v1608), ∀ a, (k0_off313 v1608) a + S1x16.size a ≤ S1000x64.size a := fun v1608 k0_hw88 => k0_hw88.2.2.2

def k0_off314 (v1626 : BitVec 32) : Fin 2 → Nat :=
  let v1627 : Index := Scalar.indexCast v1626
  let c0_428 : Index := 0#32
  ![v1627.toNat, 0]

def k0_off315 (v1626 : BitVec 32) : Fin 2 → Nat :=
  let v1631 : Index := Scalar.indexCast v1626
  let c16_429 : Index := 16#32
  ![v1631.toNat, 16]
def k0_off316 (v1626 : BitVec 32) : Fin 2 → Nat :=
  let v1635 : Index := Scalar.indexCast v1626
  let c32_430 : Index := 32#32
  ![v1635.toNat, 32]
def k0_off317 (v1626 : BitVec 32) : Fin 2 → Nat :=
  let v1639 : Index := Scalar.indexCast v1626
  let c48_431 : Index := 48#32
  ![v1639.toNat, 48]

def k0_chk89 (v1626 : BitVec 32) : Prop :=
  (∀ a, (k0_off314 v1626) a + S1x16.size a ≤ S1000x64.size a) ∧
  (∀ a, (k0_off315 v1626) a + S1x16.size a ≤ S1000x64.size a) ∧
  (∀ a, (k0_off316 v1626) a + S1x16.size a ≤ S1000x64.size a) ∧
  (∀ a, (k0_off317 v1626) a + S1x16.size a ≤ S1000x64.size a)
theorem k0_off314_inb : ∀ (v1626 : BitVec 32) (k0_hw89 : k0_chk89 v1626), ∀ a, (k0_off314 v1626) a + S1x16.size a ≤ S1000x64.size a := fun v1626 k0_hw89 => k0_hw89.1
theorem k0_off315_inb : ∀ (v1626 : BitVec 32) (k0_hw89 : k0_chk89 v1626), ∀ a, (k0_off315 v1626) a + S1x16.size a ≤ S1000x64.size a := fun v1626 k0_hw89 => k0_hw89.2.1
theorem k0_off316_inb : ∀ (v1626 : BitVec 32) (k0_hw89 : k0_chk89 v1626), ∀ a, (k0_off316 v1626) a + S1x16.size a ≤ S1000x64.size a := fun v1626 k0_hw89 => k0_hw89.2.2.1
theorem k0_off317_inb : ∀ (v1626 : BitVec 32) (k0_hw89 : k0_chk89 v1626), ∀ a, (k0_off317 v1626) a + S1x16.size a ≤ S1000x64.size a := fun v1626 k0_hw89 => k0_hw89.2.2.2

def k0_off318 (v1644 : BitVec 32) : Fin 2 → Nat :=
  let v1645 : Index := Scalar.indexCast v1644
  let c0_432 : Index := 0#32
  ![v1645.toNat, 0]

def k0_off319 (v1644 : BitVec 32) : Fin 2 → Nat :=
  let v1649 : Index := Scalar.indexCast v1644
  let c16_433 : Index := 16#32
  ![v1649.toNat, 16]
def k0_off320 (v1644 : BitVec 32) : Fin 2 → Nat :=
  let v1653 : Index := Scalar.indexCast v1644
  let c32_434 : Index := 32#32
  ![v1653.toNat, 32]
def k0_off321 (v1644 : BitVec 32) : Fin 2 → Nat :=
  let v1657 : Index := Scalar.indexCast v1644
  let c48_435 : Index := 48#32
  ![v1657.toNat, 48]

def k0_chk90 (v1644 : BitVec 32) : Prop :=
  (∀ a, (k0_off318 v1644) a + S1x16.size a ≤ S1000x64.size a) ∧
  (∀ a, (k0_off319 v1644) a + S1x16.size a ≤ S1000x64.size a) ∧
  (∀ a, (k0_off320 v1644) a + S1x16.size a ≤ S1000x64.size a) ∧
  (∀ a, (k0_off321 v1644) a + S1x16.size a ≤ S1000x64.size a)
theorem k0_off318_inb : ∀ (v1644 : BitVec 32) (k0_hw90 : k0_chk90 v1644), ∀ a, (k0_off318 v1644) a + S1x16.size a ≤ S1000x64.size a := fun v1644 k0_hw90 => k0_hw90.1
theorem k0_off319_inb : ∀ (v1644 : BitVec 32) (k0_hw90 : k0_chk90 v1644), ∀ a, (k0_off319 v1644) a + S1x16.size a ≤ S1000x64.size a := fun v1644 k0_hw90 => k0_hw90.2.1
theorem k0_off320_inb : ∀ (v1644 : BitVec 32) (k0_hw90 : k0_chk90 v1644), ∀ a, (k0_off320 v1644) a + S1x16.size a ≤ S1000x64.size a := fun v1644 k0_hw90 => k0_hw90.2.2.1
theorem k0_off321_inb : ∀ (v1644 : BitVec 32) (k0_hw90 : k0_chk90 v1644), ∀ a, (k0_off321 v1644) a + S1x16.size a ≤ S1000x64.size a := fun v1644 k0_hw90 => k0_hw90.2.2.2

def k0_off322 (v1662 : BitVec 32) : Fin 2 → Nat :=
  let v1663 : Index := Scalar.indexCast v1662
  let c0_436 : Index := 0#32
  ![v1663.toNat, 0]

def k0_off323 (v1662 : BitVec 32) : Fin 2 → Nat :=
  let v1667 : Index := Scalar.indexCast v1662
  let c16_437 : Index := 16#32
  ![v1667.toNat, 16]
def k0_off324 (v1662 : BitVec 32) : Fin 2 → Nat :=
  let v1671 : Index := Scalar.indexCast v1662
  let c32_438 : Index := 32#32
  ![v1671.toNat, 32]
def k0_off325 (v1662 : BitVec 32) : Fin 2 → Nat :=
  let v1675 : Index := Scalar.indexCast v1662
  let c48_439 : Index := 48#32
  ![v1675.toNat, 48]

def k0_chk91 (v1662 : BitVec 32) : Prop :=
  (∀ a, (k0_off322 v1662) a + S1x16.size a ≤ S1000x64.size a) ∧
  (∀ a, (k0_off323 v1662) a + S1x16.size a ≤ S1000x64.size a) ∧
  (∀ a, (k0_off324 v1662) a + S1x16.size a ≤ S1000x64.size a) ∧
  (∀ a, (k0_off325 v1662) a + S1x16.size a ≤ S1000x64.size a)
theorem k0_off322_inb : ∀ (v1662 : BitVec 32) (k0_hw91 : k0_chk91 v1662), ∀ a, (k0_off322 v1662) a + S1x16.size a ≤ S1000x64.size a := fun v1662 k0_hw91 => k0_hw91.1
theorem k0_off323_inb : ∀ (v1662 : BitVec 32) (k0_hw91 : k0_chk91 v1662), ∀ a, (k0_off323 v1662) a + S1x16.size a ≤ S1000x64.size a := fun v1662 k0_hw91 => k0_hw91.2.1
theorem k0_off324_inb : ∀ (v1662 : BitVec 32) (k0_hw91 : k0_chk91 v1662), ∀ a, (k0_off324 v1662) a + S1x16.size a ≤ S1000x64.size a := fun v1662 k0_hw91 => k0_hw91.2.2.1
theorem k0_off325_inb : ∀ (v1662 : BitVec 32) (k0_hw91 : k0_chk91 v1662), ∀ a, (k0_off325 v1662) a + S1x16.size a ≤ S1000x64.size a := fun v1662 k0_hw91 => k0_hw91.2.2.2

def k0_off326 (v1680 : BitVec 32) : Fin 2 → Nat :=
  let v1681 : Index := Scalar.indexCast v1680
  let c0_440 : Index := 0#32
  ![v1681.toNat, 0]

def k0_off327 (v1680 : BitVec 32) : Fin 2 → Nat :=
  let v1685 : Index := Scalar.indexCast v1680
  let c16_441 : Index := 16#32
  ![v1685.toNat, 16]
def k0_off328 (v1680 : BitVec 32) : Fin 2 → Nat :=
  let v1689 : Index := Scalar.indexCast v1680
  let c32_442 : Index := 32#32
  ![v1689.toNat, 32]
def k0_off329 (v1680 : BitVec 32) : Fin 2 → Nat :=
  let v1693 : Index := Scalar.indexCast v1680
  let c48_443 : Index := 48#32
  ![v1693.toNat, 48]

def k0_chk92 (v1680 : BitVec 32) : Prop :=
  (∀ a, (k0_off326 v1680) a + S1x16.size a ≤ S1000x64.size a) ∧
  (∀ a, (k0_off327 v1680) a + S1x16.size a ≤ S1000x64.size a) ∧
  (∀ a, (k0_off328 v1680) a + S1x16.size a ≤ S1000x64.size a) ∧
  (∀ a, (k0_off329 v1680) a + S1x16.size a ≤ S1000x64.size a)
theorem k0_off326_inb : ∀ (v1680 : BitVec 32) (k0_hw92 : k0_chk92 v1680), ∀ a, (k0_off326 v1680) a + S1x16.size a ≤ S1000x64.size a := fun v1680 k0_hw92 => k0_hw92.1
theorem k0_off327_inb : ∀ (v1680 : BitVec 32) (k0_hw92 : k0_chk92 v1680), ∀ a, (k0_off327 v1680) a + S1x16.size a ≤ S1000x64.size a := fun v1680 k0_hw92 => k0_hw92.2.1
theorem k0_off328_inb : ∀ (v1680 : BitVec 32) (k0_hw92 : k0_chk92 v1680), ∀ a, (k0_off328 v1680) a + S1x16.size a ≤ S1000x64.size a := fun v1680 k0_hw92 => k0_hw92.2.2.1
theorem k0_off329_inb : ∀ (v1680 : BitVec 32) (k0_hw92 : k0_chk92 v1680), ∀ a, (k0_off329 v1680) a + S1x16.size a ≤ S1000x64.size a := fun v1680 k0_hw92 => k0_hw92.2.2.2

def k0_off330 (k0_t2 : Fin k0_t2_loop.trips) (c0_i32_447 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k0_t2
  let c1_i32_59 : BitVec 32 := 1#32
  let v102 : BitVec 32 := Scalar.muli arg16 c1_i32_59
  let v103 : BitVec 32 := Scalar.addi c0_i32_60 v102
  let c4_i32_445 : BitVec 32 := 4#32
  let v1699 : BitVec 32 := Scalar.muli v103 c4_i32_445
  let c3_i32 : BitVec 32 := 3#32
  let v1700 : BitVec 32 := Scalar.addi v1699 c3_i32
  let c64_i32_446 : BitVec 32 := 64#32
  let v1701 : BitVec 32 := Scalar.muli v1700 c64_i32_446
  let v1702 : BitVec 32 := Scalar.addi v1701 c0_i32_447
  let v1703 : Index := Scalar.indexCast v1702
  ![v1703.toNat]
def k0_off331 (i : grid0.Coords) (k0_t1 : Fin k0_t1_loop.trips) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32_40 : BitVec 32 := 512#32
  let v72 : BitVec 32 := Scalar.muli v28 c512_i32_40
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let v58 : BitVec 32 := Scalar.addi v57 c0_i32_29
  let c16_i32_41 : BitVec 32 := 16#32
  let v73 : BitVec 32 := Scalar.muli v58 c16_i32_41
  let v74 : BitVec 32 := Scalar.addi v72 v73
  let c64_i32_42 : BitVec 32 := 64#32
  let v75 : BitVec 32 := Scalar.muli v74 c64_i32_42
  ![v11.toNat, v75.toNat]
def k0_cond3 (k0_t1 : Fin k0_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_44 : BitVec 32 := 2#32
  let v81 : BitVec 32 := Scalar.addi v80 c2_i32_44
  let c1_i32_45 : BitVec 32 := 1#32
  let v82 : BitVec 32 := Scalar.subi v81 c1_i32_45
  let c32_i32_46 : BitVec 32 := 32#32
  let v83 : BitVec 1 := Scalar.cmpi .slt v82 c32_i32_46
  let v84 : BitVec 32 := Scalar.extui v83
  let c0_i32_47 : BitVec 32 := 0#32
  let v85 : BitVec 1 := Scalar.cmpi .ne v84 c0_i32_47
  v85

def k0_off332 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_59 : BitVec 32 := 2#32
  let v102 : BitVec 32 := Scalar.addi v80 c2_i32_59
  let c1_i32_60 : BitVec 32 := 1#32
  let v103 : BitVec 32 := Scalar.subi v102 c1_i32_60
  let c0_i32_61 : BitVec 32 := 0#32
  ![v28.toNat, v103.toNat, 0]
def k0_cond4 (k0_t1 : Fin k0_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_50 : BitVec 32 := 2#32
  let v90 : BitVec 1 := Scalar.cmpi .sge v80 c2_i32_50
  let v91 : BitVec 32 := Scalar.extui v90
  let c0_i32_51 : BitVec 32 := 0#32
  let v92 : BitVec 1 := Scalar.cmpi .ne v91 c0_i32_51
  v92

def k0_off333 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32_60 : BitVec 32 := 512#32
  let v103 : BitVec 32 := Scalar.muli v28 c512_i32_60
  let c0_i32_28 : BitVec 32 := 0#32
  let c0_i32_22 : BitVec 32 := 0#32
  let c1_i32_23 : BitVec 32 := 1#32
  let arg15 : BitVec 32 := Scf.iv c0_i32_22 c1_i32_23 k0_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_59 : BitVec 32 := 2#32
  let v102 : BitVec 32 := Scalar.subi v80 c2_i32_59
  let c16_i32_61 : BitVec 32 := 16#32
  let v104 : BitVec 32 := Scalar.muli v102 c16_i32_61
  let v105 : BitVec 32 := Scalar.addi v103 v104
  let c64_i32_62 : BitVec 32 := 64#32
  let v106 : BitVec 32 := Scalar.muli v105 c64_i32_62
  ![v11.toNat, v106.toNat]
@[reducible] def k0_t3_loop : Scf.Loop 32 :=
  let c0_i32_52 : BitVec 32 := 0#32
  let c4_i32_53 : BitVec 32 := 4#32
  let v93 : BitVec 32 := Scalar.addi c0_i32_52 c4_i32_53
  let c1_i32_54 : BitVec 32 := 1#32
  ⟨c0_i32_52, v93, c1_i32_54⟩
def k0_off334 (k0_t3 : Fin k0_t3_loop.trips) (c0_i32_61 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k0_t3
  let c1_i32_59 : BitVec 32 := 1#32
  let v102 : BitVec 32 := Scalar.muli arg16 c1_i32_59
  let v103 : BitVec 32 := Scalar.addi c0_i32_60 v102
  let c80_i32 : BitVec 32 := 80#32
  let v104 : BitVec 32 := Scalar.muli v103 c80_i32
  let v105 : BitVec 32 := Scalar.addi v104 c0_i32_61
  let v106 : Index := Scalar.indexCast v105
  ![v106.toNat]
def k0_off335 (v130 : BitVec 32) : Fin 2 → Nat :=
  let v131 : Index := Scalar.indexCast v130
  let c0 : Index := 0#32
  ![v131.toNat, 0]

def k0_chk93 (v130 : BitVec 32) : Prop :=
  (∀ a, (k0_off335 v130) a + S1x16.size a ≤ S1000x64.size a)
theorem k0_off335_inb : ∀ (v130 : BitVec 32) (k0_hw93 : k0_chk93 v130), ∀ a, (k0_off335 v130) a + S1x16.size a ≤ S1000x64.size a := fun v130 k0_hw93 => k0_hw93

def k0_off336 (v135 : BitVec 32) : Fin 2 → Nat :=
  let v136 : Index := Scalar.indexCast v135
  let c16 : Index := 16#32
  ![v136.toNat, 16]

def k0_chk94 (v135 : BitVec 32) : Prop :=
  (∀ a, (k0_off336 v135) a + S1x16.size a ≤ S1000x64.size a)
theorem k0_off336_inb : ∀ (v135 : BitVec 32) (k0_hw94 : k0_chk94 v135), ∀ a, (k0_off336 v135) a + S1x16.size a ≤ S1000x64.size a := fun v135 k0_hw94 => k0_hw94

def k0_off337 (v140 : BitVec 32) : Fin 2 → Nat :=
  let v141 : Index := Scalar.indexCast v140
  let c32 : Index := 32#32
  ![v141.toNat, 32]

def k0_chk95 (v140 : BitVec 32) : Prop :=
  (∀ a, (k0_off337 v140) a + S1x16.size a ≤ S1000x64.size a)
theorem k0_off337_inb : ∀ (v140 : BitVec 32) (k0_hw95 : k0_chk95 v140), ∀ a, (k0_off337 v140) a + S1x16.size a ≤ S1000x64.size a := fun v140 k0_hw95 => k0_hw95

def k0_off338 (v145 : BitVec 32) : Fin 2 → Nat :=
  let v146 : Index := Scalar.indexCast v145
  let c48 : Index := 48#32
  ![v146.toNat, 48]

def k0_chk96 (v145 : BitVec 32) : Prop :=
  (∀ a, (k0_off338 v145) a + S1x16.size a ≤ S1000x64.size a)
theorem k0_off338_inb : ∀ (v145 : BitVec 32) (k0_hw96 : k0_chk96 v145), ∀ a, (k0_off338 v145) a + S1x16.size a ≤ S1000x64.size a := fun v145 k0_hw96 => k0_hw96

def k0_off339 (v150 : BitVec 32) : Fin 2 → Nat :=
  let v151 : Index := Scalar.indexCast v150
  let c0_69 : Index := 0#32
  ![v151.toNat, 0]

def k0_off340 (v150 : BitVec 32) : Fin 2 → Nat :=
  let v155 : Index := Scalar.indexCast v150
  let c16_70 : Index := 16#32
  ![v155.toNat, 16]
def k0_off341 (v150 : BitVec 32) : Fin 2 → Nat :=
  let v159 : Index := Scalar.indexCast v150
  let c32_71 : Index := 32#32
  ![v159.toNat, 32]
def k0_off342 (v150 : BitVec 32) : Fin 2 → Nat :=
  let v163 : Index := Scalar.indexCast v150
  let c48_72 : Index := 48#32
  ![v163.toNat, 48]

def k0_chk97 (v150 : BitVec 32) : Prop :=
  (∀ a, (k0_off339 v150) a + S1x16.size a ≤ S1000x64.size a) ∧
  (∀ a, (k0_off340 v150) a + S1x16.size a ≤ S1000x64.size a) ∧
  (∀ a, (k0_off341 v150) a + S1x16.size a ≤ S1000x64.size a) ∧
  (∀ a, (k0_off342 v150) a + S1x16.size a ≤ S1000x64.size a)
theorem k0_off339_inb : ∀ (v150 : BitVec 32) (k0_hw97 : k0_chk97 v150), ∀ a, (k0_off339 v150) a + S1x16.size a ≤ S1000x64.size a := fun v150 k0_hw97 => k0_hw97.1
theorem k0_off340_inb : ∀ (v150 : BitVec 32) (k0_hw97 : k0_chk97 v150), ∀ a, (k0_off340 v150) a + S1x16.size a ≤ S1000x64.size a := fun v150 k0_hw97 => k0_hw97.2.1
theorem k0_off341_inb : ∀ (v150 : BitVec 32) (k0_hw97 : k0_chk97 v150), ∀ a, (k0_off341 v150) a + S1x16.size a ≤ S1000x64.size a := fun v150 k0_hw97 => k0_hw97.2.2.1
theorem k0_off342_inb : ∀ (v150 : BitVec 32) (k0_hw97 : k0_chk97 v150), ∀ a, (k0_off342 v150) a + S1x16.size a ≤ S1000x64.size a := fun v150 k0_hw97 => k0_hw97.2.2.2

def k0_off343 (v168 : BitVec 32) : Fin 2 → Nat :=
  let v169 : Index := Scalar.indexCast v168
  let c0_73 : Index := 0#32
  ![v169.toNat, 0]

def k0_off344 (v168 : BitVec 32) : Fin 2 → Nat :=
  let v173 : Index := Scalar.indexCast v168
  let c16_74 : Index := 16#32
  ![v173.toNat, 16]
def k0_off345 (v168 : BitVec 32) : Fin 2 → Nat :=
  let v177 : Index := Scalar.indexCast v168
  let c32_75 : Index := 32#32
  ![v177.toNat, 32]
def k0_off346 (v168 : BitVec 32) : Fin 2 → Nat :=
  let v181 : Index := Scalar.indexCast v168
  let c48_76 : Index := 48#32
  ![v181.toNat, 48]

def k0_chk98 (v168 : BitVec 32) : Prop :=
  (∀ a, (k0_off343 v168) a + S1x16.size a ≤ S1000x64.size a) ∧
  (∀ a, (k0_off344 v168) a + S1x16.size a ≤ S1000x64.size a) ∧
  (∀ a, (k0_off345 v168) a + S1x16.size a ≤ S1000x64.size a) ∧
  (∀ a, (k0_off346 v168) a + S1x16.size a ≤ S1000x64.size a)
theorem k0_off343_inb : ∀ (v168 : BitVec 32) (k0_hw98 : k0_chk98 v168), ∀ a, (k0_off343 v168) a + S1x16.size a ≤ S1000x64.size a := fun v168 k0_hw98 => k0_hw98.1
theorem k0_off344_inb : ∀ (v168 : BitVec 32) (k0_hw98 : k0_chk98 v168), ∀ a, (k0_off344 v168) a + S1x16.size a ≤ S1000x64.size a := fun v168 k0_hw98 => k0_hw98.2.1
theorem k0_off345_inb : ∀ (v168 : BitVec 32) (k0_hw98 : k0_chk98 v168), ∀ a, (k0_off345 v168) a + S1x16.size a ≤ S1000x64.size a := fun v168 k0_hw98 => k0_hw98.2.2.1
theorem k0_off346_inb : ∀ (v168 : BitVec 32) (k0_hw98 : k0_chk98 v168), ∀ a, (k0_off346 v168) a + S1x16.size a ≤ S1000x64.size a := fun v168 k0_hw98 => k0_hw98.2.2.2

def k0_off347 (v186 : BitVec 32) : Fin 2 → Nat :=
  let v187 : Index := Scalar.indexCast v186
  let c0_77 : Index := 0#32
  ![v187.toNat, 0]

def k0_off348 (v186 : BitVec 32) : Fin 2 → Nat :=
  let v191 : Index := Scalar.indexCast v186
  let c16_78 : Index := 16#32
  ![v191.toNat, 16]
def k0_off349 (v186 : BitVec 32) : Fin 2 → Nat :=
  let v195 : Index := Scalar.indexCast v186
  let c32_79 : Index := 32#32
  ![v195.toNat, 32]
def k0_off350 (v186 : BitVec 32) : Fin 2 → Nat :=
  let v199 : Index := Scalar.indexCast v186
  let c48_80 : Index := 48#32
  ![v199.toNat, 48]

def k0_chk99 (v186 : BitVec 32) : Prop :=
  (∀ a, (k0_off347 v186) a + S1x16.size a ≤ S1000x64.size a) ∧
  (∀ a, (k0_off348 v186) a + S1x16.size a ≤ S1000x64.size a) ∧
  (∀ a, (k0_off349 v186) a + S1x16.size a ≤ S1000x64.size a) ∧
  (∀ a, (k0_off350 v186) a + S1x16.size a ≤ S1000x64.size a)
theorem k0_off347_inb : ∀ (v186 : BitVec 32) (k0_hw99 : k0_chk99 v186), ∀ a, (k0_off347 v186) a + S1x16.size a ≤ S1000x64.size a := fun v186 k0_hw99 => k0_hw99.1
theorem k0_off348_inb : ∀ (v186 : BitVec 32) (k0_hw99 : k0_chk99 v186), ∀ a, (k0_off348 v186) a + S1x16.size a ≤ S1000x64.size a := fun v186 k0_hw99 => k0_hw99.2.1
theorem k0_off349_inb : ∀ (v186 : BitVec 32) (k0_hw99 : k0_chk99 v186), ∀ a, (k0_off349 v186) a + S1x16.size a ≤ S1000x64.size a := fun v186 k0_hw99 => k0_hw99.2.2.1
theorem k0_off350_inb : ∀ (v186 : BitVec 32) (k0_hw99 : k0_chk99 v186), ∀ a, (k0_off350 v186) a + S1x16.size a ≤ S1000x64.size a := fun v186 k0_hw99 => k0_hw99.2.2.2

def k0_off351 (v204 : BitVec 32) : Fin 2 → Nat :=
  let v205 : Index := Scalar.indexCast v204
  let c0_81 : Index := 0#32
  ![v205.toNat, 0]

def k0_off352 (v204 : BitVec 32) : Fin 2 → Nat :=
  let v209 : Index := Scalar.indexCast v204
  let c16_82 : Index := 16#32
  ![v209.toNat, 16]
def k0_off353 (v204 : BitVec 32) : Fin 2 → Nat :=
  let v213 : Index := Scalar.indexCast v204
  let c32_83 : Index := 32#32
  ![v213.toNat, 32]
def k0_off354 (v204 : BitVec 32) : Fin 2 → Nat :=
  let v217 : Index := Scalar.indexCast v204
  let c48_84 : Index := 48#32
  ![v217.toNat, 48]

def k0_chk100 (v204 : BitVec 32) : Prop :=
  (∀ a, (k0_off351 v204) a + S1x16.size a ≤ S1000x64.size a) ∧
  (∀ a, (k0_off352 v204) a + S1x16.size a ≤ S1000x64.size a) ∧
  (∀ a, (k0_off353 v204) a + S1x16.size a ≤ S1000x64.size a) ∧
  (∀ a, (k0_off354 v204) a + S1x16.size a ≤ S1000x64.size a)
theorem k0_off351_inb : ∀ (v204 : BitVec 32) (k0_hw100 : k0_chk100 v204), ∀ a, (k0_off351 v204) a + S1x16.size a ≤ S1000x64.size a := fun v204 k0_hw100 => k0_hw100.1
theorem k0_off352_inb : ∀ (v204 : BitVec 32) (k0_hw100 : k0_chk100 v204), ∀ a, (k0_off352 v204) a + S1x16.size a ≤ S1000x64.size a := fun v204 k0_hw100 => k0_hw100.2.1
theorem k0_off353_inb : ∀ (v204 : BitVec 32) (k0_hw100 : k0_chk100 v204), ∀ a, (k0_off353 v204) a + S1x16.size a ≤ S1000x64.size a := fun v204 k0_hw100 => k0_hw100.2.2.1
theorem k0_off354_inb : ∀ (v204 : BitVec 32) (k0_hw100 : k0_chk100 v204), ∀ a, (k0_off354 v204) a + S1x16.size a ≤ S1000x64.size a := fun v204 k0_hw100 => k0_hw100.2.2.2

def k0_off355 (v222 : BitVec 32) : Fin 2 → Nat :=
  let v223 : Index := Scalar.indexCast v222
  let c0_85 : Index := 0#32
  ![v223.toNat, 0]

def k0_off356 (v222 : BitVec 32) : Fin 2 → Nat :=
  let v227 : Index := Scalar.indexCast v222
  let c16_86 : Index := 16#32
  ![v227.toNat, 16]
def k0_off357 (v222 : BitVec 32) : Fin 2 → Nat :=
  let v231 : Index := Scalar.indexCast v222
  let c32_87 : Index := 32#32
  ![v231.toNat, 32]
def k0_off358 (v222 : BitVec 32) : Fin 2 → Nat :=
  let v235 : Index := Scalar.indexCast v222
  let c48_88 : Index := 48#32
  ![v235.toNat, 48]

def k0_chk101 (v222 : BitVec 32) : Prop :=
  (∀ a, (k0_off355 v222) a + S1x16.size a ≤ S1000x64.size a) ∧
  (∀ a, (k0_off356 v222) a + S1x16.size a ≤ S1000x64.size a) ∧
  (∀ a, (k0_off357 v222) a + S1x16.size a ≤ S1000x64.size a) ∧
  (∀ a, (k0_off358 v222) a + S1x16.size a ≤ S1000x64.size a)
theorem k0_off355_inb : ∀ (v222 : BitVec 32) (k0_hw101 : k0_chk101 v222), ∀ a, (k0_off355 v222) a + S1x16.size a ≤ S1000x64.size a := fun v222 k0_hw101 => k0_hw101.1
theorem k0_off356_inb : ∀ (v222 : BitVec 32) (k0_hw101 : k0_chk101 v222), ∀ a, (k0_off356 v222) a + S1x16.size a ≤ S1000x64.size a := fun v222 k0_hw101 => k0_hw101.2.1
theorem k0_off357_inb : ∀ (v222 : BitVec 32) (k0_hw101 : k0_chk101 v222), ∀ a, (k0_off357 v222) a + S1x16.size a ≤ S1000x64.size a := fun v222 k0_hw101 => k0_hw101.2.2.1
theorem k0_off358_inb : ∀ (v222 : BitVec 32) (k0_hw101 : k0_chk101 v222), ∀ a, (k0_off358 v222) a + S1x16.size a ≤ S1000x64.size a := fun v222 k0_hw101 => k0_hw101.2.2.2

def k0_off359 (v240 : BitVec 32) : Fin 2 → Nat :=
  let v241 : Index := Scalar.indexCast v240
  let c0_89 : Index := 0#32
  ![v241.toNat, 0]

def k0_off360 (v240 : BitVec 32) : Fin 2 → Nat :=
  let v245 : Index := Scalar.indexCast v240
  let c16_90 : Index := 16#32
  ![v245.toNat, 16]
def k0_off361 (v240 : BitVec 32) : Fin 2 → Nat :=
  let v249 : Index := Scalar.indexCast v240
  let c32_91 : Index := 32#32
  ![v249.toNat, 32]
def k0_off362 (v240 : BitVec 32) : Fin 2 → Nat :=
  let v253 : Index := Scalar.indexCast v240
  let c48_92 : Index := 48#32
  ![v253.toNat, 48]

def k0_chk102 (v240 : BitVec 32) : Prop :=
  (∀ a, (k0_off359 v240) a + S1x16.size a ≤ S1000x64.size a) ∧
  (∀ a, (k0_off360 v240) a + S1x16.size a ≤ S1000x64.size a) ∧
  (∀ a, (k0_off361 v240) a + S1x16.size a ≤ S1000x64.size a) ∧
  (∀ a, (k0_off362 v240) a + S1x16.size a ≤ S1000x64.size a)
theorem k0_off359_inb : ∀ (v240 : BitVec 32) (k0_hw102 : k0_chk102 v240), ∀ a, (k0_off359 v240) a + S1x16.size a ≤ S1000x64.size a := fun v240 k0_hw102 => k0_hw102.1
theorem k0_off360_inb : ∀ (v240 : BitVec 32) (k0_hw102 : k0_chk102 v240), ∀ a, (k0_off360 v240) a + S1x16.size a ≤ S1000x64.size a := fun v240 k0_hw102 => k0_hw102.2.1
theorem k0_off361_inb : ∀ (v240 : BitVec 32) (k0_hw102 : k0_chk102 v240), ∀ a, (k0_off361 v240) a + S1x16.size a ≤ S1000x64.size a := fun v240 k0_hw102 => k0_hw102.2.2.1
theorem k0_off362_inb : ∀ (v240 : BitVec 32) (k0_hw102 : k0_chk102 v240), ∀ a, (k0_off362 v240) a + S1x16.size a ≤ S1000x64.size a := fun v240 k0_hw102 => k0_hw102.2.2.2

def k0_off363 (v258 : BitVec 32) : Fin 2 → Nat :=
  let v259 : Index := Scalar.indexCast v258
  let c0_93 : Index := 0#32
  ![v259.toNat, 0]

def k0_off364 (v258 : BitVec 32) : Fin 2 → Nat :=
  let v263 : Index := Scalar.indexCast v258
  let c16_94 : Index := 16#32
  ![v263.toNat, 16]
def k0_off365 (v258 : BitVec 32) : Fin 2 → Nat :=
  let v267 : Index := Scalar.indexCast v258
  let c32_95 : Index := 32#32
  ![v267.toNat, 32]
def k0_off366 (v258 : BitVec 32) : Fin 2 → Nat :=
  let v271 : Index := Scalar.indexCast v258
  let c48_96 : Index := 48#32
  ![v271.toNat, 48]

def k0_chk103 (v258 : BitVec 32) : Prop :=
  (∀ a, (k0_off363 v258) a + S1x16.size a ≤ S1000x64.size a) ∧
  (∀ a, (k0_off364 v258) a + S1x16.size a ≤ S1000x64.size a) ∧
  (∀ a, (k0_off365 v258) a + S1x16.size a ≤ S1000x64.size a) ∧
  (∀ a, (k0_off366 v258) a + S1x16.size a ≤ S1000x64.size a)
theorem k0_off363_inb : ∀ (v258 : BitVec 32) (k0_hw103 : k0_chk103 v258), ∀ a, (k0_off363 v258) a + S1x16.size a ≤ S1000x64.size a := fun v258 k0_hw103 => k0_hw103.1
theorem k0_off364_inb : ∀ (v258 : BitVec 32) (k0_hw103 : k0_chk103 v258), ∀ a, (k0_off364 v258) a + S1x16.size a ≤ S1000x64.size a := fun v258 k0_hw103 => k0_hw103.2.1
theorem k0_off365_inb : ∀ (v258 : BitVec 32) (k0_hw103 : k0_chk103 v258), ∀ a, (k0_off365 v258) a + S1x16.size a ≤ S1000x64.size a := fun v258 k0_hw103 => k0_hw103.2.2.1
theorem k0_off366_inb : ∀ (v258 : BitVec 32) (k0_hw103 : k0_chk103 v258), ∀ a, (k0_off366 v258) a + S1x16.size a ≤ S1000x64.size a := fun v258 k0_hw103 => k0_hw103.2.2.2

def k0_off367 (v276 : BitVec 32) : Fin 2 → Nat :=
  let v277 : Index := Scalar.indexCast v276
  let c0_97 : Index := 0#32
  ![v277.toNat, 0]

def k0_off368 (v276 : BitVec 32) : Fin 2 → Nat :=
  let v281 : Index := Scalar.indexCast v276
  let c16_98 : Index := 16#32
  ![v281.toNat, 16]
def k0_off369 (v276 : BitVec 32) : Fin 2 → Nat :=
  let v285 : Index := Scalar.indexCast v276
  let c32_99 : Index := 32#32
  ![v285.toNat, 32]
def k0_off370 (v276 : BitVec 32) : Fin 2 → Nat :=
  let v289 : Index := Scalar.indexCast v276
  let c48_100 : Index := 48#32
  ![v289.toNat, 48]

def k0_chk104 (v276 : BitVec 32) : Prop :=
  (∀ a, (k0_off367 v276) a + S1x16.size a ≤ S1000x64.size a) ∧
  (∀ a, (k0_off368 v276) a + S1x16.size a ≤ S1000x64.size a) ∧
  (∀ a, (k0_off369 v276) a + S1x16.size a ≤ S1000x64.size a) ∧
  (∀ a, (k0_off370 v276) a + S1x16.size a ≤ S1000x64.size a)
theorem k0_off367_inb : ∀ (v276 : BitVec 32) (k0_hw104 : k0_chk104 v276), ∀ a, (k0_off367 v276) a + S1x16.size a ≤ S1000x64.size a := fun v276 k0_hw104 => k0_hw104.1
theorem k0_off368_inb : ∀ (v276 : BitVec 32) (k0_hw104 : k0_chk104 v276), ∀ a, (k0_off368 v276) a + S1x16.size a ≤ S1000x64.size a := fun v276 k0_hw104 => k0_hw104.2.1
theorem k0_off369_inb : ∀ (v276 : BitVec 32) (k0_hw104 : k0_chk104 v276), ∀ a, (k0_off369 v276) a + S1x16.size a ≤ S1000x64.size a := fun v276 k0_hw104 => k0_hw104.2.2.1
theorem k0_off370_inb : ∀ (v276 : BitVec 32) (k0_hw104 : k0_chk104 v276), ∀ a, (k0_off370 v276) a + S1x16.size a ≤ S1000x64.size a := fun v276 k0_hw104 => k0_hw104.2.2.2

def k0_off371 (v294 : BitVec 32) : Fin 2 → Nat :=
  let v295 : Index := Scalar.indexCast v294
  let c0_101 : Index := 0#32
  ![v295.toNat, 0]

def k0_off372 (v294 : BitVec 32) : Fin 2 → Nat :=
  let v299 : Index := Scalar.indexCast v294
  let c16_102 : Index := 16#32
  ![v299.toNat, 16]
def k0_off373 (v294 : BitVec 32) : Fin 2 → Nat :=
  let v303 : Index := Scalar.indexCast v294
  let c32_103 : Index := 32#32
  ![v303.toNat, 32]
def k0_off374 (v294 : BitVec 32) : Fin 2 → Nat :=
  let v307 : Index := Scalar.indexCast v294
  let c48_104 : Index := 48#32
  ![v307.toNat, 48]

def k0_chk105 (v294 : BitVec 32) : Prop :=
  (∀ a, (k0_off371 v294) a + S1x16.size a ≤ S1000x64.size a) ∧
  (∀ a, (k0_off372 v294) a + S1x16.size a ≤ S1000x64.size a) ∧
  (∀ a, (k0_off373 v294) a + S1x16.size a ≤ S1000x64.size a) ∧
  (∀ a, (k0_off374 v294) a + S1x16.size a ≤ S1000x64.size a)
theorem k0_off371_inb : ∀ (v294 : BitVec 32) (k0_hw105 : k0_chk105 v294), ∀ a, (k0_off371 v294) a + S1x16.size a ≤ S1000x64.size a := fun v294 k0_hw105 => k0_hw105.1
theorem k0_off372_inb : ∀ (v294 : BitVec 32) (k0_hw105 : k0_chk105 v294), ∀ a, (k0_off372 v294) a + S1x16.size a ≤ S1000x64.size a := fun v294 k0_hw105 => k0_hw105.2.1
theorem k0_off373_inb : ∀ (v294 : BitVec 32) (k0_hw105 : k0_chk105 v294), ∀ a, (k0_off373 v294) a + S1x16.size a ≤ S1000x64.size a := fun v294 k0_hw105 => k0_hw105.2.2.1
theorem k0_off374_inb : ∀ (v294 : BitVec 32) (k0_hw105 : k0_chk105 v294), ∀ a, (k0_off374 v294) a + S1x16.size a ≤ S1000x64.size a := fun v294 k0_hw105 => k0_hw105.2.2.2

def k0_off375 (v312 : BitVec 32) : Fin 2 → Nat :=
  let v313 : Index := Scalar.indexCast v312
  let c0_105 : Index := 0#32
  ![v313.toNat, 0]

def k0_off376 (v312 : BitVec 32) : Fin 2 → Nat :=
  let v317 : Index := Scalar.indexCast v312
  let c16_106 : Index := 16#32
  ![v317.toNat, 16]
def k0_off377 (v312 : BitVec 32) : Fin 2 → Nat :=
  let v321 : Index := Scalar.indexCast v312
  let c32_107 : Index := 32#32
  ![v321.toNat, 32]
def k0_off378 (v312 : BitVec 32) : Fin 2 → Nat :=
  let v325 : Index := Scalar.indexCast v312
  let c48_108 : Index := 48#32
  ![v325.toNat, 48]

def k0_chk106 (v312 : BitVec 32) : Prop :=
  (∀ a, (k0_off375 v312) a + S1x16.size a ≤ S1000x64.size a) ∧
  (∀ a, (k0_off376 v312) a + S1x16.size a ≤ S1000x64.size a) ∧
  (∀ a, (k0_off377 v312) a + S1x16.size a ≤ S1000x64.size a) ∧
  (∀ a, (k0_off378 v312) a + S1x16.size a ≤ S1000x64.size a)
theorem k0_off375_inb : ∀ (v312 : BitVec 32) (k0_hw106 : k0_chk106 v312), ∀ a, (k0_off375 v312) a + S1x16.size a ≤ S1000x64.size a := fun v312 k0_hw106 => k0_hw106.1
theorem k0_off376_inb : ∀ (v312 : BitVec 32) (k0_hw106 : k0_chk106 v312), ∀ a, (k0_off376 v312) a + S1x16.size a ≤ S1000x64.size a := fun v312 k0_hw106 => k0_hw106.2.1
theorem k0_off377_inb : ∀ (v312 : BitVec 32) (k0_hw106 : k0_chk106 v312), ∀ a, (k0_off377 v312) a + S1x16.size a ≤ S1000x64.size a := fun v312 k0_hw106 => k0_hw106.2.2.1
theorem k0_off378_inb : ∀ (v312 : BitVec 32) (k0_hw106 : k0_chk106 v312), ∀ a, (k0_off378 v312) a + S1x16.size a ≤ S1000x64.size a := fun v312 k0_hw106 => k0_hw106.2.2.2

def k0_off379 (v330 : BitVec 32) : Fin 2 → Nat :=
  let v331 : Index := Scalar.indexCast v330
  let c0_109 : Index := 0#32
  ![v331.toNat, 0]

def k0_off380 (v330 : BitVec 32) : Fin 2 → Nat :=
  let v335 : Index := Scalar.indexCast v330
  let c16_110 : Index := 16#32
  ![v335.toNat, 16]
def k0_off381 (v330 : BitVec 32) : Fin 2 → Nat :=
  let v339 : Index := Scalar.indexCast v330
  let c32_111 : Index := 32#32
  ![v339.toNat, 32]
def k0_off382 (v330 : BitVec 32) : Fin 2 → Nat :=
  let v343 : Index := Scalar.indexCast v330
  let c48_112 : Index := 48#32
  ![v343.toNat, 48]

def k0_chk107 (v330 : BitVec 32) : Prop :=
  (∀ a, (k0_off379 v330) a + S1x16.size a ≤ S1000x64.size a) ∧
  (∀ a, (k0_off380 v330) a + S1x16.size a ≤ S1000x64.size a) ∧
  (∀ a, (k0_off381 v330) a + S1x16.size a ≤ S1000x64.size a) ∧
  (∀ a, (k0_off382 v330) a + S1x16.size a ≤ S1000x64.size a)
theorem k0_off379_inb : ∀ (v330 : BitVec 32) (k0_hw107 : k0_chk107 v330), ∀ a, (k0_off379 v330) a + S1x16.size a ≤ S1000x64.size a := fun v330 k0_hw107 => k0_hw107.1
theorem k0_off380_inb : ∀ (v330 : BitVec 32) (k0_hw107 : k0_chk107 v330), ∀ a, (k0_off380 v330) a + S1x16.size a ≤ S1000x64.size a := fun v330 k0_hw107 => k0_hw107.2.1
theorem k0_off381_inb : ∀ (v330 : BitVec 32) (k0_hw107 : k0_chk107 v330), ∀ a, (k0_off381 v330) a + S1x16.size a ≤ S1000x64.size a := fun v330 k0_hw107 => k0_hw107.2.2.1
theorem k0_off382_inb : ∀ (v330 : BitVec 32) (k0_hw107 : k0_chk107 v330), ∀ a, (k0_off382 v330) a + S1x16.size a ≤ S1000x64.size a := fun v330 k0_hw107 => k0_hw107.2.2.2

def k0_off383 (v348 : BitVec 32) : Fin 2 → Nat :=
  let v349 : Index := Scalar.indexCast v348
  let c0_113 : Index := 0#32
  ![v349.toNat, 0]

def k0_off384 (v348 : BitVec 32) : Fin 2 → Nat :=
  let v353 : Index := Scalar.indexCast v348
  let c16_114 : Index := 16#32
  ![v353.toNat, 16]
def k0_off385 (v348 : BitVec 32) : Fin 2 → Nat :=
  let v357 : Index := Scalar.indexCast v348
  let c32_115 : Index := 32#32
  ![v357.toNat, 32]
def k0_off386 (v348 : BitVec 32) : Fin 2 → Nat :=
  let v361 : Index := Scalar.indexCast v348
  let c48_116 : Index := 48#32
  ![v361.toNat, 48]

def k0_chk108 (v348 : BitVec 32) : Prop :=
  (∀ a, (k0_off383 v348) a + S1x16.size a ≤ S1000x64.size a) ∧
  (∀ a, (k0_off384 v348) a + S1x16.size a ≤ S1000x64.size a) ∧
  (∀ a, (k0_off385 v348) a + S1x16.size a ≤ S1000x64.size a) ∧
  (∀ a, (k0_off386 v348) a + S1x16.size a ≤ S1000x64.size a)
theorem k0_off383_inb : ∀ (v348 : BitVec 32) (k0_hw108 : k0_chk108 v348), ∀ a, (k0_off383 v348) a + S1x16.size a ≤ S1000x64.size a := fun v348 k0_hw108 => k0_hw108.1
theorem k0_off384_inb : ∀ (v348 : BitVec 32) (k0_hw108 : k0_chk108 v348), ∀ a, (k0_off384 v348) a + S1x16.size a ≤ S1000x64.size a := fun v348 k0_hw108 => k0_hw108.2.1
theorem k0_off385_inb : ∀ (v348 : BitVec 32) (k0_hw108 : k0_chk108 v348), ∀ a, (k0_off385 v348) a + S1x16.size a ≤ S1000x64.size a := fun v348 k0_hw108 => k0_hw108.2.2.1
theorem k0_off386_inb : ∀ (v348 : BitVec 32) (k0_hw108 : k0_chk108 v348), ∀ a, (k0_off386 v348) a + S1x16.size a ≤ S1000x64.size a := fun v348 k0_hw108 => k0_hw108.2.2.2

def k0_off387 (v366 : BitVec 32) : Fin 2 → Nat :=
  let v367 : Index := Scalar.indexCast v366
  let c0_117 : Index := 0#32
  ![v367.toNat, 0]

def k0_off388 (v366 : BitVec 32) : Fin 2 → Nat :=
  let v371 : Index := Scalar.indexCast v366
  let c16_118 : Index := 16#32
  ![v371.toNat, 16]
def k0_off389 (v366 : BitVec 32) : Fin 2 → Nat :=
  let v375 : Index := Scalar.indexCast v366
  let c32_119 : Index := 32#32
  ![v375.toNat, 32]
def k0_off390 (v366 : BitVec 32) : Fin 2 → Nat :=
  let v379 : Index := Scalar.indexCast v366
  let c48_120 : Index := 48#32
  ![v379.toNat, 48]

def k0_chk109 (v366 : BitVec 32) : Prop :=
  (∀ a, (k0_off387 v366) a + S1x16.size a ≤ S1000x64.size a) ∧
  (∀ a, (k0_off388 v366) a + S1x16.size a ≤ S1000x64.size a) ∧
  (∀ a, (k0_off389 v366) a + S1x16.size a ≤ S1000x64.size a) ∧
  (∀ a, (k0_off390 v366) a + S1x16.size a ≤ S1000x64.size a)
theorem k0_off387_inb : ∀ (v366 : BitVec 32) (k0_hw109 : k0_chk109 v366), ∀ a, (k0_off387 v366) a + S1x16.size a ≤ S1000x64.size a := fun v366 k0_hw109 => k0_hw109.1
theorem k0_off388_inb : ∀ (v366 : BitVec 32) (k0_hw109 : k0_chk109 v366), ∀ a, (k0_off388 v366) a + S1x16.size a ≤ S1000x64.size a := fun v366 k0_hw109 => k0_hw109.2.1
theorem k0_off389_inb : ∀ (v366 : BitVec 32) (k0_hw109 : k0_chk109 v366), ∀ a, (k0_off389 v366) a + S1x16.size a ≤ S1000x64.size a := fun v366 k0_hw109 => k0_hw109.2.2.1
theorem k0_off390_inb : ∀ (v366 : BitVec 32) (k0_hw109 : k0_chk109 v366), ∀ a, (k0_off390 v366) a + S1x16.size a ≤ S1000x64.size a := fun v366 k0_hw109 => k0_hw109.2.2.2

def k0_off391 (v384 : BitVec 32) : Fin 2 → Nat :=
  let v385 : Index := Scalar.indexCast v384
  let c0_121 : Index := 0#32
  ![v385.toNat, 0]

def k0_off392 (v384 : BitVec 32) : Fin 2 → Nat :=
  let v389 : Index := Scalar.indexCast v384
  let c16_122 : Index := 16#32
  ![v389.toNat, 16]
def k0_off393 (v384 : BitVec 32) : Fin 2 → Nat :=
  let v393 : Index := Scalar.indexCast v384
  let c32_123 : Index := 32#32
  ![v393.toNat, 32]
def k0_off394 (v384 : BitVec 32) : Fin 2 → Nat :=
  let v397 : Index := Scalar.indexCast v384
  let c48_124 : Index := 48#32
  ![v397.toNat, 48]

def k0_chk110 (v384 : BitVec 32) : Prop :=
  (∀ a, (k0_off391 v384) a + S1x16.size a ≤ S1000x64.size a) ∧
  (∀ a, (k0_off392 v384) a + S1x16.size a ≤ S1000x64.size a) ∧
  (∀ a, (k0_off393 v384) a + S1x16.size a ≤ S1000x64.size a) ∧
  (∀ a, (k0_off394 v384) a + S1x16.size a ≤ S1000x64.size a)
theorem k0_off391_inb : ∀ (v384 : BitVec 32) (k0_hw110 : k0_chk110 v384), ∀ a, (k0_off391 v384) a + S1x16.size a ≤ S1000x64.size a := fun v384 k0_hw110 => k0_hw110.1
theorem k0_off392_inb : ∀ (v384 : BitVec 32) (k0_hw110 : k0_chk110 v384), ∀ a, (k0_off392 v384) a + S1x16.size a ≤ S1000x64.size a := fun v384 k0_hw110 => k0_hw110.2.1
theorem k0_off393_inb : ∀ (v384 : BitVec 32) (k0_hw110 : k0_chk110 v384), ∀ a, (k0_off393 v384) a + S1x16.size a ≤ S1000x64.size a := fun v384 k0_hw110 => k0_hw110.2.2.1
theorem k0_off394_inb : ∀ (v384 : BitVec 32) (k0_hw110 : k0_chk110 v384), ∀ a, (k0_off394 v384) a + S1x16.size a ≤ S1000x64.size a := fun v384 k0_hw110 => k0_hw110.2.2.2

def k0_off395 (v402 : BitVec 32) : Fin 2 → Nat :=
  let v403 : Index := Scalar.indexCast v402
  let c0_125 : Index := 0#32
  ![v403.toNat, 0]

def k0_off396 (v402 : BitVec 32) : Fin 2 → Nat :=
  let v407 : Index := Scalar.indexCast v402
  let c16_126 : Index := 16#32
  ![v407.toNat, 16]
def k0_off397 (v402 : BitVec 32) : Fin 2 → Nat :=
  let v411 : Index := Scalar.indexCast v402
  let c32_127 : Index := 32#32
  ![v411.toNat, 32]
def k0_off398 (v402 : BitVec 32) : Fin 2 → Nat :=
  let v415 : Index := Scalar.indexCast v402
  let c48_128 : Index := 48#32
  ![v415.toNat, 48]

def k0_chk111 (v402 : BitVec 32) : Prop :=
  (∀ a, (k0_off395 v402) a + S1x16.size a ≤ S1000x64.size a) ∧
  (∀ a, (k0_off396 v402) a + S1x16.size a ≤ S1000x64.size a) ∧
  (∀ a, (k0_off397 v402) a + S1x16.size a ≤ S1000x64.size a) ∧
  (∀ a, (k0_off398 v402) a + S1x16.size a ≤ S1000x64.size a)
theorem k0_off395_inb : ∀ (v402 : BitVec 32) (k0_hw111 : k0_chk111 v402), ∀ a, (k0_off395 v402) a + S1x16.size a ≤ S1000x64.size a := fun v402 k0_hw111 => k0_hw111.1
theorem k0_off396_inb : ∀ (v402 : BitVec 32) (k0_hw111 : k0_chk111 v402), ∀ a, (k0_off396 v402) a + S1x16.size a ≤ S1000x64.size a := fun v402 k0_hw111 => k0_hw111.2.1
theorem k0_off397_inb : ∀ (v402 : BitVec 32) (k0_hw111 : k0_chk111 v402), ∀ a, (k0_off397 v402) a + S1x16.size a ≤ S1000x64.size a := fun v402 k0_hw111 => k0_hw111.2.2.1
theorem k0_off398_inb : ∀ (v402 : BitVec 32) (k0_hw111 : k0_chk111 v402), ∀ a, (k0_off398 v402) a + S1x16.size a ≤ S1000x64.size a := fun v402 k0_hw111 => k0_hw111.2.2.2

def k0_off399 (v420 : BitVec 32) : Fin 2 → Nat :=
  let v421 : Index := Scalar.indexCast v420
  let c0_129 : Index := 0#32
  ![v421.toNat, 0]

def k0_off400 (v420 : BitVec 32) : Fin 2 → Nat :=
  let v425 : Index := Scalar.indexCast v420
  let c16_130 : Index := 16#32
  ![v425.toNat, 16]
def k0_off401 (v420 : BitVec 32) : Fin 2 → Nat :=
  let v429 : Index := Scalar.indexCast v420
  let c32_131 : Index := 32#32
  ![v429.toNat, 32]
def k0_off402 (v420 : BitVec 32) : Fin 2 → Nat :=
  let v433 : Index := Scalar.indexCast v420
  let c48_132 : Index := 48#32
  ![v433.toNat, 48]

def k0_chk112 (v420 : BitVec 32) : Prop :=
  (∀ a, (k0_off399 v420) a + S1x16.size a ≤ S1000x64.size a) ∧
  (∀ a, (k0_off400 v420) a + S1x16.size a ≤ S1000x64.size a) ∧
  (∀ a, (k0_off401 v420) a + S1x16.size a ≤ S1000x64.size a) ∧
  (∀ a, (k0_off402 v420) a + S1x16.size a ≤ S1000x64.size a)
theorem k0_off399_inb : ∀ (v420 : BitVec 32) (k0_hw112 : k0_chk112 v420), ∀ a, (k0_off399 v420) a + S1x16.size a ≤ S1000x64.size a := fun v420 k0_hw112 => k0_hw112.1
theorem k0_off400_inb : ∀ (v420 : BitVec 32) (k0_hw112 : k0_chk112 v420), ∀ a, (k0_off400 v420) a + S1x16.size a ≤ S1000x64.size a := fun v420 k0_hw112 => k0_hw112.2.1
theorem k0_off401_inb : ∀ (v420 : BitVec 32) (k0_hw112 : k0_chk112 v420), ∀ a, (k0_off401 v420) a + S1x16.size a ≤ S1000x64.size a := fun v420 k0_hw112 => k0_hw112.2.2.1
theorem k0_off402_inb : ∀ (v420 : BitVec 32) (k0_hw112 : k0_chk112 v420), ∀ a, (k0_off402 v420) a + S1x16.size a ≤ S1000x64.size a := fun v420 k0_hw112 => k0_hw112.2.2.2

def k0_off403 (v438 : BitVec 32) : Fin 2 → Nat :=
  let v439 : Index := Scalar.indexCast v438
  let c0_133 : Index := 0#32
  ![v439.toNat, 0]

def k0_off404 (v438 : BitVec 32) : Fin 2 → Nat :=
  let v443 : Index := Scalar.indexCast v438
  let c16_134 : Index := 16#32
  ![v443.toNat, 16]
def k0_off405 (v438 : BitVec 32) : Fin 2 → Nat :=
  let v447 : Index := Scalar.indexCast v438
  let c32_135 : Index := 32#32
  ![v447.toNat, 32]
def k0_off406 (v438 : BitVec 32) : Fin 2 → Nat :=
  let v451 : Index := Scalar.indexCast v438
  let c48_136 : Index := 48#32
  ![v451.toNat, 48]

def k0_chk113 (v438 : BitVec 32) : Prop :=
  (∀ a, (k0_off403 v438) a + S1x16.size a ≤ S1000x64.size a) ∧
  (∀ a, (k0_off404 v438) a + S1x16.size a ≤ S1000x64.size a) ∧
  (∀ a, (k0_off405 v438) a + S1x16.size a ≤ S1000x64.size a) ∧
  (∀ a, (k0_off406 v438) a + S1x16.size a ≤ S1000x64.size a)
theorem k0_off403_inb : ∀ (v438 : BitVec 32) (k0_hw113 : k0_chk113 v438), ∀ a, (k0_off403 v438) a + S1x16.size a ≤ S1000x64.size a := fun v438 k0_hw113 => k0_hw113.1
theorem k0_off404_inb : ∀ (v438 : BitVec 32) (k0_hw113 : k0_chk113 v438), ∀ a, (k0_off404 v438) a + S1x16.size a ≤ S1000x64.size a := fun v438 k0_hw113 => k0_hw113.2.1
theorem k0_off405_inb : ∀ (v438 : BitVec 32) (k0_hw113 : k0_chk113 v438), ∀ a, (k0_off405 v438) a + S1x16.size a ≤ S1000x64.size a := fun v438 k0_hw113 => k0_hw113.2.2.1
theorem k0_off406_inb : ∀ (v438 : BitVec 32) (k0_hw113 : k0_chk113 v438), ∀ a, (k0_off406 v438) a + S1x16.size a ≤ S1000x64.size a := fun v438 k0_hw113 => k0_hw113.2.2.2

def k0_off407 (v456 : BitVec 32) : Fin 2 → Nat :=
  let v457 : Index := Scalar.indexCast v456
  let c0_137 : Index := 0#32
  ![v457.toNat, 0]

def k0_off408 (v456 : BitVec 32) : Fin 2 → Nat :=
  let v461 : Index := Scalar.indexCast v456
  let c16_138 : Index := 16#32
  ![v461.toNat, 16]
def k0_off409 (v456 : BitVec 32) : Fin 2 → Nat :=
  let v465 : Index := Scalar.indexCast v456
  let c32_139 : Index := 32#32
  ![v465.toNat, 32]
def k0_off410 (v456 : BitVec 32) : Fin 2 → Nat :=
  let v469 : Index := Scalar.indexCast v456
  let c48_140 : Index := 48#32
  ![v469.toNat, 48]

def k0_chk114 (v456 : BitVec 32) : Prop :=
  (∀ a, (k0_off407 v456) a + S1x16.size a ≤ S1000x64.size a) ∧
  (∀ a, (k0_off408 v456) a + S1x16.size a ≤ S1000x64.size a) ∧
  (∀ a, (k0_off409 v456) a + S1x16.size a ≤ S1000x64.size a) ∧
  (∀ a, (k0_off410 v456) a + S1x16.size a ≤ S1000x64.size a)
theorem k0_off407_inb : ∀ (v456 : BitVec 32) (k0_hw114 : k0_chk114 v456), ∀ a, (k0_off407 v456) a + S1x16.size a ≤ S1000x64.size a := fun v456 k0_hw114 => k0_hw114.1
theorem k0_off408_inb : ∀ (v456 : BitVec 32) (k0_hw114 : k0_chk114 v456), ∀ a, (k0_off408 v456) a + S1x16.size a ≤ S1000x64.size a := fun v456 k0_hw114 => k0_hw114.2.1
theorem k0_off409_inb : ∀ (v456 : BitVec 32) (k0_hw114 : k0_chk114 v456), ∀ a, (k0_off409 v456) a + S1x16.size a ≤ S1000x64.size a := fun v456 k0_hw114 => k0_hw114.2.2.1
theorem k0_off410_inb : ∀ (v456 : BitVec 32) (k0_hw114 : k0_chk114 v456), ∀ a, (k0_off410 v456) a + S1x16.size a ≤ S1000x64.size a := fun v456 k0_hw114 => k0_hw114.2.2.2

def k0_off411 (v474 : BitVec 32) : Fin 2 → Nat :=
  let v475 : Index := Scalar.indexCast v474
  let c0_141 : Index := 0#32
  ![v475.toNat, 0]

def k0_off412 (v474 : BitVec 32) : Fin 2 → Nat :=
  let v479 : Index := Scalar.indexCast v474
  let c16_142 : Index := 16#32
  ![v479.toNat, 16]
def k0_off413 (v474 : BitVec 32) : Fin 2 → Nat :=
  let v483 : Index := Scalar.indexCast v474
  let c32_143 : Index := 32#32
  ![v483.toNat, 32]
def k0_off414 (v474 : BitVec 32) : Fin 2 → Nat :=
  let v487 : Index := Scalar.indexCast v474
  let c48_144 : Index := 48#32
  ![v487.toNat, 48]

def k0_chk115 (v474 : BitVec 32) : Prop :=
  (∀ a, (k0_off411 v474) a + S1x16.size a ≤ S1000x64.size a) ∧
  (∀ a, (k0_off412 v474) a + S1x16.size a ≤ S1000x64.size a) ∧
  (∀ a, (k0_off413 v474) a + S1x16.size a ≤ S1000x64.size a) ∧
  (∀ a, (k0_off414 v474) a + S1x16.size a ≤ S1000x64.size a)
theorem k0_off411_inb : ∀ (v474 : BitVec 32) (k0_hw115 : k0_chk115 v474), ∀ a, (k0_off411 v474) a + S1x16.size a ≤ S1000x64.size a := fun v474 k0_hw115 => k0_hw115.1
theorem k0_off412_inb : ∀ (v474 : BitVec 32) (k0_hw115 : k0_chk115 v474), ∀ a, (k0_off412 v474) a + S1x16.size a ≤ S1000x64.size a := fun v474 k0_hw115 => k0_hw115.2.1
theorem k0_off413_inb : ∀ (v474 : BitVec 32) (k0_hw115 : k0_chk115 v474), ∀ a, (k0_off413 v474) a + S1x16.size a ≤ S1000x64.size a := fun v474 k0_hw115 => k0_hw115.2.2.1
theorem k0_off414_inb : ∀ (v474 : BitVec 32) (k0_hw115 : k0_chk115 v474), ∀ a, (k0_off414 v474) a + S1x16.size a ≤ S1000x64.size a := fun v474 k0_hw115 => k0_hw115.2.2.2

def k0_off415 (k0_t3 : Fin k0_t3_loop.trips) (c0_i32_148 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k0_t3
  let c1_i32_59 : BitVec 32 := 1#32
  let v102 : BitVec 32 := Scalar.muli arg16 c1_i32_59
  let v103 : BitVec 32 := Scalar.addi c0_i32_60 v102
  let c4_i32_145 : BitVec 32 := 4#32
  let v493 : BitVec 32 := Scalar.muli v103 c4_i32_145
  let c0_i32_146 : BitVec 32 := 0#32
  let v494 : BitVec 32 := Scalar.addi v493 c0_i32_146
  let c64_i32_147 : BitVec 32 := 64#32
  let v495 : BitVec 32 := Scalar.muli v494 c64_i32_147
  let v496 : BitVec 32 := Scalar.addi v495 c0_i32_148
  let v497 : Index := Scalar.indexCast v496
  ![v497.toNat]
def k0_off416 (v532 : BitVec 32) : Fin 2 → Nat :=
  let v533 : Index := Scalar.indexCast v532
  let c0_164 : Index := 0#32
  ![v533.toNat, 0]

def k0_chk116 (v532 : BitVec 32) : Prop :=
  (∀ a, (k0_off416 v532) a + S1x16.size a ≤ S1000x64.size a)
theorem k0_off416_inb : ∀ (v532 : BitVec 32) (k0_hw116 : k0_chk116 v532), ∀ a, (k0_off416 v532) a + S1x16.size a ≤ S1000x64.size a := fun v532 k0_hw116 => k0_hw116

def k0_off417 (v537 : BitVec 32) : Fin 2 → Nat :=
  let v538 : Index := Scalar.indexCast v537
  let c16_165 : Index := 16#32
  ![v538.toNat, 16]

def k0_chk117 (v537 : BitVec 32) : Prop :=
  (∀ a, (k0_off417 v537) a + S1x16.size a ≤ S1000x64.size a)
theorem k0_off417_inb : ∀ (v537 : BitVec 32) (k0_hw117 : k0_chk117 v537), ∀ a, (k0_off417 v537) a + S1x16.size a ≤ S1000x64.size a := fun v537 k0_hw117 => k0_hw117

def k0_off418 (v542 : BitVec 32) : Fin 2 → Nat :=
  let v543 : Index := Scalar.indexCast v542
  let c32_166 : Index := 32#32
  ![v543.toNat, 32]

def k0_chk118 (v542 : BitVec 32) : Prop :=
  (∀ a, (k0_off418 v542) a + S1x16.size a ≤ S1000x64.size a)
theorem k0_off418_inb : ∀ (v542 : BitVec 32) (k0_hw118 : k0_chk118 v542), ∀ a, (k0_off418 v542) a + S1x16.size a ≤ S1000x64.size a := fun v542 k0_hw118 => k0_hw118

def k0_off419 (v547 : BitVec 32) : Fin 2 → Nat :=
  let v548 : Index := Scalar.indexCast v547
  let c48_167 : Index := 48#32
  ![v548.toNat, 48]

def k0_chk119 (v547 : BitVec 32) : Prop :=
  (∀ a, (k0_off419 v547) a + S1x16.size a ≤ S1000x64.size a)
theorem k0_off419_inb : ∀ (v547 : BitVec 32) (k0_hw119 : k0_chk119 v547), ∀ a, (k0_off419 v547) a + S1x16.size a ≤ S1000x64.size a := fun v547 k0_hw119 => k0_hw119

def k0_off420 (v552 : BitVec 32) : Fin 2 → Nat :=
  let v553 : Index := Scalar.indexCast v552
  let c0_168 : Index := 0#32
  ![v553.toNat, 0]

def k0_off421 (v552 : BitVec 32) : Fin 2 → Nat :=
  let v557 : Index := Scalar.indexCast v552
  let c16_169 : Index := 16#32
  ![v557.toNat, 16]
def k0_off422 (v552 : BitVec 32) : Fin 2 → Nat :=
  let v561 : Index := Scalar.indexCast v552
  let c32_170 : Index := 32#32
  ![v561.toNat, 32]
def k0_off423 (v552 : BitVec 32) : Fin 2 → Nat :=
  let v565 : Index := Scalar.indexCast v552
  let c48_171 : Index := 48#32
  ![v565.toNat, 48]

def k0_chk120 (v552 : BitVec 32) : Prop :=
  (∀ a, (k0_off420 v552) a + S1x16.size a ≤ S1000x64.size a) ∧
  (∀ a, (k0_off421 v552) a + S1x16.size a ≤ S1000x64.size a) ∧
  (∀ a, (k0_off422 v552) a + S1x16.size a ≤ S1000x64.size a) ∧
  (∀ a, (k0_off423 v552) a + S1x16.size a ≤ S1000x64.size a)
theorem k0_off420_inb : ∀ (v552 : BitVec 32) (k0_hw120 : k0_chk120 v552), ∀ a, (k0_off420 v552) a + S1x16.size a ≤ S1000x64.size a := fun v552 k0_hw120 => k0_hw120.1
theorem k0_off421_inb : ∀ (v552 : BitVec 32) (k0_hw120 : k0_chk120 v552), ∀ a, (k0_off421 v552) a + S1x16.size a ≤ S1000x64.size a := fun v552 k0_hw120 => k0_hw120.2.1
theorem k0_off422_inb : ∀ (v552 : BitVec 32) (k0_hw120 : k0_chk120 v552), ∀ a, (k0_off422 v552) a + S1x16.size a ≤ S1000x64.size a := fun v552 k0_hw120 => k0_hw120.2.2.1
theorem k0_off423_inb : ∀ (v552 : BitVec 32) (k0_hw120 : k0_chk120 v552), ∀ a, (k0_off423 v552) a + S1x16.size a ≤ S1000x64.size a := fun v552 k0_hw120 => k0_hw120.2.2.2

def k0_off424 (v570 : BitVec 32) : Fin 2 → Nat :=
  let v571 : Index := Scalar.indexCast v570
  let c0_172 : Index := 0#32
  ![v571.toNat, 0]

def k0_off425 (v570 : BitVec 32) : Fin 2 → Nat :=
  let v575 : Index := Scalar.indexCast v570
  let c16_173 : Index := 16#32
  ![v575.toNat, 16]
def k0_off426 (v570 : BitVec 32) : Fin 2 → Nat :=
  let v579 : Index := Scalar.indexCast v570
  let c32_174 : Index := 32#32
  ![v579.toNat, 32]
def k0_off427 (v570 : BitVec 32) : Fin 2 → Nat :=
  let v583 : Index := Scalar.indexCast v570
  let c48_175 : Index := 48#32
  ![v583.toNat, 48]

def k0_chk121 (v570 : BitVec 32) : Prop :=
  (∀ a, (k0_off424 v570) a + S1x16.size a ≤ S1000x64.size a) ∧
  (∀ a, (k0_off425 v570) a + S1x16.size a ≤ S1000x64.size a) ∧
  (∀ a, (k0_off426 v570) a + S1x16.size a ≤ S1000x64.size a) ∧
  (∀ a, (k0_off427 v570) a + S1x16.size a ≤ S1000x64.size a)
theorem k0_off424_inb : ∀ (v570 : BitVec 32) (k0_hw121 : k0_chk121 v570), ∀ a, (k0_off424 v570) a + S1x16.size a ≤ S1000x64.size a := fun v570 k0_hw121 => k0_hw121.1
theorem k0_off425_inb : ∀ (v570 : BitVec 32) (k0_hw121 : k0_chk121 v570), ∀ a, (k0_off425 v570) a + S1x16.size a ≤ S1000x64.size a := fun v570 k0_hw121 => k0_hw121.2.1
theorem k0_off426_inb : ∀ (v570 : BitVec 32) (k0_hw121 : k0_chk121 v570), ∀ a, (k0_off426 v570) a + S1x16.size a ≤ S1000x64.size a := fun v570 k0_hw121 => k0_hw121.2.2.1
theorem k0_off427_inb : ∀ (v570 : BitVec 32) (k0_hw121 : k0_chk121 v570), ∀ a, (k0_off427 v570) a + S1x16.size a ≤ S1000x64.size a := fun v570 k0_hw121 => k0_hw121.2.2.2

def k0_off428 (v588 : BitVec 32) : Fin 2 → Nat :=
  let v589 : Index := Scalar.indexCast v588
  let c0_176 : Index := 0#32
  ![v589.toNat, 0]

def k0_off429 (v588 : BitVec 32) : Fin 2 → Nat :=
  let v593 : Index := Scalar.indexCast v588
  let c16_177 : Index := 16#32
  ![v593.toNat, 16]
def k0_off430 (v588 : BitVec 32) : Fin 2 → Nat :=
  let v597 : Index := Scalar.indexCast v588
  let c32_178 : Index := 32#32
  ![v597.toNat, 32]
def k0_off431 (v588 : BitVec 32) : Fin 2 → Nat :=
  let v601 : Index := Scalar.indexCast v588
  let c48_179 : Index := 48#32
  ![v601.toNat, 48]

def k0_chk122 (v588 : BitVec 32) : Prop :=
  (∀ a, (k0_off428 v588) a + S1x16.size a ≤ S1000x64.size a) ∧
  (∀ a, (k0_off429 v588) a + S1x16.size a ≤ S1000x64.size a) ∧
  (∀ a, (k0_off430 v588) a + S1x16.size a ≤ S1000x64.size a) ∧
  (∀ a, (k0_off431 v588) a + S1x16.size a ≤ S1000x64.size a)
theorem k0_off428_inb : ∀ (v588 : BitVec 32) (k0_hw122 : k0_chk122 v588), ∀ a, (k0_off428 v588) a + S1x16.size a ≤ S1000x64.size a := fun v588 k0_hw122 => k0_hw122.1
theorem k0_off429_inb : ∀ (v588 : BitVec 32) (k0_hw122 : k0_chk122 v588), ∀ a, (k0_off429 v588) a + S1x16.size a ≤ S1000x64.size a := fun v588 k0_hw122 => k0_hw122.2.1
theorem k0_off430_inb : ∀ (v588 : BitVec 32) (k0_hw122 : k0_chk122 v588), ∀ a, (k0_off430 v588) a + S1x16.size a ≤ S1000x64.size a := fun v588 k0_hw122 => k0_hw122.2.2.1
theorem k0_off431_inb : ∀ (v588 : BitVec 32) (k0_hw122 : k0_chk122 v588), ∀ a, (k0_off431 v588) a + S1x16.size a ≤ S1000x64.size a := fun v588 k0_hw122 => k0_hw122.2.2.2

def k0_off432 (v606 : BitVec 32) : Fin 2 → Nat :=
  let v607 : Index := Scalar.indexCast v606
  let c0_180 : Index := 0#32
  ![v607.toNat, 0]

def k0_off433 (v606 : BitVec 32) : Fin 2 → Nat :=
  let v611 : Index := Scalar.indexCast v606
  let c16_181 : Index := 16#32
  ![v611.toNat, 16]
def k0_off434 (v606 : BitVec 32) : Fin 2 → Nat :=
  let v615 : Index := Scalar.indexCast v606
  let c32_182 : Index := 32#32
  ![v615.toNat, 32]
def k0_off435 (v606 : BitVec 32) : Fin 2 → Nat :=
  let v619 : Index := Scalar.indexCast v606
  let c48_183 : Index := 48#32
  ![v619.toNat, 48]

def k0_chk123 (v606 : BitVec 32) : Prop :=
  (∀ a, (k0_off432 v606) a + S1x16.size a ≤ S1000x64.size a) ∧
  (∀ a, (k0_off433 v606) a + S1x16.size a ≤ S1000x64.size a) ∧
  (∀ a, (k0_off434 v606) a + S1x16.size a ≤ S1000x64.size a) ∧
  (∀ a, (k0_off435 v606) a + S1x16.size a ≤ S1000x64.size a)
theorem k0_off432_inb : ∀ (v606 : BitVec 32) (k0_hw123 : k0_chk123 v606), ∀ a, (k0_off432 v606) a + S1x16.size a ≤ S1000x64.size a := fun v606 k0_hw123 => k0_hw123.1
theorem k0_off433_inb : ∀ (v606 : BitVec 32) (k0_hw123 : k0_chk123 v606), ∀ a, (k0_off433 v606) a + S1x16.size a ≤ S1000x64.size a := fun v606 k0_hw123 => k0_hw123.2.1
theorem k0_off434_inb : ∀ (v606 : BitVec 32) (k0_hw123 : k0_chk123 v606), ∀ a, (k0_off434 v606) a + S1x16.size a ≤ S1000x64.size a := fun v606 k0_hw123 => k0_hw123.2.2.1
theorem k0_off435_inb : ∀ (v606 : BitVec 32) (k0_hw123 : k0_chk123 v606), ∀ a, (k0_off435 v606) a + S1x16.size a ≤ S1000x64.size a := fun v606 k0_hw123 => k0_hw123.2.2.2

def k0_off436 (v624 : BitVec 32) : Fin 2 → Nat :=
  let v625 : Index := Scalar.indexCast v624
  let c0_184 : Index := 0#32
  ![v625.toNat, 0]

def k0_off437 (v624 : BitVec 32) : Fin 2 → Nat :=
  let v629 : Index := Scalar.indexCast v624
  let c16_185 : Index := 16#32
  ![v629.toNat, 16]
def k0_off438 (v624 : BitVec 32) : Fin 2 → Nat :=
  let v633 : Index := Scalar.indexCast v624
  let c32_186 : Index := 32#32
  ![v633.toNat, 32]
def k0_off439 (v624 : BitVec 32) : Fin 2 → Nat :=
  let v637 : Index := Scalar.indexCast v624
  let c48_187 : Index := 48#32
  ![v637.toNat, 48]

def k0_chk124 (v624 : BitVec 32) : Prop :=
  (∀ a, (k0_off436 v624) a + S1x16.size a ≤ S1000x64.size a) ∧
  (∀ a, (k0_off437 v624) a + S1x16.size a ≤ S1000x64.size a) ∧
  (∀ a, (k0_off438 v624) a + S1x16.size a ≤ S1000x64.size a) ∧
  (∀ a, (k0_off439 v624) a + S1x16.size a ≤ S1000x64.size a)
theorem k0_off436_inb : ∀ (v624 : BitVec 32) (k0_hw124 : k0_chk124 v624), ∀ a, (k0_off436 v624) a + S1x16.size a ≤ S1000x64.size a := fun v624 k0_hw124 => k0_hw124.1
theorem k0_off437_inb : ∀ (v624 : BitVec 32) (k0_hw124 : k0_chk124 v624), ∀ a, (k0_off437 v624) a + S1x16.size a ≤ S1000x64.size a := fun v624 k0_hw124 => k0_hw124.2.1
theorem k0_off438_inb : ∀ (v624 : BitVec 32) (k0_hw124 : k0_chk124 v624), ∀ a, (k0_off438 v624) a + S1x16.size a ≤ S1000x64.size a := fun v624 k0_hw124 => k0_hw124.2.2.1
theorem k0_off439_inb : ∀ (v624 : BitVec 32) (k0_hw124 : k0_chk124 v624), ∀ a, (k0_off439 v624) a + S1x16.size a ≤ S1000x64.size a := fun v624 k0_hw124 => k0_hw124.2.2.2

def k0_off440 (v642 : BitVec 32) : Fin 2 → Nat :=
  let v643 : Index := Scalar.indexCast v642
  let c0_188 : Index := 0#32
  ![v643.toNat, 0]

def k0_off441 (v642 : BitVec 32) : Fin 2 → Nat :=
  let v647 : Index := Scalar.indexCast v642
  let c16_189 : Index := 16#32
  ![v647.toNat, 16]
def k0_off442 (v642 : BitVec 32) : Fin 2 → Nat :=
  let v651 : Index := Scalar.indexCast v642
  let c32_190 : Index := 32#32
  ![v651.toNat, 32]
def k0_off443 (v642 : BitVec 32) : Fin 2 → Nat :=
  let v655 : Index := Scalar.indexCast v642
  let c48_191 : Index := 48#32
  ![v655.toNat, 48]

def k0_chk125 (v642 : BitVec 32) : Prop :=
  (∀ a, (k0_off440 v642) a + S1x16.size a ≤ S1000x64.size a) ∧
  (∀ a, (k0_off441 v642) a + S1x16.size a ≤ S1000x64.size a) ∧
  (∀ a, (k0_off442 v642) a + S1x16.size a ≤ S1000x64.size a) ∧
  (∀ a, (k0_off443 v642) a + S1x16.size a ≤ S1000x64.size a)
theorem k0_off440_inb : ∀ (v642 : BitVec 32) (k0_hw125 : k0_chk125 v642), ∀ a, (k0_off440 v642) a + S1x16.size a ≤ S1000x64.size a := fun v642 k0_hw125 => k0_hw125.1
theorem k0_off441_inb : ∀ (v642 : BitVec 32) (k0_hw125 : k0_chk125 v642), ∀ a, (k0_off441 v642) a + S1x16.size a ≤ S1000x64.size a := fun v642 k0_hw125 => k0_hw125.2.1
theorem k0_off442_inb : ∀ (v642 : BitVec 32) (k0_hw125 : k0_chk125 v642), ∀ a, (k0_off442 v642) a + S1x16.size a ≤ S1000x64.size a := fun v642 k0_hw125 => k0_hw125.2.2.1
theorem k0_off443_inb : ∀ (v642 : BitVec 32) (k0_hw125 : k0_chk125 v642), ∀ a, (k0_off443 v642) a + S1x16.size a ≤ S1000x64.size a := fun v642 k0_hw125 => k0_hw125.2.2.2

def k0_off444 (v660 : BitVec 32) : Fin 2 → Nat :=
  let v661 : Index := Scalar.indexCast v660
  let c0_192 : Index := 0#32
  ![v661.toNat, 0]

def k0_off445 (v660 : BitVec 32) : Fin 2 → Nat :=
  let v665 : Index := Scalar.indexCast v660
  let c16_193 : Index := 16#32
  ![v665.toNat, 16]
def k0_off446 (v660 : BitVec 32) : Fin 2 → Nat :=
  let v669 : Index := Scalar.indexCast v660
  let c32_194 : Index := 32#32
  ![v669.toNat, 32]
def k0_off447 (v660 : BitVec 32) : Fin 2 → Nat :=
  let v673 : Index := Scalar.indexCast v660
  let c48_195 : Index := 48#32
  ![v673.toNat, 48]

def k0_chk126 (v660 : BitVec 32) : Prop :=
  (∀ a, (k0_off444 v660) a + S1x16.size a ≤ S1000x64.size a) ∧
  (∀ a, (k0_off445 v660) a + S1x16.size a ≤ S1000x64.size a) ∧
  (∀ a, (k0_off446 v660) a + S1x16.size a ≤ S1000x64.size a) ∧
  (∀ a, (k0_off447 v660) a + S1x16.size a ≤ S1000x64.size a)
theorem k0_off444_inb : ∀ (v660 : BitVec 32) (k0_hw126 : k0_chk126 v660), ∀ a, (k0_off444 v660) a + S1x16.size a ≤ S1000x64.size a := fun v660 k0_hw126 => k0_hw126.1
theorem k0_off445_inb : ∀ (v660 : BitVec 32) (k0_hw126 : k0_chk126 v660), ∀ a, (k0_off445 v660) a + S1x16.size a ≤ S1000x64.size a := fun v660 k0_hw126 => k0_hw126.2.1
theorem k0_off446_inb : ∀ (v660 : BitVec 32) (k0_hw126 : k0_chk126 v660), ∀ a, (k0_off446 v660) a + S1x16.size a ≤ S1000x64.size a := fun v660 k0_hw126 => k0_hw126.2.2.1
theorem k0_off447_inb : ∀ (v660 : BitVec 32) (k0_hw126 : k0_chk126 v660), ∀ a, (k0_off447 v660) a + S1x16.size a ≤ S1000x64.size a := fun v660 k0_hw126 => k0_hw126.2.2.2

def k0_off448 (v678 : BitVec 32) : Fin 2 → Nat :=
  let v679 : Index := Scalar.indexCast v678
  let c0_196 : Index := 0#32
  ![v679.toNat, 0]

def k0_off449 (v678 : BitVec 32) : Fin 2 → Nat :=
  let v683 : Index := Scalar.indexCast v678
  let c16_197 : Index := 16#32
  ![v683.toNat, 16]
def k0_off450 (v678 : BitVec 32) : Fin 2 → Nat :=
  let v687 : Index := Scalar.indexCast v678
  let c32_198 : Index := 32#32
  ![v687.toNat, 32]
def k0_off451 (v678 : BitVec 32) : Fin 2 → Nat :=
  let v691 : Index := Scalar.indexCast v678
  let c48_199 : Index := 48#32
  ![v691.toNat, 48]

def k0_chk127 (v678 : BitVec 32) : Prop :=
  (∀ a, (k0_off448 v678) a + S1x16.size a ≤ S1000x64.size a) ∧
  (∀ a, (k0_off449 v678) a + S1x16.size a ≤ S1000x64.size a) ∧
  (∀ a, (k0_off450 v678) a + S1x16.size a ≤ S1000x64.size a) ∧
  (∀ a, (k0_off451 v678) a + S1x16.size a ≤ S1000x64.size a)
theorem k0_off448_inb : ∀ (v678 : BitVec 32) (k0_hw127 : k0_chk127 v678), ∀ a, (k0_off448 v678) a + S1x16.size a ≤ S1000x64.size a := fun v678 k0_hw127 => k0_hw127.1
theorem k0_off449_inb : ∀ (v678 : BitVec 32) (k0_hw127 : k0_chk127 v678), ∀ a, (k0_off449 v678) a + S1x16.size a ≤ S1000x64.size a := fun v678 k0_hw127 => k0_hw127.2.1
theorem k0_off450_inb : ∀ (v678 : BitVec 32) (k0_hw127 : k0_chk127 v678), ∀ a, (k0_off450 v678) a + S1x16.size a ≤ S1000x64.size a := fun v678 k0_hw127 => k0_hw127.2.2.1
theorem k0_off451_inb : ∀ (v678 : BitVec 32) (k0_hw127 : k0_chk127 v678), ∀ a, (k0_off451 v678) a + S1x16.size a ≤ S1000x64.size a := fun v678 k0_hw127 => k0_hw127.2.2.2

def k0_off452 (v696 : BitVec 32) : Fin 2 → Nat :=
  let v697 : Index := Scalar.indexCast v696
  let c0_200 : Index := 0#32
  ![v697.toNat, 0]

def k0_off453 (v696 : BitVec 32) : Fin 2 → Nat :=
  let v701 : Index := Scalar.indexCast v696
  let c16_201 : Index := 16#32
  ![v701.toNat, 16]
def k0_off454 (v696 : BitVec 32) : Fin 2 → Nat :=
  let v705 : Index := Scalar.indexCast v696
  let c32_202 : Index := 32#32
  ![v705.toNat, 32]
def k0_off455 (v696 : BitVec 32) : Fin 2 → Nat :=
  let v709 : Index := Scalar.indexCast v696
  let c48_203 : Index := 48#32
  ![v709.toNat, 48]

def k0_chk128 (v696 : BitVec 32) : Prop :=
  (∀ a, (k0_off452 v696) a + S1x16.size a ≤ S1000x64.size a) ∧
  (∀ a, (k0_off453 v696) a + S1x16.size a ≤ S1000x64.size a) ∧
  (∀ a, (k0_off454 v696) a + S1x16.size a ≤ S1000x64.size a) ∧
  (∀ a, (k0_off455 v696) a + S1x16.size a ≤ S1000x64.size a)
theorem k0_off452_inb : ∀ (v696 : BitVec 32) (k0_hw128 : k0_chk128 v696), ∀ a, (k0_off452 v696) a + S1x16.size a ≤ S1000x64.size a := fun v696 k0_hw128 => k0_hw128.1
theorem k0_off453_inb : ∀ (v696 : BitVec 32) (k0_hw128 : k0_chk128 v696), ∀ a, (k0_off453 v696) a + S1x16.size a ≤ S1000x64.size a := fun v696 k0_hw128 => k0_hw128.2.1
theorem k0_off454_inb : ∀ (v696 : BitVec 32) (k0_hw128 : k0_chk128 v696), ∀ a, (k0_off454 v696) a + S1x16.size a ≤ S1000x64.size a := fun v696 k0_hw128 => k0_hw128.2.2.1
theorem k0_off455_inb : ∀ (v696 : BitVec 32) (k0_hw128 : k0_chk128 v696), ∀ a, (k0_off455 v696) a + S1x16.size a ≤ S1000x64.size a := fun v696 k0_hw128 => k0_hw128.2.2.2

def k0_off456 (v714 : BitVec 32) : Fin 2 → Nat :=
  let v715 : Index := Scalar.indexCast v714
  let c0_204 : Index := 0#32
  ![v715.toNat, 0]

def k0_off457 (v714 : BitVec 32) : Fin 2 → Nat :=
  let v719 : Index := Scalar.indexCast v714
  let c16_205 : Index := 16#32
  ![v719.toNat, 16]
def k0_off458 (v714 : BitVec 32) : Fin 2 → Nat :=
  let v723 : Index := Scalar.indexCast v714
  let c32_206 : Index := 32#32
  ![v723.toNat, 32]
def k0_off459 (v714 : BitVec 32) : Fin 2 → Nat :=
  let v727 : Index := Scalar.indexCast v714
  let c48_207 : Index := 48#32
  ![v727.toNat, 48]

def k0_chk129 (v714 : BitVec 32) : Prop :=
  (∀ a, (k0_off456 v714) a + S1x16.size a ≤ S1000x64.size a) ∧
  (∀ a, (k0_off457 v714) a + S1x16.size a ≤ S1000x64.size a) ∧
  (∀ a, (k0_off458 v714) a + S1x16.size a ≤ S1000x64.size a) ∧
  (∀ a, (k0_off459 v714) a + S1x16.size a ≤ S1000x64.size a)
theorem k0_off456_inb : ∀ (v714 : BitVec 32) (k0_hw129 : k0_chk129 v714), ∀ a, (k0_off456 v714) a + S1x16.size a ≤ S1000x64.size a := fun v714 k0_hw129 => k0_hw129.1
theorem k0_off457_inb : ∀ (v714 : BitVec 32) (k0_hw129 : k0_chk129 v714), ∀ a, (k0_off457 v714) a + S1x16.size a ≤ S1000x64.size a := fun v714 k0_hw129 => k0_hw129.2.1
theorem k0_off458_inb : ∀ (v714 : BitVec 32) (k0_hw129 : k0_chk129 v714), ∀ a, (k0_off458 v714) a + S1x16.size a ≤ S1000x64.size a := fun v714 k0_hw129 => k0_hw129.2.2.1
theorem k0_off459_inb : ∀ (v714 : BitVec 32) (k0_hw129 : k0_chk129 v714), ∀ a, (k0_off459 v714) a + S1x16.size a ≤ S1000x64.size a := fun v714 k0_hw129 => k0_hw129.2.2.2

def k0_off460 (v732 : BitVec 32) : Fin 2 → Nat :=
  let v733 : Index := Scalar.indexCast v732
  let c0_208 : Index := 0#32
  ![v733.toNat, 0]

def k0_off461 (v732 : BitVec 32) : Fin 2 → Nat :=
  let v737 : Index := Scalar.indexCast v732
  let c16_209 : Index := 16#32
  ![v737.toNat, 16]
def k0_off462 (v732 : BitVec 32) : Fin 2 → Nat :=
  let v741 : Index := Scalar.indexCast v732
  let c32_210 : Index := 32#32
  ![v741.toNat, 32]
def k0_off463 (v732 : BitVec 32) : Fin 2 → Nat :=
  let v745 : Index := Scalar.indexCast v732
  let c48_211 : Index := 48#32
  ![v745.toNat, 48]

def k0_chk130 (v732 : BitVec 32) : Prop :=
  (∀ a, (k0_off460 v732) a + S1x16.size a ≤ S1000x64.size a) ∧
  (∀ a, (k0_off461 v732) a + S1x16.size a ≤ S1000x64.size a) ∧
  (∀ a, (k0_off462 v732) a + S1x16.size a ≤ S1000x64.size a) ∧
  (∀ a, (k0_off463 v732) a + S1x16.size a ≤ S1000x64.size a)
theorem k0_off460_inb : ∀ (v732 : BitVec 32) (k0_hw130 : k0_chk130 v732), ∀ a, (k0_off460 v732) a + S1x16.size a ≤ S1000x64.size a := fun v732 k0_hw130 => k0_hw130.1
theorem k0_off461_inb : ∀ (v732 : BitVec 32) (k0_hw130 : k0_chk130 v732), ∀ a, (k0_off461 v732) a + S1x16.size a ≤ S1000x64.size a := fun v732 k0_hw130 => k0_hw130.2.1
theorem k0_off462_inb : ∀ (v732 : BitVec 32) (k0_hw130 : k0_chk130 v732), ∀ a, (k0_off462 v732) a + S1x16.size a ≤ S1000x64.size a := fun v732 k0_hw130 => k0_hw130.2.2.1
theorem k0_off463_inb : ∀ (v732 : BitVec 32) (k0_hw130 : k0_chk130 v732), ∀ a, (k0_off463 v732) a + S1x16.size a ≤ S1000x64.size a := fun v732 k0_hw130 => k0_hw130.2.2.2

def k0_off464 (v750 : BitVec 32) : Fin 2 → Nat :=
  let v751 : Index := Scalar.indexCast v750
  let c0_212 : Index := 0#32
  ![v751.toNat, 0]

def k0_off465 (v750 : BitVec 32) : Fin 2 → Nat :=
  let v755 : Index := Scalar.indexCast v750
  let c16_213 : Index := 16#32
  ![v755.toNat, 16]
def k0_off466 (v750 : BitVec 32) : Fin 2 → Nat :=
  let v759 : Index := Scalar.indexCast v750
  let c32_214 : Index := 32#32
  ![v759.toNat, 32]
def k0_off467 (v750 : BitVec 32) : Fin 2 → Nat :=
  let v763 : Index := Scalar.indexCast v750
  let c48_215 : Index := 48#32
  ![v763.toNat, 48]

def k0_chk131 (v750 : BitVec 32) : Prop :=
  (∀ a, (k0_off464 v750) a + S1x16.size a ≤ S1000x64.size a) ∧
  (∀ a, (k0_off465 v750) a + S1x16.size a ≤ S1000x64.size a) ∧
  (∀ a, (k0_off466 v750) a + S1x16.size a ≤ S1000x64.size a) ∧
  (∀ a, (k0_off467 v750) a + S1x16.size a ≤ S1000x64.size a)
theorem k0_off464_inb : ∀ (v750 : BitVec 32) (k0_hw131 : k0_chk131 v750), ∀ a, (k0_off464 v750) a + S1x16.size a ≤ S1000x64.size a := fun v750 k0_hw131 => k0_hw131.1
theorem k0_off465_inb : ∀ (v750 : BitVec 32) (k0_hw131 : k0_chk131 v750), ∀ a, (k0_off465 v750) a + S1x16.size a ≤ S1000x64.size a := fun v750 k0_hw131 => k0_hw131.2.1
theorem k0_off466_inb : ∀ (v750 : BitVec 32) (k0_hw131 : k0_chk131 v750), ∀ a, (k0_off466 v750) a + S1x16.size a ≤ S1000x64.size a := fun v750 k0_hw131 => k0_hw131.2.2.1
theorem k0_off467_inb : ∀ (v750 : BitVec 32) (k0_hw131 : k0_chk131 v750), ∀ a, (k0_off467 v750) a + S1x16.size a ≤ S1000x64.size a := fun v750 k0_hw131 => k0_hw131.2.2.2

def k0_off468 (v768 : BitVec 32) : Fin 2 → Nat :=
  let v769 : Index := Scalar.indexCast v768
  let c0_216 : Index := 0#32
  ![v769.toNat, 0]

def k0_off469 (v768 : BitVec 32) : Fin 2 → Nat :=
  let v773 : Index := Scalar.indexCast v768
  let c16_217 : Index := 16#32
  ![v773.toNat, 16]
def k0_off470 (v768 : BitVec 32) : Fin 2 → Nat :=
  let v777 : Index := Scalar.indexCast v768
  let c32_218 : Index := 32#32
  ![v777.toNat, 32]
def k0_off471 (v768 : BitVec 32) : Fin 2 → Nat :=
  let v781 : Index := Scalar.indexCast v768
  let c48_219 : Index := 48#32
  ![v781.toNat, 48]

def k0_chk132 (v768 : BitVec 32) : Prop :=
  (∀ a, (k0_off468 v768) a + S1x16.size a ≤ S1000x64.size a) ∧
  (∀ a, (k0_off469 v768) a + S1x16.size a ≤ S1000x64.size a) ∧
  (∀ a, (k0_off470 v768) a + S1x16.size a ≤ S1000x64.size a) ∧
  (∀ a, (k0_off471 v768) a + S1x16.size a ≤ S1000x64.size a)
theorem k0_off468_inb : ∀ (v768 : BitVec 32) (k0_hw132 : k0_chk132 v768), ∀ a, (k0_off468 v768) a + S1x16.size a ≤ S1000x64.size a := fun v768 k0_hw132 => k0_hw132.1
theorem k0_off469_inb : ∀ (v768 : BitVec 32) (k0_hw132 : k0_chk132 v768), ∀ a, (k0_off469 v768) a + S1x16.size a ≤ S1000x64.size a := fun v768 k0_hw132 => k0_hw132.2.1
theorem k0_off470_inb : ∀ (v768 : BitVec 32) (k0_hw132 : k0_chk132 v768), ∀ a, (k0_off470 v768) a + S1x16.size a ≤ S1000x64.size a := fun v768 k0_hw132 => k0_hw132.2.2.1
theorem k0_off471_inb : ∀ (v768 : BitVec 32) (k0_hw132 : k0_chk132 v768), ∀ a, (k0_off471 v768) a + S1x16.size a ≤ S1000x64.size a := fun v768 k0_hw132 => k0_hw132.2.2.2

def k0_off472 (v786 : BitVec 32) : Fin 2 → Nat :=
  let v787 : Index := Scalar.indexCast v786
  let c0_220 : Index := 0#32
  ![v787.toNat, 0]

def k0_off473 (v786 : BitVec 32) : Fin 2 → Nat :=
  let v791 : Index := Scalar.indexCast v786
  let c16_221 : Index := 16#32
  ![v791.toNat, 16]
def k0_off474 (v786 : BitVec 32) : Fin 2 → Nat :=
  let v795 : Index := Scalar.indexCast v786
  let c32_222 : Index := 32#32
  ![v795.toNat, 32]
def k0_off475 (v786 : BitVec 32) : Fin 2 → Nat :=
  let v799 : Index := Scalar.indexCast v786
  let c48_223 : Index := 48#32
  ![v799.toNat, 48]

def k0_chk133 (v786 : BitVec 32) : Prop :=
  (∀ a, (k0_off472 v786) a + S1x16.size a ≤ S1000x64.size a) ∧
  (∀ a, (k0_off473 v786) a + S1x16.size a ≤ S1000x64.size a) ∧
  (∀ a, (k0_off474 v786) a + S1x16.size a ≤ S1000x64.size a) ∧
  (∀ a, (k0_off475 v786) a + S1x16.size a ≤ S1000x64.size a)
theorem k0_off472_inb : ∀ (v786 : BitVec 32) (k0_hw133 : k0_chk133 v786), ∀ a, (k0_off472 v786) a + S1x16.size a ≤ S1000x64.size a := fun v786 k0_hw133 => k0_hw133.1
theorem k0_off473_inb : ∀ (v786 : BitVec 32) (k0_hw133 : k0_chk133 v786), ∀ a, (k0_off473 v786) a + S1x16.size a ≤ S1000x64.size a := fun v786 k0_hw133 => k0_hw133.2.1
theorem k0_off474_inb : ∀ (v786 : BitVec 32) (k0_hw133 : k0_chk133 v786), ∀ a, (k0_off474 v786) a + S1x16.size a ≤ S1000x64.size a := fun v786 k0_hw133 => k0_hw133.2.2.1
theorem k0_off475_inb : ∀ (v786 : BitVec 32) (k0_hw133 : k0_chk133 v786), ∀ a, (k0_off475 v786) a + S1x16.size a ≤ S1000x64.size a := fun v786 k0_hw133 => k0_hw133.2.2.2

def k0_off476 (v804 : BitVec 32) : Fin 2 → Nat :=
  let v805 : Index := Scalar.indexCast v804
  let c0_224 : Index := 0#32
  ![v805.toNat, 0]

def k0_off477 (v804 : BitVec 32) : Fin 2 → Nat :=
  let v809 : Index := Scalar.indexCast v804
  let c16_225 : Index := 16#32
  ![v809.toNat, 16]
def k0_off478 (v804 : BitVec 32) : Fin 2 → Nat :=
  let v813 : Index := Scalar.indexCast v804
  let c32_226 : Index := 32#32
  ![v813.toNat, 32]
def k0_off479 (v804 : BitVec 32) : Fin 2 → Nat :=
  let v817 : Index := Scalar.indexCast v804
  let c48_227 : Index := 48#32
  ![v817.toNat, 48]

def k0_chk134 (v804 : BitVec 32) : Prop :=
  (∀ a, (k0_off476 v804) a + S1x16.size a ≤ S1000x64.size a) ∧
  (∀ a, (k0_off477 v804) a + S1x16.size a ≤ S1000x64.size a) ∧
  (∀ a, (k0_off478 v804) a + S1x16.size a ≤ S1000x64.size a) ∧
  (∀ a, (k0_off479 v804) a + S1x16.size a ≤ S1000x64.size a)
theorem k0_off476_inb : ∀ (v804 : BitVec 32) (k0_hw134 : k0_chk134 v804), ∀ a, (k0_off476 v804) a + S1x16.size a ≤ S1000x64.size a := fun v804 k0_hw134 => k0_hw134.1
theorem k0_off477_inb : ∀ (v804 : BitVec 32) (k0_hw134 : k0_chk134 v804), ∀ a, (k0_off477 v804) a + S1x16.size a ≤ S1000x64.size a := fun v804 k0_hw134 => k0_hw134.2.1
theorem k0_off478_inb : ∀ (v804 : BitVec 32) (k0_hw134 : k0_chk134 v804), ∀ a, (k0_off478 v804) a + S1x16.size a ≤ S1000x64.size a := fun v804 k0_hw134 => k0_hw134.2.2.1
theorem k0_off479_inb : ∀ (v804 : BitVec 32) (k0_hw134 : k0_chk134 v804), ∀ a, (k0_off479 v804) a + S1x16.size a ≤ S1000x64.size a := fun v804 k0_hw134 => k0_hw134.2.2.2

def k0_off480 (v822 : BitVec 32) : Fin 2 → Nat :=
  let v823 : Index := Scalar.indexCast v822
  let c0_228 : Index := 0#32
  ![v823.toNat, 0]

def k0_off481 (v822 : BitVec 32) : Fin 2 → Nat :=
  let v827 : Index := Scalar.indexCast v822
  let c16_229 : Index := 16#32
  ![v827.toNat, 16]
def k0_off482 (v822 : BitVec 32) : Fin 2 → Nat :=
  let v831 : Index := Scalar.indexCast v822
  let c32_230 : Index := 32#32
  ![v831.toNat, 32]
def k0_off483 (v822 : BitVec 32) : Fin 2 → Nat :=
  let v835 : Index := Scalar.indexCast v822
  let c48_231 : Index := 48#32
  ![v835.toNat, 48]

def k0_chk135 (v822 : BitVec 32) : Prop :=
  (∀ a, (k0_off480 v822) a + S1x16.size a ≤ S1000x64.size a) ∧
  (∀ a, (k0_off481 v822) a + S1x16.size a ≤ S1000x64.size a) ∧
  (∀ a, (k0_off482 v822) a + S1x16.size a ≤ S1000x64.size a) ∧
  (∀ a, (k0_off483 v822) a + S1x16.size a ≤ S1000x64.size a)
theorem k0_off480_inb : ∀ (v822 : BitVec 32) (k0_hw135 : k0_chk135 v822), ∀ a, (k0_off480 v822) a + S1x16.size a ≤ S1000x64.size a := fun v822 k0_hw135 => k0_hw135.1
theorem k0_off481_inb : ∀ (v822 : BitVec 32) (k0_hw135 : k0_chk135 v822), ∀ a, (k0_off481 v822) a + S1x16.size a ≤ S1000x64.size a := fun v822 k0_hw135 => k0_hw135.2.1
theorem k0_off482_inb : ∀ (v822 : BitVec 32) (k0_hw135 : k0_chk135 v822), ∀ a, (k0_off482 v822) a + S1x16.size a ≤ S1000x64.size a := fun v822 k0_hw135 => k0_hw135.2.2.1
theorem k0_off483_inb : ∀ (v822 : BitVec 32) (k0_hw135 : k0_chk135 v822), ∀ a, (k0_off483 v822) a + S1x16.size a ≤ S1000x64.size a := fun v822 k0_hw135 => k0_hw135.2.2.2

def k0_off484 (v840 : BitVec 32) : Fin 2 → Nat :=
  let v841 : Index := Scalar.indexCast v840
  let c0_232 : Index := 0#32
  ![v841.toNat, 0]

def k0_off485 (v840 : BitVec 32) : Fin 2 → Nat :=
  let v845 : Index := Scalar.indexCast v840
  let c16_233 : Index := 16#32
  ![v845.toNat, 16]
def k0_off486 (v840 : BitVec 32) : Fin 2 → Nat :=
  let v849 : Index := Scalar.indexCast v840
  let c32_234 : Index := 32#32
  ![v849.toNat, 32]
def k0_off487 (v840 : BitVec 32) : Fin 2 → Nat :=
  let v853 : Index := Scalar.indexCast v840
  let c48_235 : Index := 48#32
  ![v853.toNat, 48]

def k0_chk136 (v840 : BitVec 32) : Prop :=
  (∀ a, (k0_off484 v840) a + S1x16.size a ≤ S1000x64.size a) ∧
  (∀ a, (k0_off485 v840) a + S1x16.size a ≤ S1000x64.size a) ∧
  (∀ a, (k0_off486 v840) a + S1x16.size a ≤ S1000x64.size a) ∧
  (∀ a, (k0_off487 v840) a + S1x16.size a ≤ S1000x64.size a)
theorem k0_off484_inb : ∀ (v840 : BitVec 32) (k0_hw136 : k0_chk136 v840), ∀ a, (k0_off484 v840) a + S1x16.size a ≤ S1000x64.size a := fun v840 k0_hw136 => k0_hw136.1
theorem k0_off485_inb : ∀ (v840 : BitVec 32) (k0_hw136 : k0_chk136 v840), ∀ a, (k0_off485 v840) a + S1x16.size a ≤ S1000x64.size a := fun v840 k0_hw136 => k0_hw136.2.1
theorem k0_off486_inb : ∀ (v840 : BitVec 32) (k0_hw136 : k0_chk136 v840), ∀ a, (k0_off486 v840) a + S1x16.size a ≤ S1000x64.size a := fun v840 k0_hw136 => k0_hw136.2.2.1
theorem k0_off487_inb : ∀ (v840 : BitVec 32) (k0_hw136 : k0_chk136 v840), ∀ a, (k0_off487 v840) a + S1x16.size a ≤ S1000x64.size a := fun v840 k0_hw136 => k0_hw136.2.2.2

def k0_off488 (v858 : BitVec 32) : Fin 2 → Nat :=
  let v859 : Index := Scalar.indexCast v858
  let c0_236 : Index := 0#32
  ![v859.toNat, 0]

def k0_off489 (v858 : BitVec 32) : Fin 2 → Nat :=
  let v863 : Index := Scalar.indexCast v858
  let c16_237 : Index := 16#32
  ![v863.toNat, 16]
def k0_off490 (v858 : BitVec 32) : Fin 2 → Nat :=
  let v867 : Index := Scalar.indexCast v858
  let c32_238 : Index := 32#32
  ![v867.toNat, 32]
def k0_off491 (v858 : BitVec 32) : Fin 2 → Nat :=
  let v871 : Index := Scalar.indexCast v858
  let c48_239 : Index := 48#32
  ![v871.toNat, 48]

def k0_chk137 (v858 : BitVec 32) : Prop :=
  (∀ a, (k0_off488 v858) a + S1x16.size a ≤ S1000x64.size a) ∧
  (∀ a, (k0_off489 v858) a + S1x16.size a ≤ S1000x64.size a) ∧
  (∀ a, (k0_off490 v858) a + S1x16.size a ≤ S1000x64.size a) ∧
  (∀ a, (k0_off491 v858) a + S1x16.size a ≤ S1000x64.size a)
theorem k0_off488_inb : ∀ (v858 : BitVec 32) (k0_hw137 : k0_chk137 v858), ∀ a, (k0_off488 v858) a + S1x16.size a ≤ S1000x64.size a := fun v858 k0_hw137 => k0_hw137.1
theorem k0_off489_inb : ∀ (v858 : BitVec 32) (k0_hw137 : k0_chk137 v858), ∀ a, (k0_off489 v858) a + S1x16.size a ≤ S1000x64.size a := fun v858 k0_hw137 => k0_hw137.2.1
theorem k0_off490_inb : ∀ (v858 : BitVec 32) (k0_hw137 : k0_chk137 v858), ∀ a, (k0_off490 v858) a + S1x16.size a ≤ S1000x64.size a := fun v858 k0_hw137 => k0_hw137.2.2.1
theorem k0_off491_inb : ∀ (v858 : BitVec 32) (k0_hw137 : k0_chk137 v858), ∀ a, (k0_off491 v858) a + S1x16.size a ≤ S1000x64.size a := fun v858 k0_hw137 => k0_hw137.2.2.2

def k0_off492 (v876 : BitVec 32) : Fin 2 → Nat :=
  let v877 : Index := Scalar.indexCast v876
  let c0_240 : Index := 0#32
  ![v877.toNat, 0]

def k0_off493 (v876 : BitVec 32) : Fin 2 → Nat :=
  let v881 : Index := Scalar.indexCast v876
  let c16_241 : Index := 16#32
  ![v881.toNat, 16]
def k0_off494 (v876 : BitVec 32) : Fin 2 → Nat :=
  let v885 : Index := Scalar.indexCast v876
  let c32_242 : Index := 32#32
  ![v885.toNat, 32]
def k0_off495 (v876 : BitVec 32) : Fin 2 → Nat :=
  let v889 : Index := Scalar.indexCast v876
  let c48_243 : Index := 48#32
  ![v889.toNat, 48]

def k0_chk138 (v876 : BitVec 32) : Prop :=
  (∀ a, (k0_off492 v876) a + S1x16.size a ≤ S1000x64.size a) ∧
  (∀ a, (k0_off493 v876) a + S1x16.size a ≤ S1000x64.size a) ∧
  (∀ a, (k0_off494 v876) a + S1x16.size a ≤ S1000x64.size a) ∧
  (∀ a, (k0_off495 v876) a + S1x16.size a ≤ S1000x64.size a)
theorem k0_off492_inb : ∀ (v876 : BitVec 32) (k0_hw138 : k0_chk138 v876), ∀ a, (k0_off492 v876) a + S1x16.size a ≤ S1000x64.size a := fun v876 k0_hw138 => k0_hw138.1
theorem k0_off493_inb : ∀ (v876 : BitVec 32) (k0_hw138 : k0_chk138 v876), ∀ a, (k0_off493 v876) a + S1x16.size a ≤ S1000x64.size a := fun v876 k0_hw138 => k0_hw138.2.1
theorem k0_off494_inb : ∀ (v876 : BitVec 32) (k0_hw138 : k0_chk138 v876), ∀ a, (k0_off494 v876) a + S1x16.size a ≤ S1000x64.size a := fun v876 k0_hw138 => k0_hw138.2.2.1
theorem k0_off495_inb : ∀ (v876 : BitVec 32) (k0_hw138 : k0_chk138 v876), ∀ a, (k0_off495 v876) a + S1x16.size a ≤ S1000x64.size a := fun v876 k0_hw138 => k0_hw138.2.2.2

def k0_off496 (k0_t3 : Fin k0_t3_loop.trips) (c0_i32_248 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k0_t3
  let c1_i32_59 : BitVec 32 := 1#32
  let v102 : BitVec 32 := Scalar.muli arg16 c1_i32_59
  let v103 : BitVec 32 := Scalar.addi c0_i32_60 v102
  let c4_i32_245 : BitVec 32 := 4#32
  let v895 : BitVec 32 := Scalar.muli v103 c4_i32_245
  let c1_i32_246 : BitVec 32 := 1#32
  let v896 : BitVec 32 := Scalar.addi v895 c1_i32_246
  let c64_i32_247 : BitVec 32 := 64#32
  let v897 : BitVec 32 := Scalar.muli v896 c64_i32_247
  let v898 : BitVec 32 := Scalar.addi v897 c0_i32_248
  let v899 : Index := Scalar.indexCast v898
  ![v899.toNat]
def k0_off497 (v934 : BitVec 32) : Fin 2 → Nat :=
  let v935 : Index := Scalar.indexCast v934
  let c0_264 : Index := 0#32
  ![v935.toNat, 0]

def k0_chk139 (v934 : BitVec 32) : Prop :=
  (∀ a, (k0_off497 v934) a + S1x16.size a ≤ S1000x64.size a)
theorem k0_off497_inb : ∀ (v934 : BitVec 32) (k0_hw139 : k0_chk139 v934), ∀ a, (k0_off497 v934) a + S1x16.size a ≤ S1000x64.size a := fun v934 k0_hw139 => k0_hw139

def k0_off498 (v939 : BitVec 32) : Fin 2 → Nat :=
  let v940 : Index := Scalar.indexCast v939
  let c16_265 : Index := 16#32
  ![v940.toNat, 16]

def k0_chk140 (v939 : BitVec 32) : Prop :=
  (∀ a, (k0_off498 v939) a + S1x16.size a ≤ S1000x64.size a)
theorem k0_off498_inb : ∀ (v939 : BitVec 32) (k0_hw140 : k0_chk140 v939), ∀ a, (k0_off498 v939) a + S1x16.size a ≤ S1000x64.size a := fun v939 k0_hw140 => k0_hw140

def k0_off499 (v944 : BitVec 32) : Fin 2 → Nat :=
  let v945 : Index := Scalar.indexCast v944
  let c32_266 : Index := 32#32
  ![v945.toNat, 32]

def k0_chk141 (v944 : BitVec 32) : Prop :=
  (∀ a, (k0_off499 v944) a + S1x16.size a ≤ S1000x64.size a)
theorem k0_off499_inb : ∀ (v944 : BitVec 32) (k0_hw141 : k0_chk141 v944), ∀ a, (k0_off499 v944) a + S1x16.size a ≤ S1000x64.size a := fun v944 k0_hw141 => k0_hw141

def k0_off500 (v949 : BitVec 32) : Fin 2 → Nat :=
  let v950 : Index := Scalar.indexCast v949
  let c48_267 : Index := 48#32
  ![v950.toNat, 48]

def k0_chk142 (v949 : BitVec 32) : Prop :=
  (∀ a, (k0_off500 v949) a + S1x16.size a ≤ S1000x64.size a)
theorem k0_off500_inb : ∀ (v949 : BitVec 32) (k0_hw142 : k0_chk142 v949), ∀ a, (k0_off500 v949) a + S1x16.size a ≤ S1000x64.size a := fun v949 k0_hw142 => k0_hw142

def k0_off501 (v954 : BitVec 32) : Fin 2 → Nat :=
  let v955 : Index := Scalar.indexCast v954
  let c0_268 : Index := 0#32
  ![v955.toNat, 0]

def k0_off502 (v954 : BitVec 32) : Fin 2 → Nat :=
  let v959 : Index := Scalar.indexCast v954
  let c16_269 : Index := 16#32
  ![v959.toNat, 16]
def k0_off503 (v954 : BitVec 32) : Fin 2 → Nat :=
  let v963 : Index := Scalar.indexCast v954
  let c32_270 : Index := 32#32
  ![v963.toNat, 32]
def k0_off504 (v954 : BitVec 32) : Fin 2 → Nat :=
  let v967 : Index := Scalar.indexCast v954
  let c48_271 : Index := 48#32
  ![v967.toNat, 48]

def k0_chk143 (v954 : BitVec 32) : Prop :=
  (∀ a, (k0_off501 v954) a + S1x16.size a ≤ S1000x64.size a) ∧
  (∀ a, (k0_off502 v954) a + S1x16.size a ≤ S1000x64.size a) ∧
  (∀ a, (k0_off503 v954) a + S1x16.size a ≤ S1000x64.size a) ∧
  (∀ a, (k0_off504 v954) a + S1x16.size a ≤ S1000x64.size a)
theorem k0_off501_inb : ∀ (v954 : BitVec 32) (k0_hw143 : k0_chk143 v954), ∀ a, (k0_off501 v954) a + S1x16.size a ≤ S1000x64.size a := fun v954 k0_hw143 => k0_hw143.1
theorem k0_off502_inb : ∀ (v954 : BitVec 32) (k0_hw143 : k0_chk143 v954), ∀ a, (k0_off502 v954) a + S1x16.size a ≤ S1000x64.size a := fun v954 k0_hw143 => k0_hw143.2.1
theorem k0_off503_inb : ∀ (v954 : BitVec 32) (k0_hw143 : k0_chk143 v954), ∀ a, (k0_off503 v954) a + S1x16.size a ≤ S1000x64.size a := fun v954 k0_hw143 => k0_hw143.2.2.1
theorem k0_off504_inb : ∀ (v954 : BitVec 32) (k0_hw143 : k0_chk143 v954), ∀ a, (k0_off504 v954) a + S1x16.size a ≤ S1000x64.size a := fun v954 k0_hw143 => k0_hw143.2.2.2

def k0_off505 (v972 : BitVec 32) : Fin 2 → Nat :=
  let v973 : Index := Scalar.indexCast v972
  let c0_272 : Index := 0#32
  ![v973.toNat, 0]

def k0_off506 (v972 : BitVec 32) : Fin 2 → Nat :=
  let v977 : Index := Scalar.indexCast v972
  let c16_273 : Index := 16#32
  ![v977.toNat, 16]
def k0_off507 (v972 : BitVec 32) : Fin 2 → Nat :=
  let v981 : Index := Scalar.indexCast v972
  let c32_274 : Index := 32#32
  ![v981.toNat, 32]
def k0_off508 (v972 : BitVec 32) : Fin 2 → Nat :=
  let v985 : Index := Scalar.indexCast v972
  let c48_275 : Index := 48#32
  ![v985.toNat, 48]

def k0_chk144 (v972 : BitVec 32) : Prop :=
  (∀ a, (k0_off505 v972) a + S1x16.size a ≤ S1000x64.size a) ∧
  (∀ a, (k0_off506 v972) a + S1x16.size a ≤ S1000x64.size a) ∧
  (∀ a, (k0_off507 v972) a + S1x16.size a ≤ S1000x64.size a) ∧
  (∀ a, (k0_off508 v972) a + S1x16.size a ≤ S1000x64.size a)
theorem k0_off505_inb : ∀ (v972 : BitVec 32) (k0_hw144 : k0_chk144 v972), ∀ a, (k0_off505 v972) a + S1x16.size a ≤ S1000x64.size a := fun v972 k0_hw144 => k0_hw144.1
theorem k0_off506_inb : ∀ (v972 : BitVec 32) (k0_hw144 : k0_chk144 v972), ∀ a, (k0_off506 v972) a + S1x16.size a ≤ S1000x64.size a := fun v972 k0_hw144 => k0_hw144.2.1
theorem k0_off507_inb : ∀ (v972 : BitVec 32) (k0_hw144 : k0_chk144 v972), ∀ a, (k0_off507 v972) a + S1x16.size a ≤ S1000x64.size a := fun v972 k0_hw144 => k0_hw144.2.2.1
theorem k0_off508_inb : ∀ (v972 : BitVec 32) (k0_hw144 : k0_chk144 v972), ∀ a, (k0_off508 v972) a + S1x16.size a ≤ S1000x64.size a := fun v972 k0_hw144 => k0_hw144.2.2.2

def k0_off509 (v990 : BitVec 32) : Fin 2 → Nat :=
  let v991 : Index := Scalar.indexCast v990
  let c0_276 : Index := 0#32
  ![v991.toNat, 0]

def k0_off510 (v990 : BitVec 32) : Fin 2 → Nat :=
  let v995 : Index := Scalar.indexCast v990
  let c16_277 : Index := 16#32
  ![v995.toNat, 16]
def k0_off511 (v990 : BitVec 32) : Fin 2 → Nat :=
  let v999 : Index := Scalar.indexCast v990
  let c32_278 : Index := 32#32
  ![v999.toNat, 32]
def k0_off512 (v990 : BitVec 32) : Fin 2 → Nat :=
  let v1003 : Index := Scalar.indexCast v990
  let c48_279 : Index := 48#32
  ![v1003.toNat, 48]

def k0_chk145 (v990 : BitVec 32) : Prop :=
  (∀ a, (k0_off509 v990) a + S1x16.size a ≤ S1000x64.size a) ∧
  (∀ a, (k0_off510 v990) a + S1x16.size a ≤ S1000x64.size a) ∧
  (∀ a, (k0_off511 v990) a + S1x16.size a ≤ S1000x64.size a) ∧
  (∀ a, (k0_off512 v990) a + S1x16.size a ≤ S1000x64.size a)
theorem k0_off509_inb : ∀ (v990 : BitVec 32) (k0_hw145 : k0_chk145 v990), ∀ a, (k0_off509 v990) a + S1x16.size a ≤ S1000x64.size a := fun v990 k0_hw145 => k0_hw145.1
theorem k0_off510_inb : ∀ (v990 : BitVec 32) (k0_hw145 : k0_chk145 v990), ∀ a, (k0_off510 v990) a + S1x16.size a ≤ S1000x64.size a := fun v990 k0_hw145 => k0_hw145.2.1
theorem k0_off511_inb : ∀ (v990 : BitVec 32) (k0_hw145 : k0_chk145 v990), ∀ a, (k0_off511 v990) a + S1x16.size a ≤ S1000x64.size a := fun v990 k0_hw145 => k0_hw145.2.2.1
theorem k0_off512_inb : ∀ (v990 : BitVec 32) (k0_hw145 : k0_chk145 v990), ∀ a, (k0_off512 v990) a + S1x16.size a ≤ S1000x64.size a := fun v990 k0_hw145 => k0_hw145.2.2.2

def k0_off513 (v1008 : BitVec 32) : Fin 2 → Nat :=
  let v1009 : Index := Scalar.indexCast v1008
  let c0_280 : Index := 0#32
  ![v1009.toNat, 0]

def k0_off514 (v1008 : BitVec 32) : Fin 2 → Nat :=
  let v1013 : Index := Scalar.indexCast v1008
  let c16_281 : Index := 16#32
  ![v1013.toNat, 16]
def k0_off515 (v1008 : BitVec 32) : Fin 2 → Nat :=
  let v1017 : Index := Scalar.indexCast v1008
  let c32_282 : Index := 32#32
  ![v1017.toNat, 32]
def k0_off516 (v1008 : BitVec 32) : Fin 2 → Nat :=
  let v1021 : Index := Scalar.indexCast v1008
  let c48_283 : Index := 48#32
  ![v1021.toNat, 48]

def k0_chk146 (v1008 : BitVec 32) : Prop :=
  (∀ a, (k0_off513 v1008) a + S1x16.size a ≤ S1000x64.size a) ∧
  (∀ a, (k0_off514 v1008) a + S1x16.size a ≤ S1000x64.size a) ∧
  (∀ a, (k0_off515 v1008) a + S1x16.size a ≤ S1000x64.size a) ∧
  (∀ a, (k0_off516 v1008) a + S1x16.size a ≤ S1000x64.size a)
theorem k0_off513_inb : ∀ (v1008 : BitVec 32) (k0_hw146 : k0_chk146 v1008), ∀ a, (k0_off513 v1008) a + S1x16.size a ≤ S1000x64.size a := fun v1008 k0_hw146 => k0_hw146.1
theorem k0_off514_inb : ∀ (v1008 : BitVec 32) (k0_hw146 : k0_chk146 v1008), ∀ a, (k0_off514 v1008) a + S1x16.size a ≤ S1000x64.size a := fun v1008 k0_hw146 => k0_hw146.2.1
theorem k0_off515_inb : ∀ (v1008 : BitVec 32) (k0_hw146 : k0_chk146 v1008), ∀ a, (k0_off515 v1008) a + S1x16.size a ≤ S1000x64.size a := fun v1008 k0_hw146 => k0_hw146.2.2.1
theorem k0_off516_inb : ∀ (v1008 : BitVec 32) (k0_hw146 : k0_chk146 v1008), ∀ a, (k0_off516 v1008) a + S1x16.size a ≤ S1000x64.size a := fun v1008 k0_hw146 => k0_hw146.2.2.2

def k0_off517 (v1026 : BitVec 32) : Fin 2 → Nat :=
  let v1027 : Index := Scalar.indexCast v1026
  let c0_284 : Index := 0#32
  ![v1027.toNat, 0]

def k0_off518 (v1026 : BitVec 32) : Fin 2 → Nat :=
  let v1031 : Index := Scalar.indexCast v1026
  let c16_285 : Index := 16#32
  ![v1031.toNat, 16]
def k0_off519 (v1026 : BitVec 32) : Fin 2 → Nat :=
  let v1035 : Index := Scalar.indexCast v1026
  let c32_286 : Index := 32#32
  ![v1035.toNat, 32]
def k0_off520 (v1026 : BitVec 32) : Fin 2 → Nat :=
  let v1039 : Index := Scalar.indexCast v1026
  let c48_287 : Index := 48#32
  ![v1039.toNat, 48]

def k0_chk147 (v1026 : BitVec 32) : Prop :=
  (∀ a, (k0_off517 v1026) a + S1x16.size a ≤ S1000x64.size a) ∧
  (∀ a, (k0_off518 v1026) a + S1x16.size a ≤ S1000x64.size a) ∧
  (∀ a, (k0_off519 v1026) a + S1x16.size a ≤ S1000x64.size a) ∧
  (∀ a, (k0_off520 v1026) a + S1x16.size a ≤ S1000x64.size a)
theorem k0_off517_inb : ∀ (v1026 : BitVec 32) (k0_hw147 : k0_chk147 v1026), ∀ a, (k0_off517 v1026) a + S1x16.size a ≤ S1000x64.size a := fun v1026 k0_hw147 => k0_hw147.1
theorem k0_off518_inb : ∀ (v1026 : BitVec 32) (k0_hw147 : k0_chk147 v1026), ∀ a, (k0_off518 v1026) a + S1x16.size a ≤ S1000x64.size a := fun v1026 k0_hw147 => k0_hw147.2.1
theorem k0_off519_inb : ∀ (v1026 : BitVec 32) (k0_hw147 : k0_chk147 v1026), ∀ a, (k0_off519 v1026) a + S1x16.size a ≤ S1000x64.size a := fun v1026 k0_hw147 => k0_hw147.2.2.1
theorem k0_off520_inb : ∀ (v1026 : BitVec 32) (k0_hw147 : k0_chk147 v1026), ∀ a, (k0_off520 v1026) a + S1x16.size a ≤ S1000x64.size a := fun v1026 k0_hw147 => k0_hw147.2.2.2

def k0_off521 (v1044 : BitVec 32) : Fin 2 → Nat :=
  let v1045 : Index := Scalar.indexCast v1044
  let c0_288 : Index := 0#32
  ![v1045.toNat, 0]

def k0_off522 (v1044 : BitVec 32) : Fin 2 → Nat :=
  let v1049 : Index := Scalar.indexCast v1044
  let c16_289 : Index := 16#32
  ![v1049.toNat, 16]
def k0_off523 (v1044 : BitVec 32) : Fin 2 → Nat :=
  let v1053 : Index := Scalar.indexCast v1044
  let c32_290 : Index := 32#32
  ![v1053.toNat, 32]
def k0_off524 (v1044 : BitVec 32) : Fin 2 → Nat :=
  let v1057 : Index := Scalar.indexCast v1044
  let c48_291 : Index := 48#32
  ![v1057.toNat, 48]

def k0_chk148 (v1044 : BitVec 32) : Prop :=
  (∀ a, (k0_off521 v1044) a + S1x16.size a ≤ S1000x64.size a) ∧
  (∀ a, (k0_off522 v1044) a + S1x16.size a ≤ S1000x64.size a) ∧
  (∀ a, (k0_off523 v1044) a + S1x16.size a ≤ S1000x64.size a) ∧
  (∀ a, (k0_off524 v1044) a + S1x16.size a ≤ S1000x64.size a)
theorem k0_off521_inb : ∀ (v1044 : BitVec 32) (k0_hw148 : k0_chk148 v1044), ∀ a, (k0_off521 v1044) a + S1x16.size a ≤ S1000x64.size a := fun v1044 k0_hw148 => k0_hw148.1
theorem k0_off522_inb : ∀ (v1044 : BitVec 32) (k0_hw148 : k0_chk148 v1044), ∀ a, (k0_off522 v1044) a + S1x16.size a ≤ S1000x64.size a := fun v1044 k0_hw148 => k0_hw148.2.1
theorem k0_off523_inb : ∀ (v1044 : BitVec 32) (k0_hw148 : k0_chk148 v1044), ∀ a, (k0_off523 v1044) a + S1x16.size a ≤ S1000x64.size a := fun v1044 k0_hw148 => k0_hw148.2.2.1
theorem k0_off524_inb : ∀ (v1044 : BitVec 32) (k0_hw148 : k0_chk148 v1044), ∀ a, (k0_off524 v1044) a + S1x16.size a ≤ S1000x64.size a := fun v1044 k0_hw148 => k0_hw148.2.2.2

def k0_off525 (v1062 : BitVec 32) : Fin 2 → Nat :=
  let v1063 : Index := Scalar.indexCast v1062
  let c0_292 : Index := 0#32
  ![v1063.toNat, 0]

def k0_off526 (v1062 : BitVec 32) : Fin 2 → Nat :=
  let v1067 : Index := Scalar.indexCast v1062
  let c16_293 : Index := 16#32
  ![v1067.toNat, 16]
def k0_off527 (v1062 : BitVec 32) : Fin 2 → Nat :=
  let v1071 : Index := Scalar.indexCast v1062
  let c32_294 : Index := 32#32
  ![v1071.toNat, 32]
def k0_off528 (v1062 : BitVec 32) : Fin 2 → Nat :=
  let v1075 : Index := Scalar.indexCast v1062
  let c48_295 : Index := 48#32
  ![v1075.toNat, 48]

def k0_chk149 (v1062 : BitVec 32) : Prop :=
  (∀ a, (k0_off525 v1062) a + S1x16.size a ≤ S1000x64.size a) ∧
  (∀ a, (k0_off526 v1062) a + S1x16.size a ≤ S1000x64.size a) ∧
  (∀ a, (k0_off527 v1062) a + S1x16.size a ≤ S1000x64.size a) ∧
  (∀ a, (k0_off528 v1062) a + S1x16.size a ≤ S1000x64.size a)
theorem k0_off525_inb : ∀ (v1062 : BitVec 32) (k0_hw149 : k0_chk149 v1062), ∀ a, (k0_off525 v1062) a + S1x16.size a ≤ S1000x64.size a := fun v1062 k0_hw149 => k0_hw149.1
theorem k0_off526_inb : ∀ (v1062 : BitVec 32) (k0_hw149 : k0_chk149 v1062), ∀ a, (k0_off526 v1062) a + S1x16.size a ≤ S1000x64.size a := fun v1062 k0_hw149 => k0_hw149.2.1
theorem k0_off527_inb : ∀ (v1062 : BitVec 32) (k0_hw149 : k0_chk149 v1062), ∀ a, (k0_off527 v1062) a + S1x16.size a ≤ S1000x64.size a := fun v1062 k0_hw149 => k0_hw149.2.2.1
theorem k0_off528_inb : ∀ (v1062 : BitVec 32) (k0_hw149 : k0_chk149 v1062), ∀ a, (k0_off528 v1062) a + S1x16.size a ≤ S1000x64.size a := fun v1062 k0_hw149 => k0_hw149.2.2.2

def k0_off529 (v1080 : BitVec 32) : Fin 2 → Nat :=
  let v1081 : Index := Scalar.indexCast v1080
  let c0_296 : Index := 0#32
  ![v1081.toNat, 0]

def k0_off530 (v1080 : BitVec 32) : Fin 2 → Nat :=
  let v1085 : Index := Scalar.indexCast v1080
  let c16_297 : Index := 16#32
  ![v1085.toNat, 16]
def k0_off531 (v1080 : BitVec 32) : Fin 2 → Nat :=
  let v1089 : Index := Scalar.indexCast v1080
  let c32_298 : Index := 32#32
  ![v1089.toNat, 32]
def k0_off532 (v1080 : BitVec 32) : Fin 2 → Nat :=
  let v1093 : Index := Scalar.indexCast v1080
  let c48_299 : Index := 48#32
  ![v1093.toNat, 48]

def k0_chk150 (v1080 : BitVec 32) : Prop :=
  (∀ a, (k0_off529 v1080) a + S1x16.size a ≤ S1000x64.size a) ∧
  (∀ a, (k0_off530 v1080) a + S1x16.size a ≤ S1000x64.size a) ∧
  (∀ a, (k0_off531 v1080) a + S1x16.size a ≤ S1000x64.size a) ∧
  (∀ a, (k0_off532 v1080) a + S1x16.size a ≤ S1000x64.size a)
theorem k0_off529_inb : ∀ (v1080 : BitVec 32) (k0_hw150 : k0_chk150 v1080), ∀ a, (k0_off529 v1080) a + S1x16.size a ≤ S1000x64.size a := fun v1080 k0_hw150 => k0_hw150.1
theorem k0_off530_inb : ∀ (v1080 : BitVec 32) (k0_hw150 : k0_chk150 v1080), ∀ a, (k0_off530 v1080) a + S1x16.size a ≤ S1000x64.size a := fun v1080 k0_hw150 => k0_hw150.2.1
theorem k0_off531_inb : ∀ (v1080 : BitVec 32) (k0_hw150 : k0_chk150 v1080), ∀ a, (k0_off531 v1080) a + S1x16.size a ≤ S1000x64.size a := fun v1080 k0_hw150 => k0_hw150.2.2.1
theorem k0_off532_inb : ∀ (v1080 : BitVec 32) (k0_hw150 : k0_chk150 v1080), ∀ a, (k0_off532 v1080) a + S1x16.size a ≤ S1000x64.size a := fun v1080 k0_hw150 => k0_hw150.2.2.2

def k0_off533 (v1098 : BitVec 32) : Fin 2 → Nat :=
  let v1099 : Index := Scalar.indexCast v1098
  let c0_300 : Index := 0#32
  ![v1099.toNat, 0]

def k0_off534 (v1098 : BitVec 32) : Fin 2 → Nat :=
  let v1103 : Index := Scalar.indexCast v1098
  let c16_301 : Index := 16#32
  ![v1103.toNat, 16]
def k0_off535 (v1098 : BitVec 32) : Fin 2 → Nat :=
  let v1107 : Index := Scalar.indexCast v1098
  let c32_302 : Index := 32#32
  ![v1107.toNat, 32]
def k0_off536 (v1098 : BitVec 32) : Fin 2 → Nat :=
  let v1111 : Index := Scalar.indexCast v1098
  let c48_303 : Index := 48#32
  ![v1111.toNat, 48]

def k0_chk151 (v1098 : BitVec 32) : Prop :=
  (∀ a, (k0_off533 v1098) a + S1x16.size a ≤ S1000x64.size a) ∧
  (∀ a, (k0_off534 v1098) a + S1x16.size a ≤ S1000x64.size a) ∧
  (∀ a, (k0_off535 v1098) a + S1x16.size a ≤ S1000x64.size a) ∧
  (∀ a, (k0_off536 v1098) a + S1x16.size a ≤ S1000x64.size a)
theorem k0_off533_inb : ∀ (v1098 : BitVec 32) (k0_hw151 : k0_chk151 v1098), ∀ a, (k0_off533 v1098) a + S1x16.size a ≤ S1000x64.size a := fun v1098 k0_hw151 => k0_hw151.1
theorem k0_off534_inb : ∀ (v1098 : BitVec 32) (k0_hw151 : k0_chk151 v1098), ∀ a, (k0_off534 v1098) a + S1x16.size a ≤ S1000x64.size a := fun v1098 k0_hw151 => k0_hw151.2.1
theorem k0_off535_inb : ∀ (v1098 : BitVec 32) (k0_hw151 : k0_chk151 v1098), ∀ a, (k0_off535 v1098) a + S1x16.size a ≤ S1000x64.size a := fun v1098 k0_hw151 => k0_hw151.2.2.1
theorem k0_off536_inb : ∀ (v1098 : BitVec 32) (k0_hw151 : k0_chk151 v1098), ∀ a, (k0_off536 v1098) a + S1x16.size a ≤ S1000x64.size a := fun v1098 k0_hw151 => k0_hw151.2.2.2

def k0_off537 (v1116 : BitVec 32) : Fin 2 → Nat :=
  let v1117 : Index := Scalar.indexCast v1116
  let c0_304 : Index := 0#32
  ![v1117.toNat, 0]

def k0_off538 (v1116 : BitVec 32) : Fin 2 → Nat :=
  let v1121 : Index := Scalar.indexCast v1116
  let c16_305 : Index := 16#32
  ![v1121.toNat, 16]
def k0_off539 (v1116 : BitVec 32) : Fin 2 → Nat :=
  let v1125 : Index := Scalar.indexCast v1116
  let c32_306 : Index := 32#32
  ![v1125.toNat, 32]
def k0_off540 (v1116 : BitVec 32) : Fin 2 → Nat :=
  let v1129 : Index := Scalar.indexCast v1116
  let c48_307 : Index := 48#32
  ![v1129.toNat, 48]

def k0_chk152 (v1116 : BitVec 32) : Prop :=
  (∀ a, (k0_off537 v1116) a + S1x16.size a ≤ S1000x64.size a) ∧
  (∀ a, (k0_off538 v1116) a + S1x16.size a ≤ S1000x64.size a) ∧
  (∀ a, (k0_off539 v1116) a + S1x16.size a ≤ S1000x64.size a) ∧
  (∀ a, (k0_off540 v1116) a + S1x16.size a ≤ S1000x64.size a)
theorem k0_off537_inb : ∀ (v1116 : BitVec 32) (k0_hw152 : k0_chk152 v1116), ∀ a, (k0_off537 v1116) a + S1x16.size a ≤ S1000x64.size a := fun v1116 k0_hw152 => k0_hw152.1
theorem k0_off538_inb : ∀ (v1116 : BitVec 32) (k0_hw152 : k0_chk152 v1116), ∀ a, (k0_off538 v1116) a + S1x16.size a ≤ S1000x64.size a := fun v1116 k0_hw152 => k0_hw152.2.1
theorem k0_off539_inb : ∀ (v1116 : BitVec 32) (k0_hw152 : k0_chk152 v1116), ∀ a, (k0_off539 v1116) a + S1x16.size a ≤ S1000x64.size a := fun v1116 k0_hw152 => k0_hw152.2.2.1
theorem k0_off540_inb : ∀ (v1116 : BitVec 32) (k0_hw152 : k0_chk152 v1116), ∀ a, (k0_off540 v1116) a + S1x16.size a ≤ S1000x64.size a := fun v1116 k0_hw152 => k0_hw152.2.2.2

def k0_off541 (v1134 : BitVec 32) : Fin 2 → Nat :=
  let v1135 : Index := Scalar.indexCast v1134
  let c0_308 : Index := 0#32
  ![v1135.toNat, 0]

def k0_off542 (v1134 : BitVec 32) : Fin 2 → Nat :=
  let v1139 : Index := Scalar.indexCast v1134
  let c16_309 : Index := 16#32
  ![v1139.toNat, 16]
def k0_off543 (v1134 : BitVec 32) : Fin 2 → Nat :=
  let v1143 : Index := Scalar.indexCast v1134
  let c32_310 : Index := 32#32
  ![v1143.toNat, 32]
def k0_off544 (v1134 : BitVec 32) : Fin 2 → Nat :=
  let v1147 : Index := Scalar.indexCast v1134
  let c48_311 : Index := 48#32
  ![v1147.toNat, 48]

def k0_chk153 (v1134 : BitVec 32) : Prop :=
  (∀ a, (k0_off541 v1134) a + S1x16.size a ≤ S1000x64.size a) ∧
  (∀ a, (k0_off542 v1134) a + S1x16.size a ≤ S1000x64.size a) ∧
  (∀ a, (k0_off543 v1134) a + S1x16.size a ≤ S1000x64.size a) ∧
  (∀ a, (k0_off544 v1134) a + S1x16.size a ≤ S1000x64.size a)
theorem k0_off541_inb : ∀ (v1134 : BitVec 32) (k0_hw153 : k0_chk153 v1134), ∀ a, (k0_off541 v1134) a + S1x16.size a ≤ S1000x64.size a := fun v1134 k0_hw153 => k0_hw153.1
theorem k0_off542_inb : ∀ (v1134 : BitVec 32) (k0_hw153 : k0_chk153 v1134), ∀ a, (k0_off542 v1134) a + S1x16.size a ≤ S1000x64.size a := fun v1134 k0_hw153 => k0_hw153.2.1
theorem k0_off543_inb : ∀ (v1134 : BitVec 32) (k0_hw153 : k0_chk153 v1134), ∀ a, (k0_off543 v1134) a + S1x16.size a ≤ S1000x64.size a := fun v1134 k0_hw153 => k0_hw153.2.2.1
theorem k0_off544_inb : ∀ (v1134 : BitVec 32) (k0_hw153 : k0_chk153 v1134), ∀ a, (k0_off544 v1134) a + S1x16.size a ≤ S1000x64.size a := fun v1134 k0_hw153 => k0_hw153.2.2.2

def k0_off545 (v1152 : BitVec 32) : Fin 2 → Nat :=
  let v1153 : Index := Scalar.indexCast v1152
  let c0_312 : Index := 0#32
  ![v1153.toNat, 0]

def k0_off546 (v1152 : BitVec 32) : Fin 2 → Nat :=
  let v1157 : Index := Scalar.indexCast v1152
  let c16_313 : Index := 16#32
  ![v1157.toNat, 16]
def k0_off547 (v1152 : BitVec 32) : Fin 2 → Nat :=
  let v1161 : Index := Scalar.indexCast v1152
  let c32_314 : Index := 32#32
  ![v1161.toNat, 32]
def k0_off548 (v1152 : BitVec 32) : Fin 2 → Nat :=
  let v1165 : Index := Scalar.indexCast v1152
  let c48_315 : Index := 48#32
  ![v1165.toNat, 48]

def k0_chk154 (v1152 : BitVec 32) : Prop :=
  (∀ a, (k0_off545 v1152) a + S1x16.size a ≤ S1000x64.size a) ∧
  (∀ a, (k0_off546 v1152) a + S1x16.size a ≤ S1000x64.size a) ∧
  (∀ a, (k0_off547 v1152) a + S1x16.size a ≤ S1000x64.size a) ∧
  (∀ a, (k0_off548 v1152) a + S1x16.size a ≤ S1000x64.size a)
theorem k0_off545_inb : ∀ (v1152 : BitVec 32) (k0_hw154 : k0_chk154 v1152), ∀ a, (k0_off545 v1152) a + S1x16.size a ≤ S1000x64.size a := fun v1152 k0_hw154 => k0_hw154.1
theorem k0_off546_inb : ∀ (v1152 : BitVec 32) (k0_hw154 : k0_chk154 v1152), ∀ a, (k0_off546 v1152) a + S1x16.size a ≤ S1000x64.size a := fun v1152 k0_hw154 => k0_hw154.2.1
theorem k0_off547_inb : ∀ (v1152 : BitVec 32) (k0_hw154 : k0_chk154 v1152), ∀ a, (k0_off547 v1152) a + S1x16.size a ≤ S1000x64.size a := fun v1152 k0_hw154 => k0_hw154.2.2.1
theorem k0_off548_inb : ∀ (v1152 : BitVec 32) (k0_hw154 : k0_chk154 v1152), ∀ a, (k0_off548 v1152) a + S1x16.size a ≤ S1000x64.size a := fun v1152 k0_hw154 => k0_hw154.2.2.2

def k0_off549 (v1170 : BitVec 32) : Fin 2 → Nat :=
  let v1171 : Index := Scalar.indexCast v1170
  let c0_316 : Index := 0#32
  ![v1171.toNat, 0]

def k0_off550 (v1170 : BitVec 32) : Fin 2 → Nat :=
  let v1175 : Index := Scalar.indexCast v1170
  let c16_317 : Index := 16#32
  ![v1175.toNat, 16]
def k0_off551 (v1170 : BitVec 32) : Fin 2 → Nat :=
  let v1179 : Index := Scalar.indexCast v1170
  let c32_318 : Index := 32#32
  ![v1179.toNat, 32]
def k0_off552 (v1170 : BitVec 32) : Fin 2 → Nat :=
  let v1183 : Index := Scalar.indexCast v1170
  let c48_319 : Index := 48#32
  ![v1183.toNat, 48]

def k0_chk155 (v1170 : BitVec 32) : Prop :=
  (∀ a, (k0_off549 v1170) a + S1x16.size a ≤ S1000x64.size a) ∧
  (∀ a, (k0_off550 v1170) a + S1x16.size a ≤ S1000x64.size a) ∧
  (∀ a, (k0_off551 v1170) a + S1x16.size a ≤ S1000x64.size a) ∧
  (∀ a, (k0_off552 v1170) a + S1x16.size a ≤ S1000x64.size a)
theorem k0_off549_inb : ∀ (v1170 : BitVec 32) (k0_hw155 : k0_chk155 v1170), ∀ a, (k0_off549 v1170) a + S1x16.size a ≤ S1000x64.size a := fun v1170 k0_hw155 => k0_hw155.1
theorem k0_off550_inb : ∀ (v1170 : BitVec 32) (k0_hw155 : k0_chk155 v1170), ∀ a, (k0_off550 v1170) a + S1x16.size a ≤ S1000x64.size a := fun v1170 k0_hw155 => k0_hw155.2.1
theorem k0_off551_inb : ∀ (v1170 : BitVec 32) (k0_hw155 : k0_chk155 v1170), ∀ a, (k0_off551 v1170) a + S1x16.size a ≤ S1000x64.size a := fun v1170 k0_hw155 => k0_hw155.2.2.1
theorem k0_off552_inb : ∀ (v1170 : BitVec 32) (k0_hw155 : k0_chk155 v1170), ∀ a, (k0_off552 v1170) a + S1x16.size a ≤ S1000x64.size a := fun v1170 k0_hw155 => k0_hw155.2.2.2

def k0_off553 (v1188 : BitVec 32) : Fin 2 → Nat :=
  let v1189 : Index := Scalar.indexCast v1188
  let c0_320 : Index := 0#32
  ![v1189.toNat, 0]

def k0_off554 (v1188 : BitVec 32) : Fin 2 → Nat :=
  let v1193 : Index := Scalar.indexCast v1188
  let c16_321 : Index := 16#32
  ![v1193.toNat, 16]
def k0_off555 (v1188 : BitVec 32) : Fin 2 → Nat :=
  let v1197 : Index := Scalar.indexCast v1188
  let c32_322 : Index := 32#32
  ![v1197.toNat, 32]
def k0_off556 (v1188 : BitVec 32) : Fin 2 → Nat :=
  let v1201 : Index := Scalar.indexCast v1188
  let c48_323 : Index := 48#32
  ![v1201.toNat, 48]

def k0_chk156 (v1188 : BitVec 32) : Prop :=
  (∀ a, (k0_off553 v1188) a + S1x16.size a ≤ S1000x64.size a) ∧
  (∀ a, (k0_off554 v1188) a + S1x16.size a ≤ S1000x64.size a) ∧
  (∀ a, (k0_off555 v1188) a + S1x16.size a ≤ S1000x64.size a) ∧
  (∀ a, (k0_off556 v1188) a + S1x16.size a ≤ S1000x64.size a)
theorem k0_off553_inb : ∀ (v1188 : BitVec 32) (k0_hw156 : k0_chk156 v1188), ∀ a, (k0_off553 v1188) a + S1x16.size a ≤ S1000x64.size a := fun v1188 k0_hw156 => k0_hw156.1
theorem k0_off554_inb : ∀ (v1188 : BitVec 32) (k0_hw156 : k0_chk156 v1188), ∀ a, (k0_off554 v1188) a + S1x16.size a ≤ S1000x64.size a := fun v1188 k0_hw156 => k0_hw156.2.1
theorem k0_off555_inb : ∀ (v1188 : BitVec 32) (k0_hw156 : k0_chk156 v1188), ∀ a, (k0_off555 v1188) a + S1x16.size a ≤ S1000x64.size a := fun v1188 k0_hw156 => k0_hw156.2.2.1
theorem k0_off556_inb : ∀ (v1188 : BitVec 32) (k0_hw156 : k0_chk156 v1188), ∀ a, (k0_off556 v1188) a + S1x16.size a ≤ S1000x64.size a := fun v1188 k0_hw156 => k0_hw156.2.2.2

def k0_off557 (v1206 : BitVec 32) : Fin 2 → Nat :=
  let v1207 : Index := Scalar.indexCast v1206
  let c0_324 : Index := 0#32
  ![v1207.toNat, 0]

def k0_off558 (v1206 : BitVec 32) : Fin 2 → Nat :=
  let v1211 : Index := Scalar.indexCast v1206
  let c16_325 : Index := 16#32
  ![v1211.toNat, 16]
def k0_off559 (v1206 : BitVec 32) : Fin 2 → Nat :=
  let v1215 : Index := Scalar.indexCast v1206
  let c32_326 : Index := 32#32
  ![v1215.toNat, 32]
def k0_off560 (v1206 : BitVec 32) : Fin 2 → Nat :=
  let v1219 : Index := Scalar.indexCast v1206
  let c48_327 : Index := 48#32
  ![v1219.toNat, 48]

def k0_chk157 (v1206 : BitVec 32) : Prop :=
  (∀ a, (k0_off557 v1206) a + S1x16.size a ≤ S1000x64.size a) ∧
  (∀ a, (k0_off558 v1206) a + S1x16.size a ≤ S1000x64.size a) ∧
  (∀ a, (k0_off559 v1206) a + S1x16.size a ≤ S1000x64.size a) ∧
  (∀ a, (k0_off560 v1206) a + S1x16.size a ≤ S1000x64.size a)
theorem k0_off557_inb : ∀ (v1206 : BitVec 32) (k0_hw157 : k0_chk157 v1206), ∀ a, (k0_off557 v1206) a + S1x16.size a ≤ S1000x64.size a := fun v1206 k0_hw157 => k0_hw157.1
theorem k0_off558_inb : ∀ (v1206 : BitVec 32) (k0_hw157 : k0_chk157 v1206), ∀ a, (k0_off558 v1206) a + S1x16.size a ≤ S1000x64.size a := fun v1206 k0_hw157 => k0_hw157.2.1
theorem k0_off559_inb : ∀ (v1206 : BitVec 32) (k0_hw157 : k0_chk157 v1206), ∀ a, (k0_off559 v1206) a + S1x16.size a ≤ S1000x64.size a := fun v1206 k0_hw157 => k0_hw157.2.2.1
theorem k0_off560_inb : ∀ (v1206 : BitVec 32) (k0_hw157 : k0_chk157 v1206), ∀ a, (k0_off560 v1206) a + S1x16.size a ≤ S1000x64.size a := fun v1206 k0_hw157 => k0_hw157.2.2.2

def k0_off561 (v1224 : BitVec 32) : Fin 2 → Nat :=
  let v1225 : Index := Scalar.indexCast v1224
  let c0_328 : Index := 0#32
  ![v1225.toNat, 0]

def k0_off562 (v1224 : BitVec 32) : Fin 2 → Nat :=
  let v1229 : Index := Scalar.indexCast v1224
  let c16_329 : Index := 16#32
  ![v1229.toNat, 16]
def k0_off563 (v1224 : BitVec 32) : Fin 2 → Nat :=
  let v1233 : Index := Scalar.indexCast v1224
  let c32_330 : Index := 32#32
  ![v1233.toNat, 32]
def k0_off564 (v1224 : BitVec 32) : Fin 2 → Nat :=
  let v1237 : Index := Scalar.indexCast v1224
  let c48_331 : Index := 48#32
  ![v1237.toNat, 48]

def k0_chk158 (v1224 : BitVec 32) : Prop :=
  (∀ a, (k0_off561 v1224) a + S1x16.size a ≤ S1000x64.size a) ∧
  (∀ a, (k0_off562 v1224) a + S1x16.size a ≤ S1000x64.size a) ∧
  (∀ a, (k0_off563 v1224) a + S1x16.size a ≤ S1000x64.size a) ∧
  (∀ a, (k0_off564 v1224) a + S1x16.size a ≤ S1000x64.size a)
theorem k0_off561_inb : ∀ (v1224 : BitVec 32) (k0_hw158 : k0_chk158 v1224), ∀ a, (k0_off561 v1224) a + S1x16.size a ≤ S1000x64.size a := fun v1224 k0_hw158 => k0_hw158.1
theorem k0_off562_inb : ∀ (v1224 : BitVec 32) (k0_hw158 : k0_chk158 v1224), ∀ a, (k0_off562 v1224) a + S1x16.size a ≤ S1000x64.size a := fun v1224 k0_hw158 => k0_hw158.2.1
theorem k0_off563_inb : ∀ (v1224 : BitVec 32) (k0_hw158 : k0_chk158 v1224), ∀ a, (k0_off563 v1224) a + S1x16.size a ≤ S1000x64.size a := fun v1224 k0_hw158 => k0_hw158.2.2.1
theorem k0_off564_inb : ∀ (v1224 : BitVec 32) (k0_hw158 : k0_chk158 v1224), ∀ a, (k0_off564 v1224) a + S1x16.size a ≤ S1000x64.size a := fun v1224 k0_hw158 => k0_hw158.2.2.2

def k0_off565 (v1242 : BitVec 32) : Fin 2 → Nat :=
  let v1243 : Index := Scalar.indexCast v1242
  let c0_332 : Index := 0#32
  ![v1243.toNat, 0]

def k0_off566 (v1242 : BitVec 32) : Fin 2 → Nat :=
  let v1247 : Index := Scalar.indexCast v1242
  let c16_333 : Index := 16#32
  ![v1247.toNat, 16]
def k0_off567 (v1242 : BitVec 32) : Fin 2 → Nat :=
  let v1251 : Index := Scalar.indexCast v1242
  let c32_334 : Index := 32#32
  ![v1251.toNat, 32]
def k0_off568 (v1242 : BitVec 32) : Fin 2 → Nat :=
  let v1255 : Index := Scalar.indexCast v1242
  let c48_335 : Index := 48#32
  ![v1255.toNat, 48]

def k0_chk159 (v1242 : BitVec 32) : Prop :=
  (∀ a, (k0_off565 v1242) a + S1x16.size a ≤ S1000x64.size a) ∧
  (∀ a, (k0_off566 v1242) a + S1x16.size a ≤ S1000x64.size a) ∧
  (∀ a, (k0_off567 v1242) a + S1x16.size a ≤ S1000x64.size a) ∧
  (∀ a, (k0_off568 v1242) a + S1x16.size a ≤ S1000x64.size a)
theorem k0_off565_inb : ∀ (v1242 : BitVec 32) (k0_hw159 : k0_chk159 v1242), ∀ a, (k0_off565 v1242) a + S1x16.size a ≤ S1000x64.size a := fun v1242 k0_hw159 => k0_hw159.1
theorem k0_off566_inb : ∀ (v1242 : BitVec 32) (k0_hw159 : k0_chk159 v1242), ∀ a, (k0_off566 v1242) a + S1x16.size a ≤ S1000x64.size a := fun v1242 k0_hw159 => k0_hw159.2.1
theorem k0_off567_inb : ∀ (v1242 : BitVec 32) (k0_hw159 : k0_chk159 v1242), ∀ a, (k0_off567 v1242) a + S1x16.size a ≤ S1000x64.size a := fun v1242 k0_hw159 => k0_hw159.2.2.1
theorem k0_off568_inb : ∀ (v1242 : BitVec 32) (k0_hw159 : k0_chk159 v1242), ∀ a, (k0_off568 v1242) a + S1x16.size a ≤ S1000x64.size a := fun v1242 k0_hw159 => k0_hw159.2.2.2

def k0_off569 (v1260 : BitVec 32) : Fin 2 → Nat :=
  let v1261 : Index := Scalar.indexCast v1260
  let c0_336 : Index := 0#32
  ![v1261.toNat, 0]

def k0_off570 (v1260 : BitVec 32) : Fin 2 → Nat :=
  let v1265 : Index := Scalar.indexCast v1260
  let c16_337 : Index := 16#32
  ![v1265.toNat, 16]
def k0_off571 (v1260 : BitVec 32) : Fin 2 → Nat :=
  let v1269 : Index := Scalar.indexCast v1260
  let c32_338 : Index := 32#32
  ![v1269.toNat, 32]
def k0_off572 (v1260 : BitVec 32) : Fin 2 → Nat :=
  let v1273 : Index := Scalar.indexCast v1260
  let c48_339 : Index := 48#32
  ![v1273.toNat, 48]

def k0_chk160 (v1260 : BitVec 32) : Prop :=
  (∀ a, (k0_off569 v1260) a + S1x16.size a ≤ S1000x64.size a) ∧
  (∀ a, (k0_off570 v1260) a + S1x16.size a ≤ S1000x64.size a) ∧
  (∀ a, (k0_off571 v1260) a + S1x16.size a ≤ S1000x64.size a) ∧
  (∀ a, (k0_off572 v1260) a + S1x16.size a ≤ S1000x64.size a)
theorem k0_off569_inb : ∀ (v1260 : BitVec 32) (k0_hw160 : k0_chk160 v1260), ∀ a, (k0_off569 v1260) a + S1x16.size a ≤ S1000x64.size a := fun v1260 k0_hw160 => k0_hw160.1
theorem k0_off570_inb : ∀ (v1260 : BitVec 32) (k0_hw160 : k0_chk160 v1260), ∀ a, (k0_off570 v1260) a + S1x16.size a ≤ S1000x64.size a := fun v1260 k0_hw160 => k0_hw160.2.1
theorem k0_off571_inb : ∀ (v1260 : BitVec 32) (k0_hw160 : k0_chk160 v1260), ∀ a, (k0_off571 v1260) a + S1x16.size a ≤ S1000x64.size a := fun v1260 k0_hw160 => k0_hw160.2.2.1
theorem k0_off572_inb : ∀ (v1260 : BitVec 32) (k0_hw160 : k0_chk160 v1260), ∀ a, (k0_off572 v1260) a + S1x16.size a ≤ S1000x64.size a := fun v1260 k0_hw160 => k0_hw160.2.2.2

def k0_off573 (v1278 : BitVec 32) : Fin 2 → Nat :=
  let v1279 : Index := Scalar.indexCast v1278
  let c0_340 : Index := 0#32
  ![v1279.toNat, 0]

def k0_off574 (v1278 : BitVec 32) : Fin 2 → Nat :=
  let v1283 : Index := Scalar.indexCast v1278
  let c16_341 : Index := 16#32
  ![v1283.toNat, 16]
def k0_off575 (v1278 : BitVec 32) : Fin 2 → Nat :=
  let v1287 : Index := Scalar.indexCast v1278
  let c32_342 : Index := 32#32
  ![v1287.toNat, 32]
def k0_off576 (v1278 : BitVec 32) : Fin 2 → Nat :=
  let v1291 : Index := Scalar.indexCast v1278
  let c48_343 : Index := 48#32
  ![v1291.toNat, 48]

def k0_chk161 (v1278 : BitVec 32) : Prop :=
  (∀ a, (k0_off573 v1278) a + S1x16.size a ≤ S1000x64.size a) ∧
  (∀ a, (k0_off574 v1278) a + S1x16.size a ≤ S1000x64.size a) ∧
  (∀ a, (k0_off575 v1278) a + S1x16.size a ≤ S1000x64.size a) ∧
  (∀ a, (k0_off576 v1278) a + S1x16.size a ≤ S1000x64.size a)
theorem k0_off573_inb : ∀ (v1278 : BitVec 32) (k0_hw161 : k0_chk161 v1278), ∀ a, (k0_off573 v1278) a + S1x16.size a ≤ S1000x64.size a := fun v1278 k0_hw161 => k0_hw161.1
theorem k0_off574_inb : ∀ (v1278 : BitVec 32) (k0_hw161 : k0_chk161 v1278), ∀ a, (k0_off574 v1278) a + S1x16.size a ≤ S1000x64.size a := fun v1278 k0_hw161 => k0_hw161.2.1
theorem k0_off575_inb : ∀ (v1278 : BitVec 32) (k0_hw161 : k0_chk161 v1278), ∀ a, (k0_off575 v1278) a + S1x16.size a ≤ S1000x64.size a := fun v1278 k0_hw161 => k0_hw161.2.2.1
theorem k0_off576_inb : ∀ (v1278 : BitVec 32) (k0_hw161 : k0_chk161 v1278), ∀ a, (k0_off576 v1278) a + S1x16.size a ≤ S1000x64.size a := fun v1278 k0_hw161 => k0_hw161.2.2.2

def k0_off577 (k0_t3 : Fin k0_t3_loop.trips) (c0_i32_348 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k0_t3
  let c1_i32_59 : BitVec 32 := 1#32
  let v102 : BitVec 32 := Scalar.muli arg16 c1_i32_59
  let v103 : BitVec 32 := Scalar.addi c0_i32_60 v102
  let c4_i32_345 : BitVec 32 := 4#32
  let v1297 : BitVec 32 := Scalar.muli v103 c4_i32_345
  let c2_i32_346 : BitVec 32 := 2#32
  let v1298 : BitVec 32 := Scalar.addi v1297 c2_i32_346
  let c64_i32_347 : BitVec 32 := 64#32
  let v1299 : BitVec 32 := Scalar.muli v1298 c64_i32_347
  let v1300 : BitVec 32 := Scalar.addi v1299 c0_i32_348
  let v1301 : Index := Scalar.indexCast v1300
  ![v1301.toNat]
def k0_off578 (v1336 : BitVec 32) : Fin 2 → Nat :=
  let v1337 : Index := Scalar.indexCast v1336
  let c0_364 : Index := 0#32
  ![v1337.toNat, 0]

def k0_chk162 (v1336 : BitVec 32) : Prop :=
  (∀ a, (k0_off578 v1336) a + S1x16.size a ≤ S1000x64.size a)
theorem k0_off578_inb : ∀ (v1336 : BitVec 32) (k0_hw162 : k0_chk162 v1336), ∀ a, (k0_off578 v1336) a + S1x16.size a ≤ S1000x64.size a := fun v1336 k0_hw162 => k0_hw162

def k0_off579 (v1341 : BitVec 32) : Fin 2 → Nat :=
  let v1342 : Index := Scalar.indexCast v1341
  let c16_365 : Index := 16#32
  ![v1342.toNat, 16]

def k0_chk163 (v1341 : BitVec 32) : Prop :=
  (∀ a, (k0_off579 v1341) a + S1x16.size a ≤ S1000x64.size a)
theorem k0_off579_inb : ∀ (v1341 : BitVec 32) (k0_hw163 : k0_chk163 v1341), ∀ a, (k0_off579 v1341) a + S1x16.size a ≤ S1000x64.size a := fun v1341 k0_hw163 => k0_hw163

def k0_off580 (v1346 : BitVec 32) : Fin 2 → Nat :=
  let v1347 : Index := Scalar.indexCast v1346
  let c32_366 : Index := 32#32
  ![v1347.toNat, 32]

def k0_chk164 (v1346 : BitVec 32) : Prop :=
  (∀ a, (k0_off580 v1346) a + S1x16.size a ≤ S1000x64.size a)
theorem k0_off580_inb : ∀ (v1346 : BitVec 32) (k0_hw164 : k0_chk164 v1346), ∀ a, (k0_off580 v1346) a + S1x16.size a ≤ S1000x64.size a := fun v1346 k0_hw164 => k0_hw164

def k0_off581 (v1351 : BitVec 32) : Fin 2 → Nat :=
  let v1352 : Index := Scalar.indexCast v1351
  let c48_367 : Index := 48#32
  ![v1352.toNat, 48]

def k0_chk165 (v1351 : BitVec 32) : Prop :=
  (∀ a, (k0_off581 v1351) a + S1x16.size a ≤ S1000x64.size a)
theorem k0_off581_inb : ∀ (v1351 : BitVec 32) (k0_hw165 : k0_chk165 v1351), ∀ a, (k0_off581 v1351) a + S1x16.size a ≤ S1000x64.size a := fun v1351 k0_hw165 => k0_hw165

def k0_off582 (v1356 : BitVec 32) : Fin 2 → Nat :=
  let v1357 : Index := Scalar.indexCast v1356
  let c0_368 : Index := 0#32
  ![v1357.toNat, 0]

def k0_off583 (v1356 : BitVec 32) : Fin 2 → Nat :=
  let v1361 : Index := Scalar.indexCast v1356
  let c16_369 : Index := 16#32
  ![v1361.toNat, 16]
def k0_off584 (v1356 : BitVec 32) : Fin 2 → Nat :=
  let v1365 : Index := Scalar.indexCast v1356
  let c32_370 : Index := 32#32
  ![v1365.toNat, 32]
def k0_off585 (v1356 : BitVec 32) : Fin 2 → Nat :=
  let v1369 : Index := Scalar.indexCast v1356
  let c48_371 : Index := 48#32
  ![v1369.toNat, 48]

def k0_chk166 (v1356 : BitVec 32) : Prop :=
  (∀ a, (k0_off582 v1356) a + S1x16.size a ≤ S1000x64.size a) ∧
  (∀ a, (k0_off583 v1356) a + S1x16.size a ≤ S1000x64.size a) ∧
  (∀ a, (k0_off584 v1356) a + S1x16.size a ≤ S1000x64.size a) ∧
  (∀ a, (k0_off585 v1356) a + S1x16.size a ≤ S1000x64.size a)
theorem k0_off582_inb : ∀ (v1356 : BitVec 32) (k0_hw166 : k0_chk166 v1356), ∀ a, (k0_off582 v1356) a + S1x16.size a ≤ S1000x64.size a := fun v1356 k0_hw166 => k0_hw166.1
theorem k0_off583_inb : ∀ (v1356 : BitVec 32) (k0_hw166 : k0_chk166 v1356), ∀ a, (k0_off583 v1356) a + S1x16.size a ≤ S1000x64.size a := fun v1356 k0_hw166 => k0_hw166.2.1
theorem k0_off584_inb : ∀ (v1356 : BitVec 32) (k0_hw166 : k0_chk166 v1356), ∀ a, (k0_off584 v1356) a + S1x16.size a ≤ S1000x64.size a := fun v1356 k0_hw166 => k0_hw166.2.2.1
theorem k0_off585_inb : ∀ (v1356 : BitVec 32) (k0_hw166 : k0_chk166 v1356), ∀ a, (k0_off585 v1356) a + S1x16.size a ≤ S1000x64.size a := fun v1356 k0_hw166 => k0_hw166.2.2.2

def k0_off586 (v1374 : BitVec 32) : Fin 2 → Nat :=
  let v1375 : Index := Scalar.indexCast v1374
  let c0_372 : Index := 0#32
  ![v1375.toNat, 0]

def k0_off587 (v1374 : BitVec 32) : Fin 2 → Nat :=
  let v1379 : Index := Scalar.indexCast v1374
  let c16_373 : Index := 16#32
  ![v1379.toNat, 16]
def k0_off588 (v1374 : BitVec 32) : Fin 2 → Nat :=
  let v1383 : Index := Scalar.indexCast v1374
  let c32_374 : Index := 32#32
  ![v1383.toNat, 32]
def k0_off589 (v1374 : BitVec 32) : Fin 2 → Nat :=
  let v1387 : Index := Scalar.indexCast v1374
  let c48_375 : Index := 48#32
  ![v1387.toNat, 48]

def k0_chk167 (v1374 : BitVec 32) : Prop :=
  (∀ a, (k0_off586 v1374) a + S1x16.size a ≤ S1000x64.size a) ∧
  (∀ a, (k0_off587 v1374) a + S1x16.size a ≤ S1000x64.size a) ∧
  (∀ a, (k0_off588 v1374) a + S1x16.size a ≤ S1000x64.size a) ∧
  (∀ a, (k0_off589 v1374) a + S1x16.size a ≤ S1000x64.size a)
theorem k0_off586_inb : ∀ (v1374 : BitVec 32) (k0_hw167 : k0_chk167 v1374), ∀ a, (k0_off586 v1374) a + S1x16.size a ≤ S1000x64.size a := fun v1374 k0_hw167 => k0_hw167.1
theorem k0_off587_inb : ∀ (v1374 : BitVec 32) (k0_hw167 : k0_chk167 v1374), ∀ a, (k0_off587 v1374) a + S1x16.size a ≤ S1000x64.size a := fun v1374 k0_hw167 => k0_hw167.2.1
theorem k0_off588_inb : ∀ (v1374 : BitVec 32) (k0_hw167 : k0_chk167 v1374), ∀ a, (k0_off588 v1374) a + S1x16.size a ≤ S1000x64.size a := fun v1374 k0_hw167 => k0_hw167.2.2.1
theorem k0_off589_inb : ∀ (v1374 : BitVec 32) (k0_hw167 : k0_chk167 v1374), ∀ a, (k0_off589 v1374) a + S1x16.size a ≤ S1000x64.size a := fun v1374 k0_hw167 => k0_hw167.2.2.2

def k0_off590 (v1392 : BitVec 32) : Fin 2 → Nat :=
  let v1393 : Index := Scalar.indexCast v1392
  let c0_376 : Index := 0#32
  ![v1393.toNat, 0]

def k0_off591 (v1392 : BitVec 32) : Fin 2 → Nat :=
  let v1397 : Index := Scalar.indexCast v1392
  let c16_377 : Index := 16#32
  ![v1397.toNat, 16]
def k0_off592 (v1392 : BitVec 32) : Fin 2 → Nat :=
  let v1401 : Index := Scalar.indexCast v1392
  let c32_378 : Index := 32#32
  ![v1401.toNat, 32]
def k0_off593 (v1392 : BitVec 32) : Fin 2 → Nat :=
  let v1405 : Index := Scalar.indexCast v1392
  let c48_379 : Index := 48#32
  ![v1405.toNat, 48]

def k0_chk168 (v1392 : BitVec 32) : Prop :=
  (∀ a, (k0_off590 v1392) a + S1x16.size a ≤ S1000x64.size a) ∧
  (∀ a, (k0_off591 v1392) a + S1x16.size a ≤ S1000x64.size a) ∧
  (∀ a, (k0_off592 v1392) a + S1x16.size a ≤ S1000x64.size a) ∧
  (∀ a, (k0_off593 v1392) a + S1x16.size a ≤ S1000x64.size a)
theorem k0_off590_inb : ∀ (v1392 : BitVec 32) (k0_hw168 : k0_chk168 v1392), ∀ a, (k0_off590 v1392) a + S1x16.size a ≤ S1000x64.size a := fun v1392 k0_hw168 => k0_hw168.1
theorem k0_off591_inb : ∀ (v1392 : BitVec 32) (k0_hw168 : k0_chk168 v1392), ∀ a, (k0_off591 v1392) a + S1x16.size a ≤ S1000x64.size a := fun v1392 k0_hw168 => k0_hw168.2.1
theorem k0_off592_inb : ∀ (v1392 : BitVec 32) (k0_hw168 : k0_chk168 v1392), ∀ a, (k0_off592 v1392) a + S1x16.size a ≤ S1000x64.size a := fun v1392 k0_hw168 => k0_hw168.2.2.1
theorem k0_off593_inb : ∀ (v1392 : BitVec 32) (k0_hw168 : k0_chk168 v1392), ∀ a, (k0_off593 v1392) a + S1x16.size a ≤ S1000x64.size a := fun v1392 k0_hw168 => k0_hw168.2.2.2

def k0_off594 (v1410 : BitVec 32) : Fin 2 → Nat :=
  let v1411 : Index := Scalar.indexCast v1410
  let c0_380 : Index := 0#32
  ![v1411.toNat, 0]

def k0_off595 (v1410 : BitVec 32) : Fin 2 → Nat :=
  let v1415 : Index := Scalar.indexCast v1410
  let c16_381 : Index := 16#32
  ![v1415.toNat, 16]
def k0_off596 (v1410 : BitVec 32) : Fin 2 → Nat :=
  let v1419 : Index := Scalar.indexCast v1410
  let c32_382 : Index := 32#32
  ![v1419.toNat, 32]
def k0_off597 (v1410 : BitVec 32) : Fin 2 → Nat :=
  let v1423 : Index := Scalar.indexCast v1410
  let c48_383 : Index := 48#32
  ![v1423.toNat, 48]

def k0_chk169 (v1410 : BitVec 32) : Prop :=
  (∀ a, (k0_off594 v1410) a + S1x16.size a ≤ S1000x64.size a) ∧
  (∀ a, (k0_off595 v1410) a + S1x16.size a ≤ S1000x64.size a) ∧
  (∀ a, (k0_off596 v1410) a + S1x16.size a ≤ S1000x64.size a) ∧
  (∀ a, (k0_off597 v1410) a + S1x16.size a ≤ S1000x64.size a)
theorem k0_off594_inb : ∀ (v1410 : BitVec 32) (k0_hw169 : k0_chk169 v1410), ∀ a, (k0_off594 v1410) a + S1x16.size a ≤ S1000x64.size a := fun v1410 k0_hw169 => k0_hw169.1
theorem k0_off595_inb : ∀ (v1410 : BitVec 32) (k0_hw169 : k0_chk169 v1410), ∀ a, (k0_off595 v1410) a + S1x16.size a ≤ S1000x64.size a := fun v1410 k0_hw169 => k0_hw169.2.1
theorem k0_off596_inb : ∀ (v1410 : BitVec 32) (k0_hw169 : k0_chk169 v1410), ∀ a, (k0_off596 v1410) a + S1x16.size a ≤ S1000x64.size a := fun v1410 k0_hw169 => k0_hw169.2.2.1
theorem k0_off597_inb : ∀ (v1410 : BitVec 32) (k0_hw169 : k0_chk169 v1410), ∀ a, (k0_off597 v1410) a + S1x16.size a ≤ S1000x64.size a := fun v1410 k0_hw169 => k0_hw169.2.2.2

def k0_off598 (v1428 : BitVec 32) : Fin 2 → Nat :=
  let v1429 : Index := Scalar.indexCast v1428
  let c0_384 : Index := 0#32
  ![v1429.toNat, 0]

def k0_off599 (v1428 : BitVec 32) : Fin 2 → Nat :=
  let v1433 : Index := Scalar.indexCast v1428
  let c16_385 : Index := 16#32
  ![v1433.toNat, 16]
def k0_off600 (v1428 : BitVec 32) : Fin 2 → Nat :=
  let v1437 : Index := Scalar.indexCast v1428
  let c32_386 : Index := 32#32
  ![v1437.toNat, 32]
def k0_off601 (v1428 : BitVec 32) : Fin 2 → Nat :=
  let v1441 : Index := Scalar.indexCast v1428
  let c48_387 : Index := 48#32
  ![v1441.toNat, 48]

def k0_chk170 (v1428 : BitVec 32) : Prop :=
  (∀ a, (k0_off598 v1428) a + S1x16.size a ≤ S1000x64.size a) ∧
  (∀ a, (k0_off599 v1428) a + S1x16.size a ≤ S1000x64.size a) ∧
  (∀ a, (k0_off600 v1428) a + S1x16.size a ≤ S1000x64.size a) ∧
  (∀ a, (k0_off601 v1428) a + S1x16.size a ≤ S1000x64.size a)
theorem k0_off598_inb : ∀ (v1428 : BitVec 32) (k0_hw170 : k0_chk170 v1428), ∀ a, (k0_off598 v1428) a + S1x16.size a ≤ S1000x64.size a := fun v1428 k0_hw170 => k0_hw170.1
theorem k0_off599_inb : ∀ (v1428 : BitVec 32) (k0_hw170 : k0_chk170 v1428), ∀ a, (k0_off599 v1428) a + S1x16.size a ≤ S1000x64.size a := fun v1428 k0_hw170 => k0_hw170.2.1
theorem k0_off600_inb : ∀ (v1428 : BitVec 32) (k0_hw170 : k0_chk170 v1428), ∀ a, (k0_off600 v1428) a + S1x16.size a ≤ S1000x64.size a := fun v1428 k0_hw170 => k0_hw170.2.2.1
theorem k0_off601_inb : ∀ (v1428 : BitVec 32) (k0_hw170 : k0_chk170 v1428), ∀ a, (k0_off601 v1428) a + S1x16.size a ≤ S1000x64.size a := fun v1428 k0_hw170 => k0_hw170.2.2.2

def k0_off602 (v1446 : BitVec 32) : Fin 2 → Nat :=
  let v1447 : Index := Scalar.indexCast v1446
  let c0_388 : Index := 0#32
  ![v1447.toNat, 0]

def k0_off603 (v1446 : BitVec 32) : Fin 2 → Nat :=
  let v1451 : Index := Scalar.indexCast v1446
  let c16_389 : Index := 16#32
  ![v1451.toNat, 16]
def k0_off604 (v1446 : BitVec 32) : Fin 2 → Nat :=
  let v1455 : Index := Scalar.indexCast v1446
  let c32_390 : Index := 32#32
  ![v1455.toNat, 32]
def k0_off605 (v1446 : BitVec 32) : Fin 2 → Nat :=
  let v1459 : Index := Scalar.indexCast v1446
  let c48_391 : Index := 48#32
  ![v1459.toNat, 48]

def k0_chk171 (v1446 : BitVec 32) : Prop :=
  (∀ a, (k0_off602 v1446) a + S1x16.size a ≤ S1000x64.size a) ∧
  (∀ a, (k0_off603 v1446) a + S1x16.size a ≤ S1000x64.size a) ∧
  (∀ a, (k0_off604 v1446) a + S1x16.size a ≤ S1000x64.size a) ∧
  (∀ a, (k0_off605 v1446) a + S1x16.size a ≤ S1000x64.size a)
theorem k0_off602_inb : ∀ (v1446 : BitVec 32) (k0_hw171 : k0_chk171 v1446), ∀ a, (k0_off602 v1446) a + S1x16.size a ≤ S1000x64.size a := fun v1446 k0_hw171 => k0_hw171.1
theorem k0_off603_inb : ∀ (v1446 : BitVec 32) (k0_hw171 : k0_chk171 v1446), ∀ a, (k0_off603 v1446) a + S1x16.size a ≤ S1000x64.size a := fun v1446 k0_hw171 => k0_hw171.2.1
theorem k0_off604_inb : ∀ (v1446 : BitVec 32) (k0_hw171 : k0_chk171 v1446), ∀ a, (k0_off604 v1446) a + S1x16.size a ≤ S1000x64.size a := fun v1446 k0_hw171 => k0_hw171.2.2.1
theorem k0_off605_inb : ∀ (v1446 : BitVec 32) (k0_hw171 : k0_chk171 v1446), ∀ a, (k0_off605 v1446) a + S1x16.size a ≤ S1000x64.size a := fun v1446 k0_hw171 => k0_hw171.2.2.2

def k0_off606 (v1464 : BitVec 32) : Fin 2 → Nat :=
  let v1465 : Index := Scalar.indexCast v1464
  let c0_392 : Index := 0#32
  ![v1465.toNat, 0]

def k0_off607 (v1464 : BitVec 32) : Fin 2 → Nat :=
  let v1469 : Index := Scalar.indexCast v1464
  let c16_393 : Index := 16#32
  ![v1469.toNat, 16]
def k0_off608 (v1464 : BitVec 32) : Fin 2 → Nat :=
  let v1473 : Index := Scalar.indexCast v1464
  let c32_394 : Index := 32#32
  ![v1473.toNat, 32]
def k0_off609 (v1464 : BitVec 32) : Fin 2 → Nat :=
  let v1477 : Index := Scalar.indexCast v1464
  let c48_395 : Index := 48#32
  ![v1477.toNat, 48]

def k0_chk172 (v1464 : BitVec 32) : Prop :=
  (∀ a, (k0_off606 v1464) a + S1x16.size a ≤ S1000x64.size a) ∧
  (∀ a, (k0_off607 v1464) a + S1x16.size a ≤ S1000x64.size a) ∧
  (∀ a, (k0_off608 v1464) a + S1x16.size a ≤ S1000x64.size a) ∧
  (∀ a, (k0_off609 v1464) a + S1x16.size a ≤ S1000x64.size a)
theorem k0_off606_inb : ∀ (v1464 : BitVec 32) (k0_hw172 : k0_chk172 v1464), ∀ a, (k0_off606 v1464) a + S1x16.size a ≤ S1000x64.size a := fun v1464 k0_hw172 => k0_hw172.1
theorem k0_off607_inb : ∀ (v1464 : BitVec 32) (k0_hw172 : k0_chk172 v1464), ∀ a, (k0_off607 v1464) a + S1x16.size a ≤ S1000x64.size a := fun v1464 k0_hw172 => k0_hw172.2.1
theorem k0_off608_inb : ∀ (v1464 : BitVec 32) (k0_hw172 : k0_chk172 v1464), ∀ a, (k0_off608 v1464) a + S1x16.size a ≤ S1000x64.size a := fun v1464 k0_hw172 => k0_hw172.2.2.1
theorem k0_off609_inb : ∀ (v1464 : BitVec 32) (k0_hw172 : k0_chk172 v1464), ∀ a, (k0_off609 v1464) a + S1x16.size a ≤ S1000x64.size a := fun v1464 k0_hw172 => k0_hw172.2.2.2

def k0_off610 (v1482 : BitVec 32) : Fin 2 → Nat :=
  let v1483 : Index := Scalar.indexCast v1482
  let c0_396 : Index := 0#32
  ![v1483.toNat, 0]

def k0_off611 (v1482 : BitVec 32) : Fin 2 → Nat :=
  let v1487 : Index := Scalar.indexCast v1482
  let c16_397 : Index := 16#32
  ![v1487.toNat, 16]
def k0_off612 (v1482 : BitVec 32) : Fin 2 → Nat :=
  let v1491 : Index := Scalar.indexCast v1482
  let c32_398 : Index := 32#32
  ![v1491.toNat, 32]
def k0_off613 (v1482 : BitVec 32) : Fin 2 → Nat :=
  let v1495 : Index := Scalar.indexCast v1482
  let c48_399 : Index := 48#32
  ![v1495.toNat, 48]

def k0_chk173 (v1482 : BitVec 32) : Prop :=
  (∀ a, (k0_off610 v1482) a + S1x16.size a ≤ S1000x64.size a) ∧
  (∀ a, (k0_off611 v1482) a + S1x16.size a ≤ S1000x64.size a) ∧
  (∀ a, (k0_off612 v1482) a + S1x16.size a ≤ S1000x64.size a) ∧
  (∀ a, (k0_off613 v1482) a + S1x16.size a ≤ S1000x64.size a)
theorem k0_off610_inb : ∀ (v1482 : BitVec 32) (k0_hw173 : k0_chk173 v1482), ∀ a, (k0_off610 v1482) a + S1x16.size a ≤ S1000x64.size a := fun v1482 k0_hw173 => k0_hw173.1
theorem k0_off611_inb : ∀ (v1482 : BitVec 32) (k0_hw173 : k0_chk173 v1482), ∀ a, (k0_off611 v1482) a + S1x16.size a ≤ S1000x64.size a := fun v1482 k0_hw173 => k0_hw173.2.1
theorem k0_off612_inb : ∀ (v1482 : BitVec 32) (k0_hw173 : k0_chk173 v1482), ∀ a, (k0_off612 v1482) a + S1x16.size a ≤ S1000x64.size a := fun v1482 k0_hw173 => k0_hw173.2.2.1
theorem k0_off613_inb : ∀ (v1482 : BitVec 32) (k0_hw173 : k0_chk173 v1482), ∀ a, (k0_off613 v1482) a + S1x16.size a ≤ S1000x64.size a := fun v1482 k0_hw173 => k0_hw173.2.2.2

def k0_off614 (v1500 : BitVec 32) : Fin 2 → Nat :=
  let v1501 : Index := Scalar.indexCast v1500
  let c0_400 : Index := 0#32
  ![v1501.toNat, 0]

def k0_off615 (v1500 : BitVec 32) : Fin 2 → Nat :=
  let v1505 : Index := Scalar.indexCast v1500
  let c16_401 : Index := 16#32
  ![v1505.toNat, 16]
def k0_off616 (v1500 : BitVec 32) : Fin 2 → Nat :=
  let v1509 : Index := Scalar.indexCast v1500
  let c32_402 : Index := 32#32
  ![v1509.toNat, 32]
def k0_off617 (v1500 : BitVec 32) : Fin 2 → Nat :=
  let v1513 : Index := Scalar.indexCast v1500
  let c48_403 : Index := 48#32
  ![v1513.toNat, 48]

def k0_chk174 (v1500 : BitVec 32) : Prop :=
  (∀ a, (k0_off614 v1500) a + S1x16.size a ≤ S1000x64.size a) ∧
  (∀ a, (k0_off615 v1500) a + S1x16.size a ≤ S1000x64.size a) ∧
  (∀ a, (k0_off616 v1500) a + S1x16.size a ≤ S1000x64.size a) ∧
  (∀ a, (k0_off617 v1500) a + S1x16.size a ≤ S1000x64.size a)
theorem k0_off614_inb : ∀ (v1500 : BitVec 32) (k0_hw174 : k0_chk174 v1500), ∀ a, (k0_off614 v1500) a + S1x16.size a ≤ S1000x64.size a := fun v1500 k0_hw174 => k0_hw174.1
theorem k0_off615_inb : ∀ (v1500 : BitVec 32) (k0_hw174 : k0_chk174 v1500), ∀ a, (k0_off615 v1500) a + S1x16.size a ≤ S1000x64.size a := fun v1500 k0_hw174 => k0_hw174.2.1
theorem k0_off616_inb : ∀ (v1500 : BitVec 32) (k0_hw174 : k0_chk174 v1500), ∀ a, (k0_off616 v1500) a + S1x16.size a ≤ S1000x64.size a := fun v1500 k0_hw174 => k0_hw174.2.2.1
theorem k0_off617_inb : ∀ (v1500 : BitVec 32) (k0_hw174 : k0_chk174 v1500), ∀ a, (k0_off617 v1500) a + S1x16.size a ≤ S1000x64.size a := fun v1500 k0_hw174 => k0_hw174.2.2.2

def k0_off618 (v1518 : BitVec 32) : Fin 2 → Nat :=
  let v1519 : Index := Scalar.indexCast v1518
  let c0_404 : Index := 0#32
  ![v1519.toNat, 0]

def k0_off619 (v1518 : BitVec 32) : Fin 2 → Nat :=
  let v1523 : Index := Scalar.indexCast v1518
  let c16_405 : Index := 16#32
  ![v1523.toNat, 16]
def k0_off620 (v1518 : BitVec 32) : Fin 2 → Nat :=
  let v1527 : Index := Scalar.indexCast v1518
  let c32_406 : Index := 32#32
  ![v1527.toNat, 32]
def k0_off621 (v1518 : BitVec 32) : Fin 2 → Nat :=
  let v1531 : Index := Scalar.indexCast v1518
  let c48_407 : Index := 48#32
  ![v1531.toNat, 48]

def k0_chk175 (v1518 : BitVec 32) : Prop :=
  (∀ a, (k0_off618 v1518) a + S1x16.size a ≤ S1000x64.size a) ∧
  (∀ a, (k0_off619 v1518) a + S1x16.size a ≤ S1000x64.size a) ∧
  (∀ a, (k0_off620 v1518) a + S1x16.size a ≤ S1000x64.size a) ∧
  (∀ a, (k0_off621 v1518) a + S1x16.size a ≤ S1000x64.size a)
theorem k0_off618_inb : ∀ (v1518 : BitVec 32) (k0_hw175 : k0_chk175 v1518), ∀ a, (k0_off618 v1518) a + S1x16.size a ≤ S1000x64.size a := fun v1518 k0_hw175 => k0_hw175.1
theorem k0_off619_inb : ∀ (v1518 : BitVec 32) (k0_hw175 : k0_chk175 v1518), ∀ a, (k0_off619 v1518) a + S1x16.size a ≤ S1000x64.size a := fun v1518 k0_hw175 => k0_hw175.2.1
theorem k0_off620_inb : ∀ (v1518 : BitVec 32) (k0_hw175 : k0_chk175 v1518), ∀ a, (k0_off620 v1518) a + S1x16.size a ≤ S1000x64.size a := fun v1518 k0_hw175 => k0_hw175.2.2.1
theorem k0_off621_inb : ∀ (v1518 : BitVec 32) (k0_hw175 : k0_chk175 v1518), ∀ a, (k0_off621 v1518) a + S1x16.size a ≤ S1000x64.size a := fun v1518 k0_hw175 => k0_hw175.2.2.2

def k0_off622 (v1536 : BitVec 32) : Fin 2 → Nat :=
  let v1537 : Index := Scalar.indexCast v1536
  let c0_408 : Index := 0#32
  ![v1537.toNat, 0]

def k0_off623 (v1536 : BitVec 32) : Fin 2 → Nat :=
  let v1541 : Index := Scalar.indexCast v1536
  let c16_409 : Index := 16#32
  ![v1541.toNat, 16]
def k0_off624 (v1536 : BitVec 32) : Fin 2 → Nat :=
  let v1545 : Index := Scalar.indexCast v1536
  let c32_410 : Index := 32#32
  ![v1545.toNat, 32]
def k0_off625 (v1536 : BitVec 32) : Fin 2 → Nat :=
  let v1549 : Index := Scalar.indexCast v1536
  let c48_411 : Index := 48#32
  ![v1549.toNat, 48]

def k0_chk176 (v1536 : BitVec 32) : Prop :=
  (∀ a, (k0_off622 v1536) a + S1x16.size a ≤ S1000x64.size a) ∧
  (∀ a, (k0_off623 v1536) a + S1x16.size a ≤ S1000x64.size a) ∧
  (∀ a, (k0_off624 v1536) a + S1x16.size a ≤ S1000x64.size a) ∧
  (∀ a, (k0_off625 v1536) a + S1x16.size a ≤ S1000x64.size a)
theorem k0_off622_inb : ∀ (v1536 : BitVec 32) (k0_hw176 : k0_chk176 v1536), ∀ a, (k0_off622 v1536) a + S1x16.size a ≤ S1000x64.size a := fun v1536 k0_hw176 => k0_hw176.1
theorem k0_off623_inb : ∀ (v1536 : BitVec 32) (k0_hw176 : k0_chk176 v1536), ∀ a, (k0_off623 v1536) a + S1x16.size a ≤ S1000x64.size a := fun v1536 k0_hw176 => k0_hw176.2.1
theorem k0_off624_inb : ∀ (v1536 : BitVec 32) (k0_hw176 : k0_chk176 v1536), ∀ a, (k0_off624 v1536) a + S1x16.size a ≤ S1000x64.size a := fun v1536 k0_hw176 => k0_hw176.2.2.1
theorem k0_off625_inb : ∀ (v1536 : BitVec 32) (k0_hw176 : k0_chk176 v1536), ∀ a, (k0_off625 v1536) a + S1x16.size a ≤ S1000x64.size a := fun v1536 k0_hw176 => k0_hw176.2.2.2

def k0_off626 (v1554 : BitVec 32) : Fin 2 → Nat :=
  let v1555 : Index := Scalar.indexCast v1554
  let c0_412 : Index := 0#32
  ![v1555.toNat, 0]

def k0_off627 (v1554 : BitVec 32) : Fin 2 → Nat :=
  let v1559 : Index := Scalar.indexCast v1554
  let c16_413 : Index := 16#32
  ![v1559.toNat, 16]
def k0_off628 (v1554 : BitVec 32) : Fin 2 → Nat :=
  let v1563 : Index := Scalar.indexCast v1554
  let c32_414 : Index := 32#32
  ![v1563.toNat, 32]
def k0_off629 (v1554 : BitVec 32) : Fin 2 → Nat :=
  let v1567 : Index := Scalar.indexCast v1554
  let c48_415 : Index := 48#32
  ![v1567.toNat, 48]

def k0_chk177 (v1554 : BitVec 32) : Prop :=
  (∀ a, (k0_off626 v1554) a + S1x16.size a ≤ S1000x64.size a) ∧
  (∀ a, (k0_off627 v1554) a + S1x16.size a ≤ S1000x64.size a) ∧
  (∀ a, (k0_off628 v1554) a + S1x16.size a ≤ S1000x64.size a) ∧
  (∀ a, (k0_off629 v1554) a + S1x16.size a ≤ S1000x64.size a)
theorem k0_off626_inb : ∀ (v1554 : BitVec 32) (k0_hw177 : k0_chk177 v1554), ∀ a, (k0_off626 v1554) a + S1x16.size a ≤ S1000x64.size a := fun v1554 k0_hw177 => k0_hw177.1
theorem k0_off627_inb : ∀ (v1554 : BitVec 32) (k0_hw177 : k0_chk177 v1554), ∀ a, (k0_off627 v1554) a + S1x16.size a ≤ S1000x64.size a := fun v1554 k0_hw177 => k0_hw177.2.1
theorem k0_off628_inb : ∀ (v1554 : BitVec 32) (k0_hw177 : k0_chk177 v1554), ∀ a, (k0_off628 v1554) a + S1x16.size a ≤ S1000x64.size a := fun v1554 k0_hw177 => k0_hw177.2.2.1
theorem k0_off629_inb : ∀ (v1554 : BitVec 32) (k0_hw177 : k0_chk177 v1554), ∀ a, (k0_off629 v1554) a + S1x16.size a ≤ S1000x64.size a := fun v1554 k0_hw177 => k0_hw177.2.2.2

def k0_off630 (v1572 : BitVec 32) : Fin 2 → Nat :=
  let v1573 : Index := Scalar.indexCast v1572
  let c0_416 : Index := 0#32
  ![v1573.toNat, 0]

def k0_off631 (v1572 : BitVec 32) : Fin 2 → Nat :=
  let v1577 : Index := Scalar.indexCast v1572
  let c16_417 : Index := 16#32
  ![v1577.toNat, 16]
def k0_off632 (v1572 : BitVec 32) : Fin 2 → Nat :=
  let v1581 : Index := Scalar.indexCast v1572
  let c32_418 : Index := 32#32
  ![v1581.toNat, 32]
def k0_off633 (v1572 : BitVec 32) : Fin 2 → Nat :=
  let v1585 : Index := Scalar.indexCast v1572
  let c48_419 : Index := 48#32
  ![v1585.toNat, 48]

def k0_chk178 (v1572 : BitVec 32) : Prop :=
  (∀ a, (k0_off630 v1572) a + S1x16.size a ≤ S1000x64.size a) ∧
  (∀ a, (k0_off631 v1572) a + S1x16.size a ≤ S1000x64.size a) ∧
  (∀ a, (k0_off632 v1572) a + S1x16.size a ≤ S1000x64.size a) ∧
  (∀ a, (k0_off633 v1572) a + S1x16.size a ≤ S1000x64.size a)
theorem k0_off630_inb : ∀ (v1572 : BitVec 32) (k0_hw178 : k0_chk178 v1572), ∀ a, (k0_off630 v1572) a + S1x16.size a ≤ S1000x64.size a := fun v1572 k0_hw178 => k0_hw178.1
theorem k0_off631_inb : ∀ (v1572 : BitVec 32) (k0_hw178 : k0_chk178 v1572), ∀ a, (k0_off631 v1572) a + S1x16.size a ≤ S1000x64.size a := fun v1572 k0_hw178 => k0_hw178.2.1
theorem k0_off632_inb : ∀ (v1572 : BitVec 32) (k0_hw178 : k0_chk178 v1572), ∀ a, (k0_off632 v1572) a + S1x16.size a ≤ S1000x64.size a := fun v1572 k0_hw178 => k0_hw178.2.2.1
theorem k0_off633_inb : ∀ (v1572 : BitVec 32) (k0_hw178 : k0_chk178 v1572), ∀ a, (k0_off633 v1572) a + S1x16.size a ≤ S1000x64.size a := fun v1572 k0_hw178 => k0_hw178.2.2.2

def k0_off634 (v1590 : BitVec 32) : Fin 2 → Nat :=
  let v1591 : Index := Scalar.indexCast v1590
  let c0_420 : Index := 0#32
  ![v1591.toNat, 0]

def k0_off635 (v1590 : BitVec 32) : Fin 2 → Nat :=
  let v1595 : Index := Scalar.indexCast v1590
  let c16_421 : Index := 16#32
  ![v1595.toNat, 16]
def k0_off636 (v1590 : BitVec 32) : Fin 2 → Nat :=
  let v1599 : Index := Scalar.indexCast v1590
  let c32_422 : Index := 32#32
  ![v1599.toNat, 32]
def k0_off637 (v1590 : BitVec 32) : Fin 2 → Nat :=
  let v1603 : Index := Scalar.indexCast v1590
  let c48_423 : Index := 48#32
  ![v1603.toNat, 48]

def k0_chk179 (v1590 : BitVec 32) : Prop :=
  (∀ a, (k0_off634 v1590) a + S1x16.size a ≤ S1000x64.size a) ∧
  (∀ a, (k0_off635 v1590) a + S1x16.size a ≤ S1000x64.size a) ∧
  (∀ a, (k0_off636 v1590) a + S1x16.size a ≤ S1000x64.size a) ∧
  (∀ a, (k0_off637 v1590) a + S1x16.size a ≤ S1000x64.size a)
theorem k0_off634_inb : ∀ (v1590 : BitVec 32) (k0_hw179 : k0_chk179 v1590), ∀ a, (k0_off634 v1590) a + S1x16.size a ≤ S1000x64.size a := fun v1590 k0_hw179 => k0_hw179.1
theorem k0_off635_inb : ∀ (v1590 : BitVec 32) (k0_hw179 : k0_chk179 v1590), ∀ a, (k0_off635 v1590) a + S1x16.size a ≤ S1000x64.size a := fun v1590 k0_hw179 => k0_hw179.2.1
theorem k0_off636_inb : ∀ (v1590 : BitVec 32) (k0_hw179 : k0_chk179 v1590), ∀ a, (k0_off636 v1590) a + S1x16.size a ≤ S1000x64.size a := fun v1590 k0_hw179 => k0_hw179.2.2.1
theorem k0_off637_inb : ∀ (v1590 : BitVec 32) (k0_hw179 : k0_chk179 v1590), ∀ a, (k0_off637 v1590) a + S1x16.size a ≤ S1000x64.size a := fun v1590 k0_hw179 => k0_hw179.2.2.2

def k0_off638 (v1608 : BitVec 32) : Fin 2 → Nat :=
  let v1609 : Index := Scalar.indexCast v1608
  let c0_424 : Index := 0#32
  ![v1609.toNat, 0]

def k0_off639 (v1608 : BitVec 32) : Fin 2 → Nat :=
  let v1613 : Index := Scalar.indexCast v1608
  let c16_425 : Index := 16#32
  ![v1613.toNat, 16]
def k0_off640 (v1608 : BitVec 32) : Fin 2 → Nat :=
  let v1617 : Index := Scalar.indexCast v1608
  let c32_426 : Index := 32#32
  ![v1617.toNat, 32]
def k0_off641 (v1608 : BitVec 32) : Fin 2 → Nat :=
  let v1621 : Index := Scalar.indexCast v1608
  let c48_427 : Index := 48#32
  ![v1621.toNat, 48]

def k0_chk180 (v1608 : BitVec 32) : Prop :=
  (∀ a, (k0_off638 v1608) a + S1x16.size a ≤ S1000x64.size a) ∧
  (∀ a, (k0_off639 v1608) a + S1x16.size a ≤ S1000x64.size a) ∧
  (∀ a, (k0_off640 v1608) a + S1x16.size a ≤ S1000x64.size a) ∧
  (∀ a, (k0_off641 v1608) a + S1x16.size a ≤ S1000x64.size a)
theorem k0_off638_inb : ∀ (v1608 : BitVec 32) (k0_hw180 : k0_chk180 v1608), ∀ a, (k0_off638 v1608) a + S1x16.size a ≤ S1000x64.size a := fun v1608 k0_hw180 => k0_hw180.1
theorem k0_off639_inb : ∀ (v1608 : BitVec 32) (k0_hw180 : k0_chk180 v1608), ∀ a, (k0_off639 v1608) a + S1x16.size a ≤ S1000x64.size a := fun v1608 k0_hw180 => k0_hw180.2.1
theorem k0_off640_inb : ∀ (v1608 : BitVec 32) (k0_hw180 : k0_chk180 v1608), ∀ a, (k0_off640 v1608) a + S1x16.size a ≤ S1000x64.size a := fun v1608 k0_hw180 => k0_hw180.2.2.1
theorem k0_off641_inb : ∀ (v1608 : BitVec 32) (k0_hw180 : k0_chk180 v1608), ∀ a, (k0_off641 v1608) a + S1x16.size a ≤ S1000x64.size a := fun v1608 k0_hw180 => k0_hw180.2.2.2

def k0_off642 (v1626 : BitVec 32) : Fin 2 → Nat :=
  let v1627 : Index := Scalar.indexCast v1626
  let c0_428 : Index := 0#32
  ![v1627.toNat, 0]

def k0_off643 (v1626 : BitVec 32) : Fin 2 → Nat :=
  let v1631 : Index := Scalar.indexCast v1626
  let c16_429 : Index := 16#32
  ![v1631.toNat, 16]
def k0_off644 (v1626 : BitVec 32) : Fin 2 → Nat :=
  let v1635 : Index := Scalar.indexCast v1626
  let c32_430 : Index := 32#32
  ![v1635.toNat, 32]
def k0_off645 (v1626 : BitVec 32) : Fin 2 → Nat :=
  let v1639 : Index := Scalar.indexCast v1626
  let c48_431 : Index := 48#32
  ![v1639.toNat, 48]

def k0_chk181 (v1626 : BitVec 32) : Prop :=
  (∀ a, (k0_off642 v1626) a + S1x16.size a ≤ S1000x64.size a) ∧
  (∀ a, (k0_off643 v1626) a + S1x16.size a ≤ S1000x64.size a) ∧
  (∀ a, (k0_off644 v1626) a + S1x16.size a ≤ S1000x64.size a) ∧
  (∀ a, (k0_off645 v1626) a + S1x16.size a ≤ S1000x64.size a)
theorem k0_off642_inb : ∀ (v1626 : BitVec 32) (k0_hw181 : k0_chk181 v1626), ∀ a, (k0_off642 v1626) a + S1x16.size a ≤ S1000x64.size a := fun v1626 k0_hw181 => k0_hw181.1
theorem k0_off643_inb : ∀ (v1626 : BitVec 32) (k0_hw181 : k0_chk181 v1626), ∀ a, (k0_off643 v1626) a + S1x16.size a ≤ S1000x64.size a := fun v1626 k0_hw181 => k0_hw181.2.1
theorem k0_off644_inb : ∀ (v1626 : BitVec 32) (k0_hw181 : k0_chk181 v1626), ∀ a, (k0_off644 v1626) a + S1x16.size a ≤ S1000x64.size a := fun v1626 k0_hw181 => k0_hw181.2.2.1
theorem k0_off645_inb : ∀ (v1626 : BitVec 32) (k0_hw181 : k0_chk181 v1626), ∀ a, (k0_off645 v1626) a + S1x16.size a ≤ S1000x64.size a := fun v1626 k0_hw181 => k0_hw181.2.2.2

def k0_off646 (v1644 : BitVec 32) : Fin 2 → Nat :=
  let v1645 : Index := Scalar.indexCast v1644
  let c0_432 : Index := 0#32
  ![v1645.toNat, 0]

def k0_off647 (v1644 : BitVec 32) : Fin 2 → Nat :=
  let v1649 : Index := Scalar.indexCast v1644
  let c16_433 : Index := 16#32
  ![v1649.toNat, 16]
def k0_off648 (v1644 : BitVec 32) : Fin 2 → Nat :=
  let v1653 : Index := Scalar.indexCast v1644
  let c32_434 : Index := 32#32
  ![v1653.toNat, 32]
def k0_off649 (v1644 : BitVec 32) : Fin 2 → Nat :=
  let v1657 : Index := Scalar.indexCast v1644
  let c48_435 : Index := 48#32
  ![v1657.toNat, 48]

def k0_chk182 (v1644 : BitVec 32) : Prop :=
  (∀ a, (k0_off646 v1644) a + S1x16.size a ≤ S1000x64.size a) ∧
  (∀ a, (k0_off647 v1644) a + S1x16.size a ≤ S1000x64.size a) ∧
  (∀ a, (k0_off648 v1644) a + S1x16.size a ≤ S1000x64.size a) ∧
  (∀ a, (k0_off649 v1644) a + S1x16.size a ≤ S1000x64.size a)
theorem k0_off646_inb : ∀ (v1644 : BitVec 32) (k0_hw182 : k0_chk182 v1644), ∀ a, (k0_off646 v1644) a + S1x16.size a ≤ S1000x64.size a := fun v1644 k0_hw182 => k0_hw182.1
theorem k0_off647_inb : ∀ (v1644 : BitVec 32) (k0_hw182 : k0_chk182 v1644), ∀ a, (k0_off647 v1644) a + S1x16.size a ≤ S1000x64.size a := fun v1644 k0_hw182 => k0_hw182.2.1
theorem k0_off648_inb : ∀ (v1644 : BitVec 32) (k0_hw182 : k0_chk182 v1644), ∀ a, (k0_off648 v1644) a + S1x16.size a ≤ S1000x64.size a := fun v1644 k0_hw182 => k0_hw182.2.2.1
theorem k0_off649_inb : ∀ (v1644 : BitVec 32) (k0_hw182 : k0_chk182 v1644), ∀ a, (k0_off649 v1644) a + S1x16.size a ≤ S1000x64.size a := fun v1644 k0_hw182 => k0_hw182.2.2.2

def k0_off650 (v1662 : BitVec 32) : Fin 2 → Nat :=
  let v1663 : Index := Scalar.indexCast v1662
  let c0_436 : Index := 0#32
  ![v1663.toNat, 0]

def k0_off651 (v1662 : BitVec 32) : Fin 2 → Nat :=
  let v1667 : Index := Scalar.indexCast v1662
  let c16_437 : Index := 16#32
  ![v1667.toNat, 16]
def k0_off652 (v1662 : BitVec 32) : Fin 2 → Nat :=
  let v1671 : Index := Scalar.indexCast v1662
  let c32_438 : Index := 32#32
  ![v1671.toNat, 32]
def k0_off653 (v1662 : BitVec 32) : Fin 2 → Nat :=
  let v1675 : Index := Scalar.indexCast v1662
  let c48_439 : Index := 48#32
  ![v1675.toNat, 48]

def k0_chk183 (v1662 : BitVec 32) : Prop :=
  (∀ a, (k0_off650 v1662) a + S1x16.size a ≤ S1000x64.size a) ∧
  (∀ a, (k0_off651 v1662) a + S1x16.size a ≤ S1000x64.size a) ∧
  (∀ a, (k0_off652 v1662) a + S1x16.size a ≤ S1000x64.size a) ∧
  (∀ a, (k0_off653 v1662) a + S1x16.size a ≤ S1000x64.size a)
theorem k0_off650_inb : ∀ (v1662 : BitVec 32) (k0_hw183 : k0_chk183 v1662), ∀ a, (k0_off650 v1662) a + S1x16.size a ≤ S1000x64.size a := fun v1662 k0_hw183 => k0_hw183.1
theorem k0_off651_inb : ∀ (v1662 : BitVec 32) (k0_hw183 : k0_chk183 v1662), ∀ a, (k0_off651 v1662) a + S1x16.size a ≤ S1000x64.size a := fun v1662 k0_hw183 => k0_hw183.2.1
theorem k0_off652_inb : ∀ (v1662 : BitVec 32) (k0_hw183 : k0_chk183 v1662), ∀ a, (k0_off652 v1662) a + S1x16.size a ≤ S1000x64.size a := fun v1662 k0_hw183 => k0_hw183.2.2.1
theorem k0_off653_inb : ∀ (v1662 : BitVec 32) (k0_hw183 : k0_chk183 v1662), ∀ a, (k0_off653 v1662) a + S1x16.size a ≤ S1000x64.size a := fun v1662 k0_hw183 => k0_hw183.2.2.2

def k0_off654 (v1680 : BitVec 32) : Fin 2 → Nat :=
  let v1681 : Index := Scalar.indexCast v1680
  let c0_440 : Index := 0#32
  ![v1681.toNat, 0]

def k0_off655 (v1680 : BitVec 32) : Fin 2 → Nat :=
  let v1685 : Index := Scalar.indexCast v1680
  let c16_441 : Index := 16#32
  ![v1685.toNat, 16]
def k0_off656 (v1680 : BitVec 32) : Fin 2 → Nat :=
  let v1689 : Index := Scalar.indexCast v1680
  let c32_442 : Index := 32#32
  ![v1689.toNat, 32]
def k0_off657 (v1680 : BitVec 32) : Fin 2 → Nat :=
  let v1693 : Index := Scalar.indexCast v1680
  let c48_443 : Index := 48#32
  ![v1693.toNat, 48]

def k0_chk184 (v1680 : BitVec 32) : Prop :=
  (∀ a, (k0_off654 v1680) a + S1x16.size a ≤ S1000x64.size a) ∧
  (∀ a, (k0_off655 v1680) a + S1x16.size a ≤ S1000x64.size a) ∧
  (∀ a, (k0_off656 v1680) a + S1x16.size a ≤ S1000x64.size a) ∧
  (∀ a, (k0_off657 v1680) a + S1x16.size a ≤ S1000x64.size a)
theorem k0_off654_inb : ∀ (v1680 : BitVec 32) (k0_hw184 : k0_chk184 v1680), ∀ a, (k0_off654 v1680) a + S1x16.size a ≤ S1000x64.size a := fun v1680 k0_hw184 => k0_hw184.1
theorem k0_off655_inb : ∀ (v1680 : BitVec 32) (k0_hw184 : k0_chk184 v1680), ∀ a, (k0_off655 v1680) a + S1x16.size a ≤ S1000x64.size a := fun v1680 k0_hw184 => k0_hw184.2.1
theorem k0_off656_inb : ∀ (v1680 : BitVec 32) (k0_hw184 : k0_chk184 v1680), ∀ a, (k0_off656 v1680) a + S1x16.size a ≤ S1000x64.size a := fun v1680 k0_hw184 => k0_hw184.2.2.1
theorem k0_off657_inb : ∀ (v1680 : BitVec 32) (k0_hw184 : k0_chk184 v1680), ∀ a, (k0_off657 v1680) a + S1x16.size a ≤ S1000x64.size a := fun v1680 k0_hw184 => k0_hw184.2.2.2

def k0_off658 (k0_t3 : Fin k0_t3_loop.trips) (c0_i32_447 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k0_t3
  let c1_i32_59 : BitVec 32 := 1#32
  let v102 : BitVec 32 := Scalar.muli arg16 c1_i32_59
  let v103 : BitVec 32 := Scalar.addi c0_i32_60 v102
  let c4_i32_445 : BitVec 32 := 4#32
  let v1699 : BitVec 32 := Scalar.muli v103 c4_i32_445
  let c3_i32 : BitVec 32 := 3#32
  let v1700 : BitVec 32 := Scalar.addi v1699 c3_i32
  let c64_i32_446 : BitVec 32 := 64#32
  let v1701 : BitVec 32 := Scalar.muli v1700 c64_i32_446
  let v1702 : BitVec 32 := Scalar.addi v1701 c0_i32_447
  let v1703 : Index := Scalar.indexCast v1702
  ![v1703.toNat]
def k0_off659 (i : grid0.Coords) (c480_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32 : BitVec 32 := 512#32
  let v42 : BitVec 32 := Scalar.muli v28 c512_i32
  let v43 : BitVec 32 := Scalar.addi v42 c480_i32
  let c64_i32 : BitVec 32 := 64#32
  let v44 : BitVec 32 := Scalar.muli v43 c64_i32
  ![v11.toNat, v44.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_11 : BitVec 32 := 0#32
  let c0_i32_12 : BitVec 32 := 0#32
  ![v11.toNat, 0, 0]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_15 : BitVec 32 := 0#32
  let c0_i32_16 : BitVec 32 := 0#32
  ![v28.toNat, 0, 0]
@[reducible] def k2_t1_loop : Scf.Loop 32 :=
  let c0_i32_22 : BitVec 32 := 0#32
  let c16_i32 : BitVec 32 := 16#32
  let v41 : BitVec 32 := Scalar.addi c0_i32_22 c16_i32
  let c1_i32_23 : BitVec 32 := 1#32
  ⟨c0_i32_22, v41, c1_i32_23⟩
def k2_cond1 (k2_t1 : Fin k2_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_30 : BitVec 32 := 2#32
  let v59 : BitVec 32 := Scalar.addi v58 c2_i32_30
  let c1_i32_31 : BitVec 32 := 1#32
  let v60 : BitVec 32 := Scalar.subi v59 c1_i32_31
  let c32_i32 : BitVec 32 := 32#32
  let v61 : BitVec 1 := Scalar.cmpi .slt v60 c32_i32
  let v62 : BitVec 32 := Scalar.extui v61
  let c0_i32_32 : BitVec 32 := 0#32
  let v63 : BitVec 1 := Scalar.cmpi .ne v62 c0_i32_32
  v63

def k2_off3 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_59 : BitVec 32 := 2#32
  let v102 : BitVec 32 := Scalar.addi v58 c2_i32_59
  let c1_i32_60 : BitVec 32 := 1#32
  let v103 : BitVec 32 := Scalar.subi v102 c1_i32_60
  let c0_i32_61 : BitVec 32 := 0#32
  ![v28.toNat, v103.toNat, 0]
def k2_off4 (i : grid2.Coords) (k2_t1 : Fin k2_t1_loop.trips) (c0_i32_29 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let v58 : BitVec 32 := Scalar.addi v57 c0_i32_29
  let c0_i32_33 : BitVec 32 := 0#32
  ![v28.toNat, v58.toNat, 0]
def k2_cond2 (k2_t1 : Fin k2_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_35 : BitVec 32 := 2#32
  let v68 : BitVec 1 := Scalar.cmpi .sge v58 c2_i32_35
  let v69 : BitVec 32 := Scalar.extui v68
  let c0_i32_36 : BitVec 32 := 0#32
  let v70 : BitVec 1 := Scalar.cmpi .ne v69 c0_i32_36
  v70

def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32_60 : BitVec 32 := 512#32
  let v103 : BitVec 32 := Scalar.muli v28 c512_i32_60
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c0_i32_29 : BitVec 32 := 0#32
  let v58 : BitVec 32 := Scalar.addi v57 c0_i32_29
  let c2_i32_59 : BitVec 32 := 2#32
  let v102 : BitVec 32 := Scalar.subi v58 c2_i32_59
  let c16_i32_61 : BitVec 32 := 16#32
  let v104 : BitVec 32 := Scalar.muli v102 c16_i32_61
  let v105 : BitVec 32 := Scalar.addi v103 v104
  let c64_i32_62 : BitVec 32 := 64#32
  let v106 : BitVec 32 := Scalar.muli v105 c64_i32_62
  ![v11.toNat, v106.toNat]
@[reducible] def k2_t2_loop : Scf.Loop 32 :=
  let c0_i32_37 : BitVec 32 := 0#32
  let c4_i32 : BitVec 32 := 4#32
  let v71 : BitVec 32 := Scalar.addi c0_i32_37 c4_i32
  let c1_i32_38 : BitVec 32 := 1#32
  ⟨c0_i32_37, v71, c1_i32_38⟩
def k2_off6 (k2_t2 : Fin k2_t2_loop.trips) (c0_i32_61 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k2_t2
  let c1_i32_59 : BitVec 32 := 1#32
  let v102 : BitVec 32 := Scalar.muli arg16 c1_i32_59
  let v103 : BitVec 32 := Scalar.addi c0_i32_60 v102
  let c80_i32 : BitVec 32 := 80#32
  let v104 : BitVec 32 := Scalar.muli v103 c80_i32
  let v105 : BitVec 32 := Scalar.addi v104 c0_i32_61
  let v106 : Index := Scalar.indexCast v105
  ![v106.toNat]
def k2_off7 (v130 : BitVec 32) : Fin 2 → Nat :=
  let v131 : Index := Scalar.indexCast v130
  let c0 : Index := 0#32
  ![v131.toNat, 0]

def k2_chk1 (v130 : BitVec 32) : Prop :=
  (∀ a, (k2_off7 v130) a + S1x16.size a ≤ S1000x64.size a)
theorem k2_off7_inb : ∀ (v130 : BitVec 32) (k2_hw1 : k2_chk1 v130), ∀ a, (k2_off7 v130) a + S1x16.size a ≤ S1000x64.size a := fun v130 k2_hw1 => k2_hw1

def k2_off8 (v135 : BitVec 32) : Fin 2 → Nat :=
  let v136 : Index := Scalar.indexCast v135
  let c16 : Index := 16#32
  ![v136.toNat, 16]

def k2_chk2 (v135 : BitVec 32) : Prop :=
  (∀ a, (k2_off8 v135) a + S1x16.size a ≤ S1000x64.size a)
theorem k2_off8_inb : ∀ (v135 : BitVec 32) (k2_hw2 : k2_chk2 v135), ∀ a, (k2_off8 v135) a + S1x16.size a ≤ S1000x64.size a := fun v135 k2_hw2 => k2_hw2

def k2_off9 (v140 : BitVec 32) : Fin 2 → Nat :=
  let v141 : Index := Scalar.indexCast v140
  let c32 : Index := 32#32
  ![v141.toNat, 32]

def k2_chk3 (v140 : BitVec 32) : Prop :=
  (∀ a, (k2_off9 v140) a + S1x16.size a ≤ S1000x64.size a)
theorem k2_off9_inb : ∀ (v140 : BitVec 32) (k2_hw3 : k2_chk3 v140), ∀ a, (k2_off9 v140) a + S1x16.size a ≤ S1000x64.size a := fun v140 k2_hw3 => k2_hw3

def k2_off10 (v145 : BitVec 32) : Fin 2 → Nat :=
  let v146 : Index := Scalar.indexCast v145
  let c48 : Index := 48#32
  ![v146.toNat, 48]

def k2_chk4 (v145 : BitVec 32) : Prop :=
  (∀ a, (k2_off10 v145) a + S1x16.size a ≤ S1000x64.size a)
theorem k2_off10_inb : ∀ (v145 : BitVec 32) (k2_hw4 : k2_chk4 v145), ∀ a, (k2_off10 v145) a + S1x16.size a ≤ S1000x64.size a := fun v145 k2_hw4 => k2_hw4

def k2_off11 (v150 : BitVec 32) : Fin 2 → Nat :=
  let v151 : Index := Scalar.indexCast v150
  let c0_69 : Index := 0#32
  ![v151.toNat, 0]

def k2_off12 (v150 : BitVec 32) : Fin 2 → Nat :=
  let v155 : Index := Scalar.indexCast v150
  let c16_70 : Index := 16#32
  ![v155.toNat, 16]
def k2_off13 (v150 : BitVec 32) : Fin 2 → Nat :=
  let v159 : Index := Scalar.indexCast v150
  let c32_71 : Index := 32#32
  ![v159.toNat, 32]
def k2_off14 (v150 : BitVec 32) : Fin 2 → Nat :=
  let v163 : Index := Scalar.indexCast v150
  let c48_72 : Index := 48#32
  ![v163.toNat, 48]

def k2_chk5 (v150 : BitVec 32) : Prop :=
  (∀ a, (k2_off11 v150) a + S1x16.size a ≤ S1000x64.size a) ∧
  (∀ a, (k2_off12 v150) a + S1x16.size a ≤ S1000x64.size a) ∧
  (∀ a, (k2_off13 v150) a + S1x16.size a ≤ S1000x64.size a) ∧
  (∀ a, (k2_off14 v150) a + S1x16.size a ≤ S1000x64.size a)
theorem k2_off11_inb : ∀ (v150 : BitVec 32) (k2_hw5 : k2_chk5 v150), ∀ a, (k2_off11 v150) a + S1x16.size a ≤ S1000x64.size a := fun v150 k2_hw5 => k2_hw5.1
theorem k2_off12_inb : ∀ (v150 : BitVec 32) (k2_hw5 : k2_chk5 v150), ∀ a, (k2_off12 v150) a + S1x16.size a ≤ S1000x64.size a := fun v150 k2_hw5 => k2_hw5.2.1
theorem k2_off13_inb : ∀ (v150 : BitVec 32) (k2_hw5 : k2_chk5 v150), ∀ a, (k2_off13 v150) a + S1x16.size a ≤ S1000x64.size a := fun v150 k2_hw5 => k2_hw5.2.2.1
theorem k2_off14_inb : ∀ (v150 : BitVec 32) (k2_hw5 : k2_chk5 v150), ∀ a, (k2_off14 v150) a + S1x16.size a ≤ S1000x64.size a := fun v150 k2_hw5 => k2_hw5.2.2.2

def k2_off15 (v168 : BitVec 32) : Fin 2 → Nat :=
  let v169 : Index := Scalar.indexCast v168
  let c0_73 : Index := 0#32
  ![v169.toNat, 0]

def k2_off16 (v168 : BitVec 32) : Fin 2 → Nat :=
  let v173 : Index := Scalar.indexCast v168
  let c16_74 : Index := 16#32
  ![v173.toNat, 16]
def k2_off17 (v168 : BitVec 32) : Fin 2 → Nat :=
  let v177 : Index := Scalar.indexCast v168
  let c32_75 : Index := 32#32
  ![v177.toNat, 32]
def k2_off18 (v168 : BitVec 32) : Fin 2 → Nat :=
  let v181 : Index := Scalar.indexCast v168
  let c48_76 : Index := 48#32
  ![v181.toNat, 48]

def k2_chk6 (v168 : BitVec 32) : Prop :=
  (∀ a, (k2_off15 v168) a + S1x16.size a ≤ S1000x64.size a) ∧
  (∀ a, (k2_off16 v168) a + S1x16.size a ≤ S1000x64.size a) ∧
  (∀ a, (k2_off17 v168) a + S1x16.size a ≤ S1000x64.size a) ∧
  (∀ a, (k2_off18 v168) a + S1x16.size a ≤ S1000x64.size a)
theorem k2_off15_inb : ∀ (v168 : BitVec 32) (k2_hw6 : k2_chk6 v168), ∀ a, (k2_off15 v168) a + S1x16.size a ≤ S1000x64.size a := fun v168 k2_hw6 => k2_hw6.1
theorem k2_off16_inb : ∀ (v168 : BitVec 32) (k2_hw6 : k2_chk6 v168), ∀ a, (k2_off16 v168) a + S1x16.size a ≤ S1000x64.size a := fun v168 k2_hw6 => k2_hw6.2.1
theorem k2_off17_inb : ∀ (v168 : BitVec 32) (k2_hw6 : k2_chk6 v168), ∀ a, (k2_off17 v168) a + S1x16.size a ≤ S1000x64.size a := fun v168 k2_hw6 => k2_hw6.2.2.1
theorem k2_off18_inb : ∀ (v168 : BitVec 32) (k2_hw6 : k2_chk6 v168), ∀ a, (k2_off18 v168) a + S1x16.size a ≤ S1000x64.size a := fun v168 k2_hw6 => k2_hw6.2.2.2

def k2_off19 (v186 : BitVec 32) : Fin 2 → Nat :=
  let v187 : Index := Scalar.indexCast v186
  let c0_77 : Index := 0#32
  ![v187.toNat, 0]

def k2_off20 (v186 : BitVec 32) : Fin 2 → Nat :=
  let v191 : Index := Scalar.indexCast v186
  let c16_78 : Index := 16#32
  ![v191.toNat, 16]
def k2_off21 (v186 : BitVec 32) : Fin 2 → Nat :=
  let v195 : Index := Scalar.indexCast v186
  let c32_79 : Index := 32#32
  ![v195.toNat, 32]
def k2_off22 (v186 : BitVec 32) : Fin 2 → Nat :=
  let v199 : Index := Scalar.indexCast v186
  let c48_80 : Index := 48#32
  ![v199.toNat, 48]

def k2_chk7 (v186 : BitVec 32) : Prop :=
  (∀ a, (k2_off19 v186) a + S1x16.size a ≤ S1000x64.size a) ∧
  (∀ a, (k2_off20 v186) a + S1x16.size a ≤ S1000x64.size a) ∧
  (∀ a, (k2_off21 v186) a + S1x16.size a ≤ S1000x64.size a) ∧
  (∀ a, (k2_off22 v186) a + S1x16.size a ≤ S1000x64.size a)
theorem k2_off19_inb : ∀ (v186 : BitVec 32) (k2_hw7 : k2_chk7 v186), ∀ a, (k2_off19 v186) a + S1x16.size a ≤ S1000x64.size a := fun v186 k2_hw7 => k2_hw7.1
theorem k2_off20_inb : ∀ (v186 : BitVec 32) (k2_hw7 : k2_chk7 v186), ∀ a, (k2_off20 v186) a + S1x16.size a ≤ S1000x64.size a := fun v186 k2_hw7 => k2_hw7.2.1
theorem k2_off21_inb : ∀ (v186 : BitVec 32) (k2_hw7 : k2_chk7 v186), ∀ a, (k2_off21 v186) a + S1x16.size a ≤ S1000x64.size a := fun v186 k2_hw7 => k2_hw7.2.2.1
theorem k2_off22_inb : ∀ (v186 : BitVec 32) (k2_hw7 : k2_chk7 v186), ∀ a, (k2_off22 v186) a + S1x16.size a ≤ S1000x64.size a := fun v186 k2_hw7 => k2_hw7.2.2.2

def k2_off23 (v204 : BitVec 32) : Fin 2 → Nat :=
  let v205 : Index := Scalar.indexCast v204
  let c0_81 : Index := 0#32
  ![v205.toNat, 0]

def k2_off24 (v204 : BitVec 32) : Fin 2 → Nat :=
  let v209 : Index := Scalar.indexCast v204
  let c16_82 : Index := 16#32
  ![v209.toNat, 16]
def k2_off25 (v204 : BitVec 32) : Fin 2 → Nat :=
  let v213 : Index := Scalar.indexCast v204
  let c32_83 : Index := 32#32
  ![v213.toNat, 32]
def k2_off26 (v204 : BitVec 32) : Fin 2 → Nat :=
  let v217 : Index := Scalar.indexCast v204
  let c48_84 : Index := 48#32
  ![v217.toNat, 48]

def k2_chk8 (v204 : BitVec 32) : Prop :=
  (∀ a, (k2_off23 v204) a + S1x16.size a ≤ S1000x64.size a) ∧
  (∀ a, (k2_off24 v204) a + S1x16.size a ≤ S1000x64.size a) ∧
  (∀ a, (k2_off25 v204) a + S1x16.size a ≤ S1000x64.size a) ∧
  (∀ a, (k2_off26 v204) a + S1x16.size a ≤ S1000x64.size a)
theorem k2_off23_inb : ∀ (v204 : BitVec 32) (k2_hw8 : k2_chk8 v204), ∀ a, (k2_off23 v204) a + S1x16.size a ≤ S1000x64.size a := fun v204 k2_hw8 => k2_hw8.1
theorem k2_off24_inb : ∀ (v204 : BitVec 32) (k2_hw8 : k2_chk8 v204), ∀ a, (k2_off24 v204) a + S1x16.size a ≤ S1000x64.size a := fun v204 k2_hw8 => k2_hw8.2.1
theorem k2_off25_inb : ∀ (v204 : BitVec 32) (k2_hw8 : k2_chk8 v204), ∀ a, (k2_off25 v204) a + S1x16.size a ≤ S1000x64.size a := fun v204 k2_hw8 => k2_hw8.2.2.1
theorem k2_off26_inb : ∀ (v204 : BitVec 32) (k2_hw8 : k2_chk8 v204), ∀ a, (k2_off26 v204) a + S1x16.size a ≤ S1000x64.size a := fun v204 k2_hw8 => k2_hw8.2.2.2

def k2_off27 (v222 : BitVec 32) : Fin 2 → Nat :=
  let v223 : Index := Scalar.indexCast v222
  let c0_85 : Index := 0#32
  ![v223.toNat, 0]

def k2_off28 (v222 : BitVec 32) : Fin 2 → Nat :=
  let v227 : Index := Scalar.indexCast v222
  let c16_86 : Index := 16#32
  ![v227.toNat, 16]
def k2_off29 (v222 : BitVec 32) : Fin 2 → Nat :=
  let v231 : Index := Scalar.indexCast v222
  let c32_87 : Index := 32#32
  ![v231.toNat, 32]
def k2_off30 (v222 : BitVec 32) : Fin 2 → Nat :=
  let v235 : Index := Scalar.indexCast v222
  let c48_88 : Index := 48#32
  ![v235.toNat, 48]

def k2_chk9 (v222 : BitVec 32) : Prop :=
  (∀ a, (k2_off27 v222) a + S1x16.size a ≤ S1000x64.size a) ∧
  (∀ a, (k2_off28 v222) a + S1x16.size a ≤ S1000x64.size a) ∧
  (∀ a, (k2_off29 v222) a + S1x16.size a ≤ S1000x64.size a) ∧
  (∀ a, (k2_off30 v222) a + S1x16.size a ≤ S1000x64.size a)
theorem k2_off27_inb : ∀ (v222 : BitVec 32) (k2_hw9 : k2_chk9 v222), ∀ a, (k2_off27 v222) a + S1x16.size a ≤ S1000x64.size a := fun v222 k2_hw9 => k2_hw9.1
theorem k2_off28_inb : ∀ (v222 : BitVec 32) (k2_hw9 : k2_chk9 v222), ∀ a, (k2_off28 v222) a + S1x16.size a ≤ S1000x64.size a := fun v222 k2_hw9 => k2_hw9.2.1
theorem k2_off29_inb : ∀ (v222 : BitVec 32) (k2_hw9 : k2_chk9 v222), ∀ a, (k2_off29 v222) a + S1x16.size a ≤ S1000x64.size a := fun v222 k2_hw9 => k2_hw9.2.2.1
theorem k2_off30_inb : ∀ (v222 : BitVec 32) (k2_hw9 : k2_chk9 v222), ∀ a, (k2_off30 v222) a + S1x16.size a ≤ S1000x64.size a := fun v222 k2_hw9 => k2_hw9.2.2.2

def k2_off31 (v240 : BitVec 32) : Fin 2 → Nat :=
  let v241 : Index := Scalar.indexCast v240
  let c0_89 : Index := 0#32
  ![v241.toNat, 0]

def k2_off32 (v240 : BitVec 32) : Fin 2 → Nat :=
  let v245 : Index := Scalar.indexCast v240
  let c16_90 : Index := 16#32
  ![v245.toNat, 16]
def k2_off33 (v240 : BitVec 32) : Fin 2 → Nat :=
  let v249 : Index := Scalar.indexCast v240
  let c32_91 : Index := 32#32
  ![v249.toNat, 32]
def k2_off34 (v240 : BitVec 32) : Fin 2 → Nat :=
  let v253 : Index := Scalar.indexCast v240
  let c48_92 : Index := 48#32
  ![v253.toNat, 48]

def k2_chk10 (v240 : BitVec 32) : Prop :=
  (∀ a, (k2_off31 v240) a + S1x16.size a ≤ S1000x64.size a) ∧
  (∀ a, (k2_off32 v240) a + S1x16.size a ≤ S1000x64.size a) ∧
  (∀ a, (k2_off33 v240) a + S1x16.size a ≤ S1000x64.size a) ∧
  (∀ a, (k2_off34 v240) a + S1x16.size a ≤ S1000x64.size a)
theorem k2_off31_inb : ∀ (v240 : BitVec 32) (k2_hw10 : k2_chk10 v240), ∀ a, (k2_off31 v240) a + S1x16.size a ≤ S1000x64.size a := fun v240 k2_hw10 => k2_hw10.1
theorem k2_off32_inb : ∀ (v240 : BitVec 32) (k2_hw10 : k2_chk10 v240), ∀ a, (k2_off32 v240) a + S1x16.size a ≤ S1000x64.size a := fun v240 k2_hw10 => k2_hw10.2.1
theorem k2_off33_inb : ∀ (v240 : BitVec 32) (k2_hw10 : k2_chk10 v240), ∀ a, (k2_off33 v240) a + S1x16.size a ≤ S1000x64.size a := fun v240 k2_hw10 => k2_hw10.2.2.1
theorem k2_off34_inb : ∀ (v240 : BitVec 32) (k2_hw10 : k2_chk10 v240), ∀ a, (k2_off34 v240) a + S1x16.size a ≤ S1000x64.size a := fun v240 k2_hw10 => k2_hw10.2.2.2

def k2_off35 (v258 : BitVec 32) : Fin 2 → Nat :=
  let v259 : Index := Scalar.indexCast v258
  let c0_93 : Index := 0#32
  ![v259.toNat, 0]

def k2_off36 (v258 : BitVec 32) : Fin 2 → Nat :=
  let v263 : Index := Scalar.indexCast v258
  let c16_94 : Index := 16#32
  ![v263.toNat, 16]
def k2_off37 (v258 : BitVec 32) : Fin 2 → Nat :=
  let v267 : Index := Scalar.indexCast v258
  let c32_95 : Index := 32#32
  ![v267.toNat, 32]
def k2_off38 (v258 : BitVec 32) : Fin 2 → Nat :=
  let v271 : Index := Scalar.indexCast v258
  let c48_96 : Index := 48#32
  ![v271.toNat, 48]

def k2_chk11 (v258 : BitVec 32) : Prop :=
  (∀ a, (k2_off35 v258) a + S1x16.size a ≤ S1000x64.size a) ∧
  (∀ a, (k2_off36 v258) a + S1x16.size a ≤ S1000x64.size a) ∧
  (∀ a, (k2_off37 v258) a + S1x16.size a ≤ S1000x64.size a) ∧
  (∀ a, (k2_off38 v258) a + S1x16.size a ≤ S1000x64.size a)
theorem k2_off35_inb : ∀ (v258 : BitVec 32) (k2_hw11 : k2_chk11 v258), ∀ a, (k2_off35 v258) a + S1x16.size a ≤ S1000x64.size a := fun v258 k2_hw11 => k2_hw11.1
theorem k2_off36_inb : ∀ (v258 : BitVec 32) (k2_hw11 : k2_chk11 v258), ∀ a, (k2_off36 v258) a + S1x16.size a ≤ S1000x64.size a := fun v258 k2_hw11 => k2_hw11.2.1
theorem k2_off37_inb : ∀ (v258 : BitVec 32) (k2_hw11 : k2_chk11 v258), ∀ a, (k2_off37 v258) a + S1x16.size a ≤ S1000x64.size a := fun v258 k2_hw11 => k2_hw11.2.2.1
theorem k2_off38_inb : ∀ (v258 : BitVec 32) (k2_hw11 : k2_chk11 v258), ∀ a, (k2_off38 v258) a + S1x16.size a ≤ S1000x64.size a := fun v258 k2_hw11 => k2_hw11.2.2.2

def k2_off39 (v276 : BitVec 32) : Fin 2 → Nat :=
  let v277 : Index := Scalar.indexCast v276
  let c0_97 : Index := 0#32
  ![v277.toNat, 0]

def k2_off40 (v276 : BitVec 32) : Fin 2 → Nat :=
  let v281 : Index := Scalar.indexCast v276
  let c16_98 : Index := 16#32
  ![v281.toNat, 16]
def k2_off41 (v276 : BitVec 32) : Fin 2 → Nat :=
  let v285 : Index := Scalar.indexCast v276
  let c32_99 : Index := 32#32
  ![v285.toNat, 32]
def k2_off42 (v276 : BitVec 32) : Fin 2 → Nat :=
  let v289 : Index := Scalar.indexCast v276
  let c48_100 : Index := 48#32
  ![v289.toNat, 48]

def k2_chk12 (v276 : BitVec 32) : Prop :=
  (∀ a, (k2_off39 v276) a + S1x16.size a ≤ S1000x64.size a) ∧
  (∀ a, (k2_off40 v276) a + S1x16.size a ≤ S1000x64.size a) ∧
  (∀ a, (k2_off41 v276) a + S1x16.size a ≤ S1000x64.size a) ∧
  (∀ a, (k2_off42 v276) a + S1x16.size a ≤ S1000x64.size a)
theorem k2_off39_inb : ∀ (v276 : BitVec 32) (k2_hw12 : k2_chk12 v276), ∀ a, (k2_off39 v276) a + S1x16.size a ≤ S1000x64.size a := fun v276 k2_hw12 => k2_hw12.1
theorem k2_off40_inb : ∀ (v276 : BitVec 32) (k2_hw12 : k2_chk12 v276), ∀ a, (k2_off40 v276) a + S1x16.size a ≤ S1000x64.size a := fun v276 k2_hw12 => k2_hw12.2.1
theorem k2_off41_inb : ∀ (v276 : BitVec 32) (k2_hw12 : k2_chk12 v276), ∀ a, (k2_off41 v276) a + S1x16.size a ≤ S1000x64.size a := fun v276 k2_hw12 => k2_hw12.2.2.1
theorem k2_off42_inb : ∀ (v276 : BitVec 32) (k2_hw12 : k2_chk12 v276), ∀ a, (k2_off42 v276) a + S1x16.size a ≤ S1000x64.size a := fun v276 k2_hw12 => k2_hw12.2.2.2

def k2_off43 (v294 : BitVec 32) : Fin 2 → Nat :=
  let v295 : Index := Scalar.indexCast v294
  let c0_101 : Index := 0#32
  ![v295.toNat, 0]

def k2_off44 (v294 : BitVec 32) : Fin 2 → Nat :=
  let v299 : Index := Scalar.indexCast v294
  let c16_102 : Index := 16#32
  ![v299.toNat, 16]
def k2_off45 (v294 : BitVec 32) : Fin 2 → Nat :=
  let v303 : Index := Scalar.indexCast v294
  let c32_103 : Index := 32#32
  ![v303.toNat, 32]
def k2_off46 (v294 : BitVec 32) : Fin 2 → Nat :=
  let v307 : Index := Scalar.indexCast v294
  let c48_104 : Index := 48#32
  ![v307.toNat, 48]

def k2_chk13 (v294 : BitVec 32) : Prop :=
  (∀ a, (k2_off43 v294) a + S1x16.size a ≤ S1000x64.size a) ∧
  (∀ a, (k2_off44 v294) a + S1x16.size a ≤ S1000x64.size a) ∧
  (∀ a, (k2_off45 v294) a + S1x16.size a ≤ S1000x64.size a) ∧
  (∀ a, (k2_off46 v294) a + S1x16.size a ≤ S1000x64.size a)
theorem k2_off43_inb : ∀ (v294 : BitVec 32) (k2_hw13 : k2_chk13 v294), ∀ a, (k2_off43 v294) a + S1x16.size a ≤ S1000x64.size a := fun v294 k2_hw13 => k2_hw13.1
theorem k2_off44_inb : ∀ (v294 : BitVec 32) (k2_hw13 : k2_chk13 v294), ∀ a, (k2_off44 v294) a + S1x16.size a ≤ S1000x64.size a := fun v294 k2_hw13 => k2_hw13.2.1
theorem k2_off45_inb : ∀ (v294 : BitVec 32) (k2_hw13 : k2_chk13 v294), ∀ a, (k2_off45 v294) a + S1x16.size a ≤ S1000x64.size a := fun v294 k2_hw13 => k2_hw13.2.2.1
theorem k2_off46_inb : ∀ (v294 : BitVec 32) (k2_hw13 : k2_chk13 v294), ∀ a, (k2_off46 v294) a + S1x16.size a ≤ S1000x64.size a := fun v294 k2_hw13 => k2_hw13.2.2.2

def k2_off47 (v312 : BitVec 32) : Fin 2 → Nat :=
  let v313 : Index := Scalar.indexCast v312
  let c0_105 : Index := 0#32
  ![v313.toNat, 0]

def k2_off48 (v312 : BitVec 32) : Fin 2 → Nat :=
  let v317 : Index := Scalar.indexCast v312
  let c16_106 : Index := 16#32
  ![v317.toNat, 16]
def k2_off49 (v312 : BitVec 32) : Fin 2 → Nat :=
  let v321 : Index := Scalar.indexCast v312
  let c32_107 : Index := 32#32
  ![v321.toNat, 32]
def k2_off50 (v312 : BitVec 32) : Fin 2 → Nat :=
  let v325 : Index := Scalar.indexCast v312
  let c48_108 : Index := 48#32
  ![v325.toNat, 48]

def k2_chk14 (v312 : BitVec 32) : Prop :=
  (∀ a, (k2_off47 v312) a + S1x16.size a ≤ S1000x64.size a) ∧
  (∀ a, (k2_off48 v312) a + S1x16.size a ≤ S1000x64.size a) ∧
  (∀ a, (k2_off49 v312) a + S1x16.size a ≤ S1000x64.size a) ∧
  (∀ a, (k2_off50 v312) a + S1x16.size a ≤ S1000x64.size a)
theorem k2_off47_inb : ∀ (v312 : BitVec 32) (k2_hw14 : k2_chk14 v312), ∀ a, (k2_off47 v312) a + S1x16.size a ≤ S1000x64.size a := fun v312 k2_hw14 => k2_hw14.1
theorem k2_off48_inb : ∀ (v312 : BitVec 32) (k2_hw14 : k2_chk14 v312), ∀ a, (k2_off48 v312) a + S1x16.size a ≤ S1000x64.size a := fun v312 k2_hw14 => k2_hw14.2.1
theorem k2_off49_inb : ∀ (v312 : BitVec 32) (k2_hw14 : k2_chk14 v312), ∀ a, (k2_off49 v312) a + S1x16.size a ≤ S1000x64.size a := fun v312 k2_hw14 => k2_hw14.2.2.1
theorem k2_off50_inb : ∀ (v312 : BitVec 32) (k2_hw14 : k2_chk14 v312), ∀ a, (k2_off50 v312) a + S1x16.size a ≤ S1000x64.size a := fun v312 k2_hw14 => k2_hw14.2.2.2

def k2_off51 (v330 : BitVec 32) : Fin 2 → Nat :=
  let v331 : Index := Scalar.indexCast v330
  let c0_109 : Index := 0#32
  ![v331.toNat, 0]

def k2_off52 (v330 : BitVec 32) : Fin 2 → Nat :=
  let v335 : Index := Scalar.indexCast v330
  let c16_110 : Index := 16#32
  ![v335.toNat, 16]
def k2_off53 (v330 : BitVec 32) : Fin 2 → Nat :=
  let v339 : Index := Scalar.indexCast v330
  let c32_111 : Index := 32#32
  ![v339.toNat, 32]
def k2_off54 (v330 : BitVec 32) : Fin 2 → Nat :=
  let v343 : Index := Scalar.indexCast v330
  let c48_112 : Index := 48#32
  ![v343.toNat, 48]

def k2_chk15 (v330 : BitVec 32) : Prop :=
  (∀ a, (k2_off51 v330) a + S1x16.size a ≤ S1000x64.size a) ∧
  (∀ a, (k2_off52 v330) a + S1x16.size a ≤ S1000x64.size a) ∧
  (∀ a, (k2_off53 v330) a + S1x16.size a ≤ S1000x64.size a) ∧
  (∀ a, (k2_off54 v330) a + S1x16.size a ≤ S1000x64.size a)
theorem k2_off51_inb : ∀ (v330 : BitVec 32) (k2_hw15 : k2_chk15 v330), ∀ a, (k2_off51 v330) a + S1x16.size a ≤ S1000x64.size a := fun v330 k2_hw15 => k2_hw15.1
theorem k2_off52_inb : ∀ (v330 : BitVec 32) (k2_hw15 : k2_chk15 v330), ∀ a, (k2_off52 v330) a + S1x16.size a ≤ S1000x64.size a := fun v330 k2_hw15 => k2_hw15.2.1
theorem k2_off53_inb : ∀ (v330 : BitVec 32) (k2_hw15 : k2_chk15 v330), ∀ a, (k2_off53 v330) a + S1x16.size a ≤ S1000x64.size a := fun v330 k2_hw15 => k2_hw15.2.2.1
theorem k2_off54_inb : ∀ (v330 : BitVec 32) (k2_hw15 : k2_chk15 v330), ∀ a, (k2_off54 v330) a + S1x16.size a ≤ S1000x64.size a := fun v330 k2_hw15 => k2_hw15.2.2.2

def k2_off55 (v348 : BitVec 32) : Fin 2 → Nat :=
  let v349 : Index := Scalar.indexCast v348
  let c0_113 : Index := 0#32
  ![v349.toNat, 0]

def k2_off56 (v348 : BitVec 32) : Fin 2 → Nat :=
  let v353 : Index := Scalar.indexCast v348
  let c16_114 : Index := 16#32
  ![v353.toNat, 16]
def k2_off57 (v348 : BitVec 32) : Fin 2 → Nat :=
  let v357 : Index := Scalar.indexCast v348
  let c32_115 : Index := 32#32
  ![v357.toNat, 32]
def k2_off58 (v348 : BitVec 32) : Fin 2 → Nat :=
  let v361 : Index := Scalar.indexCast v348
  let c48_116 : Index := 48#32
  ![v361.toNat, 48]

def k2_chk16 (v348 : BitVec 32) : Prop :=
  (∀ a, (k2_off55 v348) a + S1x16.size a ≤ S1000x64.size a) ∧
  (∀ a, (k2_off56 v348) a + S1x16.size a ≤ S1000x64.size a) ∧
  (∀ a, (k2_off57 v348) a + S1x16.size a ≤ S1000x64.size a) ∧
  (∀ a, (k2_off58 v348) a + S1x16.size a ≤ S1000x64.size a)
theorem k2_off55_inb : ∀ (v348 : BitVec 32) (k2_hw16 : k2_chk16 v348), ∀ a, (k2_off55 v348) a + S1x16.size a ≤ S1000x64.size a := fun v348 k2_hw16 => k2_hw16.1
theorem k2_off56_inb : ∀ (v348 : BitVec 32) (k2_hw16 : k2_chk16 v348), ∀ a, (k2_off56 v348) a + S1x16.size a ≤ S1000x64.size a := fun v348 k2_hw16 => k2_hw16.2.1
theorem k2_off57_inb : ∀ (v348 : BitVec 32) (k2_hw16 : k2_chk16 v348), ∀ a, (k2_off57 v348) a + S1x16.size a ≤ S1000x64.size a := fun v348 k2_hw16 => k2_hw16.2.2.1
theorem k2_off58_inb : ∀ (v348 : BitVec 32) (k2_hw16 : k2_chk16 v348), ∀ a, (k2_off58 v348) a + S1x16.size a ≤ S1000x64.size a := fun v348 k2_hw16 => k2_hw16.2.2.2

def k2_off59 (v366 : BitVec 32) : Fin 2 → Nat :=
  let v367 : Index := Scalar.indexCast v366
  let c0_117 : Index := 0#32
  ![v367.toNat, 0]

def k2_off60 (v366 : BitVec 32) : Fin 2 → Nat :=
  let v371 : Index := Scalar.indexCast v366
  let c16_118 : Index := 16#32
  ![v371.toNat, 16]
def k2_off61 (v366 : BitVec 32) : Fin 2 → Nat :=
  let v375 : Index := Scalar.indexCast v366
  let c32_119 : Index := 32#32
  ![v375.toNat, 32]
def k2_off62 (v366 : BitVec 32) : Fin 2 → Nat :=
  let v379 : Index := Scalar.indexCast v366
  let c48_120 : Index := 48#32
  ![v379.toNat, 48]

def k2_chk17 (v366 : BitVec 32) : Prop :=
  (∀ a, (k2_off59 v366) a + S1x16.size a ≤ S1000x64.size a) ∧
  (∀ a, (k2_off60 v366) a + S1x16.size a ≤ S1000x64.size a) ∧
  (∀ a, (k2_off61 v366) a + S1x16.size a ≤ S1000x64.size a) ∧
  (∀ a, (k2_off62 v366) a + S1x16.size a ≤ S1000x64.size a)
theorem k2_off59_inb : ∀ (v366 : BitVec 32) (k2_hw17 : k2_chk17 v366), ∀ a, (k2_off59 v366) a + S1x16.size a ≤ S1000x64.size a := fun v366 k2_hw17 => k2_hw17.1
theorem k2_off60_inb : ∀ (v366 : BitVec 32) (k2_hw17 : k2_chk17 v366), ∀ a, (k2_off60 v366) a + S1x16.size a ≤ S1000x64.size a := fun v366 k2_hw17 => k2_hw17.2.1
theorem k2_off61_inb : ∀ (v366 : BitVec 32) (k2_hw17 : k2_chk17 v366), ∀ a, (k2_off61 v366) a + S1x16.size a ≤ S1000x64.size a := fun v366 k2_hw17 => k2_hw17.2.2.1
theorem k2_off62_inb : ∀ (v366 : BitVec 32) (k2_hw17 : k2_chk17 v366), ∀ a, (k2_off62 v366) a + S1x16.size a ≤ S1000x64.size a := fun v366 k2_hw17 => k2_hw17.2.2.2

def k2_off63 (v384 : BitVec 32) : Fin 2 → Nat :=
  let v385 : Index := Scalar.indexCast v384
  let c0_121 : Index := 0#32
  ![v385.toNat, 0]

def k2_off64 (v384 : BitVec 32) : Fin 2 → Nat :=
  let v389 : Index := Scalar.indexCast v384
  let c16_122 : Index := 16#32
  ![v389.toNat, 16]
def k2_off65 (v384 : BitVec 32) : Fin 2 → Nat :=
  let v393 : Index := Scalar.indexCast v384
  let c32_123 : Index := 32#32
  ![v393.toNat, 32]
def k2_off66 (v384 : BitVec 32) : Fin 2 → Nat :=
  let v397 : Index := Scalar.indexCast v384
  let c48_124 : Index := 48#32
  ![v397.toNat, 48]

def k2_chk18 (v384 : BitVec 32) : Prop :=
  (∀ a, (k2_off63 v384) a + S1x16.size a ≤ S1000x64.size a) ∧
  (∀ a, (k2_off64 v384) a + S1x16.size a ≤ S1000x64.size a) ∧
  (∀ a, (k2_off65 v384) a + S1x16.size a ≤ S1000x64.size a) ∧
  (∀ a, (k2_off66 v384) a + S1x16.size a ≤ S1000x64.size a)
theorem k2_off63_inb : ∀ (v384 : BitVec 32) (k2_hw18 : k2_chk18 v384), ∀ a, (k2_off63 v384) a + S1x16.size a ≤ S1000x64.size a := fun v384 k2_hw18 => k2_hw18.1
theorem k2_off64_inb : ∀ (v384 : BitVec 32) (k2_hw18 : k2_chk18 v384), ∀ a, (k2_off64 v384) a + S1x16.size a ≤ S1000x64.size a := fun v384 k2_hw18 => k2_hw18.2.1
theorem k2_off65_inb : ∀ (v384 : BitVec 32) (k2_hw18 : k2_chk18 v384), ∀ a, (k2_off65 v384) a + S1x16.size a ≤ S1000x64.size a := fun v384 k2_hw18 => k2_hw18.2.2.1
theorem k2_off66_inb : ∀ (v384 : BitVec 32) (k2_hw18 : k2_chk18 v384), ∀ a, (k2_off66 v384) a + S1x16.size a ≤ S1000x64.size a := fun v384 k2_hw18 => k2_hw18.2.2.2

def k2_off67 (v402 : BitVec 32) : Fin 2 → Nat :=
  let v403 : Index := Scalar.indexCast v402
  let c0_125 : Index := 0#32
  ![v403.toNat, 0]

def k2_off68 (v402 : BitVec 32) : Fin 2 → Nat :=
  let v407 : Index := Scalar.indexCast v402
  let c16_126 : Index := 16#32
  ![v407.toNat, 16]
def k2_off69 (v402 : BitVec 32) : Fin 2 → Nat :=
  let v411 : Index := Scalar.indexCast v402
  let c32_127 : Index := 32#32
  ![v411.toNat, 32]
def k2_off70 (v402 : BitVec 32) : Fin 2 → Nat :=
  let v415 : Index := Scalar.indexCast v402
  let c48_128 : Index := 48#32
  ![v415.toNat, 48]

def k2_chk19 (v402 : BitVec 32) : Prop :=
  (∀ a, (k2_off67 v402) a + S1x16.size a ≤ S1000x64.size a) ∧
  (∀ a, (k2_off68 v402) a + S1x16.size a ≤ S1000x64.size a) ∧
  (∀ a, (k2_off69 v402) a + S1x16.size a ≤ S1000x64.size a) ∧
  (∀ a, (k2_off70 v402) a + S1x16.size a ≤ S1000x64.size a)
theorem k2_off67_inb : ∀ (v402 : BitVec 32) (k2_hw19 : k2_chk19 v402), ∀ a, (k2_off67 v402) a + S1x16.size a ≤ S1000x64.size a := fun v402 k2_hw19 => k2_hw19.1
theorem k2_off68_inb : ∀ (v402 : BitVec 32) (k2_hw19 : k2_chk19 v402), ∀ a, (k2_off68 v402) a + S1x16.size a ≤ S1000x64.size a := fun v402 k2_hw19 => k2_hw19.2.1
theorem k2_off69_inb : ∀ (v402 : BitVec 32) (k2_hw19 : k2_chk19 v402), ∀ a, (k2_off69 v402) a + S1x16.size a ≤ S1000x64.size a := fun v402 k2_hw19 => k2_hw19.2.2.1
theorem k2_off70_inb : ∀ (v402 : BitVec 32) (k2_hw19 : k2_chk19 v402), ∀ a, (k2_off70 v402) a + S1x16.size a ≤ S1000x64.size a := fun v402 k2_hw19 => k2_hw19.2.2.2

def k2_off71 (v420 : BitVec 32) : Fin 2 → Nat :=
  let v421 : Index := Scalar.indexCast v420
  let c0_129 : Index := 0#32
  ![v421.toNat, 0]

def k2_off72 (v420 : BitVec 32) : Fin 2 → Nat :=
  let v425 : Index := Scalar.indexCast v420
  let c16_130 : Index := 16#32
  ![v425.toNat, 16]
def k2_off73 (v420 : BitVec 32) : Fin 2 → Nat :=
  let v429 : Index := Scalar.indexCast v420
  let c32_131 : Index := 32#32
  ![v429.toNat, 32]
def k2_off74 (v420 : BitVec 32) : Fin 2 → Nat :=
  let v433 : Index := Scalar.indexCast v420
  let c48_132 : Index := 48#32
  ![v433.toNat, 48]

def k2_chk20 (v420 : BitVec 32) : Prop :=
  (∀ a, (k2_off71 v420) a + S1x16.size a ≤ S1000x64.size a) ∧
  (∀ a, (k2_off72 v420) a + S1x16.size a ≤ S1000x64.size a) ∧
  (∀ a, (k2_off73 v420) a + S1x16.size a ≤ S1000x64.size a) ∧
  (∀ a, (k2_off74 v420) a + S1x16.size a ≤ S1000x64.size a)
theorem k2_off71_inb : ∀ (v420 : BitVec 32) (k2_hw20 : k2_chk20 v420), ∀ a, (k2_off71 v420) a + S1x16.size a ≤ S1000x64.size a := fun v420 k2_hw20 => k2_hw20.1
theorem k2_off72_inb : ∀ (v420 : BitVec 32) (k2_hw20 : k2_chk20 v420), ∀ a, (k2_off72 v420) a + S1x16.size a ≤ S1000x64.size a := fun v420 k2_hw20 => k2_hw20.2.1
theorem k2_off73_inb : ∀ (v420 : BitVec 32) (k2_hw20 : k2_chk20 v420), ∀ a, (k2_off73 v420) a + S1x16.size a ≤ S1000x64.size a := fun v420 k2_hw20 => k2_hw20.2.2.1
theorem k2_off74_inb : ∀ (v420 : BitVec 32) (k2_hw20 : k2_chk20 v420), ∀ a, (k2_off74 v420) a + S1x16.size a ≤ S1000x64.size a := fun v420 k2_hw20 => k2_hw20.2.2.2

def k2_off75 (v438 : BitVec 32) : Fin 2 → Nat :=
  let v439 : Index := Scalar.indexCast v438
  let c0_133 : Index := 0#32
  ![v439.toNat, 0]

def k2_off76 (v438 : BitVec 32) : Fin 2 → Nat :=
  let v443 : Index := Scalar.indexCast v438
  let c16_134 : Index := 16#32
  ![v443.toNat, 16]
def k2_off77 (v438 : BitVec 32) : Fin 2 → Nat :=
  let v447 : Index := Scalar.indexCast v438
  let c32_135 : Index := 32#32
  ![v447.toNat, 32]
def k2_off78 (v438 : BitVec 32) : Fin 2 → Nat :=
  let v451 : Index := Scalar.indexCast v438
  let c48_136 : Index := 48#32
  ![v451.toNat, 48]

def k2_chk21 (v438 : BitVec 32) : Prop :=
  (∀ a, (k2_off75 v438) a + S1x16.size a ≤ S1000x64.size a) ∧
  (∀ a, (k2_off76 v438) a + S1x16.size a ≤ S1000x64.size a) ∧
  (∀ a, (k2_off77 v438) a + S1x16.size a ≤ S1000x64.size a) ∧
  (∀ a, (k2_off78 v438) a + S1x16.size a ≤ S1000x64.size a)
theorem k2_off75_inb : ∀ (v438 : BitVec 32) (k2_hw21 : k2_chk21 v438), ∀ a, (k2_off75 v438) a + S1x16.size a ≤ S1000x64.size a := fun v438 k2_hw21 => k2_hw21.1
theorem k2_off76_inb : ∀ (v438 : BitVec 32) (k2_hw21 : k2_chk21 v438), ∀ a, (k2_off76 v438) a + S1x16.size a ≤ S1000x64.size a := fun v438 k2_hw21 => k2_hw21.2.1
theorem k2_off77_inb : ∀ (v438 : BitVec 32) (k2_hw21 : k2_chk21 v438), ∀ a, (k2_off77 v438) a + S1x16.size a ≤ S1000x64.size a := fun v438 k2_hw21 => k2_hw21.2.2.1
theorem k2_off78_inb : ∀ (v438 : BitVec 32) (k2_hw21 : k2_chk21 v438), ∀ a, (k2_off78 v438) a + S1x16.size a ≤ S1000x64.size a := fun v438 k2_hw21 => k2_hw21.2.2.2

def k2_off79 (v456 : BitVec 32) : Fin 2 → Nat :=
  let v457 : Index := Scalar.indexCast v456
  let c0_137 : Index := 0#32
  ![v457.toNat, 0]

def k2_off80 (v456 : BitVec 32) : Fin 2 → Nat :=
  let v461 : Index := Scalar.indexCast v456
  let c16_138 : Index := 16#32
  ![v461.toNat, 16]
def k2_off81 (v456 : BitVec 32) : Fin 2 → Nat :=
  let v465 : Index := Scalar.indexCast v456
  let c32_139 : Index := 32#32
  ![v465.toNat, 32]
def k2_off82 (v456 : BitVec 32) : Fin 2 → Nat :=
  let v469 : Index := Scalar.indexCast v456
  let c48_140 : Index := 48#32
  ![v469.toNat, 48]

def k2_chk22 (v456 : BitVec 32) : Prop :=
  (∀ a, (k2_off79 v456) a + S1x16.size a ≤ S1000x64.size a) ∧
  (∀ a, (k2_off80 v456) a + S1x16.size a ≤ S1000x64.size a) ∧
  (∀ a, (k2_off81 v456) a + S1x16.size a ≤ S1000x64.size a) ∧
  (∀ a, (k2_off82 v456) a + S1x16.size a ≤ S1000x64.size a)
theorem k2_off79_inb : ∀ (v456 : BitVec 32) (k2_hw22 : k2_chk22 v456), ∀ a, (k2_off79 v456) a + S1x16.size a ≤ S1000x64.size a := fun v456 k2_hw22 => k2_hw22.1
theorem k2_off80_inb : ∀ (v456 : BitVec 32) (k2_hw22 : k2_chk22 v456), ∀ a, (k2_off80 v456) a + S1x16.size a ≤ S1000x64.size a := fun v456 k2_hw22 => k2_hw22.2.1
theorem k2_off81_inb : ∀ (v456 : BitVec 32) (k2_hw22 : k2_chk22 v456), ∀ a, (k2_off81 v456) a + S1x16.size a ≤ S1000x64.size a := fun v456 k2_hw22 => k2_hw22.2.2.1
theorem k2_off82_inb : ∀ (v456 : BitVec 32) (k2_hw22 : k2_chk22 v456), ∀ a, (k2_off82 v456) a + S1x16.size a ≤ S1000x64.size a := fun v456 k2_hw22 => k2_hw22.2.2.2

def k2_off83 (v474 : BitVec 32) : Fin 2 → Nat :=
  let v475 : Index := Scalar.indexCast v474
  let c0_141 : Index := 0#32
  ![v475.toNat, 0]

def k2_off84 (v474 : BitVec 32) : Fin 2 → Nat :=
  let v479 : Index := Scalar.indexCast v474
  let c16_142 : Index := 16#32
  ![v479.toNat, 16]
def k2_off85 (v474 : BitVec 32) : Fin 2 → Nat :=
  let v483 : Index := Scalar.indexCast v474
  let c32_143 : Index := 32#32
  ![v483.toNat, 32]
def k2_off86 (v474 : BitVec 32) : Fin 2 → Nat :=
  let v487 : Index := Scalar.indexCast v474
  let c48_144 : Index := 48#32
  ![v487.toNat, 48]

def k2_chk23 (v474 : BitVec 32) : Prop :=
  (∀ a, (k2_off83 v474) a + S1x16.size a ≤ S1000x64.size a) ∧
  (∀ a, (k2_off84 v474) a + S1x16.size a ≤ S1000x64.size a) ∧
  (∀ a, (k2_off85 v474) a + S1x16.size a ≤ S1000x64.size a) ∧
  (∀ a, (k2_off86 v474) a + S1x16.size a ≤ S1000x64.size a)
theorem k2_off83_inb : ∀ (v474 : BitVec 32) (k2_hw23 : k2_chk23 v474), ∀ a, (k2_off83 v474) a + S1x16.size a ≤ S1000x64.size a := fun v474 k2_hw23 => k2_hw23.1
theorem k2_off84_inb : ∀ (v474 : BitVec 32) (k2_hw23 : k2_chk23 v474), ∀ a, (k2_off84 v474) a + S1x16.size a ≤ S1000x64.size a := fun v474 k2_hw23 => k2_hw23.2.1
theorem k2_off85_inb : ∀ (v474 : BitVec 32) (k2_hw23 : k2_chk23 v474), ∀ a, (k2_off85 v474) a + S1x16.size a ≤ S1000x64.size a := fun v474 k2_hw23 => k2_hw23.2.2.1
theorem k2_off86_inb : ∀ (v474 : BitVec 32) (k2_hw23 : k2_chk23 v474), ∀ a, (k2_off86 v474) a + S1x16.size a ≤ S1000x64.size a := fun v474 k2_hw23 => k2_hw23.2.2.2

def k2_off87 (k2_t2 : Fin k2_t2_loop.trips) (c0_i32_148 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k2_t2
  let c1_i32_59 : BitVec 32 := 1#32
  let v102 : BitVec 32 := Scalar.muli arg16 c1_i32_59
  let v103 : BitVec 32 := Scalar.addi c0_i32_60 v102
  let c4_i32_145 : BitVec 32 := 4#32
  let v493 : BitVec 32 := Scalar.muli v103 c4_i32_145
  let c0_i32_146 : BitVec 32 := 0#32
  let v494 : BitVec 32 := Scalar.addi v493 c0_i32_146
  let c64_i32_147 : BitVec 32 := 64#32
  let v495 : BitVec 32 := Scalar.muli v494 c64_i32_147
  let v496 : BitVec 32 := Scalar.addi v495 c0_i32_148
  let v497 : Index := Scalar.indexCast v496
  ![v497.toNat]
def k2_off88 (v532 : BitVec 32) : Fin 2 → Nat :=
  let v533 : Index := Scalar.indexCast v532
  let c0_164 : Index := 0#32
  ![v533.toNat, 0]

def k2_chk24 (v532 : BitVec 32) : Prop :=
  (∀ a, (k2_off88 v532) a + S1x16.size a ≤ S1000x64.size a)
theorem k2_off88_inb : ∀ (v532 : BitVec 32) (k2_hw24 : k2_chk24 v532), ∀ a, (k2_off88 v532) a + S1x16.size a ≤ S1000x64.size a := fun v532 k2_hw24 => k2_hw24

def k2_off89 (v537 : BitVec 32) : Fin 2 → Nat :=
  let v538 : Index := Scalar.indexCast v537
  let c16_165 : Index := 16#32
  ![v538.toNat, 16]

def k2_chk25 (v537 : BitVec 32) : Prop :=
  (∀ a, (k2_off89 v537) a + S1x16.size a ≤ S1000x64.size a)
theorem k2_off89_inb : ∀ (v537 : BitVec 32) (k2_hw25 : k2_chk25 v537), ∀ a, (k2_off89 v537) a + S1x16.size a ≤ S1000x64.size a := fun v537 k2_hw25 => k2_hw25

def k2_off90 (v542 : BitVec 32) : Fin 2 → Nat :=
  let v543 : Index := Scalar.indexCast v542
  let c32_166 : Index := 32#32
  ![v543.toNat, 32]

def k2_chk26 (v542 : BitVec 32) : Prop :=
  (∀ a, (k2_off90 v542) a + S1x16.size a ≤ S1000x64.size a)
theorem k2_off90_inb : ∀ (v542 : BitVec 32) (k2_hw26 : k2_chk26 v542), ∀ a, (k2_off90 v542) a + S1x16.size a ≤ S1000x64.size a := fun v542 k2_hw26 => k2_hw26

def k2_off91 (v547 : BitVec 32) : Fin 2 → Nat :=
  let v548 : Index := Scalar.indexCast v547
  let c48_167 : Index := 48#32
  ![v548.toNat, 48]

def k2_chk27 (v547 : BitVec 32) : Prop :=
  (∀ a, (k2_off91 v547) a + S1x16.size a ≤ S1000x64.size a)
theorem k2_off91_inb : ∀ (v547 : BitVec 32) (k2_hw27 : k2_chk27 v547), ∀ a, (k2_off91 v547) a + S1x16.size a ≤ S1000x64.size a := fun v547 k2_hw27 => k2_hw27

def k2_off92 (v552 : BitVec 32) : Fin 2 → Nat :=
  let v553 : Index := Scalar.indexCast v552
  let c0_168 : Index := 0#32
  ![v553.toNat, 0]

def k2_off93 (v552 : BitVec 32) : Fin 2 → Nat :=
  let v557 : Index := Scalar.indexCast v552
  let c16_169 : Index := 16#32
  ![v557.toNat, 16]
def k2_off94 (v552 : BitVec 32) : Fin 2 → Nat :=
  let v561 : Index := Scalar.indexCast v552
  let c32_170 : Index := 32#32
  ![v561.toNat, 32]
def k2_off95 (v552 : BitVec 32) : Fin 2 → Nat :=
  let v565 : Index := Scalar.indexCast v552
  let c48_171 : Index := 48#32
  ![v565.toNat, 48]

def k2_chk28 (v552 : BitVec 32) : Prop :=
  (∀ a, (k2_off92 v552) a + S1x16.size a ≤ S1000x64.size a) ∧
  (∀ a, (k2_off93 v552) a + S1x16.size a ≤ S1000x64.size a) ∧
  (∀ a, (k2_off94 v552) a + S1x16.size a ≤ S1000x64.size a) ∧
  (∀ a, (k2_off95 v552) a + S1x16.size a ≤ S1000x64.size a)
theorem k2_off92_inb : ∀ (v552 : BitVec 32) (k2_hw28 : k2_chk28 v552), ∀ a, (k2_off92 v552) a + S1x16.size a ≤ S1000x64.size a := fun v552 k2_hw28 => k2_hw28.1
theorem k2_off93_inb : ∀ (v552 : BitVec 32) (k2_hw28 : k2_chk28 v552), ∀ a, (k2_off93 v552) a + S1x16.size a ≤ S1000x64.size a := fun v552 k2_hw28 => k2_hw28.2.1
theorem k2_off94_inb : ∀ (v552 : BitVec 32) (k2_hw28 : k2_chk28 v552), ∀ a, (k2_off94 v552) a + S1x16.size a ≤ S1000x64.size a := fun v552 k2_hw28 => k2_hw28.2.2.1
theorem k2_off95_inb : ∀ (v552 : BitVec 32) (k2_hw28 : k2_chk28 v552), ∀ a, (k2_off95 v552) a + S1x16.size a ≤ S1000x64.size a := fun v552 k2_hw28 => k2_hw28.2.2.2

def k2_off96 (v570 : BitVec 32) : Fin 2 → Nat :=
  let v571 : Index := Scalar.indexCast v570
  let c0_172 : Index := 0#32
  ![v571.toNat, 0]

def k2_off97 (v570 : BitVec 32) : Fin 2 → Nat :=
  let v575 : Index := Scalar.indexCast v570
  let c16_173 : Index := 16#32
  ![v575.toNat, 16]
def k2_off98 (v570 : BitVec 32) : Fin 2 → Nat :=
  let v579 : Index := Scalar.indexCast v570
  let c32_174 : Index := 32#32
  ![v579.toNat, 32]
def k2_off99 (v570 : BitVec 32) : Fin 2 → Nat :=
  let v583 : Index := Scalar.indexCast v570
  let c48_175 : Index := 48#32
  ![v583.toNat, 48]

def k2_chk29 (v570 : BitVec 32) : Prop :=
  (∀ a, (k2_off96 v570) a + S1x16.size a ≤ S1000x64.size a) ∧
  (∀ a, (k2_off97 v570) a + S1x16.size a ≤ S1000x64.size a) ∧
  (∀ a, (k2_off98 v570) a + S1x16.size a ≤ S1000x64.size a) ∧
  (∀ a, (k2_off99 v570) a + S1x16.size a ≤ S1000x64.size a)
theorem k2_off96_inb : ∀ (v570 : BitVec 32) (k2_hw29 : k2_chk29 v570), ∀ a, (k2_off96 v570) a + S1x16.size a ≤ S1000x64.size a := fun v570 k2_hw29 => k2_hw29.1
theorem k2_off97_inb : ∀ (v570 : BitVec 32) (k2_hw29 : k2_chk29 v570), ∀ a, (k2_off97 v570) a + S1x16.size a ≤ S1000x64.size a := fun v570 k2_hw29 => k2_hw29.2.1
theorem k2_off98_inb : ∀ (v570 : BitVec 32) (k2_hw29 : k2_chk29 v570), ∀ a, (k2_off98 v570) a + S1x16.size a ≤ S1000x64.size a := fun v570 k2_hw29 => k2_hw29.2.2.1
theorem k2_off99_inb : ∀ (v570 : BitVec 32) (k2_hw29 : k2_chk29 v570), ∀ a, (k2_off99 v570) a + S1x16.size a ≤ S1000x64.size a := fun v570 k2_hw29 => k2_hw29.2.2.2

def k2_off100 (v588 : BitVec 32) : Fin 2 → Nat :=
  let v589 : Index := Scalar.indexCast v588
  let c0_176 : Index := 0#32
  ![v589.toNat, 0]

def k2_off101 (v588 : BitVec 32) : Fin 2 → Nat :=
  let v593 : Index := Scalar.indexCast v588
  let c16_177 : Index := 16#32
  ![v593.toNat, 16]
def k2_off102 (v588 : BitVec 32) : Fin 2 → Nat :=
  let v597 : Index := Scalar.indexCast v588
  let c32_178 : Index := 32#32
  ![v597.toNat, 32]
def k2_off103 (v588 : BitVec 32) : Fin 2 → Nat :=
  let v601 : Index := Scalar.indexCast v588
  let c48_179 : Index := 48#32
  ![v601.toNat, 48]

def k2_chk30 (v588 : BitVec 32) : Prop :=
  (∀ a, (k2_off100 v588) a + S1x16.size a ≤ S1000x64.size a) ∧
  (∀ a, (k2_off101 v588) a + S1x16.size a ≤ S1000x64.size a) ∧
  (∀ a, (k2_off102 v588) a + S1x16.size a ≤ S1000x64.size a) ∧
  (∀ a, (k2_off103 v588) a + S1x16.size a ≤ S1000x64.size a)
theorem k2_off100_inb : ∀ (v588 : BitVec 32) (k2_hw30 : k2_chk30 v588), ∀ a, (k2_off100 v588) a + S1x16.size a ≤ S1000x64.size a := fun v588 k2_hw30 => k2_hw30.1
theorem k2_off101_inb : ∀ (v588 : BitVec 32) (k2_hw30 : k2_chk30 v588), ∀ a, (k2_off101 v588) a + S1x16.size a ≤ S1000x64.size a := fun v588 k2_hw30 => k2_hw30.2.1
theorem k2_off102_inb : ∀ (v588 : BitVec 32) (k2_hw30 : k2_chk30 v588), ∀ a, (k2_off102 v588) a + S1x16.size a ≤ S1000x64.size a := fun v588 k2_hw30 => k2_hw30.2.2.1
theorem k2_off103_inb : ∀ (v588 : BitVec 32) (k2_hw30 : k2_chk30 v588), ∀ a, (k2_off103 v588) a + S1x16.size a ≤ S1000x64.size a := fun v588 k2_hw30 => k2_hw30.2.2.2

def k2_off104 (v606 : BitVec 32) : Fin 2 → Nat :=
  let v607 : Index := Scalar.indexCast v606
  let c0_180 : Index := 0#32
  ![v607.toNat, 0]

def k2_off105 (v606 : BitVec 32) : Fin 2 → Nat :=
  let v611 : Index := Scalar.indexCast v606
  let c16_181 : Index := 16#32
  ![v611.toNat, 16]
def k2_off106 (v606 : BitVec 32) : Fin 2 → Nat :=
  let v615 : Index := Scalar.indexCast v606
  let c32_182 : Index := 32#32
  ![v615.toNat, 32]
def k2_off107 (v606 : BitVec 32) : Fin 2 → Nat :=
  let v619 : Index := Scalar.indexCast v606
  let c48_183 : Index := 48#32
  ![v619.toNat, 48]

def k2_chk31 (v606 : BitVec 32) : Prop :=
  (∀ a, (k2_off104 v606) a + S1x16.size a ≤ S1000x64.size a) ∧
  (∀ a, (k2_off105 v606) a + S1x16.size a ≤ S1000x64.size a) ∧
  (∀ a, (k2_off106 v606) a + S1x16.size a ≤ S1000x64.size a) ∧
  (∀ a, (k2_off107 v606) a + S1x16.size a ≤ S1000x64.size a)
theorem k2_off104_inb : ∀ (v606 : BitVec 32) (k2_hw31 : k2_chk31 v606), ∀ a, (k2_off104 v606) a + S1x16.size a ≤ S1000x64.size a := fun v606 k2_hw31 => k2_hw31.1
theorem k2_off105_inb : ∀ (v606 : BitVec 32) (k2_hw31 : k2_chk31 v606), ∀ a, (k2_off105 v606) a + S1x16.size a ≤ S1000x64.size a := fun v606 k2_hw31 => k2_hw31.2.1
theorem k2_off106_inb : ∀ (v606 : BitVec 32) (k2_hw31 : k2_chk31 v606), ∀ a, (k2_off106 v606) a + S1x16.size a ≤ S1000x64.size a := fun v606 k2_hw31 => k2_hw31.2.2.1
theorem k2_off107_inb : ∀ (v606 : BitVec 32) (k2_hw31 : k2_chk31 v606), ∀ a, (k2_off107 v606) a + S1x16.size a ≤ S1000x64.size a := fun v606 k2_hw31 => k2_hw31.2.2.2

def k2_off108 (v624 : BitVec 32) : Fin 2 → Nat :=
  let v625 : Index := Scalar.indexCast v624
  let c0_184 : Index := 0#32
  ![v625.toNat, 0]

def k2_off109 (v624 : BitVec 32) : Fin 2 → Nat :=
  let v629 : Index := Scalar.indexCast v624
  let c16_185 : Index := 16#32
  ![v629.toNat, 16]
def k2_off110 (v624 : BitVec 32) : Fin 2 → Nat :=
  let v633 : Index := Scalar.indexCast v624
  let c32_186 : Index := 32#32
  ![v633.toNat, 32]
def k2_off111 (v624 : BitVec 32) : Fin 2 → Nat :=
  let v637 : Index := Scalar.indexCast v624
  let c48_187 : Index := 48#32
  ![v637.toNat, 48]

def k2_chk32 (v624 : BitVec 32) : Prop :=
  (∀ a, (k2_off108 v624) a + S1x16.size a ≤ S1000x64.size a) ∧
  (∀ a, (k2_off109 v624) a + S1x16.size a ≤ S1000x64.size a) ∧
  (∀ a, (k2_off110 v624) a + S1x16.size a ≤ S1000x64.size a) ∧
  (∀ a, (k2_off111 v624) a + S1x16.size a ≤ S1000x64.size a)
theorem k2_off108_inb : ∀ (v624 : BitVec 32) (k2_hw32 : k2_chk32 v624), ∀ a, (k2_off108 v624) a + S1x16.size a ≤ S1000x64.size a := fun v624 k2_hw32 => k2_hw32.1
theorem k2_off109_inb : ∀ (v624 : BitVec 32) (k2_hw32 : k2_chk32 v624), ∀ a, (k2_off109 v624) a + S1x16.size a ≤ S1000x64.size a := fun v624 k2_hw32 => k2_hw32.2.1
theorem k2_off110_inb : ∀ (v624 : BitVec 32) (k2_hw32 : k2_chk32 v624), ∀ a, (k2_off110 v624) a + S1x16.size a ≤ S1000x64.size a := fun v624 k2_hw32 => k2_hw32.2.2.1
theorem k2_off111_inb : ∀ (v624 : BitVec 32) (k2_hw32 : k2_chk32 v624), ∀ a, (k2_off111 v624) a + S1x16.size a ≤ S1000x64.size a := fun v624 k2_hw32 => k2_hw32.2.2.2

def k2_off112 (v642 : BitVec 32) : Fin 2 → Nat :=
  let v643 : Index := Scalar.indexCast v642
  let c0_188 : Index := 0#32
  ![v643.toNat, 0]

def k2_off113 (v642 : BitVec 32) : Fin 2 → Nat :=
  let v647 : Index := Scalar.indexCast v642
  let c16_189 : Index := 16#32
  ![v647.toNat, 16]
def k2_off114 (v642 : BitVec 32) : Fin 2 → Nat :=
  let v651 : Index := Scalar.indexCast v642
  let c32_190 : Index := 32#32
  ![v651.toNat, 32]
def k2_off115 (v642 : BitVec 32) : Fin 2 → Nat :=
  let v655 : Index := Scalar.indexCast v642
  let c48_191 : Index := 48#32
  ![v655.toNat, 48]

def k2_chk33 (v642 : BitVec 32) : Prop :=
  (∀ a, (k2_off112 v642) a + S1x16.size a ≤ S1000x64.size a) ∧
  (∀ a, (k2_off113 v642) a + S1x16.size a ≤ S1000x64.size a) ∧
  (∀ a, (k2_off114 v642) a + S1x16.size a ≤ S1000x64.size a) ∧
  (∀ a, (k2_off115 v642) a + S1x16.size a ≤ S1000x64.size a)
theorem k2_off112_inb : ∀ (v642 : BitVec 32) (k2_hw33 : k2_chk33 v642), ∀ a, (k2_off112 v642) a + S1x16.size a ≤ S1000x64.size a := fun v642 k2_hw33 => k2_hw33.1
theorem k2_off113_inb : ∀ (v642 : BitVec 32) (k2_hw33 : k2_chk33 v642), ∀ a, (k2_off113 v642) a + S1x16.size a ≤ S1000x64.size a := fun v642 k2_hw33 => k2_hw33.2.1
theorem k2_off114_inb : ∀ (v642 : BitVec 32) (k2_hw33 : k2_chk33 v642), ∀ a, (k2_off114 v642) a + S1x16.size a ≤ S1000x64.size a := fun v642 k2_hw33 => k2_hw33.2.2.1
theorem k2_off115_inb : ∀ (v642 : BitVec 32) (k2_hw33 : k2_chk33 v642), ∀ a, (k2_off115 v642) a + S1x16.size a ≤ S1000x64.size a := fun v642 k2_hw33 => k2_hw33.2.2.2

def k2_off116 (v660 : BitVec 32) : Fin 2 → Nat :=
  let v661 : Index := Scalar.indexCast v660
  let c0_192 : Index := 0#32
  ![v661.toNat, 0]

def k2_off117 (v660 : BitVec 32) : Fin 2 → Nat :=
  let v665 : Index := Scalar.indexCast v660
  let c16_193 : Index := 16#32
  ![v665.toNat, 16]
def k2_off118 (v660 : BitVec 32) : Fin 2 → Nat :=
  let v669 : Index := Scalar.indexCast v660
  let c32_194 : Index := 32#32
  ![v669.toNat, 32]
def k2_off119 (v660 : BitVec 32) : Fin 2 → Nat :=
  let v673 : Index := Scalar.indexCast v660
  let c48_195 : Index := 48#32
  ![v673.toNat, 48]

def k2_chk34 (v660 : BitVec 32) : Prop :=
  (∀ a, (k2_off116 v660) a + S1x16.size a ≤ S1000x64.size a) ∧
  (∀ a, (k2_off117 v660) a + S1x16.size a ≤ S1000x64.size a) ∧
  (∀ a, (k2_off118 v660) a + S1x16.size a ≤ S1000x64.size a) ∧
  (∀ a, (k2_off119 v660) a + S1x16.size a ≤ S1000x64.size a)
theorem k2_off116_inb : ∀ (v660 : BitVec 32) (k2_hw34 : k2_chk34 v660), ∀ a, (k2_off116 v660) a + S1x16.size a ≤ S1000x64.size a := fun v660 k2_hw34 => k2_hw34.1
theorem k2_off117_inb : ∀ (v660 : BitVec 32) (k2_hw34 : k2_chk34 v660), ∀ a, (k2_off117 v660) a + S1x16.size a ≤ S1000x64.size a := fun v660 k2_hw34 => k2_hw34.2.1
theorem k2_off118_inb : ∀ (v660 : BitVec 32) (k2_hw34 : k2_chk34 v660), ∀ a, (k2_off118 v660) a + S1x16.size a ≤ S1000x64.size a := fun v660 k2_hw34 => k2_hw34.2.2.1
theorem k2_off119_inb : ∀ (v660 : BitVec 32) (k2_hw34 : k2_chk34 v660), ∀ a, (k2_off119 v660) a + S1x16.size a ≤ S1000x64.size a := fun v660 k2_hw34 => k2_hw34.2.2.2

def k2_off120 (v678 : BitVec 32) : Fin 2 → Nat :=
  let v679 : Index := Scalar.indexCast v678
  let c0_196 : Index := 0#32
  ![v679.toNat, 0]

def k2_off121 (v678 : BitVec 32) : Fin 2 → Nat :=
  let v683 : Index := Scalar.indexCast v678
  let c16_197 : Index := 16#32
  ![v683.toNat, 16]
def k2_off122 (v678 : BitVec 32) : Fin 2 → Nat :=
  let v687 : Index := Scalar.indexCast v678
  let c32_198 : Index := 32#32
  ![v687.toNat, 32]
def k2_off123 (v678 : BitVec 32) : Fin 2 → Nat :=
  let v691 : Index := Scalar.indexCast v678
  let c48_199 : Index := 48#32
  ![v691.toNat, 48]

def k2_chk35 (v678 : BitVec 32) : Prop :=
  (∀ a, (k2_off120 v678) a + S1x16.size a ≤ S1000x64.size a) ∧
  (∀ a, (k2_off121 v678) a + S1x16.size a ≤ S1000x64.size a) ∧
  (∀ a, (k2_off122 v678) a + S1x16.size a ≤ S1000x64.size a) ∧
  (∀ a, (k2_off123 v678) a + S1x16.size a ≤ S1000x64.size a)
theorem k2_off120_inb : ∀ (v678 : BitVec 32) (k2_hw35 : k2_chk35 v678), ∀ a, (k2_off120 v678) a + S1x16.size a ≤ S1000x64.size a := fun v678 k2_hw35 => k2_hw35.1
theorem k2_off121_inb : ∀ (v678 : BitVec 32) (k2_hw35 : k2_chk35 v678), ∀ a, (k2_off121 v678) a + S1x16.size a ≤ S1000x64.size a := fun v678 k2_hw35 => k2_hw35.2.1
theorem k2_off122_inb : ∀ (v678 : BitVec 32) (k2_hw35 : k2_chk35 v678), ∀ a, (k2_off122 v678) a + S1x16.size a ≤ S1000x64.size a := fun v678 k2_hw35 => k2_hw35.2.2.1
theorem k2_off123_inb : ∀ (v678 : BitVec 32) (k2_hw35 : k2_chk35 v678), ∀ a, (k2_off123 v678) a + S1x16.size a ≤ S1000x64.size a := fun v678 k2_hw35 => k2_hw35.2.2.2

def k2_off124 (v696 : BitVec 32) : Fin 2 → Nat :=
  let v697 : Index := Scalar.indexCast v696
  let c0_200 : Index := 0#32
  ![v697.toNat, 0]

def k2_off125 (v696 : BitVec 32) : Fin 2 → Nat :=
  let v701 : Index := Scalar.indexCast v696
  let c16_201 : Index := 16#32
  ![v701.toNat, 16]
def k2_off126 (v696 : BitVec 32) : Fin 2 → Nat :=
  let v705 : Index := Scalar.indexCast v696
  let c32_202 : Index := 32#32
  ![v705.toNat, 32]
def k2_off127 (v696 : BitVec 32) : Fin 2 → Nat :=
  let v709 : Index := Scalar.indexCast v696
  let c48_203 : Index := 48#32
  ![v709.toNat, 48]

def k2_chk36 (v696 : BitVec 32) : Prop :=
  (∀ a, (k2_off124 v696) a + S1x16.size a ≤ S1000x64.size a) ∧
  (∀ a, (k2_off125 v696) a + S1x16.size a ≤ S1000x64.size a) ∧
  (∀ a, (k2_off126 v696) a + S1x16.size a ≤ S1000x64.size a) ∧
  (∀ a, (k2_off127 v696) a + S1x16.size a ≤ S1000x64.size a)
theorem k2_off124_inb : ∀ (v696 : BitVec 32) (k2_hw36 : k2_chk36 v696), ∀ a, (k2_off124 v696) a + S1x16.size a ≤ S1000x64.size a := fun v696 k2_hw36 => k2_hw36.1
theorem k2_off125_inb : ∀ (v696 : BitVec 32) (k2_hw36 : k2_chk36 v696), ∀ a, (k2_off125 v696) a + S1x16.size a ≤ S1000x64.size a := fun v696 k2_hw36 => k2_hw36.2.1
theorem k2_off126_inb : ∀ (v696 : BitVec 32) (k2_hw36 : k2_chk36 v696), ∀ a, (k2_off126 v696) a + S1x16.size a ≤ S1000x64.size a := fun v696 k2_hw36 => k2_hw36.2.2.1
theorem k2_off127_inb : ∀ (v696 : BitVec 32) (k2_hw36 : k2_chk36 v696), ∀ a, (k2_off127 v696) a + S1x16.size a ≤ S1000x64.size a := fun v696 k2_hw36 => k2_hw36.2.2.2

def k2_off128 (v714 : BitVec 32) : Fin 2 → Nat :=
  let v715 : Index := Scalar.indexCast v714
  let c0_204 : Index := 0#32
  ![v715.toNat, 0]

def k2_off129 (v714 : BitVec 32) : Fin 2 → Nat :=
  let v719 : Index := Scalar.indexCast v714
  let c16_205 : Index := 16#32
  ![v719.toNat, 16]
def k2_off130 (v714 : BitVec 32) : Fin 2 → Nat :=
  let v723 : Index := Scalar.indexCast v714
  let c32_206 : Index := 32#32
  ![v723.toNat, 32]
def k2_off131 (v714 : BitVec 32) : Fin 2 → Nat :=
  let v727 : Index := Scalar.indexCast v714
  let c48_207 : Index := 48#32
  ![v727.toNat, 48]

def k2_chk37 (v714 : BitVec 32) : Prop :=
  (∀ a, (k2_off128 v714) a + S1x16.size a ≤ S1000x64.size a) ∧
  (∀ a, (k2_off129 v714) a + S1x16.size a ≤ S1000x64.size a) ∧
  (∀ a, (k2_off130 v714) a + S1x16.size a ≤ S1000x64.size a) ∧
  (∀ a, (k2_off131 v714) a + S1x16.size a ≤ S1000x64.size a)
theorem k2_off128_inb : ∀ (v714 : BitVec 32) (k2_hw37 : k2_chk37 v714), ∀ a, (k2_off128 v714) a + S1x16.size a ≤ S1000x64.size a := fun v714 k2_hw37 => k2_hw37.1
theorem k2_off129_inb : ∀ (v714 : BitVec 32) (k2_hw37 : k2_chk37 v714), ∀ a, (k2_off129 v714) a + S1x16.size a ≤ S1000x64.size a := fun v714 k2_hw37 => k2_hw37.2.1
theorem k2_off130_inb : ∀ (v714 : BitVec 32) (k2_hw37 : k2_chk37 v714), ∀ a, (k2_off130 v714) a + S1x16.size a ≤ S1000x64.size a := fun v714 k2_hw37 => k2_hw37.2.2.1
theorem k2_off131_inb : ∀ (v714 : BitVec 32) (k2_hw37 : k2_chk37 v714), ∀ a, (k2_off131 v714) a + S1x16.size a ≤ S1000x64.size a := fun v714 k2_hw37 => k2_hw37.2.2.2

def k2_off132 (v732 : BitVec 32) : Fin 2 → Nat :=
  let v733 : Index := Scalar.indexCast v732
  let c0_208 : Index := 0#32
  ![v733.toNat, 0]

def k2_off133 (v732 : BitVec 32) : Fin 2 → Nat :=
  let v737 : Index := Scalar.indexCast v732
  let c16_209 : Index := 16#32
  ![v737.toNat, 16]
def k2_off134 (v732 : BitVec 32) : Fin 2 → Nat :=
  let v741 : Index := Scalar.indexCast v732
  let c32_210 : Index := 32#32
  ![v741.toNat, 32]
def k2_off135 (v732 : BitVec 32) : Fin 2 → Nat :=
  let v745 : Index := Scalar.indexCast v732
  let c48_211 : Index := 48#32
  ![v745.toNat, 48]

def k2_chk38 (v732 : BitVec 32) : Prop :=
  (∀ a, (k2_off132 v732) a + S1x16.size a ≤ S1000x64.size a) ∧
  (∀ a, (k2_off133 v732) a + S1x16.size a ≤ S1000x64.size a) ∧
  (∀ a, (k2_off134 v732) a + S1x16.size a ≤ S1000x64.size a) ∧
  (∀ a, (k2_off135 v732) a + S1x16.size a ≤ S1000x64.size a)
theorem k2_off132_inb : ∀ (v732 : BitVec 32) (k2_hw38 : k2_chk38 v732), ∀ a, (k2_off132 v732) a + S1x16.size a ≤ S1000x64.size a := fun v732 k2_hw38 => k2_hw38.1
theorem k2_off133_inb : ∀ (v732 : BitVec 32) (k2_hw38 : k2_chk38 v732), ∀ a, (k2_off133 v732) a + S1x16.size a ≤ S1000x64.size a := fun v732 k2_hw38 => k2_hw38.2.1
theorem k2_off134_inb : ∀ (v732 : BitVec 32) (k2_hw38 : k2_chk38 v732), ∀ a, (k2_off134 v732) a + S1x16.size a ≤ S1000x64.size a := fun v732 k2_hw38 => k2_hw38.2.2.1
theorem k2_off135_inb : ∀ (v732 : BitVec 32) (k2_hw38 : k2_chk38 v732), ∀ a, (k2_off135 v732) a + S1x16.size a ≤ S1000x64.size a := fun v732 k2_hw38 => k2_hw38.2.2.2

def k2_off136 (v750 : BitVec 32) : Fin 2 → Nat :=
  let v751 : Index := Scalar.indexCast v750
  let c0_212 : Index := 0#32
  ![v751.toNat, 0]

def k2_off137 (v750 : BitVec 32) : Fin 2 → Nat :=
  let v755 : Index := Scalar.indexCast v750
  let c16_213 : Index := 16#32
  ![v755.toNat, 16]
def k2_off138 (v750 : BitVec 32) : Fin 2 → Nat :=
  let v759 : Index := Scalar.indexCast v750
  let c32_214 : Index := 32#32
  ![v759.toNat, 32]
def k2_off139 (v750 : BitVec 32) : Fin 2 → Nat :=
  let v763 : Index := Scalar.indexCast v750
  let c48_215 : Index := 48#32
  ![v763.toNat, 48]

def k2_chk39 (v750 : BitVec 32) : Prop :=
  (∀ a, (k2_off136 v750) a + S1x16.size a ≤ S1000x64.size a) ∧
  (∀ a, (k2_off137 v750) a + S1x16.size a ≤ S1000x64.size a) ∧
  (∀ a, (k2_off138 v750) a + S1x16.size a ≤ S1000x64.size a) ∧
  (∀ a, (k2_off139 v750) a + S1x16.size a ≤ S1000x64.size a)
theorem k2_off136_inb : ∀ (v750 : BitVec 32) (k2_hw39 : k2_chk39 v750), ∀ a, (k2_off136 v750) a + S1x16.size a ≤ S1000x64.size a := fun v750 k2_hw39 => k2_hw39.1
theorem k2_off137_inb : ∀ (v750 : BitVec 32) (k2_hw39 : k2_chk39 v750), ∀ a, (k2_off137 v750) a + S1x16.size a ≤ S1000x64.size a := fun v750 k2_hw39 => k2_hw39.2.1
theorem k2_off138_inb : ∀ (v750 : BitVec 32) (k2_hw39 : k2_chk39 v750), ∀ a, (k2_off138 v750) a + S1x16.size a ≤ S1000x64.size a := fun v750 k2_hw39 => k2_hw39.2.2.1
theorem k2_off139_inb : ∀ (v750 : BitVec 32) (k2_hw39 : k2_chk39 v750), ∀ a, (k2_off139 v750) a + S1x16.size a ≤ S1000x64.size a := fun v750 k2_hw39 => k2_hw39.2.2.2

def k2_off140 (v768 : BitVec 32) : Fin 2 → Nat :=
  let v769 : Index := Scalar.indexCast v768
  let c0_216 : Index := 0#32
  ![v769.toNat, 0]

def k2_off141 (v768 : BitVec 32) : Fin 2 → Nat :=
  let v773 : Index := Scalar.indexCast v768
  let c16_217 : Index := 16#32
  ![v773.toNat, 16]
def k2_off142 (v768 : BitVec 32) : Fin 2 → Nat :=
  let v777 : Index := Scalar.indexCast v768
  let c32_218 : Index := 32#32
  ![v777.toNat, 32]
def k2_off143 (v768 : BitVec 32) : Fin 2 → Nat :=
  let v781 : Index := Scalar.indexCast v768
  let c48_219 : Index := 48#32
  ![v781.toNat, 48]

def k2_chk40 (v768 : BitVec 32) : Prop :=
  (∀ a, (k2_off140 v768) a + S1x16.size a ≤ S1000x64.size a) ∧
  (∀ a, (k2_off141 v768) a + S1x16.size a ≤ S1000x64.size a) ∧
  (∀ a, (k2_off142 v768) a + S1x16.size a ≤ S1000x64.size a) ∧
  (∀ a, (k2_off143 v768) a + S1x16.size a ≤ S1000x64.size a)
theorem k2_off140_inb : ∀ (v768 : BitVec 32) (k2_hw40 : k2_chk40 v768), ∀ a, (k2_off140 v768) a + S1x16.size a ≤ S1000x64.size a := fun v768 k2_hw40 => k2_hw40.1
theorem k2_off141_inb : ∀ (v768 : BitVec 32) (k2_hw40 : k2_chk40 v768), ∀ a, (k2_off141 v768) a + S1x16.size a ≤ S1000x64.size a := fun v768 k2_hw40 => k2_hw40.2.1
theorem k2_off142_inb : ∀ (v768 : BitVec 32) (k2_hw40 : k2_chk40 v768), ∀ a, (k2_off142 v768) a + S1x16.size a ≤ S1000x64.size a := fun v768 k2_hw40 => k2_hw40.2.2.1
theorem k2_off143_inb : ∀ (v768 : BitVec 32) (k2_hw40 : k2_chk40 v768), ∀ a, (k2_off143 v768) a + S1x16.size a ≤ S1000x64.size a := fun v768 k2_hw40 => k2_hw40.2.2.2

def k2_off144 (v786 : BitVec 32) : Fin 2 → Nat :=
  let v787 : Index := Scalar.indexCast v786
  let c0_220 : Index := 0#32
  ![v787.toNat, 0]

def k2_off145 (v786 : BitVec 32) : Fin 2 → Nat :=
  let v791 : Index := Scalar.indexCast v786
  let c16_221 : Index := 16#32
  ![v791.toNat, 16]
def k2_off146 (v786 : BitVec 32) : Fin 2 → Nat :=
  let v795 : Index := Scalar.indexCast v786
  let c32_222 : Index := 32#32
  ![v795.toNat, 32]
def k2_off147 (v786 : BitVec 32) : Fin 2 → Nat :=
  let v799 : Index := Scalar.indexCast v786
  let c48_223 : Index := 48#32
  ![v799.toNat, 48]

def k2_chk41 (v786 : BitVec 32) : Prop :=
  (∀ a, (k2_off144 v786) a + S1x16.size a ≤ S1000x64.size a) ∧
  (∀ a, (k2_off145 v786) a + S1x16.size a ≤ S1000x64.size a) ∧
  (∀ a, (k2_off146 v786) a + S1x16.size a ≤ S1000x64.size a) ∧
  (∀ a, (k2_off147 v786) a + S1x16.size a ≤ S1000x64.size a)
theorem k2_off144_inb : ∀ (v786 : BitVec 32) (k2_hw41 : k2_chk41 v786), ∀ a, (k2_off144 v786) a + S1x16.size a ≤ S1000x64.size a := fun v786 k2_hw41 => k2_hw41.1
theorem k2_off145_inb : ∀ (v786 : BitVec 32) (k2_hw41 : k2_chk41 v786), ∀ a, (k2_off145 v786) a + S1x16.size a ≤ S1000x64.size a := fun v786 k2_hw41 => k2_hw41.2.1
theorem k2_off146_inb : ∀ (v786 : BitVec 32) (k2_hw41 : k2_chk41 v786), ∀ a, (k2_off146 v786) a + S1x16.size a ≤ S1000x64.size a := fun v786 k2_hw41 => k2_hw41.2.2.1
theorem k2_off147_inb : ∀ (v786 : BitVec 32) (k2_hw41 : k2_chk41 v786), ∀ a, (k2_off147 v786) a + S1x16.size a ≤ S1000x64.size a := fun v786 k2_hw41 => k2_hw41.2.2.2

def k2_off148 (v804 : BitVec 32) : Fin 2 → Nat :=
  let v805 : Index := Scalar.indexCast v804
  let c0_224 : Index := 0#32
  ![v805.toNat, 0]

def k2_off149 (v804 : BitVec 32) : Fin 2 → Nat :=
  let v809 : Index := Scalar.indexCast v804
  let c16_225 : Index := 16#32
  ![v809.toNat, 16]
def k2_off150 (v804 : BitVec 32) : Fin 2 → Nat :=
  let v813 : Index := Scalar.indexCast v804
  let c32_226 : Index := 32#32
  ![v813.toNat, 32]
def k2_off151 (v804 : BitVec 32) : Fin 2 → Nat :=
  let v817 : Index := Scalar.indexCast v804
  let c48_227 : Index := 48#32
  ![v817.toNat, 48]

def k2_chk42 (v804 : BitVec 32) : Prop :=
  (∀ a, (k2_off148 v804) a + S1x16.size a ≤ S1000x64.size a) ∧
  (∀ a, (k2_off149 v804) a + S1x16.size a ≤ S1000x64.size a) ∧
  (∀ a, (k2_off150 v804) a + S1x16.size a ≤ S1000x64.size a) ∧
  (∀ a, (k2_off151 v804) a + S1x16.size a ≤ S1000x64.size a)
theorem k2_off148_inb : ∀ (v804 : BitVec 32) (k2_hw42 : k2_chk42 v804), ∀ a, (k2_off148 v804) a + S1x16.size a ≤ S1000x64.size a := fun v804 k2_hw42 => k2_hw42.1
theorem k2_off149_inb : ∀ (v804 : BitVec 32) (k2_hw42 : k2_chk42 v804), ∀ a, (k2_off149 v804) a + S1x16.size a ≤ S1000x64.size a := fun v804 k2_hw42 => k2_hw42.2.1
theorem k2_off150_inb : ∀ (v804 : BitVec 32) (k2_hw42 : k2_chk42 v804), ∀ a, (k2_off150 v804) a + S1x16.size a ≤ S1000x64.size a := fun v804 k2_hw42 => k2_hw42.2.2.1
theorem k2_off151_inb : ∀ (v804 : BitVec 32) (k2_hw42 : k2_chk42 v804), ∀ a, (k2_off151 v804) a + S1x16.size a ≤ S1000x64.size a := fun v804 k2_hw42 => k2_hw42.2.2.2

def k2_off152 (v822 : BitVec 32) : Fin 2 → Nat :=
  let v823 : Index := Scalar.indexCast v822
  let c0_228 : Index := 0#32
  ![v823.toNat, 0]

def k2_off153 (v822 : BitVec 32) : Fin 2 → Nat :=
  let v827 : Index := Scalar.indexCast v822
  let c16_229 : Index := 16#32
  ![v827.toNat, 16]
def k2_off154 (v822 : BitVec 32) : Fin 2 → Nat :=
  let v831 : Index := Scalar.indexCast v822
  let c32_230 : Index := 32#32
  ![v831.toNat, 32]
def k2_off155 (v822 : BitVec 32) : Fin 2 → Nat :=
  let v835 : Index := Scalar.indexCast v822
  let c48_231 : Index := 48#32
  ![v835.toNat, 48]

def k2_chk43 (v822 : BitVec 32) : Prop :=
  (∀ a, (k2_off152 v822) a + S1x16.size a ≤ S1000x64.size a) ∧
  (∀ a, (k2_off153 v822) a + S1x16.size a ≤ S1000x64.size a) ∧
  (∀ a, (k2_off154 v822) a + S1x16.size a ≤ S1000x64.size a) ∧
  (∀ a, (k2_off155 v822) a + S1x16.size a ≤ S1000x64.size a)
theorem k2_off152_inb : ∀ (v822 : BitVec 32) (k2_hw43 : k2_chk43 v822), ∀ a, (k2_off152 v822) a + S1x16.size a ≤ S1000x64.size a := fun v822 k2_hw43 => k2_hw43.1
theorem k2_off153_inb : ∀ (v822 : BitVec 32) (k2_hw43 : k2_chk43 v822), ∀ a, (k2_off153 v822) a + S1x16.size a ≤ S1000x64.size a := fun v822 k2_hw43 => k2_hw43.2.1
theorem k2_off154_inb : ∀ (v822 : BitVec 32) (k2_hw43 : k2_chk43 v822), ∀ a, (k2_off154 v822) a + S1x16.size a ≤ S1000x64.size a := fun v822 k2_hw43 => k2_hw43.2.2.1
theorem k2_off155_inb : ∀ (v822 : BitVec 32) (k2_hw43 : k2_chk43 v822), ∀ a, (k2_off155 v822) a + S1x16.size a ≤ S1000x64.size a := fun v822 k2_hw43 => k2_hw43.2.2.2

def k2_off156 (v840 : BitVec 32) : Fin 2 → Nat :=
  let v841 : Index := Scalar.indexCast v840
  let c0_232 : Index := 0#32
  ![v841.toNat, 0]

def k2_off157 (v840 : BitVec 32) : Fin 2 → Nat :=
  let v845 : Index := Scalar.indexCast v840
  let c16_233 : Index := 16#32
  ![v845.toNat, 16]
def k2_off158 (v840 : BitVec 32) : Fin 2 → Nat :=
  let v849 : Index := Scalar.indexCast v840
  let c32_234 : Index := 32#32
  ![v849.toNat, 32]
def k2_off159 (v840 : BitVec 32) : Fin 2 → Nat :=
  let v853 : Index := Scalar.indexCast v840
  let c48_235 : Index := 48#32
  ![v853.toNat, 48]

def k2_chk44 (v840 : BitVec 32) : Prop :=
  (∀ a, (k2_off156 v840) a + S1x16.size a ≤ S1000x64.size a) ∧
  (∀ a, (k2_off157 v840) a + S1x16.size a ≤ S1000x64.size a) ∧
  (∀ a, (k2_off158 v840) a + S1x16.size a ≤ S1000x64.size a) ∧
  (∀ a, (k2_off159 v840) a + S1x16.size a ≤ S1000x64.size a)
theorem k2_off156_inb : ∀ (v840 : BitVec 32) (k2_hw44 : k2_chk44 v840), ∀ a, (k2_off156 v840) a + S1x16.size a ≤ S1000x64.size a := fun v840 k2_hw44 => k2_hw44.1
theorem k2_off157_inb : ∀ (v840 : BitVec 32) (k2_hw44 : k2_chk44 v840), ∀ a, (k2_off157 v840) a + S1x16.size a ≤ S1000x64.size a := fun v840 k2_hw44 => k2_hw44.2.1
theorem k2_off158_inb : ∀ (v840 : BitVec 32) (k2_hw44 : k2_chk44 v840), ∀ a, (k2_off158 v840) a + S1x16.size a ≤ S1000x64.size a := fun v840 k2_hw44 => k2_hw44.2.2.1
theorem k2_off159_inb : ∀ (v840 : BitVec 32) (k2_hw44 : k2_chk44 v840), ∀ a, (k2_off159 v840) a + S1x16.size a ≤ S1000x64.size a := fun v840 k2_hw44 => k2_hw44.2.2.2

def k2_off160 (v858 : BitVec 32) : Fin 2 → Nat :=
  let v859 : Index := Scalar.indexCast v858
  let c0_236 : Index := 0#32
  ![v859.toNat, 0]

def k2_off161 (v858 : BitVec 32) : Fin 2 → Nat :=
  let v863 : Index := Scalar.indexCast v858
  let c16_237 : Index := 16#32
  ![v863.toNat, 16]
def k2_off162 (v858 : BitVec 32) : Fin 2 → Nat :=
  let v867 : Index := Scalar.indexCast v858
  let c32_238 : Index := 32#32
  ![v867.toNat, 32]
def k2_off163 (v858 : BitVec 32) : Fin 2 → Nat :=
  let v871 : Index := Scalar.indexCast v858
  let c48_239 : Index := 48#32
  ![v871.toNat, 48]

def k2_chk45 (v858 : BitVec 32) : Prop :=
  (∀ a, (k2_off160 v858) a + S1x16.size a ≤ S1000x64.size a) ∧
  (∀ a, (k2_off161 v858) a + S1x16.size a ≤ S1000x64.size a) ∧
  (∀ a, (k2_off162 v858) a + S1x16.size a ≤ S1000x64.size a) ∧
  (∀ a, (k2_off163 v858) a + S1x16.size a ≤ S1000x64.size a)
theorem k2_off160_inb : ∀ (v858 : BitVec 32) (k2_hw45 : k2_chk45 v858), ∀ a, (k2_off160 v858) a + S1x16.size a ≤ S1000x64.size a := fun v858 k2_hw45 => k2_hw45.1
theorem k2_off161_inb : ∀ (v858 : BitVec 32) (k2_hw45 : k2_chk45 v858), ∀ a, (k2_off161 v858) a + S1x16.size a ≤ S1000x64.size a := fun v858 k2_hw45 => k2_hw45.2.1
theorem k2_off162_inb : ∀ (v858 : BitVec 32) (k2_hw45 : k2_chk45 v858), ∀ a, (k2_off162 v858) a + S1x16.size a ≤ S1000x64.size a := fun v858 k2_hw45 => k2_hw45.2.2.1
theorem k2_off163_inb : ∀ (v858 : BitVec 32) (k2_hw45 : k2_chk45 v858), ∀ a, (k2_off163 v858) a + S1x16.size a ≤ S1000x64.size a := fun v858 k2_hw45 => k2_hw45.2.2.2

def k2_off164 (v876 : BitVec 32) : Fin 2 → Nat :=
  let v877 : Index := Scalar.indexCast v876
  let c0_240 : Index := 0#32
  ![v877.toNat, 0]

def k2_off165 (v876 : BitVec 32) : Fin 2 → Nat :=
  let v881 : Index := Scalar.indexCast v876
  let c16_241 : Index := 16#32
  ![v881.toNat, 16]
def k2_off166 (v876 : BitVec 32) : Fin 2 → Nat :=
  let v885 : Index := Scalar.indexCast v876
  let c32_242 : Index := 32#32
  ![v885.toNat, 32]
def k2_off167 (v876 : BitVec 32) : Fin 2 → Nat :=
  let v889 : Index := Scalar.indexCast v876
  let c48_243 : Index := 48#32
  ![v889.toNat, 48]

def k2_chk46 (v876 : BitVec 32) : Prop :=
  (∀ a, (k2_off164 v876) a + S1x16.size a ≤ S1000x64.size a) ∧
  (∀ a, (k2_off165 v876) a + S1x16.size a ≤ S1000x64.size a) ∧
  (∀ a, (k2_off166 v876) a + S1x16.size a ≤ S1000x64.size a) ∧
  (∀ a, (k2_off167 v876) a + S1x16.size a ≤ S1000x64.size a)
theorem k2_off164_inb : ∀ (v876 : BitVec 32) (k2_hw46 : k2_chk46 v876), ∀ a, (k2_off164 v876) a + S1x16.size a ≤ S1000x64.size a := fun v876 k2_hw46 => k2_hw46.1
theorem k2_off165_inb : ∀ (v876 : BitVec 32) (k2_hw46 : k2_chk46 v876), ∀ a, (k2_off165 v876) a + S1x16.size a ≤ S1000x64.size a := fun v876 k2_hw46 => k2_hw46.2.1
theorem k2_off166_inb : ∀ (v876 : BitVec 32) (k2_hw46 : k2_chk46 v876), ∀ a, (k2_off166 v876) a + S1x16.size a ≤ S1000x64.size a := fun v876 k2_hw46 => k2_hw46.2.2.1
theorem k2_off167_inb : ∀ (v876 : BitVec 32) (k2_hw46 : k2_chk46 v876), ∀ a, (k2_off167 v876) a + S1x16.size a ≤ S1000x64.size a := fun v876 k2_hw46 => k2_hw46.2.2.2

def k2_off168 (k2_t2 : Fin k2_t2_loop.trips) (c0_i32_248 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k2_t2
  let c1_i32_59 : BitVec 32 := 1#32
  let v102 : BitVec 32 := Scalar.muli arg16 c1_i32_59
  let v103 : BitVec 32 := Scalar.addi c0_i32_60 v102
  let c4_i32_245 : BitVec 32 := 4#32
  let v895 : BitVec 32 := Scalar.muli v103 c4_i32_245
  let c1_i32_246 : BitVec 32 := 1#32
  let v896 : BitVec 32 := Scalar.addi v895 c1_i32_246
  let c64_i32_247 : BitVec 32 := 64#32
  let v897 : BitVec 32 := Scalar.muli v896 c64_i32_247
  let v898 : BitVec 32 := Scalar.addi v897 c0_i32_248
  let v899 : Index := Scalar.indexCast v898
  ![v899.toNat]
def k2_off169 (v934 : BitVec 32) : Fin 2 → Nat :=
  let v935 : Index := Scalar.indexCast v934
  let c0_264 : Index := 0#32
  ![v935.toNat, 0]

def k2_chk47 (v934 : BitVec 32) : Prop :=
  (∀ a, (k2_off169 v934) a + S1x16.size a ≤ S1000x64.size a)
theorem k2_off169_inb : ∀ (v934 : BitVec 32) (k2_hw47 : k2_chk47 v934), ∀ a, (k2_off169 v934) a + S1x16.size a ≤ S1000x64.size a := fun v934 k2_hw47 => k2_hw47

def k2_off170 (v939 : BitVec 32) : Fin 2 → Nat :=
  let v940 : Index := Scalar.indexCast v939
  let c16_265 : Index := 16#32
  ![v940.toNat, 16]

def k2_chk48 (v939 : BitVec 32) : Prop :=
  (∀ a, (k2_off170 v939) a + S1x16.size a ≤ S1000x64.size a)
theorem k2_off170_inb : ∀ (v939 : BitVec 32) (k2_hw48 : k2_chk48 v939), ∀ a, (k2_off170 v939) a + S1x16.size a ≤ S1000x64.size a := fun v939 k2_hw48 => k2_hw48

def k2_off171 (v944 : BitVec 32) : Fin 2 → Nat :=
  let v945 : Index := Scalar.indexCast v944
  let c32_266 : Index := 32#32
  ![v945.toNat, 32]

def k2_chk49 (v944 : BitVec 32) : Prop :=
  (∀ a, (k2_off171 v944) a + S1x16.size a ≤ S1000x64.size a)
theorem k2_off171_inb : ∀ (v944 : BitVec 32) (k2_hw49 : k2_chk49 v944), ∀ a, (k2_off171 v944) a + S1x16.size a ≤ S1000x64.size a := fun v944 k2_hw49 => k2_hw49

def k2_off172 (v949 : BitVec 32) : Fin 2 → Nat :=
  let v950 : Index := Scalar.indexCast v949
  let c48_267 : Index := 48#32
  ![v950.toNat, 48]

def k2_chk50 (v949 : BitVec 32) : Prop :=
  (∀ a, (k2_off172 v949) a + S1x16.size a ≤ S1000x64.size a)
theorem k2_off172_inb : ∀ (v949 : BitVec 32) (k2_hw50 : k2_chk50 v949), ∀ a, (k2_off172 v949) a + S1x16.size a ≤ S1000x64.size a := fun v949 k2_hw50 => k2_hw50

def k2_off173 (v954 : BitVec 32) : Fin 2 → Nat :=
  let v955 : Index := Scalar.indexCast v954
  let c0_268 : Index := 0#32
  ![v955.toNat, 0]

def k2_off174 (v954 : BitVec 32) : Fin 2 → Nat :=
  let v959 : Index := Scalar.indexCast v954
  let c16_269 : Index := 16#32
  ![v959.toNat, 16]
def k2_off175 (v954 : BitVec 32) : Fin 2 → Nat :=
  let v963 : Index := Scalar.indexCast v954
  let c32_270 : Index := 32#32
  ![v963.toNat, 32]
def k2_off176 (v954 : BitVec 32) : Fin 2 → Nat :=
  let v967 : Index := Scalar.indexCast v954
  let c48_271 : Index := 48#32
  ![v967.toNat, 48]

def k2_chk51 (v954 : BitVec 32) : Prop :=
  (∀ a, (k2_off173 v954) a + S1x16.size a ≤ S1000x64.size a) ∧
  (∀ a, (k2_off174 v954) a + S1x16.size a ≤ S1000x64.size a) ∧
  (∀ a, (k2_off175 v954) a + S1x16.size a ≤ S1000x64.size a) ∧
  (∀ a, (k2_off176 v954) a + S1x16.size a ≤ S1000x64.size a)
theorem k2_off173_inb : ∀ (v954 : BitVec 32) (k2_hw51 : k2_chk51 v954), ∀ a, (k2_off173 v954) a + S1x16.size a ≤ S1000x64.size a := fun v954 k2_hw51 => k2_hw51.1
theorem k2_off174_inb : ∀ (v954 : BitVec 32) (k2_hw51 : k2_chk51 v954), ∀ a, (k2_off174 v954) a + S1x16.size a ≤ S1000x64.size a := fun v954 k2_hw51 => k2_hw51.2.1
theorem k2_off175_inb : ∀ (v954 : BitVec 32) (k2_hw51 : k2_chk51 v954), ∀ a, (k2_off175 v954) a + S1x16.size a ≤ S1000x64.size a := fun v954 k2_hw51 => k2_hw51.2.2.1
theorem k2_off176_inb : ∀ (v954 : BitVec 32) (k2_hw51 : k2_chk51 v954), ∀ a, (k2_off176 v954) a + S1x16.size a ≤ S1000x64.size a := fun v954 k2_hw51 => k2_hw51.2.2.2

def k2_off177 (v972 : BitVec 32) : Fin 2 → Nat :=
  let v973 : Index := Scalar.indexCast v972
  let c0_272 : Index := 0#32
  ![v973.toNat, 0]

def k2_off178 (v972 : BitVec 32) : Fin 2 → Nat :=
  let v977 : Index := Scalar.indexCast v972
  let c16_273 : Index := 16#32
  ![v977.toNat, 16]
def k2_off179 (v972 : BitVec 32) : Fin 2 → Nat :=
  let v981 : Index := Scalar.indexCast v972
  let c32_274 : Index := 32#32
  ![v981.toNat, 32]
def k2_off180 (v972 : BitVec 32) : Fin 2 → Nat :=
  let v985 : Index := Scalar.indexCast v972
  let c48_275 : Index := 48#32
  ![v985.toNat, 48]

def k2_chk52 (v972 : BitVec 32) : Prop :=
  (∀ a, (k2_off177 v972) a + S1x16.size a ≤ S1000x64.size a) ∧
  (∀ a, (k2_off178 v972) a + S1x16.size a ≤ S1000x64.size a) ∧
  (∀ a, (k2_off179 v972) a + S1x16.size a ≤ S1000x64.size a) ∧
  (∀ a, (k2_off180 v972) a + S1x16.size a ≤ S1000x64.size a)
theorem k2_off177_inb : ∀ (v972 : BitVec 32) (k2_hw52 : k2_chk52 v972), ∀ a, (k2_off177 v972) a + S1x16.size a ≤ S1000x64.size a := fun v972 k2_hw52 => k2_hw52.1
theorem k2_off178_inb : ∀ (v972 : BitVec 32) (k2_hw52 : k2_chk52 v972), ∀ a, (k2_off178 v972) a + S1x16.size a ≤ S1000x64.size a := fun v972 k2_hw52 => k2_hw52.2.1
theorem k2_off179_inb : ∀ (v972 : BitVec 32) (k2_hw52 : k2_chk52 v972), ∀ a, (k2_off179 v972) a + S1x16.size a ≤ S1000x64.size a := fun v972 k2_hw52 => k2_hw52.2.2.1
theorem k2_off180_inb : ∀ (v972 : BitVec 32) (k2_hw52 : k2_chk52 v972), ∀ a, (k2_off180 v972) a + S1x16.size a ≤ S1000x64.size a := fun v972 k2_hw52 => k2_hw52.2.2.2

def k2_off181 (v990 : BitVec 32) : Fin 2 → Nat :=
  let v991 : Index := Scalar.indexCast v990
  let c0_276 : Index := 0#32
  ![v991.toNat, 0]

def k2_off182 (v990 : BitVec 32) : Fin 2 → Nat :=
  let v995 : Index := Scalar.indexCast v990
  let c16_277 : Index := 16#32
  ![v995.toNat, 16]
def k2_off183 (v990 : BitVec 32) : Fin 2 → Nat :=
  let v999 : Index := Scalar.indexCast v990
  let c32_278 : Index := 32#32
  ![v999.toNat, 32]
def k2_off184 (v990 : BitVec 32) : Fin 2 → Nat :=
  let v1003 : Index := Scalar.indexCast v990
  let c48_279 : Index := 48#32
  ![v1003.toNat, 48]

def k2_chk53 (v990 : BitVec 32) : Prop :=
  (∀ a, (k2_off181 v990) a + S1x16.size a ≤ S1000x64.size a) ∧
  (∀ a, (k2_off182 v990) a + S1x16.size a ≤ S1000x64.size a) ∧
  (∀ a, (k2_off183 v990) a + S1x16.size a ≤ S1000x64.size a) ∧
  (∀ a, (k2_off184 v990) a + S1x16.size a ≤ S1000x64.size a)
theorem k2_off181_inb : ∀ (v990 : BitVec 32) (k2_hw53 : k2_chk53 v990), ∀ a, (k2_off181 v990) a + S1x16.size a ≤ S1000x64.size a := fun v990 k2_hw53 => k2_hw53.1
theorem k2_off182_inb : ∀ (v990 : BitVec 32) (k2_hw53 : k2_chk53 v990), ∀ a, (k2_off182 v990) a + S1x16.size a ≤ S1000x64.size a := fun v990 k2_hw53 => k2_hw53.2.1
theorem k2_off183_inb : ∀ (v990 : BitVec 32) (k2_hw53 : k2_chk53 v990), ∀ a, (k2_off183 v990) a + S1x16.size a ≤ S1000x64.size a := fun v990 k2_hw53 => k2_hw53.2.2.1
theorem k2_off184_inb : ∀ (v990 : BitVec 32) (k2_hw53 : k2_chk53 v990), ∀ a, (k2_off184 v990) a + S1x16.size a ≤ S1000x64.size a := fun v990 k2_hw53 => k2_hw53.2.2.2

def k2_off185 (v1008 : BitVec 32) : Fin 2 → Nat :=
  let v1009 : Index := Scalar.indexCast v1008
  let c0_280 : Index := 0#32
  ![v1009.toNat, 0]

def k2_off186 (v1008 : BitVec 32) : Fin 2 → Nat :=
  let v1013 : Index := Scalar.indexCast v1008
  let c16_281 : Index := 16#32
  ![v1013.toNat, 16]
def k2_off187 (v1008 : BitVec 32) : Fin 2 → Nat :=
  let v1017 : Index := Scalar.indexCast v1008
  let c32_282 : Index := 32#32
  ![v1017.toNat, 32]
def k2_off188 (v1008 : BitVec 32) : Fin 2 → Nat :=
  let v1021 : Index := Scalar.indexCast v1008
  let c48_283 : Index := 48#32
  ![v1021.toNat, 48]

def k2_chk54 (v1008 : BitVec 32) : Prop :=
  (∀ a, (k2_off185 v1008) a + S1x16.size a ≤ S1000x64.size a) ∧
  (∀ a, (k2_off186 v1008) a + S1x16.size a ≤ S1000x64.size a) ∧
  (∀ a, (k2_off187 v1008) a + S1x16.size a ≤ S1000x64.size a) ∧
  (∀ a, (k2_off188 v1008) a + S1x16.size a ≤ S1000x64.size a)
theorem k2_off185_inb : ∀ (v1008 : BitVec 32) (k2_hw54 : k2_chk54 v1008), ∀ a, (k2_off185 v1008) a + S1x16.size a ≤ S1000x64.size a := fun v1008 k2_hw54 => k2_hw54.1
theorem k2_off186_inb : ∀ (v1008 : BitVec 32) (k2_hw54 : k2_chk54 v1008), ∀ a, (k2_off186 v1008) a + S1x16.size a ≤ S1000x64.size a := fun v1008 k2_hw54 => k2_hw54.2.1
theorem k2_off187_inb : ∀ (v1008 : BitVec 32) (k2_hw54 : k2_chk54 v1008), ∀ a, (k2_off187 v1008) a + S1x16.size a ≤ S1000x64.size a := fun v1008 k2_hw54 => k2_hw54.2.2.1
theorem k2_off188_inb : ∀ (v1008 : BitVec 32) (k2_hw54 : k2_chk54 v1008), ∀ a, (k2_off188 v1008) a + S1x16.size a ≤ S1000x64.size a := fun v1008 k2_hw54 => k2_hw54.2.2.2

def k2_off189 (v1026 : BitVec 32) : Fin 2 → Nat :=
  let v1027 : Index := Scalar.indexCast v1026
  let c0_284 : Index := 0#32
  ![v1027.toNat, 0]

def k2_off190 (v1026 : BitVec 32) : Fin 2 → Nat :=
  let v1031 : Index := Scalar.indexCast v1026
  let c16_285 : Index := 16#32
  ![v1031.toNat, 16]
def k2_off191 (v1026 : BitVec 32) : Fin 2 → Nat :=
  let v1035 : Index := Scalar.indexCast v1026
  let c32_286 : Index := 32#32
  ![v1035.toNat, 32]
def k2_off192 (v1026 : BitVec 32) : Fin 2 → Nat :=
  let v1039 : Index := Scalar.indexCast v1026
  let c48_287 : Index := 48#32
  ![v1039.toNat, 48]

def k2_chk55 (v1026 : BitVec 32) : Prop :=
  (∀ a, (k2_off189 v1026) a + S1x16.size a ≤ S1000x64.size a) ∧
  (∀ a, (k2_off190 v1026) a + S1x16.size a ≤ S1000x64.size a) ∧
  (∀ a, (k2_off191 v1026) a + S1x16.size a ≤ S1000x64.size a) ∧
  (∀ a, (k2_off192 v1026) a + S1x16.size a ≤ S1000x64.size a)
theorem k2_off189_inb : ∀ (v1026 : BitVec 32) (k2_hw55 : k2_chk55 v1026), ∀ a, (k2_off189 v1026) a + S1x16.size a ≤ S1000x64.size a := fun v1026 k2_hw55 => k2_hw55.1
theorem k2_off190_inb : ∀ (v1026 : BitVec 32) (k2_hw55 : k2_chk55 v1026), ∀ a, (k2_off190 v1026) a + S1x16.size a ≤ S1000x64.size a := fun v1026 k2_hw55 => k2_hw55.2.1
theorem k2_off191_inb : ∀ (v1026 : BitVec 32) (k2_hw55 : k2_chk55 v1026), ∀ a, (k2_off191 v1026) a + S1x16.size a ≤ S1000x64.size a := fun v1026 k2_hw55 => k2_hw55.2.2.1
theorem k2_off192_inb : ∀ (v1026 : BitVec 32) (k2_hw55 : k2_chk55 v1026), ∀ a, (k2_off192 v1026) a + S1x16.size a ≤ S1000x64.size a := fun v1026 k2_hw55 => k2_hw55.2.2.2

def k2_off193 (v1044 : BitVec 32) : Fin 2 → Nat :=
  let v1045 : Index := Scalar.indexCast v1044
  let c0_288 : Index := 0#32
  ![v1045.toNat, 0]

def k2_off194 (v1044 : BitVec 32) : Fin 2 → Nat :=
  let v1049 : Index := Scalar.indexCast v1044
  let c16_289 : Index := 16#32
  ![v1049.toNat, 16]
def k2_off195 (v1044 : BitVec 32) : Fin 2 → Nat :=
  let v1053 : Index := Scalar.indexCast v1044
  let c32_290 : Index := 32#32
  ![v1053.toNat, 32]
def k2_off196 (v1044 : BitVec 32) : Fin 2 → Nat :=
  let v1057 : Index := Scalar.indexCast v1044
  let c48_291 : Index := 48#32
  ![v1057.toNat, 48]

def k2_chk56 (v1044 : BitVec 32) : Prop :=
  (∀ a, (k2_off193 v1044) a + S1x16.size a ≤ S1000x64.size a) ∧
  (∀ a, (k2_off194 v1044) a + S1x16.size a ≤ S1000x64.size a) ∧
  (∀ a, (k2_off195 v1044) a + S1x16.size a ≤ S1000x64.size a) ∧
  (∀ a, (k2_off196 v1044) a + S1x16.size a ≤ S1000x64.size a)
theorem k2_off193_inb : ∀ (v1044 : BitVec 32) (k2_hw56 : k2_chk56 v1044), ∀ a, (k2_off193 v1044) a + S1x16.size a ≤ S1000x64.size a := fun v1044 k2_hw56 => k2_hw56.1
theorem k2_off194_inb : ∀ (v1044 : BitVec 32) (k2_hw56 : k2_chk56 v1044), ∀ a, (k2_off194 v1044) a + S1x16.size a ≤ S1000x64.size a := fun v1044 k2_hw56 => k2_hw56.2.1
theorem k2_off195_inb : ∀ (v1044 : BitVec 32) (k2_hw56 : k2_chk56 v1044), ∀ a, (k2_off195 v1044) a + S1x16.size a ≤ S1000x64.size a := fun v1044 k2_hw56 => k2_hw56.2.2.1
theorem k2_off196_inb : ∀ (v1044 : BitVec 32) (k2_hw56 : k2_chk56 v1044), ∀ a, (k2_off196 v1044) a + S1x16.size a ≤ S1000x64.size a := fun v1044 k2_hw56 => k2_hw56.2.2.2

def k2_off197 (v1062 : BitVec 32) : Fin 2 → Nat :=
  let v1063 : Index := Scalar.indexCast v1062
  let c0_292 : Index := 0#32
  ![v1063.toNat, 0]

def k2_off198 (v1062 : BitVec 32) : Fin 2 → Nat :=
  let v1067 : Index := Scalar.indexCast v1062
  let c16_293 : Index := 16#32
  ![v1067.toNat, 16]
def k2_off199 (v1062 : BitVec 32) : Fin 2 → Nat :=
  let v1071 : Index := Scalar.indexCast v1062
  let c32_294 : Index := 32#32
  ![v1071.toNat, 32]
def k2_off200 (v1062 : BitVec 32) : Fin 2 → Nat :=
  let v1075 : Index := Scalar.indexCast v1062
  let c48_295 : Index := 48#32
  ![v1075.toNat, 48]

def k2_chk57 (v1062 : BitVec 32) : Prop :=
  (∀ a, (k2_off197 v1062) a + S1x16.size a ≤ S1000x64.size a) ∧
  (∀ a, (k2_off198 v1062) a + S1x16.size a ≤ S1000x64.size a) ∧
  (∀ a, (k2_off199 v1062) a + S1x16.size a ≤ S1000x64.size a) ∧
  (∀ a, (k2_off200 v1062) a + S1x16.size a ≤ S1000x64.size a)
theorem k2_off197_inb : ∀ (v1062 : BitVec 32) (k2_hw57 : k2_chk57 v1062), ∀ a, (k2_off197 v1062) a + S1x16.size a ≤ S1000x64.size a := fun v1062 k2_hw57 => k2_hw57.1
theorem k2_off198_inb : ∀ (v1062 : BitVec 32) (k2_hw57 : k2_chk57 v1062), ∀ a, (k2_off198 v1062) a + S1x16.size a ≤ S1000x64.size a := fun v1062 k2_hw57 => k2_hw57.2.1
theorem k2_off199_inb : ∀ (v1062 : BitVec 32) (k2_hw57 : k2_chk57 v1062), ∀ a, (k2_off199 v1062) a + S1x16.size a ≤ S1000x64.size a := fun v1062 k2_hw57 => k2_hw57.2.2.1
theorem k2_off200_inb : ∀ (v1062 : BitVec 32) (k2_hw57 : k2_chk57 v1062), ∀ a, (k2_off200 v1062) a + S1x16.size a ≤ S1000x64.size a := fun v1062 k2_hw57 => k2_hw57.2.2.2

def k2_off201 (v1080 : BitVec 32) : Fin 2 → Nat :=
  let v1081 : Index := Scalar.indexCast v1080
  let c0_296 : Index := 0#32
  ![v1081.toNat, 0]

def k2_off202 (v1080 : BitVec 32) : Fin 2 → Nat :=
  let v1085 : Index := Scalar.indexCast v1080
  let c16_297 : Index := 16#32
  ![v1085.toNat, 16]
def k2_off203 (v1080 : BitVec 32) : Fin 2 → Nat :=
  let v1089 : Index := Scalar.indexCast v1080
  let c32_298 : Index := 32#32
  ![v1089.toNat, 32]
def k2_off204 (v1080 : BitVec 32) : Fin 2 → Nat :=
  let v1093 : Index := Scalar.indexCast v1080
  let c48_299 : Index := 48#32
  ![v1093.toNat, 48]

def k2_chk58 (v1080 : BitVec 32) : Prop :=
  (∀ a, (k2_off201 v1080) a + S1x16.size a ≤ S1000x64.size a) ∧
  (∀ a, (k2_off202 v1080) a + S1x16.size a ≤ S1000x64.size a) ∧
  (∀ a, (k2_off203 v1080) a + S1x16.size a ≤ S1000x64.size a) ∧
  (∀ a, (k2_off204 v1080) a + S1x16.size a ≤ S1000x64.size a)
theorem k2_off201_inb : ∀ (v1080 : BitVec 32) (k2_hw58 : k2_chk58 v1080), ∀ a, (k2_off201 v1080) a + S1x16.size a ≤ S1000x64.size a := fun v1080 k2_hw58 => k2_hw58.1
theorem k2_off202_inb : ∀ (v1080 : BitVec 32) (k2_hw58 : k2_chk58 v1080), ∀ a, (k2_off202 v1080) a + S1x16.size a ≤ S1000x64.size a := fun v1080 k2_hw58 => k2_hw58.2.1
theorem k2_off203_inb : ∀ (v1080 : BitVec 32) (k2_hw58 : k2_chk58 v1080), ∀ a, (k2_off203 v1080) a + S1x16.size a ≤ S1000x64.size a := fun v1080 k2_hw58 => k2_hw58.2.2.1
theorem k2_off204_inb : ∀ (v1080 : BitVec 32) (k2_hw58 : k2_chk58 v1080), ∀ a, (k2_off204 v1080) a + S1x16.size a ≤ S1000x64.size a := fun v1080 k2_hw58 => k2_hw58.2.2.2

def k2_off205 (v1098 : BitVec 32) : Fin 2 → Nat :=
  let v1099 : Index := Scalar.indexCast v1098
  let c0_300 : Index := 0#32
  ![v1099.toNat, 0]

def k2_off206 (v1098 : BitVec 32) : Fin 2 → Nat :=
  let v1103 : Index := Scalar.indexCast v1098
  let c16_301 : Index := 16#32
  ![v1103.toNat, 16]
def k2_off207 (v1098 : BitVec 32) : Fin 2 → Nat :=
  let v1107 : Index := Scalar.indexCast v1098
  let c32_302 : Index := 32#32
  ![v1107.toNat, 32]
def k2_off208 (v1098 : BitVec 32) : Fin 2 → Nat :=
  let v1111 : Index := Scalar.indexCast v1098
  let c48_303 : Index := 48#32
  ![v1111.toNat, 48]

def k2_chk59 (v1098 : BitVec 32) : Prop :=
  (∀ a, (k2_off205 v1098) a + S1x16.size a ≤ S1000x64.size a) ∧
  (∀ a, (k2_off206 v1098) a + S1x16.size a ≤ S1000x64.size a) ∧
  (∀ a, (k2_off207 v1098) a + S1x16.size a ≤ S1000x64.size a) ∧
  (∀ a, (k2_off208 v1098) a + S1x16.size a ≤ S1000x64.size a)
theorem k2_off205_inb : ∀ (v1098 : BitVec 32) (k2_hw59 : k2_chk59 v1098), ∀ a, (k2_off205 v1098) a + S1x16.size a ≤ S1000x64.size a := fun v1098 k2_hw59 => k2_hw59.1
theorem k2_off206_inb : ∀ (v1098 : BitVec 32) (k2_hw59 : k2_chk59 v1098), ∀ a, (k2_off206 v1098) a + S1x16.size a ≤ S1000x64.size a := fun v1098 k2_hw59 => k2_hw59.2.1
theorem k2_off207_inb : ∀ (v1098 : BitVec 32) (k2_hw59 : k2_chk59 v1098), ∀ a, (k2_off207 v1098) a + S1x16.size a ≤ S1000x64.size a := fun v1098 k2_hw59 => k2_hw59.2.2.1
theorem k2_off208_inb : ∀ (v1098 : BitVec 32) (k2_hw59 : k2_chk59 v1098), ∀ a, (k2_off208 v1098) a + S1x16.size a ≤ S1000x64.size a := fun v1098 k2_hw59 => k2_hw59.2.2.2

def k2_off209 (v1116 : BitVec 32) : Fin 2 → Nat :=
  let v1117 : Index := Scalar.indexCast v1116
  let c0_304 : Index := 0#32
  ![v1117.toNat, 0]

def k2_off210 (v1116 : BitVec 32) : Fin 2 → Nat :=
  let v1121 : Index := Scalar.indexCast v1116
  let c16_305 : Index := 16#32
  ![v1121.toNat, 16]
def k2_off211 (v1116 : BitVec 32) : Fin 2 → Nat :=
  let v1125 : Index := Scalar.indexCast v1116
  let c32_306 : Index := 32#32
  ![v1125.toNat, 32]
def k2_off212 (v1116 : BitVec 32) : Fin 2 → Nat :=
  let v1129 : Index := Scalar.indexCast v1116
  let c48_307 : Index := 48#32
  ![v1129.toNat, 48]

def k2_chk60 (v1116 : BitVec 32) : Prop :=
  (∀ a, (k2_off209 v1116) a + S1x16.size a ≤ S1000x64.size a) ∧
  (∀ a, (k2_off210 v1116) a + S1x16.size a ≤ S1000x64.size a) ∧
  (∀ a, (k2_off211 v1116) a + S1x16.size a ≤ S1000x64.size a) ∧
  (∀ a, (k2_off212 v1116) a + S1x16.size a ≤ S1000x64.size a)
theorem k2_off209_inb : ∀ (v1116 : BitVec 32) (k2_hw60 : k2_chk60 v1116), ∀ a, (k2_off209 v1116) a + S1x16.size a ≤ S1000x64.size a := fun v1116 k2_hw60 => k2_hw60.1
theorem k2_off210_inb : ∀ (v1116 : BitVec 32) (k2_hw60 : k2_chk60 v1116), ∀ a, (k2_off210 v1116) a + S1x16.size a ≤ S1000x64.size a := fun v1116 k2_hw60 => k2_hw60.2.1
theorem k2_off211_inb : ∀ (v1116 : BitVec 32) (k2_hw60 : k2_chk60 v1116), ∀ a, (k2_off211 v1116) a + S1x16.size a ≤ S1000x64.size a := fun v1116 k2_hw60 => k2_hw60.2.2.1
theorem k2_off212_inb : ∀ (v1116 : BitVec 32) (k2_hw60 : k2_chk60 v1116), ∀ a, (k2_off212 v1116) a + S1x16.size a ≤ S1000x64.size a := fun v1116 k2_hw60 => k2_hw60.2.2.2

def k2_off213 (v1134 : BitVec 32) : Fin 2 → Nat :=
  let v1135 : Index := Scalar.indexCast v1134
  let c0_308 : Index := 0#32
  ![v1135.toNat, 0]

def k2_off214 (v1134 : BitVec 32) : Fin 2 → Nat :=
  let v1139 : Index := Scalar.indexCast v1134
  let c16_309 : Index := 16#32
  ![v1139.toNat, 16]
def k2_off215 (v1134 : BitVec 32) : Fin 2 → Nat :=
  let v1143 : Index := Scalar.indexCast v1134
  let c32_310 : Index := 32#32
  ![v1143.toNat, 32]
def k2_off216 (v1134 : BitVec 32) : Fin 2 → Nat :=
  let v1147 : Index := Scalar.indexCast v1134
  let c48_311 : Index := 48#32
  ![v1147.toNat, 48]

def k2_chk61 (v1134 : BitVec 32) : Prop :=
  (∀ a, (k2_off213 v1134) a + S1x16.size a ≤ S1000x64.size a) ∧
  (∀ a, (k2_off214 v1134) a + S1x16.size a ≤ S1000x64.size a) ∧
  (∀ a, (k2_off215 v1134) a + S1x16.size a ≤ S1000x64.size a) ∧
  (∀ a, (k2_off216 v1134) a + S1x16.size a ≤ S1000x64.size a)
theorem k2_off213_inb : ∀ (v1134 : BitVec 32) (k2_hw61 : k2_chk61 v1134), ∀ a, (k2_off213 v1134) a + S1x16.size a ≤ S1000x64.size a := fun v1134 k2_hw61 => k2_hw61.1
theorem k2_off214_inb : ∀ (v1134 : BitVec 32) (k2_hw61 : k2_chk61 v1134), ∀ a, (k2_off214 v1134) a + S1x16.size a ≤ S1000x64.size a := fun v1134 k2_hw61 => k2_hw61.2.1
theorem k2_off215_inb : ∀ (v1134 : BitVec 32) (k2_hw61 : k2_chk61 v1134), ∀ a, (k2_off215 v1134) a + S1x16.size a ≤ S1000x64.size a := fun v1134 k2_hw61 => k2_hw61.2.2.1
theorem k2_off216_inb : ∀ (v1134 : BitVec 32) (k2_hw61 : k2_chk61 v1134), ∀ a, (k2_off216 v1134) a + S1x16.size a ≤ S1000x64.size a := fun v1134 k2_hw61 => k2_hw61.2.2.2

def k2_off217 (v1152 : BitVec 32) : Fin 2 → Nat :=
  let v1153 : Index := Scalar.indexCast v1152
  let c0_312 : Index := 0#32
  ![v1153.toNat, 0]

def k2_off218 (v1152 : BitVec 32) : Fin 2 → Nat :=
  let v1157 : Index := Scalar.indexCast v1152
  let c16_313 : Index := 16#32
  ![v1157.toNat, 16]
def k2_off219 (v1152 : BitVec 32) : Fin 2 → Nat :=
  let v1161 : Index := Scalar.indexCast v1152
  let c32_314 : Index := 32#32
  ![v1161.toNat, 32]
def k2_off220 (v1152 : BitVec 32) : Fin 2 → Nat :=
  let v1165 : Index := Scalar.indexCast v1152
  let c48_315 : Index := 48#32
  ![v1165.toNat, 48]

def k2_chk62 (v1152 : BitVec 32) : Prop :=
  (∀ a, (k2_off217 v1152) a + S1x16.size a ≤ S1000x64.size a) ∧
  (∀ a, (k2_off218 v1152) a + S1x16.size a ≤ S1000x64.size a) ∧
  (∀ a, (k2_off219 v1152) a + S1x16.size a ≤ S1000x64.size a) ∧
  (∀ a, (k2_off220 v1152) a + S1x16.size a ≤ S1000x64.size a)
theorem k2_off217_inb : ∀ (v1152 : BitVec 32) (k2_hw62 : k2_chk62 v1152), ∀ a, (k2_off217 v1152) a + S1x16.size a ≤ S1000x64.size a := fun v1152 k2_hw62 => k2_hw62.1
theorem k2_off218_inb : ∀ (v1152 : BitVec 32) (k2_hw62 : k2_chk62 v1152), ∀ a, (k2_off218 v1152) a + S1x16.size a ≤ S1000x64.size a := fun v1152 k2_hw62 => k2_hw62.2.1
theorem k2_off219_inb : ∀ (v1152 : BitVec 32) (k2_hw62 : k2_chk62 v1152), ∀ a, (k2_off219 v1152) a + S1x16.size a ≤ S1000x64.size a := fun v1152 k2_hw62 => k2_hw62.2.2.1
theorem k2_off220_inb : ∀ (v1152 : BitVec 32) (k2_hw62 : k2_chk62 v1152), ∀ a, (k2_off220 v1152) a + S1x16.size a ≤ S1000x64.size a := fun v1152 k2_hw62 => k2_hw62.2.2.2

def k2_off221 (v1170 : BitVec 32) : Fin 2 → Nat :=
  let v1171 : Index := Scalar.indexCast v1170
  let c0_316 : Index := 0#32
  ![v1171.toNat, 0]

def k2_off222 (v1170 : BitVec 32) : Fin 2 → Nat :=
  let v1175 : Index := Scalar.indexCast v1170
  let c16_317 : Index := 16#32
  ![v1175.toNat, 16]
def k2_off223 (v1170 : BitVec 32) : Fin 2 → Nat :=
  let v1179 : Index := Scalar.indexCast v1170
  let c32_318 : Index := 32#32
  ![v1179.toNat, 32]
def k2_off224 (v1170 : BitVec 32) : Fin 2 → Nat :=
  let v1183 : Index := Scalar.indexCast v1170
  let c48_319 : Index := 48#32
  ![v1183.toNat, 48]

def k2_chk63 (v1170 : BitVec 32) : Prop :=
  (∀ a, (k2_off221 v1170) a + S1x16.size a ≤ S1000x64.size a) ∧
  (∀ a, (k2_off222 v1170) a + S1x16.size a ≤ S1000x64.size a) ∧
  (∀ a, (k2_off223 v1170) a + S1x16.size a ≤ S1000x64.size a) ∧
  (∀ a, (k2_off224 v1170) a + S1x16.size a ≤ S1000x64.size a)
theorem k2_off221_inb : ∀ (v1170 : BitVec 32) (k2_hw63 : k2_chk63 v1170), ∀ a, (k2_off221 v1170) a + S1x16.size a ≤ S1000x64.size a := fun v1170 k2_hw63 => k2_hw63.1
theorem k2_off222_inb : ∀ (v1170 : BitVec 32) (k2_hw63 : k2_chk63 v1170), ∀ a, (k2_off222 v1170) a + S1x16.size a ≤ S1000x64.size a := fun v1170 k2_hw63 => k2_hw63.2.1
theorem k2_off223_inb : ∀ (v1170 : BitVec 32) (k2_hw63 : k2_chk63 v1170), ∀ a, (k2_off223 v1170) a + S1x16.size a ≤ S1000x64.size a := fun v1170 k2_hw63 => k2_hw63.2.2.1
theorem k2_off224_inb : ∀ (v1170 : BitVec 32) (k2_hw63 : k2_chk63 v1170), ∀ a, (k2_off224 v1170) a + S1x16.size a ≤ S1000x64.size a := fun v1170 k2_hw63 => k2_hw63.2.2.2

def k2_off225 (v1188 : BitVec 32) : Fin 2 → Nat :=
  let v1189 : Index := Scalar.indexCast v1188
  let c0_320 : Index := 0#32
  ![v1189.toNat, 0]

def k2_off226 (v1188 : BitVec 32) : Fin 2 → Nat :=
  let v1193 : Index := Scalar.indexCast v1188
  let c16_321 : Index := 16#32
  ![v1193.toNat, 16]
def k2_off227 (v1188 : BitVec 32) : Fin 2 → Nat :=
  let v1197 : Index := Scalar.indexCast v1188
  let c32_322 : Index := 32#32
  ![v1197.toNat, 32]
def k2_off228 (v1188 : BitVec 32) : Fin 2 → Nat :=
  let v1201 : Index := Scalar.indexCast v1188
  let c48_323 : Index := 48#32
  ![v1201.toNat, 48]

def k2_chk64 (v1188 : BitVec 32) : Prop :=
  (∀ a, (k2_off225 v1188) a + S1x16.size a ≤ S1000x64.size a) ∧
  (∀ a, (k2_off226 v1188) a + S1x16.size a ≤ S1000x64.size a) ∧
  (∀ a, (k2_off227 v1188) a + S1x16.size a ≤ S1000x64.size a) ∧
  (∀ a, (k2_off228 v1188) a + S1x16.size a ≤ S1000x64.size a)
theorem k2_off225_inb : ∀ (v1188 : BitVec 32) (k2_hw64 : k2_chk64 v1188), ∀ a, (k2_off225 v1188) a + S1x16.size a ≤ S1000x64.size a := fun v1188 k2_hw64 => k2_hw64.1
theorem k2_off226_inb : ∀ (v1188 : BitVec 32) (k2_hw64 : k2_chk64 v1188), ∀ a, (k2_off226 v1188) a + S1x16.size a ≤ S1000x64.size a := fun v1188 k2_hw64 => k2_hw64.2.1
theorem k2_off227_inb : ∀ (v1188 : BitVec 32) (k2_hw64 : k2_chk64 v1188), ∀ a, (k2_off227 v1188) a + S1x16.size a ≤ S1000x64.size a := fun v1188 k2_hw64 => k2_hw64.2.2.1
theorem k2_off228_inb : ∀ (v1188 : BitVec 32) (k2_hw64 : k2_chk64 v1188), ∀ a, (k2_off228 v1188) a + S1x16.size a ≤ S1000x64.size a := fun v1188 k2_hw64 => k2_hw64.2.2.2

def k2_off229 (v1206 : BitVec 32) : Fin 2 → Nat :=
  let v1207 : Index := Scalar.indexCast v1206
  let c0_324 : Index := 0#32
  ![v1207.toNat, 0]

def k2_off230 (v1206 : BitVec 32) : Fin 2 → Nat :=
  let v1211 : Index := Scalar.indexCast v1206
  let c16_325 : Index := 16#32
  ![v1211.toNat, 16]
def k2_off231 (v1206 : BitVec 32) : Fin 2 → Nat :=
  let v1215 : Index := Scalar.indexCast v1206
  let c32_326 : Index := 32#32
  ![v1215.toNat, 32]
def k2_off232 (v1206 : BitVec 32) : Fin 2 → Nat :=
  let v1219 : Index := Scalar.indexCast v1206
  let c48_327 : Index := 48#32
  ![v1219.toNat, 48]

def k2_chk65 (v1206 : BitVec 32) : Prop :=
  (∀ a, (k2_off229 v1206) a + S1x16.size a ≤ S1000x64.size a) ∧
  (∀ a, (k2_off230 v1206) a + S1x16.size a ≤ S1000x64.size a) ∧
  (∀ a, (k2_off231 v1206) a + S1x16.size a ≤ S1000x64.size a) ∧
  (∀ a, (k2_off232 v1206) a + S1x16.size a ≤ S1000x64.size a)
theorem k2_off229_inb : ∀ (v1206 : BitVec 32) (k2_hw65 : k2_chk65 v1206), ∀ a, (k2_off229 v1206) a + S1x16.size a ≤ S1000x64.size a := fun v1206 k2_hw65 => k2_hw65.1
theorem k2_off230_inb : ∀ (v1206 : BitVec 32) (k2_hw65 : k2_chk65 v1206), ∀ a, (k2_off230 v1206) a + S1x16.size a ≤ S1000x64.size a := fun v1206 k2_hw65 => k2_hw65.2.1
theorem k2_off231_inb : ∀ (v1206 : BitVec 32) (k2_hw65 : k2_chk65 v1206), ∀ a, (k2_off231 v1206) a + S1x16.size a ≤ S1000x64.size a := fun v1206 k2_hw65 => k2_hw65.2.2.1
theorem k2_off232_inb : ∀ (v1206 : BitVec 32) (k2_hw65 : k2_chk65 v1206), ∀ a, (k2_off232 v1206) a + S1x16.size a ≤ S1000x64.size a := fun v1206 k2_hw65 => k2_hw65.2.2.2

def k2_off233 (v1224 : BitVec 32) : Fin 2 → Nat :=
  let v1225 : Index := Scalar.indexCast v1224
  let c0_328 : Index := 0#32
  ![v1225.toNat, 0]

def k2_off234 (v1224 : BitVec 32) : Fin 2 → Nat :=
  let v1229 : Index := Scalar.indexCast v1224
  let c16_329 : Index := 16#32
  ![v1229.toNat, 16]
def k2_off235 (v1224 : BitVec 32) : Fin 2 → Nat :=
  let v1233 : Index := Scalar.indexCast v1224
  let c32_330 : Index := 32#32
  ![v1233.toNat, 32]
def k2_off236 (v1224 : BitVec 32) : Fin 2 → Nat :=
  let v1237 : Index := Scalar.indexCast v1224
  let c48_331 : Index := 48#32
  ![v1237.toNat, 48]

def k2_chk66 (v1224 : BitVec 32) : Prop :=
  (∀ a, (k2_off233 v1224) a + S1x16.size a ≤ S1000x64.size a) ∧
  (∀ a, (k2_off234 v1224) a + S1x16.size a ≤ S1000x64.size a) ∧
  (∀ a, (k2_off235 v1224) a + S1x16.size a ≤ S1000x64.size a) ∧
  (∀ a, (k2_off236 v1224) a + S1x16.size a ≤ S1000x64.size a)
theorem k2_off233_inb : ∀ (v1224 : BitVec 32) (k2_hw66 : k2_chk66 v1224), ∀ a, (k2_off233 v1224) a + S1x16.size a ≤ S1000x64.size a := fun v1224 k2_hw66 => k2_hw66.1
theorem k2_off234_inb : ∀ (v1224 : BitVec 32) (k2_hw66 : k2_chk66 v1224), ∀ a, (k2_off234 v1224) a + S1x16.size a ≤ S1000x64.size a := fun v1224 k2_hw66 => k2_hw66.2.1
theorem k2_off235_inb : ∀ (v1224 : BitVec 32) (k2_hw66 : k2_chk66 v1224), ∀ a, (k2_off235 v1224) a + S1x16.size a ≤ S1000x64.size a := fun v1224 k2_hw66 => k2_hw66.2.2.1
theorem k2_off236_inb : ∀ (v1224 : BitVec 32) (k2_hw66 : k2_chk66 v1224), ∀ a, (k2_off236 v1224) a + S1x16.size a ≤ S1000x64.size a := fun v1224 k2_hw66 => k2_hw66.2.2.2

def k2_off237 (v1242 : BitVec 32) : Fin 2 → Nat :=
  let v1243 : Index := Scalar.indexCast v1242
  let c0_332 : Index := 0#32
  ![v1243.toNat, 0]

def k2_off238 (v1242 : BitVec 32) : Fin 2 → Nat :=
  let v1247 : Index := Scalar.indexCast v1242
  let c16_333 : Index := 16#32
  ![v1247.toNat, 16]
def k2_off239 (v1242 : BitVec 32) : Fin 2 → Nat :=
  let v1251 : Index := Scalar.indexCast v1242
  let c32_334 : Index := 32#32
  ![v1251.toNat, 32]
def k2_off240 (v1242 : BitVec 32) : Fin 2 → Nat :=
  let v1255 : Index := Scalar.indexCast v1242
  let c48_335 : Index := 48#32
  ![v1255.toNat, 48]

def k2_chk67 (v1242 : BitVec 32) : Prop :=
  (∀ a, (k2_off237 v1242) a + S1x16.size a ≤ S1000x64.size a) ∧
  (∀ a, (k2_off238 v1242) a + S1x16.size a ≤ S1000x64.size a) ∧
  (∀ a, (k2_off239 v1242) a + S1x16.size a ≤ S1000x64.size a) ∧
  (∀ a, (k2_off240 v1242) a + S1x16.size a ≤ S1000x64.size a)
theorem k2_off237_inb : ∀ (v1242 : BitVec 32) (k2_hw67 : k2_chk67 v1242), ∀ a, (k2_off237 v1242) a + S1x16.size a ≤ S1000x64.size a := fun v1242 k2_hw67 => k2_hw67.1
theorem k2_off238_inb : ∀ (v1242 : BitVec 32) (k2_hw67 : k2_chk67 v1242), ∀ a, (k2_off238 v1242) a + S1x16.size a ≤ S1000x64.size a := fun v1242 k2_hw67 => k2_hw67.2.1
theorem k2_off239_inb : ∀ (v1242 : BitVec 32) (k2_hw67 : k2_chk67 v1242), ∀ a, (k2_off239 v1242) a + S1x16.size a ≤ S1000x64.size a := fun v1242 k2_hw67 => k2_hw67.2.2.1
theorem k2_off240_inb : ∀ (v1242 : BitVec 32) (k2_hw67 : k2_chk67 v1242), ∀ a, (k2_off240 v1242) a + S1x16.size a ≤ S1000x64.size a := fun v1242 k2_hw67 => k2_hw67.2.2.2

def k2_off241 (v1260 : BitVec 32) : Fin 2 → Nat :=
  let v1261 : Index := Scalar.indexCast v1260
  let c0_336 : Index := 0#32
  ![v1261.toNat, 0]

def k2_off242 (v1260 : BitVec 32) : Fin 2 → Nat :=
  let v1265 : Index := Scalar.indexCast v1260
  let c16_337 : Index := 16#32
  ![v1265.toNat, 16]
def k2_off243 (v1260 : BitVec 32) : Fin 2 → Nat :=
  let v1269 : Index := Scalar.indexCast v1260
  let c32_338 : Index := 32#32
  ![v1269.toNat, 32]
def k2_off244 (v1260 : BitVec 32) : Fin 2 → Nat :=
  let v1273 : Index := Scalar.indexCast v1260
  let c48_339 : Index := 48#32
  ![v1273.toNat, 48]

def k2_chk68 (v1260 : BitVec 32) : Prop :=
  (∀ a, (k2_off241 v1260) a + S1x16.size a ≤ S1000x64.size a) ∧
  (∀ a, (k2_off242 v1260) a + S1x16.size a ≤ S1000x64.size a) ∧
  (∀ a, (k2_off243 v1260) a + S1x16.size a ≤ S1000x64.size a) ∧
  (∀ a, (k2_off244 v1260) a + S1x16.size a ≤ S1000x64.size a)
theorem k2_off241_inb : ∀ (v1260 : BitVec 32) (k2_hw68 : k2_chk68 v1260), ∀ a, (k2_off241 v1260) a + S1x16.size a ≤ S1000x64.size a := fun v1260 k2_hw68 => k2_hw68.1
theorem k2_off242_inb : ∀ (v1260 : BitVec 32) (k2_hw68 : k2_chk68 v1260), ∀ a, (k2_off242 v1260) a + S1x16.size a ≤ S1000x64.size a := fun v1260 k2_hw68 => k2_hw68.2.1
theorem k2_off243_inb : ∀ (v1260 : BitVec 32) (k2_hw68 : k2_chk68 v1260), ∀ a, (k2_off243 v1260) a + S1x16.size a ≤ S1000x64.size a := fun v1260 k2_hw68 => k2_hw68.2.2.1
theorem k2_off244_inb : ∀ (v1260 : BitVec 32) (k2_hw68 : k2_chk68 v1260), ∀ a, (k2_off244 v1260) a + S1x16.size a ≤ S1000x64.size a := fun v1260 k2_hw68 => k2_hw68.2.2.2

def k2_off245 (v1278 : BitVec 32) : Fin 2 → Nat :=
  let v1279 : Index := Scalar.indexCast v1278
  let c0_340 : Index := 0#32
  ![v1279.toNat, 0]

def k2_off246 (v1278 : BitVec 32) : Fin 2 → Nat :=
  let v1283 : Index := Scalar.indexCast v1278
  let c16_341 : Index := 16#32
  ![v1283.toNat, 16]
def k2_off247 (v1278 : BitVec 32) : Fin 2 → Nat :=
  let v1287 : Index := Scalar.indexCast v1278
  let c32_342 : Index := 32#32
  ![v1287.toNat, 32]
def k2_off248 (v1278 : BitVec 32) : Fin 2 → Nat :=
  let v1291 : Index := Scalar.indexCast v1278
  let c48_343 : Index := 48#32
  ![v1291.toNat, 48]

def k2_chk69 (v1278 : BitVec 32) : Prop :=
  (∀ a, (k2_off245 v1278) a + S1x16.size a ≤ S1000x64.size a) ∧
  (∀ a, (k2_off246 v1278) a + S1x16.size a ≤ S1000x64.size a) ∧
  (∀ a, (k2_off247 v1278) a + S1x16.size a ≤ S1000x64.size a) ∧
  (∀ a, (k2_off248 v1278) a + S1x16.size a ≤ S1000x64.size a)
theorem k2_off245_inb : ∀ (v1278 : BitVec 32) (k2_hw69 : k2_chk69 v1278), ∀ a, (k2_off245 v1278) a + S1x16.size a ≤ S1000x64.size a := fun v1278 k2_hw69 => k2_hw69.1
theorem k2_off246_inb : ∀ (v1278 : BitVec 32) (k2_hw69 : k2_chk69 v1278), ∀ a, (k2_off246 v1278) a + S1x16.size a ≤ S1000x64.size a := fun v1278 k2_hw69 => k2_hw69.2.1
theorem k2_off247_inb : ∀ (v1278 : BitVec 32) (k2_hw69 : k2_chk69 v1278), ∀ a, (k2_off247 v1278) a + S1x16.size a ≤ S1000x64.size a := fun v1278 k2_hw69 => k2_hw69.2.2.1
theorem k2_off248_inb : ∀ (v1278 : BitVec 32) (k2_hw69 : k2_chk69 v1278), ∀ a, (k2_off248 v1278) a + S1x16.size a ≤ S1000x64.size a := fun v1278 k2_hw69 => k2_hw69.2.2.2

def k2_off249 (k2_t2 : Fin k2_t2_loop.trips) (c0_i32_348 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k2_t2
  let c1_i32_59 : BitVec 32 := 1#32
  let v102 : BitVec 32 := Scalar.muli arg16 c1_i32_59
  let v103 : BitVec 32 := Scalar.addi c0_i32_60 v102
  let c4_i32_345 : BitVec 32 := 4#32
  let v1297 : BitVec 32 := Scalar.muli v103 c4_i32_345
  let c2_i32_346 : BitVec 32 := 2#32
  let v1298 : BitVec 32 := Scalar.addi v1297 c2_i32_346
  let c64_i32_347 : BitVec 32 := 64#32
  let v1299 : BitVec 32 := Scalar.muli v1298 c64_i32_347
  let v1300 : BitVec 32 := Scalar.addi v1299 c0_i32_348
  let v1301 : Index := Scalar.indexCast v1300
  ![v1301.toNat]
def k2_off250 (v1336 : BitVec 32) : Fin 2 → Nat :=
  let v1337 : Index := Scalar.indexCast v1336
  let c0_364 : Index := 0#32
  ![v1337.toNat, 0]

def k2_chk70 (v1336 : BitVec 32) : Prop :=
  (∀ a, (k2_off250 v1336) a + S1x16.size a ≤ S1000x64.size a)
theorem k2_off250_inb : ∀ (v1336 : BitVec 32) (k2_hw70 : k2_chk70 v1336), ∀ a, (k2_off250 v1336) a + S1x16.size a ≤ S1000x64.size a := fun v1336 k2_hw70 => k2_hw70

def k2_off251 (v1341 : BitVec 32) : Fin 2 → Nat :=
  let v1342 : Index := Scalar.indexCast v1341
  let c16_365 : Index := 16#32
  ![v1342.toNat, 16]

def k2_chk71 (v1341 : BitVec 32) : Prop :=
  (∀ a, (k2_off251 v1341) a + S1x16.size a ≤ S1000x64.size a)
theorem k2_off251_inb : ∀ (v1341 : BitVec 32) (k2_hw71 : k2_chk71 v1341), ∀ a, (k2_off251 v1341) a + S1x16.size a ≤ S1000x64.size a := fun v1341 k2_hw71 => k2_hw71

def k2_off252 (v1346 : BitVec 32) : Fin 2 → Nat :=
  let v1347 : Index := Scalar.indexCast v1346
  let c32_366 : Index := 32#32
  ![v1347.toNat, 32]

def k2_chk72 (v1346 : BitVec 32) : Prop :=
  (∀ a, (k2_off252 v1346) a + S1x16.size a ≤ S1000x64.size a)
theorem k2_off252_inb : ∀ (v1346 : BitVec 32) (k2_hw72 : k2_chk72 v1346), ∀ a, (k2_off252 v1346) a + S1x16.size a ≤ S1000x64.size a := fun v1346 k2_hw72 => k2_hw72

def k2_off253 (v1351 : BitVec 32) : Fin 2 → Nat :=
  let v1352 : Index := Scalar.indexCast v1351
  let c48_367 : Index := 48#32
  ![v1352.toNat, 48]

def k2_chk73 (v1351 : BitVec 32) : Prop :=
  (∀ a, (k2_off253 v1351) a + S1x16.size a ≤ S1000x64.size a)
theorem k2_off253_inb : ∀ (v1351 : BitVec 32) (k2_hw73 : k2_chk73 v1351), ∀ a, (k2_off253 v1351) a + S1x16.size a ≤ S1000x64.size a := fun v1351 k2_hw73 => k2_hw73

def k2_off254 (v1356 : BitVec 32) : Fin 2 → Nat :=
  let v1357 : Index := Scalar.indexCast v1356
  let c0_368 : Index := 0#32
  ![v1357.toNat, 0]

def k2_off255 (v1356 : BitVec 32) : Fin 2 → Nat :=
  let v1361 : Index := Scalar.indexCast v1356
  let c16_369 : Index := 16#32
  ![v1361.toNat, 16]
def k2_off256 (v1356 : BitVec 32) : Fin 2 → Nat :=
  let v1365 : Index := Scalar.indexCast v1356
  let c32_370 : Index := 32#32
  ![v1365.toNat, 32]
def k2_off257 (v1356 : BitVec 32) : Fin 2 → Nat :=
  let v1369 : Index := Scalar.indexCast v1356
  let c48_371 : Index := 48#32
  ![v1369.toNat, 48]

def k2_chk74 (v1356 : BitVec 32) : Prop :=
  (∀ a, (k2_off254 v1356) a + S1x16.size a ≤ S1000x64.size a) ∧
  (∀ a, (k2_off255 v1356) a + S1x16.size a ≤ S1000x64.size a) ∧
  (∀ a, (k2_off256 v1356) a + S1x16.size a ≤ S1000x64.size a) ∧
  (∀ a, (k2_off257 v1356) a + S1x16.size a ≤ S1000x64.size a)
theorem k2_off254_inb : ∀ (v1356 : BitVec 32) (k2_hw74 : k2_chk74 v1356), ∀ a, (k2_off254 v1356) a + S1x16.size a ≤ S1000x64.size a := fun v1356 k2_hw74 => k2_hw74.1
theorem k2_off255_inb : ∀ (v1356 : BitVec 32) (k2_hw74 : k2_chk74 v1356), ∀ a, (k2_off255 v1356) a + S1x16.size a ≤ S1000x64.size a := fun v1356 k2_hw74 => k2_hw74.2.1
theorem k2_off256_inb : ∀ (v1356 : BitVec 32) (k2_hw74 : k2_chk74 v1356), ∀ a, (k2_off256 v1356) a + S1x16.size a ≤ S1000x64.size a := fun v1356 k2_hw74 => k2_hw74.2.2.1
theorem k2_off257_inb : ∀ (v1356 : BitVec 32) (k2_hw74 : k2_chk74 v1356), ∀ a, (k2_off257 v1356) a + S1x16.size a ≤ S1000x64.size a := fun v1356 k2_hw74 => k2_hw74.2.2.2

def k2_off258 (v1374 : BitVec 32) : Fin 2 → Nat :=
  let v1375 : Index := Scalar.indexCast v1374
  let c0_372 : Index := 0#32
  ![v1375.toNat, 0]

def k2_off259 (v1374 : BitVec 32) : Fin 2 → Nat :=
  let v1379 : Index := Scalar.indexCast v1374
  let c16_373 : Index := 16#32
  ![v1379.toNat, 16]
def k2_off260 (v1374 : BitVec 32) : Fin 2 → Nat :=
  let v1383 : Index := Scalar.indexCast v1374
  let c32_374 : Index := 32#32
  ![v1383.toNat, 32]
def k2_off261 (v1374 : BitVec 32) : Fin 2 → Nat :=
  let v1387 : Index := Scalar.indexCast v1374
  let c48_375 : Index := 48#32
  ![v1387.toNat, 48]

def k2_chk75 (v1374 : BitVec 32) : Prop :=
  (∀ a, (k2_off258 v1374) a + S1x16.size a ≤ S1000x64.size a) ∧
  (∀ a, (k2_off259 v1374) a + S1x16.size a ≤ S1000x64.size a) ∧
  (∀ a, (k2_off260 v1374) a + S1x16.size a ≤ S1000x64.size a) ∧
  (∀ a, (k2_off261 v1374) a + S1x16.size a ≤ S1000x64.size a)
theorem k2_off258_inb : ∀ (v1374 : BitVec 32) (k2_hw75 : k2_chk75 v1374), ∀ a, (k2_off258 v1374) a + S1x16.size a ≤ S1000x64.size a := fun v1374 k2_hw75 => k2_hw75.1
theorem k2_off259_inb : ∀ (v1374 : BitVec 32) (k2_hw75 : k2_chk75 v1374), ∀ a, (k2_off259 v1374) a + S1x16.size a ≤ S1000x64.size a := fun v1374 k2_hw75 => k2_hw75.2.1
theorem k2_off260_inb : ∀ (v1374 : BitVec 32) (k2_hw75 : k2_chk75 v1374), ∀ a, (k2_off260 v1374) a + S1x16.size a ≤ S1000x64.size a := fun v1374 k2_hw75 => k2_hw75.2.2.1
theorem k2_off261_inb : ∀ (v1374 : BitVec 32) (k2_hw75 : k2_chk75 v1374), ∀ a, (k2_off261 v1374) a + S1x16.size a ≤ S1000x64.size a := fun v1374 k2_hw75 => k2_hw75.2.2.2

def k2_off262 (v1392 : BitVec 32) : Fin 2 → Nat :=
  let v1393 : Index := Scalar.indexCast v1392
  let c0_376 : Index := 0#32
  ![v1393.toNat, 0]

def k2_off263 (v1392 : BitVec 32) : Fin 2 → Nat :=
  let v1397 : Index := Scalar.indexCast v1392
  let c16_377 : Index := 16#32
  ![v1397.toNat, 16]
def k2_off264 (v1392 : BitVec 32) : Fin 2 → Nat :=
  let v1401 : Index := Scalar.indexCast v1392
  let c32_378 : Index := 32#32
  ![v1401.toNat, 32]
def k2_off265 (v1392 : BitVec 32) : Fin 2 → Nat :=
  let v1405 : Index := Scalar.indexCast v1392
  let c48_379 : Index := 48#32
  ![v1405.toNat, 48]

def k2_chk76 (v1392 : BitVec 32) : Prop :=
  (∀ a, (k2_off262 v1392) a + S1x16.size a ≤ S1000x64.size a) ∧
  (∀ a, (k2_off263 v1392) a + S1x16.size a ≤ S1000x64.size a) ∧
  (∀ a, (k2_off264 v1392) a + S1x16.size a ≤ S1000x64.size a) ∧
  (∀ a, (k2_off265 v1392) a + S1x16.size a ≤ S1000x64.size a)
theorem k2_off262_inb : ∀ (v1392 : BitVec 32) (k2_hw76 : k2_chk76 v1392), ∀ a, (k2_off262 v1392) a + S1x16.size a ≤ S1000x64.size a := fun v1392 k2_hw76 => k2_hw76.1
theorem k2_off263_inb : ∀ (v1392 : BitVec 32) (k2_hw76 : k2_chk76 v1392), ∀ a, (k2_off263 v1392) a + S1x16.size a ≤ S1000x64.size a := fun v1392 k2_hw76 => k2_hw76.2.1
theorem k2_off264_inb : ∀ (v1392 : BitVec 32) (k2_hw76 : k2_chk76 v1392), ∀ a, (k2_off264 v1392) a + S1x16.size a ≤ S1000x64.size a := fun v1392 k2_hw76 => k2_hw76.2.2.1
theorem k2_off265_inb : ∀ (v1392 : BitVec 32) (k2_hw76 : k2_chk76 v1392), ∀ a, (k2_off265 v1392) a + S1x16.size a ≤ S1000x64.size a := fun v1392 k2_hw76 => k2_hw76.2.2.2

def k2_off266 (v1410 : BitVec 32) : Fin 2 → Nat :=
  let v1411 : Index := Scalar.indexCast v1410
  let c0_380 : Index := 0#32
  ![v1411.toNat, 0]

def k2_off267 (v1410 : BitVec 32) : Fin 2 → Nat :=
  let v1415 : Index := Scalar.indexCast v1410
  let c16_381 : Index := 16#32
  ![v1415.toNat, 16]
def k2_off268 (v1410 : BitVec 32) : Fin 2 → Nat :=
  let v1419 : Index := Scalar.indexCast v1410
  let c32_382 : Index := 32#32
  ![v1419.toNat, 32]
def k2_off269 (v1410 : BitVec 32) : Fin 2 → Nat :=
  let v1423 : Index := Scalar.indexCast v1410
  let c48_383 : Index := 48#32
  ![v1423.toNat, 48]

def k2_chk77 (v1410 : BitVec 32) : Prop :=
  (∀ a, (k2_off266 v1410) a + S1x16.size a ≤ S1000x64.size a) ∧
  (∀ a, (k2_off267 v1410) a + S1x16.size a ≤ S1000x64.size a) ∧
  (∀ a, (k2_off268 v1410) a + S1x16.size a ≤ S1000x64.size a) ∧
  (∀ a, (k2_off269 v1410) a + S1x16.size a ≤ S1000x64.size a)
theorem k2_off266_inb : ∀ (v1410 : BitVec 32) (k2_hw77 : k2_chk77 v1410), ∀ a, (k2_off266 v1410) a + S1x16.size a ≤ S1000x64.size a := fun v1410 k2_hw77 => k2_hw77.1
theorem k2_off267_inb : ∀ (v1410 : BitVec 32) (k2_hw77 : k2_chk77 v1410), ∀ a, (k2_off267 v1410) a + S1x16.size a ≤ S1000x64.size a := fun v1410 k2_hw77 => k2_hw77.2.1
theorem k2_off268_inb : ∀ (v1410 : BitVec 32) (k2_hw77 : k2_chk77 v1410), ∀ a, (k2_off268 v1410) a + S1x16.size a ≤ S1000x64.size a := fun v1410 k2_hw77 => k2_hw77.2.2.1
theorem k2_off269_inb : ∀ (v1410 : BitVec 32) (k2_hw77 : k2_chk77 v1410), ∀ a, (k2_off269 v1410) a + S1x16.size a ≤ S1000x64.size a := fun v1410 k2_hw77 => k2_hw77.2.2.2

def k2_off270 (v1428 : BitVec 32) : Fin 2 → Nat :=
  let v1429 : Index := Scalar.indexCast v1428
  let c0_384 : Index := 0#32
  ![v1429.toNat, 0]

def k2_off271 (v1428 : BitVec 32) : Fin 2 → Nat :=
  let v1433 : Index := Scalar.indexCast v1428
  let c16_385 : Index := 16#32
  ![v1433.toNat, 16]
def k2_off272 (v1428 : BitVec 32) : Fin 2 → Nat :=
  let v1437 : Index := Scalar.indexCast v1428
  let c32_386 : Index := 32#32
  ![v1437.toNat, 32]
def k2_off273 (v1428 : BitVec 32) : Fin 2 → Nat :=
  let v1441 : Index := Scalar.indexCast v1428
  let c48_387 : Index := 48#32
  ![v1441.toNat, 48]

def k2_chk78 (v1428 : BitVec 32) : Prop :=
  (∀ a, (k2_off270 v1428) a + S1x16.size a ≤ S1000x64.size a) ∧
  (∀ a, (k2_off271 v1428) a + S1x16.size a ≤ S1000x64.size a) ∧
  (∀ a, (k2_off272 v1428) a + S1x16.size a ≤ S1000x64.size a) ∧
  (∀ a, (k2_off273 v1428) a + S1x16.size a ≤ S1000x64.size a)
theorem k2_off270_inb : ∀ (v1428 : BitVec 32) (k2_hw78 : k2_chk78 v1428), ∀ a, (k2_off270 v1428) a + S1x16.size a ≤ S1000x64.size a := fun v1428 k2_hw78 => k2_hw78.1
theorem k2_off271_inb : ∀ (v1428 : BitVec 32) (k2_hw78 : k2_chk78 v1428), ∀ a, (k2_off271 v1428) a + S1x16.size a ≤ S1000x64.size a := fun v1428 k2_hw78 => k2_hw78.2.1
theorem k2_off272_inb : ∀ (v1428 : BitVec 32) (k2_hw78 : k2_chk78 v1428), ∀ a, (k2_off272 v1428) a + S1x16.size a ≤ S1000x64.size a := fun v1428 k2_hw78 => k2_hw78.2.2.1
theorem k2_off273_inb : ∀ (v1428 : BitVec 32) (k2_hw78 : k2_chk78 v1428), ∀ a, (k2_off273 v1428) a + S1x16.size a ≤ S1000x64.size a := fun v1428 k2_hw78 => k2_hw78.2.2.2

def k2_off274 (v1446 : BitVec 32) : Fin 2 → Nat :=
  let v1447 : Index := Scalar.indexCast v1446
  let c0_388 : Index := 0#32
  ![v1447.toNat, 0]

def k2_off275 (v1446 : BitVec 32) : Fin 2 → Nat :=
  let v1451 : Index := Scalar.indexCast v1446
  let c16_389 : Index := 16#32
  ![v1451.toNat, 16]
def k2_off276 (v1446 : BitVec 32) : Fin 2 → Nat :=
  let v1455 : Index := Scalar.indexCast v1446
  let c32_390 : Index := 32#32
  ![v1455.toNat, 32]
def k2_off277 (v1446 : BitVec 32) : Fin 2 → Nat :=
  let v1459 : Index := Scalar.indexCast v1446
  let c48_391 : Index := 48#32
  ![v1459.toNat, 48]

def k2_chk79 (v1446 : BitVec 32) : Prop :=
  (∀ a, (k2_off274 v1446) a + S1x16.size a ≤ S1000x64.size a) ∧
  (∀ a, (k2_off275 v1446) a + S1x16.size a ≤ S1000x64.size a) ∧
  (∀ a, (k2_off276 v1446) a + S1x16.size a ≤ S1000x64.size a) ∧
  (∀ a, (k2_off277 v1446) a + S1x16.size a ≤ S1000x64.size a)
theorem k2_off274_inb : ∀ (v1446 : BitVec 32) (k2_hw79 : k2_chk79 v1446), ∀ a, (k2_off274 v1446) a + S1x16.size a ≤ S1000x64.size a := fun v1446 k2_hw79 => k2_hw79.1
theorem k2_off275_inb : ∀ (v1446 : BitVec 32) (k2_hw79 : k2_chk79 v1446), ∀ a, (k2_off275 v1446) a + S1x16.size a ≤ S1000x64.size a := fun v1446 k2_hw79 => k2_hw79.2.1
theorem k2_off276_inb : ∀ (v1446 : BitVec 32) (k2_hw79 : k2_chk79 v1446), ∀ a, (k2_off276 v1446) a + S1x16.size a ≤ S1000x64.size a := fun v1446 k2_hw79 => k2_hw79.2.2.1
theorem k2_off277_inb : ∀ (v1446 : BitVec 32) (k2_hw79 : k2_chk79 v1446), ∀ a, (k2_off277 v1446) a + S1x16.size a ≤ S1000x64.size a := fun v1446 k2_hw79 => k2_hw79.2.2.2

def k2_off278 (v1464 : BitVec 32) : Fin 2 → Nat :=
  let v1465 : Index := Scalar.indexCast v1464
  let c0_392 : Index := 0#32
  ![v1465.toNat, 0]

def k2_off279 (v1464 : BitVec 32) : Fin 2 → Nat :=
  let v1469 : Index := Scalar.indexCast v1464
  let c16_393 : Index := 16#32
  ![v1469.toNat, 16]
def k2_off280 (v1464 : BitVec 32) : Fin 2 → Nat :=
  let v1473 : Index := Scalar.indexCast v1464
  let c32_394 : Index := 32#32
  ![v1473.toNat, 32]
def k2_off281 (v1464 : BitVec 32) : Fin 2 → Nat :=
  let v1477 : Index := Scalar.indexCast v1464
  let c48_395 : Index := 48#32
  ![v1477.toNat, 48]

def k2_chk80 (v1464 : BitVec 32) : Prop :=
  (∀ a, (k2_off278 v1464) a + S1x16.size a ≤ S1000x64.size a) ∧
  (∀ a, (k2_off279 v1464) a + S1x16.size a ≤ S1000x64.size a) ∧
  (∀ a, (k2_off280 v1464) a + S1x16.size a ≤ S1000x64.size a) ∧
  (∀ a, (k2_off281 v1464) a + S1x16.size a ≤ S1000x64.size a)
theorem k2_off278_inb : ∀ (v1464 : BitVec 32) (k2_hw80 : k2_chk80 v1464), ∀ a, (k2_off278 v1464) a + S1x16.size a ≤ S1000x64.size a := fun v1464 k2_hw80 => k2_hw80.1
theorem k2_off279_inb : ∀ (v1464 : BitVec 32) (k2_hw80 : k2_chk80 v1464), ∀ a, (k2_off279 v1464) a + S1x16.size a ≤ S1000x64.size a := fun v1464 k2_hw80 => k2_hw80.2.1
theorem k2_off280_inb : ∀ (v1464 : BitVec 32) (k2_hw80 : k2_chk80 v1464), ∀ a, (k2_off280 v1464) a + S1x16.size a ≤ S1000x64.size a := fun v1464 k2_hw80 => k2_hw80.2.2.1
theorem k2_off281_inb : ∀ (v1464 : BitVec 32) (k2_hw80 : k2_chk80 v1464), ∀ a, (k2_off281 v1464) a + S1x16.size a ≤ S1000x64.size a := fun v1464 k2_hw80 => k2_hw80.2.2.2

def k2_off282 (v1482 : BitVec 32) : Fin 2 → Nat :=
  let v1483 : Index := Scalar.indexCast v1482
  let c0_396 : Index := 0#32
  ![v1483.toNat, 0]

def k2_off283 (v1482 : BitVec 32) : Fin 2 → Nat :=
  let v1487 : Index := Scalar.indexCast v1482
  let c16_397 : Index := 16#32
  ![v1487.toNat, 16]
def k2_off284 (v1482 : BitVec 32) : Fin 2 → Nat :=
  let v1491 : Index := Scalar.indexCast v1482
  let c32_398 : Index := 32#32
  ![v1491.toNat, 32]
def k2_off285 (v1482 : BitVec 32) : Fin 2 → Nat :=
  let v1495 : Index := Scalar.indexCast v1482
  let c48_399 : Index := 48#32
  ![v1495.toNat, 48]

def k2_chk81 (v1482 : BitVec 32) : Prop :=
  (∀ a, (k2_off282 v1482) a + S1x16.size a ≤ S1000x64.size a) ∧
  (∀ a, (k2_off283 v1482) a + S1x16.size a ≤ S1000x64.size a) ∧
  (∀ a, (k2_off284 v1482) a + S1x16.size a ≤ S1000x64.size a) ∧
  (∀ a, (k2_off285 v1482) a + S1x16.size a ≤ S1000x64.size a)
theorem k2_off282_inb : ∀ (v1482 : BitVec 32) (k2_hw81 : k2_chk81 v1482), ∀ a, (k2_off282 v1482) a + S1x16.size a ≤ S1000x64.size a := fun v1482 k2_hw81 => k2_hw81.1
theorem k2_off283_inb : ∀ (v1482 : BitVec 32) (k2_hw81 : k2_chk81 v1482), ∀ a, (k2_off283 v1482) a + S1x16.size a ≤ S1000x64.size a := fun v1482 k2_hw81 => k2_hw81.2.1
theorem k2_off284_inb : ∀ (v1482 : BitVec 32) (k2_hw81 : k2_chk81 v1482), ∀ a, (k2_off284 v1482) a + S1x16.size a ≤ S1000x64.size a := fun v1482 k2_hw81 => k2_hw81.2.2.1
theorem k2_off285_inb : ∀ (v1482 : BitVec 32) (k2_hw81 : k2_chk81 v1482), ∀ a, (k2_off285 v1482) a + S1x16.size a ≤ S1000x64.size a := fun v1482 k2_hw81 => k2_hw81.2.2.2

def k2_off286 (v1500 : BitVec 32) : Fin 2 → Nat :=
  let v1501 : Index := Scalar.indexCast v1500
  let c0_400 : Index := 0#32
  ![v1501.toNat, 0]

def k2_off287 (v1500 : BitVec 32) : Fin 2 → Nat :=
  let v1505 : Index := Scalar.indexCast v1500
  let c16_401 : Index := 16#32
  ![v1505.toNat, 16]
def k2_off288 (v1500 : BitVec 32) : Fin 2 → Nat :=
  let v1509 : Index := Scalar.indexCast v1500
  let c32_402 : Index := 32#32
  ![v1509.toNat, 32]
def k2_off289 (v1500 : BitVec 32) : Fin 2 → Nat :=
  let v1513 : Index := Scalar.indexCast v1500
  let c48_403 : Index := 48#32
  ![v1513.toNat, 48]

def k2_chk82 (v1500 : BitVec 32) : Prop :=
  (∀ a, (k2_off286 v1500) a + S1x16.size a ≤ S1000x64.size a) ∧
  (∀ a, (k2_off287 v1500) a + S1x16.size a ≤ S1000x64.size a) ∧
  (∀ a, (k2_off288 v1500) a + S1x16.size a ≤ S1000x64.size a) ∧
  (∀ a, (k2_off289 v1500) a + S1x16.size a ≤ S1000x64.size a)
theorem k2_off286_inb : ∀ (v1500 : BitVec 32) (k2_hw82 : k2_chk82 v1500), ∀ a, (k2_off286 v1500) a + S1x16.size a ≤ S1000x64.size a := fun v1500 k2_hw82 => k2_hw82.1
theorem k2_off287_inb : ∀ (v1500 : BitVec 32) (k2_hw82 : k2_chk82 v1500), ∀ a, (k2_off287 v1500) a + S1x16.size a ≤ S1000x64.size a := fun v1500 k2_hw82 => k2_hw82.2.1
theorem k2_off288_inb : ∀ (v1500 : BitVec 32) (k2_hw82 : k2_chk82 v1500), ∀ a, (k2_off288 v1500) a + S1x16.size a ≤ S1000x64.size a := fun v1500 k2_hw82 => k2_hw82.2.2.1
theorem k2_off289_inb : ∀ (v1500 : BitVec 32) (k2_hw82 : k2_chk82 v1500), ∀ a, (k2_off289 v1500) a + S1x16.size a ≤ S1000x64.size a := fun v1500 k2_hw82 => k2_hw82.2.2.2

def k2_off290 (v1518 : BitVec 32) : Fin 2 → Nat :=
  let v1519 : Index := Scalar.indexCast v1518
  let c0_404 : Index := 0#32
  ![v1519.toNat, 0]

def k2_off291 (v1518 : BitVec 32) : Fin 2 → Nat :=
  let v1523 : Index := Scalar.indexCast v1518
  let c16_405 : Index := 16#32
  ![v1523.toNat, 16]
def k2_off292 (v1518 : BitVec 32) : Fin 2 → Nat :=
  let v1527 : Index := Scalar.indexCast v1518
  let c32_406 : Index := 32#32
  ![v1527.toNat, 32]
def k2_off293 (v1518 : BitVec 32) : Fin 2 → Nat :=
  let v1531 : Index := Scalar.indexCast v1518
  let c48_407 : Index := 48#32
  ![v1531.toNat, 48]

def k2_chk83 (v1518 : BitVec 32) : Prop :=
  (∀ a, (k2_off290 v1518) a + S1x16.size a ≤ S1000x64.size a) ∧
  (∀ a, (k2_off291 v1518) a + S1x16.size a ≤ S1000x64.size a) ∧
  (∀ a, (k2_off292 v1518) a + S1x16.size a ≤ S1000x64.size a) ∧
  (∀ a, (k2_off293 v1518) a + S1x16.size a ≤ S1000x64.size a)
theorem k2_off290_inb : ∀ (v1518 : BitVec 32) (k2_hw83 : k2_chk83 v1518), ∀ a, (k2_off290 v1518) a + S1x16.size a ≤ S1000x64.size a := fun v1518 k2_hw83 => k2_hw83.1
theorem k2_off291_inb : ∀ (v1518 : BitVec 32) (k2_hw83 : k2_chk83 v1518), ∀ a, (k2_off291 v1518) a + S1x16.size a ≤ S1000x64.size a := fun v1518 k2_hw83 => k2_hw83.2.1
theorem k2_off292_inb : ∀ (v1518 : BitVec 32) (k2_hw83 : k2_chk83 v1518), ∀ a, (k2_off292 v1518) a + S1x16.size a ≤ S1000x64.size a := fun v1518 k2_hw83 => k2_hw83.2.2.1
theorem k2_off293_inb : ∀ (v1518 : BitVec 32) (k2_hw83 : k2_chk83 v1518), ∀ a, (k2_off293 v1518) a + S1x16.size a ≤ S1000x64.size a := fun v1518 k2_hw83 => k2_hw83.2.2.2

def k2_off294 (v1536 : BitVec 32) : Fin 2 → Nat :=
  let v1537 : Index := Scalar.indexCast v1536
  let c0_408 : Index := 0#32
  ![v1537.toNat, 0]

def k2_off295 (v1536 : BitVec 32) : Fin 2 → Nat :=
  let v1541 : Index := Scalar.indexCast v1536
  let c16_409 : Index := 16#32
  ![v1541.toNat, 16]
def k2_off296 (v1536 : BitVec 32) : Fin 2 → Nat :=
  let v1545 : Index := Scalar.indexCast v1536
  let c32_410 : Index := 32#32
  ![v1545.toNat, 32]
def k2_off297 (v1536 : BitVec 32) : Fin 2 → Nat :=
  let v1549 : Index := Scalar.indexCast v1536
  let c48_411 : Index := 48#32
  ![v1549.toNat, 48]

def k2_chk84 (v1536 : BitVec 32) : Prop :=
  (∀ a, (k2_off294 v1536) a + S1x16.size a ≤ S1000x64.size a) ∧
  (∀ a, (k2_off295 v1536) a + S1x16.size a ≤ S1000x64.size a) ∧
  (∀ a, (k2_off296 v1536) a + S1x16.size a ≤ S1000x64.size a) ∧
  (∀ a, (k2_off297 v1536) a + S1x16.size a ≤ S1000x64.size a)
theorem k2_off294_inb : ∀ (v1536 : BitVec 32) (k2_hw84 : k2_chk84 v1536), ∀ a, (k2_off294 v1536) a + S1x16.size a ≤ S1000x64.size a := fun v1536 k2_hw84 => k2_hw84.1
theorem k2_off295_inb : ∀ (v1536 : BitVec 32) (k2_hw84 : k2_chk84 v1536), ∀ a, (k2_off295 v1536) a + S1x16.size a ≤ S1000x64.size a := fun v1536 k2_hw84 => k2_hw84.2.1
theorem k2_off296_inb : ∀ (v1536 : BitVec 32) (k2_hw84 : k2_chk84 v1536), ∀ a, (k2_off296 v1536) a + S1x16.size a ≤ S1000x64.size a := fun v1536 k2_hw84 => k2_hw84.2.2.1
theorem k2_off297_inb : ∀ (v1536 : BitVec 32) (k2_hw84 : k2_chk84 v1536), ∀ a, (k2_off297 v1536) a + S1x16.size a ≤ S1000x64.size a := fun v1536 k2_hw84 => k2_hw84.2.2.2

def k2_off298 (v1554 : BitVec 32) : Fin 2 → Nat :=
  let v1555 : Index := Scalar.indexCast v1554
  let c0_412 : Index := 0#32
  ![v1555.toNat, 0]

def k2_off299 (v1554 : BitVec 32) : Fin 2 → Nat :=
  let v1559 : Index := Scalar.indexCast v1554
  let c16_413 : Index := 16#32
  ![v1559.toNat, 16]
def k2_off300 (v1554 : BitVec 32) : Fin 2 → Nat :=
  let v1563 : Index := Scalar.indexCast v1554
  let c32_414 : Index := 32#32
  ![v1563.toNat, 32]
def k2_off301 (v1554 : BitVec 32) : Fin 2 → Nat :=
  let v1567 : Index := Scalar.indexCast v1554
  let c48_415 : Index := 48#32
  ![v1567.toNat, 48]

def k2_chk85 (v1554 : BitVec 32) : Prop :=
  (∀ a, (k2_off298 v1554) a + S1x16.size a ≤ S1000x64.size a) ∧
  (∀ a, (k2_off299 v1554) a + S1x16.size a ≤ S1000x64.size a) ∧
  (∀ a, (k2_off300 v1554) a + S1x16.size a ≤ S1000x64.size a) ∧
  (∀ a, (k2_off301 v1554) a + S1x16.size a ≤ S1000x64.size a)
theorem k2_off298_inb : ∀ (v1554 : BitVec 32) (k2_hw85 : k2_chk85 v1554), ∀ a, (k2_off298 v1554) a + S1x16.size a ≤ S1000x64.size a := fun v1554 k2_hw85 => k2_hw85.1
theorem k2_off299_inb : ∀ (v1554 : BitVec 32) (k2_hw85 : k2_chk85 v1554), ∀ a, (k2_off299 v1554) a + S1x16.size a ≤ S1000x64.size a := fun v1554 k2_hw85 => k2_hw85.2.1
theorem k2_off300_inb : ∀ (v1554 : BitVec 32) (k2_hw85 : k2_chk85 v1554), ∀ a, (k2_off300 v1554) a + S1x16.size a ≤ S1000x64.size a := fun v1554 k2_hw85 => k2_hw85.2.2.1
theorem k2_off301_inb : ∀ (v1554 : BitVec 32) (k2_hw85 : k2_chk85 v1554), ∀ a, (k2_off301 v1554) a + S1x16.size a ≤ S1000x64.size a := fun v1554 k2_hw85 => k2_hw85.2.2.2

def k2_off302 (v1572 : BitVec 32) : Fin 2 → Nat :=
  let v1573 : Index := Scalar.indexCast v1572
  let c0_416 : Index := 0#32
  ![v1573.toNat, 0]

def k2_off303 (v1572 : BitVec 32) : Fin 2 → Nat :=
  let v1577 : Index := Scalar.indexCast v1572
  let c16_417 : Index := 16#32
  ![v1577.toNat, 16]
def k2_off304 (v1572 : BitVec 32) : Fin 2 → Nat :=
  let v1581 : Index := Scalar.indexCast v1572
  let c32_418 : Index := 32#32
  ![v1581.toNat, 32]
def k2_off305 (v1572 : BitVec 32) : Fin 2 → Nat :=
  let v1585 : Index := Scalar.indexCast v1572
  let c48_419 : Index := 48#32
  ![v1585.toNat, 48]

def k2_chk86 (v1572 : BitVec 32) : Prop :=
  (∀ a, (k2_off302 v1572) a + S1x16.size a ≤ S1000x64.size a) ∧
  (∀ a, (k2_off303 v1572) a + S1x16.size a ≤ S1000x64.size a) ∧
  (∀ a, (k2_off304 v1572) a + S1x16.size a ≤ S1000x64.size a) ∧
  (∀ a, (k2_off305 v1572) a + S1x16.size a ≤ S1000x64.size a)
theorem k2_off302_inb : ∀ (v1572 : BitVec 32) (k2_hw86 : k2_chk86 v1572), ∀ a, (k2_off302 v1572) a + S1x16.size a ≤ S1000x64.size a := fun v1572 k2_hw86 => k2_hw86.1
theorem k2_off303_inb : ∀ (v1572 : BitVec 32) (k2_hw86 : k2_chk86 v1572), ∀ a, (k2_off303 v1572) a + S1x16.size a ≤ S1000x64.size a := fun v1572 k2_hw86 => k2_hw86.2.1
theorem k2_off304_inb : ∀ (v1572 : BitVec 32) (k2_hw86 : k2_chk86 v1572), ∀ a, (k2_off304 v1572) a + S1x16.size a ≤ S1000x64.size a := fun v1572 k2_hw86 => k2_hw86.2.2.1
theorem k2_off305_inb : ∀ (v1572 : BitVec 32) (k2_hw86 : k2_chk86 v1572), ∀ a, (k2_off305 v1572) a + S1x16.size a ≤ S1000x64.size a := fun v1572 k2_hw86 => k2_hw86.2.2.2

def k2_off306 (v1590 : BitVec 32) : Fin 2 → Nat :=
  let v1591 : Index := Scalar.indexCast v1590
  let c0_420 : Index := 0#32
  ![v1591.toNat, 0]

def k2_off307 (v1590 : BitVec 32) : Fin 2 → Nat :=
  let v1595 : Index := Scalar.indexCast v1590
  let c16_421 : Index := 16#32
  ![v1595.toNat, 16]
def k2_off308 (v1590 : BitVec 32) : Fin 2 → Nat :=
  let v1599 : Index := Scalar.indexCast v1590
  let c32_422 : Index := 32#32
  ![v1599.toNat, 32]
def k2_off309 (v1590 : BitVec 32) : Fin 2 → Nat :=
  let v1603 : Index := Scalar.indexCast v1590
  let c48_423 : Index := 48#32
  ![v1603.toNat, 48]

def k2_chk87 (v1590 : BitVec 32) : Prop :=
  (∀ a, (k2_off306 v1590) a + S1x16.size a ≤ S1000x64.size a) ∧
  (∀ a, (k2_off307 v1590) a + S1x16.size a ≤ S1000x64.size a) ∧
  (∀ a, (k2_off308 v1590) a + S1x16.size a ≤ S1000x64.size a) ∧
  (∀ a, (k2_off309 v1590) a + S1x16.size a ≤ S1000x64.size a)
theorem k2_off306_inb : ∀ (v1590 : BitVec 32) (k2_hw87 : k2_chk87 v1590), ∀ a, (k2_off306 v1590) a + S1x16.size a ≤ S1000x64.size a := fun v1590 k2_hw87 => k2_hw87.1
theorem k2_off307_inb : ∀ (v1590 : BitVec 32) (k2_hw87 : k2_chk87 v1590), ∀ a, (k2_off307 v1590) a + S1x16.size a ≤ S1000x64.size a := fun v1590 k2_hw87 => k2_hw87.2.1
theorem k2_off308_inb : ∀ (v1590 : BitVec 32) (k2_hw87 : k2_chk87 v1590), ∀ a, (k2_off308 v1590) a + S1x16.size a ≤ S1000x64.size a := fun v1590 k2_hw87 => k2_hw87.2.2.1
theorem k2_off309_inb : ∀ (v1590 : BitVec 32) (k2_hw87 : k2_chk87 v1590), ∀ a, (k2_off309 v1590) a + S1x16.size a ≤ S1000x64.size a := fun v1590 k2_hw87 => k2_hw87.2.2.2

def k2_off310 (v1608 : BitVec 32) : Fin 2 → Nat :=
  let v1609 : Index := Scalar.indexCast v1608
  let c0_424 : Index := 0#32
  ![v1609.toNat, 0]

def k2_off311 (v1608 : BitVec 32) : Fin 2 → Nat :=
  let v1613 : Index := Scalar.indexCast v1608
  let c16_425 : Index := 16#32
  ![v1613.toNat, 16]
def k2_off312 (v1608 : BitVec 32) : Fin 2 → Nat :=
  let v1617 : Index := Scalar.indexCast v1608
  let c32_426 : Index := 32#32
  ![v1617.toNat, 32]
def k2_off313 (v1608 : BitVec 32) : Fin 2 → Nat :=
  let v1621 : Index := Scalar.indexCast v1608
  let c48_427 : Index := 48#32
  ![v1621.toNat, 48]

def k2_chk88 (v1608 : BitVec 32) : Prop :=
  (∀ a, (k2_off310 v1608) a + S1x16.size a ≤ S1000x64.size a) ∧
  (∀ a, (k2_off311 v1608) a + S1x16.size a ≤ S1000x64.size a) ∧
  (∀ a, (k2_off312 v1608) a + S1x16.size a ≤ S1000x64.size a) ∧
  (∀ a, (k2_off313 v1608) a + S1x16.size a ≤ S1000x64.size a)
theorem k2_off310_inb : ∀ (v1608 : BitVec 32) (k2_hw88 : k2_chk88 v1608), ∀ a, (k2_off310 v1608) a + S1x16.size a ≤ S1000x64.size a := fun v1608 k2_hw88 => k2_hw88.1
theorem k2_off311_inb : ∀ (v1608 : BitVec 32) (k2_hw88 : k2_chk88 v1608), ∀ a, (k2_off311 v1608) a + S1x16.size a ≤ S1000x64.size a := fun v1608 k2_hw88 => k2_hw88.2.1
theorem k2_off312_inb : ∀ (v1608 : BitVec 32) (k2_hw88 : k2_chk88 v1608), ∀ a, (k2_off312 v1608) a + S1x16.size a ≤ S1000x64.size a := fun v1608 k2_hw88 => k2_hw88.2.2.1
theorem k2_off313_inb : ∀ (v1608 : BitVec 32) (k2_hw88 : k2_chk88 v1608), ∀ a, (k2_off313 v1608) a + S1x16.size a ≤ S1000x64.size a := fun v1608 k2_hw88 => k2_hw88.2.2.2

def k2_off314 (v1626 : BitVec 32) : Fin 2 → Nat :=
  let v1627 : Index := Scalar.indexCast v1626
  let c0_428 : Index := 0#32
  ![v1627.toNat, 0]

def k2_off315 (v1626 : BitVec 32) : Fin 2 → Nat :=
  let v1631 : Index := Scalar.indexCast v1626
  let c16_429 : Index := 16#32
  ![v1631.toNat, 16]
def k2_off316 (v1626 : BitVec 32) : Fin 2 → Nat :=
  let v1635 : Index := Scalar.indexCast v1626
  let c32_430 : Index := 32#32
  ![v1635.toNat, 32]
def k2_off317 (v1626 : BitVec 32) : Fin 2 → Nat :=
  let v1639 : Index := Scalar.indexCast v1626
  let c48_431 : Index := 48#32
  ![v1639.toNat, 48]

def k2_chk89 (v1626 : BitVec 32) : Prop :=
  (∀ a, (k2_off314 v1626) a + S1x16.size a ≤ S1000x64.size a) ∧
  (∀ a, (k2_off315 v1626) a + S1x16.size a ≤ S1000x64.size a) ∧
  (∀ a, (k2_off316 v1626) a + S1x16.size a ≤ S1000x64.size a) ∧
  (∀ a, (k2_off317 v1626) a + S1x16.size a ≤ S1000x64.size a)
theorem k2_off314_inb : ∀ (v1626 : BitVec 32) (k2_hw89 : k2_chk89 v1626), ∀ a, (k2_off314 v1626) a + S1x16.size a ≤ S1000x64.size a := fun v1626 k2_hw89 => k2_hw89.1
theorem k2_off315_inb : ∀ (v1626 : BitVec 32) (k2_hw89 : k2_chk89 v1626), ∀ a, (k2_off315 v1626) a + S1x16.size a ≤ S1000x64.size a := fun v1626 k2_hw89 => k2_hw89.2.1
theorem k2_off316_inb : ∀ (v1626 : BitVec 32) (k2_hw89 : k2_chk89 v1626), ∀ a, (k2_off316 v1626) a + S1x16.size a ≤ S1000x64.size a := fun v1626 k2_hw89 => k2_hw89.2.2.1
theorem k2_off317_inb : ∀ (v1626 : BitVec 32) (k2_hw89 : k2_chk89 v1626), ∀ a, (k2_off317 v1626) a + S1x16.size a ≤ S1000x64.size a := fun v1626 k2_hw89 => k2_hw89.2.2.2

def k2_off318 (v1644 : BitVec 32) : Fin 2 → Nat :=
  let v1645 : Index := Scalar.indexCast v1644
  let c0_432 : Index := 0#32
  ![v1645.toNat, 0]

def k2_off319 (v1644 : BitVec 32) : Fin 2 → Nat :=
  let v1649 : Index := Scalar.indexCast v1644
  let c16_433 : Index := 16#32
  ![v1649.toNat, 16]
def k2_off320 (v1644 : BitVec 32) : Fin 2 → Nat :=
  let v1653 : Index := Scalar.indexCast v1644
  let c32_434 : Index := 32#32
  ![v1653.toNat, 32]
def k2_off321 (v1644 : BitVec 32) : Fin 2 → Nat :=
  let v1657 : Index := Scalar.indexCast v1644
  let c48_435 : Index := 48#32
  ![v1657.toNat, 48]

def k2_chk90 (v1644 : BitVec 32) : Prop :=
  (∀ a, (k2_off318 v1644) a + S1x16.size a ≤ S1000x64.size a) ∧
  (∀ a, (k2_off319 v1644) a + S1x16.size a ≤ S1000x64.size a) ∧
  (∀ a, (k2_off320 v1644) a + S1x16.size a ≤ S1000x64.size a) ∧
  (∀ a, (k2_off321 v1644) a + S1x16.size a ≤ S1000x64.size a)
theorem k2_off318_inb : ∀ (v1644 : BitVec 32) (k2_hw90 : k2_chk90 v1644), ∀ a, (k2_off318 v1644) a + S1x16.size a ≤ S1000x64.size a := fun v1644 k2_hw90 => k2_hw90.1
theorem k2_off319_inb : ∀ (v1644 : BitVec 32) (k2_hw90 : k2_chk90 v1644), ∀ a, (k2_off319 v1644) a + S1x16.size a ≤ S1000x64.size a := fun v1644 k2_hw90 => k2_hw90.2.1
theorem k2_off320_inb : ∀ (v1644 : BitVec 32) (k2_hw90 : k2_chk90 v1644), ∀ a, (k2_off320 v1644) a + S1x16.size a ≤ S1000x64.size a := fun v1644 k2_hw90 => k2_hw90.2.2.1
theorem k2_off321_inb : ∀ (v1644 : BitVec 32) (k2_hw90 : k2_chk90 v1644), ∀ a, (k2_off321 v1644) a + S1x16.size a ≤ S1000x64.size a := fun v1644 k2_hw90 => k2_hw90.2.2.2

def k2_off322 (v1662 : BitVec 32) : Fin 2 → Nat :=
  let v1663 : Index := Scalar.indexCast v1662
  let c0_436 : Index := 0#32
  ![v1663.toNat, 0]

def k2_off323 (v1662 : BitVec 32) : Fin 2 → Nat :=
  let v1667 : Index := Scalar.indexCast v1662
  let c16_437 : Index := 16#32
  ![v1667.toNat, 16]
def k2_off324 (v1662 : BitVec 32) : Fin 2 → Nat :=
  let v1671 : Index := Scalar.indexCast v1662
  let c32_438 : Index := 32#32
  ![v1671.toNat, 32]
def k2_off325 (v1662 : BitVec 32) : Fin 2 → Nat :=
  let v1675 : Index := Scalar.indexCast v1662
  let c48_439 : Index := 48#32
  ![v1675.toNat, 48]

def k2_chk91 (v1662 : BitVec 32) : Prop :=
  (∀ a, (k2_off322 v1662) a + S1x16.size a ≤ S1000x64.size a) ∧
  (∀ a, (k2_off323 v1662) a + S1x16.size a ≤ S1000x64.size a) ∧
  (∀ a, (k2_off324 v1662) a + S1x16.size a ≤ S1000x64.size a) ∧
  (∀ a, (k2_off325 v1662) a + S1x16.size a ≤ S1000x64.size a)
theorem k2_off322_inb : ∀ (v1662 : BitVec 32) (k2_hw91 : k2_chk91 v1662), ∀ a, (k2_off322 v1662) a + S1x16.size a ≤ S1000x64.size a := fun v1662 k2_hw91 => k2_hw91.1
theorem k2_off323_inb : ∀ (v1662 : BitVec 32) (k2_hw91 : k2_chk91 v1662), ∀ a, (k2_off323 v1662) a + S1x16.size a ≤ S1000x64.size a := fun v1662 k2_hw91 => k2_hw91.2.1
theorem k2_off324_inb : ∀ (v1662 : BitVec 32) (k2_hw91 : k2_chk91 v1662), ∀ a, (k2_off324 v1662) a + S1x16.size a ≤ S1000x64.size a := fun v1662 k2_hw91 => k2_hw91.2.2.1
theorem k2_off325_inb : ∀ (v1662 : BitVec 32) (k2_hw91 : k2_chk91 v1662), ∀ a, (k2_off325 v1662) a + S1x16.size a ≤ S1000x64.size a := fun v1662 k2_hw91 => k2_hw91.2.2.2

def k2_off326 (v1680 : BitVec 32) : Fin 2 → Nat :=
  let v1681 : Index := Scalar.indexCast v1680
  let c0_440 : Index := 0#32
  ![v1681.toNat, 0]

def k2_off327 (v1680 : BitVec 32) : Fin 2 → Nat :=
  let v1685 : Index := Scalar.indexCast v1680
  let c16_441 : Index := 16#32
  ![v1685.toNat, 16]
def k2_off328 (v1680 : BitVec 32) : Fin 2 → Nat :=
  let v1689 : Index := Scalar.indexCast v1680
  let c32_442 : Index := 32#32
  ![v1689.toNat, 32]
def k2_off329 (v1680 : BitVec 32) : Fin 2 → Nat :=
  let v1693 : Index := Scalar.indexCast v1680
  let c48_443 : Index := 48#32
  ![v1693.toNat, 48]

def k2_chk92 (v1680 : BitVec 32) : Prop :=
  (∀ a, (k2_off326 v1680) a + S1x16.size a ≤ S1000x64.size a) ∧
  (∀ a, (k2_off327 v1680) a + S1x16.size a ≤ S1000x64.size a) ∧
  (∀ a, (k2_off328 v1680) a + S1x16.size a ≤ S1000x64.size a) ∧
  (∀ a, (k2_off329 v1680) a + S1x16.size a ≤ S1000x64.size a)
theorem k2_off326_inb : ∀ (v1680 : BitVec 32) (k2_hw92 : k2_chk92 v1680), ∀ a, (k2_off326 v1680) a + S1x16.size a ≤ S1000x64.size a := fun v1680 k2_hw92 => k2_hw92.1
theorem k2_off327_inb : ∀ (v1680 : BitVec 32) (k2_hw92 : k2_chk92 v1680), ∀ a, (k2_off327 v1680) a + S1x16.size a ≤ S1000x64.size a := fun v1680 k2_hw92 => k2_hw92.2.1
theorem k2_off328_inb : ∀ (v1680 : BitVec 32) (k2_hw92 : k2_chk92 v1680), ∀ a, (k2_off328 v1680) a + S1x16.size a ≤ S1000x64.size a := fun v1680 k2_hw92 => k2_hw92.2.2.1
theorem k2_off329_inb : ∀ (v1680 : BitVec 32) (k2_hw92 : k2_chk92 v1680), ∀ a, (k2_off329 v1680) a + S1x16.size a ≤ S1000x64.size a := fun v1680 k2_hw92 => k2_hw92.2.2.2

def k2_off330 (k2_t2 : Fin k2_t2_loop.trips) (c0_i32_447 : BitVec 32) : Fin 1 → Nat :=
  let c0_i32_60 : BitVec 32 := 0#32
  let c0_i32_37 : BitVec 32 := 0#32
  let c1_i32_38 : BitVec 32 := 1#32
  let arg16 : BitVec 32 := Scf.iv c0_i32_37 c1_i32_38 k2_t2
  let c1_i32_59 : BitVec 32 := 1#32
  let v102 : BitVec 32 := Scalar.muli arg16 c1_i32_59
  let v103 : BitVec 32 := Scalar.addi c0_i32_60 v102
  let c4_i32_445 : BitVec 32 := 4#32
  let v1699 : BitVec 32 := Scalar.muli v103 c4_i32_445
  let c3_i32 : BitVec 32 := 3#32
  let v1700 : BitVec 32 := Scalar.addi v1699 c3_i32
  let c64_i32_446 : BitVec 32 := 64#32
  let v1701 : BitVec 32 := Scalar.muli v1700 c64_i32_446
  let v1702 : BitVec 32 := Scalar.addi v1701 c0_i32_447
  let v1703 : Index := Scalar.indexCast v1702
  ![v1703.toNat]
def k2_off331 (i : grid2.Coords) (k2_t1 : Fin k2_t1_loop.trips) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32_40 : BitVec 32 := 512#32
  let v72 : BitVec 32 := Scalar.muli v28 c512_i32_40
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let v58 : BitVec 32 := Scalar.addi v57 c0_i32_29
  let c16_i32_41 : BitVec 32 := 16#32
  let v73 : BitVec 32 := Scalar.muli v58 c16_i32_41
  let v74 : BitVec 32 := Scalar.addi v72 v73
  let c64_i32_42 : BitVec 32 := 64#32
  let v75 : BitVec 32 := Scalar.muli v74 c64_i32_42
  ![v11.toNat, v75.toNat]
def k2_cond3 (k2_t1 : Fin k2_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_44 : BitVec 32 := 2#32
  let v81 : BitVec 32 := Scalar.addi v80 c2_i32_44
  let c1_i32_45 : BitVec 32 := 1#32
  let v82 : BitVec 32 := Scalar.subi v81 c1_i32_45
  let c32_i32_46 : BitVec 32 := 32#32
  let v83 : BitVec 1 := Scalar.cmpi .slt v82 c32_i32_46
  let v84 : BitVec 32 := Scalar.extui v83
  let c0_i32_47 : BitVec 32 := 0#32
  let v85 : BitVec 1 := Scalar.cmpi .ne v84 c0_i32_47
  v85

def k2_off332 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_59 : BitVec 32 := 2#32
  let v102 : BitVec 32 := Scalar.addi v80 c2_i32_59
  let c1_i32_60 : BitVec 32 := 1#32
  let v103 : BitVec 32 := Scalar.subi v102 c1_i32_60
  let c0_i32_61 : BitVec 32 := 0#32
  ![v28.toNat, v103.toNat, 0]
def k2_cond4 (k2_t1 : Fin k2_t1_loop.trips) : BitVec 1 :=
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_50 : BitVec 32 := 2#32
  let v90 : BitVec 1 := Scalar.cmpi .sge v80 c2_i32_50
  let v91 : BitVec 32 := Scalar.extui v90
  let c0_i32_51 : BitVec 32 := 0#32
  let v92 : BitVec 1 := Scalar.cmpi .ne v91 c0_i32_51
  v92

def k2_off333 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32_60 : BitVec 32 := 512#32
  let v103 : BitVec 32 := Scalar.muli v28 c512_i32_60
  let c0_i32_28 : BitVec 32 := 0#32
  let c0_i32_22 : BitVec 32 := 0#32
  let c1_i32_23 : BitVec 32 := 1#32
  let arg15 : BitVec 32 := Scf.iv c0_i32_22 c1_i32_23 k2_t1
  let c2_i32_27 : BitVec 32 := 2#32
  let v56 : BitVec 32 := Scalar.muli arg15 c2_i32_27
  let v57 : BitVec 32 := Scalar.addi c0_i32_28 v56
  let c1_i32_43 : BitVec 32 := 1#32
  let v80 : BitVec 32 := Scalar.addi v57 c1_i32_43
  let c2_i32_59 : BitVec 32 := 2#32
  let v102 : BitVec 32 := Scalar.subi v80 c2_i32_59
  let c16_i32_61 : BitVec 32 := 16#32
  let v104 : BitVec 32 := Scalar.muli v102 c16_i32_61
  let v105 : BitVec 32 := Scalar.addi v103 v104
  let c64_i32_62 : BitVec 32 := 64#32
  let v106 : BitVec 32 := Scalar.muli v105 c64_i32_62
  ![v11.toNat, v106.toNat]
@[reducible] def k2_t3_loop : Scf.Loop 32 :=
  let c0_i32_52 : BitVec 32 := 0#32
  let c4_i32_53 : BitVec 32 := 4#32
  let v93 : BitVec 32 := Scalar.addi c0_i32_52 c4_i32_53
  let c1_i32_54 : BitVec 32 := 1#32
  ⟨c0_i32_52, v93, c1_i32_54⟩
def k2_off334 (k2_t3 : Fin k2_t3_loop.trips) (c0_i32_61 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k2_t3
  let c1_i32_59 : BitVec 32 := 1#32
  let v102 : BitVec 32 := Scalar.muli arg16 c1_i32_59
  let v103 : BitVec 32 := Scalar.addi c0_i32_60 v102
  let c80_i32 : BitVec 32 := 80#32
  let v104 : BitVec 32 := Scalar.muli v103 c80_i32
  let v105 : BitVec 32 := Scalar.addi v104 c0_i32_61
  let v106 : Index := Scalar.indexCast v105
  ![v106.toNat]
def k2_off335 (v130 : BitVec 32) : Fin 2 → Nat :=
  let v131 : Index := Scalar.indexCast v130
  let c0 : Index := 0#32
  ![v131.toNat, 0]

def k2_chk93 (v130 : BitVec 32) : Prop :=
  (∀ a, (k2_off335 v130) a + S1x16.size a ≤ S1000x64.size a)
theorem k2_off335_inb : ∀ (v130 : BitVec 32) (k2_hw93 : k2_chk93 v130), ∀ a, (k2_off335 v130) a + S1x16.size a ≤ S1000x64.size a := fun v130 k2_hw93 => k2_hw93

def k2_off336 (v135 : BitVec 32) : Fin 2 → Nat :=
  let v136 : Index := Scalar.indexCast v135
  let c16 : Index := 16#32
  ![v136.toNat, 16]

def k2_chk94 (v135 : BitVec 32) : Prop :=
  (∀ a, (k2_off336 v135) a + S1x16.size a ≤ S1000x64.size a)
theorem k2_off336_inb : ∀ (v135 : BitVec 32) (k2_hw94 : k2_chk94 v135), ∀ a, (k2_off336 v135) a + S1x16.size a ≤ S1000x64.size a := fun v135 k2_hw94 => k2_hw94

def k2_off337 (v140 : BitVec 32) : Fin 2 → Nat :=
  let v141 : Index := Scalar.indexCast v140
  let c32 : Index := 32#32
  ![v141.toNat, 32]

def k2_chk95 (v140 : BitVec 32) : Prop :=
  (∀ a, (k2_off337 v140) a + S1x16.size a ≤ S1000x64.size a)
theorem k2_off337_inb : ∀ (v140 : BitVec 32) (k2_hw95 : k2_chk95 v140), ∀ a, (k2_off337 v140) a + S1x16.size a ≤ S1000x64.size a := fun v140 k2_hw95 => k2_hw95

def k2_off338 (v145 : BitVec 32) : Fin 2 → Nat :=
  let v146 : Index := Scalar.indexCast v145
  let c48 : Index := 48#32
  ![v146.toNat, 48]

def k2_chk96 (v145 : BitVec 32) : Prop :=
  (∀ a, (k2_off338 v145) a + S1x16.size a ≤ S1000x64.size a)
theorem k2_off338_inb : ∀ (v145 : BitVec 32) (k2_hw96 : k2_chk96 v145), ∀ a, (k2_off338 v145) a + S1x16.size a ≤ S1000x64.size a := fun v145 k2_hw96 => k2_hw96

def k2_off339 (v150 : BitVec 32) : Fin 2 → Nat :=
  let v151 : Index := Scalar.indexCast v150
  let c0_69 : Index := 0#32
  ![v151.toNat, 0]

def k2_off340 (v150 : BitVec 32) : Fin 2 → Nat :=
  let v155 : Index := Scalar.indexCast v150
  let c16_70 : Index := 16#32
  ![v155.toNat, 16]
def k2_off341 (v150 : BitVec 32) : Fin 2 → Nat :=
  let v159 : Index := Scalar.indexCast v150
  let c32_71 : Index := 32#32
  ![v159.toNat, 32]
def k2_off342 (v150 : BitVec 32) : Fin 2 → Nat :=
  let v163 : Index := Scalar.indexCast v150
  let c48_72 : Index := 48#32
  ![v163.toNat, 48]

def k2_chk97 (v150 : BitVec 32) : Prop :=
  (∀ a, (k2_off339 v150) a + S1x16.size a ≤ S1000x64.size a) ∧
  (∀ a, (k2_off340 v150) a + S1x16.size a ≤ S1000x64.size a) ∧
  (∀ a, (k2_off341 v150) a + S1x16.size a ≤ S1000x64.size a) ∧
  (∀ a, (k2_off342 v150) a + S1x16.size a ≤ S1000x64.size a)
theorem k2_off339_inb : ∀ (v150 : BitVec 32) (k2_hw97 : k2_chk97 v150), ∀ a, (k2_off339 v150) a + S1x16.size a ≤ S1000x64.size a := fun v150 k2_hw97 => k2_hw97.1
theorem k2_off340_inb : ∀ (v150 : BitVec 32) (k2_hw97 : k2_chk97 v150), ∀ a, (k2_off340 v150) a + S1x16.size a ≤ S1000x64.size a := fun v150 k2_hw97 => k2_hw97.2.1
theorem k2_off341_inb : ∀ (v150 : BitVec 32) (k2_hw97 : k2_chk97 v150), ∀ a, (k2_off341 v150) a + S1x16.size a ≤ S1000x64.size a := fun v150 k2_hw97 => k2_hw97.2.2.1
theorem k2_off342_inb : ∀ (v150 : BitVec 32) (k2_hw97 : k2_chk97 v150), ∀ a, (k2_off342 v150) a + S1x16.size a ≤ S1000x64.size a := fun v150 k2_hw97 => k2_hw97.2.2.2

def k2_off343 (v168 : BitVec 32) : Fin 2 → Nat :=
  let v169 : Index := Scalar.indexCast v168
  let c0_73 : Index := 0#32
  ![v169.toNat, 0]

def k2_off344 (v168 : BitVec 32) : Fin 2 → Nat :=
  let v173 : Index := Scalar.indexCast v168
  let c16_74 : Index := 16#32
  ![v173.toNat, 16]
def k2_off345 (v168 : BitVec 32) : Fin 2 → Nat :=
  let v177 : Index := Scalar.indexCast v168
  let c32_75 : Index := 32#32
  ![v177.toNat, 32]
def k2_off346 (v168 : BitVec 32) : Fin 2 → Nat :=
  let v181 : Index := Scalar.indexCast v168
  let c48_76 : Index := 48#32
  ![v181.toNat, 48]

def k2_chk98 (v168 : BitVec 32) : Prop :=
  (∀ a, (k2_off343 v168) a + S1x16.size a ≤ S1000x64.size a) ∧
  (∀ a, (k2_off344 v168) a + S1x16.size a ≤ S1000x64.size a) ∧
  (∀ a, (k2_off345 v168) a + S1x16.size a ≤ S1000x64.size a) ∧
  (∀ a, (k2_off346 v168) a + S1x16.size a ≤ S1000x64.size a)
theorem k2_off343_inb : ∀ (v168 : BitVec 32) (k2_hw98 : k2_chk98 v168), ∀ a, (k2_off343 v168) a + S1x16.size a ≤ S1000x64.size a := fun v168 k2_hw98 => k2_hw98.1
theorem k2_off344_inb : ∀ (v168 : BitVec 32) (k2_hw98 : k2_chk98 v168), ∀ a, (k2_off344 v168) a + S1x16.size a ≤ S1000x64.size a := fun v168 k2_hw98 => k2_hw98.2.1
theorem k2_off345_inb : ∀ (v168 : BitVec 32) (k2_hw98 : k2_chk98 v168), ∀ a, (k2_off345 v168) a + S1x16.size a ≤ S1000x64.size a := fun v168 k2_hw98 => k2_hw98.2.2.1
theorem k2_off346_inb : ∀ (v168 : BitVec 32) (k2_hw98 : k2_chk98 v168), ∀ a, (k2_off346 v168) a + S1x16.size a ≤ S1000x64.size a := fun v168 k2_hw98 => k2_hw98.2.2.2

def k2_off347 (v186 : BitVec 32) : Fin 2 → Nat :=
  let v187 : Index := Scalar.indexCast v186
  let c0_77 : Index := 0#32
  ![v187.toNat, 0]

def k2_off348 (v186 : BitVec 32) : Fin 2 → Nat :=
  let v191 : Index := Scalar.indexCast v186
  let c16_78 : Index := 16#32
  ![v191.toNat, 16]
def k2_off349 (v186 : BitVec 32) : Fin 2 → Nat :=
  let v195 : Index := Scalar.indexCast v186
  let c32_79 : Index := 32#32
  ![v195.toNat, 32]
def k2_off350 (v186 : BitVec 32) : Fin 2 → Nat :=
  let v199 : Index := Scalar.indexCast v186
  let c48_80 : Index := 48#32
  ![v199.toNat, 48]

def k2_chk99 (v186 : BitVec 32) : Prop :=
  (∀ a, (k2_off347 v186) a + S1x16.size a ≤ S1000x64.size a) ∧
  (∀ a, (k2_off348 v186) a + S1x16.size a ≤ S1000x64.size a) ∧
  (∀ a, (k2_off349 v186) a + S1x16.size a ≤ S1000x64.size a) ∧
  (∀ a, (k2_off350 v186) a + S1x16.size a ≤ S1000x64.size a)
theorem k2_off347_inb : ∀ (v186 : BitVec 32) (k2_hw99 : k2_chk99 v186), ∀ a, (k2_off347 v186) a + S1x16.size a ≤ S1000x64.size a := fun v186 k2_hw99 => k2_hw99.1
theorem k2_off348_inb : ∀ (v186 : BitVec 32) (k2_hw99 : k2_chk99 v186), ∀ a, (k2_off348 v186) a + S1x16.size a ≤ S1000x64.size a := fun v186 k2_hw99 => k2_hw99.2.1
theorem k2_off349_inb : ∀ (v186 : BitVec 32) (k2_hw99 : k2_chk99 v186), ∀ a, (k2_off349 v186) a + S1x16.size a ≤ S1000x64.size a := fun v186 k2_hw99 => k2_hw99.2.2.1
theorem k2_off350_inb : ∀ (v186 : BitVec 32) (k2_hw99 : k2_chk99 v186), ∀ a, (k2_off350 v186) a + S1x16.size a ≤ S1000x64.size a := fun v186 k2_hw99 => k2_hw99.2.2.2

def k2_off351 (v204 : BitVec 32) : Fin 2 → Nat :=
  let v205 : Index := Scalar.indexCast v204
  let c0_81 : Index := 0#32
  ![v205.toNat, 0]

def k2_off352 (v204 : BitVec 32) : Fin 2 → Nat :=
  let v209 : Index := Scalar.indexCast v204
  let c16_82 : Index := 16#32
  ![v209.toNat, 16]
def k2_off353 (v204 : BitVec 32) : Fin 2 → Nat :=
  let v213 : Index := Scalar.indexCast v204
  let c32_83 : Index := 32#32
  ![v213.toNat, 32]
def k2_off354 (v204 : BitVec 32) : Fin 2 → Nat :=
  let v217 : Index := Scalar.indexCast v204
  let c48_84 : Index := 48#32
  ![v217.toNat, 48]

def k2_chk100 (v204 : BitVec 32) : Prop :=
  (∀ a, (k2_off351 v204) a + S1x16.size a ≤ S1000x64.size a) ∧
  (∀ a, (k2_off352 v204) a + S1x16.size a ≤ S1000x64.size a) ∧
  (∀ a, (k2_off353 v204) a + S1x16.size a ≤ S1000x64.size a) ∧
  (∀ a, (k2_off354 v204) a + S1x16.size a ≤ S1000x64.size a)
theorem k2_off351_inb : ∀ (v204 : BitVec 32) (k2_hw100 : k2_chk100 v204), ∀ a, (k2_off351 v204) a + S1x16.size a ≤ S1000x64.size a := fun v204 k2_hw100 => k2_hw100.1
theorem k2_off352_inb : ∀ (v204 : BitVec 32) (k2_hw100 : k2_chk100 v204), ∀ a, (k2_off352 v204) a + S1x16.size a ≤ S1000x64.size a := fun v204 k2_hw100 => k2_hw100.2.1
theorem k2_off353_inb : ∀ (v204 : BitVec 32) (k2_hw100 : k2_chk100 v204), ∀ a, (k2_off353 v204) a + S1x16.size a ≤ S1000x64.size a := fun v204 k2_hw100 => k2_hw100.2.2.1
theorem k2_off354_inb : ∀ (v204 : BitVec 32) (k2_hw100 : k2_chk100 v204), ∀ a, (k2_off354 v204) a + S1x16.size a ≤ S1000x64.size a := fun v204 k2_hw100 => k2_hw100.2.2.2

def k2_off355 (v222 : BitVec 32) : Fin 2 → Nat :=
  let v223 : Index := Scalar.indexCast v222
  let c0_85 : Index := 0#32
  ![v223.toNat, 0]

def k2_off356 (v222 : BitVec 32) : Fin 2 → Nat :=
  let v227 : Index := Scalar.indexCast v222
  let c16_86 : Index := 16#32
  ![v227.toNat, 16]
def k2_off357 (v222 : BitVec 32) : Fin 2 → Nat :=
  let v231 : Index := Scalar.indexCast v222
  let c32_87 : Index := 32#32
  ![v231.toNat, 32]
def k2_off358 (v222 : BitVec 32) : Fin 2 → Nat :=
  let v235 : Index := Scalar.indexCast v222
  let c48_88 : Index := 48#32
  ![v235.toNat, 48]

def k2_chk101 (v222 : BitVec 32) : Prop :=
  (∀ a, (k2_off355 v222) a + S1x16.size a ≤ S1000x64.size a) ∧
  (∀ a, (k2_off356 v222) a + S1x16.size a ≤ S1000x64.size a) ∧
  (∀ a, (k2_off357 v222) a + S1x16.size a ≤ S1000x64.size a) ∧
  (∀ a, (k2_off358 v222) a + S1x16.size a ≤ S1000x64.size a)
theorem k2_off355_inb : ∀ (v222 : BitVec 32) (k2_hw101 : k2_chk101 v222), ∀ a, (k2_off355 v222) a + S1x16.size a ≤ S1000x64.size a := fun v222 k2_hw101 => k2_hw101.1
theorem k2_off356_inb : ∀ (v222 : BitVec 32) (k2_hw101 : k2_chk101 v222), ∀ a, (k2_off356 v222) a + S1x16.size a ≤ S1000x64.size a := fun v222 k2_hw101 => k2_hw101.2.1
theorem k2_off357_inb : ∀ (v222 : BitVec 32) (k2_hw101 : k2_chk101 v222), ∀ a, (k2_off357 v222) a + S1x16.size a ≤ S1000x64.size a := fun v222 k2_hw101 => k2_hw101.2.2.1
theorem k2_off358_inb : ∀ (v222 : BitVec 32) (k2_hw101 : k2_chk101 v222), ∀ a, (k2_off358 v222) a + S1x16.size a ≤ S1000x64.size a := fun v222 k2_hw101 => k2_hw101.2.2.2

def k2_off359 (v240 : BitVec 32) : Fin 2 → Nat :=
  let v241 : Index := Scalar.indexCast v240
  let c0_89 : Index := 0#32
  ![v241.toNat, 0]

def k2_off360 (v240 : BitVec 32) : Fin 2 → Nat :=
  let v245 : Index := Scalar.indexCast v240
  let c16_90 : Index := 16#32
  ![v245.toNat, 16]
def k2_off361 (v240 : BitVec 32) : Fin 2 → Nat :=
  let v249 : Index := Scalar.indexCast v240
  let c32_91 : Index := 32#32
  ![v249.toNat, 32]
def k2_off362 (v240 : BitVec 32) : Fin 2 → Nat :=
  let v253 : Index := Scalar.indexCast v240
  let c48_92 : Index := 48#32
  ![v253.toNat, 48]

def k2_chk102 (v240 : BitVec 32) : Prop :=
  (∀ a, (k2_off359 v240) a + S1x16.size a ≤ S1000x64.size a) ∧
  (∀ a, (k2_off360 v240) a + S1x16.size a ≤ S1000x64.size a) ∧
  (∀ a, (k2_off361 v240) a + S1x16.size a ≤ S1000x64.size a) ∧
  (∀ a, (k2_off362 v240) a + S1x16.size a ≤ S1000x64.size a)
theorem k2_off359_inb : ∀ (v240 : BitVec 32) (k2_hw102 : k2_chk102 v240), ∀ a, (k2_off359 v240) a + S1x16.size a ≤ S1000x64.size a := fun v240 k2_hw102 => k2_hw102.1
theorem k2_off360_inb : ∀ (v240 : BitVec 32) (k2_hw102 : k2_chk102 v240), ∀ a, (k2_off360 v240) a + S1x16.size a ≤ S1000x64.size a := fun v240 k2_hw102 => k2_hw102.2.1
theorem k2_off361_inb : ∀ (v240 : BitVec 32) (k2_hw102 : k2_chk102 v240), ∀ a, (k2_off361 v240) a + S1x16.size a ≤ S1000x64.size a := fun v240 k2_hw102 => k2_hw102.2.2.1
theorem k2_off362_inb : ∀ (v240 : BitVec 32) (k2_hw102 : k2_chk102 v240), ∀ a, (k2_off362 v240) a + S1x16.size a ≤ S1000x64.size a := fun v240 k2_hw102 => k2_hw102.2.2.2

def k2_off363 (v258 : BitVec 32) : Fin 2 → Nat :=
  let v259 : Index := Scalar.indexCast v258
  let c0_93 : Index := 0#32
  ![v259.toNat, 0]

def k2_off364 (v258 : BitVec 32) : Fin 2 → Nat :=
  let v263 : Index := Scalar.indexCast v258
  let c16_94 : Index := 16#32
  ![v263.toNat, 16]
def k2_off365 (v258 : BitVec 32) : Fin 2 → Nat :=
  let v267 : Index := Scalar.indexCast v258
  let c32_95 : Index := 32#32
  ![v267.toNat, 32]
def k2_off366 (v258 : BitVec 32) : Fin 2 → Nat :=
  let v271 : Index := Scalar.indexCast v258
  let c48_96 : Index := 48#32
  ![v271.toNat, 48]

def k2_chk103 (v258 : BitVec 32) : Prop :=
  (∀ a, (k2_off363 v258) a + S1x16.size a ≤ S1000x64.size a) ∧
  (∀ a, (k2_off364 v258) a + S1x16.size a ≤ S1000x64.size a) ∧
  (∀ a, (k2_off365 v258) a + S1x16.size a ≤ S1000x64.size a) ∧
  (∀ a, (k2_off366 v258) a + S1x16.size a ≤ S1000x64.size a)
theorem k2_off363_inb : ∀ (v258 : BitVec 32) (k2_hw103 : k2_chk103 v258), ∀ a, (k2_off363 v258) a + S1x16.size a ≤ S1000x64.size a := fun v258 k2_hw103 => k2_hw103.1
theorem k2_off364_inb : ∀ (v258 : BitVec 32) (k2_hw103 : k2_chk103 v258), ∀ a, (k2_off364 v258) a + S1x16.size a ≤ S1000x64.size a := fun v258 k2_hw103 => k2_hw103.2.1
theorem k2_off365_inb : ∀ (v258 : BitVec 32) (k2_hw103 : k2_chk103 v258), ∀ a, (k2_off365 v258) a + S1x16.size a ≤ S1000x64.size a := fun v258 k2_hw103 => k2_hw103.2.2.1
theorem k2_off366_inb : ∀ (v258 : BitVec 32) (k2_hw103 : k2_chk103 v258), ∀ a, (k2_off366 v258) a + S1x16.size a ≤ S1000x64.size a := fun v258 k2_hw103 => k2_hw103.2.2.2

def k2_off367 (v276 : BitVec 32) : Fin 2 → Nat :=
  let v277 : Index := Scalar.indexCast v276
  let c0_97 : Index := 0#32
  ![v277.toNat, 0]

def k2_off368 (v276 : BitVec 32) : Fin 2 → Nat :=
  let v281 : Index := Scalar.indexCast v276
  let c16_98 : Index := 16#32
  ![v281.toNat, 16]
def k2_off369 (v276 : BitVec 32) : Fin 2 → Nat :=
  let v285 : Index := Scalar.indexCast v276
  let c32_99 : Index := 32#32
  ![v285.toNat, 32]
def k2_off370 (v276 : BitVec 32) : Fin 2 → Nat :=
  let v289 : Index := Scalar.indexCast v276
  let c48_100 : Index := 48#32
  ![v289.toNat, 48]

def k2_chk104 (v276 : BitVec 32) : Prop :=
  (∀ a, (k2_off367 v276) a + S1x16.size a ≤ S1000x64.size a) ∧
  (∀ a, (k2_off368 v276) a + S1x16.size a ≤ S1000x64.size a) ∧
  (∀ a, (k2_off369 v276) a + S1x16.size a ≤ S1000x64.size a) ∧
  (∀ a, (k2_off370 v276) a + S1x16.size a ≤ S1000x64.size a)
theorem k2_off367_inb : ∀ (v276 : BitVec 32) (k2_hw104 : k2_chk104 v276), ∀ a, (k2_off367 v276) a + S1x16.size a ≤ S1000x64.size a := fun v276 k2_hw104 => k2_hw104.1
theorem k2_off368_inb : ∀ (v276 : BitVec 32) (k2_hw104 : k2_chk104 v276), ∀ a, (k2_off368 v276) a + S1x16.size a ≤ S1000x64.size a := fun v276 k2_hw104 => k2_hw104.2.1
theorem k2_off369_inb : ∀ (v276 : BitVec 32) (k2_hw104 : k2_chk104 v276), ∀ a, (k2_off369 v276) a + S1x16.size a ≤ S1000x64.size a := fun v276 k2_hw104 => k2_hw104.2.2.1
theorem k2_off370_inb : ∀ (v276 : BitVec 32) (k2_hw104 : k2_chk104 v276), ∀ a, (k2_off370 v276) a + S1x16.size a ≤ S1000x64.size a := fun v276 k2_hw104 => k2_hw104.2.2.2

def k2_off371 (v294 : BitVec 32) : Fin 2 → Nat :=
  let v295 : Index := Scalar.indexCast v294
  let c0_101 : Index := 0#32
  ![v295.toNat, 0]

def k2_off372 (v294 : BitVec 32) : Fin 2 → Nat :=
  let v299 : Index := Scalar.indexCast v294
  let c16_102 : Index := 16#32
  ![v299.toNat, 16]
def k2_off373 (v294 : BitVec 32) : Fin 2 → Nat :=
  let v303 : Index := Scalar.indexCast v294
  let c32_103 : Index := 32#32
  ![v303.toNat, 32]
def k2_off374 (v294 : BitVec 32) : Fin 2 → Nat :=
  let v307 : Index := Scalar.indexCast v294
  let c48_104 : Index := 48#32
  ![v307.toNat, 48]

def k2_chk105 (v294 : BitVec 32) : Prop :=
  (∀ a, (k2_off371 v294) a + S1x16.size a ≤ S1000x64.size a) ∧
  (∀ a, (k2_off372 v294) a + S1x16.size a ≤ S1000x64.size a) ∧
  (∀ a, (k2_off373 v294) a + S1x16.size a ≤ S1000x64.size a) ∧
  (∀ a, (k2_off374 v294) a + S1x16.size a ≤ S1000x64.size a)
theorem k2_off371_inb : ∀ (v294 : BitVec 32) (k2_hw105 : k2_chk105 v294), ∀ a, (k2_off371 v294) a + S1x16.size a ≤ S1000x64.size a := fun v294 k2_hw105 => k2_hw105.1
theorem k2_off372_inb : ∀ (v294 : BitVec 32) (k2_hw105 : k2_chk105 v294), ∀ a, (k2_off372 v294) a + S1x16.size a ≤ S1000x64.size a := fun v294 k2_hw105 => k2_hw105.2.1
theorem k2_off373_inb : ∀ (v294 : BitVec 32) (k2_hw105 : k2_chk105 v294), ∀ a, (k2_off373 v294) a + S1x16.size a ≤ S1000x64.size a := fun v294 k2_hw105 => k2_hw105.2.2.1
theorem k2_off374_inb : ∀ (v294 : BitVec 32) (k2_hw105 : k2_chk105 v294), ∀ a, (k2_off374 v294) a + S1x16.size a ≤ S1000x64.size a := fun v294 k2_hw105 => k2_hw105.2.2.2

def k2_off375 (v312 : BitVec 32) : Fin 2 → Nat :=
  let v313 : Index := Scalar.indexCast v312
  let c0_105 : Index := 0#32
  ![v313.toNat, 0]

def k2_off376 (v312 : BitVec 32) : Fin 2 → Nat :=
  let v317 : Index := Scalar.indexCast v312
  let c16_106 : Index := 16#32
  ![v317.toNat, 16]
def k2_off377 (v312 : BitVec 32) : Fin 2 → Nat :=
  let v321 : Index := Scalar.indexCast v312
  let c32_107 : Index := 32#32
  ![v321.toNat, 32]
def k2_off378 (v312 : BitVec 32) : Fin 2 → Nat :=
  let v325 : Index := Scalar.indexCast v312
  let c48_108 : Index := 48#32
  ![v325.toNat, 48]

def k2_chk106 (v312 : BitVec 32) : Prop :=
  (∀ a, (k2_off375 v312) a + S1x16.size a ≤ S1000x64.size a) ∧
  (∀ a, (k2_off376 v312) a + S1x16.size a ≤ S1000x64.size a) ∧
  (∀ a, (k2_off377 v312) a + S1x16.size a ≤ S1000x64.size a) ∧
  (∀ a, (k2_off378 v312) a + S1x16.size a ≤ S1000x64.size a)
theorem k2_off375_inb : ∀ (v312 : BitVec 32) (k2_hw106 : k2_chk106 v312), ∀ a, (k2_off375 v312) a + S1x16.size a ≤ S1000x64.size a := fun v312 k2_hw106 => k2_hw106.1
theorem k2_off376_inb : ∀ (v312 : BitVec 32) (k2_hw106 : k2_chk106 v312), ∀ a, (k2_off376 v312) a + S1x16.size a ≤ S1000x64.size a := fun v312 k2_hw106 => k2_hw106.2.1
theorem k2_off377_inb : ∀ (v312 : BitVec 32) (k2_hw106 : k2_chk106 v312), ∀ a, (k2_off377 v312) a + S1x16.size a ≤ S1000x64.size a := fun v312 k2_hw106 => k2_hw106.2.2.1
theorem k2_off378_inb : ∀ (v312 : BitVec 32) (k2_hw106 : k2_chk106 v312), ∀ a, (k2_off378 v312) a + S1x16.size a ≤ S1000x64.size a := fun v312 k2_hw106 => k2_hw106.2.2.2

def k2_off379 (v330 : BitVec 32) : Fin 2 → Nat :=
  let v331 : Index := Scalar.indexCast v330
  let c0_109 : Index := 0#32
  ![v331.toNat, 0]

def k2_off380 (v330 : BitVec 32) : Fin 2 → Nat :=
  let v335 : Index := Scalar.indexCast v330
  let c16_110 : Index := 16#32
  ![v335.toNat, 16]
def k2_off381 (v330 : BitVec 32) : Fin 2 → Nat :=
  let v339 : Index := Scalar.indexCast v330
  let c32_111 : Index := 32#32
  ![v339.toNat, 32]
def k2_off382 (v330 : BitVec 32) : Fin 2 → Nat :=
  let v343 : Index := Scalar.indexCast v330
  let c48_112 : Index := 48#32
  ![v343.toNat, 48]

def k2_chk107 (v330 : BitVec 32) : Prop :=
  (∀ a, (k2_off379 v330) a + S1x16.size a ≤ S1000x64.size a) ∧
  (∀ a, (k2_off380 v330) a + S1x16.size a ≤ S1000x64.size a) ∧
  (∀ a, (k2_off381 v330) a + S1x16.size a ≤ S1000x64.size a) ∧
  (∀ a, (k2_off382 v330) a + S1x16.size a ≤ S1000x64.size a)
theorem k2_off379_inb : ∀ (v330 : BitVec 32) (k2_hw107 : k2_chk107 v330), ∀ a, (k2_off379 v330) a + S1x16.size a ≤ S1000x64.size a := fun v330 k2_hw107 => k2_hw107.1
theorem k2_off380_inb : ∀ (v330 : BitVec 32) (k2_hw107 : k2_chk107 v330), ∀ a, (k2_off380 v330) a + S1x16.size a ≤ S1000x64.size a := fun v330 k2_hw107 => k2_hw107.2.1
theorem k2_off381_inb : ∀ (v330 : BitVec 32) (k2_hw107 : k2_chk107 v330), ∀ a, (k2_off381 v330) a + S1x16.size a ≤ S1000x64.size a := fun v330 k2_hw107 => k2_hw107.2.2.1
theorem k2_off382_inb : ∀ (v330 : BitVec 32) (k2_hw107 : k2_chk107 v330), ∀ a, (k2_off382 v330) a + S1x16.size a ≤ S1000x64.size a := fun v330 k2_hw107 => k2_hw107.2.2.2

def k2_off383 (v348 : BitVec 32) : Fin 2 → Nat :=
  let v349 : Index := Scalar.indexCast v348
  let c0_113 : Index := 0#32
  ![v349.toNat, 0]

def k2_off384 (v348 : BitVec 32) : Fin 2 → Nat :=
  let v353 : Index := Scalar.indexCast v348
  let c16_114 : Index := 16#32
  ![v353.toNat, 16]
def k2_off385 (v348 : BitVec 32) : Fin 2 → Nat :=
  let v357 : Index := Scalar.indexCast v348
  let c32_115 : Index := 32#32
  ![v357.toNat, 32]
def k2_off386 (v348 : BitVec 32) : Fin 2 → Nat :=
  let v361 : Index := Scalar.indexCast v348
  let c48_116 : Index := 48#32
  ![v361.toNat, 48]

def k2_chk108 (v348 : BitVec 32) : Prop :=
  (∀ a, (k2_off383 v348) a + S1x16.size a ≤ S1000x64.size a) ∧
  (∀ a, (k2_off384 v348) a + S1x16.size a ≤ S1000x64.size a) ∧
  (∀ a, (k2_off385 v348) a + S1x16.size a ≤ S1000x64.size a) ∧
  (∀ a, (k2_off386 v348) a + S1x16.size a ≤ S1000x64.size a)
theorem k2_off383_inb : ∀ (v348 : BitVec 32) (k2_hw108 : k2_chk108 v348), ∀ a, (k2_off383 v348) a + S1x16.size a ≤ S1000x64.size a := fun v348 k2_hw108 => k2_hw108.1
theorem k2_off384_inb : ∀ (v348 : BitVec 32) (k2_hw108 : k2_chk108 v348), ∀ a, (k2_off384 v348) a + S1x16.size a ≤ S1000x64.size a := fun v348 k2_hw108 => k2_hw108.2.1
theorem k2_off385_inb : ∀ (v348 : BitVec 32) (k2_hw108 : k2_chk108 v348), ∀ a, (k2_off385 v348) a + S1x16.size a ≤ S1000x64.size a := fun v348 k2_hw108 => k2_hw108.2.2.1
theorem k2_off386_inb : ∀ (v348 : BitVec 32) (k2_hw108 : k2_chk108 v348), ∀ a, (k2_off386 v348) a + S1x16.size a ≤ S1000x64.size a := fun v348 k2_hw108 => k2_hw108.2.2.2

def k2_off387 (v366 : BitVec 32) : Fin 2 → Nat :=
  let v367 : Index := Scalar.indexCast v366
  let c0_117 : Index := 0#32
  ![v367.toNat, 0]

def k2_off388 (v366 : BitVec 32) : Fin 2 → Nat :=
  let v371 : Index := Scalar.indexCast v366
  let c16_118 : Index := 16#32
  ![v371.toNat, 16]
def k2_off389 (v366 : BitVec 32) : Fin 2 → Nat :=
  let v375 : Index := Scalar.indexCast v366
  let c32_119 : Index := 32#32
  ![v375.toNat, 32]
def k2_off390 (v366 : BitVec 32) : Fin 2 → Nat :=
  let v379 : Index := Scalar.indexCast v366
  let c48_120 : Index := 48#32
  ![v379.toNat, 48]

def k2_chk109 (v366 : BitVec 32) : Prop :=
  (∀ a, (k2_off387 v366) a + S1x16.size a ≤ S1000x64.size a) ∧
  (∀ a, (k2_off388 v366) a + S1x16.size a ≤ S1000x64.size a) ∧
  (∀ a, (k2_off389 v366) a + S1x16.size a ≤ S1000x64.size a) ∧
  (∀ a, (k2_off390 v366) a + S1x16.size a ≤ S1000x64.size a)
theorem k2_off387_inb : ∀ (v366 : BitVec 32) (k2_hw109 : k2_chk109 v366), ∀ a, (k2_off387 v366) a + S1x16.size a ≤ S1000x64.size a := fun v366 k2_hw109 => k2_hw109.1
theorem k2_off388_inb : ∀ (v366 : BitVec 32) (k2_hw109 : k2_chk109 v366), ∀ a, (k2_off388 v366) a + S1x16.size a ≤ S1000x64.size a := fun v366 k2_hw109 => k2_hw109.2.1
theorem k2_off389_inb : ∀ (v366 : BitVec 32) (k2_hw109 : k2_chk109 v366), ∀ a, (k2_off389 v366) a + S1x16.size a ≤ S1000x64.size a := fun v366 k2_hw109 => k2_hw109.2.2.1
theorem k2_off390_inb : ∀ (v366 : BitVec 32) (k2_hw109 : k2_chk109 v366), ∀ a, (k2_off390 v366) a + S1x16.size a ≤ S1000x64.size a := fun v366 k2_hw109 => k2_hw109.2.2.2

def k2_off391 (v384 : BitVec 32) : Fin 2 → Nat :=
  let v385 : Index := Scalar.indexCast v384
  let c0_121 : Index := 0#32
  ![v385.toNat, 0]

def k2_off392 (v384 : BitVec 32) : Fin 2 → Nat :=
  let v389 : Index := Scalar.indexCast v384
  let c16_122 : Index := 16#32
  ![v389.toNat, 16]
def k2_off393 (v384 : BitVec 32) : Fin 2 → Nat :=
  let v393 : Index := Scalar.indexCast v384
  let c32_123 : Index := 32#32
  ![v393.toNat, 32]
def k2_off394 (v384 : BitVec 32) : Fin 2 → Nat :=
  let v397 : Index := Scalar.indexCast v384
  let c48_124 : Index := 48#32
  ![v397.toNat, 48]

def k2_chk110 (v384 : BitVec 32) : Prop :=
  (∀ a, (k2_off391 v384) a + S1x16.size a ≤ S1000x64.size a) ∧
  (∀ a, (k2_off392 v384) a + S1x16.size a ≤ S1000x64.size a) ∧
  (∀ a, (k2_off393 v384) a + S1x16.size a ≤ S1000x64.size a) ∧
  (∀ a, (k2_off394 v384) a + S1x16.size a ≤ S1000x64.size a)
theorem k2_off391_inb : ∀ (v384 : BitVec 32) (k2_hw110 : k2_chk110 v384), ∀ a, (k2_off391 v384) a + S1x16.size a ≤ S1000x64.size a := fun v384 k2_hw110 => k2_hw110.1
theorem k2_off392_inb : ∀ (v384 : BitVec 32) (k2_hw110 : k2_chk110 v384), ∀ a, (k2_off392 v384) a + S1x16.size a ≤ S1000x64.size a := fun v384 k2_hw110 => k2_hw110.2.1
theorem k2_off393_inb : ∀ (v384 : BitVec 32) (k2_hw110 : k2_chk110 v384), ∀ a, (k2_off393 v384) a + S1x16.size a ≤ S1000x64.size a := fun v384 k2_hw110 => k2_hw110.2.2.1
theorem k2_off394_inb : ∀ (v384 : BitVec 32) (k2_hw110 : k2_chk110 v384), ∀ a, (k2_off394 v384) a + S1x16.size a ≤ S1000x64.size a := fun v384 k2_hw110 => k2_hw110.2.2.2

def k2_off395 (v402 : BitVec 32) : Fin 2 → Nat :=
  let v403 : Index := Scalar.indexCast v402
  let c0_125 : Index := 0#32
  ![v403.toNat, 0]

def k2_off396 (v402 : BitVec 32) : Fin 2 → Nat :=
  let v407 : Index := Scalar.indexCast v402
  let c16_126 : Index := 16#32
  ![v407.toNat, 16]
def k2_off397 (v402 : BitVec 32) : Fin 2 → Nat :=
  let v411 : Index := Scalar.indexCast v402
  let c32_127 : Index := 32#32
  ![v411.toNat, 32]
def k2_off398 (v402 : BitVec 32) : Fin 2 → Nat :=
  let v415 : Index := Scalar.indexCast v402
  let c48_128 : Index := 48#32
  ![v415.toNat, 48]

def k2_chk111 (v402 : BitVec 32) : Prop :=
  (∀ a, (k2_off395 v402) a + S1x16.size a ≤ S1000x64.size a) ∧
  (∀ a, (k2_off396 v402) a + S1x16.size a ≤ S1000x64.size a) ∧
  (∀ a, (k2_off397 v402) a + S1x16.size a ≤ S1000x64.size a) ∧
  (∀ a, (k2_off398 v402) a + S1x16.size a ≤ S1000x64.size a)
theorem k2_off395_inb : ∀ (v402 : BitVec 32) (k2_hw111 : k2_chk111 v402), ∀ a, (k2_off395 v402) a + S1x16.size a ≤ S1000x64.size a := fun v402 k2_hw111 => k2_hw111.1
theorem k2_off396_inb : ∀ (v402 : BitVec 32) (k2_hw111 : k2_chk111 v402), ∀ a, (k2_off396 v402) a + S1x16.size a ≤ S1000x64.size a := fun v402 k2_hw111 => k2_hw111.2.1
theorem k2_off397_inb : ∀ (v402 : BitVec 32) (k2_hw111 : k2_chk111 v402), ∀ a, (k2_off397 v402) a + S1x16.size a ≤ S1000x64.size a := fun v402 k2_hw111 => k2_hw111.2.2.1
theorem k2_off398_inb : ∀ (v402 : BitVec 32) (k2_hw111 : k2_chk111 v402), ∀ a, (k2_off398 v402) a + S1x16.size a ≤ S1000x64.size a := fun v402 k2_hw111 => k2_hw111.2.2.2

def k2_off399 (v420 : BitVec 32) : Fin 2 → Nat :=
  let v421 : Index := Scalar.indexCast v420
  let c0_129 : Index := 0#32
  ![v421.toNat, 0]

def k2_off400 (v420 : BitVec 32) : Fin 2 → Nat :=
  let v425 : Index := Scalar.indexCast v420
  let c16_130 : Index := 16#32
  ![v425.toNat, 16]
def k2_off401 (v420 : BitVec 32) : Fin 2 → Nat :=
  let v429 : Index := Scalar.indexCast v420
  let c32_131 : Index := 32#32
  ![v429.toNat, 32]
def k2_off402 (v420 : BitVec 32) : Fin 2 → Nat :=
  let v433 : Index := Scalar.indexCast v420
  let c48_132 : Index := 48#32
  ![v433.toNat, 48]

def k2_chk112 (v420 : BitVec 32) : Prop :=
  (∀ a, (k2_off399 v420) a + S1x16.size a ≤ S1000x64.size a) ∧
  (∀ a, (k2_off400 v420) a + S1x16.size a ≤ S1000x64.size a) ∧
  (∀ a, (k2_off401 v420) a + S1x16.size a ≤ S1000x64.size a) ∧
  (∀ a, (k2_off402 v420) a + S1x16.size a ≤ S1000x64.size a)
theorem k2_off399_inb : ∀ (v420 : BitVec 32) (k2_hw112 : k2_chk112 v420), ∀ a, (k2_off399 v420) a + S1x16.size a ≤ S1000x64.size a := fun v420 k2_hw112 => k2_hw112.1
theorem k2_off400_inb : ∀ (v420 : BitVec 32) (k2_hw112 : k2_chk112 v420), ∀ a, (k2_off400 v420) a + S1x16.size a ≤ S1000x64.size a := fun v420 k2_hw112 => k2_hw112.2.1
theorem k2_off401_inb : ∀ (v420 : BitVec 32) (k2_hw112 : k2_chk112 v420), ∀ a, (k2_off401 v420) a + S1x16.size a ≤ S1000x64.size a := fun v420 k2_hw112 => k2_hw112.2.2.1
theorem k2_off402_inb : ∀ (v420 : BitVec 32) (k2_hw112 : k2_chk112 v420), ∀ a, (k2_off402 v420) a + S1x16.size a ≤ S1000x64.size a := fun v420 k2_hw112 => k2_hw112.2.2.2

def k2_off403 (v438 : BitVec 32) : Fin 2 → Nat :=
  let v439 : Index := Scalar.indexCast v438
  let c0_133 : Index := 0#32
  ![v439.toNat, 0]

def k2_off404 (v438 : BitVec 32) : Fin 2 → Nat :=
  let v443 : Index := Scalar.indexCast v438
  let c16_134 : Index := 16#32
  ![v443.toNat, 16]
def k2_off405 (v438 : BitVec 32) : Fin 2 → Nat :=
  let v447 : Index := Scalar.indexCast v438
  let c32_135 : Index := 32#32
  ![v447.toNat, 32]
def k2_off406 (v438 : BitVec 32) : Fin 2 → Nat :=
  let v451 : Index := Scalar.indexCast v438
  let c48_136 : Index := 48#32
  ![v451.toNat, 48]

def k2_chk113 (v438 : BitVec 32) : Prop :=
  (∀ a, (k2_off403 v438) a + S1x16.size a ≤ S1000x64.size a) ∧
  (∀ a, (k2_off404 v438) a + S1x16.size a ≤ S1000x64.size a) ∧
  (∀ a, (k2_off405 v438) a + S1x16.size a ≤ S1000x64.size a) ∧
  (∀ a, (k2_off406 v438) a + S1x16.size a ≤ S1000x64.size a)
theorem k2_off403_inb : ∀ (v438 : BitVec 32) (k2_hw113 : k2_chk113 v438), ∀ a, (k2_off403 v438) a + S1x16.size a ≤ S1000x64.size a := fun v438 k2_hw113 => k2_hw113.1
theorem k2_off404_inb : ∀ (v438 : BitVec 32) (k2_hw113 : k2_chk113 v438), ∀ a, (k2_off404 v438) a + S1x16.size a ≤ S1000x64.size a := fun v438 k2_hw113 => k2_hw113.2.1
theorem k2_off405_inb : ∀ (v438 : BitVec 32) (k2_hw113 : k2_chk113 v438), ∀ a, (k2_off405 v438) a + S1x16.size a ≤ S1000x64.size a := fun v438 k2_hw113 => k2_hw113.2.2.1
theorem k2_off406_inb : ∀ (v438 : BitVec 32) (k2_hw113 : k2_chk113 v438), ∀ a, (k2_off406 v438) a + S1x16.size a ≤ S1000x64.size a := fun v438 k2_hw113 => k2_hw113.2.2.2

def k2_off407 (v456 : BitVec 32) : Fin 2 → Nat :=
  let v457 : Index := Scalar.indexCast v456
  let c0_137 : Index := 0#32
  ![v457.toNat, 0]

def k2_off408 (v456 : BitVec 32) : Fin 2 → Nat :=
  let v461 : Index := Scalar.indexCast v456
  let c16_138 : Index := 16#32
  ![v461.toNat, 16]
def k2_off409 (v456 : BitVec 32) : Fin 2 → Nat :=
  let v465 : Index := Scalar.indexCast v456
  let c32_139 : Index := 32#32
  ![v465.toNat, 32]
def k2_off410 (v456 : BitVec 32) : Fin 2 → Nat :=
  let v469 : Index := Scalar.indexCast v456
  let c48_140 : Index := 48#32
  ![v469.toNat, 48]

def k2_chk114 (v456 : BitVec 32) : Prop :=
  (∀ a, (k2_off407 v456) a + S1x16.size a ≤ S1000x64.size a) ∧
  (∀ a, (k2_off408 v456) a + S1x16.size a ≤ S1000x64.size a) ∧
  (∀ a, (k2_off409 v456) a + S1x16.size a ≤ S1000x64.size a) ∧
  (∀ a, (k2_off410 v456) a + S1x16.size a ≤ S1000x64.size a)
theorem k2_off407_inb : ∀ (v456 : BitVec 32) (k2_hw114 : k2_chk114 v456), ∀ a, (k2_off407 v456) a + S1x16.size a ≤ S1000x64.size a := fun v456 k2_hw114 => k2_hw114.1
theorem k2_off408_inb : ∀ (v456 : BitVec 32) (k2_hw114 : k2_chk114 v456), ∀ a, (k2_off408 v456) a + S1x16.size a ≤ S1000x64.size a := fun v456 k2_hw114 => k2_hw114.2.1
theorem k2_off409_inb : ∀ (v456 : BitVec 32) (k2_hw114 : k2_chk114 v456), ∀ a, (k2_off409 v456) a + S1x16.size a ≤ S1000x64.size a := fun v456 k2_hw114 => k2_hw114.2.2.1
theorem k2_off410_inb : ∀ (v456 : BitVec 32) (k2_hw114 : k2_chk114 v456), ∀ a, (k2_off410 v456) a + S1x16.size a ≤ S1000x64.size a := fun v456 k2_hw114 => k2_hw114.2.2.2

def k2_off411 (v474 : BitVec 32) : Fin 2 → Nat :=
  let v475 : Index := Scalar.indexCast v474
  let c0_141 : Index := 0#32
  ![v475.toNat, 0]

def k2_off412 (v474 : BitVec 32) : Fin 2 → Nat :=
  let v479 : Index := Scalar.indexCast v474
  let c16_142 : Index := 16#32
  ![v479.toNat, 16]
def k2_off413 (v474 : BitVec 32) : Fin 2 → Nat :=
  let v483 : Index := Scalar.indexCast v474
  let c32_143 : Index := 32#32
  ![v483.toNat, 32]
def k2_off414 (v474 : BitVec 32) : Fin 2 → Nat :=
  let v487 : Index := Scalar.indexCast v474
  let c48_144 : Index := 48#32
  ![v487.toNat, 48]

def k2_chk115 (v474 : BitVec 32) : Prop :=
  (∀ a, (k2_off411 v474) a + S1x16.size a ≤ S1000x64.size a) ∧
  (∀ a, (k2_off412 v474) a + S1x16.size a ≤ S1000x64.size a) ∧
  (∀ a, (k2_off413 v474) a + S1x16.size a ≤ S1000x64.size a) ∧
  (∀ a, (k2_off414 v474) a + S1x16.size a ≤ S1000x64.size a)
theorem k2_off411_inb : ∀ (v474 : BitVec 32) (k2_hw115 : k2_chk115 v474), ∀ a, (k2_off411 v474) a + S1x16.size a ≤ S1000x64.size a := fun v474 k2_hw115 => k2_hw115.1
theorem k2_off412_inb : ∀ (v474 : BitVec 32) (k2_hw115 : k2_chk115 v474), ∀ a, (k2_off412 v474) a + S1x16.size a ≤ S1000x64.size a := fun v474 k2_hw115 => k2_hw115.2.1
theorem k2_off413_inb : ∀ (v474 : BitVec 32) (k2_hw115 : k2_chk115 v474), ∀ a, (k2_off413 v474) a + S1x16.size a ≤ S1000x64.size a := fun v474 k2_hw115 => k2_hw115.2.2.1
theorem k2_off414_inb : ∀ (v474 : BitVec 32) (k2_hw115 : k2_chk115 v474), ∀ a, (k2_off414 v474) a + S1x16.size a ≤ S1000x64.size a := fun v474 k2_hw115 => k2_hw115.2.2.2

def k2_off415 (k2_t3 : Fin k2_t3_loop.trips) (c0_i32_148 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k2_t3
  let c1_i32_59 : BitVec 32 := 1#32
  let v102 : BitVec 32 := Scalar.muli arg16 c1_i32_59
  let v103 : BitVec 32 := Scalar.addi c0_i32_60 v102
  let c4_i32_145 : BitVec 32 := 4#32
  let v493 : BitVec 32 := Scalar.muli v103 c4_i32_145
  let c0_i32_146 : BitVec 32 := 0#32
  let v494 : BitVec 32 := Scalar.addi v493 c0_i32_146
  let c64_i32_147 : BitVec 32 := 64#32
  let v495 : BitVec 32 := Scalar.muli v494 c64_i32_147
  let v496 : BitVec 32 := Scalar.addi v495 c0_i32_148
  let v497 : Index := Scalar.indexCast v496
  ![v497.toNat]
def k2_off416 (v532 : BitVec 32) : Fin 2 → Nat :=
  let v533 : Index := Scalar.indexCast v532
  let c0_164 : Index := 0#32
  ![v533.toNat, 0]

def k2_chk116 (v532 : BitVec 32) : Prop :=
  (∀ a, (k2_off416 v532) a + S1x16.size a ≤ S1000x64.size a)
theorem k2_off416_inb : ∀ (v532 : BitVec 32) (k2_hw116 : k2_chk116 v532), ∀ a, (k2_off416 v532) a + S1x16.size a ≤ S1000x64.size a := fun v532 k2_hw116 => k2_hw116

def k2_off417 (v537 : BitVec 32) : Fin 2 → Nat :=
  let v538 : Index := Scalar.indexCast v537
  let c16_165 : Index := 16#32
  ![v538.toNat, 16]

def k2_chk117 (v537 : BitVec 32) : Prop :=
  (∀ a, (k2_off417 v537) a + S1x16.size a ≤ S1000x64.size a)
theorem k2_off417_inb : ∀ (v537 : BitVec 32) (k2_hw117 : k2_chk117 v537), ∀ a, (k2_off417 v537) a + S1x16.size a ≤ S1000x64.size a := fun v537 k2_hw117 => k2_hw117

def k2_off418 (v542 : BitVec 32) : Fin 2 → Nat :=
  let v543 : Index := Scalar.indexCast v542
  let c32_166 : Index := 32#32
  ![v543.toNat, 32]

def k2_chk118 (v542 : BitVec 32) : Prop :=
  (∀ a, (k2_off418 v542) a + S1x16.size a ≤ S1000x64.size a)
theorem k2_off418_inb : ∀ (v542 : BitVec 32) (k2_hw118 : k2_chk118 v542), ∀ a, (k2_off418 v542) a + S1x16.size a ≤ S1000x64.size a := fun v542 k2_hw118 => k2_hw118

def k2_off419 (v547 : BitVec 32) : Fin 2 → Nat :=
  let v548 : Index := Scalar.indexCast v547
  let c48_167 : Index := 48#32
  ![v548.toNat, 48]

def k2_chk119 (v547 : BitVec 32) : Prop :=
  (∀ a, (k2_off419 v547) a + S1x16.size a ≤ S1000x64.size a)
theorem k2_off419_inb : ∀ (v547 : BitVec 32) (k2_hw119 : k2_chk119 v547), ∀ a, (k2_off419 v547) a + S1x16.size a ≤ S1000x64.size a := fun v547 k2_hw119 => k2_hw119

def k2_off420 (v552 : BitVec 32) : Fin 2 → Nat :=
  let v553 : Index := Scalar.indexCast v552
  let c0_168 : Index := 0#32
  ![v553.toNat, 0]

def k2_off421 (v552 : BitVec 32) : Fin 2 → Nat :=
  let v557 : Index := Scalar.indexCast v552
  let c16_169 : Index := 16#32
  ![v557.toNat, 16]
def k2_off422 (v552 : BitVec 32) : Fin 2 → Nat :=
  let v561 : Index := Scalar.indexCast v552
  let c32_170 : Index := 32#32
  ![v561.toNat, 32]
def k2_off423 (v552 : BitVec 32) : Fin 2 → Nat :=
  let v565 : Index := Scalar.indexCast v552
  let c48_171 : Index := 48#32
  ![v565.toNat, 48]

def k2_chk120 (v552 : BitVec 32) : Prop :=
  (∀ a, (k2_off420 v552) a + S1x16.size a ≤ S1000x64.size a) ∧
  (∀ a, (k2_off421 v552) a + S1x16.size a ≤ S1000x64.size a) ∧
  (∀ a, (k2_off422 v552) a + S1x16.size a ≤ S1000x64.size a) ∧
  (∀ a, (k2_off423 v552) a + S1x16.size a ≤ S1000x64.size a)
theorem k2_off420_inb : ∀ (v552 : BitVec 32) (k2_hw120 : k2_chk120 v552), ∀ a, (k2_off420 v552) a + S1x16.size a ≤ S1000x64.size a := fun v552 k2_hw120 => k2_hw120.1
theorem k2_off421_inb : ∀ (v552 : BitVec 32) (k2_hw120 : k2_chk120 v552), ∀ a, (k2_off421 v552) a + S1x16.size a ≤ S1000x64.size a := fun v552 k2_hw120 => k2_hw120.2.1
theorem k2_off422_inb : ∀ (v552 : BitVec 32) (k2_hw120 : k2_chk120 v552), ∀ a, (k2_off422 v552) a + S1x16.size a ≤ S1000x64.size a := fun v552 k2_hw120 => k2_hw120.2.2.1
theorem k2_off423_inb : ∀ (v552 : BitVec 32) (k2_hw120 : k2_chk120 v552), ∀ a, (k2_off423 v552) a + S1x16.size a ≤ S1000x64.size a := fun v552 k2_hw120 => k2_hw120.2.2.2

def k2_off424 (v570 : BitVec 32) : Fin 2 → Nat :=
  let v571 : Index := Scalar.indexCast v570
  let c0_172 : Index := 0#32
  ![v571.toNat, 0]

def k2_off425 (v570 : BitVec 32) : Fin 2 → Nat :=
  let v575 : Index := Scalar.indexCast v570
  let c16_173 : Index := 16#32
  ![v575.toNat, 16]
def k2_off426 (v570 : BitVec 32) : Fin 2 → Nat :=
  let v579 : Index := Scalar.indexCast v570
  let c32_174 : Index := 32#32
  ![v579.toNat, 32]
def k2_off427 (v570 : BitVec 32) : Fin 2 → Nat :=
  let v583 : Index := Scalar.indexCast v570
  let c48_175 : Index := 48#32
  ![v583.toNat, 48]

def k2_chk121 (v570 : BitVec 32) : Prop :=
  (∀ a, (k2_off424 v570) a + S1x16.size a ≤ S1000x64.size a) ∧
  (∀ a, (k2_off425 v570) a + S1x16.size a ≤ S1000x64.size a) ∧
  (∀ a, (k2_off426 v570) a + S1x16.size a ≤ S1000x64.size a) ∧
  (∀ a, (k2_off427 v570) a + S1x16.size a ≤ S1000x64.size a)
theorem k2_off424_inb : ∀ (v570 : BitVec 32) (k2_hw121 : k2_chk121 v570), ∀ a, (k2_off424 v570) a + S1x16.size a ≤ S1000x64.size a := fun v570 k2_hw121 => k2_hw121.1
theorem k2_off425_inb : ∀ (v570 : BitVec 32) (k2_hw121 : k2_chk121 v570), ∀ a, (k2_off425 v570) a + S1x16.size a ≤ S1000x64.size a := fun v570 k2_hw121 => k2_hw121.2.1
theorem k2_off426_inb : ∀ (v570 : BitVec 32) (k2_hw121 : k2_chk121 v570), ∀ a, (k2_off426 v570) a + S1x16.size a ≤ S1000x64.size a := fun v570 k2_hw121 => k2_hw121.2.2.1
theorem k2_off427_inb : ∀ (v570 : BitVec 32) (k2_hw121 : k2_chk121 v570), ∀ a, (k2_off427 v570) a + S1x16.size a ≤ S1000x64.size a := fun v570 k2_hw121 => k2_hw121.2.2.2

def k2_off428 (v588 : BitVec 32) : Fin 2 → Nat :=
  let v589 : Index := Scalar.indexCast v588
  let c0_176 : Index := 0#32
  ![v589.toNat, 0]

def k2_off429 (v588 : BitVec 32) : Fin 2 → Nat :=
  let v593 : Index := Scalar.indexCast v588
  let c16_177 : Index := 16#32
  ![v593.toNat, 16]
def k2_off430 (v588 : BitVec 32) : Fin 2 → Nat :=
  let v597 : Index := Scalar.indexCast v588
  let c32_178 : Index := 32#32
  ![v597.toNat, 32]
def k2_off431 (v588 : BitVec 32) : Fin 2 → Nat :=
  let v601 : Index := Scalar.indexCast v588
  let c48_179 : Index := 48#32
  ![v601.toNat, 48]

def k2_chk122 (v588 : BitVec 32) : Prop :=
  (∀ a, (k2_off428 v588) a + S1x16.size a ≤ S1000x64.size a) ∧
  (∀ a, (k2_off429 v588) a + S1x16.size a ≤ S1000x64.size a) ∧
  (∀ a, (k2_off430 v588) a + S1x16.size a ≤ S1000x64.size a) ∧
  (∀ a, (k2_off431 v588) a + S1x16.size a ≤ S1000x64.size a)
theorem k2_off428_inb : ∀ (v588 : BitVec 32) (k2_hw122 : k2_chk122 v588), ∀ a, (k2_off428 v588) a + S1x16.size a ≤ S1000x64.size a := fun v588 k2_hw122 => k2_hw122.1
theorem k2_off429_inb : ∀ (v588 : BitVec 32) (k2_hw122 : k2_chk122 v588), ∀ a, (k2_off429 v588) a + S1x16.size a ≤ S1000x64.size a := fun v588 k2_hw122 => k2_hw122.2.1
theorem k2_off430_inb : ∀ (v588 : BitVec 32) (k2_hw122 : k2_chk122 v588), ∀ a, (k2_off430 v588) a + S1x16.size a ≤ S1000x64.size a := fun v588 k2_hw122 => k2_hw122.2.2.1
theorem k2_off431_inb : ∀ (v588 : BitVec 32) (k2_hw122 : k2_chk122 v588), ∀ a, (k2_off431 v588) a + S1x16.size a ≤ S1000x64.size a := fun v588 k2_hw122 => k2_hw122.2.2.2

def k2_off432 (v606 : BitVec 32) : Fin 2 → Nat :=
  let v607 : Index := Scalar.indexCast v606
  let c0_180 : Index := 0#32
  ![v607.toNat, 0]

def k2_off433 (v606 : BitVec 32) : Fin 2 → Nat :=
  let v611 : Index := Scalar.indexCast v606
  let c16_181 : Index := 16#32
  ![v611.toNat, 16]
def k2_off434 (v606 : BitVec 32) : Fin 2 → Nat :=
  let v615 : Index := Scalar.indexCast v606
  let c32_182 : Index := 32#32
  ![v615.toNat, 32]
def k2_off435 (v606 : BitVec 32) : Fin 2 → Nat :=
  let v619 : Index := Scalar.indexCast v606
  let c48_183 : Index := 48#32
  ![v619.toNat, 48]

def k2_chk123 (v606 : BitVec 32) : Prop :=
  (∀ a, (k2_off432 v606) a + S1x16.size a ≤ S1000x64.size a) ∧
  (∀ a, (k2_off433 v606) a + S1x16.size a ≤ S1000x64.size a) ∧
  (∀ a, (k2_off434 v606) a + S1x16.size a ≤ S1000x64.size a) ∧
  (∀ a, (k2_off435 v606) a + S1x16.size a ≤ S1000x64.size a)
theorem k2_off432_inb : ∀ (v606 : BitVec 32) (k2_hw123 : k2_chk123 v606), ∀ a, (k2_off432 v606) a + S1x16.size a ≤ S1000x64.size a := fun v606 k2_hw123 => k2_hw123.1
theorem k2_off433_inb : ∀ (v606 : BitVec 32) (k2_hw123 : k2_chk123 v606), ∀ a, (k2_off433 v606) a + S1x16.size a ≤ S1000x64.size a := fun v606 k2_hw123 => k2_hw123.2.1
theorem k2_off434_inb : ∀ (v606 : BitVec 32) (k2_hw123 : k2_chk123 v606), ∀ a, (k2_off434 v606) a + S1x16.size a ≤ S1000x64.size a := fun v606 k2_hw123 => k2_hw123.2.2.1
theorem k2_off435_inb : ∀ (v606 : BitVec 32) (k2_hw123 : k2_chk123 v606), ∀ a, (k2_off435 v606) a + S1x16.size a ≤ S1000x64.size a := fun v606 k2_hw123 => k2_hw123.2.2.2

def k2_off436 (v624 : BitVec 32) : Fin 2 → Nat :=
  let v625 : Index := Scalar.indexCast v624
  let c0_184 : Index := 0#32
  ![v625.toNat, 0]

def k2_off437 (v624 : BitVec 32) : Fin 2 → Nat :=
  let v629 : Index := Scalar.indexCast v624
  let c16_185 : Index := 16#32
  ![v629.toNat, 16]
def k2_off438 (v624 : BitVec 32) : Fin 2 → Nat :=
  let v633 : Index := Scalar.indexCast v624
  let c32_186 : Index := 32#32
  ![v633.toNat, 32]
def k2_off439 (v624 : BitVec 32) : Fin 2 → Nat :=
  let v637 : Index := Scalar.indexCast v624
  let c48_187 : Index := 48#32
  ![v637.toNat, 48]

def k2_chk124 (v624 : BitVec 32) : Prop :=
  (∀ a, (k2_off436 v624) a + S1x16.size a ≤ S1000x64.size a) ∧
  (∀ a, (k2_off437 v624) a + S1x16.size a ≤ S1000x64.size a) ∧
  (∀ a, (k2_off438 v624) a + S1x16.size a ≤ S1000x64.size a) ∧
  (∀ a, (k2_off439 v624) a + S1x16.size a ≤ S1000x64.size a)
theorem k2_off436_inb : ∀ (v624 : BitVec 32) (k2_hw124 : k2_chk124 v624), ∀ a, (k2_off436 v624) a + S1x16.size a ≤ S1000x64.size a := fun v624 k2_hw124 => k2_hw124.1
theorem k2_off437_inb : ∀ (v624 : BitVec 32) (k2_hw124 : k2_chk124 v624), ∀ a, (k2_off437 v624) a + S1x16.size a ≤ S1000x64.size a := fun v624 k2_hw124 => k2_hw124.2.1
theorem k2_off438_inb : ∀ (v624 : BitVec 32) (k2_hw124 : k2_chk124 v624), ∀ a, (k2_off438 v624) a + S1x16.size a ≤ S1000x64.size a := fun v624 k2_hw124 => k2_hw124.2.2.1
theorem k2_off439_inb : ∀ (v624 : BitVec 32) (k2_hw124 : k2_chk124 v624), ∀ a, (k2_off439 v624) a + S1x16.size a ≤ S1000x64.size a := fun v624 k2_hw124 => k2_hw124.2.2.2

def k2_off440 (v642 : BitVec 32) : Fin 2 → Nat :=
  let v643 : Index := Scalar.indexCast v642
  let c0_188 : Index := 0#32
  ![v643.toNat, 0]

def k2_off441 (v642 : BitVec 32) : Fin 2 → Nat :=
  let v647 : Index := Scalar.indexCast v642
  let c16_189 : Index := 16#32
  ![v647.toNat, 16]
def k2_off442 (v642 : BitVec 32) : Fin 2 → Nat :=
  let v651 : Index := Scalar.indexCast v642
  let c32_190 : Index := 32#32
  ![v651.toNat, 32]
def k2_off443 (v642 : BitVec 32) : Fin 2 → Nat :=
  let v655 : Index := Scalar.indexCast v642
  let c48_191 : Index := 48#32
  ![v655.toNat, 48]

def k2_chk125 (v642 : BitVec 32) : Prop :=
  (∀ a, (k2_off440 v642) a + S1x16.size a ≤ S1000x64.size a) ∧
  (∀ a, (k2_off441 v642) a + S1x16.size a ≤ S1000x64.size a) ∧
  (∀ a, (k2_off442 v642) a + S1x16.size a ≤ S1000x64.size a) ∧
  (∀ a, (k2_off443 v642) a + S1x16.size a ≤ S1000x64.size a)
theorem k2_off440_inb : ∀ (v642 : BitVec 32) (k2_hw125 : k2_chk125 v642), ∀ a, (k2_off440 v642) a + S1x16.size a ≤ S1000x64.size a := fun v642 k2_hw125 => k2_hw125.1
theorem k2_off441_inb : ∀ (v642 : BitVec 32) (k2_hw125 : k2_chk125 v642), ∀ a, (k2_off441 v642) a + S1x16.size a ≤ S1000x64.size a := fun v642 k2_hw125 => k2_hw125.2.1
theorem k2_off442_inb : ∀ (v642 : BitVec 32) (k2_hw125 : k2_chk125 v642), ∀ a, (k2_off442 v642) a + S1x16.size a ≤ S1000x64.size a := fun v642 k2_hw125 => k2_hw125.2.2.1
theorem k2_off443_inb : ∀ (v642 : BitVec 32) (k2_hw125 : k2_chk125 v642), ∀ a, (k2_off443 v642) a + S1x16.size a ≤ S1000x64.size a := fun v642 k2_hw125 => k2_hw125.2.2.2

def k2_off444 (v660 : BitVec 32) : Fin 2 → Nat :=
  let v661 : Index := Scalar.indexCast v660
  let c0_192 : Index := 0#32
  ![v661.toNat, 0]

def k2_off445 (v660 : BitVec 32) : Fin 2 → Nat :=
  let v665 : Index := Scalar.indexCast v660
  let c16_193 : Index := 16#32
  ![v665.toNat, 16]
def k2_off446 (v660 : BitVec 32) : Fin 2 → Nat :=
  let v669 : Index := Scalar.indexCast v660
  let c32_194 : Index := 32#32
  ![v669.toNat, 32]
def k2_off447 (v660 : BitVec 32) : Fin 2 → Nat :=
  let v673 : Index := Scalar.indexCast v660
  let c48_195 : Index := 48#32
  ![v673.toNat, 48]

def k2_chk126 (v660 : BitVec 32) : Prop :=
  (∀ a, (k2_off444 v660) a + S1x16.size a ≤ S1000x64.size a) ∧
  (∀ a, (k2_off445 v660) a + S1x16.size a ≤ S1000x64.size a) ∧
  (∀ a, (k2_off446 v660) a + S1x16.size a ≤ S1000x64.size a) ∧
  (∀ a, (k2_off447 v660) a + S1x16.size a ≤ S1000x64.size a)
theorem k2_off444_inb : ∀ (v660 : BitVec 32) (k2_hw126 : k2_chk126 v660), ∀ a, (k2_off444 v660) a + S1x16.size a ≤ S1000x64.size a := fun v660 k2_hw126 => k2_hw126.1
theorem k2_off445_inb : ∀ (v660 : BitVec 32) (k2_hw126 : k2_chk126 v660), ∀ a, (k2_off445 v660) a + S1x16.size a ≤ S1000x64.size a := fun v660 k2_hw126 => k2_hw126.2.1
theorem k2_off446_inb : ∀ (v660 : BitVec 32) (k2_hw126 : k2_chk126 v660), ∀ a, (k2_off446 v660) a + S1x16.size a ≤ S1000x64.size a := fun v660 k2_hw126 => k2_hw126.2.2.1
theorem k2_off447_inb : ∀ (v660 : BitVec 32) (k2_hw126 : k2_chk126 v660), ∀ a, (k2_off447 v660) a + S1x16.size a ≤ S1000x64.size a := fun v660 k2_hw126 => k2_hw126.2.2.2

def k2_off448 (v678 : BitVec 32) : Fin 2 → Nat :=
  let v679 : Index := Scalar.indexCast v678
  let c0_196 : Index := 0#32
  ![v679.toNat, 0]

def k2_off449 (v678 : BitVec 32) : Fin 2 → Nat :=
  let v683 : Index := Scalar.indexCast v678
  let c16_197 : Index := 16#32
  ![v683.toNat, 16]
def k2_off450 (v678 : BitVec 32) : Fin 2 → Nat :=
  let v687 : Index := Scalar.indexCast v678
  let c32_198 : Index := 32#32
  ![v687.toNat, 32]
def k2_off451 (v678 : BitVec 32) : Fin 2 → Nat :=
  let v691 : Index := Scalar.indexCast v678
  let c48_199 : Index := 48#32
  ![v691.toNat, 48]

def k2_chk127 (v678 : BitVec 32) : Prop :=
  (∀ a, (k2_off448 v678) a + S1x16.size a ≤ S1000x64.size a) ∧
  (∀ a, (k2_off449 v678) a + S1x16.size a ≤ S1000x64.size a) ∧
  (∀ a, (k2_off450 v678) a + S1x16.size a ≤ S1000x64.size a) ∧
  (∀ a, (k2_off451 v678) a + S1x16.size a ≤ S1000x64.size a)
theorem k2_off448_inb : ∀ (v678 : BitVec 32) (k2_hw127 : k2_chk127 v678), ∀ a, (k2_off448 v678) a + S1x16.size a ≤ S1000x64.size a := fun v678 k2_hw127 => k2_hw127.1
theorem k2_off449_inb : ∀ (v678 : BitVec 32) (k2_hw127 : k2_chk127 v678), ∀ a, (k2_off449 v678) a + S1x16.size a ≤ S1000x64.size a := fun v678 k2_hw127 => k2_hw127.2.1
theorem k2_off450_inb : ∀ (v678 : BitVec 32) (k2_hw127 : k2_chk127 v678), ∀ a, (k2_off450 v678) a + S1x16.size a ≤ S1000x64.size a := fun v678 k2_hw127 => k2_hw127.2.2.1
theorem k2_off451_inb : ∀ (v678 : BitVec 32) (k2_hw127 : k2_chk127 v678), ∀ a, (k2_off451 v678) a + S1x16.size a ≤ S1000x64.size a := fun v678 k2_hw127 => k2_hw127.2.2.2

def k2_off452 (v696 : BitVec 32) : Fin 2 → Nat :=
  let v697 : Index := Scalar.indexCast v696
  let c0_200 : Index := 0#32
  ![v697.toNat, 0]

def k2_off453 (v696 : BitVec 32) : Fin 2 → Nat :=
  let v701 : Index := Scalar.indexCast v696
  let c16_201 : Index := 16#32
  ![v701.toNat, 16]
def k2_off454 (v696 : BitVec 32) : Fin 2 → Nat :=
  let v705 : Index := Scalar.indexCast v696
  let c32_202 : Index := 32#32
  ![v705.toNat, 32]
def k2_off455 (v696 : BitVec 32) : Fin 2 → Nat :=
  let v709 : Index := Scalar.indexCast v696
  let c48_203 : Index := 48#32
  ![v709.toNat, 48]

def k2_chk128 (v696 : BitVec 32) : Prop :=
  (∀ a, (k2_off452 v696) a + S1x16.size a ≤ S1000x64.size a) ∧
  (∀ a, (k2_off453 v696) a + S1x16.size a ≤ S1000x64.size a) ∧
  (∀ a, (k2_off454 v696) a + S1x16.size a ≤ S1000x64.size a) ∧
  (∀ a, (k2_off455 v696) a + S1x16.size a ≤ S1000x64.size a)
theorem k2_off452_inb : ∀ (v696 : BitVec 32) (k2_hw128 : k2_chk128 v696), ∀ a, (k2_off452 v696) a + S1x16.size a ≤ S1000x64.size a := fun v696 k2_hw128 => k2_hw128.1
theorem k2_off453_inb : ∀ (v696 : BitVec 32) (k2_hw128 : k2_chk128 v696), ∀ a, (k2_off453 v696) a + S1x16.size a ≤ S1000x64.size a := fun v696 k2_hw128 => k2_hw128.2.1
theorem k2_off454_inb : ∀ (v696 : BitVec 32) (k2_hw128 : k2_chk128 v696), ∀ a, (k2_off454 v696) a + S1x16.size a ≤ S1000x64.size a := fun v696 k2_hw128 => k2_hw128.2.2.1
theorem k2_off455_inb : ∀ (v696 : BitVec 32) (k2_hw128 : k2_chk128 v696), ∀ a, (k2_off455 v696) a + S1x16.size a ≤ S1000x64.size a := fun v696 k2_hw128 => k2_hw128.2.2.2

def k2_off456 (v714 : BitVec 32) : Fin 2 → Nat :=
  let v715 : Index := Scalar.indexCast v714
  let c0_204 : Index := 0#32
  ![v715.toNat, 0]

def k2_off457 (v714 : BitVec 32) : Fin 2 → Nat :=
  let v719 : Index := Scalar.indexCast v714
  let c16_205 : Index := 16#32
  ![v719.toNat, 16]
def k2_off458 (v714 : BitVec 32) : Fin 2 → Nat :=
  let v723 : Index := Scalar.indexCast v714
  let c32_206 : Index := 32#32
  ![v723.toNat, 32]
def k2_off459 (v714 : BitVec 32) : Fin 2 → Nat :=
  let v727 : Index := Scalar.indexCast v714
  let c48_207 : Index := 48#32
  ![v727.toNat, 48]

def k2_chk129 (v714 : BitVec 32) : Prop :=
  (∀ a, (k2_off456 v714) a + S1x16.size a ≤ S1000x64.size a) ∧
  (∀ a, (k2_off457 v714) a + S1x16.size a ≤ S1000x64.size a) ∧
  (∀ a, (k2_off458 v714) a + S1x16.size a ≤ S1000x64.size a) ∧
  (∀ a, (k2_off459 v714) a + S1x16.size a ≤ S1000x64.size a)
theorem k2_off456_inb : ∀ (v714 : BitVec 32) (k2_hw129 : k2_chk129 v714), ∀ a, (k2_off456 v714) a + S1x16.size a ≤ S1000x64.size a := fun v714 k2_hw129 => k2_hw129.1
theorem k2_off457_inb : ∀ (v714 : BitVec 32) (k2_hw129 : k2_chk129 v714), ∀ a, (k2_off457 v714) a + S1x16.size a ≤ S1000x64.size a := fun v714 k2_hw129 => k2_hw129.2.1
theorem k2_off458_inb : ∀ (v714 : BitVec 32) (k2_hw129 : k2_chk129 v714), ∀ a, (k2_off458 v714) a + S1x16.size a ≤ S1000x64.size a := fun v714 k2_hw129 => k2_hw129.2.2.1
theorem k2_off459_inb : ∀ (v714 : BitVec 32) (k2_hw129 : k2_chk129 v714), ∀ a, (k2_off459 v714) a + S1x16.size a ≤ S1000x64.size a := fun v714 k2_hw129 => k2_hw129.2.2.2

def k2_off460 (v732 : BitVec 32) : Fin 2 → Nat :=
  let v733 : Index := Scalar.indexCast v732
  let c0_208 : Index := 0#32
  ![v733.toNat, 0]

def k2_off461 (v732 : BitVec 32) : Fin 2 → Nat :=
  let v737 : Index := Scalar.indexCast v732
  let c16_209 : Index := 16#32
  ![v737.toNat, 16]
def k2_off462 (v732 : BitVec 32) : Fin 2 → Nat :=
  let v741 : Index := Scalar.indexCast v732
  let c32_210 : Index := 32#32
  ![v741.toNat, 32]
def k2_off463 (v732 : BitVec 32) : Fin 2 → Nat :=
  let v745 : Index := Scalar.indexCast v732
  let c48_211 : Index := 48#32
  ![v745.toNat, 48]

def k2_chk130 (v732 : BitVec 32) : Prop :=
  (∀ a, (k2_off460 v732) a + S1x16.size a ≤ S1000x64.size a) ∧
  (∀ a, (k2_off461 v732) a + S1x16.size a ≤ S1000x64.size a) ∧
  (∀ a, (k2_off462 v732) a + S1x16.size a ≤ S1000x64.size a) ∧
  (∀ a, (k2_off463 v732) a + S1x16.size a ≤ S1000x64.size a)
theorem k2_off460_inb : ∀ (v732 : BitVec 32) (k2_hw130 : k2_chk130 v732), ∀ a, (k2_off460 v732) a + S1x16.size a ≤ S1000x64.size a := fun v732 k2_hw130 => k2_hw130.1
theorem k2_off461_inb : ∀ (v732 : BitVec 32) (k2_hw130 : k2_chk130 v732), ∀ a, (k2_off461 v732) a + S1x16.size a ≤ S1000x64.size a := fun v732 k2_hw130 => k2_hw130.2.1
theorem k2_off462_inb : ∀ (v732 : BitVec 32) (k2_hw130 : k2_chk130 v732), ∀ a, (k2_off462 v732) a + S1x16.size a ≤ S1000x64.size a := fun v732 k2_hw130 => k2_hw130.2.2.1
theorem k2_off463_inb : ∀ (v732 : BitVec 32) (k2_hw130 : k2_chk130 v732), ∀ a, (k2_off463 v732) a + S1x16.size a ≤ S1000x64.size a := fun v732 k2_hw130 => k2_hw130.2.2.2

def k2_off464 (v750 : BitVec 32) : Fin 2 → Nat :=
  let v751 : Index := Scalar.indexCast v750
  let c0_212 : Index := 0#32
  ![v751.toNat, 0]

def k2_off465 (v750 : BitVec 32) : Fin 2 → Nat :=
  let v755 : Index := Scalar.indexCast v750
  let c16_213 : Index := 16#32
  ![v755.toNat, 16]
def k2_off466 (v750 : BitVec 32) : Fin 2 → Nat :=
  let v759 : Index := Scalar.indexCast v750
  let c32_214 : Index := 32#32
  ![v759.toNat, 32]
def k2_off467 (v750 : BitVec 32) : Fin 2 → Nat :=
  let v763 : Index := Scalar.indexCast v750
  let c48_215 : Index := 48#32
  ![v763.toNat, 48]

def k2_chk131 (v750 : BitVec 32) : Prop :=
  (∀ a, (k2_off464 v750) a + S1x16.size a ≤ S1000x64.size a) ∧
  (∀ a, (k2_off465 v750) a + S1x16.size a ≤ S1000x64.size a) ∧
  (∀ a, (k2_off466 v750) a + S1x16.size a ≤ S1000x64.size a) ∧
  (∀ a, (k2_off467 v750) a + S1x16.size a ≤ S1000x64.size a)
theorem k2_off464_inb : ∀ (v750 : BitVec 32) (k2_hw131 : k2_chk131 v750), ∀ a, (k2_off464 v750) a + S1x16.size a ≤ S1000x64.size a := fun v750 k2_hw131 => k2_hw131.1
theorem k2_off465_inb : ∀ (v750 : BitVec 32) (k2_hw131 : k2_chk131 v750), ∀ a, (k2_off465 v750) a + S1x16.size a ≤ S1000x64.size a := fun v750 k2_hw131 => k2_hw131.2.1
theorem k2_off466_inb : ∀ (v750 : BitVec 32) (k2_hw131 : k2_chk131 v750), ∀ a, (k2_off466 v750) a + S1x16.size a ≤ S1000x64.size a := fun v750 k2_hw131 => k2_hw131.2.2.1
theorem k2_off467_inb : ∀ (v750 : BitVec 32) (k2_hw131 : k2_chk131 v750), ∀ a, (k2_off467 v750) a + S1x16.size a ≤ S1000x64.size a := fun v750 k2_hw131 => k2_hw131.2.2.2

def k2_off468 (v768 : BitVec 32) : Fin 2 → Nat :=
  let v769 : Index := Scalar.indexCast v768
  let c0_216 : Index := 0#32
  ![v769.toNat, 0]

def k2_off469 (v768 : BitVec 32) : Fin 2 → Nat :=
  let v773 : Index := Scalar.indexCast v768
  let c16_217 : Index := 16#32
  ![v773.toNat, 16]
def k2_off470 (v768 : BitVec 32) : Fin 2 → Nat :=
  let v777 : Index := Scalar.indexCast v768
  let c32_218 : Index := 32#32
  ![v777.toNat, 32]
def k2_off471 (v768 : BitVec 32) : Fin 2 → Nat :=
  let v781 : Index := Scalar.indexCast v768
  let c48_219 : Index := 48#32
  ![v781.toNat, 48]

def k2_chk132 (v768 : BitVec 32) : Prop :=
  (∀ a, (k2_off468 v768) a + S1x16.size a ≤ S1000x64.size a) ∧
  (∀ a, (k2_off469 v768) a + S1x16.size a ≤ S1000x64.size a) ∧
  (∀ a, (k2_off470 v768) a + S1x16.size a ≤ S1000x64.size a) ∧
  (∀ a, (k2_off471 v768) a + S1x16.size a ≤ S1000x64.size a)
theorem k2_off468_inb : ∀ (v768 : BitVec 32) (k2_hw132 : k2_chk132 v768), ∀ a, (k2_off468 v768) a + S1x16.size a ≤ S1000x64.size a := fun v768 k2_hw132 => k2_hw132.1
theorem k2_off469_inb : ∀ (v768 : BitVec 32) (k2_hw132 : k2_chk132 v768), ∀ a, (k2_off469 v768) a + S1x16.size a ≤ S1000x64.size a := fun v768 k2_hw132 => k2_hw132.2.1
theorem k2_off470_inb : ∀ (v768 : BitVec 32) (k2_hw132 : k2_chk132 v768), ∀ a, (k2_off470 v768) a + S1x16.size a ≤ S1000x64.size a := fun v768 k2_hw132 => k2_hw132.2.2.1
theorem k2_off471_inb : ∀ (v768 : BitVec 32) (k2_hw132 : k2_chk132 v768), ∀ a, (k2_off471 v768) a + S1x16.size a ≤ S1000x64.size a := fun v768 k2_hw132 => k2_hw132.2.2.2

def k2_off472 (v786 : BitVec 32) : Fin 2 → Nat :=
  let v787 : Index := Scalar.indexCast v786
  let c0_220 : Index := 0#32
  ![v787.toNat, 0]

def k2_off473 (v786 : BitVec 32) : Fin 2 → Nat :=
  let v791 : Index := Scalar.indexCast v786
  let c16_221 : Index := 16#32
  ![v791.toNat, 16]
def k2_off474 (v786 : BitVec 32) : Fin 2 → Nat :=
  let v795 : Index := Scalar.indexCast v786
  let c32_222 : Index := 32#32
  ![v795.toNat, 32]
def k2_off475 (v786 : BitVec 32) : Fin 2 → Nat :=
  let v799 : Index := Scalar.indexCast v786
  let c48_223 : Index := 48#32
  ![v799.toNat, 48]

def k2_chk133 (v786 : BitVec 32) : Prop :=
  (∀ a, (k2_off472 v786) a + S1x16.size a ≤ S1000x64.size a) ∧
  (∀ a, (k2_off473 v786) a + S1x16.size a ≤ S1000x64.size a) ∧
  (∀ a, (k2_off474 v786) a + S1x16.size a ≤ S1000x64.size a) ∧
  (∀ a, (k2_off475 v786) a + S1x16.size a ≤ S1000x64.size a)
theorem k2_off472_inb : ∀ (v786 : BitVec 32) (k2_hw133 : k2_chk133 v786), ∀ a, (k2_off472 v786) a + S1x16.size a ≤ S1000x64.size a := fun v786 k2_hw133 => k2_hw133.1
theorem k2_off473_inb : ∀ (v786 : BitVec 32) (k2_hw133 : k2_chk133 v786), ∀ a, (k2_off473 v786) a + S1x16.size a ≤ S1000x64.size a := fun v786 k2_hw133 => k2_hw133.2.1
theorem k2_off474_inb : ∀ (v786 : BitVec 32) (k2_hw133 : k2_chk133 v786), ∀ a, (k2_off474 v786) a + S1x16.size a ≤ S1000x64.size a := fun v786 k2_hw133 => k2_hw133.2.2.1
theorem k2_off475_inb : ∀ (v786 : BitVec 32) (k2_hw133 : k2_chk133 v786), ∀ a, (k2_off475 v786) a + S1x16.size a ≤ S1000x64.size a := fun v786 k2_hw133 => k2_hw133.2.2.2

def k2_off476 (v804 : BitVec 32) : Fin 2 → Nat :=
  let v805 : Index := Scalar.indexCast v804
  let c0_224 : Index := 0#32
  ![v805.toNat, 0]

def k2_off477 (v804 : BitVec 32) : Fin 2 → Nat :=
  let v809 : Index := Scalar.indexCast v804
  let c16_225 : Index := 16#32
  ![v809.toNat, 16]
def k2_off478 (v804 : BitVec 32) : Fin 2 → Nat :=
  let v813 : Index := Scalar.indexCast v804
  let c32_226 : Index := 32#32
  ![v813.toNat, 32]
def k2_off479 (v804 : BitVec 32) : Fin 2 → Nat :=
  let v817 : Index := Scalar.indexCast v804
  let c48_227 : Index := 48#32
  ![v817.toNat, 48]

def k2_chk134 (v804 : BitVec 32) : Prop :=
  (∀ a, (k2_off476 v804) a + S1x16.size a ≤ S1000x64.size a) ∧
  (∀ a, (k2_off477 v804) a + S1x16.size a ≤ S1000x64.size a) ∧
  (∀ a, (k2_off478 v804) a + S1x16.size a ≤ S1000x64.size a) ∧
  (∀ a, (k2_off479 v804) a + S1x16.size a ≤ S1000x64.size a)
theorem k2_off476_inb : ∀ (v804 : BitVec 32) (k2_hw134 : k2_chk134 v804), ∀ a, (k2_off476 v804) a + S1x16.size a ≤ S1000x64.size a := fun v804 k2_hw134 => k2_hw134.1
theorem k2_off477_inb : ∀ (v804 : BitVec 32) (k2_hw134 : k2_chk134 v804), ∀ a, (k2_off477 v804) a + S1x16.size a ≤ S1000x64.size a := fun v804 k2_hw134 => k2_hw134.2.1
theorem k2_off478_inb : ∀ (v804 : BitVec 32) (k2_hw134 : k2_chk134 v804), ∀ a, (k2_off478 v804) a + S1x16.size a ≤ S1000x64.size a := fun v804 k2_hw134 => k2_hw134.2.2.1
theorem k2_off479_inb : ∀ (v804 : BitVec 32) (k2_hw134 : k2_chk134 v804), ∀ a, (k2_off479 v804) a + S1x16.size a ≤ S1000x64.size a := fun v804 k2_hw134 => k2_hw134.2.2.2

def k2_off480 (v822 : BitVec 32) : Fin 2 → Nat :=
  let v823 : Index := Scalar.indexCast v822
  let c0_228 : Index := 0#32
  ![v823.toNat, 0]

def k2_off481 (v822 : BitVec 32) : Fin 2 → Nat :=
  let v827 : Index := Scalar.indexCast v822
  let c16_229 : Index := 16#32
  ![v827.toNat, 16]
def k2_off482 (v822 : BitVec 32) : Fin 2 → Nat :=
  let v831 : Index := Scalar.indexCast v822
  let c32_230 : Index := 32#32
  ![v831.toNat, 32]
def k2_off483 (v822 : BitVec 32) : Fin 2 → Nat :=
  let v835 : Index := Scalar.indexCast v822
  let c48_231 : Index := 48#32
  ![v835.toNat, 48]

def k2_chk135 (v822 : BitVec 32) : Prop :=
  (∀ a, (k2_off480 v822) a + S1x16.size a ≤ S1000x64.size a) ∧
  (∀ a, (k2_off481 v822) a + S1x16.size a ≤ S1000x64.size a) ∧
  (∀ a, (k2_off482 v822) a + S1x16.size a ≤ S1000x64.size a) ∧
  (∀ a, (k2_off483 v822) a + S1x16.size a ≤ S1000x64.size a)
theorem k2_off480_inb : ∀ (v822 : BitVec 32) (k2_hw135 : k2_chk135 v822), ∀ a, (k2_off480 v822) a + S1x16.size a ≤ S1000x64.size a := fun v822 k2_hw135 => k2_hw135.1
theorem k2_off481_inb : ∀ (v822 : BitVec 32) (k2_hw135 : k2_chk135 v822), ∀ a, (k2_off481 v822) a + S1x16.size a ≤ S1000x64.size a := fun v822 k2_hw135 => k2_hw135.2.1
theorem k2_off482_inb : ∀ (v822 : BitVec 32) (k2_hw135 : k2_chk135 v822), ∀ a, (k2_off482 v822) a + S1x16.size a ≤ S1000x64.size a := fun v822 k2_hw135 => k2_hw135.2.2.1
theorem k2_off483_inb : ∀ (v822 : BitVec 32) (k2_hw135 : k2_chk135 v822), ∀ a, (k2_off483 v822) a + S1x16.size a ≤ S1000x64.size a := fun v822 k2_hw135 => k2_hw135.2.2.2

def k2_off484 (v840 : BitVec 32) : Fin 2 → Nat :=
  let v841 : Index := Scalar.indexCast v840
  let c0_232 : Index := 0#32
  ![v841.toNat, 0]

def k2_off485 (v840 : BitVec 32) : Fin 2 → Nat :=
  let v845 : Index := Scalar.indexCast v840
  let c16_233 : Index := 16#32
  ![v845.toNat, 16]
def k2_off486 (v840 : BitVec 32) : Fin 2 → Nat :=
  let v849 : Index := Scalar.indexCast v840
  let c32_234 : Index := 32#32
  ![v849.toNat, 32]
def k2_off487 (v840 : BitVec 32) : Fin 2 → Nat :=
  let v853 : Index := Scalar.indexCast v840
  let c48_235 : Index := 48#32
  ![v853.toNat, 48]

def k2_chk136 (v840 : BitVec 32) : Prop :=
  (∀ a, (k2_off484 v840) a + S1x16.size a ≤ S1000x64.size a) ∧
  (∀ a, (k2_off485 v840) a + S1x16.size a ≤ S1000x64.size a) ∧
  (∀ a, (k2_off486 v840) a + S1x16.size a ≤ S1000x64.size a) ∧
  (∀ a, (k2_off487 v840) a + S1x16.size a ≤ S1000x64.size a)
theorem k2_off484_inb : ∀ (v840 : BitVec 32) (k2_hw136 : k2_chk136 v840), ∀ a, (k2_off484 v840) a + S1x16.size a ≤ S1000x64.size a := fun v840 k2_hw136 => k2_hw136.1
theorem k2_off485_inb : ∀ (v840 : BitVec 32) (k2_hw136 : k2_chk136 v840), ∀ a, (k2_off485 v840) a + S1x16.size a ≤ S1000x64.size a := fun v840 k2_hw136 => k2_hw136.2.1
theorem k2_off486_inb : ∀ (v840 : BitVec 32) (k2_hw136 : k2_chk136 v840), ∀ a, (k2_off486 v840) a + S1x16.size a ≤ S1000x64.size a := fun v840 k2_hw136 => k2_hw136.2.2.1
theorem k2_off487_inb : ∀ (v840 : BitVec 32) (k2_hw136 : k2_chk136 v840), ∀ a, (k2_off487 v840) a + S1x16.size a ≤ S1000x64.size a := fun v840 k2_hw136 => k2_hw136.2.2.2

def k2_off488 (v858 : BitVec 32) : Fin 2 → Nat :=
  let v859 : Index := Scalar.indexCast v858
  let c0_236 : Index := 0#32
  ![v859.toNat, 0]

def k2_off489 (v858 : BitVec 32) : Fin 2 → Nat :=
  let v863 : Index := Scalar.indexCast v858
  let c16_237 : Index := 16#32
  ![v863.toNat, 16]
def k2_off490 (v858 : BitVec 32) : Fin 2 → Nat :=
  let v867 : Index := Scalar.indexCast v858
  let c32_238 : Index := 32#32
  ![v867.toNat, 32]
def k2_off491 (v858 : BitVec 32) : Fin 2 → Nat :=
  let v871 : Index := Scalar.indexCast v858
  let c48_239 : Index := 48#32
  ![v871.toNat, 48]

def k2_chk137 (v858 : BitVec 32) : Prop :=
  (∀ a, (k2_off488 v858) a + S1x16.size a ≤ S1000x64.size a) ∧
  (∀ a, (k2_off489 v858) a + S1x16.size a ≤ S1000x64.size a) ∧
  (∀ a, (k2_off490 v858) a + S1x16.size a ≤ S1000x64.size a) ∧
  (∀ a, (k2_off491 v858) a + S1x16.size a ≤ S1000x64.size a)
theorem k2_off488_inb : ∀ (v858 : BitVec 32) (k2_hw137 : k2_chk137 v858), ∀ a, (k2_off488 v858) a + S1x16.size a ≤ S1000x64.size a := fun v858 k2_hw137 => k2_hw137.1
theorem k2_off489_inb : ∀ (v858 : BitVec 32) (k2_hw137 : k2_chk137 v858), ∀ a, (k2_off489 v858) a + S1x16.size a ≤ S1000x64.size a := fun v858 k2_hw137 => k2_hw137.2.1
theorem k2_off490_inb : ∀ (v858 : BitVec 32) (k2_hw137 : k2_chk137 v858), ∀ a, (k2_off490 v858) a + S1x16.size a ≤ S1000x64.size a := fun v858 k2_hw137 => k2_hw137.2.2.1
theorem k2_off491_inb : ∀ (v858 : BitVec 32) (k2_hw137 : k2_chk137 v858), ∀ a, (k2_off491 v858) a + S1x16.size a ≤ S1000x64.size a := fun v858 k2_hw137 => k2_hw137.2.2.2

def k2_off492 (v876 : BitVec 32) : Fin 2 → Nat :=
  let v877 : Index := Scalar.indexCast v876
  let c0_240 : Index := 0#32
  ![v877.toNat, 0]

def k2_off493 (v876 : BitVec 32) : Fin 2 → Nat :=
  let v881 : Index := Scalar.indexCast v876
  let c16_241 : Index := 16#32
  ![v881.toNat, 16]
def k2_off494 (v876 : BitVec 32) : Fin 2 → Nat :=
  let v885 : Index := Scalar.indexCast v876
  let c32_242 : Index := 32#32
  ![v885.toNat, 32]
def k2_off495 (v876 : BitVec 32) : Fin 2 → Nat :=
  let v889 : Index := Scalar.indexCast v876
  let c48_243 : Index := 48#32
  ![v889.toNat, 48]

def k2_chk138 (v876 : BitVec 32) : Prop :=
  (∀ a, (k2_off492 v876) a + S1x16.size a ≤ S1000x64.size a) ∧
  (∀ a, (k2_off493 v876) a + S1x16.size a ≤ S1000x64.size a) ∧
  (∀ a, (k2_off494 v876) a + S1x16.size a ≤ S1000x64.size a) ∧
  (∀ a, (k2_off495 v876) a + S1x16.size a ≤ S1000x64.size a)
theorem k2_off492_inb : ∀ (v876 : BitVec 32) (k2_hw138 : k2_chk138 v876), ∀ a, (k2_off492 v876) a + S1x16.size a ≤ S1000x64.size a := fun v876 k2_hw138 => k2_hw138.1
theorem k2_off493_inb : ∀ (v876 : BitVec 32) (k2_hw138 : k2_chk138 v876), ∀ a, (k2_off493 v876) a + S1x16.size a ≤ S1000x64.size a := fun v876 k2_hw138 => k2_hw138.2.1
theorem k2_off494_inb : ∀ (v876 : BitVec 32) (k2_hw138 : k2_chk138 v876), ∀ a, (k2_off494 v876) a + S1x16.size a ≤ S1000x64.size a := fun v876 k2_hw138 => k2_hw138.2.2.1
theorem k2_off495_inb : ∀ (v876 : BitVec 32) (k2_hw138 : k2_chk138 v876), ∀ a, (k2_off495 v876) a + S1x16.size a ≤ S1000x64.size a := fun v876 k2_hw138 => k2_hw138.2.2.2

def k2_off496 (k2_t3 : Fin k2_t3_loop.trips) (c0_i32_248 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k2_t3
  let c1_i32_59 : BitVec 32 := 1#32
  let v102 : BitVec 32 := Scalar.muli arg16 c1_i32_59
  let v103 : BitVec 32 := Scalar.addi c0_i32_60 v102
  let c4_i32_245 : BitVec 32 := 4#32
  let v895 : BitVec 32 := Scalar.muli v103 c4_i32_245
  let c1_i32_246 : BitVec 32 := 1#32
  let v896 : BitVec 32 := Scalar.addi v895 c1_i32_246
  let c64_i32_247 : BitVec 32 := 64#32
  let v897 : BitVec 32 := Scalar.muli v896 c64_i32_247
  let v898 : BitVec 32 := Scalar.addi v897 c0_i32_248
  let v899 : Index := Scalar.indexCast v898
  ![v899.toNat]
def k2_off497 (v934 : BitVec 32) : Fin 2 → Nat :=
  let v935 : Index := Scalar.indexCast v934
  let c0_264 : Index := 0#32
  ![v935.toNat, 0]

def k2_chk139 (v934 : BitVec 32) : Prop :=
  (∀ a, (k2_off497 v934) a + S1x16.size a ≤ S1000x64.size a)
theorem k2_off497_inb : ∀ (v934 : BitVec 32) (k2_hw139 : k2_chk139 v934), ∀ a, (k2_off497 v934) a + S1x16.size a ≤ S1000x64.size a := fun v934 k2_hw139 => k2_hw139

def k2_off498 (v939 : BitVec 32) : Fin 2 → Nat :=
  let v940 : Index := Scalar.indexCast v939
  let c16_265 : Index := 16#32
  ![v940.toNat, 16]

def k2_chk140 (v939 : BitVec 32) : Prop :=
  (∀ a, (k2_off498 v939) a + S1x16.size a ≤ S1000x64.size a)
theorem k2_off498_inb : ∀ (v939 : BitVec 32) (k2_hw140 : k2_chk140 v939), ∀ a, (k2_off498 v939) a + S1x16.size a ≤ S1000x64.size a := fun v939 k2_hw140 => k2_hw140

def k2_off499 (v944 : BitVec 32) : Fin 2 → Nat :=
  let v945 : Index := Scalar.indexCast v944
  let c32_266 : Index := 32#32
  ![v945.toNat, 32]

def k2_chk141 (v944 : BitVec 32) : Prop :=
  (∀ a, (k2_off499 v944) a + S1x16.size a ≤ S1000x64.size a)
theorem k2_off499_inb : ∀ (v944 : BitVec 32) (k2_hw141 : k2_chk141 v944), ∀ a, (k2_off499 v944) a + S1x16.size a ≤ S1000x64.size a := fun v944 k2_hw141 => k2_hw141

def k2_off500 (v949 : BitVec 32) : Fin 2 → Nat :=
  let v950 : Index := Scalar.indexCast v949
  let c48_267 : Index := 48#32
  ![v950.toNat, 48]

def k2_chk142 (v949 : BitVec 32) : Prop :=
  (∀ a, (k2_off500 v949) a + S1x16.size a ≤ S1000x64.size a)
theorem k2_off500_inb : ∀ (v949 : BitVec 32) (k2_hw142 : k2_chk142 v949), ∀ a, (k2_off500 v949) a + S1x16.size a ≤ S1000x64.size a := fun v949 k2_hw142 => k2_hw142

def k2_off501 (v954 : BitVec 32) : Fin 2 → Nat :=
  let v955 : Index := Scalar.indexCast v954
  let c0_268 : Index := 0#32
  ![v955.toNat, 0]

def k2_off502 (v954 : BitVec 32) : Fin 2 → Nat :=
  let v959 : Index := Scalar.indexCast v954
  let c16_269 : Index := 16#32
  ![v959.toNat, 16]
def k2_off503 (v954 : BitVec 32) : Fin 2 → Nat :=
  let v963 : Index := Scalar.indexCast v954
  let c32_270 : Index := 32#32
  ![v963.toNat, 32]
def k2_off504 (v954 : BitVec 32) : Fin 2 → Nat :=
  let v967 : Index := Scalar.indexCast v954
  let c48_271 : Index := 48#32
  ![v967.toNat, 48]

def k2_chk143 (v954 : BitVec 32) : Prop :=
  (∀ a, (k2_off501 v954) a + S1x16.size a ≤ S1000x64.size a) ∧
  (∀ a, (k2_off502 v954) a + S1x16.size a ≤ S1000x64.size a) ∧
  (∀ a, (k2_off503 v954) a + S1x16.size a ≤ S1000x64.size a) ∧
  (∀ a, (k2_off504 v954) a + S1x16.size a ≤ S1000x64.size a)
theorem k2_off501_inb : ∀ (v954 : BitVec 32) (k2_hw143 : k2_chk143 v954), ∀ a, (k2_off501 v954) a + S1x16.size a ≤ S1000x64.size a := fun v954 k2_hw143 => k2_hw143.1
theorem k2_off502_inb : ∀ (v954 : BitVec 32) (k2_hw143 : k2_chk143 v954), ∀ a, (k2_off502 v954) a + S1x16.size a ≤ S1000x64.size a := fun v954 k2_hw143 => k2_hw143.2.1
theorem k2_off503_inb : ∀ (v954 : BitVec 32) (k2_hw143 : k2_chk143 v954), ∀ a, (k2_off503 v954) a + S1x16.size a ≤ S1000x64.size a := fun v954 k2_hw143 => k2_hw143.2.2.1
theorem k2_off504_inb : ∀ (v954 : BitVec 32) (k2_hw143 : k2_chk143 v954), ∀ a, (k2_off504 v954) a + S1x16.size a ≤ S1000x64.size a := fun v954 k2_hw143 => k2_hw143.2.2.2

def k2_off505 (v972 : BitVec 32) : Fin 2 → Nat :=
  let v973 : Index := Scalar.indexCast v972
  let c0_272 : Index := 0#32
  ![v973.toNat, 0]

def k2_off506 (v972 : BitVec 32) : Fin 2 → Nat :=
  let v977 : Index := Scalar.indexCast v972
  let c16_273 : Index := 16#32
  ![v977.toNat, 16]
def k2_off507 (v972 : BitVec 32) : Fin 2 → Nat :=
  let v981 : Index := Scalar.indexCast v972
  let c32_274 : Index := 32#32
  ![v981.toNat, 32]
def k2_off508 (v972 : BitVec 32) : Fin 2 → Nat :=
  let v985 : Index := Scalar.indexCast v972
  let c48_275 : Index := 48#32
  ![v985.toNat, 48]

def k2_chk144 (v972 : BitVec 32) : Prop :=
  (∀ a, (k2_off505 v972) a + S1x16.size a ≤ S1000x64.size a) ∧
  (∀ a, (k2_off506 v972) a + S1x16.size a ≤ S1000x64.size a) ∧
  (∀ a, (k2_off507 v972) a + S1x16.size a ≤ S1000x64.size a) ∧
  (∀ a, (k2_off508 v972) a + S1x16.size a ≤ S1000x64.size a)
theorem k2_off505_inb : ∀ (v972 : BitVec 32) (k2_hw144 : k2_chk144 v972), ∀ a, (k2_off505 v972) a + S1x16.size a ≤ S1000x64.size a := fun v972 k2_hw144 => k2_hw144.1
theorem k2_off506_inb : ∀ (v972 : BitVec 32) (k2_hw144 : k2_chk144 v972), ∀ a, (k2_off506 v972) a + S1x16.size a ≤ S1000x64.size a := fun v972 k2_hw144 => k2_hw144.2.1
theorem k2_off507_inb : ∀ (v972 : BitVec 32) (k2_hw144 : k2_chk144 v972), ∀ a, (k2_off507 v972) a + S1x16.size a ≤ S1000x64.size a := fun v972 k2_hw144 => k2_hw144.2.2.1
theorem k2_off508_inb : ∀ (v972 : BitVec 32) (k2_hw144 : k2_chk144 v972), ∀ a, (k2_off508 v972) a + S1x16.size a ≤ S1000x64.size a := fun v972 k2_hw144 => k2_hw144.2.2.2

def k2_off509 (v990 : BitVec 32) : Fin 2 → Nat :=
  let v991 : Index := Scalar.indexCast v990
  let c0_276 : Index := 0#32
  ![v991.toNat, 0]

def k2_off510 (v990 : BitVec 32) : Fin 2 → Nat :=
  let v995 : Index := Scalar.indexCast v990
  let c16_277 : Index := 16#32
  ![v995.toNat, 16]
def k2_off511 (v990 : BitVec 32) : Fin 2 → Nat :=
  let v999 : Index := Scalar.indexCast v990
  let c32_278 : Index := 32#32
  ![v999.toNat, 32]
def k2_off512 (v990 : BitVec 32) : Fin 2 → Nat :=
  let v1003 : Index := Scalar.indexCast v990
  let c48_279 : Index := 48#32
  ![v1003.toNat, 48]

def k2_chk145 (v990 : BitVec 32) : Prop :=
  (∀ a, (k2_off509 v990) a + S1x16.size a ≤ S1000x64.size a) ∧
  (∀ a, (k2_off510 v990) a + S1x16.size a ≤ S1000x64.size a) ∧
  (∀ a, (k2_off511 v990) a + S1x16.size a ≤ S1000x64.size a) ∧
  (∀ a, (k2_off512 v990) a + S1x16.size a ≤ S1000x64.size a)
theorem k2_off509_inb : ∀ (v990 : BitVec 32) (k2_hw145 : k2_chk145 v990), ∀ a, (k2_off509 v990) a + S1x16.size a ≤ S1000x64.size a := fun v990 k2_hw145 => k2_hw145.1
theorem k2_off510_inb : ∀ (v990 : BitVec 32) (k2_hw145 : k2_chk145 v990), ∀ a, (k2_off510 v990) a + S1x16.size a ≤ S1000x64.size a := fun v990 k2_hw145 => k2_hw145.2.1
theorem k2_off511_inb : ∀ (v990 : BitVec 32) (k2_hw145 : k2_chk145 v990), ∀ a, (k2_off511 v990) a + S1x16.size a ≤ S1000x64.size a := fun v990 k2_hw145 => k2_hw145.2.2.1
theorem k2_off512_inb : ∀ (v990 : BitVec 32) (k2_hw145 : k2_chk145 v990), ∀ a, (k2_off512 v990) a + S1x16.size a ≤ S1000x64.size a := fun v990 k2_hw145 => k2_hw145.2.2.2

def k2_off513 (v1008 : BitVec 32) : Fin 2 → Nat :=
  let v1009 : Index := Scalar.indexCast v1008
  let c0_280 : Index := 0#32
  ![v1009.toNat, 0]

def k2_off514 (v1008 : BitVec 32) : Fin 2 → Nat :=
  let v1013 : Index := Scalar.indexCast v1008
  let c16_281 : Index := 16#32
  ![v1013.toNat, 16]
def k2_off515 (v1008 : BitVec 32) : Fin 2 → Nat :=
  let v1017 : Index := Scalar.indexCast v1008
  let c32_282 : Index := 32#32
  ![v1017.toNat, 32]
def k2_off516 (v1008 : BitVec 32) : Fin 2 → Nat :=
  let v1021 : Index := Scalar.indexCast v1008
  let c48_283 : Index := 48#32
  ![v1021.toNat, 48]

def k2_chk146 (v1008 : BitVec 32) : Prop :=
  (∀ a, (k2_off513 v1008) a + S1x16.size a ≤ S1000x64.size a) ∧
  (∀ a, (k2_off514 v1008) a + S1x16.size a ≤ S1000x64.size a) ∧
  (∀ a, (k2_off515 v1008) a + S1x16.size a ≤ S1000x64.size a) ∧
  (∀ a, (k2_off516 v1008) a + S1x16.size a ≤ S1000x64.size a)
theorem k2_off513_inb : ∀ (v1008 : BitVec 32) (k2_hw146 : k2_chk146 v1008), ∀ a, (k2_off513 v1008) a + S1x16.size a ≤ S1000x64.size a := fun v1008 k2_hw146 => k2_hw146.1
theorem k2_off514_inb : ∀ (v1008 : BitVec 32) (k2_hw146 : k2_chk146 v1008), ∀ a, (k2_off514 v1008) a + S1x16.size a ≤ S1000x64.size a := fun v1008 k2_hw146 => k2_hw146.2.1
theorem k2_off515_inb : ∀ (v1008 : BitVec 32) (k2_hw146 : k2_chk146 v1008), ∀ a, (k2_off515 v1008) a + S1x16.size a ≤ S1000x64.size a := fun v1008 k2_hw146 => k2_hw146.2.2.1
theorem k2_off516_inb : ∀ (v1008 : BitVec 32) (k2_hw146 : k2_chk146 v1008), ∀ a, (k2_off516 v1008) a + S1x16.size a ≤ S1000x64.size a := fun v1008 k2_hw146 => k2_hw146.2.2.2

def k2_off517 (v1026 : BitVec 32) : Fin 2 → Nat :=
  let v1027 : Index := Scalar.indexCast v1026
  let c0_284 : Index := 0#32
  ![v1027.toNat, 0]

def k2_off518 (v1026 : BitVec 32) : Fin 2 → Nat :=
  let v1031 : Index := Scalar.indexCast v1026
  let c16_285 : Index := 16#32
  ![v1031.toNat, 16]
def k2_off519 (v1026 : BitVec 32) : Fin 2 → Nat :=
  let v1035 : Index := Scalar.indexCast v1026
  let c32_286 : Index := 32#32
  ![v1035.toNat, 32]
def k2_off520 (v1026 : BitVec 32) : Fin 2 → Nat :=
  let v1039 : Index := Scalar.indexCast v1026
  let c48_287 : Index := 48#32
  ![v1039.toNat, 48]

def k2_chk147 (v1026 : BitVec 32) : Prop :=
  (∀ a, (k2_off517 v1026) a + S1x16.size a ≤ S1000x64.size a) ∧
  (∀ a, (k2_off518 v1026) a + S1x16.size a ≤ S1000x64.size a) ∧
  (∀ a, (k2_off519 v1026) a + S1x16.size a ≤ S1000x64.size a) ∧
  (∀ a, (k2_off520 v1026) a + S1x16.size a ≤ S1000x64.size a)
theorem k2_off517_inb : ∀ (v1026 : BitVec 32) (k2_hw147 : k2_chk147 v1026), ∀ a, (k2_off517 v1026) a + S1x16.size a ≤ S1000x64.size a := fun v1026 k2_hw147 => k2_hw147.1
theorem k2_off518_inb : ∀ (v1026 : BitVec 32) (k2_hw147 : k2_chk147 v1026), ∀ a, (k2_off518 v1026) a + S1x16.size a ≤ S1000x64.size a := fun v1026 k2_hw147 => k2_hw147.2.1
theorem k2_off519_inb : ∀ (v1026 : BitVec 32) (k2_hw147 : k2_chk147 v1026), ∀ a, (k2_off519 v1026) a + S1x16.size a ≤ S1000x64.size a := fun v1026 k2_hw147 => k2_hw147.2.2.1
theorem k2_off520_inb : ∀ (v1026 : BitVec 32) (k2_hw147 : k2_chk147 v1026), ∀ a, (k2_off520 v1026) a + S1x16.size a ≤ S1000x64.size a := fun v1026 k2_hw147 => k2_hw147.2.2.2

def k2_off521 (v1044 : BitVec 32) : Fin 2 → Nat :=
  let v1045 : Index := Scalar.indexCast v1044
  let c0_288 : Index := 0#32
  ![v1045.toNat, 0]

def k2_off522 (v1044 : BitVec 32) : Fin 2 → Nat :=
  let v1049 : Index := Scalar.indexCast v1044
  let c16_289 : Index := 16#32
  ![v1049.toNat, 16]
def k2_off523 (v1044 : BitVec 32) : Fin 2 → Nat :=
  let v1053 : Index := Scalar.indexCast v1044
  let c32_290 : Index := 32#32
  ![v1053.toNat, 32]
def k2_off524 (v1044 : BitVec 32) : Fin 2 → Nat :=
  let v1057 : Index := Scalar.indexCast v1044
  let c48_291 : Index := 48#32
  ![v1057.toNat, 48]

def k2_chk148 (v1044 : BitVec 32) : Prop :=
  (∀ a, (k2_off521 v1044) a + S1x16.size a ≤ S1000x64.size a) ∧
  (∀ a, (k2_off522 v1044) a + S1x16.size a ≤ S1000x64.size a) ∧
  (∀ a, (k2_off523 v1044) a + S1x16.size a ≤ S1000x64.size a) ∧
  (∀ a, (k2_off524 v1044) a + S1x16.size a ≤ S1000x64.size a)
theorem k2_off521_inb : ∀ (v1044 : BitVec 32) (k2_hw148 : k2_chk148 v1044), ∀ a, (k2_off521 v1044) a + S1x16.size a ≤ S1000x64.size a := fun v1044 k2_hw148 => k2_hw148.1
theorem k2_off522_inb : ∀ (v1044 : BitVec 32) (k2_hw148 : k2_chk148 v1044), ∀ a, (k2_off522 v1044) a + S1x16.size a ≤ S1000x64.size a := fun v1044 k2_hw148 => k2_hw148.2.1
theorem k2_off523_inb : ∀ (v1044 : BitVec 32) (k2_hw148 : k2_chk148 v1044), ∀ a, (k2_off523 v1044) a + S1x16.size a ≤ S1000x64.size a := fun v1044 k2_hw148 => k2_hw148.2.2.1
theorem k2_off524_inb : ∀ (v1044 : BitVec 32) (k2_hw148 : k2_chk148 v1044), ∀ a, (k2_off524 v1044) a + S1x16.size a ≤ S1000x64.size a := fun v1044 k2_hw148 => k2_hw148.2.2.2

def k2_off525 (v1062 : BitVec 32) : Fin 2 → Nat :=
  let v1063 : Index := Scalar.indexCast v1062
  let c0_292 : Index := 0#32
  ![v1063.toNat, 0]

def k2_off526 (v1062 : BitVec 32) : Fin 2 → Nat :=
  let v1067 : Index := Scalar.indexCast v1062
  let c16_293 : Index := 16#32
  ![v1067.toNat, 16]
def k2_off527 (v1062 : BitVec 32) : Fin 2 → Nat :=
  let v1071 : Index := Scalar.indexCast v1062
  let c32_294 : Index := 32#32
  ![v1071.toNat, 32]
def k2_off528 (v1062 : BitVec 32) : Fin 2 → Nat :=
  let v1075 : Index := Scalar.indexCast v1062
  let c48_295 : Index := 48#32
  ![v1075.toNat, 48]

def k2_chk149 (v1062 : BitVec 32) : Prop :=
  (∀ a, (k2_off525 v1062) a + S1x16.size a ≤ S1000x64.size a) ∧
  (∀ a, (k2_off526 v1062) a + S1x16.size a ≤ S1000x64.size a) ∧
  (∀ a, (k2_off527 v1062) a + S1x16.size a ≤ S1000x64.size a) ∧
  (∀ a, (k2_off528 v1062) a + S1x16.size a ≤ S1000x64.size a)
theorem k2_off525_inb : ∀ (v1062 : BitVec 32) (k2_hw149 : k2_chk149 v1062), ∀ a, (k2_off525 v1062) a + S1x16.size a ≤ S1000x64.size a := fun v1062 k2_hw149 => k2_hw149.1
theorem k2_off526_inb : ∀ (v1062 : BitVec 32) (k2_hw149 : k2_chk149 v1062), ∀ a, (k2_off526 v1062) a + S1x16.size a ≤ S1000x64.size a := fun v1062 k2_hw149 => k2_hw149.2.1
theorem k2_off527_inb : ∀ (v1062 : BitVec 32) (k2_hw149 : k2_chk149 v1062), ∀ a, (k2_off527 v1062) a + S1x16.size a ≤ S1000x64.size a := fun v1062 k2_hw149 => k2_hw149.2.2.1
theorem k2_off528_inb : ∀ (v1062 : BitVec 32) (k2_hw149 : k2_chk149 v1062), ∀ a, (k2_off528 v1062) a + S1x16.size a ≤ S1000x64.size a := fun v1062 k2_hw149 => k2_hw149.2.2.2

def k2_off529 (v1080 : BitVec 32) : Fin 2 → Nat :=
  let v1081 : Index := Scalar.indexCast v1080
  let c0_296 : Index := 0#32
  ![v1081.toNat, 0]

def k2_off530 (v1080 : BitVec 32) : Fin 2 → Nat :=
  let v1085 : Index := Scalar.indexCast v1080
  let c16_297 : Index := 16#32
  ![v1085.toNat, 16]
def k2_off531 (v1080 : BitVec 32) : Fin 2 → Nat :=
  let v1089 : Index := Scalar.indexCast v1080
  let c32_298 : Index := 32#32
  ![v1089.toNat, 32]
def k2_off532 (v1080 : BitVec 32) : Fin 2 → Nat :=
  let v1093 : Index := Scalar.indexCast v1080
  let c48_299 : Index := 48#32
  ![v1093.toNat, 48]

def k2_chk150 (v1080 : BitVec 32) : Prop :=
  (∀ a, (k2_off529 v1080) a + S1x16.size a ≤ S1000x64.size a) ∧
  (∀ a, (k2_off530 v1080) a + S1x16.size a ≤ S1000x64.size a) ∧
  (∀ a, (k2_off531 v1080) a + S1x16.size a ≤ S1000x64.size a) ∧
  (∀ a, (k2_off532 v1080) a + S1x16.size a ≤ S1000x64.size a)
theorem k2_off529_inb : ∀ (v1080 : BitVec 32) (k2_hw150 : k2_chk150 v1080), ∀ a, (k2_off529 v1080) a + S1x16.size a ≤ S1000x64.size a := fun v1080 k2_hw150 => k2_hw150.1
theorem k2_off530_inb : ∀ (v1080 : BitVec 32) (k2_hw150 : k2_chk150 v1080), ∀ a, (k2_off530 v1080) a + S1x16.size a ≤ S1000x64.size a := fun v1080 k2_hw150 => k2_hw150.2.1
theorem k2_off531_inb : ∀ (v1080 : BitVec 32) (k2_hw150 : k2_chk150 v1080), ∀ a, (k2_off531 v1080) a + S1x16.size a ≤ S1000x64.size a := fun v1080 k2_hw150 => k2_hw150.2.2.1
theorem k2_off532_inb : ∀ (v1080 : BitVec 32) (k2_hw150 : k2_chk150 v1080), ∀ a, (k2_off532 v1080) a + S1x16.size a ≤ S1000x64.size a := fun v1080 k2_hw150 => k2_hw150.2.2.2

def k2_off533 (v1098 : BitVec 32) : Fin 2 → Nat :=
  let v1099 : Index := Scalar.indexCast v1098
  let c0_300 : Index := 0#32
  ![v1099.toNat, 0]

def k2_off534 (v1098 : BitVec 32) : Fin 2 → Nat :=
  let v1103 : Index := Scalar.indexCast v1098
  let c16_301 : Index := 16#32
  ![v1103.toNat, 16]
def k2_off535 (v1098 : BitVec 32) : Fin 2 → Nat :=
  let v1107 : Index := Scalar.indexCast v1098
  let c32_302 : Index := 32#32
  ![v1107.toNat, 32]
def k2_off536 (v1098 : BitVec 32) : Fin 2 → Nat :=
  let v1111 : Index := Scalar.indexCast v1098
  let c48_303 : Index := 48#32
  ![v1111.toNat, 48]

def k2_chk151 (v1098 : BitVec 32) : Prop :=
  (∀ a, (k2_off533 v1098) a + S1x16.size a ≤ S1000x64.size a) ∧
  (∀ a, (k2_off534 v1098) a + S1x16.size a ≤ S1000x64.size a) ∧
  (∀ a, (k2_off535 v1098) a + S1x16.size a ≤ S1000x64.size a) ∧
  (∀ a, (k2_off536 v1098) a + S1x16.size a ≤ S1000x64.size a)
theorem k2_off533_inb : ∀ (v1098 : BitVec 32) (k2_hw151 : k2_chk151 v1098), ∀ a, (k2_off533 v1098) a + S1x16.size a ≤ S1000x64.size a := fun v1098 k2_hw151 => k2_hw151.1
theorem k2_off534_inb : ∀ (v1098 : BitVec 32) (k2_hw151 : k2_chk151 v1098), ∀ a, (k2_off534 v1098) a + S1x16.size a ≤ S1000x64.size a := fun v1098 k2_hw151 => k2_hw151.2.1
theorem k2_off535_inb : ∀ (v1098 : BitVec 32) (k2_hw151 : k2_chk151 v1098), ∀ a, (k2_off535 v1098) a + S1x16.size a ≤ S1000x64.size a := fun v1098 k2_hw151 => k2_hw151.2.2.1
theorem k2_off536_inb : ∀ (v1098 : BitVec 32) (k2_hw151 : k2_chk151 v1098), ∀ a, (k2_off536 v1098) a + S1x16.size a ≤ S1000x64.size a := fun v1098 k2_hw151 => k2_hw151.2.2.2

def k2_off537 (v1116 : BitVec 32) : Fin 2 → Nat :=
  let v1117 : Index := Scalar.indexCast v1116
  let c0_304 : Index := 0#32
  ![v1117.toNat, 0]

def k2_off538 (v1116 : BitVec 32) : Fin 2 → Nat :=
  let v1121 : Index := Scalar.indexCast v1116
  let c16_305 : Index := 16#32
  ![v1121.toNat, 16]
def k2_off539 (v1116 : BitVec 32) : Fin 2 → Nat :=
  let v1125 : Index := Scalar.indexCast v1116
  let c32_306 : Index := 32#32
  ![v1125.toNat, 32]
def k2_off540 (v1116 : BitVec 32) : Fin 2 → Nat :=
  let v1129 : Index := Scalar.indexCast v1116
  let c48_307 : Index := 48#32
  ![v1129.toNat, 48]

def k2_chk152 (v1116 : BitVec 32) : Prop :=
  (∀ a, (k2_off537 v1116) a + S1x16.size a ≤ S1000x64.size a) ∧
  (∀ a, (k2_off538 v1116) a + S1x16.size a ≤ S1000x64.size a) ∧
  (∀ a, (k2_off539 v1116) a + S1x16.size a ≤ S1000x64.size a) ∧
  (∀ a, (k2_off540 v1116) a + S1x16.size a ≤ S1000x64.size a)
theorem k2_off537_inb : ∀ (v1116 : BitVec 32) (k2_hw152 : k2_chk152 v1116), ∀ a, (k2_off537 v1116) a + S1x16.size a ≤ S1000x64.size a := fun v1116 k2_hw152 => k2_hw152.1
theorem k2_off538_inb : ∀ (v1116 : BitVec 32) (k2_hw152 : k2_chk152 v1116), ∀ a, (k2_off538 v1116) a + S1x16.size a ≤ S1000x64.size a := fun v1116 k2_hw152 => k2_hw152.2.1
theorem k2_off539_inb : ∀ (v1116 : BitVec 32) (k2_hw152 : k2_chk152 v1116), ∀ a, (k2_off539 v1116) a + S1x16.size a ≤ S1000x64.size a := fun v1116 k2_hw152 => k2_hw152.2.2.1
theorem k2_off540_inb : ∀ (v1116 : BitVec 32) (k2_hw152 : k2_chk152 v1116), ∀ a, (k2_off540 v1116) a + S1x16.size a ≤ S1000x64.size a := fun v1116 k2_hw152 => k2_hw152.2.2.2

def k2_off541 (v1134 : BitVec 32) : Fin 2 → Nat :=
  let v1135 : Index := Scalar.indexCast v1134
  let c0_308 : Index := 0#32
  ![v1135.toNat, 0]

def k2_off542 (v1134 : BitVec 32) : Fin 2 → Nat :=
  let v1139 : Index := Scalar.indexCast v1134
  let c16_309 : Index := 16#32
  ![v1139.toNat, 16]
def k2_off543 (v1134 : BitVec 32) : Fin 2 → Nat :=
  let v1143 : Index := Scalar.indexCast v1134
  let c32_310 : Index := 32#32
  ![v1143.toNat, 32]
def k2_off544 (v1134 : BitVec 32) : Fin 2 → Nat :=
  let v1147 : Index := Scalar.indexCast v1134
  let c48_311 : Index := 48#32
  ![v1147.toNat, 48]

def k2_chk153 (v1134 : BitVec 32) : Prop :=
  (∀ a, (k2_off541 v1134) a + S1x16.size a ≤ S1000x64.size a) ∧
  (∀ a, (k2_off542 v1134) a + S1x16.size a ≤ S1000x64.size a) ∧
  (∀ a, (k2_off543 v1134) a + S1x16.size a ≤ S1000x64.size a) ∧
  (∀ a, (k2_off544 v1134) a + S1x16.size a ≤ S1000x64.size a)
theorem k2_off541_inb : ∀ (v1134 : BitVec 32) (k2_hw153 : k2_chk153 v1134), ∀ a, (k2_off541 v1134) a + S1x16.size a ≤ S1000x64.size a := fun v1134 k2_hw153 => k2_hw153.1
theorem k2_off542_inb : ∀ (v1134 : BitVec 32) (k2_hw153 : k2_chk153 v1134), ∀ a, (k2_off542 v1134) a + S1x16.size a ≤ S1000x64.size a := fun v1134 k2_hw153 => k2_hw153.2.1
theorem k2_off543_inb : ∀ (v1134 : BitVec 32) (k2_hw153 : k2_chk153 v1134), ∀ a, (k2_off543 v1134) a + S1x16.size a ≤ S1000x64.size a := fun v1134 k2_hw153 => k2_hw153.2.2.1
theorem k2_off544_inb : ∀ (v1134 : BitVec 32) (k2_hw153 : k2_chk153 v1134), ∀ a, (k2_off544 v1134) a + S1x16.size a ≤ S1000x64.size a := fun v1134 k2_hw153 => k2_hw153.2.2.2

def k2_off545 (v1152 : BitVec 32) : Fin 2 → Nat :=
  let v1153 : Index := Scalar.indexCast v1152
  let c0_312 : Index := 0#32
  ![v1153.toNat, 0]

def k2_off546 (v1152 : BitVec 32) : Fin 2 → Nat :=
  let v1157 : Index := Scalar.indexCast v1152
  let c16_313 : Index := 16#32
  ![v1157.toNat, 16]
def k2_off547 (v1152 : BitVec 32) : Fin 2 → Nat :=
  let v1161 : Index := Scalar.indexCast v1152
  let c32_314 : Index := 32#32
  ![v1161.toNat, 32]
def k2_off548 (v1152 : BitVec 32) : Fin 2 → Nat :=
  let v1165 : Index := Scalar.indexCast v1152
  let c48_315 : Index := 48#32
  ![v1165.toNat, 48]

def k2_chk154 (v1152 : BitVec 32) : Prop :=
  (∀ a, (k2_off545 v1152) a + S1x16.size a ≤ S1000x64.size a) ∧
  (∀ a, (k2_off546 v1152) a + S1x16.size a ≤ S1000x64.size a) ∧
  (∀ a, (k2_off547 v1152) a + S1x16.size a ≤ S1000x64.size a) ∧
  (∀ a, (k2_off548 v1152) a + S1x16.size a ≤ S1000x64.size a)
theorem k2_off545_inb : ∀ (v1152 : BitVec 32) (k2_hw154 : k2_chk154 v1152), ∀ a, (k2_off545 v1152) a + S1x16.size a ≤ S1000x64.size a := fun v1152 k2_hw154 => k2_hw154.1
theorem k2_off546_inb : ∀ (v1152 : BitVec 32) (k2_hw154 : k2_chk154 v1152), ∀ a, (k2_off546 v1152) a + S1x16.size a ≤ S1000x64.size a := fun v1152 k2_hw154 => k2_hw154.2.1
theorem k2_off547_inb : ∀ (v1152 : BitVec 32) (k2_hw154 : k2_chk154 v1152), ∀ a, (k2_off547 v1152) a + S1x16.size a ≤ S1000x64.size a := fun v1152 k2_hw154 => k2_hw154.2.2.1
theorem k2_off548_inb : ∀ (v1152 : BitVec 32) (k2_hw154 : k2_chk154 v1152), ∀ a, (k2_off548 v1152) a + S1x16.size a ≤ S1000x64.size a := fun v1152 k2_hw154 => k2_hw154.2.2.2

def k2_off549 (v1170 : BitVec 32) : Fin 2 → Nat :=
  let v1171 : Index := Scalar.indexCast v1170
  let c0_316 : Index := 0#32
  ![v1171.toNat, 0]

def k2_off550 (v1170 : BitVec 32) : Fin 2 → Nat :=
  let v1175 : Index := Scalar.indexCast v1170
  let c16_317 : Index := 16#32
  ![v1175.toNat, 16]
def k2_off551 (v1170 : BitVec 32) : Fin 2 → Nat :=
  let v1179 : Index := Scalar.indexCast v1170
  let c32_318 : Index := 32#32
  ![v1179.toNat, 32]
def k2_off552 (v1170 : BitVec 32) : Fin 2 → Nat :=
  let v1183 : Index := Scalar.indexCast v1170
  let c48_319 : Index := 48#32
  ![v1183.toNat, 48]

def k2_chk155 (v1170 : BitVec 32) : Prop :=
  (∀ a, (k2_off549 v1170) a + S1x16.size a ≤ S1000x64.size a) ∧
  (∀ a, (k2_off550 v1170) a + S1x16.size a ≤ S1000x64.size a) ∧
  (∀ a, (k2_off551 v1170) a + S1x16.size a ≤ S1000x64.size a) ∧
  (∀ a, (k2_off552 v1170) a + S1x16.size a ≤ S1000x64.size a)
theorem k2_off549_inb : ∀ (v1170 : BitVec 32) (k2_hw155 : k2_chk155 v1170), ∀ a, (k2_off549 v1170) a + S1x16.size a ≤ S1000x64.size a := fun v1170 k2_hw155 => k2_hw155.1
theorem k2_off550_inb : ∀ (v1170 : BitVec 32) (k2_hw155 : k2_chk155 v1170), ∀ a, (k2_off550 v1170) a + S1x16.size a ≤ S1000x64.size a := fun v1170 k2_hw155 => k2_hw155.2.1
theorem k2_off551_inb : ∀ (v1170 : BitVec 32) (k2_hw155 : k2_chk155 v1170), ∀ a, (k2_off551 v1170) a + S1x16.size a ≤ S1000x64.size a := fun v1170 k2_hw155 => k2_hw155.2.2.1
theorem k2_off552_inb : ∀ (v1170 : BitVec 32) (k2_hw155 : k2_chk155 v1170), ∀ a, (k2_off552 v1170) a + S1x16.size a ≤ S1000x64.size a := fun v1170 k2_hw155 => k2_hw155.2.2.2

def k2_off553 (v1188 : BitVec 32) : Fin 2 → Nat :=
  let v1189 : Index := Scalar.indexCast v1188
  let c0_320 : Index := 0#32
  ![v1189.toNat, 0]

def k2_off554 (v1188 : BitVec 32) : Fin 2 → Nat :=
  let v1193 : Index := Scalar.indexCast v1188
  let c16_321 : Index := 16#32
  ![v1193.toNat, 16]
def k2_off555 (v1188 : BitVec 32) : Fin 2 → Nat :=
  let v1197 : Index := Scalar.indexCast v1188
  let c32_322 : Index := 32#32
  ![v1197.toNat, 32]
def k2_off556 (v1188 : BitVec 32) : Fin 2 → Nat :=
  let v1201 : Index := Scalar.indexCast v1188
  let c48_323 : Index := 48#32
  ![v1201.toNat, 48]

def k2_chk156 (v1188 : BitVec 32) : Prop :=
  (∀ a, (k2_off553 v1188) a + S1x16.size a ≤ S1000x64.size a) ∧
  (∀ a, (k2_off554 v1188) a + S1x16.size a ≤ S1000x64.size a) ∧
  (∀ a, (k2_off555 v1188) a + S1x16.size a ≤ S1000x64.size a) ∧
  (∀ a, (k2_off556 v1188) a + S1x16.size a ≤ S1000x64.size a)
theorem k2_off553_inb : ∀ (v1188 : BitVec 32) (k2_hw156 : k2_chk156 v1188), ∀ a, (k2_off553 v1188) a + S1x16.size a ≤ S1000x64.size a := fun v1188 k2_hw156 => k2_hw156.1
theorem k2_off554_inb : ∀ (v1188 : BitVec 32) (k2_hw156 : k2_chk156 v1188), ∀ a, (k2_off554 v1188) a + S1x16.size a ≤ S1000x64.size a := fun v1188 k2_hw156 => k2_hw156.2.1
theorem k2_off555_inb : ∀ (v1188 : BitVec 32) (k2_hw156 : k2_chk156 v1188), ∀ a, (k2_off555 v1188) a + S1x16.size a ≤ S1000x64.size a := fun v1188 k2_hw156 => k2_hw156.2.2.1
theorem k2_off556_inb : ∀ (v1188 : BitVec 32) (k2_hw156 : k2_chk156 v1188), ∀ a, (k2_off556 v1188) a + S1x16.size a ≤ S1000x64.size a := fun v1188 k2_hw156 => k2_hw156.2.2.2

def k2_off557 (v1206 : BitVec 32) : Fin 2 → Nat :=
  let v1207 : Index := Scalar.indexCast v1206
  let c0_324 : Index := 0#32
  ![v1207.toNat, 0]

def k2_off558 (v1206 : BitVec 32) : Fin 2 → Nat :=
  let v1211 : Index := Scalar.indexCast v1206
  let c16_325 : Index := 16#32
  ![v1211.toNat, 16]
def k2_off559 (v1206 : BitVec 32) : Fin 2 → Nat :=
  let v1215 : Index := Scalar.indexCast v1206
  let c32_326 : Index := 32#32
  ![v1215.toNat, 32]
def k2_off560 (v1206 : BitVec 32) : Fin 2 → Nat :=
  let v1219 : Index := Scalar.indexCast v1206
  let c48_327 : Index := 48#32
  ![v1219.toNat, 48]

def k2_chk157 (v1206 : BitVec 32) : Prop :=
  (∀ a, (k2_off557 v1206) a + S1x16.size a ≤ S1000x64.size a) ∧
  (∀ a, (k2_off558 v1206) a + S1x16.size a ≤ S1000x64.size a) ∧
  (∀ a, (k2_off559 v1206) a + S1x16.size a ≤ S1000x64.size a) ∧
  (∀ a, (k2_off560 v1206) a + S1x16.size a ≤ S1000x64.size a)
theorem k2_off557_inb : ∀ (v1206 : BitVec 32) (k2_hw157 : k2_chk157 v1206), ∀ a, (k2_off557 v1206) a + S1x16.size a ≤ S1000x64.size a := fun v1206 k2_hw157 => k2_hw157.1
theorem k2_off558_inb : ∀ (v1206 : BitVec 32) (k2_hw157 : k2_chk157 v1206), ∀ a, (k2_off558 v1206) a + S1x16.size a ≤ S1000x64.size a := fun v1206 k2_hw157 => k2_hw157.2.1
theorem k2_off559_inb : ∀ (v1206 : BitVec 32) (k2_hw157 : k2_chk157 v1206), ∀ a, (k2_off559 v1206) a + S1x16.size a ≤ S1000x64.size a := fun v1206 k2_hw157 => k2_hw157.2.2.1
theorem k2_off560_inb : ∀ (v1206 : BitVec 32) (k2_hw157 : k2_chk157 v1206), ∀ a, (k2_off560 v1206) a + S1x16.size a ≤ S1000x64.size a := fun v1206 k2_hw157 => k2_hw157.2.2.2

def k2_off561 (v1224 : BitVec 32) : Fin 2 → Nat :=
  let v1225 : Index := Scalar.indexCast v1224
  let c0_328 : Index := 0#32
  ![v1225.toNat, 0]

def k2_off562 (v1224 : BitVec 32) : Fin 2 → Nat :=
  let v1229 : Index := Scalar.indexCast v1224
  let c16_329 : Index := 16#32
  ![v1229.toNat, 16]
def k2_off563 (v1224 : BitVec 32) : Fin 2 → Nat :=
  let v1233 : Index := Scalar.indexCast v1224
  let c32_330 : Index := 32#32
  ![v1233.toNat, 32]
def k2_off564 (v1224 : BitVec 32) : Fin 2 → Nat :=
  let v1237 : Index := Scalar.indexCast v1224
  let c48_331 : Index := 48#32
  ![v1237.toNat, 48]

def k2_chk158 (v1224 : BitVec 32) : Prop :=
  (∀ a, (k2_off561 v1224) a + S1x16.size a ≤ S1000x64.size a) ∧
  (∀ a, (k2_off562 v1224) a + S1x16.size a ≤ S1000x64.size a) ∧
  (∀ a, (k2_off563 v1224) a + S1x16.size a ≤ S1000x64.size a) ∧
  (∀ a, (k2_off564 v1224) a + S1x16.size a ≤ S1000x64.size a)
theorem k2_off561_inb : ∀ (v1224 : BitVec 32) (k2_hw158 : k2_chk158 v1224), ∀ a, (k2_off561 v1224) a + S1x16.size a ≤ S1000x64.size a := fun v1224 k2_hw158 => k2_hw158.1
theorem k2_off562_inb : ∀ (v1224 : BitVec 32) (k2_hw158 : k2_chk158 v1224), ∀ a, (k2_off562 v1224) a + S1x16.size a ≤ S1000x64.size a := fun v1224 k2_hw158 => k2_hw158.2.1
theorem k2_off563_inb : ∀ (v1224 : BitVec 32) (k2_hw158 : k2_chk158 v1224), ∀ a, (k2_off563 v1224) a + S1x16.size a ≤ S1000x64.size a := fun v1224 k2_hw158 => k2_hw158.2.2.1
theorem k2_off564_inb : ∀ (v1224 : BitVec 32) (k2_hw158 : k2_chk158 v1224), ∀ a, (k2_off564 v1224) a + S1x16.size a ≤ S1000x64.size a := fun v1224 k2_hw158 => k2_hw158.2.2.2

def k2_off565 (v1242 : BitVec 32) : Fin 2 → Nat :=
  let v1243 : Index := Scalar.indexCast v1242
  let c0_332 : Index := 0#32
  ![v1243.toNat, 0]

def k2_off566 (v1242 : BitVec 32) : Fin 2 → Nat :=
  let v1247 : Index := Scalar.indexCast v1242
  let c16_333 : Index := 16#32
  ![v1247.toNat, 16]
def k2_off567 (v1242 : BitVec 32) : Fin 2 → Nat :=
  let v1251 : Index := Scalar.indexCast v1242
  let c32_334 : Index := 32#32
  ![v1251.toNat, 32]
def k2_off568 (v1242 : BitVec 32) : Fin 2 → Nat :=
  let v1255 : Index := Scalar.indexCast v1242
  let c48_335 : Index := 48#32
  ![v1255.toNat, 48]

def k2_chk159 (v1242 : BitVec 32) : Prop :=
  (∀ a, (k2_off565 v1242) a + S1x16.size a ≤ S1000x64.size a) ∧
  (∀ a, (k2_off566 v1242) a + S1x16.size a ≤ S1000x64.size a) ∧
  (∀ a, (k2_off567 v1242) a + S1x16.size a ≤ S1000x64.size a) ∧
  (∀ a, (k2_off568 v1242) a + S1x16.size a ≤ S1000x64.size a)
theorem k2_off565_inb : ∀ (v1242 : BitVec 32) (k2_hw159 : k2_chk159 v1242), ∀ a, (k2_off565 v1242) a + S1x16.size a ≤ S1000x64.size a := fun v1242 k2_hw159 => k2_hw159.1
theorem k2_off566_inb : ∀ (v1242 : BitVec 32) (k2_hw159 : k2_chk159 v1242), ∀ a, (k2_off566 v1242) a + S1x16.size a ≤ S1000x64.size a := fun v1242 k2_hw159 => k2_hw159.2.1
theorem k2_off567_inb : ∀ (v1242 : BitVec 32) (k2_hw159 : k2_chk159 v1242), ∀ a, (k2_off567 v1242) a + S1x16.size a ≤ S1000x64.size a := fun v1242 k2_hw159 => k2_hw159.2.2.1
theorem k2_off568_inb : ∀ (v1242 : BitVec 32) (k2_hw159 : k2_chk159 v1242), ∀ a, (k2_off568 v1242) a + S1x16.size a ≤ S1000x64.size a := fun v1242 k2_hw159 => k2_hw159.2.2.2

def k2_off569 (v1260 : BitVec 32) : Fin 2 → Nat :=
  let v1261 : Index := Scalar.indexCast v1260
  let c0_336 : Index := 0#32
  ![v1261.toNat, 0]

def k2_off570 (v1260 : BitVec 32) : Fin 2 → Nat :=
  let v1265 : Index := Scalar.indexCast v1260
  let c16_337 : Index := 16#32
  ![v1265.toNat, 16]
def k2_off571 (v1260 : BitVec 32) : Fin 2 → Nat :=
  let v1269 : Index := Scalar.indexCast v1260
  let c32_338 : Index := 32#32
  ![v1269.toNat, 32]
def k2_off572 (v1260 : BitVec 32) : Fin 2 → Nat :=
  let v1273 : Index := Scalar.indexCast v1260
  let c48_339 : Index := 48#32
  ![v1273.toNat, 48]

def k2_chk160 (v1260 : BitVec 32) : Prop :=
  (∀ a, (k2_off569 v1260) a + S1x16.size a ≤ S1000x64.size a) ∧
  (∀ a, (k2_off570 v1260) a + S1x16.size a ≤ S1000x64.size a) ∧
  (∀ a, (k2_off571 v1260) a + S1x16.size a ≤ S1000x64.size a) ∧
  (∀ a, (k2_off572 v1260) a + S1x16.size a ≤ S1000x64.size a)
theorem k2_off569_inb : ∀ (v1260 : BitVec 32) (k2_hw160 : k2_chk160 v1260), ∀ a, (k2_off569 v1260) a + S1x16.size a ≤ S1000x64.size a := fun v1260 k2_hw160 => k2_hw160.1
theorem k2_off570_inb : ∀ (v1260 : BitVec 32) (k2_hw160 : k2_chk160 v1260), ∀ a, (k2_off570 v1260) a + S1x16.size a ≤ S1000x64.size a := fun v1260 k2_hw160 => k2_hw160.2.1
theorem k2_off571_inb : ∀ (v1260 : BitVec 32) (k2_hw160 : k2_chk160 v1260), ∀ a, (k2_off571 v1260) a + S1x16.size a ≤ S1000x64.size a := fun v1260 k2_hw160 => k2_hw160.2.2.1
theorem k2_off572_inb : ∀ (v1260 : BitVec 32) (k2_hw160 : k2_chk160 v1260), ∀ a, (k2_off572 v1260) a + S1x16.size a ≤ S1000x64.size a := fun v1260 k2_hw160 => k2_hw160.2.2.2

def k2_off573 (v1278 : BitVec 32) : Fin 2 → Nat :=
  let v1279 : Index := Scalar.indexCast v1278
  let c0_340 : Index := 0#32
  ![v1279.toNat, 0]

def k2_off574 (v1278 : BitVec 32) : Fin 2 → Nat :=
  let v1283 : Index := Scalar.indexCast v1278
  let c16_341 : Index := 16#32
  ![v1283.toNat, 16]
def k2_off575 (v1278 : BitVec 32) : Fin 2 → Nat :=
  let v1287 : Index := Scalar.indexCast v1278
  let c32_342 : Index := 32#32
  ![v1287.toNat, 32]
def k2_off576 (v1278 : BitVec 32) : Fin 2 → Nat :=
  let v1291 : Index := Scalar.indexCast v1278
  let c48_343 : Index := 48#32
  ![v1291.toNat, 48]

def k2_chk161 (v1278 : BitVec 32) : Prop :=
  (∀ a, (k2_off573 v1278) a + S1x16.size a ≤ S1000x64.size a) ∧
  (∀ a, (k2_off574 v1278) a + S1x16.size a ≤ S1000x64.size a) ∧
  (∀ a, (k2_off575 v1278) a + S1x16.size a ≤ S1000x64.size a) ∧
  (∀ a, (k2_off576 v1278) a + S1x16.size a ≤ S1000x64.size a)
theorem k2_off573_inb : ∀ (v1278 : BitVec 32) (k2_hw161 : k2_chk161 v1278), ∀ a, (k2_off573 v1278) a + S1x16.size a ≤ S1000x64.size a := fun v1278 k2_hw161 => k2_hw161.1
theorem k2_off574_inb : ∀ (v1278 : BitVec 32) (k2_hw161 : k2_chk161 v1278), ∀ a, (k2_off574 v1278) a + S1x16.size a ≤ S1000x64.size a := fun v1278 k2_hw161 => k2_hw161.2.1
theorem k2_off575_inb : ∀ (v1278 : BitVec 32) (k2_hw161 : k2_chk161 v1278), ∀ a, (k2_off575 v1278) a + S1x16.size a ≤ S1000x64.size a := fun v1278 k2_hw161 => k2_hw161.2.2.1
theorem k2_off576_inb : ∀ (v1278 : BitVec 32) (k2_hw161 : k2_chk161 v1278), ∀ a, (k2_off576 v1278) a + S1x16.size a ≤ S1000x64.size a := fun v1278 k2_hw161 => k2_hw161.2.2.2

def k2_off577 (k2_t3 : Fin k2_t3_loop.trips) (c0_i32_348 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k2_t3
  let c1_i32_59 : BitVec 32 := 1#32
  let v102 : BitVec 32 := Scalar.muli arg16 c1_i32_59
  let v103 : BitVec 32 := Scalar.addi c0_i32_60 v102
  let c4_i32_345 : BitVec 32 := 4#32
  let v1297 : BitVec 32 := Scalar.muli v103 c4_i32_345
  let c2_i32_346 : BitVec 32 := 2#32
  let v1298 : BitVec 32 := Scalar.addi v1297 c2_i32_346
  let c64_i32_347 : BitVec 32 := 64#32
  let v1299 : BitVec 32 := Scalar.muli v1298 c64_i32_347
  let v1300 : BitVec 32 := Scalar.addi v1299 c0_i32_348
  let v1301 : Index := Scalar.indexCast v1300
  ![v1301.toNat]
def k2_off578 (v1336 : BitVec 32) : Fin 2 → Nat :=
  let v1337 : Index := Scalar.indexCast v1336
  let c0_364 : Index := 0#32
  ![v1337.toNat, 0]

def k2_chk162 (v1336 : BitVec 32) : Prop :=
  (∀ a, (k2_off578 v1336) a + S1x16.size a ≤ S1000x64.size a)
theorem k2_off578_inb : ∀ (v1336 : BitVec 32) (k2_hw162 : k2_chk162 v1336), ∀ a, (k2_off578 v1336) a + S1x16.size a ≤ S1000x64.size a := fun v1336 k2_hw162 => k2_hw162

def k2_off579 (v1341 : BitVec 32) : Fin 2 → Nat :=
  let v1342 : Index := Scalar.indexCast v1341
  let c16_365 : Index := 16#32
  ![v1342.toNat, 16]

def k2_chk163 (v1341 : BitVec 32) : Prop :=
  (∀ a, (k2_off579 v1341) a + S1x16.size a ≤ S1000x64.size a)
theorem k2_off579_inb : ∀ (v1341 : BitVec 32) (k2_hw163 : k2_chk163 v1341), ∀ a, (k2_off579 v1341) a + S1x16.size a ≤ S1000x64.size a := fun v1341 k2_hw163 => k2_hw163

def k2_off580 (v1346 : BitVec 32) : Fin 2 → Nat :=
  let v1347 : Index := Scalar.indexCast v1346
  let c32_366 : Index := 32#32
  ![v1347.toNat, 32]

def k2_chk164 (v1346 : BitVec 32) : Prop :=
  (∀ a, (k2_off580 v1346) a + S1x16.size a ≤ S1000x64.size a)
theorem k2_off580_inb : ∀ (v1346 : BitVec 32) (k2_hw164 : k2_chk164 v1346), ∀ a, (k2_off580 v1346) a + S1x16.size a ≤ S1000x64.size a := fun v1346 k2_hw164 => k2_hw164

def k2_off581 (v1351 : BitVec 32) : Fin 2 → Nat :=
  let v1352 : Index := Scalar.indexCast v1351
  let c48_367 : Index := 48#32
  ![v1352.toNat, 48]

def k2_chk165 (v1351 : BitVec 32) : Prop :=
  (∀ a, (k2_off581 v1351) a + S1x16.size a ≤ S1000x64.size a)
theorem k2_off581_inb : ∀ (v1351 : BitVec 32) (k2_hw165 : k2_chk165 v1351), ∀ a, (k2_off581 v1351) a + S1x16.size a ≤ S1000x64.size a := fun v1351 k2_hw165 => k2_hw165

def k2_off582 (v1356 : BitVec 32) : Fin 2 → Nat :=
  let v1357 : Index := Scalar.indexCast v1356
  let c0_368 : Index := 0#32
  ![v1357.toNat, 0]

def k2_off583 (v1356 : BitVec 32) : Fin 2 → Nat :=
  let v1361 : Index := Scalar.indexCast v1356
  let c16_369 : Index := 16#32
  ![v1361.toNat, 16]
def k2_off584 (v1356 : BitVec 32) : Fin 2 → Nat :=
  let v1365 : Index := Scalar.indexCast v1356
  let c32_370 : Index := 32#32
  ![v1365.toNat, 32]
def k2_off585 (v1356 : BitVec 32) : Fin 2 → Nat :=
  let v1369 : Index := Scalar.indexCast v1356
  let c48_371 : Index := 48#32
  ![v1369.toNat, 48]

def k2_chk166 (v1356 : BitVec 32) : Prop :=
  (∀ a, (k2_off582 v1356) a + S1x16.size a ≤ S1000x64.size a) ∧
  (∀ a, (k2_off583 v1356) a + S1x16.size a ≤ S1000x64.size a) ∧
  (∀ a, (k2_off584 v1356) a + S1x16.size a ≤ S1000x64.size a) ∧
  (∀ a, (k2_off585 v1356) a + S1x16.size a ≤ S1000x64.size a)
theorem k2_off582_inb : ∀ (v1356 : BitVec 32) (k2_hw166 : k2_chk166 v1356), ∀ a, (k2_off582 v1356) a + S1x16.size a ≤ S1000x64.size a := fun v1356 k2_hw166 => k2_hw166.1
theorem k2_off583_inb : ∀ (v1356 : BitVec 32) (k2_hw166 : k2_chk166 v1356), ∀ a, (k2_off583 v1356) a + S1x16.size a ≤ S1000x64.size a := fun v1356 k2_hw166 => k2_hw166.2.1
theorem k2_off584_inb : ∀ (v1356 : BitVec 32) (k2_hw166 : k2_chk166 v1356), ∀ a, (k2_off584 v1356) a + S1x16.size a ≤ S1000x64.size a := fun v1356 k2_hw166 => k2_hw166.2.2.1
theorem k2_off585_inb : ∀ (v1356 : BitVec 32) (k2_hw166 : k2_chk166 v1356), ∀ a, (k2_off585 v1356) a + S1x16.size a ≤ S1000x64.size a := fun v1356 k2_hw166 => k2_hw166.2.2.2

def k2_off586 (v1374 : BitVec 32) : Fin 2 → Nat :=
  let v1375 : Index := Scalar.indexCast v1374
  let c0_372 : Index := 0#32
  ![v1375.toNat, 0]

def k2_off587 (v1374 : BitVec 32) : Fin 2 → Nat :=
  let v1379 : Index := Scalar.indexCast v1374
  let c16_373 : Index := 16#32
  ![v1379.toNat, 16]
def k2_off588 (v1374 : BitVec 32) : Fin 2 → Nat :=
  let v1383 : Index := Scalar.indexCast v1374
  let c32_374 : Index := 32#32
  ![v1383.toNat, 32]
def k2_off589 (v1374 : BitVec 32) : Fin 2 → Nat :=
  let v1387 : Index := Scalar.indexCast v1374
  let c48_375 : Index := 48#32
  ![v1387.toNat, 48]

def k2_chk167 (v1374 : BitVec 32) : Prop :=
  (∀ a, (k2_off586 v1374) a + S1x16.size a ≤ S1000x64.size a) ∧
  (∀ a, (k2_off587 v1374) a + S1x16.size a ≤ S1000x64.size a) ∧
  (∀ a, (k2_off588 v1374) a + S1x16.size a ≤ S1000x64.size a) ∧
  (∀ a, (k2_off589 v1374) a + S1x16.size a ≤ S1000x64.size a)
theorem k2_off586_inb : ∀ (v1374 : BitVec 32) (k2_hw167 : k2_chk167 v1374), ∀ a, (k2_off586 v1374) a + S1x16.size a ≤ S1000x64.size a := fun v1374 k2_hw167 => k2_hw167.1
theorem k2_off587_inb : ∀ (v1374 : BitVec 32) (k2_hw167 : k2_chk167 v1374), ∀ a, (k2_off587 v1374) a + S1x16.size a ≤ S1000x64.size a := fun v1374 k2_hw167 => k2_hw167.2.1
theorem k2_off588_inb : ∀ (v1374 : BitVec 32) (k2_hw167 : k2_chk167 v1374), ∀ a, (k2_off588 v1374) a + S1x16.size a ≤ S1000x64.size a := fun v1374 k2_hw167 => k2_hw167.2.2.1
theorem k2_off589_inb : ∀ (v1374 : BitVec 32) (k2_hw167 : k2_chk167 v1374), ∀ a, (k2_off589 v1374) a + S1x16.size a ≤ S1000x64.size a := fun v1374 k2_hw167 => k2_hw167.2.2.2

def k2_off590 (v1392 : BitVec 32) : Fin 2 → Nat :=
  let v1393 : Index := Scalar.indexCast v1392
  let c0_376 : Index := 0#32
  ![v1393.toNat, 0]

def k2_off591 (v1392 : BitVec 32) : Fin 2 → Nat :=
  let v1397 : Index := Scalar.indexCast v1392
  let c16_377 : Index := 16#32
  ![v1397.toNat, 16]
def k2_off592 (v1392 : BitVec 32) : Fin 2 → Nat :=
  let v1401 : Index := Scalar.indexCast v1392
  let c32_378 : Index := 32#32
  ![v1401.toNat, 32]
def k2_off593 (v1392 : BitVec 32) : Fin 2 → Nat :=
  let v1405 : Index := Scalar.indexCast v1392
  let c48_379 : Index := 48#32
  ![v1405.toNat, 48]

def k2_chk168 (v1392 : BitVec 32) : Prop :=
  (∀ a, (k2_off590 v1392) a + S1x16.size a ≤ S1000x64.size a) ∧
  (∀ a, (k2_off591 v1392) a + S1x16.size a ≤ S1000x64.size a) ∧
  (∀ a, (k2_off592 v1392) a + S1x16.size a ≤ S1000x64.size a) ∧
  (∀ a, (k2_off593 v1392) a + S1x16.size a ≤ S1000x64.size a)
theorem k2_off590_inb : ∀ (v1392 : BitVec 32) (k2_hw168 : k2_chk168 v1392), ∀ a, (k2_off590 v1392) a + S1x16.size a ≤ S1000x64.size a := fun v1392 k2_hw168 => k2_hw168.1
theorem k2_off591_inb : ∀ (v1392 : BitVec 32) (k2_hw168 : k2_chk168 v1392), ∀ a, (k2_off591 v1392) a + S1x16.size a ≤ S1000x64.size a := fun v1392 k2_hw168 => k2_hw168.2.1
theorem k2_off592_inb : ∀ (v1392 : BitVec 32) (k2_hw168 : k2_chk168 v1392), ∀ a, (k2_off592 v1392) a + S1x16.size a ≤ S1000x64.size a := fun v1392 k2_hw168 => k2_hw168.2.2.1
theorem k2_off593_inb : ∀ (v1392 : BitVec 32) (k2_hw168 : k2_chk168 v1392), ∀ a, (k2_off593 v1392) a + S1x16.size a ≤ S1000x64.size a := fun v1392 k2_hw168 => k2_hw168.2.2.2

def k2_off594 (v1410 : BitVec 32) : Fin 2 → Nat :=
  let v1411 : Index := Scalar.indexCast v1410
  let c0_380 : Index := 0#32
  ![v1411.toNat, 0]

def k2_off595 (v1410 : BitVec 32) : Fin 2 → Nat :=
  let v1415 : Index := Scalar.indexCast v1410
  let c16_381 : Index := 16#32
  ![v1415.toNat, 16]
def k2_off596 (v1410 : BitVec 32) : Fin 2 → Nat :=
  let v1419 : Index := Scalar.indexCast v1410
  let c32_382 : Index := 32#32
  ![v1419.toNat, 32]
def k2_off597 (v1410 : BitVec 32) : Fin 2 → Nat :=
  let v1423 : Index := Scalar.indexCast v1410
  let c48_383 : Index := 48#32
  ![v1423.toNat, 48]

def k2_chk169 (v1410 : BitVec 32) : Prop :=
  (∀ a, (k2_off594 v1410) a + S1x16.size a ≤ S1000x64.size a) ∧
  (∀ a, (k2_off595 v1410) a + S1x16.size a ≤ S1000x64.size a) ∧
  (∀ a, (k2_off596 v1410) a + S1x16.size a ≤ S1000x64.size a) ∧
  (∀ a, (k2_off597 v1410) a + S1x16.size a ≤ S1000x64.size a)
theorem k2_off594_inb : ∀ (v1410 : BitVec 32) (k2_hw169 : k2_chk169 v1410), ∀ a, (k2_off594 v1410) a + S1x16.size a ≤ S1000x64.size a := fun v1410 k2_hw169 => k2_hw169.1
theorem k2_off595_inb : ∀ (v1410 : BitVec 32) (k2_hw169 : k2_chk169 v1410), ∀ a, (k2_off595 v1410) a + S1x16.size a ≤ S1000x64.size a := fun v1410 k2_hw169 => k2_hw169.2.1
theorem k2_off596_inb : ∀ (v1410 : BitVec 32) (k2_hw169 : k2_chk169 v1410), ∀ a, (k2_off596 v1410) a + S1x16.size a ≤ S1000x64.size a := fun v1410 k2_hw169 => k2_hw169.2.2.1
theorem k2_off597_inb : ∀ (v1410 : BitVec 32) (k2_hw169 : k2_chk169 v1410), ∀ a, (k2_off597 v1410) a + S1x16.size a ≤ S1000x64.size a := fun v1410 k2_hw169 => k2_hw169.2.2.2

def k2_off598 (v1428 : BitVec 32) : Fin 2 → Nat :=
  let v1429 : Index := Scalar.indexCast v1428
  let c0_384 : Index := 0#32
  ![v1429.toNat, 0]

def k2_off599 (v1428 : BitVec 32) : Fin 2 → Nat :=
  let v1433 : Index := Scalar.indexCast v1428
  let c16_385 : Index := 16#32
  ![v1433.toNat, 16]
def k2_off600 (v1428 : BitVec 32) : Fin 2 → Nat :=
  let v1437 : Index := Scalar.indexCast v1428
  let c32_386 : Index := 32#32
  ![v1437.toNat, 32]
def k2_off601 (v1428 : BitVec 32) : Fin 2 → Nat :=
  let v1441 : Index := Scalar.indexCast v1428
  let c48_387 : Index := 48#32
  ![v1441.toNat, 48]

def k2_chk170 (v1428 : BitVec 32) : Prop :=
  (∀ a, (k2_off598 v1428) a + S1x16.size a ≤ S1000x64.size a) ∧
  (∀ a, (k2_off599 v1428) a + S1x16.size a ≤ S1000x64.size a) ∧
  (∀ a, (k2_off600 v1428) a + S1x16.size a ≤ S1000x64.size a) ∧
  (∀ a, (k2_off601 v1428) a + S1x16.size a ≤ S1000x64.size a)
theorem k2_off598_inb : ∀ (v1428 : BitVec 32) (k2_hw170 : k2_chk170 v1428), ∀ a, (k2_off598 v1428) a + S1x16.size a ≤ S1000x64.size a := fun v1428 k2_hw170 => k2_hw170.1
theorem k2_off599_inb : ∀ (v1428 : BitVec 32) (k2_hw170 : k2_chk170 v1428), ∀ a, (k2_off599 v1428) a + S1x16.size a ≤ S1000x64.size a := fun v1428 k2_hw170 => k2_hw170.2.1
theorem k2_off600_inb : ∀ (v1428 : BitVec 32) (k2_hw170 : k2_chk170 v1428), ∀ a, (k2_off600 v1428) a + S1x16.size a ≤ S1000x64.size a := fun v1428 k2_hw170 => k2_hw170.2.2.1
theorem k2_off601_inb : ∀ (v1428 : BitVec 32) (k2_hw170 : k2_chk170 v1428), ∀ a, (k2_off601 v1428) a + S1x16.size a ≤ S1000x64.size a := fun v1428 k2_hw170 => k2_hw170.2.2.2

def k2_off602 (v1446 : BitVec 32) : Fin 2 → Nat :=
  let v1447 : Index := Scalar.indexCast v1446
  let c0_388 : Index := 0#32
  ![v1447.toNat, 0]

def k2_off603 (v1446 : BitVec 32) : Fin 2 → Nat :=
  let v1451 : Index := Scalar.indexCast v1446
  let c16_389 : Index := 16#32
  ![v1451.toNat, 16]
def k2_off604 (v1446 : BitVec 32) : Fin 2 → Nat :=
  let v1455 : Index := Scalar.indexCast v1446
  let c32_390 : Index := 32#32
  ![v1455.toNat, 32]
def k2_off605 (v1446 : BitVec 32) : Fin 2 → Nat :=
  let v1459 : Index := Scalar.indexCast v1446
  let c48_391 : Index := 48#32
  ![v1459.toNat, 48]

def k2_chk171 (v1446 : BitVec 32) : Prop :=
  (∀ a, (k2_off602 v1446) a + S1x16.size a ≤ S1000x64.size a) ∧
  (∀ a, (k2_off603 v1446) a + S1x16.size a ≤ S1000x64.size a) ∧
  (∀ a, (k2_off604 v1446) a + S1x16.size a ≤ S1000x64.size a) ∧
  (∀ a, (k2_off605 v1446) a + S1x16.size a ≤ S1000x64.size a)
theorem k2_off602_inb : ∀ (v1446 : BitVec 32) (k2_hw171 : k2_chk171 v1446), ∀ a, (k2_off602 v1446) a + S1x16.size a ≤ S1000x64.size a := fun v1446 k2_hw171 => k2_hw171.1
theorem k2_off603_inb : ∀ (v1446 : BitVec 32) (k2_hw171 : k2_chk171 v1446), ∀ a, (k2_off603 v1446) a + S1x16.size a ≤ S1000x64.size a := fun v1446 k2_hw171 => k2_hw171.2.1
theorem k2_off604_inb : ∀ (v1446 : BitVec 32) (k2_hw171 : k2_chk171 v1446), ∀ a, (k2_off604 v1446) a + S1x16.size a ≤ S1000x64.size a := fun v1446 k2_hw171 => k2_hw171.2.2.1
theorem k2_off605_inb : ∀ (v1446 : BitVec 32) (k2_hw171 : k2_chk171 v1446), ∀ a, (k2_off605 v1446) a + S1x16.size a ≤ S1000x64.size a := fun v1446 k2_hw171 => k2_hw171.2.2.2

def k2_off606 (v1464 : BitVec 32) : Fin 2 → Nat :=
  let v1465 : Index := Scalar.indexCast v1464
  let c0_392 : Index := 0#32
  ![v1465.toNat, 0]

def k2_off607 (v1464 : BitVec 32) : Fin 2 → Nat :=
  let v1469 : Index := Scalar.indexCast v1464
  let c16_393 : Index := 16#32
  ![v1469.toNat, 16]
def k2_off608 (v1464 : BitVec 32) : Fin 2 → Nat :=
  let v1473 : Index := Scalar.indexCast v1464
  let c32_394 : Index := 32#32
  ![v1473.toNat, 32]
def k2_off609 (v1464 : BitVec 32) : Fin 2 → Nat :=
  let v1477 : Index := Scalar.indexCast v1464
  let c48_395 : Index := 48#32
  ![v1477.toNat, 48]

def k2_chk172 (v1464 : BitVec 32) : Prop :=
  (∀ a, (k2_off606 v1464) a + S1x16.size a ≤ S1000x64.size a) ∧
  (∀ a, (k2_off607 v1464) a + S1x16.size a ≤ S1000x64.size a) ∧
  (∀ a, (k2_off608 v1464) a + S1x16.size a ≤ S1000x64.size a) ∧
  (∀ a, (k2_off609 v1464) a + S1x16.size a ≤ S1000x64.size a)
theorem k2_off606_inb : ∀ (v1464 : BitVec 32) (k2_hw172 : k2_chk172 v1464), ∀ a, (k2_off606 v1464) a + S1x16.size a ≤ S1000x64.size a := fun v1464 k2_hw172 => k2_hw172.1
theorem k2_off607_inb : ∀ (v1464 : BitVec 32) (k2_hw172 : k2_chk172 v1464), ∀ a, (k2_off607 v1464) a + S1x16.size a ≤ S1000x64.size a := fun v1464 k2_hw172 => k2_hw172.2.1
theorem k2_off608_inb : ∀ (v1464 : BitVec 32) (k2_hw172 : k2_chk172 v1464), ∀ a, (k2_off608 v1464) a + S1x16.size a ≤ S1000x64.size a := fun v1464 k2_hw172 => k2_hw172.2.2.1
theorem k2_off609_inb : ∀ (v1464 : BitVec 32) (k2_hw172 : k2_chk172 v1464), ∀ a, (k2_off609 v1464) a + S1x16.size a ≤ S1000x64.size a := fun v1464 k2_hw172 => k2_hw172.2.2.2

def k2_off610 (v1482 : BitVec 32) : Fin 2 → Nat :=
  let v1483 : Index := Scalar.indexCast v1482
  let c0_396 : Index := 0#32
  ![v1483.toNat, 0]

def k2_off611 (v1482 : BitVec 32) : Fin 2 → Nat :=
  let v1487 : Index := Scalar.indexCast v1482
  let c16_397 : Index := 16#32
  ![v1487.toNat, 16]
def k2_off612 (v1482 : BitVec 32) : Fin 2 → Nat :=
  let v1491 : Index := Scalar.indexCast v1482
  let c32_398 : Index := 32#32
  ![v1491.toNat, 32]
def k2_off613 (v1482 : BitVec 32) : Fin 2 → Nat :=
  let v1495 : Index := Scalar.indexCast v1482
  let c48_399 : Index := 48#32
  ![v1495.toNat, 48]

def k2_chk173 (v1482 : BitVec 32) : Prop :=
  (∀ a, (k2_off610 v1482) a + S1x16.size a ≤ S1000x64.size a) ∧
  (∀ a, (k2_off611 v1482) a + S1x16.size a ≤ S1000x64.size a) ∧
  (∀ a, (k2_off612 v1482) a + S1x16.size a ≤ S1000x64.size a) ∧
  (∀ a, (k2_off613 v1482) a + S1x16.size a ≤ S1000x64.size a)
theorem k2_off610_inb : ∀ (v1482 : BitVec 32) (k2_hw173 : k2_chk173 v1482), ∀ a, (k2_off610 v1482) a + S1x16.size a ≤ S1000x64.size a := fun v1482 k2_hw173 => k2_hw173.1
theorem k2_off611_inb : ∀ (v1482 : BitVec 32) (k2_hw173 : k2_chk173 v1482), ∀ a, (k2_off611 v1482) a + S1x16.size a ≤ S1000x64.size a := fun v1482 k2_hw173 => k2_hw173.2.1
theorem k2_off612_inb : ∀ (v1482 : BitVec 32) (k2_hw173 : k2_chk173 v1482), ∀ a, (k2_off612 v1482) a + S1x16.size a ≤ S1000x64.size a := fun v1482 k2_hw173 => k2_hw173.2.2.1
theorem k2_off613_inb : ∀ (v1482 : BitVec 32) (k2_hw173 : k2_chk173 v1482), ∀ a, (k2_off613 v1482) a + S1x16.size a ≤ S1000x64.size a := fun v1482 k2_hw173 => k2_hw173.2.2.2

def k2_off614 (v1500 : BitVec 32) : Fin 2 → Nat :=
  let v1501 : Index := Scalar.indexCast v1500
  let c0_400 : Index := 0#32
  ![v1501.toNat, 0]

def k2_off615 (v1500 : BitVec 32) : Fin 2 → Nat :=
  let v1505 : Index := Scalar.indexCast v1500
  let c16_401 : Index := 16#32
  ![v1505.toNat, 16]
def k2_off616 (v1500 : BitVec 32) : Fin 2 → Nat :=
  let v1509 : Index := Scalar.indexCast v1500
  let c32_402 : Index := 32#32
  ![v1509.toNat, 32]
def k2_off617 (v1500 : BitVec 32) : Fin 2 → Nat :=
  let v1513 : Index := Scalar.indexCast v1500
  let c48_403 : Index := 48#32
  ![v1513.toNat, 48]

def k2_chk174 (v1500 : BitVec 32) : Prop :=
  (∀ a, (k2_off614 v1500) a + S1x16.size a ≤ S1000x64.size a) ∧
  (∀ a, (k2_off615 v1500) a + S1x16.size a ≤ S1000x64.size a) ∧
  (∀ a, (k2_off616 v1500) a + S1x16.size a ≤ S1000x64.size a) ∧
  (∀ a, (k2_off617 v1500) a + S1x16.size a ≤ S1000x64.size a)
theorem k2_off614_inb : ∀ (v1500 : BitVec 32) (k2_hw174 : k2_chk174 v1500), ∀ a, (k2_off614 v1500) a + S1x16.size a ≤ S1000x64.size a := fun v1500 k2_hw174 => k2_hw174.1
theorem k2_off615_inb : ∀ (v1500 : BitVec 32) (k2_hw174 : k2_chk174 v1500), ∀ a, (k2_off615 v1500) a + S1x16.size a ≤ S1000x64.size a := fun v1500 k2_hw174 => k2_hw174.2.1
theorem k2_off616_inb : ∀ (v1500 : BitVec 32) (k2_hw174 : k2_chk174 v1500), ∀ a, (k2_off616 v1500) a + S1x16.size a ≤ S1000x64.size a := fun v1500 k2_hw174 => k2_hw174.2.2.1
theorem k2_off617_inb : ∀ (v1500 : BitVec 32) (k2_hw174 : k2_chk174 v1500), ∀ a, (k2_off617 v1500) a + S1x16.size a ≤ S1000x64.size a := fun v1500 k2_hw174 => k2_hw174.2.2.2

def k2_off618 (v1518 : BitVec 32) : Fin 2 → Nat :=
  let v1519 : Index := Scalar.indexCast v1518
  let c0_404 : Index := 0#32
  ![v1519.toNat, 0]

def k2_off619 (v1518 : BitVec 32) : Fin 2 → Nat :=
  let v1523 : Index := Scalar.indexCast v1518
  let c16_405 : Index := 16#32
  ![v1523.toNat, 16]
def k2_off620 (v1518 : BitVec 32) : Fin 2 → Nat :=
  let v1527 : Index := Scalar.indexCast v1518
  let c32_406 : Index := 32#32
  ![v1527.toNat, 32]
def k2_off621 (v1518 : BitVec 32) : Fin 2 → Nat :=
  let v1531 : Index := Scalar.indexCast v1518
  let c48_407 : Index := 48#32
  ![v1531.toNat, 48]

def k2_chk175 (v1518 : BitVec 32) : Prop :=
  (∀ a, (k2_off618 v1518) a + S1x16.size a ≤ S1000x64.size a) ∧
  (∀ a, (k2_off619 v1518) a + S1x16.size a ≤ S1000x64.size a) ∧
  (∀ a, (k2_off620 v1518) a + S1x16.size a ≤ S1000x64.size a) ∧
  (∀ a, (k2_off621 v1518) a + S1x16.size a ≤ S1000x64.size a)
theorem k2_off618_inb : ∀ (v1518 : BitVec 32) (k2_hw175 : k2_chk175 v1518), ∀ a, (k2_off618 v1518) a + S1x16.size a ≤ S1000x64.size a := fun v1518 k2_hw175 => k2_hw175.1
theorem k2_off619_inb : ∀ (v1518 : BitVec 32) (k2_hw175 : k2_chk175 v1518), ∀ a, (k2_off619 v1518) a + S1x16.size a ≤ S1000x64.size a := fun v1518 k2_hw175 => k2_hw175.2.1
theorem k2_off620_inb : ∀ (v1518 : BitVec 32) (k2_hw175 : k2_chk175 v1518), ∀ a, (k2_off620 v1518) a + S1x16.size a ≤ S1000x64.size a := fun v1518 k2_hw175 => k2_hw175.2.2.1
theorem k2_off621_inb : ∀ (v1518 : BitVec 32) (k2_hw175 : k2_chk175 v1518), ∀ a, (k2_off621 v1518) a + S1x16.size a ≤ S1000x64.size a := fun v1518 k2_hw175 => k2_hw175.2.2.2

def k2_off622 (v1536 : BitVec 32) : Fin 2 → Nat :=
  let v1537 : Index := Scalar.indexCast v1536
  let c0_408 : Index := 0#32
  ![v1537.toNat, 0]

def k2_off623 (v1536 : BitVec 32) : Fin 2 → Nat :=
  let v1541 : Index := Scalar.indexCast v1536
  let c16_409 : Index := 16#32
  ![v1541.toNat, 16]
def k2_off624 (v1536 : BitVec 32) : Fin 2 → Nat :=
  let v1545 : Index := Scalar.indexCast v1536
  let c32_410 : Index := 32#32
  ![v1545.toNat, 32]
def k2_off625 (v1536 : BitVec 32) : Fin 2 → Nat :=
  let v1549 : Index := Scalar.indexCast v1536
  let c48_411 : Index := 48#32
  ![v1549.toNat, 48]

def k2_chk176 (v1536 : BitVec 32) : Prop :=
  (∀ a, (k2_off622 v1536) a + S1x16.size a ≤ S1000x64.size a) ∧
  (∀ a, (k2_off623 v1536) a + S1x16.size a ≤ S1000x64.size a) ∧
  (∀ a, (k2_off624 v1536) a + S1x16.size a ≤ S1000x64.size a) ∧
  (∀ a, (k2_off625 v1536) a + S1x16.size a ≤ S1000x64.size a)
theorem k2_off622_inb : ∀ (v1536 : BitVec 32) (k2_hw176 : k2_chk176 v1536), ∀ a, (k2_off622 v1536) a + S1x16.size a ≤ S1000x64.size a := fun v1536 k2_hw176 => k2_hw176.1
theorem k2_off623_inb : ∀ (v1536 : BitVec 32) (k2_hw176 : k2_chk176 v1536), ∀ a, (k2_off623 v1536) a + S1x16.size a ≤ S1000x64.size a := fun v1536 k2_hw176 => k2_hw176.2.1
theorem k2_off624_inb : ∀ (v1536 : BitVec 32) (k2_hw176 : k2_chk176 v1536), ∀ a, (k2_off624 v1536) a + S1x16.size a ≤ S1000x64.size a := fun v1536 k2_hw176 => k2_hw176.2.2.1
theorem k2_off625_inb : ∀ (v1536 : BitVec 32) (k2_hw176 : k2_chk176 v1536), ∀ a, (k2_off625 v1536) a + S1x16.size a ≤ S1000x64.size a := fun v1536 k2_hw176 => k2_hw176.2.2.2

def k2_off626 (v1554 : BitVec 32) : Fin 2 → Nat :=
  let v1555 : Index := Scalar.indexCast v1554
  let c0_412 : Index := 0#32
  ![v1555.toNat, 0]

def k2_off627 (v1554 : BitVec 32) : Fin 2 → Nat :=
  let v1559 : Index := Scalar.indexCast v1554
  let c16_413 : Index := 16#32
  ![v1559.toNat, 16]
def k2_off628 (v1554 : BitVec 32) : Fin 2 → Nat :=
  let v1563 : Index := Scalar.indexCast v1554
  let c32_414 : Index := 32#32
  ![v1563.toNat, 32]
def k2_off629 (v1554 : BitVec 32) : Fin 2 → Nat :=
  let v1567 : Index := Scalar.indexCast v1554
  let c48_415 : Index := 48#32
  ![v1567.toNat, 48]

def k2_chk177 (v1554 : BitVec 32) : Prop :=
  (∀ a, (k2_off626 v1554) a + S1x16.size a ≤ S1000x64.size a) ∧
  (∀ a, (k2_off627 v1554) a + S1x16.size a ≤ S1000x64.size a) ∧
  (∀ a, (k2_off628 v1554) a + S1x16.size a ≤ S1000x64.size a) ∧
  (∀ a, (k2_off629 v1554) a + S1x16.size a ≤ S1000x64.size a)
theorem k2_off626_inb : ∀ (v1554 : BitVec 32) (k2_hw177 : k2_chk177 v1554), ∀ a, (k2_off626 v1554) a + S1x16.size a ≤ S1000x64.size a := fun v1554 k2_hw177 => k2_hw177.1
theorem k2_off627_inb : ∀ (v1554 : BitVec 32) (k2_hw177 : k2_chk177 v1554), ∀ a, (k2_off627 v1554) a + S1x16.size a ≤ S1000x64.size a := fun v1554 k2_hw177 => k2_hw177.2.1
theorem k2_off628_inb : ∀ (v1554 : BitVec 32) (k2_hw177 : k2_chk177 v1554), ∀ a, (k2_off628 v1554) a + S1x16.size a ≤ S1000x64.size a := fun v1554 k2_hw177 => k2_hw177.2.2.1
theorem k2_off629_inb : ∀ (v1554 : BitVec 32) (k2_hw177 : k2_chk177 v1554), ∀ a, (k2_off629 v1554) a + S1x16.size a ≤ S1000x64.size a := fun v1554 k2_hw177 => k2_hw177.2.2.2

def k2_off630 (v1572 : BitVec 32) : Fin 2 → Nat :=
  let v1573 : Index := Scalar.indexCast v1572
  let c0_416 : Index := 0#32
  ![v1573.toNat, 0]

def k2_off631 (v1572 : BitVec 32) : Fin 2 → Nat :=
  let v1577 : Index := Scalar.indexCast v1572
  let c16_417 : Index := 16#32
  ![v1577.toNat, 16]
def k2_off632 (v1572 : BitVec 32) : Fin 2 → Nat :=
  let v1581 : Index := Scalar.indexCast v1572
  let c32_418 : Index := 32#32
  ![v1581.toNat, 32]
def k2_off633 (v1572 : BitVec 32) : Fin 2 → Nat :=
  let v1585 : Index := Scalar.indexCast v1572
  let c48_419 : Index := 48#32
  ![v1585.toNat, 48]

def k2_chk178 (v1572 : BitVec 32) : Prop :=
  (∀ a, (k2_off630 v1572) a + S1x16.size a ≤ S1000x64.size a) ∧
  (∀ a, (k2_off631 v1572) a + S1x16.size a ≤ S1000x64.size a) ∧
  (∀ a, (k2_off632 v1572) a + S1x16.size a ≤ S1000x64.size a) ∧
  (∀ a, (k2_off633 v1572) a + S1x16.size a ≤ S1000x64.size a)
theorem k2_off630_inb : ∀ (v1572 : BitVec 32) (k2_hw178 : k2_chk178 v1572), ∀ a, (k2_off630 v1572) a + S1x16.size a ≤ S1000x64.size a := fun v1572 k2_hw178 => k2_hw178.1
theorem k2_off631_inb : ∀ (v1572 : BitVec 32) (k2_hw178 : k2_chk178 v1572), ∀ a, (k2_off631 v1572) a + S1x16.size a ≤ S1000x64.size a := fun v1572 k2_hw178 => k2_hw178.2.1
theorem k2_off632_inb : ∀ (v1572 : BitVec 32) (k2_hw178 : k2_chk178 v1572), ∀ a, (k2_off632 v1572) a + S1x16.size a ≤ S1000x64.size a := fun v1572 k2_hw178 => k2_hw178.2.2.1
theorem k2_off633_inb : ∀ (v1572 : BitVec 32) (k2_hw178 : k2_chk178 v1572), ∀ a, (k2_off633 v1572) a + S1x16.size a ≤ S1000x64.size a := fun v1572 k2_hw178 => k2_hw178.2.2.2

def k2_off634 (v1590 : BitVec 32) : Fin 2 → Nat :=
  let v1591 : Index := Scalar.indexCast v1590
  let c0_420 : Index := 0#32
  ![v1591.toNat, 0]

def k2_off635 (v1590 : BitVec 32) : Fin 2 → Nat :=
  let v1595 : Index := Scalar.indexCast v1590
  let c16_421 : Index := 16#32
  ![v1595.toNat, 16]
def k2_off636 (v1590 : BitVec 32) : Fin 2 → Nat :=
  let v1599 : Index := Scalar.indexCast v1590
  let c32_422 : Index := 32#32
  ![v1599.toNat, 32]
def k2_off637 (v1590 : BitVec 32) : Fin 2 → Nat :=
  let v1603 : Index := Scalar.indexCast v1590
  let c48_423 : Index := 48#32
  ![v1603.toNat, 48]

def k2_chk179 (v1590 : BitVec 32) : Prop :=
  (∀ a, (k2_off634 v1590) a + S1x16.size a ≤ S1000x64.size a) ∧
  (∀ a, (k2_off635 v1590) a + S1x16.size a ≤ S1000x64.size a) ∧
  (∀ a, (k2_off636 v1590) a + S1x16.size a ≤ S1000x64.size a) ∧
  (∀ a, (k2_off637 v1590) a + S1x16.size a ≤ S1000x64.size a)
theorem k2_off634_inb : ∀ (v1590 : BitVec 32) (k2_hw179 : k2_chk179 v1590), ∀ a, (k2_off634 v1590) a + S1x16.size a ≤ S1000x64.size a := fun v1590 k2_hw179 => k2_hw179.1
theorem k2_off635_inb : ∀ (v1590 : BitVec 32) (k2_hw179 : k2_chk179 v1590), ∀ a, (k2_off635 v1590) a + S1x16.size a ≤ S1000x64.size a := fun v1590 k2_hw179 => k2_hw179.2.1
theorem k2_off636_inb : ∀ (v1590 : BitVec 32) (k2_hw179 : k2_chk179 v1590), ∀ a, (k2_off636 v1590) a + S1x16.size a ≤ S1000x64.size a := fun v1590 k2_hw179 => k2_hw179.2.2.1
theorem k2_off637_inb : ∀ (v1590 : BitVec 32) (k2_hw179 : k2_chk179 v1590), ∀ a, (k2_off637 v1590) a + S1x16.size a ≤ S1000x64.size a := fun v1590 k2_hw179 => k2_hw179.2.2.2

def k2_off638 (v1608 : BitVec 32) : Fin 2 → Nat :=
  let v1609 : Index := Scalar.indexCast v1608
  let c0_424 : Index := 0#32
  ![v1609.toNat, 0]

def k2_off639 (v1608 : BitVec 32) : Fin 2 → Nat :=
  let v1613 : Index := Scalar.indexCast v1608
  let c16_425 : Index := 16#32
  ![v1613.toNat, 16]
def k2_off640 (v1608 : BitVec 32) : Fin 2 → Nat :=
  let v1617 : Index := Scalar.indexCast v1608
  let c32_426 : Index := 32#32
  ![v1617.toNat, 32]
def k2_off641 (v1608 : BitVec 32) : Fin 2 → Nat :=
  let v1621 : Index := Scalar.indexCast v1608
  let c48_427 : Index := 48#32
  ![v1621.toNat, 48]

def k2_chk180 (v1608 : BitVec 32) : Prop :=
  (∀ a, (k2_off638 v1608) a + S1x16.size a ≤ S1000x64.size a) ∧
  (∀ a, (k2_off639 v1608) a + S1x16.size a ≤ S1000x64.size a) ∧
  (∀ a, (k2_off640 v1608) a + S1x16.size a ≤ S1000x64.size a) ∧
  (∀ a, (k2_off641 v1608) a + S1x16.size a ≤ S1000x64.size a)
theorem k2_off638_inb : ∀ (v1608 : BitVec 32) (k2_hw180 : k2_chk180 v1608), ∀ a, (k2_off638 v1608) a + S1x16.size a ≤ S1000x64.size a := fun v1608 k2_hw180 => k2_hw180.1
theorem k2_off639_inb : ∀ (v1608 : BitVec 32) (k2_hw180 : k2_chk180 v1608), ∀ a, (k2_off639 v1608) a + S1x16.size a ≤ S1000x64.size a := fun v1608 k2_hw180 => k2_hw180.2.1
theorem k2_off640_inb : ∀ (v1608 : BitVec 32) (k2_hw180 : k2_chk180 v1608), ∀ a, (k2_off640 v1608) a + S1x16.size a ≤ S1000x64.size a := fun v1608 k2_hw180 => k2_hw180.2.2.1
theorem k2_off641_inb : ∀ (v1608 : BitVec 32) (k2_hw180 : k2_chk180 v1608), ∀ a, (k2_off641 v1608) a + S1x16.size a ≤ S1000x64.size a := fun v1608 k2_hw180 => k2_hw180.2.2.2

def k2_off642 (v1626 : BitVec 32) : Fin 2 → Nat :=
  let v1627 : Index := Scalar.indexCast v1626
  let c0_428 : Index := 0#32
  ![v1627.toNat, 0]

def k2_off643 (v1626 : BitVec 32) : Fin 2 → Nat :=
  let v1631 : Index := Scalar.indexCast v1626
  let c16_429 : Index := 16#32
  ![v1631.toNat, 16]
def k2_off644 (v1626 : BitVec 32) : Fin 2 → Nat :=
  let v1635 : Index := Scalar.indexCast v1626
  let c32_430 : Index := 32#32
  ![v1635.toNat, 32]
def k2_off645 (v1626 : BitVec 32) : Fin 2 → Nat :=
  let v1639 : Index := Scalar.indexCast v1626
  let c48_431 : Index := 48#32
  ![v1639.toNat, 48]

def k2_chk181 (v1626 : BitVec 32) : Prop :=
  (∀ a, (k2_off642 v1626) a + S1x16.size a ≤ S1000x64.size a) ∧
  (∀ a, (k2_off643 v1626) a + S1x16.size a ≤ S1000x64.size a) ∧
  (∀ a, (k2_off644 v1626) a + S1x16.size a ≤ S1000x64.size a) ∧
  (∀ a, (k2_off645 v1626) a + S1x16.size a ≤ S1000x64.size a)
theorem k2_off642_inb : ∀ (v1626 : BitVec 32) (k2_hw181 : k2_chk181 v1626), ∀ a, (k2_off642 v1626) a + S1x16.size a ≤ S1000x64.size a := fun v1626 k2_hw181 => k2_hw181.1
theorem k2_off643_inb : ∀ (v1626 : BitVec 32) (k2_hw181 : k2_chk181 v1626), ∀ a, (k2_off643 v1626) a + S1x16.size a ≤ S1000x64.size a := fun v1626 k2_hw181 => k2_hw181.2.1
theorem k2_off644_inb : ∀ (v1626 : BitVec 32) (k2_hw181 : k2_chk181 v1626), ∀ a, (k2_off644 v1626) a + S1x16.size a ≤ S1000x64.size a := fun v1626 k2_hw181 => k2_hw181.2.2.1
theorem k2_off645_inb : ∀ (v1626 : BitVec 32) (k2_hw181 : k2_chk181 v1626), ∀ a, (k2_off645 v1626) a + S1x16.size a ≤ S1000x64.size a := fun v1626 k2_hw181 => k2_hw181.2.2.2

def k2_off646 (v1644 : BitVec 32) : Fin 2 → Nat :=
  let v1645 : Index := Scalar.indexCast v1644
  let c0_432 : Index := 0#32
  ![v1645.toNat, 0]

def k2_off647 (v1644 : BitVec 32) : Fin 2 → Nat :=
  let v1649 : Index := Scalar.indexCast v1644
  let c16_433 : Index := 16#32
  ![v1649.toNat, 16]
def k2_off648 (v1644 : BitVec 32) : Fin 2 → Nat :=
  let v1653 : Index := Scalar.indexCast v1644
  let c32_434 : Index := 32#32
  ![v1653.toNat, 32]
def k2_off649 (v1644 : BitVec 32) : Fin 2 → Nat :=
  let v1657 : Index := Scalar.indexCast v1644
  let c48_435 : Index := 48#32
  ![v1657.toNat, 48]

def k2_chk182 (v1644 : BitVec 32) : Prop :=
  (∀ a, (k2_off646 v1644) a + S1x16.size a ≤ S1000x64.size a) ∧
  (∀ a, (k2_off647 v1644) a + S1x16.size a ≤ S1000x64.size a) ∧
  (∀ a, (k2_off648 v1644) a + S1x16.size a ≤ S1000x64.size a) ∧
  (∀ a, (k2_off649 v1644) a + S1x16.size a ≤ S1000x64.size a)
theorem k2_off646_inb : ∀ (v1644 : BitVec 32) (k2_hw182 : k2_chk182 v1644), ∀ a, (k2_off646 v1644) a + S1x16.size a ≤ S1000x64.size a := fun v1644 k2_hw182 => k2_hw182.1
theorem k2_off647_inb : ∀ (v1644 : BitVec 32) (k2_hw182 : k2_chk182 v1644), ∀ a, (k2_off647 v1644) a + S1x16.size a ≤ S1000x64.size a := fun v1644 k2_hw182 => k2_hw182.2.1
theorem k2_off648_inb : ∀ (v1644 : BitVec 32) (k2_hw182 : k2_chk182 v1644), ∀ a, (k2_off648 v1644) a + S1x16.size a ≤ S1000x64.size a := fun v1644 k2_hw182 => k2_hw182.2.2.1
theorem k2_off649_inb : ∀ (v1644 : BitVec 32) (k2_hw182 : k2_chk182 v1644), ∀ a, (k2_off649 v1644) a + S1x16.size a ≤ S1000x64.size a := fun v1644 k2_hw182 => k2_hw182.2.2.2

def k2_off650 (v1662 : BitVec 32) : Fin 2 → Nat :=
  let v1663 : Index := Scalar.indexCast v1662
  let c0_436 : Index := 0#32
  ![v1663.toNat, 0]

def k2_off651 (v1662 : BitVec 32) : Fin 2 → Nat :=
  let v1667 : Index := Scalar.indexCast v1662
  let c16_437 : Index := 16#32
  ![v1667.toNat, 16]
def k2_off652 (v1662 : BitVec 32) : Fin 2 → Nat :=
  let v1671 : Index := Scalar.indexCast v1662
  let c32_438 : Index := 32#32
  ![v1671.toNat, 32]
def k2_off653 (v1662 : BitVec 32) : Fin 2 → Nat :=
  let v1675 : Index := Scalar.indexCast v1662
  let c48_439 : Index := 48#32
  ![v1675.toNat, 48]

def k2_chk183 (v1662 : BitVec 32) : Prop :=
  (∀ a, (k2_off650 v1662) a + S1x16.size a ≤ S1000x64.size a) ∧
  (∀ a, (k2_off651 v1662) a + S1x16.size a ≤ S1000x64.size a) ∧
  (∀ a, (k2_off652 v1662) a + S1x16.size a ≤ S1000x64.size a) ∧
  (∀ a, (k2_off653 v1662) a + S1x16.size a ≤ S1000x64.size a)
theorem k2_off650_inb : ∀ (v1662 : BitVec 32) (k2_hw183 : k2_chk183 v1662), ∀ a, (k2_off650 v1662) a + S1x16.size a ≤ S1000x64.size a := fun v1662 k2_hw183 => k2_hw183.1
theorem k2_off651_inb : ∀ (v1662 : BitVec 32) (k2_hw183 : k2_chk183 v1662), ∀ a, (k2_off651 v1662) a + S1x16.size a ≤ S1000x64.size a := fun v1662 k2_hw183 => k2_hw183.2.1
theorem k2_off652_inb : ∀ (v1662 : BitVec 32) (k2_hw183 : k2_chk183 v1662), ∀ a, (k2_off652 v1662) a + S1x16.size a ≤ S1000x64.size a := fun v1662 k2_hw183 => k2_hw183.2.2.1
theorem k2_off653_inb : ∀ (v1662 : BitVec 32) (k2_hw183 : k2_chk183 v1662), ∀ a, (k2_off653 v1662) a + S1x16.size a ≤ S1000x64.size a := fun v1662 k2_hw183 => k2_hw183.2.2.2

def k2_off654 (v1680 : BitVec 32) : Fin 2 → Nat :=
  let v1681 : Index := Scalar.indexCast v1680
  let c0_440 : Index := 0#32
  ![v1681.toNat, 0]

def k2_off655 (v1680 : BitVec 32) : Fin 2 → Nat :=
  let v1685 : Index := Scalar.indexCast v1680
  let c16_441 : Index := 16#32
  ![v1685.toNat, 16]
def k2_off656 (v1680 : BitVec 32) : Fin 2 → Nat :=
  let v1689 : Index := Scalar.indexCast v1680
  let c32_442 : Index := 32#32
  ![v1689.toNat, 32]
def k2_off657 (v1680 : BitVec 32) : Fin 2 → Nat :=
  let v1693 : Index := Scalar.indexCast v1680
  let c48_443 : Index := 48#32
  ![v1693.toNat, 48]

def k2_chk184 (v1680 : BitVec 32) : Prop :=
  (∀ a, (k2_off654 v1680) a + S1x16.size a ≤ S1000x64.size a) ∧
  (∀ a, (k2_off655 v1680) a + S1x16.size a ≤ S1000x64.size a) ∧
  (∀ a, (k2_off656 v1680) a + S1x16.size a ≤ S1000x64.size a) ∧
  (∀ a, (k2_off657 v1680) a + S1x16.size a ≤ S1000x64.size a)
theorem k2_off654_inb : ∀ (v1680 : BitVec 32) (k2_hw184 : k2_chk184 v1680), ∀ a, (k2_off654 v1680) a + S1x16.size a ≤ S1000x64.size a := fun v1680 k2_hw184 => k2_hw184.1
theorem k2_off655_inb : ∀ (v1680 : BitVec 32) (k2_hw184 : k2_chk184 v1680), ∀ a, (k2_off655 v1680) a + S1x16.size a ≤ S1000x64.size a := fun v1680 k2_hw184 => k2_hw184.2.1
theorem k2_off656_inb : ∀ (v1680 : BitVec 32) (k2_hw184 : k2_chk184 v1680), ∀ a, (k2_off656 v1680) a + S1x16.size a ≤ S1000x64.size a := fun v1680 k2_hw184 => k2_hw184.2.2.1
theorem k2_off657_inb : ∀ (v1680 : BitVec 32) (k2_hw184 : k2_chk184 v1680), ∀ a, (k2_off657 v1680) a + S1x16.size a ≤ S1000x64.size a := fun v1680 k2_hw184 => k2_hw184.2.2.2

def k2_off658 (k2_t3 : Fin k2_t3_loop.trips) (c0_i32_447 : BitVec 32) : Fin 1 → Nat :=
  let c0_i32_60 : BitVec 32 := 0#32
  let c0_i32_52 : BitVec 32 := 0#32
  let c1_i32_54 : BitVec 32 := 1#32
  let arg16 : BitVec 32 := Scf.iv c0_i32_52 c1_i32_54 k2_t3
  let c1_i32_59 : BitVec 32 := 1#32
  let v102 : BitVec 32 := Scalar.muli arg16 c1_i32_59
  let v103 : BitVec 32 := Scalar.addi c0_i32_60 v102
  let c4_i32_445 : BitVec 32 := 4#32
  let v1699 : BitVec 32 := Scalar.muli v103 c4_i32_445
  let c3_i32 : BitVec 32 := 3#32
  let v1700 : BitVec 32 := Scalar.addi v1699 c3_i32
  let c64_i32_446 : BitVec 32 := 64#32
  let v1701 : BitVec 32 := Scalar.muli v1700 c64_i32_446
  let v1702 : BitVec 32 := Scalar.addi v1701 c0_i32_447
  let v1703 : Index := Scalar.indexCast v1702
  ![v1703.toNat]
def k2_off659 (i : grid2.Coords) (c480_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c512_i32 : BitVec 32 := 512#32
  let v42 : BitVec 32 := Scalar.muli v28 c512_i32
  let v43 : BitVec 32 := Scalar.addi v42 c480_i32
  let c64_i32 : BitVec 32 := 64#32
  let v44 : BitVec 32 := Scalar.muli v43 c64_i32
  ![v11.toNat, v44.toNat]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "inv_len" => some ((1 / 20 : ℝ) : EReal)
  | _ => none
-- ==== ReferenceIdeal.lean ====
abbrev S16384x20 : Shape := ⟨2, ![16384, 20]⟩
abbrev S1000x128 : Shape := ⟨2, ![1000, 128]⟩
abbrev S1000 : Shape := ⟨1, ![1000]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩
abbrev S16384x128 : Shape := ⟨2, ![16384, 128]⟩
abbrev S128x1000 : Shape := ⟨2, ![128, 1000]⟩
abbrev S16384x1000 : Shape := ⟨2, ![16384, 1000]⟩
abbrev S1x1000 : Shape := ⟨2, ![1, 1000]⟩
abbrev S16384 : Shape := ⟨1, ![16384]⟩

abbrev nBuf : Space → Nat
  | .hbm => 42
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S1000x128, .f32⟩
  | .hbm, ⟨2, _⟩ => ⟨S1000x128, .f32⟩
  | .hbm, ⟨3, _⟩ => ⟨S1000, .f32⟩
  | .hbm, ⟨4, _⟩ => ⟨S_, .i32⟩
  | .hbm, ⟨5, _⟩ => ⟨S16384x20, .i32⟩
  | .hbm, ⟨6, _⟩ => ⟨S16384x20, .i1⟩
  | .hbm, ⟨7, _⟩ => ⟨S_, .i32⟩
  | .hbm, ⟨8, _⟩ => ⟨S16384x20, .i32⟩
  | .hbm, ⟨9, _⟩ => ⟨S16384x20, .i32⟩
  | .hbm, ⟨10, _⟩ => ⟨S16384x20, .i32⟩
  | .hbm, ⟨11, _⟩ => ⟨S16384x20x1, .i32⟩
  | .hbm, ⟨12, _⟩ => ⟨S1, .i32⟩
  | .hbm, ⟨13, _⟩ => ⟨S_, .i32⟩
  | .hbm, ⟨14, _⟩ => ⟨S16384x20x1, .i32⟩
  | .hbm, ⟨15, _⟩ => ⟨S16384x20x1, .i1⟩
  | .hbm, ⟨16, _⟩ => ⟨S1x1x1, .i32⟩
  | .hbm, ⟨17, _⟩ => ⟨S16384x20x1, .i32⟩
  | .hbm, ⟨18, _⟩ => ⟨S16384x20x1, .i1⟩
  | .hbm, ⟨19, _⟩ => ⟨S16384x20x1, .i1⟩
  | .hbm, ⟨20, _⟩ => ⟨S_, .i1⟩
  | .hbm, ⟨21, _⟩ => ⟨S16384x20, .i1⟩
  | .hbm, ⟨22, _⟩ => ⟨S16384x20x128, .f32⟩
  | .hbm, ⟨23, _⟩ => ⟨S16384x20x128, .i1⟩
  | .hbm, ⟨24, _⟩ => ⟨S_, .f32⟩
  | .hbm, ⟨25, _⟩ => ⟨S16384x20x128, .f32⟩
  | .hbm, ⟨26, _⟩ => ⟨S16384x20x128, .f32⟩
  | .hbm, ⟨27, _⟩ => ⟨S_, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S128x1000, .f32⟩
  | .hbm, ⟨33, _⟩ => ⟨S16384x1000, .f32⟩
  | .hbm, ⟨34, _⟩ => ⟨S1x1000, .f32⟩
  | .hbm, ⟨35, _⟩ => ⟨S16384x1000, .f32⟩
  | .hbm, ⟨36, _⟩ => ⟨S16384x1000, .f32⟩
  | .hbm, ⟨37, _⟩ => ⟨S16384x1000, .i32⟩
  | .hbm, ⟨38, _⟩ => ⟨S_, .f32⟩
  | .hbm, ⟨39, _⟩ => ⟨S_, .i32⟩
  | .hbm, ⟨40, _⟩ => ⟨S16384, .f32⟩
  | .hbm, ⟨41, _⟩ => ⟨S16384, .i32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_v0 : Ref sig .tc := ⟨.hbm, 37, rfl⟩
abbrev main_call1_cst : Ref sig .tc := ⟨.hbm, 38, rfl⟩
abbrev main_call1_c : Ref sig .tc := ⟨.hbm, 39, rfl⟩
abbrev main_call1_v1_0 : Ref sig .tc := ⟨.hbm, 40, rfl⟩
abbrev main_v9 : Ref sig .tc := ⟨.hbm, 41, rfl⟩

abbrev nD : Nat := 1
abbrev τ : Topo := Topo.v7x

variable {F : FTy → Type} [FloatOps F]
-- ==== Proof.Steps.lean ====
/-
  A sequence of loads, stores and checks over three buffers a tile holds, as a relation between the
  writes made before it and after it, with the value it returns: the inner body of the pooling kernel
  is one long such sequence.
-/
module

public import proofs.«01_k».proof.Defs
public import Idealize.ShloMosaic.Lib.SparseCore.Quiescent
public import Idealize.ShloMosaic.Lib.StableHlo.Run
public import Idealize.ShloMosaic.Lib.Transfers
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

/-! ## The resource algebra: the handshakes' rounds, the TensorCore pipelines' rounds and the local copies' counters -/

abbrev UH : Type := URounds (GSem nD τ sig) ℕ
abbrev UP : Type := URounds (GSem nD τ sig) Unit
abbrev UU : Type := UH × UP × Counters

/-- Two calls of the SparseCores in the program. -/
abbrev RES (F : FTy → Type) : Type _ := MT nD τ sig (HIx 2) (Elt F) ℕ UU ℕ

local notation "𝕄" => RES F

abbrev 𝒱₀ : Variants := Variants.none

/-- The thread of the tile at coordinates `i`. -/
abbrev tile (d : Dev nD) (i : grid0.Coords) : Thread nD τ := V d ((i 0).castLE hcore0) ((i 1).castLE hsub0)

/-- A tile's programs. -/
abbrev TProg (F : FTy → Type) (i : grid0.Coords) (α : Type) : Type _ :=
  Prog (TpuEff nD τ sig (Elt F) Λ₀ (.scVector ((i 0).castLE hcore0) ((i 1).castLE hsub0))) α

section
variable (d : Dev nD) (i : grid0.Coords)
variable (tb : Memref sig .scVector .vmem S1000x64 .f32) (ib : Memref sig .scVector .vmem S320 .i32) (ob : Memref sig .scVector .vmem S1024 .f32)
variable (T : Buf (Elt F) (tb.view.loc (tile d i))) (I : Buf (Elt F) (ib.view.loc (tile d i))) (f : Buf (Elt F) (ob.view.loc (tile d i)))

/-- The table half, a chunk's indices, and the chunk's result after the writes `L`. -/
def Hold (L : List (View.Piece (Elt F) S1024 .f32)) : sProp 𝕄 :=
  iprop((tb.view.loc (tile d i) ↦{fullShare} T) ∗ (ib.view.loc (tile d i) ↦{fullShare} I) ∗ (ob.view.loc (tile d i) ↦{fullShare} ob.view.writes (Elt F) f L))

/-- `p` started after the writes `L` returns `v` after the writes `L'`. -/
def Steps {α : Type} (p : TProg F i α) (L : List (View.Piece (Elt F) S1024 .f32)) (v : α) (L' : List (View.Piece (Elt F) S1024 .f32)) : Prop :=
  ∀ Q : α → sProp 𝕄, Hold d i tb ib ob T I f L ⊢ iprop((Hold d i tb ib ob T I f L' -∗ Q v)
    -∗ wp frame (wpE (defs₀ (F := F)) 𝒱₀ (tile d i) none) Set.univ p Q)

end

namespace Steps
variable {d : Dev nD} {i : grid0.Coords}
variable {tb : Memref sig .scVector .vmem S1000x64 .f32} {ib : Memref sig .scVector .vmem S320 .i32} {ob : Memref sig .scVector .vmem S1024 .f32}
variable {T : Buf (Elt F) (tb.view.loc (tile d i))} {I : Buf (Elt F) (ib.view.loc (tile d i))} {f : Buf (Elt F) (ob.view.loc (tile d i))}
variable {α β : Type} {L L₁ L₂ : List (View.Piece (Elt F) S1024 .f32)}

theorem ret {v : α} : Steps d i tb ib ob T I f (pure v : TProg F i α) L v L := by
  intro Q
  iintro H HQ
  rw [Prog.pure_eq_ret, wp_ret]; imodintro
  iapply HQ; iexact H

theorem bind {p : TProg F i α} {k : α → TProg F i β} {v : α} {w : β}
    (hp : Steps d i tb ib ob T I f p L v L₁) (hk : Steps d i tb ib ob T I f (k v) L₁ w L₂) :
    Steps d i tb ib ob T I f (p >>= k) L w L₂ := by
  intro Q
  iintro H HQ
  rw [wp_bind]
  iapply (hp _) $$ H
  iintro H
  iapply (hk _) $$ H
  iexact HQ

theorem loadT {r : LoadRect S1000x64} {hl : tb.view.LoadsAt r} {k : (r.shape.Idx → Elt F .f32) → TProg F i β} {w : β}
    (hk : Steps d i tb ib ob T I f (k (tb.view.readAt (Elt F) r T)) L w L₂) :
    Steps d i tb ib ob T I f (Prog.lift (.load tb r hl) >>= k) L w L₂ := by
  intro Q
  unfold Hold
  iintro ⟨HT, HI, HO⟩ HQ
  simp only [Prog.lift, Prog.bind_op, Prog.bind_ret]
  iapply (wp_load 𝒱₀ (tile d i) none Set.univ (m := tb) (S := Finset.univ) (Finset.subset_univ _)) $$ HT; iintro HT
  iapply (hk Q) $$ [HT HI HO]
  · unfold Hold
    isplitl [HT]; · iexact HT
    isplitl [HI]; · iexact HI
    iexact HO
  iexact HQ

theorem loadI {r : LoadRect S320} {hl : ib.view.LoadsAt r} {k : (r.shape.Idx → Elt F .i32) → TProg F i β} {w : β}
    (hk : Steps d i tb ib ob T I f (k (ib.view.readAt (Elt F) r I)) L w L₂) :
    Steps d i tb ib ob T I f (Prog.lift (.load ib r hl) >>= k) L w L₂ := by
  intro Q
  unfold Hold
  iintro ⟨HT, HI, HO⟩ HQ
  simp only [Prog.lift, Prog.bind_op, Prog.bind_ret]
  iapply (wp_load 𝒱₀ (tile d i) none Set.univ (m := ib) (S := Finset.univ) (Finset.subset_univ _)) $$ HI; iintro HI
  iapply (hk Q) $$ [HT HI HO]
  · unfold Hold
    isplitl [HT]; · iexact HT
    isplitl [HI]; · iexact HI
    iexact HO
  iexact HQ

theorem loadO {r : LoadRect S1024} {hl : ob.view.LoadsAt r} {k : (r.shape.Idx → Elt F .f32) → TProg F i β} {w : β}
    (hk : Steps d i tb ib ob T I f (k (ob.view.readAt (Elt F) r (ob.view.writes (Elt F) f L))) L w L₂) :
    Steps d i tb ib ob T I f (Prog.lift (.load ob r hl) >>= k) L w L₂ := by
  intro Q
  unfold Hold
  iintro ⟨HT, HI, HO⟩ HQ
  simp only [Prog.lift, Prog.bind_op, Prog.bind_ret]
  iapply (wp_load 𝒱₀ (tile d i) none Set.univ (m := ob) (S := Finset.univ) (Finset.subset_univ _)) $$ HO; iintro HO
  iapply (hk Q) $$ [HT HI HO]
  · unfold Hold
    isplitl [HT]; · iexact HT
    isplitl [HI]; · iexact HI
    iexact HO
  iexact HQ

theorem store {r : Rect S1024} {w : r.shape.Idx → Elt F .f32} {hx : (ob.access r).Stores Finset.univ} {hm : Finset.univ = Finset.univ ∨ ∀ a, r.stride a = 1}
    {k : PUnit → TProg F i β} {v : β}
    (hk : Steps d i tb ib ob T I f (k ⟨⟩) (⟨r, w⟩ :: L) v L₂) :
    Steps d i tb ib ob T I f (Prog.lift (.store ob r w Finset.univ hx hm) >>= k) L v L₂ := by
  intro Q
  unfold Hold
  iintro ⟨HT, HI, HO⟩ HQ
  simp only [Prog.lift, Prog.bind_op, Prog.bind_ret]
  iapply (wp_store_writes 𝒱₀ (tile d i) none Set.univ (m := ob) (f := f) (w := w) (r := r) (hx := hx) (hm := hm) (L := L) (S := Finset.univ) (Finset.subset_univ _)) $$ HO; iintro HO
  iapply (hk Q) $$ [HT HI HO]
  · unfold Hold
    isplitl [HT]; · iexact HT
    isplitl [HI]; · iexact HI
    iexact HO
  iexact HQ

theorem assume {P : Prop} {dP : Decidable P} (h : P) {k : PLift P → TProg F i β} {v : β}
    (hk : Steps d i tb ib ob T I f (k ⟨h⟩) L v L₂) :
    Steps d i tb ib ob T I f (Prog.lift (.assume P dP) >>= k) L v L₂ := by
  intro Q
  iintro H HQ
  simp only [Prog.lift, Prog.bind_op, Prog.bind_ret]
  iapply (wp_assume 𝒱₀ (tile d i) none Set.univ h)
  iapply (hk Q) $$ H
  iexact HQ

end Steps

end Cert.Proof
-- ==== Proof.Argmax.lean ====
/-
  The arg-max kernel of the TensorCore, run once over any five whole buffers: from its four operands it
  leaves the result's buffer at the payload of them. Both calls have the same text.
-/
module

public import proofs.«01_k».proof.Proof.Steps
public import proofs.«01_k».proof.Proof.Gen.KernelIdeal.Launch
public import proofs.«01_k».proof.Proof.Gen.KernelIdeal.Points
public import Idealize.ShloMosaic.Lib.Pipeline.FrameBody
public import Idealize.ShloMosaic.Lib.VecWindow

@[expose] public section

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => RES F

/-- The second call's body is the first's. -/
theorem second_argmax : cc3__argmax_body (F := F) = cc1__argmax_body (F := F) := rfl

section
variable (c : Dev nD) (M1 : Memref sig .tc .vmem S2048x64 .f32) (M2 : Memref sig .tc .vmem S2048x64 .f32)
    (M3 : Memref sig .tc .vmem S1024x128 .f32) (M4 : Memref sig .tc .vmem S1x1024 .f32) (M5 : Memref sig .tc .vmem S2048 .i32)

/-- The five buffers the arg-max kernel works on. -/
def Five (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) : sProp 𝕄 :=
  iprop((M1.view.loc (c : Thread nD τ) ↦{fullShare} f1) ∗ (M2.view.loc (c : Thread nD τ) ↦{fullShare} f2)
    ∗ (M3.view.loc (c : Thread nD τ) ↦{fullShare} f3) ∗ (M4.view.loc (c : Thread nD τ) ↦{fullShare} f4)
    ∗ (M5.view.loc (c : Thread nD τ) ↦{fullShare} f5))

end

/-- One store of the whole buffer is read back whole. -/
theorem stored_whole (M5 : Memref sig .tc .vmem S2048 .i32) (f : M5.view.ty.Contents (Elt F)) (L : List (View.Piece (Elt F) S2048 .i32)) (inb) (w : S2048.Idx → Elt F .i32)
    (hL : L = [⟨Rect.unit (s := S2048) ![0] S2048.size inb, w⟩]) :
    M5.view.read (Elt F) (M5.view.writes (Elt F) f L) = w := by
  subst hL
  refine funext fun x => ?_
  have hx : (Rect.unit (s := S2048) ![0] S2048.size inb).emb x = x := by
    refine funext fun a => Fin.ext ?_
    rw [Rect.emb_apply]
    fin_cases a
    show 0 + 1 * (x 0).val = (x 0).val
    omega
  have h := View.read_writes_cons_emb M5.view f (Rect.unit (s := S2048) ![0] S2048.size inb) w [] x
  rw [hx] at h
  exact h

/-- The run over held buffers. -/
theorem argmax_run (c : Dev nD) (i : grid1.Coords)
    (M1 : Memref sig .tc .vmem S2048x64 .f32) (h1 : M1.IsWhole) (M2 : Memref sig .tc .vmem S2048x64 .f32) (h2 : M2.IsWhole)
    (M3 : Memref sig .tc .vmem S1024x128 .f32) (h3 : M3.IsWhole) (M4 : Memref sig .tc .vmem S1x1024 .f32) (h4 : M4.IsWhole)
    (M5 : Memref sig .tc .vmem S2048 .i32) (h5 : M5.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) (Q : PUnit → sProp 𝕄)
    (hQ : ∀ g5, M5.view.read (Elt F) g5 = k1_pay1 (M1.view.read (Elt F) f1) (M2.view.read (Elt F) f2) (M3.view.read (Elt F) f3) (M4.view.read (Elt F) f4) →
      Five c M1 M2 M3 M4 M5 f1 f2 f3 f4 g5 ⊢ Q ⟨⟩) :
    Five c M1 M2 M3 M4 M5 f1 f2 f3 f4 f5
      ⊢ wp frame (wpE (defs₀ (F := F)) 𝒱₀ c none) Set.univ (cc1__argmax_body i M1 h1 M2 h2 M3 h3 M4 h4 M5 h5) Q := by
  unfold Five at hQ ⊢
  rw [cc1__argmax_body_eq_skeleton]
  unfold cc1__argmax_body_skel
  iintro ⟨H1, H2, H3, H4, H5⟩
  sl_exec!
  sl_step
  iapply (hQ _ (stored_whole M5 M5.view.junk (argmax_run.sl.H5_1 c M1 M2 M3 M4 f1 f2 f3 f4) inb_S2048_S2048_0 _
    (by unfold argmax_run.sl.H5_1; rw [View.readAt_full, View.readAt_full, View.readAt_full, View.readAt_full])))
  isplitl [H1]; · iexact H1
  isplitl [H2]; · iexact H2
  isplitl [H3]; · iexact H3
  isplitl [H4]; · iexact H4
  iexact H5

/-- A whole buffer owned at what its view reads is held at contents that read so, and the other way. -/
theorem owns_whole_iff (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ (M.view.loc (c : Thread nD τ) ↦{fullShare} f)) := by
  unfold owns
  rw [h.set_eq_univ]

section
variable (c : Dev nD) (M1 : Memref sig .tc .vmem S2048x64 .f32) (M2 : Memref sig .tc .vmem S2048x64 .f32)
    (M3 : Memref sig .tc .vmem S1024x128 .f32) (M4 : Memref sig .tc .vmem S1x1024 .f32) (M5 : Memref sig .tc .vmem S2048 .i32)

/-- The five buffers at what their views read. -/
def Read5 (X1 : Vec F S2048x64 .f32) (X2 : Vec F S2048x64 .f32) (X3 : Vec F S1024x128 .f32) (X4 : Vec F S1x1024 .f32) (X5 : IVec S2048 32) : sProp 𝕄 :=
  iprop(owns (c : Thread nD τ) M1 fullShare X1 ∗ owns (c : Thread nD τ) M2 fullShare X2 ∗ owns (c : Thread nD τ) M3 fullShare X3
    ∗ owns (c : Thread nD τ) M4 fullShare X4 ∗ owns (c : Thread nD τ) M5 fullShare X5)

end

/-- The arg-max kernel from the four operands at `X1 … X4`: the result's buffer ends at the payload of them. -/
theorem argmax_body (c : Dev nD) (i : grid1.Coords)
    (M1 : Memref sig .tc .vmem S2048x64 .f32) (h1 : M1.IsWhole) (M2 : Memref sig .tc .vmem S2048x64 .f32) (h2 : M2.IsWhole)
    (M3 : Memref sig .tc .vmem S1024x128 .f32) (h3 : M3.IsWhole) (M4 : Memref sig .tc .vmem S1x1024 .f32) (h4 : M4.IsWhole)
    (M5 : Memref sig .tc .vmem S2048 .i32) (h5 : M5.IsWhole)
    (X1 : Vec F S2048x64 .f32) (X2 : Vec F S2048x64 .f32) (X3 : Vec F S1024x128 .f32) (X4 : Vec F S1x1024 .f32) (X5 : IVec S2048 32) (A B : sProp 𝕄) (Q : PUnit → sProp 𝕄)
    (hQ : iprop(A ∗ B ∗ Read5 c M1 M2 M3 M4 M5 X1 X2 X3 X4 (k1_pay1 X1 X2 X3 X4)) ⊢ Q ⟨⟩) :
    iprop(A ∗ B ∗ Read5 c M1 M2 M3 M4 M5 X1 X2 X3 X4 X5)
      ⊢ wp frame (wpE (defs₀ (F := F)) 𝒱₀ c none) Set.univ (cc1__argmax_body i M1 h1 M2 h2 M3 h3 M4 h4 M5 h5) Q := by
  unfold Read5 at hQ ⊢
  rw [owns_whole_iff c M1 h1, owns_whole_iff c M2 h2, owns_whole_iff c M3 h3, owns_whole_iff c M4 h4, owns_whole_iff c M5 h5] at hQ ⊢
  iintro ⟨HA, HB, ⟨%f1, %e1, H1⟩, ⟨%f2, %e2, H2⟩, ⟨%f3, %e3, H3⟩, ⟨%f4, %e4, H4⟩, ⟨%f5, -, H5⟩⟩
  subst e1 e2 e3 e4
  iapply (wp_wand_r frame (wpE (defs₀ (F := F)) 𝒱₀ (c : Thread nD τ) none) _)
  isplitl [H1 H2 H3 H4 H5]
  · iapply (argmax_run c i M1 h1 M2 h2 M3 h3 M4 h4 M5 h5 f1 f2 f3 f4 f5 (fun _ => iprop(∃ g5, ⌜M5.view.read (Elt F) g5 = k1_pay1 (M1.view.read (Elt F) f1) (M2.view.read (Elt F) f2) (M3.view.read (Elt F) f3) (M4.view.read (Elt F) f4)⌝ ∗ Five c M1 M2 M3 M4 M5 f1 f2 f3 f4 g5)) ?_)
    · intro g5 hg
      iintro H
      iexists g5
      isplitr; · ipureintro; exact hg
      iexact H
    · unfold Five
      isplitl [H1]; · iexact H1
      isplitl [H2]; · iexact H2
      isplitl [H3]; · iexact H3
      isplitl [H4]; · iexact H4
      iexact H5
  iintro %_ ⟨%g5, %hg, H⟩
  unfold Five
  icases H with ⟨H1, H2, H3, H4, H5⟩
  iapply hQ
  isplitl [HA]; · iexact HA
  isplitl [HB]; · iexact HB
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists g5; isplitr; (· ipureintro; exact hg); iexact H5

end Cert.Proof

end
-- ==== Proof.Region.lean ====
/-
  The two arg-max calls as regions of the TensorCore's program: each entered with every unscoped buffer at
  given contents, and left with the result's array written back block by block.
-/
module

public import proofs.«01_k».proof.Proof.Argmax
public import Idealize.ShloMosaic.Lib.Pipeline.RegionsLoop

@[expose] public section

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => RES F

abbrev ΛP : Labels := Pipeline.Sig Λ₀ (Fin 2) fun p => (pcfgs (F := F) p).Adm

/-- The SparseCore calls. -/
abbrev K : SparseCore.Cfg τ sig (ΛP (F := F)) 2 := sc (F := F)

variable (V : (c : Dev nD) → (b : Ref sig .tc) → Buf (Elt F) ((c : Thread nD τ).loc b))
  (O : Dev nD → CellTallies nD τ sig (HIx 2)) (B : Dev nD → Set (SemLoc sig × HIx 2))

/-! ## Pipeline 0 -/

/-- The proof data from the entry contents `V`: each operand's buffer at its block, the result's at the payload of the
    four, the other scoped buffers untouched, the core owing `O c` throughout. -/
def dat1 (c : Dev nD) : Dat τ (Elt F) (HIx 2) ℕ UU ℕ cfg1 c where
  A w := V c (Pipeline.arrRef spec1 w)
  after w t := match w with
    | ⟨0, _⟩ => (win1_0.blk t).view.read (Elt F) (V c (Pipeline.arrRef spec1 0))
    | ⟨1, _⟩ => (win1_1.blk t).view.read (Elt F) (V c (Pipeline.arrRef spec1 1))
    | ⟨2, _⟩ => (win1_2.blk t).view.read (Elt F) (V c (Pipeline.arrRef spec1 2))
    | ⟨3, _⟩ => (win1_3.blk t).view.read (Elt F) (V c (Pipeline.arrRef spec1 3))
    | ⟨4, _⟩ => k1_pay1 ((win1_0.blk t).view.read (Elt F) (V c (Pipeline.arrRef spec1 0)))
        ((win1_1.blk t).view.read (Elt F) (V c (Pipeline.arrRef spec1 1)))
        ((win1_2.blk t).view.read (Elt F) (V c (Pipeline.arrRef spec1 2)))
        ((win1_3.blk t).view.read (Elt F) (V c (Pipeline.arrRef spec1 3)))
  Φ _ := Pipeline.scopedRest (Ix := HIx 2) (Name := ℕ) (U := UU) (Lvl := ℕ) (Val := Elt F) spec1 c
  q _ := fullShare
  owed _ := O c
  recorded _ := B c

theorem before1_0 (c : Dev nD) (t : Fin cfg1.N) (d) : (dat1 V O B c).before 0 t d = (dat1 V O B c).after 0 t :=
  (Dat.before_in_eq_fetched _ 0 rfl (fun _ => rfl) (fun _ _ _ => rfl) (fun _ => rfl) t d).trans rfl
theorem before1_1 (c : Dev nD) (t : Fin cfg1.N) (d) : (dat1 V O B c).before 1 t d = (dat1 V O B c).after 1 t :=
  (Dat.before_in_eq_fetched _ 1 rfl (fun _ => rfl) (fun _ _ _ => rfl) (fun _ => rfl) t d).trans rfl
theorem before1_2 (c : Dev nD) (t : Fin cfg1.N) (d) : (dat1 V O B c).before 2 t d = (dat1 V O B c).after 2 t :=
  (Dat.before_in_eq_fetched _ 2 rfl (fun _ => rfl) (fun _ _ _ => rfl) (fun _ => rfl) t d).trans rfl
theorem before1_3 (c : Dev nD) (t : Fin cfg1.N) (d) : (dat1 V O B c).before 3 t d = (dat1 V O B c).after 3 t :=
  (Dat.before_in_eq_fetched _ 3 rfl (fun _ => rfl) (fun _ _ _ => rfl) (fun _ => rfl) t d).trans rfl

/-- The result's block is the payload of the four operands' blocks. -/
theorem after1_4 (c : Dev nD) (t : Fin cfg1.N) : k1_pay1 ((dat1 V O B c).after 0 t) ((dat1 V O B c).after 1 t) ((dat1 V O B c).after 2 t) ((dat1 V O B c).after 3 t)
    = (dat1 V O B c).after 4 t := by dsimp only [dat1]

set_option maxRecDepth 65536 in
/-- The body's obligation at every point. -/
theorem body_obligation1 (c : Dev nD) : BodyObligation (dat1 V O B c) (defs₀ (F := F)) 𝒱₀ none Set.univ := fun t => by
  rw [bigSep_W1, bigSep_W1, show (dat1 V O B c).Φ t.succ = (dat1 V O B c).Φ t.castSucc from rfl,
    show (dat1 V O B c).owesAt none t.succ = (dat1 V O B c).owesAt none t.castSucc from rfl]
  change _ ⊢ wp _ _ _ (bodyAt1 t) _
  iintro ⟨HΦ, HO, ⟨%d0, H0⟩, ⟨%d1, H1⟩, ⟨%d2, H2⟩, ⟨%d3, H3⟩, ⟨%d4, H4⟩⟩
  rw [before1_0, before1_1, before1_2, before1_3]
  iapply (argmax_body c (grid1.coords t) (st1_0 t) _ (st1_1 t) _ (st1_2 t) _ (st1_3 t) _ (st1_4 t) _
    ((dat1 V O B c).after 0 t) ((dat1 V O B c).after 1 t) ((dat1 V O B c).after 2 t) ((dat1 V O B c).after 3 t) ((dat1 V O B c).before 4 t d4)
    ((dat1 V O B c).Φ t.castSucc) ((dat1 V O B c).owesAt none t.castSucc) _ ?_)
  · rw [after1_4]
    unfold Read5
    iintro ⟨HΦ, HO, H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4
  · unfold Read5
    isplitl [HΦ]; · iexact HΦ
    isplitl [HO]; · iexact HO
    isplitl [H0]; · iexact H0
    isplitl [H1]; · iexact H1
    isplitl [H2]; · iexact H2
    isplitl [H3]; · iexact H3
    iexact H4

/-! ## Pipeline 1 -/

/-- The proof data from the entry contents `V`: each operand's buffer at its block, the result's at the payload of the
    four, the other scoped buffers untouched, the core owing `O c` throughout. -/
def dat3 (c : Dev nD) : Dat τ (Elt F) (HIx 2) ℕ UU ℕ cfg3 c where
  A w := V c (Pipeline.arrRef spec3 w)
  after w t := match w with
    | ⟨0, _⟩ => (win3_0.blk t).view.read (Elt F) (V c (Pipeline.arrRef spec3 0))
    | ⟨1, _⟩ => (win3_1.blk t).view.read (Elt F) (V c (Pipeline.arrRef spec3 1))
    | ⟨2, _⟩ => (win3_2.blk t).view.read (Elt F) (V c (Pipeline.arrRef spec3 2))
    | ⟨3, _⟩ => (win3_3.blk t).view.read (Elt F) (V c (Pipeline.arrRef spec3 3))
    | ⟨4, _⟩ => k1_pay1 ((win3_0.blk t).view.read (Elt F) (V c (Pipeline.arrRef spec3 0)))
        ((win3_1.blk t).view.read (Elt F) (V c (Pipeline.arrRef spec3 1)))
        ((win3_2.blk t).view.read (Elt F) (V c (Pipeline.arrRef spec3 2)))
        ((win3_3.blk t).view.read (Elt F) (V c (Pipeline.arrRef spec3 3)))
  Φ _ := Pipeline.scopedRest (Ix := HIx 2) (Name := ℕ) (U := UU) (Lvl := ℕ) (Val := Elt F) spec3 c
  q _ := fullShare
  owed _ := O c
  recorded _ := B c

theorem before3_0 (c : Dev nD) (t : Fin cfg3.N) (d) : (dat3 V O B c).before 0 t d = (dat3 V O B c).after 0 t :=
  (Dat.before_in_eq_fetched _ 0 rfl (fun _ => rfl) (fun _ _ _ => rfl) (fun _ => rfl) t d).trans rfl
theorem before3_1 (c : Dev nD) (t : Fin cfg3.N) (d) : (dat3 V O B c).before 1 t d = (dat3 V O B c).after 1 t :=
  (Dat.before_in_eq_fetched _ 1 rfl (fun _ => rfl) (fun _ _ _ => rfl) (fun _ => rfl) t d).trans rfl
theorem before3_2 (c : Dev nD) (t : Fin cfg3.N) (d) : (dat3 V O B c).before 2 t d = (dat3 V O B c).after 2 t :=
  (Dat.before_in_eq_fetched _ 2 rfl (fun _ => rfl) (fun _ _ _ => rfl) (fun _ => rfl) t d).trans rfl
theorem before3_3 (c : Dev nD) (t : Fin cfg3.N) (d) : (dat3 V O B c).before 3 t d = (dat3 V O B c).after 3 t :=
  (Dat.before_in_eq_fetched _ 3 rfl (fun _ => rfl) (fun _ _ _ => rfl) (fun _ => rfl) t d).trans rfl

/-- The result's block is the payload of the four operands' blocks. -/
theorem after3_4 (c : Dev nD) (t : Fin cfg3.N) : k1_pay1 ((dat3 V O B c).after 0 t) ((dat3 V O B c).after 1 t) ((dat3 V O B c).after 2 t) ((dat3 V O B c).after 3 t)
    = (dat3 V O B c).after 4 t := by dsimp only [dat3]

set_option maxRecDepth 65536 in
/-- The body's obligation at every point. -/
theorem body_obligation3 (c : Dev nD) : BodyObligation (dat3 V O B c) (defs₀ (F := F)) 𝒱₀ none Set.univ := fun t => by
  rw [bigSep_W3, bigSep_W3, show (dat3 V O B c).Φ t.succ = (dat3 V O B c).Φ t.castSucc from rfl,
    show (dat3 V O B c).owesAt none t.succ = (dat3 V O B c).owesAt none t.castSucc from rfl]
  change _ ⊢ wp _ _ _ (cc1__argmax_body (F := F) (grid3.coords t) (st3_0 t) (stage_whole3 0 _) (st3_1 t) (stage_whole3 1 _) (st3_2 t) (stage_whole3 2 _)
    (st3_3 t) (stage_whole3 3 _) (st3_4 t) (stage_whole3 4 _)) _
  iintro ⟨HΦ, HO, ⟨%d0, H0⟩, ⟨%d1, H1⟩, ⟨%d2, H2⟩, ⟨%d3, H3⟩, ⟨%d4, H4⟩⟩
  rw [before3_0, before3_1, before3_2, before3_3]
  iapply (argmax_body c (grid3.coords t) (st3_0 t) _ (st3_1 t) _ (st3_2 t) _ (st3_3 t) _ (st3_4 t) _
    ((dat3 V O B c).after 0 t) ((dat3 V O B c).after 1 t) ((dat3 V O B c).after 2 t) ((dat3 V O B c).after 3 t) ((dat3 V O B c).before 4 t d4)
    ((dat3 V O B c).Φ t.castSucc) ((dat3 V O B c).owesAt none t.castSucc) _ ?_)
  · rw [after3_4]
    unfold Read5
    iintro ⟨HΦ, HO, H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4
  · unfold Read5
    isplitl [HΦ]; · iexact HΦ
    isplitl [HO]; · iexact HO
    isplitl [H0]; · iexact H0
    isplitl [H1]; · iexact H1
    isplitl [H2]; · iexact H2
    isplitl [H3]; · iexact H3
    iexact H4

/-! ## The regions -/

variable (adm : (p : Fin 2) → (pcfgs (F := F) p).Adm)

/-- The proof data of both pipelines from the same contents: a region reads its own. -/
def pdats : (p : Fin 2) → (c : Dev nD) → Dat τ (Elt F) (HIx 2) ℕ UU ℕ (Pipeline.pin (pcfgs (F := F)) adm p) c
  | ⟨0, _⟩ => fun c => dat1 V O B c
  | ⟨1, _⟩ => fun c => dat3 V O B c

variable (Vp : (c : Dev nD) → (b : Ref sig .tc) → Buf (Elt F) ((c : Thread nD τ).loc b))
  (hO : ∀ c g, O c g none = 0) (hB : ∀ c s, (s, none) ∈ B c)
include hO hB

set_option backward.isDefEq.respectTransparency.types false in
/-- Pipeline 0 over every unscoped buffer at `V c`, left at `Vp c`: the result's array written back, the rest as it was. -/
def reg1 (hVp_out : ∀ c, Vp c main_v20 = (dat1 V O B c).arrAt 4 cfg1.N)
    (hVp_ne : ∀ c (b : Ref sig .tc), b ≠ main_v20 → Vp c b = V c b) :
    Pipeline.RegionSeg (pcfgs (F := F)) adm (pdats V O B adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 V O B c).loose
  hwaits c := Pipeline.cellsWaits_intro _ _ _ _ c fun w s t => (K (F := F)).mayWait_none _ (hO c)
  pre c := iprop(unscopedBufs c (V c) ∗ ∃ W : Waits sig (HIx 2), ⌜(↑W : Set (SemLoc sig × HIx 2)) ⊆ B c⌝ ∗ owes (c : Thread nD τ) (O c) W)
  post c := iprop(unscopedBufs c (Vp c) ∗ ∃ W : Waits sig (HIx 2), ⌜(↑W : Set (SemLoc sig × HIx 2)) ⊆ B c⌝ ∗ owes (c : Thread nD τ) (O c) W)
  X _ := BI.emp
  Y _ := BI.emp
  Z c := iprop(Pipeline.unscopedRest (Ix := HIx 2) (Name := ℕ) (U := UU) (Lvl := ℕ) spec1 c (V c))
  hentry c := by
    rw [Pipeline.ownSems0_none]
    have hsplit := Pipeline.arrays_of_unscopedBufs (p := 0) (pcfgs (F := F)) adm (pdats V O B adm) launch1.win launch1.arr_whole c
      ((pdats V O B adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats V O B adm 0 c).Φ 0 = Pipeline.scopedRest spec1 c from rfl]
    iintro ⟨-, -, Hr⟩; iexact Hr
  hout c := by
    rw [Pipeline.ownSems0_none, show (pdats V O B adm 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch1.win launch1.arr_whole c
      (pdats V O B adm) ((pdats V O B adm 0 c).share_full fun _ => rfl) (V c) (Vp c) ((pdats V O B adm 0 c).arrAt · cfg1.N)
      (fun w => by
        fin_cases w
        · exact ((pdats V O B adm 0 c).arrAt_in 0 rfl _).trans (hVp_ne c main_v16 (by decide)).symm
        · exact ((pdats V O B adm 0 c).arrAt_in 1 rfl _).trans (hVp_ne c main_v19 (by decide)).symm
        · exact ((pdats V O B adm 0 c).arrAt_in 2 rfl _).trans (hVp_ne c main_v5 (by decide)).symm
        · exact ((pdats V O B adm 0 c).arrAt_in 3 rfl _).trans (hVp_ne c main_v10 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact hB c _
    · iexact HO

set_option backward.isDefEq.respectTransparency.types false in
/-- Pipeline 1 over every unscoped buffer at `V c`, left at `Vp c`: the result's array written back, the rest as it was. -/
def reg3 (hVp_out : ∀ c, Vp c main_v31 = (dat3 V O B c).arrAt 4 cfg3.N)
    (hVp_ne : ∀ c (b : Ref sig .tc), b ≠ main_v31 → Vp c b = V c b) :
    Pipeline.RegionSeg (pcfgs (F := F)) adm (pdats V O B adm) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 V O B c).loose
  hwaits c := Pipeline.cellsWaits_intro _ _ _ _ c fun w s t => (K (F := F)).mayWait_none _ (hO c)
  pre c := iprop(unscopedBufs c (V c) ∗ ∃ W : Waits sig (HIx 2), ⌜(↑W : Set (SemLoc sig × HIx 2)) ⊆ B c⌝ ∗ owes (c : Thread nD τ) (O c) W)
  post c := iprop(unscopedBufs c (Vp c) ∗ ∃ W : Waits sig (HIx 2), ⌜(↑W : Set (SemLoc sig × HIx 2)) ⊆ B c⌝ ∗ owes (c : Thread nD τ) (O c) W)
  X _ := BI.emp
  Y _ := BI.emp
  Z c := iprop(Pipeline.unscopedRest (Ix := HIx 2) (Name := ℕ) (U := UU) (Lvl := ℕ) spec3 c (V c))
  hentry c := by
    rw [Pipeline.ownSems0_none]
    have hsplit := Pipeline.arrays_of_unscopedBufs (p := 1) (pcfgs (F := F)) adm (pdats V O B adm) launch3.win launch3.arr_whole c
      ((pdats V O B adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats V O B adm 1 c).Φ 0 = Pipeline.scopedRest spec3 c from rfl]
    iintro ⟨-, -, Hr⟩; iexact Hr
  hout c := by
    rw [Pipeline.ownSems0_none, show (pdats V O B adm 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (pdats V O B adm) ((pdats V O B adm 1 c).share_full fun _ => rfl) (V c) (Vp c) ((pdats V O B adm 1 c).arrAt · cfg3.N)
      (fun w => by
        fin_cases w
        · exact ((pdats V O B adm 1 c).arrAt_in 0 rfl _).trans (hVp_ne c main_v27 (by decide)).symm
        · exact ((pdats V O B adm 1 c).arrAt_in 1 rfl _).trans (hVp_ne c main_v30 (by decide)).symm
        · exact ((pdats V O B adm 1 c).arrAt_in 2 rfl _).trans (hVp_ne c main_v5 (by decide)).symm
        · exact ((pdats V O B adm 1 c).arrAt_in 3 rfl _).trans (hVp_ne c main_v10 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact hB c _
    · iexact HO

end Cert.Proof

end
-- ==== Proof.Quad.lean ====
/-
  Four rows of a chunk, pooled: the inner loop's body as steps over the table half, the chunk's indices
  and its result, and the mean each store leaves.
-/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.SL.Sem

variable {F : FTy → Type} [FloatOps F] [Named F]

section
variable (d : Dev nD) (i : grid0.Coords)
variable (tb : Memref sig .scVector .vmem S1000x64 .f32) (ib : Memref sig .scVector .vmem S320 .i32)
variable (T : Buf (Elt F) (tb.view.loc (tile d i))) (I : Buf (Elt F) (ib.view.loc (tile d i)))

/-- Every index of the chunk names a row of the table. -/
def Rows : Prop := ∀ x, (ib.view.read (Elt F) I x : BitVec 32).toNat < 1000

/-- A row's sixteen columns are inside the table half. -/
theorem row_inb {w : BitVec 32} {c : ℕ} (hw : w.toNat < 1000) (hc : c + 16 ≤ 64) :
    ∀ a, (![(Scalar.indexCast w).toNat, c] : Fin 2 → ℕ) a + S1x16.size a ≤ S1000x64.size a := by
  intro a
  match a with
  | 0 => exact hw
  | 1 => exact hc

/-- The same for all four column groups of a row. -/
theorem rows_inb {w : BitVec 32} (hw : w.toNat < 1000) :
    (∀ a, (![(Scalar.indexCast w).toNat, 0] : Fin 2 → ℕ) a + S1x16.size a ≤ S1000x64.size a)
    ∧ (∀ a, (![(Scalar.indexCast w).toNat, 16] : Fin 2 → ℕ) a + S1x16.size a ≤ S1000x64.size a)
    ∧ (∀ a, (![(Scalar.indexCast w).toNat, 32] : Fin 2 → ℕ) a + S1x16.size a ≤ S1000x64.size a)
    ∧ (∀ a, (![(Scalar.indexCast w).toNat, 48] : Fin 2 → ℕ) a + S1x16.size a ≤ S1000x64.size a) :=
  ⟨row_inb hw (by decide), row_inb hw (by decide), row_inb hw (by decide), row_inb hw (by decide)⟩

theorem slices_lane (n : ℕ) : S16.Slices ![n % 16] S1 :=
  ⟨rfl, fun a => by
    obtain rfl : a = 0 := Subsingleton.elim _ _
    show n % 16 + 1 ≤ 16
    omega⟩

/-- Index `n` of the eighty a group of four rows reads, as the kernel takes it. -/
def word (q : Fin k0_t2_loop.trips) (n : ℕ) : BitVec 32 :=
  extractAt ![0] (extractStridedSlice S1 ![n % 16]
    (shapeCast S16 (ib.view.readAt (Elt F) (Rect.unit (s := S320) (k0_off6 q (BitVec.ofNat 32 (16 * (n / 16 % 5)))) S16.size
      (k0_off6_inb q ⟨n / 16 % 5, Nat.mod_lt _ (by decide)⟩)).toLoadRect I : IVec S16 32) shapeCasts_S16_S16) (slices_lane n)) inpos_S1_p0

theorem word_lt {q : Fin k0_t2_loop.trips} (hI : Rows d i ib I) (n : ℕ) : (word d i ib I q n).toNat < 1000 := hI _

/-- Sixteen columns of the row that index names. -/
def rowV (q : Fin k0_t2_loop.trips) (hI : Rows d i ib I) (n : ℕ) (c : ℕ) (hc : c + 16 ≤ 64) : FVec F S16 .f32 :=
  shapeCast S16 (tb.view.readAt (Elt F) (Rect.unit (s := S1000x64) ![(Scalar.indexCast (word d i ib I q n)).toNat, c] S1x16.size
    (row_inb (word_lt d i ib I hI n) hc)).toLoadRect T : Vec F S1x16 .f32) shapeCasts_S1x16_S16

/-- The sum of twenty such rows, from index `n` on, in the order the kernel adds them. -/
def accV (q : Fin k0_t2_loop.trips) (hI : Rows d i ib I) (n : ℕ) (c : ℕ) (hc : c + 16 ≤ 64) : FVec F S16 .f32 :=
  addf (addf (addf (addf (addf (addf (addf (addf (addf (addf (addf (addf (addf (addf (addf (addf (addf (addf (addf (rowV d i tb ib T I q hI n c hc) (rowV d i tb ib T I q hI (n + 1) c hc)) (rowV d i tb ib T I q hI (n + 2) c hc)) (rowV d i tb ib T I q hI (n + 3) c hc)) (rowV d i tb ib T I q hI (n + 4) c hc)) (rowV d i tb ib T I q hI (n + 5) c hc)) (rowV d i tb ib T I q hI (n + 6) c hc)) (rowV d i tb ib T I q hI (n + 7) c hc)) (rowV d i tb ib T I q hI (n + 8) c hc)) (rowV d i tb ib T I q hI (n + 9) c hc)) (rowV d i tb ib T I q hI (n + 10) c hc)) (rowV d i tb ib T I q hI (n + 11) c hc)) (rowV d i tb ib T I q hI (n + 12) c hc)) (rowV d i tb ib T I q hI (n + 13) c hc)) (rowV d i tb ib T I q hI (n + 14) c hc)) (rowV d i tb ib T I q hI (n + 15) c hc)) (rowV d i tb ib T I q hI (n + 16) c hc)) (rowV d i tb ib T I q hI (n + 17) c hc)) (rowV d i tb ib T I q hI (n + 18) c hc)) (rowV d i tb ib T I q hI (n + 19) c hc)

/-- Their mean: the sum of twenty, times the constant. -/
def meanV (q : Fin k0_t2_loop.trips) (hI : Rows d i ib I) (r : ℕ) (c : ℕ) (hc : c + 16 ≤ 64) : FVec F S16 .f32 :=
  shapeCast S16 (mulf (accV d i tb ib T I q hI (20 * r) c hc) (broadcast S16 (Named.named κ "inv_len" 0x3D4CCCCD#32 : F .f32))) shapeCasts_S16_S16

/-- The sixteen stores of four rows, the last first. -/
def pieces (q : Fin k0_t2_loop.trips) (hI : Rows d i ib I) : List (View.Piece (Elt F) S1024 .f32) :=
  [⟨Rect.unit (s := S1024) (k0_off330 q 48#32) S16.size (k0_off330_inb q 3), meanV d i tb ib T I q hI 3 48 (by decide)⟩,
   ⟨Rect.unit (s := S1024) (k0_off330 q 32#32) S16.size (k0_off330_inb q 2), meanV d i tb ib T I q hI 3 32 (by decide)⟩,
   ⟨Rect.unit (s := S1024) (k0_off330 q 16#32) S16.size (k0_off330_inb q 1), meanV d i tb ib T I q hI 3 16 (by decide)⟩,
   ⟨Rect.unit (s := S1024) (k0_off330 q 0#32) S16.size (k0_off330_inb q 0), meanV d i tb ib T I q hI 3 0 (by decide)⟩,
   ⟨Rect.unit (s := S1024) (k0_off249 q 48#32) S16.size (k0_off249_inb q 3), meanV d i tb ib T I q hI 2 48 (by decide)⟩,
   ⟨Rect.unit (s := S1024) (k0_off249 q 32#32) S16.size (k0_off249_inb q 2), meanV d i tb ib T I q hI 2 32 (by decide)⟩,
   ⟨Rect.unit (s := S1024) (k0_off249 q 16#32) S16.size (k0_off249_inb q 1), meanV d i tb ib T I q hI 2 16 (by decide)⟩,
   ⟨Rect.unit (s := S1024) (k0_off249 q 0#32) S16.size (k0_off249_inb q 0), meanV d i tb ib T I q hI 2 0 (by decide)⟩,
   ⟨Rect.unit (s := S1024) (k0_off168 q 48#32) S16.size (k0_off168_inb q 3), meanV d i tb ib T I q hI 1 48 (by decide)⟩,
   ⟨Rect.unit (s := S1024) (k0_off168 q 32#32) S16.size (k0_off168_inb q 2), meanV d i tb ib T I q hI 1 32 (by decide)⟩,
   ⟨Rect.unit (s := S1024) (k0_off168 q 16#32) S16.size (k0_off168_inb q 1), meanV d i tb ib T I q hI 1 16 (by decide)⟩,
   ⟨Rect.unit (s := S1024) (k0_off168 q 0#32) S16.size (k0_off168_inb q 0), meanV d i tb ib T I q hI 1 0 (by decide)⟩,
   ⟨Rect.unit (s := S1024) (k0_off87 q 48#32) S16.size (k0_off87_inb q 3), meanV d i tb ib T I q hI 0 48 (by decide)⟩,
   ⟨Rect.unit (s := S1024) (k0_off87 q 32#32) S16.size (k0_off87_inb q 2), meanV d i tb ib T I q hI 0 32 (by decide)⟩,
   ⟨Rect.unit (s := S1024) (k0_off87 q 16#32) S16.size (k0_off87_inb q 1), meanV d i tb ib T I q hI 0 16 (by decide)⟩,
   ⟨Rect.unit (s := S1024) (k0_off87 q 0#32) S16.size (k0_off87_inb q 0), meanV d i tb ib T I q hI 0 0 (by decide)⟩]

end

end Cert.Proof
-- ==== Proof.Pool.lean ====
/-
  The pooled rows, index by index: what each store of the inner loop's body leaves is the mean of twenty
  rows of the table half, in the order the kernel adds them.
-/
module

public import proofs.«01_k».proof.Proof.Quad
public import Idealize.ShloMosaic.Lib.Pointwise.Index
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.SL.Sem

variable {F : FTy → Type} [FloatOps F] [Named F]

/-- Twenty values added from the left. -/
def sum20 (g : ℕ → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (g 0) (g 1)) (g 2)) (g 3)) (g 4)) (g 5)) (g 6)) (g 7)) (g 8)) (g 9)) (g 10)) (g 11)) (g 12)) (g 13)) (g 14)) (g 15)) (g 16)) (g 17)) (g 18)) (g 19)

/-- Row `w`, column `c` of a table half. -/
def rowAt (T : S1000x64.Idx → F .f32) (w : BitVec 32) (c : ℕ) : F .f32 :=
  T (ix2 ⟨w.toNat % 1000, Nat.mod_lt _ (by decide)⟩ ⟨c % 64, Nat.mod_lt _ (by decide)⟩)

/-- Place `y` of a chunk's result: column `y % 64` of the mean of the rows that the twenty indices of
    sequence `y / 64` name. -/
def pooled (T : S1000x64.Idx → F .f32) (I : S320.Idx → BitVec 32) (y : ℕ) : F .f32 :=
  FloatOps.mulf (sum20 fun l => rowAt T (I (ix1 ⟨(20 * (y / 64) + l) % 320, Nat.mod_lt _ (by decide)⟩)) (y % 64))
    (Named.named κ "inv_len" 0x3D4CCCCD#32 : F .f32)

section
variable (d : Dev nD) (i : grid0.Coords)
variable (tb : Memref sig .scVector .vmem S1000x64 .f32) (ib : Memref sig .scVector .vmem S320 .i32)
variable (T : Buf (Elt F) (tb.view.loc (tile d i))) (I : Buf (Elt F) (ib.view.loc (tile d i)))

theorem trips2 (q : Fin k0_t2_loop.trips) : q.val < 4 := lt_of_lt_of_le q.isLt k0_t2_abs.2.1

theorem word_eq (q : Fin k0_t2_loop.trips) (n : ℕ) (hn : n < 80) :
    word d i ib I q n = ib.view.read (Elt F) I (ix1 ⟨(80 * q.val + n) % 320, Nat.mod_lt _ (by decide)⟩) := by
  have hq := trips2 q
  unfold word
  refine (congrArg (fun v : IVec S16 32 => extractAt ![0] (extractStridedSlice S1 ![n % 16] v (slices_lane n)) inpos_S1_p0)
    (shapeCast_self (s := S16) _ _)).trans ?_
  unfold extractAt extractStridedSlice
  rw [View.readAt_apply]
  congr 1
  funext a
  obtain rfl : a = 0 := Subsingleton.elim _ _
  refine Fin.ext ?_
  have h5 : n / 16 % 5 = n / 16 := Nat.mod_eq_of_lt (by omega)
  have e := congrFun (k0_off6_eq q ⟨n / 16 % 5, Nat.mod_lt _ (by decide)⟩) 0
  show k0_off6 q (BitVec.ofNat 32 (16 * (n / 16 % 5))) 0 + 1 * (n % 16 + 0) = (80 * q.val + n) % 320
  rw [e]
  show 80 * q.val + 16 * (n / 16 % 5) + 1 * (n % 16 + 0) = (80 * q.val + n) % 320
  omega

theorem rowV_apply (q : Fin k0_t2_loop.trips) (hI : Rows d i ib I) (n : ℕ) (hn : n < 80) (c : ℕ) (hc : c + 16 ≤ 64) (x : S16.Idx) :
    rowV d i tb ib T I q hI n c hc x
      = rowAt (tb.view.read (Elt F) T) (ib.view.read (Elt F) I (ix1 ⟨(80 * q.val + n) % 320, Nat.mod_lt _ (by decide)⟩)) (c + (x 0).val) := by
  have hx : (x 0).val < 16 := (x 0).isLt
  have hw := word_lt d i ib I (q := q) hI n
  unfold rowV rowAt
  rw [shapeCast_dropUnit_apply, View.readAt_apply, ← word_eq d i ib I q n hn]
  congr 1
  funext a
  match a with
  | 0 =>
    refine Fin.ext ?_
    show (word d i ib I q n).toNat + 1 * 0 = (word d i ib I q n).toNat % 1000
    omega
  | 1 =>
    refine Fin.ext ?_
    show c + 1 * (x 0).val = (c + (x 0).val) % 64
    omega

theorem meanV_apply (q : Fin k0_t2_loop.trips) (hI : Rows d i ib I) (r : ℕ) (hr : r < 4) (c : ℕ) (hc : c + 16 ≤ 64) (x : S16.Idx) :
    meanV d i tb ib T I q hI r c hc x
      = pooled (tb.view.read (Elt F) T) (ib.view.read (Elt F) I) (256 * q.val + 64 * r + c + (x 0).val) := by
  have hq := trips2 q
  have hx : (x 0).val < 16 := (x 0).isLt
  have hrow : ∀ l, l < 20 → rowV d i tb ib T I q hI (20 * r + l) c hc x
      = rowAt (tb.view.read (Elt F) T) (ib.view.read (Elt F) I (ix1 ⟨(20 * ((256 * q.val + 64 * r + c + (x 0).val) / 64) + l) % 320, Nat.mod_lt _ (by decide)⟩))
          ((256 * q.val + 64 * r + c + (x 0).val) % 64) := fun l hl => by
    rw [rowV_apply d i tb ib T I q hI _ (by omega)]
    have e1 : (256 * q.val + 64 * r + c + (x 0).val) / 64 = 4 * q.val + r := by omega
    have e2 : (256 * q.val + 64 * r + c + (x 0).val) % 64 = c + (x 0).val := by omega
    have e3 : 80 * q.val + (20 * r + l) = 20 * (4 * q.val + r) + l := by omega
    simp only [e1, e2, e3]
  unfold meanV pooled
  rw [shapeCast_self]
  show FloatOps.mulf (accV d i tb ib T I q hI (20 * r) c hc x) _ = _
  refine congrArg (fun z => FloatOps.mulf z _) ?_
  unfold accV sum20
  simp only [addf]
  rw [show rowV d i tb ib T I q hI (20 * r) c hc x = _ from hrow 0 (by decide), hrow 1 (by decide), hrow 2 (by decide), hrow 3 (by decide), hrow 4 (by decide), hrow 5 (by decide), hrow 6 (by decide), hrow 7 (by decide), hrow 8 (by decide), hrow 9 (by decide), hrow 10 (by decide), hrow 11 (by decide), hrow 12 (by decide), hrow 13 (by decide), hrow 14 (by decide), hrow 15 (by decide), hrow 16 (by decide), hrow 17 (by decide), hrow 18 (by decide), hrow 19 (by decide)]

/-- One store's values are the pooled rows at the places it covers. -/
theorem piece_agree (q : Fin k0_t2_loop.trips) (hI : Rows d i ib I) (r : ℕ) (hr : r < 4) (c : ℕ) (hc : c + 16 ≤ 64)
    (off : Fin 1 → ℕ) (inb : ∀ a, off a + S16.size a ≤ S1024.size a) (ho : off 0 = 256 * q.val + 64 * r + c) :
    ∀ x, meanV d i tb ib T I q hI r c hc x
      = pooled (tb.view.read (Elt F) T) (ib.view.read (Elt F) I) ((Rect.unit (s := S1024) off S16.size inb).emb x 0).val := fun x => by
  rw [meanV_apply d i tb ib T I q hI r hr c hc x]
  congr 1
  show _ = off 0 + 1 * (x 0).val
  rw [ho]; omega

theorem pieces_agree (q : Fin k0_t2_loop.trips) (hI : Rows d i ib I) :
    ∀ p ∈ pieces d i tb ib T I q hI, ∀ x : p.1.shape.Idx,
      p.2 x = pooled (tb.view.read (Elt F) T) (ib.view.read (Elt F) I) (p.1.emb x 0).val := by
  unfold pieces
  simp only [List.forall_mem_cons, List.not_mem_nil, false_implies, implies_true, and_true]
  exact ⟨piece_agree d i tb ib T I q hI 3 (by decide) 48 (by decide) _ _ ((congrFun (k0_off330_eq q 3) 0).trans (by show 256 * q.val + 16 * 3 + 192 = _; omega)),
    piece_agree d i tb ib T I q hI 3 (by decide) 32 (by decide) _ _ ((congrFun (k0_off330_eq q 2) 0).trans (by show 256 * q.val + 16 * 2 + 192 = _; omega)),
    piece_agree d i tb ib T I q hI 3 (by decide) 16 (by decide) _ _ ((congrFun (k0_off330_eq q 1) 0).trans (by show 256 * q.val + 16 * 1 + 192 = _; omega)),
    piece_agree d i tb ib T I q hI 3 (by decide) 0 (by decide) _ _ ((congrFun (k0_off330_eq q 0) 0).trans (by show 256 * q.val + 16 * 0 + 192 = _; omega)),
    piece_agree d i tb ib T I q hI 2 (by decide) 48 (by decide) _ _ ((congrFun (k0_off249_eq q 3) 0).trans (by show 256 * q.val + 16 * 3 + 128 = _; omega)),
    piece_agree d i tb ib T I q hI 2 (by decide) 32 (by decide) _ _ ((congrFun (k0_off249_eq q 2) 0).trans (by show 256 * q.val + 16 * 2 + 128 = _; omega)),
    piece_agree d i tb ib T I q hI 2 (by decide) 16 (by decide) _ _ ((congrFun (k0_off249_eq q 1) 0).trans (by show 256 * q.val + 16 * 1 + 128 = _; omega)),
    piece_agree d i tb ib T I q hI 2 (by decide) 0 (by decide) _ _ ((congrFun (k0_off249_eq q 0) 0).trans (by show 256 * q.val + 16 * 0 + 128 = _; omega)),
    piece_agree d i tb ib T I q hI 1 (by decide) 48 (by decide) _ _ ((congrFun (k0_off168_eq q 3) 0).trans (by show 256 * q.val + 16 * 3 + 64 = _; omega)),
    piece_agree d i tb ib T I q hI 1 (by decide) 32 (by decide) _ _ ((congrFun (k0_off168_eq q 2) 0).trans (by show 256 * q.val + 16 * 2 + 64 = _; omega)),
    piece_agree d i tb ib T I q hI 1 (by decide) 16 (by decide) _ _ ((congrFun (k0_off168_eq q 1) 0).trans (by show 256 * q.val + 16 * 1 + 64 = _; omega)),
    piece_agree d i tb ib T I q hI 1 (by decide) 0 (by decide) _ _ ((congrFun (k0_off168_eq q 0) 0).trans (by show 256 * q.val + 16 * 0 + 64 = _; omega)),
    piece_agree d i tb ib T I q hI 0 (by decide) 48 (by decide) _ _ ((congrFun (k0_off87_eq q 3) 0).trans (by show 256 * q.val + 16 * 3 = _; omega)),
    piece_agree d i tb ib T I q hI 0 (by decide) 32 (by decide) _ _ ((congrFun (k0_off87_eq q 2) 0).trans (by show 256 * q.val + 16 * 2 = _; omega)),
    piece_agree d i tb ib T I q hI 0 (by decide) 16 (by decide) _ _ ((congrFun (k0_off87_eq q 1) 0).trans (by show 256 * q.val + 16 * 1 = _; omega)),
    piece_agree d i tb ib T I q hI 0 (by decide) 0 (by decide) _ _ ((congrFun (k0_off87_eq q 0) 0).trans (by show 256 * q.val + 16 * 0 = _; omega))⟩

theorem mem_unit16 (off : Fin 1 → ℕ) (inb : ∀ a, off a + S16.size a ≤ S1024.size a) (y : S1024.Idx) (n : ℕ) (ho : off 0 = n)
    (h : n ≤ (y 0).val) (h' : (y 0).val < n + 16) : y ∈ (Rect.unit (s := S1024) off S16.size inb).set := by
  subst ho
  refine Rect.mem_set_unit.mpr fun a => ?_
  obtain rfl : a = 0 := Subsingleton.elim _ _
  exact ⟨h, h'⟩

/-- The sixteen stores cover the four rows' 256 places. -/
theorem pieces_cover (q : Fin k0_t2_loop.trips) (hI : Rows d i ib I) (y : S1024.Idx) (h : 256 * q.val ≤ (y 0).val)
    (h' : (y 0).val < 256 * (q.val + 1)) : ∃ p ∈ pieces d i tb ib T I q hI, y ∈ p.1.set := by
  have hk : ((y 0).val - 256 * q.val) / 16 < 16 := by omega
  obtain ⟨k, hk'⟩ : ∃ k, k = ((y 0).val - 256 * q.val) / 16 := ⟨_, rfl⟩
  rw [← hk'] at hk
  unfold pieces
  interval_cases k
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))),
      mem_unit16 _ (k0_off87_inb q 0) y _ (congrFun (k0_off87_eq q 0) 0) (by show 256 * q.val + 16 * 0 ≤ _; omega) (by show _ < 256 * q.val + 16 * 0 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))),
      mem_unit16 _ (k0_off87_inb q 1) y _ (congrFun (k0_off87_eq q 1) 0) (by show 256 * q.val + 16 * 1 ≤ _; omega) (by show _ < 256 * q.val + 16 * 1 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))),
      mem_unit16 _ (k0_off87_inb q 2) y _ (congrFun (k0_off87_eq q 2) 0) (by show 256 * q.val + 16 * 2 ≤ _; omega) (by show _ < 256 * q.val + 16 * 2 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))),
      mem_unit16 _ (k0_off87_inb q 3) y _ (congrFun (k0_off87_eq q 3) 0) (by show 256 * q.val + 16 * 3 ≤ _; omega) (by show _ < 256 * q.val + 16 * 3 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))),
      mem_unit16 _ (k0_off168_inb q 0) y _ (congrFun (k0_off168_eq q 0) 0) (by show 256 * q.val + 16 * 0 + 64 ≤ _; omega) (by show _ < 256 * q.val + 16 * 0 + 64 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))),
      mem_unit16 _ (k0_off168_inb q 1) y _ (congrFun (k0_off168_eq q 1) 0) (by show 256 * q.val + 16 * 1 + 64 ≤ _; omega) (by show _ < 256 * q.val + 16 * 1 + 64 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))),
      mem_unit16 _ (k0_off168_inb q 2) y _ (congrFun (k0_off168_eq q 2) 0) (by show 256 * q.val + 16 * 2 + 64 ≤ _; omega) (by show _ < 256 * q.val + 16 * 2 + 64 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))),
      mem_unit16 _ (k0_off168_inb q 3) y _ (congrFun (k0_off168_eq q 3) 0) (by show 256 * q.val + 16 * 3 + 64 ≤ _; omega) (by show _ < 256 * q.val + 16 * 3 + 64 + 16; omega)⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))),
      mem_unit16 _ (k0_off249_inb q 0) y _ (congrFun (k0_off249_eq q 0) 0) (by show 256 * q.val + 16 * 0 + 128 ≤ _; omega) (by show _ < 256 * q.val + 16 * 0 + 128 + 16; omega)⟩
  · exact ⟨_, (List.mem_cons_of_mem _ (List.mem_cons_of_mem _ (List.mem_cons_of_mem _ (List.mem_cons_of_mem _ (List.mem_cons_of_mem _ (List.mem_cons_of_mem _ List.mem_cons_self)))))),
      mem_unit16 _ (k0_off249_inb q 1) y _ (congrFun (k0_off249_eq q 1) 0) (by show 256 * q.val + 16 * 1 + 128 ≤ _; omega) (by show _ < 256 * q.val + 16 * 1 + 128 + 16; omega)⟩
  · exact ⟨_, (List.mem_cons_of_mem _ (List.mem_cons_of_mem _ (List.mem_cons_of_mem _ (List.mem_cons_of_mem _ (List.mem_cons_of_mem _ List.mem_cons_self))))),
      mem_unit16 _ (k0_off249_inb q 2) y _ (congrFun (k0_off249_eq q 2) 0) (by show 256 * q.val + 16 * 2 + 128 ≤ _; omega) (by show _ < 256 * q.val + 16 * 2 + 128 + 16; omega)⟩
  · exact ⟨_, (List.mem_cons_of_mem _ (List.mem_cons_of_mem _ (List.mem_cons_of_mem _ (List.mem_cons_of_mem _ List.mem_cons_self)))),
      mem_unit16 _ (k0_off249_inb q 3) y _ (congrFun (k0_off249_eq q 3) 0) (by show 256 * q.val + 16 * 3 + 128 ≤ _; omega) (by show _ < 256 * q.val + 16 * 3 + 128 + 16; omega)⟩
  · exact ⟨_, (List.mem_cons_of_mem _ (List.mem_cons_of_mem _ (List.mem_cons_of_mem _ List.mem_cons_self))),
      mem_unit16 _ (k0_off330_inb q 0) y _ (congrFun (k0_off330_eq q 0) 0) (by show 256 * q.val + 16 * 0 + 192 ≤ _; omega) (by show _ < 256 * q.val + 16 * 0 + 192 + 16; omega)⟩
  · exact ⟨_, (List.mem_cons_of_mem _ (List.mem_cons_of_mem _ List.mem_cons_self)),
      mem_unit16 _ (k0_off330_inb q 1) y _ (congrFun (k0_off330_eq q 1) 0) (by show 256 * q.val + 16 * 1 + 192 ≤ _; omega) (by show _ < 256 * q.val + 16 * 1 + 192 + 16; omega)⟩
  · exact ⟨_, (List.mem_cons_of_mem _ List.mem_cons_self),
      mem_unit16 _ (k0_off330_inb q 2) y _ (congrFun (k0_off330_eq q 2) 0) (by show 256 * q.val + 16 * 2 + 192 ≤ _; omega) (by show _ < 256 * q.val + 16 * 2 + 192 + 16; omega)⟩
  · exact ⟨_, List.mem_cons_self,
      mem_unit16 _ (k0_off330_inb q 3) y _ (congrFun (k0_off330_eq q 3) 0) (by show 256 * q.val + 16 * 3 + 192 ≤ _; omega) (by show _ < 256 * q.val + 16 * 3 + 192 + 16; omega)⟩

/-- After the stores of group `q` over what the groups before it left, the chunk's result is the pooled rows up to group `q + 1`. -/
theorem pieces_read (ob : Memref sig .scVector .vmem S1024 .f32) (f : Buf (Elt F) (ob.view.loc (tile d i))) (q : Fin k0_t2_loop.trips) (hI : Rows d i ib I)
    (hf : ∀ y : S1024.Idx, (y 0).val < 256 * q.val → ob.view.read (Elt F) f y = pooled (tb.view.read (Elt F) T) (ib.view.read (Elt F) I) (y 0).val) :
    ∀ y : S1024.Idx, (y 0).val < 256 * (q.val + 1) →
      ob.view.read (Elt F) (ob.view.writes (Elt F) f (pieces d i tb ib T I q hI)) y
        = pooled (tb.view.read (Elt F) T) (ib.view.read (Elt F) I) (y 0).val := by
  intro y hy
  by_cases hc : ∃ p ∈ pieces d i tb ib T I q hI, y ∈ p.1.set
  · exact View.read_writes_apply_of_pieces _ _ (fun y => pooled (tb.view.read (Elt F) T) (ib.view.read (Elt F) I) (y 0).val) _
      (pieces_agree d i tb ib T I q hI) y hc
  · have hlt : (y 0).val < 256 * q.val := by
      by_contra hge
      exact hc (pieces_cover d i tb ib T I q hI y (by omega) hy)
    rw [View.read_writes_apply_of_forall_not_mem]
    · exact hf y hlt
    · intro p hp hm
      exact hc ⟨p, hp, hm⟩

end

end Cert.Proof
-- ==== Proof.Chunk.lean ====
/-
  The copies of one chunk: a chunk's indices fetched and awaited, a chunk's result sent to the result
  array and awaited. What the result array is to hold is stated here for all the tiles at once.
-/
module

public import proofs.«01_k».proof.Proof.Pool
public import Idealize.ShloMosaic.Lib.SparseCore.ProtocolKit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => RES F

/-! ## Offsets and conditions in closed form -/

theorem off1_eq (i : grid0.Coords) : k0_off1 i = ![(i 0).val, 0, 0] :=
  funext ((by decide +kernel : ∀ i : grid0.Coords, ∀ a, k0_off1 i a = ![(i 0).val, 0, 0] a) i)
theorem off2_eq (i : grid0.Coords) : k0_off2 i = ![(i 1).val, 0, 0] :=
  funext ((by decide +kernel : ∀ i : grid0.Coords, ∀ a, k0_off2 i a = ![(i 1).val, 0, 0] a) i)
theorem off3_eq (i : grid0.Coords) (t : Fin k0_t1_loop.trips) : k0_off3 i t = ![(i 1).val, 2 * t.val + 1, 0] :=
  funext ((by decide +kernel : ∀ (i : grid0.Coords) (t : Fin k0_t1_loop.trips), ∀ a, k0_off3 i t a = ![(i 1).val, 2 * t.val + 1, 0] a) i t)
theorem off332_eq (i : grid0.Coords) (t : Fin k0_t1_loop.trips) : k0_off332 i t = ![(i 1).val, 2 * t.val + 2, 0] :=
  funext ((by decide +kernel : ∀ (i : grid0.Coords) (t : Fin k0_t1_loop.trips), ∀ a, k0_off332 i t a = ![(i 1).val, 2 * t.val + 2, 0] a) i t)
/-- Where chunk `n` of a tile goes in the result. -/
def outOff (i : grid0.Coords) (n : ℕ) : Fin 2 → ℕ := ![(i 0).val, ((i 1).val * 32 + n) * 1024]
theorem off331_eq (i : grid0.Coords) (t : Fin k0_t1_loop.trips) (r : Fin 2) :
    k0_off331 i t (BitVec.ofNat 32 r.val) = outOff i (2 * t.val + r.val) :=
  funext ((by decide +kernel : ∀ (i : grid0.Coords) (t : Fin k0_t1_loop.trips) (r : Fin 2), ∀ a,
    k0_off331 i t (BitVec.ofNat 32 r.val) a = ![(i 0).val, ((i 1).val * 32 + (2 * t.val + r.val)) * 1024] a) i t r)
theorem cond1_eq (t : Fin k0_t1_loop.trips) : k0_cond1 t = 1#1 := (by decide +kernel : ∀ t : Fin k0_t1_loop.trips, k0_cond1 t = 1#1) t
theorem cond2_iff (t : Fin k0_t1_loop.trips) : k0_cond2 t = 1#1 ↔ 1 ≤ t.val := (by decide +kernel : ∀ t : Fin k0_t1_loop.trips, k0_cond2 t = 1#1 ↔ 1 ≤ t.val) t
theorem cond3_iff (t : Fin k0_t1_loop.trips) : k0_cond3 t = 1#1 ↔ t.val < 15 := (by decide +kernel : ∀ t : Fin k0_t1_loop.trips, k0_cond3 t = 1#1 ↔ t.val < 15) t
theorem cond4_iff (t : Fin k0_t1_loop.trips) : k0_cond4 t = 1#1 ↔ 1 ≤ t.val := (by decide +kernel : ∀ t : Fin k0_t1_loop.trips, k0_cond4 t = 1#1 ↔ 1 ≤ t.val) t
theorem t1_trips : k0_t1_loop.trips = 16 := by decide +kernel
theorem t2_trips : k0_t2_loop.trips = 4 := by decide +kernel
theorem t3_trips : k0_t3_loop.trips = 4 := by decide +kernel

theorem core_lt (i : grid0.Coords) : (i 0).val < 2 := (i 0).isLt
theorem sub_lt (i : grid0.Coords) : (i 1).val < 16 := (i 1).isLt

/-! ## What the copies carry -/

/-- Chunk `n` of row block `r` of the indices. -/
def chunkIdx (X : S16x32x320.Idx → BitVec 32) (r n : ℕ) : S320.Idx → BitVec 32 :=
  fun y => X (ix3 ⟨r % 16, Nat.mod_lt _ (by decide)⟩ ⟨n % 32, Nat.mod_lt _ (by decide)⟩ (y 0))

/-- One half of the table. -/
def half (Y : S2x1000x64.Idx → F .f32) (c : ℕ) : S1000x64.Idx → F .f32 :=
  fun y => Y (ix3 ⟨c % 2, Nat.mod_lt _ (by decide)⟩ (y 0) (y 1))

/-- The whole result of a call, from its table and its indices. -/
def goal (X : S16x32x320.Idx → BitVec 32) (Y : S2x1000x64.Idx → F .f32) (x : S2x524288.Idx) : F .f32 :=
  pooled (half Y (x 0).val) (chunkIdx X ((x 1).val / 32768) ((x 1).val / 1024)) ((x 1).val % 1024)

/-- The places of the result that chunk `n` of a tile fills. -/
def outRect (i : grid0.Coords) (n : ℕ) : Finset S2x524288.Idx :=
  Finset.univ.filter fun x => (x 0).val = (i 0).val ∧ ((i 1).val * 32 + n) * 1024 ≤ (x 1).val ∧ (x 1).val < ((i 1).val * 32 + n) * 1024 + 1024

section
variable (d : Dev nD) (i : grid0.Coords)
variable (a2 : Memref sig .scVector .hbm S16x32x320 .i32) (a3 : Memref sig .scVector .hbm S2x1000x64 .f32) (a4 : Memref sig .scVector .hbm S2x524288 .f32)
variable (tb : Memref sig .scVector .vmem S1000x64 .f32) (ib : Memref sig .scVector .vmem S320 .i32) (ob : Memref sig .scVector .vmem S1024 .f32)
variable (X : Buf (Elt F) (a2.view.loc (tile d i))) (Y : Buf (Elt F) (a3.view.loc (tile d i)))
variable (f0 G : Buf (Elt F) (a4.view.loc (tile d i)))

/-- Chunk `n`'s places, in the buffer of the result. -/
def outSet (n : ℕ) : Finset (Idx (a4.view.loc (tile d i))) := (outRect i n).map a4.view.emb

theorem slice_set (n : ℕ) {off : Fin 2 → ℕ} (ho : off = outOff i n) {inb : ∀ a, off a + S1x1024.size a ≤ S2x524288.size a}
    {hs : ∀ a, (Rect.unit (s := S2x524288) off S1x1024.size inb).stride a = 1}
    {sq : S1x1024.Squeezes S1024} : ((a4.slice (Rect.unit (s := S2x524288) off S1x1024.size inb) hs).squeeze S1024 sq).view.set = outSet d i a4 n := by
  subst ho
  refine ((View.set_reshape _ _).trans (View.set_slice _ _)).trans ?_
  unfold outSet
  refine congrArg (Finset.map a4.view.emb) ?_
  ext x
  rw [Rect.mem_set_unit]
  unfold outRect
  rw [Finset.mem_filter]
  constructor
  · intro h
    have h0 := h 0
    have h1 := h 1
    simp only [outOff, S1x1024, Matrix.cons_val_zero, Matrix.cons_val_one] at h0 h1
    refine ⟨Finset.mem_univ _, ?_, ?_, ?_⟩ <;> omega
  · rintro ⟨-, h0, h1, h2⟩ a
    match a with
    | 0 => exact ⟨h0.ge, h0 ▸ Nat.lt_succ_self _⟩
    | 1 => exact ⟨h1, h2⟩

/-- Where a place of the squeezed slice lies. -/
theorem slice_emb (n : ℕ) {off : Fin 2 → ℕ} (ho : off = outOff i n) {inb : ∀ a, off a + S1x1024.size a ≤ S2x524288.size a}
    {sq : S1024.numel = S1x1024.numel} (y : S1024.Idx) (x : S2x524288.Idx) (h0 : (x 0).val = (i 0).val)
    (h1 : (x 1).val = ((i 1).val * 32 + n) * 1024 + (y 0).val) :
    (Rect.unit (s := S2x524288) off S1x1024.size inb).emb (Shape.reshapeEquiv sq y) = x := by
  subst ho
  have e : Shape.reshapeEquiv sq y = (ix2 (n0 := 1) (n1 := 1024) 0 (y 0) : S1x1024.Idx) :=
    Shape.reshapeEquiv_eq_of_rowMajor sq (by rw [Shape.rowMajor_val_one, Shape.rowMajor_val_two]; simp)
  rw [e]
  funext a
  refine Fin.ext ?_
  rw [Rect.emb_apply]
  match a with
  | 0 => exact (h0.trans (by show _ = (i 0).val + 1 * 0; omega)).symm
  | 1 => exact (h1.trans (by show _ = ((i 1).val * 32 + n) * 1024 + 1 * (y 0).val; omega)).symm

/-- Where a place of a fetched chunk of indices lies. -/
theorem idx_emb (n : ℕ) (hn : n < 32) {off : Fin 3 → ℕ} (ho : off = ![(i 1).val, n, 0]) {inb : ∀ a, off a + S1x1x320.size a ≤ S16x32x320.size a}
    {sq : S320.numel = S1x1x320.numel} (y : S320.Idx) :
    (Rect.unit (s := S16x32x320) off S1x1x320.size inb).emb (Shape.reshapeEquiv sq y)
      = ix3 ⟨(i 1).val % 16, Nat.mod_lt _ (by decide)⟩ ⟨n % 32, Nat.mod_lt _ (by decide)⟩ (y 0) := by
  subst ho
  have hs := sub_lt i
  have e : Shape.reshapeEquiv sq y = (ix3 (n0 := 1) (n1 := 1) (n2 := 320) 0 0 (y 0) : S1x1x320.Idx) :=
    Shape.reshapeEquiv_eq_of_rowMajor sq (by rw [Shape.rowMajor_val_one, Shape.rowMajor_val_three]; simp)
  rw [e]
  funext a
  refine Fin.ext ?_
  rw [Rect.emb_apply]
  match a with
  | 0 => show (i 1).val + 1 * 0 = (i 1).val % 16; omega
  | 1 => show n + 1 * 0 = n % 32; omega
  | 2 => show 0 + 1 * (y 0).val = (y 0).val; omega

/-- Where a place of the fetched half table lies. -/
theorem tab_emb {off : Fin 3 → ℕ} (ho : off = ![(i 0).val, 0, 0]) {inb : ∀ a, off a + S1x1000x64.size a ≤ S2x1000x64.size a}
    {sq : S1000x64.numel = S1x1000x64.numel} (y : S1000x64.Idx) :
    (Rect.unit (s := S2x1000x64) off S1x1000x64.size inb).emb (Shape.reshapeEquiv sq y)
      = ix3 ⟨(i 0).val % 2, Nat.mod_lt _ (by decide)⟩ (y 0) (y 1) := by
  subst ho
  have hs := core_lt i
  have e : Shape.reshapeEquiv sq y = (ix3 (n0 := 1) (n1 := 1000) (n2 := 64) 0 (y 0) (y 1) : S1x1000x64.Idx) :=
    Shape.reshapeEquiv_eq_of_rowMajor sq (by rw [Shape.rowMajor_val_two, Shape.rowMajor_val_three]; simp)
  rw [e]
  funext a
  refine Fin.ext ?_
  rw [Rect.emb_apply]
  match a with
  | 0 => show (i 0).val + 1 * 0 = (i 0).val % 2; omega
  | 1 => show 0 + 1 * (y 0).val = (y 0).val; omega
  | 2 => show 0 + 1 * (y 1).val = (y 1).val; omega

/-! ## Fetching -/

/-- A chunk's buffer holding chunk `n` of the tile's indices. -/
def Idxs (n : ℕ) : sProp 𝕄 :=
  iprop(∃ f, (ib.view.loc (tile d i) ↦{fullShare} f) ∗ ⌜∀ y, ib.view.read (Elt F) f y = chunkIdx (a2.view.read (Elt F) X) (i 1).val n y⌝)

/-- A fetch of chunk `n` under way. -/
def Fetch (q : PosShare TreeShare) (s : DmaSem sig) (n : ℕ) : sProp 𝕄 :=
  iprop(∃ I : Finset (Idx (a2.view.loc (tile d i))), (a2.view.loc (tile d i) ↦[Finset.univ \ I]{q} X)
    ∗ Flight countersEmb (tile d i) (.dma s) (none : HIx 2) ib.view.dmaCredit iprop(Idxs d i a2 ib X n ∗ a2.view.loc (tile d i) ↦[I]{q} X))

theorem fetch_start (hib : ib.IsWhole) {q : PosShare TreeShare} {s : DmaSem sig} {n : ℕ} (hn : n < 32) {off : Fin 3 → ℕ}
    (ho : off = ![(i 1).val, n, 0]) {inb : ∀ a, off a + S1x1x320.size a ≤ S16x32x320.size a}
    {hs : ∀ a, (Rect.unit (s := S16x32x320) off S1x1x320.size inb).stride a = 1} {sq : S1x1x320.Squeezes S320} {e1 e2 e3} {α : Type}
    {k : PUnit → TProg F i α} {Q : α → sProp 𝕄} :
    iprop((a2.view.loc (tile d i) ↦{q} X) ∗ (∃ f, ib.view.loc (tile d i) ↦{fullShare} f) ∗ semVal (tile d i, .dma s) 0)
      ⊢ iprop((Fetch d i a2 ib X q s n -∗ wp frame (wpE (defs₀ (F := F)) 𝒱₀ (tile d i) none) Set.univ (k ⟨⟩) Q)
        -∗ wp frame (wpE (defs₀ (F := F)) 𝒱₀ (tile d i) none) Set.univ (Prog.lift (.enqueueDma ((a2.slice (Rect.unit (s := S16x32x320) off S1x1x320.size inb) hs).squeeze S320 sq) (.here ib) (.dma s) e1 e2 e3) >>= k) Q) := by
  simp only [Prog.lift, Prog.bind_op, Prog.bind_ret]
  iintro ⟨HX, ⟨%f, Hib⟩, Hs⟩ Hk
  ihave ⟨HX1, HX2⟩ := (pointsTo_split_subset (Finset.subset_univ ((a2.slice (Rect.unit (s := S16x32x320) off S1x1x320.size inb) hs).squeeze S320 sq).view.set)).1 $$ HX
  iapply (wp_dmaLocal countersEmb 𝒱₀ (tile d i) none (src := ((a2.slice (Rect.unit (s := S16x32x320) off S1x1x320.size inb) hs).squeeze S320 sq)) (dst := ib) (sm := .dma s)
    (none : HIx 2) ib.view.dmaCredit rfl (View.dmaCredit_pos _ (by decide)) (Finset.subset_univ _)) $$ [HX1 Hib Hs]
  · isplitl [HX1]; · iexact HX1
    isplitl [Hib]; · iexact Hib
    iexact Hs
  iintro HF
  iapply Hk
  unfold Fetch
  iexists ((a2.slice (Rect.unit (s := S16x32x320) off S1x1x320.size inb) hs).squeeze S320 sq).view.set
  isplitl [HX2]; · iexact HX2
  iapply (Flight_mono countersEmb (tile d i) ?_) $$ HF
  unfold Idxs
  iintro ⟨Hib, HX⟩
  isplitl [Hib]
  · iexists _
    isplitl [Hib]; · iexact Hib
    ipureintro
    intro y
    rw [View.read_write_univ]
    exact congrArg (a2.view.read (Elt F) X) (idx_emb i n hn ho y)
  · iexact HX

theorem fetch_wait {q : PosShare TreeShare} {s : DmaSem sig} {n : ℕ} {spw : Space} {sw : Shape} {ew : EltTy} {srcw : Memref sig .scVector spw sw ew} {e1 e2} {α : Type}
    {O : CellTallies nD τ sig (HIx 2)} {W : Waits sig (HIx 2)} {k : PUnit → TProg F i α} {Q : α → sProp 𝕄} :
    iprop(Fetch d i a2 ib X q s n ∗ owes (tile d i) O W ∗ MayWaits (tile d i) none O)
      ⊢ iprop((iprop(Idxs d i a2 ib X n ∗ (a2.view.loc (tile d i) ↦{q} X) ∗ semVal (tile d i, .dma s) 0 ∗ owes (tile d i) O (insert (SemLoc.dma s, none) W))
          -∗ wp frame (wpE (defs₀ (F := F)) 𝒱₀ (tile d i) none) Set.univ (k ⟨⟩) Q)
        -∗ wp frame (wpE (defs₀ (F := F)) 𝒱₀ (tile d i) none) Set.univ (Prog.lift (.waitDma2 s srcw ib e1 e2) >>= k) Q) := by
  simp only [Prog.lift, Prog.bind_op, Prog.bind_ret]
  unfold Fetch
  iintro ⟨⟨%I, HX, HF⟩, HO, Hmw⟩ Hk
  ihave Hm := (MayWaits.elim (.dma s)) $$ Hmw
  iapply (wp_waitLocalO countersEmb 𝒱₀ (tile d i) none (none : HIx 2) rfl) $$ [HF HO Hm]
  · isplitl [HF]; · iexact HF
    isplitl [HO]; · iexact HO
    iexact Hm
  iintro ⟨⟨HI, HX2⟩, Hs, HO⟩
  iapply Hk
  isplitl [HI]; · iexact HI
  isplitl [HX HX2]
  · iapply (pointsTo_split_subset (Finset.subset_univ I)).2
    isplitl [HX2] <;> iassumption
  isplitl [Hs] <;> iassumption

/-- The half table fetched. -/
def Tab : sProp 𝕄 :=
  iprop(∃ f, (tb.view.loc (tile d i) ↦{fullShare} f) ∗ ⌜∀ y, tb.view.read (Elt F) f y = half (a3.view.read (Elt F) Y) (i 0).val y⌝)

/-- Its fetch under way. -/
def TabFetch (q : PosShare TreeShare) (s : DmaSem sig) : sProp 𝕄 :=
  iprop(∃ I : Finset (Idx (a3.view.loc (tile d i))), (a3.view.loc (tile d i) ↦[Finset.univ \ I]{q} Y)
    ∗ Flight countersEmb (tile d i) (.dma s) (none : HIx 2) tb.view.dmaCredit iprop(Tab d i a3 tb Y ∗ a3.view.loc (tile d i) ↦[I]{q} Y))

theorem tab_start {q : PosShare TreeShare} {s : DmaSem sig} {off : Fin 3 → ℕ}
    (ho : off = ![(i 0).val, 0, 0]) {inb : ∀ a, off a + S1x1000x64.size a ≤ S2x1000x64.size a}
    {hs : ∀ a, (Rect.unit (s := S2x1000x64) off S1x1000x64.size inb).stride a = 1} {sq : S1x1000x64.Squeezes S1000x64} {e1 e2 e3} {α : Type}
    {k : PUnit → TProg F i α} {Q : α → sProp 𝕄} :
    iprop((a3.view.loc (tile d i) ↦{q} Y) ∗ (∃ f, tb.view.loc (tile d i) ↦{fullShare} f) ∗ semVal (tile d i, .dma s) 0)
      ⊢ iprop((TabFetch d i a3 tb Y q s -∗ wp frame (wpE (defs₀ (F := F)) 𝒱₀ (tile d i) none) Set.univ (k ⟨⟩) Q)
        -∗ wp frame (wpE (defs₀ (F := F)) 𝒱₀ (tile d i) none) Set.univ (Prog.lift (.enqueueDma ((a3.slice (Rect.unit (s := S2x1000x64) off S1x1000x64.size inb) hs).squeeze S1000x64 sq) (.here tb) (.dma s) e1 e2 e3) >>= k) Q) := by
  simp only [Prog.lift, Prog.bind_op, Prog.bind_ret]
  iintro ⟨HX, ⟨%f, Hib⟩, Hs⟩ Hk
  ihave ⟨HX1, HX2⟩ := (pointsTo_split_subset (Finset.subset_univ ((a3.slice (Rect.unit (s := S2x1000x64) off S1x1000x64.size inb) hs).squeeze S1000x64 sq).view.set)).1 $$ HX
  iapply (wp_dmaLocal countersEmb 𝒱₀ (tile d i) none (src := ((a3.slice (Rect.unit (s := S2x1000x64) off S1x1000x64.size inb) hs).squeeze S1000x64 sq)) (dst := tb) (sm := .dma s)
    (none : HIx 2) tb.view.dmaCredit rfl (View.dmaCredit_pos _ (by decide)) (Finset.subset_univ _)) $$ [HX1 Hib Hs]
  · isplitl [HX1]; · iexact HX1
    isplitl [Hib]; · iexact Hib
    iexact Hs
  iintro HF
  iapply Hk
  unfold TabFetch
  iexists ((a3.slice (Rect.unit (s := S2x1000x64) off S1x1000x64.size inb) hs).squeeze S1000x64 sq).view.set
  isplitl [HX2]; · iexact HX2
  iapply (Flight_mono countersEmb (tile d i) ?_) $$ HF
  unfold Tab
  iintro ⟨Hib, HX⟩
  isplitl [Hib]
  · iexists _
    isplitl [Hib]; · iexact Hib
    ipureintro
    intro y
    rw [View.read_write_univ]
    exact congrArg (a3.view.read (Elt F) Y) (tab_emb i ho y)
  · iexact HX

theorem tab_wait {q : PosShare TreeShare} {s : DmaSem sig} {spw : Space} {sw : Shape} {ew : EltTy} {srcw : Memref sig .scVector spw sw ew} {e1 e2} {α : Type}
    {O : CellTallies nD τ sig (HIx 2)} {W : Waits sig (HIx 2)} {k : PUnit → TProg F i α} {Q : α → sProp 𝕄} :
    iprop(TabFetch d i a3 tb Y q s ∗ owes (tile d i) O W ∗ MayWaits (tile d i) none O)
      ⊢ iprop((iprop(Tab d i a3 tb Y ∗ (a3.view.loc (tile d i) ↦{q} Y) ∗ semVal (tile d i, .dma s) 0 ∗ owes (tile d i) O (insert (SemLoc.dma s, none) W))
          -∗ wp frame (wpE (defs₀ (F := F)) 𝒱₀ (tile d i) none) Set.univ (k ⟨⟩) Q)
        -∗ wp frame (wpE (defs₀ (F := F)) 𝒱₀ (tile d i) none) Set.univ (Prog.lift (.waitDma2 s srcw tb e1 e2) >>= k) Q) := by
  simp only [Prog.lift, Prog.bind_op, Prog.bind_ret]
  unfold TabFetch
  iintro ⟨⟨%I, HX, HF⟩, HO, Hmw⟩ Hk
  ihave Hm := (MayWaits.elim (.dma s)) $$ Hmw
  iapply (wp_waitLocalO countersEmb 𝒱₀ (tile d i) none (none : HIx 2) rfl) $$ [HF HO Hm]
  · isplitl [HF]; · iexact HF
    isplitl [HO]; · iexact HO
    iexact Hm
  iintro ⟨⟨HI, HX2⟩, Hs, HO⟩
  iapply Hk
  isplitl [HI]; · iexact HI
  isplitl [HX HX2]
  · iapply (pointsTo_split_subset (Finset.subset_univ I)).2
    isplitl [HX2] <;> iassumption
  isplitl [Hs] <;> iassumption

/-! ## Sending a chunk's result -/

/-- The bytes of one chunk's result. -/
abbrev outCredit : ℕ := ((a4.slice (Rect.unit (s := S2x524288) (fun _ => 0) S1x1024.size (by decide)) (fun _ => rfl)).squeeze S1024 squeezes_S1x1024_S1024).view.dmaCredit

/-- Chunk `n`'s result under way. -/
def Send (s : DmaSem sig) (n : ℕ) : sProp 𝕄 :=
  Flight countersEmb (tile d i) (.dma s) (none : HIx 2) (outCredit a4)
    iprop((a4.view.loc (tile d i) ↦[outSet d i a4 n]{fullShare} G) ∗ ∃ f, ob.view.loc (tile d i) ↦{fullShare} f)

theorem send_start (hob : ob.IsWhole) {s : DmaSem sig} {n : ℕ} (hn : n < 32) {off : Fin 2 → ℕ} (ho : off = outOff i n)
    {inb : ∀ a, off a + S1x1024.size a ≤ S2x524288.size a}
    {hs : ∀ a, (Rect.unit (s := S2x524288) off S1x1024.size inb).stride a = 1} {sq : S1x1024.Squeezes S1024} {e1 e2 e3} {α : Type}
    {f : Buf (Elt F) (ob.view.loc (tile d i))} {X' : S16x32x320.Idx → BitVec 32} {Y' : S2x1000x64.Idx → F .f32}
    (hf : ∀ y, ob.view.read (Elt F) f y = pooled (half Y' (i 0).val) (chunkIdx X' (i 1).val n) (y 0).val)
    (hG : ∀ x, a4.view.read (Elt F) G x = goal X' Y' x)
    {k : PUnit → TProg F i α} {Q : α → sProp 𝕄} :
    iprop((ob.view.loc (tile d i) ↦{fullShare} f) ∗ (a4.view.loc (tile d i) ↦[outSet d i a4 n]{fullShare} f0) ∗ semVal (tile d i, .dma s) 0)
      ⊢ iprop((Send d i a4 ob G s n -∗ wp frame (wpE (defs₀ (F := F)) 𝒱₀ (tile d i) none) Set.univ (k ⟨⟩) Q)
        -∗ wp frame (wpE (defs₀ (F := F)) 𝒱₀ (tile d i) none) Set.univ (Prog.lift (.enqueueDma ob (.here ((a4.slice (Rect.unit (s := S2x524288) off S1x1024.size inb) hs).squeeze S1024 sq)) (.dma s) e1 e2 e3) >>= k) Q) := by
  simp only [Prog.lift, Prog.bind_op, Prog.bind_ret]
  have hset := slice_set d i a4 n ho (inb := inb) (hs := hs) (sq := sq)
  have hD : (iprop((a4.view.loc (tile d i) ↦[outSet d i a4 n]{fullShare} (((a4.slice (Rect.unit (s := S2x524288) off S1x1024.size inb) hs).squeeze S1024 sq).view.write (Elt F) f0 (ob.view.read (Elt F) f) Finset.univ))
      ∗ (ob.view.loc (tile d i) ↦[ob.view.set]{fullShare} f)) : sProp 𝕄)
      ⊢ iprop((a4.view.loc (tile d i) ↦[outSet d i a4 n]{fullShare} G) ∗ ∃ f, ob.view.loc (tile d i) ↦{fullShare} f) := by
    rw [hob.set_eq_univ]
    iintro ⟨Ha, Hb⟩
    isplitl [Ha]
    · iapply (Entails.of_eq (pointsTo_congr ?_)) $$ Ha
      intro j hj
      rw [← hset] at hj
      obtain ⟨y, -, rfl⟩ := Finset.mem_map.mp hj
      have h1 := congrFun (View.read_write_univ (v := ((a4.slice (Rect.unit (s := S2x524288) off S1x1024.size inb) hs).squeeze S1024 sq).view) f0 (ob.view.read (Elt F) f)) y
      have h2 : ((a4.slice (Rect.unit (s := S2x524288) off S1x1024.size inb) hs).squeeze S1024 sq).view.read (Elt F) G y = ob.view.read (Elt F) f y := by
        have hy : (y 0).val < 1024 := (y 0).isLt
        have hc := core_lt i
        have hb := sub_lt i
        have hx := slice_emb i n ho (inb := inb) (sq := sq.numel_eq) y
          (ix2 ⟨(i 0).val, hc⟩ ⟨((i 1).val * 32 + n) * 1024 + (y 0).val, by omega⟩) rfl rfl
        refine (congrArg (a4.view.read (Elt F) G) hx).trans ?_
        rw [hG, hf]
        unfold goal
        simp only [ix2_0, ix2_1]
        have q1 : (((i 1).val * 32 + n) * 1024 + (y 0).val) / 32768 = (i 1).val := by omega
        have q2 : (((i 1).val * 32 + n) * 1024 + (y 0).val) % 1024 = (y 0).val := by omega
        have q3 : (((i 1).val * 32 + n) * 1024 + (y 0).val) / 1024 = (i 1).val * 32 + n := by omega
        rw [q1, q2, q3]
        congr 1
        unfold chunkIdx
        have q4 : ((i 1).val * 32 + n) % 32 = n % 32 := by omega
        funext z
        congr 2
        exact Fin.ext q4
      have h3 := h1.trans h2.symm
      rw [View.read_apply, View.read_apply] at h3
      exact (cast_inj _).mp h3
    · iexists f; iexact Hb
  iintro ⟨Hob, Ha, Hs⟩ Hk
  iapply (wp_dmaLocal countersEmb 𝒱₀ (tile d i) none (src := ob) (dst := ((a4.slice (Rect.unit (s := S2x524288) off S1x1024.size inb) hs).squeeze S1024 sq)) (sm := .dma s)
    (Sd := outSet d i a4 n) (none : HIx 2) (outCredit a4) rfl (View.dmaCredit_pos _ (by decide)) (by rw [hset])) $$ [Hob Ha Hs]
  · isplitl [Hob]; · rw [hob.set_eq_univ]; iexact Hob
    isplitl [Ha]; · iexact Ha
    iexact Hs
  iintro HF
  iapply Hk
  unfold Send
  iapply (Flight_mono countersEmb (tile d i) hD) $$ HF

theorem send_wait {s : DmaSem sig} {n : ℕ} {off : Fin 2 → ℕ} {inb : ∀ a, off a + S1x1024.size a ≤ S2x524288.size a}
    {hs : ∀ a, (Rect.unit (s := S2x524288) off S1x1024.size inb).stride a = 1} {sq : S1x1024.Squeezes S1024}
    {spw : Space} {sw : Shape} {ew : EltTy} {srcw : Memref sig .scVector spw sw ew} {e1 e2} {α : Type}
    {O : CellTallies nD τ sig (HIx 2)} {W : Waits sig (HIx 2)} {k : PUnit → TProg F i α} {Q : α → sProp 𝕄} :
    iprop(Send d i a4 ob G s n ∗ owes (tile d i) O W ∗ MayWaits (tile d i) none O)
      ⊢ iprop((iprop((a4.view.loc (tile d i) ↦[outSet d i a4 n]{fullShare} G) ∗ (∃ f, ob.view.loc (tile d i) ↦{fullShare} f) ∗ semVal (tile d i, .dma s) 0 ∗ owes (tile d i) O (insert (SemLoc.dma s, none) W))
          -∗ wp frame (wpE (defs₀ (F := F)) 𝒱₀ (tile d i) none) Set.univ (k ⟨⟩) Q)
        -∗ wp frame (wpE (defs₀ (F := F)) 𝒱₀ (tile d i) none) Set.univ (Prog.lift (.waitDma2 s srcw ((a4.slice (Rect.unit (s := S2x524288) off S1x1024.size inb) hs).squeeze S1024 sq) e1 e2) >>= k) Q) := by
  simp only [Prog.lift, Prog.bind_op, Prog.bind_ret]
  unfold Send
  iintro ⟨HF, HO, Hmw⟩ Hk
  ihave Hm := (MayWaits.elim (.dma s)) $$ Hmw
  iapply (wp_waitLocalO countersEmb 𝒱₀ (tile d i) none (none : HIx 2) rfl) $$ [HF HO Hm]
  · isplitl [HF]; · iexact HF
    isplitl [HO]; · iexact HO
    iexact Hm
  iintro ⟨⟨Ha, Hb⟩, Hs, HO⟩
  iapply Hk
  isplitl [Ha]; · iexact Ha
  isplitl [Hb]; · iexact Hb
  isplitl [Hs] <;> iassumption

end

end Cert.Proof
-- ==== Proof.Quads.lean ====
/-
  The inner loop's body, stepped through.
-/
module

public import proofs.«01_k».proof.Proof.Quad

@[expose] public section

noncomputable section

namespace Cert.Proof

open Cert.KernelIdeal Cert.KernelIdeal.Gen

open Idealize.ShloMosaic
open Idealize.ShloMosaic.SparseCore (S V T)
open Idealize.SL.Sem

variable {F : FTy → Type} [FloatOps F] [Named F]

section
variable (d : Dev nD) (i : grid0.Coords)
variable (arg2 : Memref sig .scVector .hbm S16x32x320 .i32) (harg2 : arg2.IsWhole) (arg3 : Memref sig .scVector .hbm S2x1000x64 .f32) (harg3 : arg3.IsWhole)
variable (arg4 : Memref sig .scVector .hbm S2x524288 .f32) (harg4 : arg4.IsWhole)
variable (tb : Memref sig .scVector .vmem S1000x64 .f32) (htb : tb.IsWhole) (ib : Memref sig .scVector .vmem S320 .i32) (hib : ib.IsWhole)
variable (arg7 : Memref sig .scVector .vmem S320 .i32) (harg7 : arg7.IsWhole) (ob : Memref sig .scVector .vmem S1024 .f32) (hob : ob.IsWhole)
variable (arg9 : Memref sig .scVector .vmem S1024 .f32) (harg9 : arg9.IsWhole) (arg10 arg11 arg12 arg13 arg14 : DmaSems sig S_)
variable (T : Buf (Elt F) (tb.view.loc (tile d i))) (I : Buf (Elt F) (ib.view.loc (tile d i))) (f : Buf (Elt F) (ob.view.loc (tile d i)))

set_option maxRecDepth 65536 in
set_option maxHeartbeats 40000000 in
theorem quad_steps (hI : Rows d i ib I) (v28 c0 c1 : BitVec 32) (t1 : Fin k0_t1_loop.trips) (q : Fin k0_t2_loop.trips) (L : List (View.Piece (Elt F) S1024 .f32)) :
    Steps d i tb ib ob T I f (k0_t2_body i arg2 harg2 arg3 harg3 arg4 harg4 tb htb ib hib arg7 harg7 ob hob arg9 harg9 arg10 arg11 arg12 arg13 arg14 v28 c0 c1 t1 q ⟨⟩) L ⟨⟩ (pieces d i tb ib T I q hI ++ L) := by
  have key : ∃ L', Steps d i tb ib ob T I f (k0_t2_body i arg2 harg2 arg3 harg3 arg4 harg4 tb htb ib hib arg7 harg7 ob hob arg9 harg9 arg10 arg11 arg12 arg13 arg14 v28 c0 c1 t1 q ⟨⟩) L ⟨⟩ L' ∧ L' = pieces d i tb ib T I q hI ++ L := by
    apply Exists.intro
    apply And.intro
    · unfold k0_t2_body
      apply Steps.bind
      · rw [k0_part36_eq_skeleton]; unfold k0_part36_skel
        apply Steps.bind
        · rw [k0_part1_eq_skeleton]; unfold k0_part1_skel
          apply Steps.loadI
          apply Steps.loadI
          apply Steps.loadI
          apply Steps.loadI
          apply Steps.loadI
          apply Steps.assume (row_inb (hI _) (by decide))
          apply Steps.loadT
          apply Steps.assume (row_inb (hI _) (by decide))
          apply Steps.loadT
          apply Steps.assume (row_inb (hI _) (by decide))
          apply Steps.loadT
          exact Steps.ret
        apply Steps.bind
        · rw [k0_part2_eq_skeleton]; unfold k0_part2_skel
          apply Steps.assume (row_inb (hI _) (by decide))
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part3_eq_skeleton]; unfold k0_part3_skel
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part4_eq_skeleton]; unfold k0_part4_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          exact Steps.ret
        apply Steps.bind
        · rw [k0_part5_eq_skeleton]; unfold k0_part5_skel
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          exact Steps.ret
        apply Steps.bind
        · rw [k0_part6_eq_skeleton]; unfold k0_part6_skel
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part7_eq_skeleton]; unfold k0_part7_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part8_eq_skeleton]; unfold k0_part8_skel
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          exact Steps.ret
        apply Steps.bind
        · rw [k0_part9_eq_skeleton]; unfold k0_part9_skel
          apply Steps.assume (rows_inb (hI _))
          apply Steps.loadT
          apply Steps.loadT
          apply Steps.loadT
          apply Steps.loadT
          apply Steps.loadO
          apply Steps.store
          apply Steps.loadO
          apply Steps.store
          exact Steps.ret
        apply Steps.bind
        · rw [k0_part10_eq_skeleton]; unfold k0_part10_skel
          apply Steps.loadO
          apply Steps.store
          apply Steps.loadO
          apply Steps.store
          apply Steps.assume (row_inb (hI _) (by decide))
          apply Steps.loadT
          apply Steps.assume (row_inb (hI _) (by decide))
          apply Steps.loadT
          apply Steps.assume (row_inb (hI _) (by decide))
          apply Steps.loadT
          apply Steps.assume (row_inb (hI _) (by decide))
          apply Steps.loadT
          apply Steps.assume (rows_inb (hI _))
          exact Steps.ret
        apply Steps.bind
        · rw [k0_part11_eq_skeleton]; unfold k0_part11_skel
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part12_eq_skeleton]; unfold k0_part12_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part13_eq_skeleton]; unfold k0_part13_skel
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          exact Steps.ret
        apply Steps.bind
        · rw [k0_part14_eq_skeleton]; unfold k0_part14_skel
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          exact Steps.ret
        apply Steps.bind
        · rw [k0_part15_eq_skeleton]; unfold k0_part15_skel
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          exact Steps.ret
        apply Steps.bind
        · rw [k0_part16_eq_skeleton]; unfold k0_part16_skel
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part17_eq_skeleton]; unfold k0_part17_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part18_eq_skeleton]; unfold k0_part18_skel
          apply Steps.loadT
          apply Steps.loadT
          apply Steps.loadT
          apply Steps.loadO
          apply Steps.store
          apply Steps.loadO
          apply Steps.store
          apply Steps.loadO
          exact Steps.ret
        apply Steps.bind
        · rw [k0_part19_eq_skeleton]; unfold k0_part19_skel
          apply Steps.store
          apply Steps.loadO
          apply Steps.store
          apply Steps.assume (row_inb (hI _) (by decide))
          apply Steps.loadT
          apply Steps.assume (row_inb (hI _) (by decide))
          apply Steps.loadT
          apply Steps.assume (row_inb (hI _) (by decide))
          apply Steps.loadT
          apply Steps.assume (row_inb (hI _) (by decide))
          apply Steps.loadT
          apply Steps.assume (rows_inb (hI _))
          apply Steps.loadT
          apply Steps.loadT
          exact Steps.ret
        apply Steps.bind
        · rw [k0_part20_eq_skeleton]; unfold k0_part20_skel
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          exact Steps.ret
        apply Steps.bind
        · rw [k0_part21_eq_skeleton]; unfold k0_part21_skel
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part22_eq_skeleton]; unfold k0_part22_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part23_eq_skeleton]; unfold k0_part23_skel
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          exact Steps.ret
        apply Steps.bind
        · rw [k0_part24_eq_skeleton]; unfold k0_part24_skel
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          exact Steps.ret
        apply Steps.bind
        · rw [k0_part25_eq_skeleton]; unfold k0_part25_skel
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part26_eq_skeleton]; unfold k0_part26_skel
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part27_eq_skeleton]; unfold k0_part27_skel
          apply Steps.loadT
          apply Steps.loadO
          apply Steps.store
          apply Steps.loadO
          apply Steps.store
          apply Steps.loadO
          apply Steps.store
          exact Steps.ret
        apply Steps.bind
        · rw [k0_part28_eq_skeleton]; unfold k0_part28_skel
          apply Steps.loadO
          apply Steps.store
          apply Steps.assume (row_inb (hI _) (by decide))
          apply Steps.loadT
          apply Steps.assume (row_inb (hI _) (by decide))
          apply Steps.loadT
          apply Steps.assume (row_inb (hI _) (by decide))
          apply Steps.loadT
          apply Steps.assume (row_inb (hI _) (by decide))
          apply Steps.loadT
          apply Steps.assume (rows_inb (hI _))
          apply Steps.loadT
          apply Steps.loadT
          apply Steps.loadT
          apply Steps.loadT
          exact Steps.ret
        apply Steps.bind
        · rw [k0_part29_eq_skeleton]; unfold k0_part29_skel
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part30_eq_skeleton]; unfold k0_part30_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          exact Steps.ret
        apply Steps.bind
        · rw [k0_part31_eq_skeleton]; unfold k0_part31_skel
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          exact Steps.ret
        apply Steps.bind
        · rw [k0_part32_eq_skeleton]; unfold k0_part32_skel
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          exact Steps.ret
        apply Steps.bind
        · rw [k0_part33_eq_skeleton]; unfold k0_part33_skel
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          exact Steps.ret
        apply Steps.bind
        · rw [k0_part34_eq_skeleton]; unfold k0_part34_skel
          apply Steps.loadT
          apply Steps.loadT
          apply Steps.loadT
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          exact Steps.ret
        apply Steps.bind
        · rw [k0_part35_eq_skeleton]; unfold k0_part35_skel
          apply Steps.loadT
          apply Steps.assume (rows_inb (hI _))
          apply Steps.loadT
          apply Steps.loadT
          apply Steps.loadT
          apply Steps.loadT
          apply Steps.assume (rows_inb (hI _))
          apply Steps.loadT
          apply Steps.loadT
          apply Steps.loadT
          apply Steps.loadT
          exact Steps.ret
        apply Steps.loadO
        apply Steps.store
        apply Steps.loadO
        apply Steps.store
        exact Steps.ret
      apply Steps.loadO
      apply Steps.store
      apply Steps.loadO
      apply Steps.store
      exact Steps.ret
    · rfl
  obtain ⟨L', h, rfl⟩ := key
  exact h

end

end Cert.Proof
-- ==== Proof.Tile.lean ====
/-
  A tile's body: the half table fetched, then sixteen trips of two chunks each, the indices of the next
  chunk fetched and the last results sent while a chunk is pooled.
-/
module

public import proofs.«01_k».proof.Proof.Chunk
public import Idealize.ShloMosaic.Lib.SparseCore.ProtocolKit
public import proofs.«01_k».proof.Proof.Quads

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F] [Named F]

local notation "𝕄" => RES F

section
variable (d : Dev nD) (i : grid0.Coords)
variable (arg2 : Memref sig .scVector .hbm S16x32x320 .i32) (harg2 : arg2.IsWhole) (arg3 : Memref sig .scVector .hbm S2x1000x64 .f32) (harg3 : arg3.IsWhole)
variable (arg4 : Memref sig .scVector .hbm S2x524288 .f32) (harg4 : arg4.IsWhole)
variable (tb : Memref sig .scVector .vmem S1000x64 .f32) (htb : tb.IsWhole) (ib : Memref sig .scVector .vmem S320 .i32) (hib : ib.IsWhole)
variable (ib2 : Memref sig .scVector .vmem S320 .i32) (hib2 : ib2.IsWhole) (ob : Memref sig .scVector .vmem S1024 .f32) (hob : ob.IsWhole)
variable (ob2 : Memref sig .scVector .vmem S1024 .f32) (hob2 : ob2.IsWhole) (arg10 arg11 arg12 arg13 arg14 : DmaSems sig S_)
variable (X : Buf (Elt F) (arg2.view.loc (tile d i))) (Y : Buf (Elt F) (arg3.view.loc (tile d i)))
variable (f0 G : Buf (Elt F) (arg4.view.loc (tile d i)))

/-! ## What a tile owes -/

/-- The debts a tile holds, whatever it has waited for of its own copies. -/
def Owed (O : CellTallies nD τ sig (HIx 2)) (W : Waits sig (HIx 2)) : sProp 𝕄 :=
  iprop(∃ W', ⌜∀ p ∈ W', p ∈ W ∨ p.2 = none⌝ ∗ owes (tile d i) O W')

theorem Owed.intro {O : CellTallies nD τ sig (HIx 2)} {W W' : Waits sig (HIx 2)} (h : ∀ p ∈ W', p ∈ W ∨ p.2 = none) (s : SemLoc sig) :
    (owes (tile d i) O (insert (s, none) W') : sProp 𝕄) ⊢ iprop(∃ W', ⌜∀ p ∈ W', p ∈ W ∨ p.2 = none⌝ ∗ owes (tile d i) O W') := by
  iintro H
  iexists _
  isplitr
  rotate_left
  · iexact H
  ipureintro
  intro p hp
  rcases Finset.mem_insert.mp hp with rfl | hp
  · exact Or.inr rfl
  · exact h p hp

/-- A fetch awaited. -/
theorem fetched {q : PosShare TreeShare} {s : DmaSem sig} {n : ℕ} {spw : Space} {sw : Shape} {ew : EltTy} {srcw : Memref sig .scVector spw sw ew} {e1 e2} {α : Type}
    {O : CellTallies nD τ sig (HIx 2)} {W : Waits sig (HIx 2)} {k : PUnit → TProg F i α} {Q : α → sProp 𝕄} :
    iprop(Fetch d i arg2 ib X q s n ∗ Owed d i O W ∗ MayWaits (tile d i) none O)
      ⊢ iprop((iprop(Idxs d i arg2 ib X n ∗ (arg2.view.loc (tile d i) ↦{q} X) ∗ semVal (tile d i, .dma s) 0 ∗ Owed d i O W)
          -∗ wp frame (wpE (defs₀ (F := F)) 𝒱₀ (tile d i) none) Set.univ (k ⟨⟩) Q)
        -∗ wp frame (wpE (defs₀ (F := F)) 𝒱₀ (tile d i) none) Set.univ (Prog.lift (.waitDma2 s srcw ib e1 e2) >>= k) Q) := by
  iintro ⟨HF, HO, Hmw⟩ Hk
  unfold Owed
  icases HO with ⟨%W', %hW', HO⟩
  iapply (fetch_wait d i arg2 ib X) $$ [HF HO Hmw]
  · isplitl [HF]; · iexact HF
    isplitl [HO] <;> iassumption
  iintro ⟨H1, H2, H3, HO⟩
  iapply Hk
  isplitl [H1]; · iexact H1
  isplitl [H2]; · iexact H2
  isplitl [H3]; · iexact H3
  iapply (Owed.intro d i hW' _) $$ HO

/-- The half table's fetch awaited. -/
theorem tab_fetched {q : PosShare TreeShare} {s : DmaSem sig} {spw : Space} {sw : Shape} {ew : EltTy} {srcw : Memref sig .scVector spw sw ew} {e1 e2} {α : Type}
    {O : CellTallies nD τ sig (HIx 2)} {W : Waits sig (HIx 2)} {k : PUnit → TProg F i α} {Q : α → sProp 𝕄} :
    iprop(TabFetch d i arg3 tb Y q s ∗ Owed d i O W ∗ MayWaits (tile d i) none O)
      ⊢ iprop((iprop(Tab d i arg3 tb Y ∗ (arg3.view.loc (tile d i) ↦{q} Y) ∗ semVal (tile d i, .dma s) 0 ∗ Owed d i O W)
          -∗ wp frame (wpE (defs₀ (F := F)) 𝒱₀ (tile d i) none) Set.univ (k ⟨⟩) Q)
        -∗ wp frame (wpE (defs₀ (F := F)) 𝒱₀ (tile d i) none) Set.univ (Prog.lift (.waitDma2 s srcw tb e1 e2) >>= k) Q) := by
  iintro ⟨HF, HO, Hmw⟩ Hk
  unfold Owed
  icases HO with ⟨%W', %hW', HO⟩
  iapply (tab_wait d i arg3 tb Y) $$ [HF HO Hmw]
  · isplitl [HF]; · iexact HF
    isplitl [HO] <;> iassumption
  iintro ⟨H1, H2, H3, HO⟩
  iapply Hk
  isplitl [H1]; · iexact H1
  isplitl [H2]; · iexact H2
  isplitl [H3]; · iexact H3
  iapply (Owed.intro d i hW' _) $$ HO

/-- A result sent and awaited. -/
theorem sent {s : DmaSem sig} {n : ℕ} {off : Fin 2 → ℕ} {inb : ∀ a, off a + S1x1024.size a ≤ S2x524288.size a}
    {hs : ∀ a, (Rect.unit (s := S2x524288) off S1x1024.size inb).stride a = 1} {sq : S1x1024.Squeezes S1024}
    {spw : Space} {sw : Shape} {ew : EltTy} {srcw : Memref sig .scVector spw sw ew} {e1 e2} {α : Type}
    {O : CellTallies nD τ sig (HIx 2)} {W : Waits sig (HIx 2)} {k : PUnit → TProg F i α} {Q : α → sProp 𝕄} :
    iprop(Send d i arg4 ob G s n ∗ Owed d i O W ∗ MayWaits (tile d i) none O)
      ⊢ iprop((iprop((arg4.view.loc (tile d i) ↦[outSet d i arg4 n]{fullShare} G) ∗ (∃ f, ob.view.loc (tile d i) ↦{fullShare} f) ∗ semVal (tile d i, .dma s) 0 ∗ Owed d i O W)
          -∗ wp frame (wpE (defs₀ (F := F)) 𝒱₀ (tile d i) none) Set.univ (k ⟨⟩) Q)
        -∗ wp frame (wpE (defs₀ (F := F)) 𝒱₀ (tile d i) none) Set.univ (Prog.lift (.waitDma2 s srcw ((arg4.slice (Rect.unit (s := S2x524288) off S1x1024.size inb) hs).squeeze S1024 sq) e1 e2) >>= k) Q) := by
  iintro ⟨HF, HO, Hmw⟩ Hk
  unfold Owed
  icases HO with ⟨%W', %hW', HO⟩
  iapply (send_wait d i arg4 ob G) $$ [HF HO Hmw]
  · isplitl [HF]; · iexact HF
    isplitl [HO] <;> iassumption
  iintro ⟨H1, H2, H3, HO⟩
  iapply Hk
  isplitl [H1]; · iexact H1
  isplitl [H2]; · iexact H2
  isplitl [H3]; · iexact H3
  iapply (Owed.intro d i hW' _) $$ HO

/-! ## The steps a condition guards -/

/-- A result buffer before trip `t`: free at the first, else its last result under way. -/
def Sending (s : DmaSem sig) (t n : ℕ) : sProp 𝕄 :=
  if 1 ≤ t then Send d i arg4 ob G s n else iprop((∃ f, ob.view.loc (tile d i) ↦{fullShare} f) ∗ semVal (tile d i, .dma s) 0)

/-- The places a guarded wait brings back. -/
def Back (t n : ℕ) : sProp 𝕄 := if 1 ≤ t then iprop(arg4.view.loc (tile d i) ↦[outSet d i arg4 n]{fullShare} G) else iprop(emp)

theorem sent_if {s : DmaSem sig} {t n : ℕ} {c : BitVec 1} (hc : c = 1#1 ↔ 1 ≤ t) {off : Fin 2 → ℕ} {inb : c = 1#1 → ∀ a, off a + S1x1024.size a ≤ S2x524288.size a}
    {hs : ∀ h : c = 1#1, ∀ a, (Rect.unit (s := S2x524288) off S1x1024.size (inb h)).stride a = 1} {sq : S1x1024.Squeezes S1024}
    {spw : Space} {sw : Shape} {ew : EltTy} {srcw : Memref sig .scVector spw sw ew} {e1} {e2 : ∀ h : c = 1#1, ((arg4.slice (Rect.unit (s := S2x524288) off S1x1024.size (inb h)) (hs h)).squeeze S1024 sq).view.WordExact} {α : Type}
    {O : CellTallies nD τ sig (HIx 2)} {W : Waits sig (HIx 2)} {k : TProg F i α} {Q : α → sProp 𝕄} :
    iprop(Sending d i arg4 ob G s t n ∗ Owed d i O W ∗ MayWaits (tile d i) none O)
      ⊢ iprop((iprop(Back d i arg4 G t n ∗ (∃ f, ob.view.loc (tile d i) ↦{fullShare} f) ∗ semVal (tile d i, .dma s) 0 ∗ Owed d i O W)
          -∗ wp frame (wpE (defs₀ (F := F)) 𝒱₀ (tile d i) none) Set.univ k Q)
        -∗ wp frame (wpE (defs₀ (F := F)) 𝒱₀ (tile d i) none) Set.univ
          (if h : c = 1#1 then Prog.lift (.waitDma2 s srcw ((arg4.slice (Rect.unit (s := S2x524288) off S1x1024.size (inb h)) (hs h)).squeeze S1024 sq) e1 (e2 h)) >>= fun _ => k else k) Q) := by
  unfold Sending Back
  by_cases h : c = 1#1
  · rw [dif_pos h, if_pos (hc.mp h), if_pos (hc.mp h)]
    exact sent d i arg4 ob G (k := fun _ => k)
  · rw [dif_neg h, if_neg (mt hc.mpr h), if_neg (mt hc.mpr h)]
    iintro ⟨⟨H1, H2⟩, HO, -⟩ Hk
    iapply Hk
    isplitr; · iempintro
    isplitl [H1]; · iexact H1
    isplitl [H2] <;> iassumption

/-- The first index buffer before trip `t`: its fetch under way, or free after the last. -/
def Fetching (q : PosShare TreeShare) (s : DmaSem sig) (t n : ℕ) : sProp 𝕄 :=
  if t < 16 then Fetch d i arg2 ib X q s n
  else iprop((arg2.view.loc (tile d i) ↦{q} X) ∗ (∃ f, ib.view.loc (tile d i) ↦{fullShare} f) ∗ semVal (tile d i, .dma s) 0)

theorem fetch_if (hib : ib.IsWhole) {q : PosShare TreeShare} {s : DmaSem sig} {t n : ℕ} {c : BitVec 1} (hc : c = 1#1 ↔ t < 16) (hn : t < 16 → n < 32) {off : Fin 3 → ℕ}
    (ho : off = ![(i 1).val, n, 0]) {inb : c = 1#1 → ∀ a, off a + S1x1x320.size a ≤ S16x32x320.size a}
    {hs : ∀ h : c = 1#1, ∀ a, (Rect.unit (s := S16x32x320) off S1x1x320.size (inb h)).stride a = 1} {sq : S1x1x320.Squeezes S320}
    {e1 : ∀ h : c = 1#1, ((arg2.slice (Rect.unit (s := S16x32x320) off S1x1x320.size (inb h)) (hs h)).squeeze S320 sq).view.WordExact} {e2} {e3} {α : Type}
    {k : TProg F i α} {Q : α → sProp 𝕄} :
    iprop((arg2.view.loc (tile d i) ↦{q} X) ∗ (∃ f, ib.view.loc (tile d i) ↦{fullShare} f) ∗ semVal (tile d i, .dma s) 0)
      ⊢ iprop((Fetching d i arg2 ib X q s t n -∗ wp frame (wpE (defs₀ (F := F)) 𝒱₀ (tile d i) none) Set.univ k Q)
        -∗ wp frame (wpE (defs₀ (F := F)) 𝒱₀ (tile d i) none) Set.univ
          (if h : c = 1#1 then Prog.lift (.enqueueDma ((arg2.slice (Rect.unit (s := S16x32x320) off S1x1x320.size (inb h)) (hs h)).squeeze S320 sq) (.here ib) (.dma s) (e1 h) e2 e3) >>= fun _ => k else k) Q) := by
  unfold Fetching
  by_cases h : c = 1#1
  · rw [dif_pos h, if_pos (hc.mp h)]
    exact fetch_start d i arg2 ib X hib (k := fun _ => k) (hn (hc.mp h)) ho
  · rw [dif_neg h, if_neg (mt hc.mpr h)]
    iintro H Hk
    iapply Hk
    iexact H

/-! ## Pooling a chunk -/

/-- A result buffer that holds chunk `n` pooled. -/
def Pooled (n : ℕ) : sProp 𝕄 :=
  iprop(∃ f, (ob.view.loc (tile d i) ↦{fullShare} f)
    ∗ ⌜∀ y, ob.view.read (Elt F) f y = pooled (half (arg3.view.read (Elt F) Y) (i 0).val) (chunkIdx (arg2.view.read (Elt F) X) (i 1).val n) (y 0).val⌝)

theorem Steps.run {T : Buf (Elt F) (tb.view.loc (tile d i))} {I : Buf (Elt F) (ib.view.loc (tile d i))} {f : Buf (Elt F) (ob.view.loc (tile d i))} {α : Type} {p : TProg F i α}
    {L : List (View.Piece (Elt F) S1024 .f32)} {v : α} {L' : List (View.Piece (Elt F) S1024 .f32)} (h : Steps d i tb ib ob T I f p L v L') {Q : α → sProp 𝕄} :
    Hold d i tb ib ob T I f L ⊢ iprop((Hold d i tb ib ob T I f L' -∗ Q v) -∗ wp frame (wpE (defs₀ (F := F)) 𝒱₀ (tile d i) none) Set.univ p Q) := h Q

set_option maxHeartbeats 2000000 in
theorem quad_loop (hX : ∀ x, (arg2.view.read (Elt F) X x).toNat < 1000) (n : ℕ) (v28 c0 c1 : BitVec 32) (t1 : Fin k0_t1_loop.trips) {α : Type}
    {k : Unit → TProg F i α} {Q : α → sProp 𝕄} :
    iprop(Tab d i arg3 tb Y ∗ Idxs d i arg2 ib X n ∗ ∃ f, ob.view.loc (tile d i) ↦{fullShare} f)
      ⊢ iprop((iprop(Tab d i arg3 tb Y ∗ Idxs d i arg2 ib X n ∗ Pooled d i arg2 arg3 ob X Y n) -∗ wp frame (wpE (defs₀ (F := F)) 𝒱₀ (tile d i) none) Set.univ (k ⟨⟩) Q)
        -∗ wp frame (wpE (defs₀ (F := F)) 𝒱₀ (tile d i) none) Set.univ (Scf.Loop.for k0_t2_loop k0_t2_ok ⟨⟩
          (k0_t2_body i arg2 harg2 arg3 harg3 arg4 harg4 tb htb ib hib ib2 hib2 ob hob ob2 hob2 arg10 arg11 arg12 arg13 arg14 v28 c0 c1 t1) >>= k) Q) := by
  unfold Tab Idxs Pooled
  iintro ⟨⟨%T, HT, %hT⟩, ⟨%I, HI, %hI⟩, ⟨%f, Hf⟩⟩ Hk
  have hr : Rows d i ib I := fun x => by rw [hI]; exact hX _
  iapply (Scf.wp_for_bind frame (wpE (defs₀ (F := F)) 𝒱₀ (tile d i) none) Set.univ _ _ _ k0_t2_ok ⟨⟩ _
    (fun q (_ : Unit) => iprop((tb.view.loc (tile d i) ↦{fullShare} T) ∗ (ib.view.loc (tile d i) ↦{fullShare} I)
      ∗ ∃ g, (ob.view.loc (tile d i) ↦{fullShare} g) ∗ ⌜∀ y, (y 0).val < 256 * q → ob.view.read (Elt F) g y = pooled (tb.view.read (Elt F) T) (ib.view.read (Elt F) I) (y 0).val⌝)) ?_) $$ [HT HI Hf]
  · rintro q ⟨⟩
    iintro ⟨HT, HI, ⟨%g, Hg, %hg⟩⟩
    iapply (Steps.run d i tb ib ob <| quad_steps d i arg2 harg2 arg3 harg3 arg4 harg4 tb htb ib hib ib2 hib2 ob hob ob2 hob2 arg10 arg11 arg12 arg13 arg14 T I g hr v28 c0 c1 t1 q []) $$ [HT HI Hg]
    · unfold Hold
      isplitl [HT]; · iexact HT
      isplitl [HI]; · iexact HI
      iexact Hg
    unfold Hold
    iintro ⟨HT, HI, Hg⟩
    isplitl [HT]; · iexact HT
    isplitl [HI]; · iexact HI
    iexists _
    isplitl [Hg]; · iexact Hg
    ipureintro
    rw [List.append_nil]
    exact pieces_read d i tb ib T I ob g q hr hg
  · isplitl [HT]; · iexact HT
    isplitl [HI]; · iexact HI
    iexists f
    isplitl [Hf]; · iexact Hf
    ipureintro
    intro y hy
    omega
  · iintro %_ ⟨HT, HI, ⟨%g, Hg, %hg⟩⟩
    iapply Hk
    isplitl [HT]
    · iexists T
      isplitl [HT]; · iexact HT
      ipureintro; exact hT
    isplitl [HI]
    · iexists I
      isplitl [HI]; · iexact HI
      ipureintro; exact hI
    iexists g
    isplitl [Hg]; · iexact Hg
    ipureintro
    intro y
    have hy : (y 0).val < 1024 := (y 0).isLt
    rw [hg y (hy.trans_le (show 1024 ≤ 256 * k0_t2_loop.trips by rw [t2_trips])), show tb.view.read (Elt F) T = _ from funext hT, show ib.view.read (Elt F) I = _ from funext hI]

end

end Cert.Proof
-- ==== Proof.Body.lean ====
/-
  A trip of a tile's loop, and the body around it: two chunks a trip, the indices of the next
  chunk fetched and the last results sent while a chunk is pooled.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F] [Named F]

local notation "𝕄" => RES F

section
variable (d : Dev nD) (i : grid0.Coords)
variable (arg2 : Memref sig .scVector .hbm S16x32x320 .i32) (harg2 : arg2.IsWhole) (arg3 : Memref sig .scVector .hbm S2x1000x64 .f32) (harg3 : arg3.IsWhole)
variable (arg4 : Memref sig .scVector .hbm S2x524288 .f32) (harg4 : arg4.IsWhole)
variable (tb : Memref sig .scVector .vmem S1000x64 .f32) (htb : tb.IsWhole) (ib : Memref sig .scVector .vmem S320 .i32) (hib : ib.IsWhole)
variable (ib2 : Memref sig .scVector .vmem S320 .i32) (hib2 : ib2.IsWhole) (ob : Memref sig .scVector .vmem S1024 .f32) (hob : ob.IsWhole)
variable (ob2 : Memref sig .scVector .vmem S1024 .f32) (hob2 : ob2.IsWhole) (arg10 arg11 arg12 arg13 arg14 : DmaSems sig S_)
variable (X : Buf (Elt F) (arg2.view.loc (tile d i))) (Y : Buf (Elt F) (arg3.view.loc (tile d i)))
variable (f0 G : Buf (Elt F) (arg4.view.loc (tile d i)))

set_option maxRecDepth 65536 in
set_option maxHeartbeats 4000000 in
/-- The second chunk's inner body is the first's, over the other two buffers. -/
theorem quads_eq (v28 c0 c1 : BitVec 32) (t1 : Fin k0_t1_loop.trips) (q : Fin k0_t2_loop.trips) :
    k0_t3_body (F := F) i arg2 harg2 arg3 harg3 arg4 harg4 tb htb ib hib ib2 hib2 ob hob ob2 hob2 arg10 arg11 arg12 arg13 arg14 q ⟨⟩ = k0_t2_body (F := F) i arg2 harg2 arg3 harg3 arg4 harg4 tb htb ib2 hib2 ib hib ob2 hob2 ob hob arg10 arg11 arg12 arg13 arg14 v28 c0 c1 t1 q ⟨⟩ := rfl

theorem loops_eq (v28 c0 c1 : BitVec 32) (t1 : Fin k0_t1_loop.trips) :
    Scf.Loop.for k0_t3_loop k0_t3_ok ⟨⟩ (k0_t3_body (F := F) i arg2 harg2 arg3 harg3 arg4 harg4 tb htb ib hib ib2 hib2 ob hob ob2 hob2 arg10 arg11 arg12 arg13 arg14)
      = Scf.Loop.for k0_t2_loop k0_t2_ok ⟨⟩ (k0_t2_body (F := F) i arg2 harg2 arg3 harg3 arg4 harg4 tb htb ib2 hib2 ib hib ob2 hob2 ob hob arg10 arg11 arg12 arg13 arg14 v28 c0 c1 t1) :=
  congrArg (Scf.Loop.for k0_t2_loop k0_t2_ok ⟨⟩) (funext fun q => funext fun _ =>
    quads_eq i arg2 harg2 arg3 harg3 arg4 harg4 tb htb ib hib ib2 hib2 ob hob ob2 hob2 arg10 arg11 arg12 arg13 arg14 v28 c0 c1 t1 q)

theorem Fetching_lt {q : PosShare TreeShare} {s : DmaSem sig} {t n : ℕ} (h : t < 16) : Fetching d i arg2 ib X q s t n = Fetch d i arg2 ib X q s n := if_pos h

theorem Sending_pos {s : DmaSem sig} {t n n' : ℕ} (h : 1 ≤ t) (hn : n = n') : Send d i arg4 ob G s n ⊢ Sending d i arg4 ob G s t n' := by
  unfold Sending
  rw [if_pos h, hn]

theorem returns {α : Type} {v : α} {Q : α → sProp 𝕄} : Q v ⊢ wp frame (wpE (defs₀ (F := F)) 𝒱₀ (tile d i) none) Set.univ (pure v : TProg F i α) Q := by
  rw [Prog.pure_eq_ret, wp_ret]
  exact fupd_intro

/-- Before trip `t`. -/
def Trip (q1 q2 : PosShare TreeShare) (O : CellTallies nD τ sig (HIx 2)) (W : Waits sig (HIx 2)) (t : ℕ) : sProp 𝕄 :=
  iprop(MayWaits (tile d i) none O ∗ Owed d i O W ∗ Tab d i arg3 tb Y
    ∗ Fetching d i arg2 ib X q1 arg11.sem t (2 * t)
    ∗ ((arg2.view.loc (tile d i) ↦{q2} X) ∗ (∃ f, ib2.view.loc (tile d i) ↦{fullShare} f) ∗ semVal (tile d i, .dma arg12.sem) 0)
    ∗ Sending d i arg4 ob G arg13.sem t (2 * t - 2) ∗ Sending d i arg4 ob2 G arg14.sem t (2 * t - 1)
    ∗ bigSep (finUpTo 32 (2 * t - 2)) (fun n : Fin 32 => (arg4.view.loc (tile d i) ↦[outSet d i arg4 n.val]{fullShare} G : sProp 𝕄))
    ∗ bigSep (finFrom 32 (2 * t)) (fun n : Fin 32 => (arg4.view.loc (tile d i) ↦[outSet d i arg4 n.val]{fullShare} f0 : sProp 𝕄)))

theorem back_done (t : ℕ) (ht : t < 16) :
    (iprop(Back d i arg4 G t (2 * t - 2) ∗ Back d i arg4 G t (2 * t - 1)
      ∗ bigSep (finUpTo 32 (2 * t - 2)) (fun n : Fin 32 => (arg4.view.loc (tile d i) ↦[outSet d i arg4 n.val]{fullShare} G : sProp 𝕄))) : sProp 𝕄)
      ⊢ bigSep (finUpTo 32 (2 * (t + 1) - 2)) (fun n : Fin 32 => (arg4.view.loc (tile d i) ↦[outSet d i arg4 n.val]{fullShare} G : sProp 𝕄)) := by
  unfold Back
  rcases Nat.eq_zero_or_pos t with rfl | h
  · rw [if_neg (by omega)]
    iintro ⟨-, -, H⟩
    iexact H
  · have h : 1 ≤ t := h
    rw [if_pos h, if_pos h, show 2 * (t + 1) - 2 = (2 * t - 2) + 1 + 1 by omega,
      bigSep_finUpTo_succ (show 2 * t - 2 + 1 < 32 by omega), bigSep_finUpTo_succ (show 2 * t - 2 < 32 by omega),
      show 2 * t - 1 = 2 * t - 2 + 1 by omega]
    iintro ⟨H1, H2, H⟩
    isplitl [H2]; · iexact H2
    isplitl [H1] <;> iassumption

set_option maxHeartbeats 4000000 in
theorem trip (hX : ∀ x, (arg2.view.read (Elt F) X x).toNat < 1000)
    (hG : ∀ x, arg4.view.read (Elt F) G x = goal (arg2.view.read (Elt F) X) (arg3.view.read (Elt F) Y) x)
    {q1 q2 : PosShare TreeShare} {O : CellTallies nD τ sig (HIx 2)} {W : Waits sig (HIx 2)} (v28 : BitVec 32) (t : Fin k0_t1_loop.trips) :
    Trip d i arg2 arg3 arg4 tb ib ib2 ob ob2 arg11 arg12 arg13 arg14 X Y f0 G q1 q2 O W t.val
      ⊢ wp frame (wpE (defs₀ (F := F)) 𝒱₀ (tile d i) none) Set.univ
        (k0_t1_body (F := F) i arg2 harg2 arg3 harg3 arg4 harg4 tb htb ib hib ib2 hib2 ob hob ob2 hob2 arg10 arg11 arg12 arg13 arg14 v28 t ⟨⟩)
        (fun _ => Trip d i arg2 arg3 arg4 tb ib ib2 ob ob2 arg11 arg12 arg13 arg14 X Y f0 G q1 q2 O W (t.val + 1)) := by
  have ht : t.val < 16 := t1_trips ▸ t.isLt
  unfold k0_t1_body
  rw [k0_part73_eq_skeleton]
  unfold k0_part73_skel
  dsimp only
  rw [dif_pos (cond1_eq t), wp_bind]
  unfold Trip
  rw [loops_eq i arg2 harg2 arg3 harg3 arg4 harg4 tb htb ib hib ib2 hib2 ob hob ob2 hob2 arg10 arg11 arg12 arg13 arg14 v28 0#32 1#32 t,
    Fetching_lt d i arg2 ib X ht, bigSep_finFrom_succ (show 2 * t.val < 32 by omega), bigSep_finFrom_succ (show 2 * t.val + 1 < 32 by omega)]
  iintro ⟨#Hmw, HO, HT, HF1, ⟨HX2, Hib2, Hs2⟩, HS1, HS2, Hdone, Ht0, Ht1, Htodo⟩
  iapply (fetch_start d i arg2 ib2 X hib2 (n := 2 * t.val + 1) (by omega) (off3_eq i t)) $$ [HX2 Hib2 Hs2]
  · isplitl [HX2]; · iexact HX2
    isplitl [Hib2] <;> iassumption
  iintro HF2
  iapply (fetched d i arg2 ib X) $$ [HF1 HO]
  · isplitl [HF1]; · iexact HF1
    isplitl [HO]; · iexact HO
    iexact Hmw
  iintro ⟨HI1, HX1, Hs1, HO⟩
  iapply (sent_if d i arg4 ob G (cond2_iff t)) $$ [HS1 HO]
  · isplitl [HS1]; · iexact HS1
    isplitl [HO]; · iexact HO
    iexact Hmw
  iintro ⟨HB1, Hob, Hs3, HO⟩
  iapply (quad_loop d i arg2 harg2 arg3 harg3 arg4 harg4 tb htb ib hib ib2 hib2 ob hob ob2 hob2 arg10 arg11 arg12 arg13 arg14 X Y hX (2 * t.val)) $$ [HT HI1 Hob]
  · isplitl [HT]; · iexact HT
    isplitl [HI1] <;> iassumption
  iintro ⟨HT, HI1, HP⟩
  unfold Pooled
  icases HP with ⟨%g, Hg, %hg⟩
  iapply (send_start d i arg4 ob f0 G hob (n := 2 * t.val) (by omega) ((off331_eq i t 0).trans rfl) hg hG) $$ [Hg Ht0 Hs3]
  · isplitl [Hg]; · iexact Hg
    isplitl [Ht0] <;> iassumption
  iintro HS1
  ihave Hib : (iprop(∃ f, ib.view.loc (tile d i) ↦{fullShare} f) : sProp 𝕄) $$ [HI1]
  · unfold Idxs
    icases HI1 with ⟨%f, Hf, -⟩
    iexists f; iexact Hf
  iapply (fetch_if d i arg2 ib X hib (t := t.val + 1) (n := 2 * t.val + 2) (by rw [cond3_iff]; omega) (by omega) (off332_eq i t)) $$ [HX1 Hib Hs1]
  · isplitl [HX1]; · iexact HX1
    isplitl [Hib] <;> iassumption
  iintro HF1
  iapply (returns d i)
  iapply (fetched d i arg2 ib2 X) $$ [HF2 HO]
  · isplitl [HF2]; · iexact HF2
    isplitl [HO]; · iexact HO
    iexact Hmw
  iintro ⟨HI2, HX2, Hs2, HO⟩
  iapply (sent_if d i arg4 ob2 G (cond4_iff t)) $$ [HS2 HO]
  · isplitl [HS2]; · iexact HS2
    isplitl [HO]; · iexact HO
    iexact Hmw
  iintro ⟨HB2, Hob2, Hs4, HO⟩
  iapply (quad_loop d i arg2 harg2 arg3 harg3 arg4 harg4 tb htb ib2 hib2 ib hib ob2 hob2 ob hob arg10 arg11 arg12 arg13 arg14 X Y hX (2 * t.val + 1)) $$ [HT HI2 Hob2]
  · isplitl [HT]; · iexact HT
    isplitl [HI2] <;> iassumption
  iintro ⟨HT, HI2, HP⟩
  unfold Pooled
  icases HP with ⟨%g2, Hg2, %hg2⟩
  iapply (send_start d i arg4 ob2 f0 G hob2 (n := 2 * t.val + 1) (by omega) ((off331_eq i t 1).trans rfl) hg2 hG) $$ [Hg2 Ht1 Hs4]
  · isplitl [Hg2]; · iexact Hg2
    isplitl [Ht1] <;> iassumption
  iintro HS2
  iapply (returns d i)
  isplitr; · iexact Hmw
  isplitl [HO]; · iexact HO
  isplitl [HT]; · iexact HT
  isplitl [HF1]; · iexact HF1
  isplitl [HX2 HI2 Hs2]
  · isplitl [HX2]; · iexact HX2
    isplitr [Hs2]
    · unfold Idxs
      icases HI2 with ⟨%f, Hf, -⟩
      iexists f; iexact Hf
    · iexact Hs2
  isplitl [HS1]
  · iapply (Sending_pos d i arg4 ob G (n := 2 * t.val) (by omega) (by omega)) $$ HS1
  isplitl [HS2]
  · iapply (Sending_pos d i arg4 ob2 G (n := 2 * t.val + 1) (by omega) (by omega)) $$ HS2
  isplitl [HB1 HB2 Hdone]
  · iapply (back_done d i arg4 G t.val ht)
    isplitl [HB1]; · iexact HB1
    isplitl [HB2] <;> iassumption
  · iexact Htodo

theorem of_eq {P Q : sProp 𝕄} (h : P = Q) : P ⊢ Q := h ▸ Entails.rfl

theorem Fetching_last {q : PosShare TreeShare} {s : DmaSem sig} {n : ℕ} :
    Fetching d i arg2 ib X q s 16 n = iprop((arg2.view.loc (tile d i) ↦{q} X) ∗ (∃ f, ib.view.loc (tile d i) ↦{fullShare} f) ∗ semVal (tile d i, .dma s) 0) := if_neg (lt_irrefl _)
theorem Sending_first {s : DmaSem sig} {n : ℕ} :
    Sending d i arg4 ob G s 0 n = iprop((∃ f, ob.view.loc (tile d i) ↦{fullShare} f) ∗ semVal (tile d i, .dma s) 0) := if_neg (by decide)
theorem Sending_last {s : DmaSem sig} {n : ℕ} : Sending d i arg4 ob G s 16 n = Send d i arg4 ob G s n := if_pos (by decide)

/-- After the last trip. -/
theorem Trip_last {q1 q2 : PosShare TreeShare} {O : CellTallies nD τ sig (HIx 2)} {W : Waits sig (HIx 2)} :
    Trip d i arg2 arg3 arg4 tb ib ib2 ob ob2 arg11 arg12 arg13 arg14 X Y f0 G q1 q2 O W k0_t1_loop.trips
      ⊢ iprop(Owed d i O W ∗ Tab d i arg3 tb Y
        ∗ ((arg2.view.loc (tile d i) ↦{q1} X) ∗ (∃ f, ib.view.loc (tile d i) ↦{fullShare} f) ∗ semVal (tile d i, .dma arg11.sem) 0)
        ∗ ((arg2.view.loc (tile d i) ↦{q2} X) ∗ (∃ f, ib2.view.loc (tile d i) ↦{fullShare} f) ∗ semVal (tile d i, .dma arg12.sem) 0)
        ∗ Send d i arg4 ob G arg13.sem 30 ∗ Send d i arg4 ob2 G arg14.sem 31
        ∗ bigSep (finUpTo 32 30) (fun n : Fin 32 => (arg4.view.loc (tile d i) ↦[outSet d i arg4 n.val]{fullShare} G : sProp 𝕄))) := by
  rw [t1_trips]
  unfold Trip
  rw [Fetching_last, Sending_last, Sending_last]
  iintro ⟨-, HO, HT, H1, H2, HS1, HS2, Hd, -⟩
  isplitl [HO]; · iexact HO
  isplitl [HT]; · iexact HT
  isplitl [H1]; · iexact H1
  isplitl [H2]; · iexact H2
  isplitl [HS1]; · iexact HS1
  isplitl [HS2] <;> iassumption

/-- What a tile holds around its body: its shares of the indices and of the table, its buffers, its semaphores at zero, its own
    places of the result, and its debts. -/
def Around (q1 q2 q3 : PosShare TreeShare) (g : Buf (Elt F) (arg4.view.loc (tile d i))) (O : CellTallies nD τ sig (HIx 2)) (W : Waits sig (HIx 2)) : sProp 𝕄 :=
  iprop(((arg2.view.loc (tile d i) ↦{q1} X) ∗ (arg2.view.loc (tile d i) ↦{q2} X) ∗ (arg3.view.loc (tile d i) ↦{q3} Y))
    ∗ ((∃ f, tb.view.loc (tile d i) ↦{fullShare} f) ∗ (∃ f, ib.view.loc (tile d i) ↦{fullShare} f) ∗ (∃ f, ib2.view.loc (tile d i) ↦{fullShare} f)
      ∗ (∃ f, ob.view.loc (tile d i) ↦{fullShare} f) ∗ (∃ f, ob2.view.loc (tile d i) ↦{fullShare} f))
    ∗ (semVal (tile d i, .dma arg10.sem) 0 ∗ semVal (tile d i, .dma arg11.sem) 0 ∗ semVal (tile d i, .dma arg12.sem) 0
      ∗ semVal (tile d i, .dma arg13.sem) 0 ∗ semVal (tile d i, .dma arg14.sem) 0)
    ∗ (bigSep Finset.univ fun n : Fin 32 => (arg4.view.loc (tile d i) ↦[outSet d i arg4 n.val]{fullShare} g : sProp 𝕄))
    ∗ Owed d i O W)

set_option maxHeartbeats 4000000 in
/-- A tile's body pools its thirty-two chunks. -/
theorem body (hX : ∀ x, (arg2.view.read (Elt F) X x).toNat < 1000)
    (hG : ∀ x, arg4.view.read (Elt F) G x = goal (arg2.view.read (Elt F) X) (arg3.view.read (Elt F) Y) x)
    {q1 q2 q3 : PosShare TreeShare} {O : CellTallies nD τ sig (HIx 2)} {W : Waits sig (HIx 2)} :
    iprop(MayWaits (tile d i) none O ∗ Around d i arg2 arg3 arg4 tb ib ib2 ob ob2 arg10 arg11 arg12 arg13 arg14 X Y q1 q2 q3 f0 O W)
      ⊢ wp frame (wpE (defs₀ (F := F)) 𝒱₀ (tile d i) none) Set.univ
        (cc0__pool_body (F := F) i arg2 harg2 arg3 harg3 arg4 harg4 tb htb ib hib ib2 hib2 ob hob ob2 hob2 arg10 arg11 arg12 arg13 arg14)
        (fun _ => Around d i arg2 arg3 arg4 tb ib ib2 ob ob2 arg10 arg11 arg12 arg13 arg14 X Y q1 q2 q3 G O W) := by
  rw [cc0__pool_body_eq_skeleton]
  unfold cc0__pool_body_skel
  rw [k0_part74_eq_skeleton]
  unfold k0_part74_skel
  dsimp only
  rw [wp_bind]
  unfold Around
  iintro ⟨#Hmw, ⟨HX1, HX2, HY⟩, ⟨Htb, Hib, Hib2, Hob, Hob2⟩, ⟨Hs0, Hs1, Hs2, Hs3, Hs4⟩, Hout, HO⟩
  iapply (tab_start d i arg3 tb Y (off1_eq i)) $$ [HY Htb Hs0]
  · isplitl [HY]; · iexact HY
    isplitl [Htb] <;> iassumption
  iintro HTF
  iapply (returns d i)
  iapply (fetch_start d i arg2 ib X hib (n := 0) (by omega) (off2_eq i)) $$ [HX1 Hib Hs1]
  · isplitl [HX1]; · iexact HX1
    isplitl [Hib] <;> iassumption
  iintro HF1
  iapply (tab_fetched d i arg3 tb Y) $$ [HTF HO]
  · isplitl [HTF]; · iexact HTF
    isplitl [HO]; · iexact HO
    iexact Hmw
  iintro ⟨HT, HY, Hs0, HO⟩
  iapply (Scf.wp_for_bind frame (wpE (defs₀ (F := F)) 𝒱₀ (tile d i) none) Set.univ _ _ _ k0_t1_ok ⟨⟩ _
    (fun t (_ : Unit) => Trip d i arg2 arg3 arg4 tb ib ib2 ob ob2 arg11 arg12 arg13 arg14 X Y f0 G q1 q2 O W t)
    (fun t _ => trip d i arg2 harg2 arg3 harg3 arg4 harg4 tb htb ib hib ib2 hib2 ob hob ob2 hob2 arg10 arg11 arg12 arg13 arg14 X Y f0 G hX hG _ t)) $$ [HO HT HF1 HX2 Hib2 Hs2 Hob Hob2 Hs3 Hs4 Hout]
  · unfold Trip
    isplitr; · iexact Hmw
    isplitl [HO]; · iexact HO
    isplitl [HT]; · iexact HT
    isplitl [HF1]
    · iapply (of_eq (Fetching_lt d i arg2 ib X (t := 0) (by decide)).symm) $$ HF1
    isplitl [HX2 Hib2 Hs2]
    · isplitl [HX2]; · iexact HX2
      isplitl [Hib2] <;> iassumption
    isplitl [Hob Hs3]
    · iapply (of_eq (Sending_first d i arg4 ob G).symm)
      isplitl [Hob] <;> iassumption
    isplitl [Hob2 Hs4]
    · iapply (of_eq (Sending_first d i arg4 ob2 G).symm)
      isplitl [Hob2] <;> iassumption
    isplitr
    · iapply (of_eq (bigSep_finUpTo_zero _).symm)
      iempintro
    · iapply (of_eq (bigSep_finFrom_zero _).symm) $$ Hout
  iintro %_ HTr
  ihave HTr := (Trip_last d i arg2 arg3 arg4 tb ib ib2 ob ob2 arg11 arg12 arg13 arg14 X Y f0 G) $$ HTr
  icases HTr with ⟨HO, HT, ⟨HX1, Hib, Hs1⟩, ⟨HX2, Hib2, Hs2⟩, HS1, HS2, Hdone⟩
  iapply (sent d i arg4 ob G) $$ [HS1 HO]
  · isplitl [HS1]; · iexact HS1
    isplitl [HO]; · iexact HO
    iexact Hmw
  iintro ⟨HB1, Hob, Hs3, HO⟩
  iapply (sent d i arg4 ob2 G) $$ [HS2 HO]
  · isplitl [HS2]; · iexact HS2
    isplitl [HO]; · iexact HO
    iexact Hmw
  iintro ⟨HB2, Hob2, Hs4, HO⟩
  iapply (returns d i)
  isplitl [HX1 HX2 HY]
  · isplitl [HX1]; · iexact HX1
    isplitl [HX2] <;> iassumption
  isplitl [HT Hib Hib2 Hob Hob2]
  · isplitl [HT]
    · unfold Tab
      icases HT with ⟨%f, Hf, -⟩
      iexists f; iexact Hf
    isplitl [Hib]; · iexact Hib
    isplitl [Hib2]; · iexact Hib2
    isplitl [Hob] <;> iassumption
  isplitl [Hs0 Hs1 Hs2 Hs3 Hs4]
  · isplitl [Hs0]; · iexact Hs0
    isplitl [Hs1]; · iexact Hs1
    isplitl [Hs2]; · iexact Hs2
    isplitl [Hs3] <;> iassumption
  isplitr [HO]
  · iapply (show _ ⊢ (bigSep Finset.univ fun n : Fin 32 => (arg4.view.loc (tile d i) ↦[outSet d i arg4 n.val]{fullShare} G : sProp 𝕄)) from by
      rw [← bigSep_finUpTo_self, bigSep_finUpTo_succ (show 31 < 32 by omega), bigSep_finUpTo_succ (show 30 < 32 by omega)])
    isplitl [HB2]; · iexact HB2
    isplitl [HB1] <;> iassumption
  · iexact HO

end

set_option maxRecDepth 65536 in
set_option maxHeartbeats 4000000 in
/-- The second call's body is the first's. -/
theorem calls_eq : cc2__pool_body (F := F) = cc0__pool_body (F := F) := rfl

end Cert.Proof
-- ==== Proof.Host.lean ====
/-
  The program's host lines between its calls, as lists, and the contents of every buffer after each stretch.
-/
module

public import proofs.«01_k».proof.Proof.Region
public import proofs.«01_k».proof.Proof.Body

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.Sem

variable {F : FTy → Type} [FloatOps F] [Named F]

/-! ## The host lines -/

/-- Host line: the arguments regrouped and padded, and the first half of the indices. -/
def hostA : List (HloOp τ sig (Elt F)) :=
  [ StableHlo.reshape main_arg0 main_v0 (rfl : (.i32 : EltTy) = .i32) shapeCasts_S16384x20_S2x16x32x320
  , StableHlo.reshape main_arg1 main_v1 (rfl : (.f32 : EltTy) = .f32) shapeCasts_S1000x128_S1000x2x64
  , StableHlo.unary main_v1 main_v2 ((transpose S2x1000x64 [1, 0, 2] · transposes_S1000x2x64_S2x1000x64_1_0_2) : (⟨S1000x2x64, .f32⟩ : BufTy).Contents (Elt F) → (⟨S2x1000x64, .f32⟩ : BufTy).Contents (Elt F))
  , StableHlo.nullary main_cst (constant S_ .f32 0x00000000#32)
  , StableHlo.unary main_cst main_v3 (broadcastInDim S1024x128 ![] bcast_S_S1024x128 : (⟨S_, .f32⟩ : BufTy).Contents (Elt F) → (⟨S1024x128, .f32⟩ : BufTy).Contents (Elt F))
  , StableHlo.nullary main_c (constantI S_ 32 0#32)
  , StableHlo.unary main_c main_v4 (broadcastInDim S1 ![] bcast_S_S1 : (⟨S_, .i32⟩ : BufTy).Contents (Elt F) → (⟨S1, .i32⟩ : BufTy).Contents (Elt F))
  , StableHlo.ternary main_v3 main_v4 main_arg2 main_v5 ((fun x i u => Host.scatter scatter_S1024x128_S1_S1000x128_01_n_0_0 (fun _ b => b) x i u) : (⟨S1024x128, .f32⟩ : BufTy).Contents (Elt F) → (⟨S1, .i32⟩ : BufTy).Contents (Elt F) → (⟨S1000x128, .f32⟩ : BufTy).Contents (Elt F) → (⟨S1024x128, .f32⟩ : BufTy).Contents (Elt F))
  , StableHlo.nullary main_cst_0 (constant S_ .f32 0xF149F2CA#32)
  , StableHlo.unary main_cst_0 main_v6 (broadcastInDim S1x1024 ![] bcast_S_S1x1024 : (⟨S_, .f32⟩ : BufTy).Contents (Elt F) → (⟨S1x1024, .f32⟩ : BufTy).Contents (Elt F))
  , StableHlo.nullary main_c_1 (constantI S_ 32 0#32)
  , StableHlo.unary main_c_1 main_v7 (broadcastInDim S1 ![] bcast_S_S1 : (⟨S_, .i32⟩ : BufTy).Contents (Elt F) → (⟨S1, .i32⟩ : BufTy).Contents (Elt F))
  , StableHlo.nullary main_c_2 (constantI S_ 32 0#32)
  , StableHlo.unary main_c_2 main_v8 (broadcastInDim S1 ![] bcast_S_S1 : (⟨S_, .i32⟩ : BufTy).Contents (Elt F) → (⟨S1, .i32⟩ : BufTy).Contents (Elt F))
  , StableHlo.binary main_v7 main_v8 main_v9 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  , StableHlo.ternary main_v6 main_v9 main_arg3 main_v10 ((fun x i u => Host.scatter scatter_S1x1024_S2_S1000_0_0_01_0 (fun _ b => b) x i u) : (⟨S1x1024, .f32⟩ : BufTy).Contents (Elt F) → (⟨S2, .i32⟩ : BufTy).Contents (Elt F) → (⟨S1000, .f32⟩ : BufTy).Contents (Elt F) → (⟨S1x1024, .f32⟩ : BufTy).Contents (Elt F))
  , StableHlo.unary main_v0 main_v11 ((extractStridedSlice S1x16x32x320 ![0, 0, 0, 0] · slices_S2x16x32x320_S1x16x32x320_0_0_0_0) : (⟨S2x16x32x320, .i32⟩ : BufTy).Contents (Elt F) → (⟨S1x16x32x320, .i32⟩ : BufTy).Contents (Elt F))
  , StableHlo.reshape main_v11 main_v12 (rfl : (.i32 : EltTy) = .i32) shapeCasts_S1x16x32x320_S16x32x320 ]

/-- Host line: the two halves of the first call's sums. -/
def hostB : List (HloOp τ sig (Elt F)) :=
  [ StableHlo.unary main_v13 main_v14 ((extractStridedSlice S1x524288 ![0, 0] · slices_S2x524288_S1x524288_0_0) : (⟨S2x524288, .f32⟩ : BufTy).Contents (Elt F) → (⟨S1x524288, .f32⟩ : BufTy).Contents (Elt F))
  , StableHlo.reshape main_v14 main_v15 (rfl : (.f32 : EltTy) = .f32) shapeCasts_S1x524288_S524288
  , StableHlo.reshape main_v15 main_v16 (rfl : (.f32 : EltTy) = .f32) shapeCasts_S524288_S8192x64
  , StableHlo.unary main_v13 main_v17 ((extractStridedSlice S1x524288 ![1, 0] · slices_S2x524288_S1x524288_1_0) : (⟨S2x524288, .f32⟩ : BufTy).Contents (Elt F) → (⟨S1x524288, .f32⟩ : BufTy).Contents (Elt F))
  , StableHlo.reshape main_v17 main_v18 (rfl : (.f32 : EltTy) = .f32) shapeCasts_S1x524288_S524288
  , StableHlo.reshape main_v18 main_v19 (rfl : (.f32 : EltTy) = .f32) shapeCasts_S524288_S8192x64 ]

/-- Host line: the second half of the indices. -/
def hostC : List (HloOp τ sig (Elt F)) :=
  [ StableHlo.unary main_v0 main_v21 ((extractStridedSlice S1x16x32x320 ![1, 0, 0, 0] · slices_S2x16x32x320_S1x16x32x320_1_0_0_0) : (⟨S2x16x32x320, .i32⟩ : BufTy).Contents (Elt F) → (⟨S1x16x32x320, .i32⟩ : BufTy).Contents (Elt F))
  , StableHlo.reshape main_v21 main_v22 (rfl : (.i32 : EltTy) = .i32) shapeCasts_S1x16x32x320_S16x32x320
  , StableHlo.unary main_v22 main_v23_0 (id : (⟨S16x32x320, .i32⟩ : BufTy).Contents (Elt F) → (⟨S16x32x320, .i32⟩ : BufTy).Contents (Elt F))
  , StableHlo.unary main_v13 main_v23_1 (id : (⟨S2x524288, .f32⟩ : BufTy).Contents (Elt F) → (⟨S2x524288, .f32⟩ : BufTy).Contents (Elt F)) ]

/-- Host line: the two halves of the second call's sums. -/
def hostD : List (HloOp τ sig (Elt F)) :=
  [ StableHlo.unary main_v24 main_v25 ((extractStridedSlice S1x524288 ![0, 0] · slices_S2x524288_S1x524288_0_0) : (⟨S2x524288, .f32⟩ : BufTy).Contents (Elt F) → (⟨S1x524288, .f32⟩ : BufTy).Contents (Elt F))
  , StableHlo.reshape main_v25 main_v26 (rfl : (.f32 : EltTy) = .f32) shapeCasts_S1x524288_S524288
  , StableHlo.reshape main_v26 main_v27 (rfl : (.f32 : EltTy) = .f32) shapeCasts_S524288_S8192x64
  , StableHlo.unary main_v24 main_v28 ((extractStridedSlice S1x524288 ![1, 0] · slices_S2x524288_S1x524288_1_0) : (⟨S2x524288, .f32⟩ : BufTy).Contents (Elt F) → (⟨S1x524288, .f32⟩ : BufTy).Contents (Elt F))
  , StableHlo.reshape main_v28 main_v29 (rfl : (.f32 : EltTy) = .f32) shapeCasts_S1x524288_S524288
  , StableHlo.reshape main_v29 main_v30 (rfl : (.f32 : EltTy) = .f32) shapeCasts_S524288_S8192x64 ]

/-- Host line: the two results one after the other. -/
def hostE : List (HloOp τ sig (Elt F)) :=
  [ StableHlo.binary main_v20 main_v31 main_v32 ((fun a b => concatenate S16384 0 [⟨S8192, a⟩, ⟨S8192, b⟩] concatenates_S8192_S8192_S16384_d0) : (⟨S8192, .i32⟩ : BufTy).Contents (Elt F) → (⟨S8192, .i32⟩ : BufTy).Contents (Elt F) → (⟨S16384, .i32⟩ : BufTy).Contents (Elt F)) ]

/-- The program: host line, SparseCore call, host line, arg-max call, and the same again. -/
theorem main_eq (d : Dev nD) : main (F := F) d =
    StableHlo.seqK hostA ((K (F := F)).run d 0 >>= fun _ =>
      StableHlo.seqK hostB (Prog.lift (.customCall (SparseCore.inner (Pipeline.entry 0)) ()) >>= fun _ =>
        StableHlo.seqK hostC ((K (F := F)).run d 1 >>= fun _ =>
          StableHlo.seqK hostD (Prog.lift (.customCall (SparseCore.inner (Pipeline.entry 1)) ()) >>= fun _ =>
            StableHlo.seqK hostE (pure ⟨⟩))))) := rfl

theorem hostA_bufs : ∀ op ∈ (hostA : List (HloOp τ sig (Elt F))), op.bufs ⊆ Pipeline.ucRefs τ sig := by
  intro op h
  refine Pipeline.sub_ucRefs op ?_
  revert op
  rw [← List.forall_iff_forall_mem]
  simp only [hostA, List.Forall, StableHlo.nullary_bufs_sub, StableHlo.unary_bufs_sub, StableHlo.binary_bufs_sub, StableHlo.ternary_bufs_sub, StableHlo.reshape_bufs_sub, and_self]
theorem hostA_fresh : ∀ op ∈ (hostA : List (HloOp τ sig (Elt F))), op.fresh = ∅ := by
  rw [← List.forall_iff_forall_mem]
  simp only [hostA, List.Forall]
  exact ⟨rfl, rfl, rfl, rfl, rfl, rfl, rfl, rfl, rfl, rfl, rfl, rfl, rfl, rfl, rfl, rfl, rfl, rfl⟩

theorem hostB_bufs : ∀ op ∈ (hostB : List (HloOp τ sig (Elt F))), op.bufs ⊆ Pipeline.ucRefs τ sig := by
  intro op h
  refine Pipeline.sub_ucRefs op ?_
  revert op
  rw [← List.forall_iff_forall_mem]
  simp only [hostB, List.Forall, StableHlo.nullary_bufs_sub, StableHlo.unary_bufs_sub, StableHlo.binary_bufs_sub, StableHlo.ternary_bufs_sub, StableHlo.reshape_bufs_sub, and_self]
theorem hostB_fresh : ∀ op ∈ (hostB : List (HloOp τ sig (Elt F))), op.fresh = ∅ := by
  rw [← List.forall_iff_forall_mem]
  simp only [hostB, List.Forall]
  exact ⟨rfl, rfl, rfl, rfl, rfl, rfl⟩

theorem hostC_bufs : ∀ op ∈ (hostC : List (HloOp τ sig (Elt F))), op.bufs ⊆ Pipeline.ucRefs τ sig := by
  intro op h
  refine Pipeline.sub_ucRefs op ?_
  revert op
  rw [← List.forall_iff_forall_mem]
  simp only [hostC, List.Forall, StableHlo.nullary_bufs_sub, StableHlo.unary_bufs_sub, StableHlo.binary_bufs_sub, StableHlo.ternary_bufs_sub, StableHlo.reshape_bufs_sub, and_self]
theorem hostC_fresh : ∀ op ∈ (hostC : List (HloOp τ sig (Elt F))), op.fresh = ∅ := by
  rw [← List.forall_iff_forall_mem]
  simp only [hostC, List.Forall]
  exact ⟨rfl, rfl, rfl, rfl⟩

theorem hostD_bufs : ∀ op ∈ (hostD : List (HloOp τ sig (Elt F))), op.bufs ⊆ Pipeline.ucRefs τ sig := by
  intro op h
  refine Pipeline.sub_ucRefs op ?_
  revert op
  rw [← List.forall_iff_forall_mem]
  simp only [hostD, List.Forall, StableHlo.nullary_bufs_sub, StableHlo.unary_bufs_sub, StableHlo.binary_bufs_sub, StableHlo.ternary_bufs_sub, StableHlo.reshape_bufs_sub, and_self]
theorem hostD_fresh : ∀ op ∈ (hostD : List (HloOp τ sig (Elt F))), op.fresh = ∅ := by
  rw [← List.forall_iff_forall_mem]
  simp only [hostD, List.Forall]
  exact ⟨rfl, rfl, rfl, rfl, rfl, rfl⟩

theorem hostE_bufs : ∀ op ∈ (hostE : List (HloOp τ sig (Elt F))), op.bufs ⊆ Pipeline.ucRefs τ sig := by
  intro op h
  refine Pipeline.sub_ucRefs op ?_
  revert op
  rw [← List.forall_iff_forall_mem]
  simp only [hostE, List.Forall, StableHlo.nullary_bufs_sub, StableHlo.unary_bufs_sub, StableHlo.binary_bufs_sub, StableHlo.ternary_bufs_sub, StableHlo.reshape_bufs_sub, and_self]
theorem hostE_fresh : ∀ op ∈ (hostE : List (HloOp τ sig (Elt F))), op.fresh = ∅ := by
  rw [← List.forall_iff_forall_mem]
  simp only [hostE, List.Forall]
  exact rfl

/-! ## What every buffer holds -/

/-- A whole device's buffers, as a region takes them: its TensorCore's references. -/
abbrev onTc (v : Dev nD → Valuation τ sig (Elt F)) : (c : Dev nD) → (b : Ref sig .tc) → Buf (Elt F) ((c : Thread nD τ).loc b) := fun c b => v c b

/-- A SparseCore call's whole result, from its indices and its table. -/
def sums (X : S16x32x320.Idx → BitVec 32) (Y : S2x1000x64.Idx → F .f32) : S2x524288.Idx → F .f32 := goal X Y

/-- What the TensorCore owes, and the waits it has made, while the arg-max call after the `n`-th SparseCore call runs. -/
def owing (n : ℕ) (d : Dev nD) : CellTallies nD τ sig (HIx 2) := (K (F := F)).Otc d n
def waited (n : ℕ) (d : Dev nD) : Set (SemLoc sig × HIx 2) := {p | (K (F := F)).lev (T d, p.1) p.2 ≤ 8 * n}

variable (m : (ℓ : Loc nD τ sig) → Buf (Elt F) ℓ)

/-- At the launch; -/
def val0 (d : Dev nD) : Valuation τ sig (Elt F) := fun b => m (d, b)
/-- after the first host line; -/
def val1 (d : Dev nD) : Valuation τ sig (Elt F) := StableHlo.after hostA (val0 m d)
/-- after the first SparseCore call; -/
def val2 (d : Dev nD) : Valuation τ sig (Elt F) := Function.update (val1 m d) main_v13 (sums (val1 m d main_v12) (val1 m d main_v2))
def val3 (d : Dev nD) : Valuation τ sig (Elt F) := StableHlo.after hostB (val2 m d)
/-- after the first arg-max call; -/
def val4 (d : Dev nD) : Valuation τ sig (Elt F) :=
  Function.update (val3 m d) main_v20 ((dat1 (onTc (val3 m)) (owing (F := F) 1) (waited (F := F) 1) d).arrAt 4 cfg1.N)
def val5 (d : Dev nD) : Valuation τ sig (Elt F) := StableHlo.after hostC (val4 m d)
/-- after the second SparseCore call; -/
def val6 (d : Dev nD) : Valuation τ sig (Elt F) := Function.update (val5 m d) main_v24 (sums (val5 m d main_v23_0) (val5 m d main_v2))
def val7 (d : Dev nD) : Valuation τ sig (Elt F) := StableHlo.after hostD (val6 m d)
/-- after the second arg-max call; -/
def val8 (d : Dev nD) : Valuation τ sig (Elt F) :=
  Function.update (val7 m d) main_v31 ((dat3 (onTc (val7 m)) (owing (F := F) 2) (waited (F := F) 2) d).arrAt 4 cfg3.N)
/-- and at the end. -/
def val9 (d : Dev nD) : Valuation τ sig (Elt F) := StableHlo.after hostE (val8 m d)

/-- The first call's indices are the first half of the argument, regrouped. -/
theorem idx_first (d : Dev nD) : val1 m d main_v12 =
    shapeCast S16x32x320 (extractStridedSlice S1x16x32x320 ![0, 0, 0, 0] (shapeCast S2x16x32x320 (m ((d.tc : Thread nD τ).loc main_arg0)) shapeCasts_S16384x20_S2x16x32x320) slices_S2x16x32x320_S1x16x32x320_0_0_0_0) shapeCasts_S1x16x32x320_S16x32x320 := by
  unfold val1 hostA
  after_results
  rfl

end Cert.Proof

end
-- ==== Proof.Tasks.lean ====
/-
  A SparseCore call's operands dealt to its thirty-two tiles and gathered from them, and a tile's body from its share.
-/
module

public import proofs.«01_k».proof.Proof.Host

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => RES F

theorem equal_of {P Q : sProp 𝕄} (h : P ⊢ Q) (h' : Q ⊢ P) : P = Q := BI.Entails.antisymm h h'
theorem via {P Q R : sProp 𝕄} (h : P ⊢ Q) (h' : Q ⊢ R) : P ⊢ R := BI.Entails.trans h h'

/-! ## Dealing three buffers to the tiles -/

/-- A tile's coordinates. -/
def coordsOf (c : Fin 2) (i : Fin 16) : grid0.Coords :=
  fun | 0 => c | 1 => i | ⟨_ + 2, h⟩ => absurd h (Nat.not_lt.2 (Nat.le_add_left _ _))

/-- A tile's share of a buffer every tile reads. -/
def shareOf (c : Fin 2) (i : Fin 16) : PosShare TreeShare := dealOf (dealOf fullShare Finset.univ c) Finset.univ i

theorem shares (ℓ : Loc nD τ sig) (f : Buf (Elt F) ℓ) :
    (ℓ ↦{fullShare} f : sProp 𝕄) = bigSep Finset.univ fun c : Fin 2 => bigSep Finset.univ fun i : Fin 16 => ℓ ↦{shareOf c i} f := by
  rw [pointsTo_deal (Finset.univ : Finset (Fin 2)) ⟨0, Finset.mem_univ _⟩]
  exact bigSep_congr fun c _ => pointsTo_deal (Finset.univ : Finset (Fin 16)) ⟨0, Finset.mem_univ _⟩ _

theorem halves (ℓ : Loc nD τ sig) (f : Buf (Elt F) ℓ) (q : PosShare TreeShare) :
    (ℓ ↦{q} f : sProp 𝕄) = iprop((ℓ ↦{q.left} f) ∗ (ℓ ↦{q.right} f)) :=
  BI.Entails.antisymm (pointsTo_share (PosShare.mem_left_op_right q)).1 (pointsTo_share (PosShare.mem_left_op_right q)).2

section
variable {ℓX ℓY ℓO : Loc nD τ sig} (X : Buf (Elt F) ℓX) (Y : Buf (Elt F) ℓY) (A : Fin 2 → Fin 16 → Fin 32 → Finset (Idx ℓO)) (g : Buf (Elt F) ℓO)

/-- What a tile is lent: two shares of the indices, a share of the table, and its own places of the result. -/
def Lent (c : Fin 2) (i : Fin 16) : sProp 𝕄 :=
  iprop(((ℓX ↦{(shareOf c i).left} X) ∗ (ℓX ↦{(shareOf c i).right} X) ∗ (ℓY ↦{shareOf c i} Y))
    ∗ bigSep Finset.univ fun n : Fin 32 => (ℓO ↦[A c i n]{fullShare} g : sProp 𝕄))

theorem deal (hd : ∀ t t' : Fin 2 × Fin 16 × Fin 32, t ≠ t' → Disjoint (A t.1 t.2.1 t.2.2) (A t'.1 t'.2.1 t'.2.2))
    (hc : ∀ x, ∃ t : Fin 2 × Fin 16 × Fin 32, x ∈ A t.1 t.2.1 t.2.2) :
    iprop((ℓX ↦{fullShare} X) ∗ (ℓY ↦{fullShare} Y) ∗ (ℓO ↦{fullShare} g))
      = (bigSep Finset.univ fun c : Fin 2 => bigSep Finset.univ fun i : Fin 16 => Lent X Y A g c i : sProp 𝕄) := by
  have hO : (ℓO ↦{fullShare} g : sProp 𝕄)
      = bigSep Finset.univ fun c : Fin 2 => bigSep Finset.univ fun i : Fin 16 => bigSep Finset.univ fun n : Fin 32 => ℓO ↦[A c i n]{fullShare} g := by
    have hu : (Finset.univ : Finset (Idx ℓO)) = (Finset.univ : Finset (Fin 2 × Fin 16 × Fin 32)).biUnion fun t => A t.1 t.2.1 t.2.2 := by
      ext x
      obtain ⟨t, ht⟩ := hc x
      exact ⟨fun _ => Finset.mem_biUnion.mpr ⟨t, Finset.mem_univ _, ht⟩, fun _ => Finset.mem_univ _⟩
    rw [hu, pointsTo_biUnion _ _ fun t _ t' _ h => hd t t' h, bigSep_univ_prod]
    exact bigSep_congr fun c _ => bigSep_univ_prod _
  have hX : (ℓX ↦{fullShare} X : sProp 𝕄)
      = bigSep Finset.univ fun c : Fin 2 => bigSep Finset.univ fun i : Fin 16 => iprop((ℓX ↦{(shareOf c i).left} X) ∗ (ℓX ↦{(shareOf c i).right} X)) := by
    rw [shares ℓX]
    exact bigSep_congr fun c _ => bigSep_congr fun i _ => halves ℓX X _
  rw [hX, shares ℓY, hO]
  unfold Lent
  simp only [bigSep_sep']
  refine equal_of ?_ ?_
  · iintro ⟨⟨H1, H2⟩, H3, H4⟩
    isplitr [H4]
    · isplitl [H1]; · iexact H1
      isplitl [H2] <;> iassumption
    · iexact H4
  · iintro ⟨⟨H1, H2, H3⟩, H4⟩
    isplitl [H1 H2]
    · isplitl [H1] <;> iassumption
    isplitl [H3] <;> iassumption
end

/-! ## The places of the result -/

theorem places_disjoint (t t' : Fin 2 × Fin 16 × Fin 32) (h : t ≠ t') :
    Disjoint (outRect (coordsOf t.1 t.2.1) t.2.2.val) (outRect (coordsOf t'.1 t'.2.1) t'.2.2.val) := by
  refine Finset.disjoint_left.mpr fun x h1 h2 => h ?_
  obtain ⟨-, a0, a1, a2⟩ := Finset.mem_filter.mp h1
  obtain ⟨-, b0, b1, b2⟩ := Finset.mem_filter.mp h2
  obtain ⟨c, i, n⟩ := t
  obtain ⟨c', i', n'⟩ := t'
  have a0 : (x 0).val = c.val := a0
  have b0 : (x 0).val = c'.val := b0
  have a1 : (i.val * 32 + n.val) * 1024 ≤ (x 1).val := a1
  have a2 : (x 1).val < (i.val * 32 + n.val) * 1024 + 1024 := a2
  have b1 : (i'.val * 32 + n'.val) * 1024 ≤ (x 1).val := b1
  have b2 : (x 1).val < (i'.val * 32 + n'.val) * 1024 + 1024 := b2
  have := n.isLt
  have := n'.isLt
  have e1 : c = c' := Fin.ext (a0.symm.trans b0)
  have e2 : i = i' := Fin.ext (by omega)
  have e3 : n = n' := Fin.ext (by omega)
  rw [e1, e2, e3]

theorem places_cover (x : S2x524288.Idx) : ∃ t : Fin 2 × Fin 16 × Fin 32, x ∈ outRect (coordsOf t.1 t.2.1) t.2.2.val := by
  have h0 : (x 0).val < 2 := (x 0).isLt
  have h1 : (x 1).val < 524288 := (x 1).isLt
  refine ⟨(⟨(x 0).val, h0⟩, ⟨(x 1).val / 32768, by omega⟩, ⟨(x 1).val / 1024 % 32, by omega⟩), Finset.mem_filter.mpr ⟨Finset.mem_univ _, rfl, ?_, ?_⟩⟩
  · show ((x 1).val / 32768 * 32 + (x 1).val / 1024 % 32) * 1024 ≤ (x 1).val
    omega
  · show (x 1).val < ((x 1).val / 32768 * 32 + (x 1).val / 1024 % 32) * 1024 + 1024
    omega

/-! ## A tile's own storage -/

theorem regroup (P0 P1 P2 P3 P4 R : sProp 𝕄) : iprop(P0 ∗ P1 ∗ P2 ∗ P3 ∗ P4 ∗ R) = iprop((P0 ∗ P1 ∗ P2 ∗ P3 ∗ P4) ∗ R) := by
  refine equal_of ?_ ?_
  · iintro ⟨H0, H1, H2, H3, H4, HR⟩
    isplitr [HR]
    · isplitl [H0]; · iexact H0
      isplitl [H1]; · iexact H1
      isplitl [H2]; · iexact H2
      isplitl [H3] <;> iassumption
    · iexact HR
  · iintro ⟨⟨H0, H1, H2, H3, H4⟩, HR⟩
    isplitl [H0]; · iexact H0
    isplitl [H1]; · iexact H1
    isplitl [H2]; · iexact H2
    isplitl [H3]; · iexact H3
    isplitl [H4] <;> iassumption

section
variable (d : Dev nD) (c : Fin τ.nSC) (s : Fin τ.nSub)

theorem own_five_sems (a0 a1 a2 a3 a4 : DmaSem sig) (hs : ∀ a ∈ [a0, a1, a2, a3, a4], (SemLoc.dma a : SemLoc sig).isScoped .scVector = true)
    (hn : [a0, a1, a2, a3, a4].Nodup) : ∃ R : sProp 𝕄, (ownSems0 (V d c s) : sProp 𝕄) =
      iprop((semVal (V d c s, .dma a0) 0 ∗ semVal (V d c s, .dma a1) 0 ∗ semVal (V d c s, .dma a2) 0 ∗ semVal (V d c s, .dma a3) 0 ∗ semVal (V d c s, .dma a4) 0) ∗ R) := by
  have hm (a) (ha : a ∈ [a0, a1, a2, a3, a4]) : ((V d c s, .dma a) : GSem nD τ sig) ∈ ownCells (V d c s) := mem_ownCells.mpr ⟨rfl, hs a ha⟩
  have hne {a b : DmaSem sig} (h : a ≠ b) : ((V d c s, .dma a) : GSem nD τ sig) ≠ (V d c s, .dma b) := fun e => h (SemLoc.dma.inj (Prod.mk.inj e).2)
  simp only [List.nodup_cons, List.mem_cons, List.not_mem_nil, or_false, not_or, List.nodup_nil, and_true, not_false_eq_true] at hn
  obtain ⟨⟨h01, h02, h03, h04⟩, ⟨h12, h13, h14⟩, ⟨h23, h24⟩, h34⟩ := hn
  refine ⟨bigSep ((((((ownCells (V d c s)).erase (V d c s, .dma a0)).erase (V d c s, .dma a1)).erase (V d c s, .dma a2)).erase (V d c s, .dma a3)).erase (V d c s, .dma a4))
    fun g => semVal g 0, ?_⟩
  unfold ownSems0
  rw [SparseCore.bigSep_erase' (hm a0 (by simp)),
    SparseCore.bigSep_erase' (Finset.mem_erase.mpr ⟨hne (Ne.symm h01), hm a1 (by simp)⟩),
    SparseCore.bigSep_erase' (Finset.mem_erase.mpr ⟨hne (Ne.symm h12), Finset.mem_erase.mpr ⟨hne (Ne.symm h02), hm a2 (by simp)⟩⟩),
    SparseCore.bigSep_erase' (Finset.mem_erase.mpr ⟨hne (Ne.symm h23), Finset.mem_erase.mpr ⟨hne (Ne.symm h13), Finset.mem_erase.mpr ⟨hne (Ne.symm h03), hm a3 (by simp)⟩⟩⟩),
    SparseCore.bigSep_erase' (Finset.mem_erase.mpr ⟨hne (Ne.symm h34), Finset.mem_erase.mpr ⟨hne (Ne.symm h24), Finset.mem_erase.mpr ⟨hne (Ne.symm h14),
      Finset.mem_erase.mpr ⟨hne (Ne.symm h04), hm a4 (by simp)⟩⟩⟩⟩)]
  exact regroup _ _ _ _ _ _

theorem own_five_bufs (r0 r1 r2 r3 r4 : Ref sig .scVector) (hs : ∀ r ∈ [r0, r1, r2, r3, r4], ((Proc.scVector c s).devRef (τ := τ) r).owner = .proc (.scVector c s))
    (hn : [r0, r1, r2, r3, r4].Nodup) : ∃ R : sProp 𝕄, (ownBufs (V d c s) : sProp 𝕄) =
      iprop(((∃ f, (V d c s).loc r0 ↦{fullShare} f) ∗ (∃ f, (V d c s).loc r1 ↦{fullShare} f) ∗ (∃ f, (V d c s).loc r2 ↦{fullShare} f)
        ∗ (∃ f, (V d c s).loc r3 ↦{fullShare} f) ∗ (∃ f, (V d c s).loc r4 ↦{fullShare} f)) ∗ R) := by
  have hm (r) (hr : r ∈ [r0, r1, r2, r3, r4]) : (Proc.scVector c s).devRef (τ := τ) r ∈ ownRefs (τ := τ) (sig := sig) (.scVector c s) := mem_ownRefs_of_owner (hs r hr)
  have hne {a b : Ref sig .scVector} (h : a ≠ b) : (Proc.scVector c s).devRef (τ := τ) a ≠ (Proc.scVector c s).devRef b := fun e => h (Proc.devRef_injective _ e)
  simp only [List.nodup_cons, List.mem_cons, List.not_mem_nil, or_false, not_or, List.nodup_nil, and_true, not_false_eq_true] at hn
  obtain ⟨⟨h01, h02, h03, h04⟩, ⟨h12, h13, h14⟩, ⟨h23, h24⟩, h34⟩ := hn
  refine ⟨bigSep ((((((ownRefs (τ := τ) (sig := sig) (.scVector c s)).erase ((Proc.scVector c s).devRef r0)).erase ((Proc.scVector c s).devRef r1)).erase
    ((Proc.scVector c s).devRef r2)).erase ((Proc.scVector c s).devRef r3)).erase ((Proc.scVector c s).devRef r4))
    fun b => iprop(∃ f, (((V d c s).1, b) : Loc nD τ sig) ↦{fullShare} f), ?_⟩
  unfold ownBufs
  refine (SparseCore.bigSep_erase' (hm r0 (by simp))).trans ?_
  rw [SparseCore.bigSep_erase' (Finset.mem_erase.mpr ⟨hne (Ne.symm h01), hm r1 (by simp)⟩),
    SparseCore.bigSep_erase' (Finset.mem_erase.mpr ⟨hne (Ne.symm h12), Finset.mem_erase.mpr ⟨hne (Ne.symm h02), hm r2 (by simp)⟩⟩),
    SparseCore.bigSep_erase' (Finset.mem_erase.mpr ⟨hne (Ne.symm h23), Finset.mem_erase.mpr ⟨hne (Ne.symm h13), Finset.mem_erase.mpr ⟨hne (Ne.symm h03), hm r3 (by simp)⟩⟩⟩),
    SparseCore.bigSep_erase' (Finset.mem_erase.mpr ⟨hne (Ne.symm h34), Finset.mem_erase.mpr ⟨hne (Ne.symm h24), Finset.mem_erase.mpr ⟨hne (Ne.symm h14),
      Finset.mem_erase.mpr ⟨hne (Ne.symm h04), hm r4 (by simp)⟩⟩⟩⟩)]
  exact regroup _ _ _ _ _ _
end

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's body from what it is lent -/

section
variable (d : Dev nD) (i : grid0.Coords)
variable (arg2 : Memref sig .scVector .hbm S16x32x320 .i32) (harg2 : arg2.IsWhole) (arg3 : Memref sig .scVector .hbm S2x1000x64 .f32) (harg3 : arg3.IsWhole)
variable (arg4 : Memref sig .scVector .hbm S2x524288 .f32) (harg4 : arg4.IsWhole)
variable (tb : Memref sig .scVector .vmem S1000x64 .f32) (htb : tb.IsWhole) (ib : Memref sig .scVector .vmem S320 .i32) (hib : ib.IsWhole)
variable (ib2 : Memref sig .scVector .vmem S320 .i32) (hib2 : ib2.IsWhole) (ob : Memref sig .scVector .vmem S1024 .f32) (hob : ob.IsWhole)
variable (ob2 : Memref sig .scVector .vmem S1024 .f32) (hob2 : ob2.IsWhole) (arg10 arg11 arg12 arg13 arg14 : DmaSems sig S_)
variable (X : Buf (Elt F) (arg2.view.loc (tile d i))) (Y : Buf (Elt F) (arg3.view.loc (tile d i)))
variable (f0 G : Buf (Elt F) (arg4.view.loc (tile d i)))

/-- What a tile is lent, over the call's own operands. -/
def LentAt (q : PosShare TreeShare) (g : Buf (Elt F) (arg4.view.loc (tile d i))) : sProp 𝕄 :=
  iprop(((arg2.view.loc (tile d i) ↦{q.left} X) ∗ (arg2.view.loc (tile d i) ↦{q.right} X) ∗ (arg3.view.loc (tile d i) ↦{q} Y))
    ∗ bigSep Finset.univ fun n : Fin 32 => (arg4.view.loc (tile d i) ↦[outSet d i arg4 n.val]{fullShare} g : sProp 𝕄))

theorem tile_task (hX : ∀ x, (arg2.view.read (Elt F) X x).toNat < 1000)
    (hG : ∀ x, arg4.view.read (Elt F) G x = goal (arg2.view.read (Elt F) X) (arg3.view.read (Elt F) Y) x)
    (hb : ∃ R : sProp 𝕄, (ownBufs (tile d i) : sProp 𝕄) =
      iprop(((∃ f, tb.view.loc (tile d i) ↦{fullShare} f) ∗ (∃ f, ib.view.loc (tile d i) ↦{fullShare} f) ∗ (∃ f, ib2.view.loc (tile d i) ↦{fullShare} f)
        ∗ (∃ f, ob.view.loc (tile d i) ↦{fullShare} f) ∗ (∃ f, ob2.view.loc (tile d i) ↦{fullShare} f)) ∗ R))
    (hs : ∃ R : sProp 𝕄, (ownSems0 (tile d i) : sProp 𝕄) =
      iprop((semVal (tile d i, .dma arg10.sem) 0 ∗ semVal (tile d i, .dma arg11.sem) 0 ∗ semVal (tile d i, .dma arg12.sem) 0
        ∗ semVal (tile d i, .dma arg13.sem) 0 ∗ semVal (tile d i, .dma arg14.sem) 0) ∗ R))
    (q : PosShare TreeShare) (O : CellTallies nD τ sig (HIx 2)) (W : Waits sig (HIx 2)) (hO : ∀ g, O g none = 0) :
    iprop(levAts (K (F := F)).L (K (F := F)).lev ∗ BI.emp ∗ LentAt d i arg2 arg3 arg4 X Y q f0 ∗ scopedBufs (tile d i) ∗ scopedSems0 (tile d i) ∗ owes (tile d i) O W)
      ⊢ wp frame (wpE (defs₀ (F := F)) 𝒱₀ (tile d i) none) Set.univ
        (cc0__pool_body (F := F) i arg2 harg2 arg3 harg3 arg4 harg4 tb htb ib hib ib2 hib2 ob hob ob2 hob2 arg10 arg11 arg12 arg13 arg14)
        (fun _ => iprop(LentAt d i arg2 arg3 arg4 X Y q G ∗ scopedBufs (tile d i) ∗ scopedSems0 (tile d i)
          ∗ ∃ W' : Waits sig (HIx 2), ⌜∀ p ∈ W', p ∈ W ∨ p.2 = none⌝ ∗ owes (tile d i) O W')) := by
  obtain ⟨Rb, hb⟩ := hb
  obtain ⟨Rs, hs⟩ := hs
  rw [show (scopedBufs (tile d i) : sProp 𝕄) = ownBufs (tile d i) from (K (F := F)).scopedBufs_V facts d _ _,
    show (scopedSems0 (tile d i) : sProp 𝕄) = ownSems0 (tile d i) from scopedSems0_V d _ _, hb, hs]
  unfold LentAt
  refine via ?_ (wp_mono frame _ _ (Q := fun _ => iprop(Around d i arg2 arg3 arg4 tb ib ib2 ob ob2 arg10 arg11 arg12 arg13 arg14 X Y q.left q.right q G O W ∗ (Rb ∗ Rs))) fun _ => ?_)
  · refine via ?_ (wp_frame_r _ _ _)
    refine via ?_ (sep_mono_left (body d i arg2 harg2 arg3 harg3 arg4 harg4 tb htb ib hib ib2 hib2 ob hob ob2 hob2 arg10 arg11 arg12 arg13 arg14 X Y f0 G hX hG))
    unfold Around Owed
    iintro ⟨#HL, -, ⟨HX, Hout⟩, ⟨Hb, HRb⟩, ⟨Hs, HRs⟩, HO⟩
    isplitr [HRb HRs]
    · isplitr
      · iapply ((K (F := F)).mayWaits_none hO) $$ HL
      isplitl [HX]; · iexact HX
      isplitl [Hb]; · iexact Hb
      isplitl [Hs]; · iexact Hs
      isplitl [Hout]; · iexact Hout
      iexists W
      isplitr
      · ipureintro; exact fun p hp => Or.inl hp
      iexact HO
    · isplitl [HRb] <;> iassumption
  · unfold Around Owed
    iintro ⟨⟨HX, Hb, Hs, Hout, HO⟩, HRb, HRs⟩
    isplitl [HX Hout]
    · isplitl [HX] <;> iassumption
    isplitl [Hb HRb]
    · isplitl [Hb] <;> iassumption
    isplitl [Hs HRs]
    · isplitl [Hs] <;> iassumption
    iexact HO
end

/-! ## The two calls -/

section
variable (d : Dev nD) (c : Fin 2) (s : Fin 16)

theorem sems0 : ∃ R : sProp 𝕄, (ownSems0 (tile d (coordsOf c s)) : sProp 𝕄) =
      iprop((semVal (tile d (coordsOf c s), .dma cc0_scratch5.sem) 0 ∗ semVal (tile d (coordsOf c s), .dma cc0_scratch6.sem) 0 ∗ semVal (tile d (coordsOf c s), .dma cc0_scratch7.sem) 0 ∗ semVal (tile d (coordsOf c s), .dma cc0_scratch8.sem) 0 ∗ semVal (tile d (coordsOf c s), .dma cc0_scratch9.sem) 0) ∗ R) :=
  own_five_sems d _ _ cc0_scratch5.sem cc0_scratch6.sem cc0_scratch7.sem cc0_scratch8.sem cc0_scratch9.sem (by decide) (by decide)
theorem bufs0 : ∃ R : sProp 𝕄, (ownBufs (tile d (coordsOf c s)) : sProp 𝕄) =
      iprop(((∃ f, (Memref.whole cc0_scratch0).view.loc (tile d (coordsOf c s)) ↦{fullShare} f) ∗ (∃ f, (Memref.whole cc0_scratch1).view.loc (tile d (coordsOf c s)) ↦{fullShare} f) ∗ (∃ f, (Memref.whole cc0_scratch2).view.loc (tile d (coordsOf c s)) ↦{fullShare} f) ∗ (∃ f, (Memref.whole cc0_scratch3).view.loc (tile d (coordsOf c s)) ↦{fullShare} f) ∗ (∃ f, (Memref.whole cc0_scratch4).view.loc (tile d (coordsOf c s)) ↦{fullShare} f)) ∗ R) :=
  own_five_bufs d _ _ cc0_scratch0 cc0_scratch1 cc0_scratch2 cc0_scratch3 cc0_scratch4 (fun r h => by
    simp only [List.mem_cons, List.not_mem_nil, or_false] at h
    rcases h with rfl | rfl | rfl | rfl | rfl <;> rfl) (by decide)
theorem sems2 : ∃ R : sProp 𝕄, (ownSems0 (tile d (coordsOf c s)) : sProp 𝕄) =
      iprop((semVal (tile d (coordsOf c s), .dma cc2_scratch5.sem) 0 ∗ semVal (tile d (coordsOf c s), .dma cc2_scratch6.sem) 0 ∗ semVal (tile d (coordsOf c s), .dma cc2_scratch7.sem) 0 ∗ semVal (tile d (coordsOf c s), .dma cc2_scratch8.sem) 0 ∗ semVal (tile d (coordsOf c s), .dma cc2_scratch9.sem) 0) ∗ R) :=
  own_five_sems d _ _ cc2_scratch5.sem cc2_scratch6.sem cc2_scratch7.sem cc2_scratch8.sem cc2_scratch9.sem (by decide) (by decide)
theorem bufs2 : ∃ R : sProp 𝕄, (ownBufs (tile d (coordsOf c s)) : sProp 𝕄) =
      iprop(((∃ f, (Memref.whole cc2_scratch0).view.loc (tile d (coordsOf c s)) ↦{fullShare} f) ∗ (∃ f, (Memref.whole cc2_scratch1).view.loc (tile d (coordsOf c s)) ↦{fullShare} f) ∗ (∃ f, (Memref.whole cc2_scratch2).view.loc (tile d (coordsOf c s)) ↦{fullShare} f) ∗ (∃ f, (Memref.whole cc2_scratch3).view.loc (tile d (coordsOf c s)) ↦{fullShare} f) ∗ (∃ f, (Memref.whole cc2_scratch4).view.loc (tile d (coordsOf c s)) ↦{fullShare} f)) ∗ R) :=
  own_five_bufs d _ _ cc2_scratch0 cc2_scratch1 cc2_scratch2 cc2_scratch3 cc2_scratch4 (fun r h => by
    simp only [List.mem_cons, List.not_mem_nil, or_false] at h
    rcases h with rfl | rfl | rfl | rfl | rfl <;> rfl) (by decide)

theorem places0 (n : ℕ) : outSet d (coordsOf c s) (Memref.whole main_v13_scv) n = outRect (coordsOf c s) n := Finset.map_refl
theorem places2 (n : ℕ) : outSet d (coordsOf c s) (Memref.whole main_v24_scv) n = outRect (coordsOf c s) n := Finset.map_refl
end

end Cert.Proof

end
-- ==== Proof.Launch.lean ====
/-
  The program run: what each SparseCore call's threads are given and give back, the obligations of the launch, and the
  host lines and calls in order.
-/
module

public import proofs.«01_k».proof.Proof.Tasks

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => RES F

abbrev D : Defs nD τ sig (Elt F) (ΛP (F := F)) := Pipeline.defs pcfgs defs₀
abbrev 𝒱 : Variants := 𝒱₀.lift
abbrev v₀ : 𝒱.V := Sum.inl none

def EH : Emb UH 𝕄 := (Emb.inl : Emb UH UU).trans (uEmb (nD := nD) (sig := sig) (Ix := HIx 2) (Val := Elt F) (Name := ℕ) (U := UU) (Lvl := ℕ)).toEmb
instance : (EH (F := F)).LandsIn upEmb := by unfold EH; infer_instance
def EP : Emb UP 𝕄 := ((Emb.inl : Emb UP (UP × Counters)).trans (Emb.inr : Emb (UP × Counters) UU)).trans
  (uEmb (nD := nD) (sig := sig) (Ix := HIx 2) (Val := Elt F) (Name := ℕ) (U := UU) (Lvl := ℕ)).toEmb
instance : (EP (F := F)).LandsIn upEmb := by unfold EP; infer_instance

abbrev adm : (p : Fin 2) → (pcfgs (F := F) p).Adm := fun p => (cfgs p).toPCfg_adm

theorem cores (q : Fin 2) : (K (F := F)).nCore q = 2 := by fin_cases q <;> rfl
theorem tiles (q : Fin 2) : (K (F := F)).nSub q = 16 := by fin_cases q <;> rfl

variable (m : (ℓ : Loc nD τ sig) → Buf (Elt F) ℓ)

/-! ## What the calls' threads are given and give back -/

/-- A TensorCore buffer's location. -/
abbrev tcLoc (d : Dev nD) (b : Ref sig .tc) : Loc nD τ sig := (d.tc : Thread nD τ).loc b

/-- The places a tile writes. -/
abbrev spots (c : Fin 2) (i : Fin 16) (n : Fin 32) : Finset S2x524288.Idx := outRect (coordsOf c i) n.val

/-- A tile's share of a call, its places of the result at the given contents. -/
def given (q : Fin 2) (d : Dev nD) (c : Fin 2) (i : Fin 16) : sProp 𝕄 :=
  match q with
  | 0 => Lent (ℓX := tcLoc d main_v12) (ℓY := tcLoc d main_v2) (ℓO := tcLoc d main_v13) (val1 m d main_v12) (val1 m d main_v2) spots (val1 m d main_v13) c i
  | 1 => Lent (ℓX := tcLoc d main_v23_0) (ℓY := tcLoc d main_v2) (ℓO := tcLoc d main_v24) (val5 m d main_v23_0) (val5 m d main_v2) spots (val5 m d main_v24) c i

/-- The same given back, the places at the sums. -/
def giving (q : Fin 2) (d : Dev nD) (c : Fin 2) (i : Fin 16) : sProp 𝕄 :=
  match q with
  | 0 => Lent (ℓX := tcLoc d main_v12) (ℓY := tcLoc d main_v2) (ℓO := tcLoc d main_v13) (val1 m d main_v12) (val1 m d main_v2) spots
      (sums (val1 m d main_v12) (val1 m d main_v2)) c i
  | 1 => Lent (ℓX := tcLoc d main_v23_0) (ℓY := tcLoc d main_v2) (ℓO := tcLoc d main_v24) (val5 m d main_v23_0) (val5 m d main_v2) spots
      (sums (val5 m d main_v23_0) (val5 m d main_v2)) c i

instance lent_storable {ℓX ℓY ℓO : Loc nD τ sig} (X : Buf (Elt F) ℓX) (Y : Buf (Elt F) ℓY) (A : Fin 2 → Fin 16 → Fin 32 → Finset (Idx ℓO)) (g : Buf (Elt F) ℓO)
    (c : Fin 2) (i : Fin 16) : BI.Storable (upEmb : UEmb _ 𝕄) (Lent X Y A g c i) := by
  unfold Lent; infer_instance
instance given_storable (q d c i) : BI.Storable (upEmb : UEmb _ 𝕄) (given m q d c i) := by
  fin_cases q <;> exact lent_storable _ _ _ _ _ _
instance giving_storable (q d c i) : BI.Storable (upEmb : UEmb _ 𝕄) (giving m q d c i) := by
  fin_cases q <;> exact lent_storable _ _ _ _ _ _

def P : (K (F := F)).Pay (nD := nD) (Val := Elt F) (Name := ℕ) (U := UU) where
  st := fun q d c => bigSep Finset.univ fun i : Fin ((K (F := F)).nSub q) => given m q d (Fin.cast (cores q) c) (Fin.cast (tiles q) i)
  dn := fun q d c => bigSep Finset.univ fun i : Fin ((K (F := F)).nSub q) => giving m q d (Fin.cast (cores q) c) (Fin.cast (tiles q) i)
  go := fun q d c i => given m q d (Fin.cast (cores q) c) (Fin.cast (tiles q) i)
  td := fun q d c i => giving m q d (Fin.cast (cores q) c) (Fin.cast (tiles q) i)
  x := fun _ _ => iprop(emp)

instance P_storable : (P (F := F) m).IsStorable where
  st q d c := (inferInstance : BI.Storable (upEmb : UEmb _ 𝕄) (bigSep Finset.univ fun i : Fin ((K (F := F)).nSub q) => given m q d (Fin.cast (cores q) c) (Fin.cast (tiles q) i)))
  dn q d c := (inferInstance : BI.Storable (upEmb : UEmb _ 𝕄) (bigSep Finset.univ fun i : Fin ((K (F := F)).nSub q) => giving m q d (Fin.cast (cores q) c) (Fin.cast (tiles q) i)))
  go q d c i := given_storable m q d _ _
  td q d c i := giving_storable m q d _ _

theorem vecSplit (q : Fin 2) : (K (F := F)).VecSplit' (P m) q := by
  intro d c
  show (bigSep Finset.univ fun i => (P m).go q d c i) ⊢ |={Set.univ}=> iprop((bigSep Finset.univ fun i => (P m).go q d c i)
    ∗ ((bigSep Finset.univ fun i => (P m).td q d c i) -∗ bigSep Finset.univ fun i => (P m).td q d c i))
  iintro H
  imodintro
  isplitl [H]; · iexact H
  iintro H; iexact H

/-! ## The tiles' obligations -/

theorem obl_post {thr : Thread nD τ} {A B C : sProp 𝕄} {O : CellTallies nD τ sig (HIx 2)} {W : Waits sig (HIx 2)} {q : Fin 2} :
    iprop(A ∗ B ∗ C ∗ ∃ W' : Waits sig (HIx 2), ⌜∀ p ∈ W', p ∈ W ∨ p.2 = none⌝ ∗ owes thr O W')
      ⊢ iprop(A ∗ B ∗ C ∗ ∃ W' : Waits sig (HIx 2), ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_first (c : Fin τ.nSC) (s : Fin τ.nSub) :
    defs₀ (F := F) (.scVector c s) 0 () = SparseCore.onTile hcore0 hsub0 (fun c s => cc0__pool_body (coordsOf c s)
      (Memref.whole main_v12_scv) (Memref.isWhole_whole _) (Memref.whole main_v2_scv) (Memref.isWhole_whole _) (Memref.whole main_v13_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9) ⟨⟩ c s := rfl
theorem defs₀_second (c : Fin τ.nSC) (s : Fin τ.nSub) :
    defs₀ (F := F) (.scVector c s) 2 () = SparseCore.onTile hcore2 hsub2 (fun c s => cc2__pool_body (coordsOf c s)
      (Memref.whole main_v23_0_scv) (Memref.isWhole_whole _) (Memref.whole main_v2_scv) (Memref.isWhole_whole _) (Memref.whole main_v24_scv) (Memref.isWhole_whole _)
      (Memref.whole cc2_scratch0) (Memref.isWhole_whole _) (Memref.whole cc2_scratch1) (Memref.isWhole_whole _) (Memref.whole cc2_scratch2) (Memref.isWhole_whole _)
      (Memref.whole cc2_scratch3) (Memref.isWhole_whole _) (Memref.whole cc2_scratch4) (Memref.isWhole_whole _) cc2_scratch5 cc2_scratch6 cc2_scratch7 cc2_scratch8 cc2_scratch9) ⟨⟩ c s := rfl

/-- What the launch memory must say: both calls' indices are rows of the table. -/
structure Fits : Prop where
  first : ∀ d x, (val1 m d main_v12 x).toNat < 1000
  second : ∀ d x, (val5 m d main_v23_0 x).toNat < 1000

variable {m}

theorem tileObl0 (h : Fits m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_first]; simp only [SparseCore.onTile, hc, _root_.and_self, ↓reduceDIte]
  have key :=
    tile_task d (coordsOf ⟨_, hc.1⟩ ⟨_, hc.2⟩) (Memref.whole main_v12_scv) (Memref.isWhole_whole _) (Memref.whole main_v2_scv) (Memref.isWhole_whole _) (Memref.whole main_v13_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9
      (val1 m d main_v12) (val1 m d main_v2) (val1 m d main_v13) (sums (val1 m d main_v12) (val1 m d main_v2)) (h.first d) (fun _ => rfl)
      (bufs0 d ⟨_, hc.1⟩ ⟨_, hc.2⟩) (sems0 d ⟨_, hc.1⟩ ⟨_, hc.2⟩) (shareOf ⟨_, hc.1⟩ ⟨_, hc.2⟩) O W hO
  unfold LentAt at key
  simp only [places0] at key
  exact key.trans (wp_mono frame _ _ fun _ => obl_post)

theorem tileObl1 (h : Fits m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_second]; simp only [SparseCore.onTile, hc, _root_.and_self, ↓reduceDIte]
  rw [calls_eq]
  have key :=
    tile_task d (coordsOf ⟨_, hc.1⟩ ⟨_, hc.2⟩) (Memref.whole main_v23_0_scv) (Memref.isWhole_whole _) (Memref.whole main_v2_scv) (Memref.isWhole_whole _) (Memref.whole main_v24_scv) (Memref.isWhole_whole _)
      (Memref.whole cc2_scratch0) (Memref.isWhole_whole _) (Memref.whole cc2_scratch1) (Memref.isWhole_whole _) (Memref.whole cc2_scratch2) (Memref.isWhole_whole _)
      (Memref.whole cc2_scratch3) (Memref.isWhole_whole _) (Memref.whole cc2_scratch4) (Memref.isWhole_whole _) cc2_scratch5 cc2_scratch6 cc2_scratch7 cc2_scratch8 cc2_scratch9
      (val5 m d main_v23_0) (val5 m d main_v2) (val5 m d main_v24) (sums (val5 m d main_v23_0) (val5 m d main_v2)) (h.second d) (fun _ => rfl)
      (bufs2 d ⟨_, hc.1⟩ ⟨_, hc.2⟩) (sems2 d ⟨_, hc.1⟩ ⟨_, hc.2⟩) (shareOf ⟨_, hc.1⟩ ⟨_, hc.2⟩) O W hO
  unfold LentAt at key
  simp only [places2] at key
  exact key.trans (wp_mono frame _ _ fun _ => obl_post)

end Cert.Proof

end
-- ==== Proof.Main.lean ====
/-
  The program from its launch: host lines, SparseCore calls and arg-max calls in order, each from the buffers the one
  before left, to every buffer's final contents.
-/
module

public import proofs.«01_k».proof.Proof.Launch

@[expose] public section

noncomputable section

namespace Cert.Proof

open Cert.KernelIdeal Cert.KernelIdeal.Gen

open Idealize.ShloMosaic Idealize.ShloMosaic.TcCoe
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => RES F

variable (m : (ℓ : Loc nD τ sig) → Buf (Elt F) ℓ) (ρ : Dev nD → PrngReg)

/-- Where a device's TensorCore stands: between regions, the first calls behind it, every buffer at known contents. -/
def At (d : Dev nD) (n : ℕ) (V : Valuation τ sig (Elt F)) : sProp 𝕄 :=
  iprop(boundary (SparseCore.T d) ∗ (K (F := F)).tcSt EH d n ∗ StableHlo.held (SparseCore.T d) (Pipeline.ucRefs τ sig) V)

/-- What is to run on a device's TensorCore, and after it. -/
abbrev Runs (d : Dev nD) (k : Prog (TpuEff nD τ sig (Elt F) (SparseCore.Sig (ΛP (F := F)) 2) .tc) PUnit) (Q : PUnit → sProp 𝕄) : sProp 𝕄 :=
  wp frame (wpE ((K (F := F)).defs (D (F := F))) 𝒱 (SparseCore.T d) none) Set.univ k Q

set_option backward.isDefEq.respectTransparency.types false in
theorem host_step (d : Dev nD) (n : ℕ) (ops : List (HloOp τ sig (Elt F))) (hb : ∀ op ∈ ops, op.bufs ⊆ Pipeline.ucRefs τ sig) (hf : ∀ op ∈ ops, op.fresh = ∅)
    (V : Valuation τ sig (Elt F)) (k : Prog (TpuEff nD τ sig (Elt F) (SparseCore.Sig (ΛP (F := F)) 2) .tc) PUnit) (Q : PUnit → sProp 𝕄) :
    iprop(At d n V ∗ (At d n (StableHlo.after ops V) -∗ Runs d k Q)) ⊢ Runs d (StableHlo.seqK ops k) Q := by
  unfold Runs
  rw [← StableHlo.seq_bind_seqK]
  unfold At
  iintro ⟨⟨Hb, Hst, Hh⟩, Hk⟩
  iapply (StableHlo.wp_seq 𝒱 none Set.univ d (Pipeline.ucRefs τ sig) (fun _ => k) ops hb hf V) $$ [Hb Hh]
  · isplitl [Hb] <;> iassumption
  iintro ⟨Hb, Hh⟩
  iapply Hk
  isplitl [Hb]; · iexact Hb
  isplitl [Hst] <;> iassumption

/-! ## A SparseCore call -/

theorem unscoped_mem (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

section
variable (d : Dev nD) (r1 r2 r3 : Ref sig .tc) (h1 : ¬ (Proc.devRef .tc r1 : DevRef τ sig).isScoped) (h2 : ¬ (Proc.devRef .tc r2 : DevRef τ sig).isScoped)
  (h3 : ¬ (Proc.devRef .tc r3 : DevRef τ sig).isScoped) (h12 : r1 ≠ r2) (h13 : r1 ≠ r3) (h23 : r2 ≠ r3)

/-- Three buffers among all. -/
abbrev trio : Finset (DevRef τ sig) := {Proc.devRef .tc r1, Proc.devRef .tc r2, Proc.devRef .tc r3}

include h1 h2 h3 h12 h13 h23 in
theorem three_out (V : Valuation τ sig (Elt F)) : (StableHlo.held (SparseCore.T d) (Pipeline.ucRefs τ sig) V : sProp 𝕄) =
    iprop(((tcLoc d r1 ↦{fullShare} V r1) ∗ (tcLoc d r2 ↦{fullShare} V r2) ∗ (tcLoc d r3 ↦{fullShare} V r3))
      ∗ StableHlo.held (SparseCore.T d) (Pipeline.ucRefs τ sig \ trio r1 r2 r3) V) := by
  have hne {a b : Ref sig .tc} (h : a ≠ b) : (Proc.devRef .tc a : DevRef τ sig) ≠ Proc.devRef .tc b := fun e => h (Proc.devRef_injective _ e)
  rw [StableHlo.held_sub_split (SparseCore.T d) (T := trio r1 r2 r3) (S := Pipeline.ucRefs τ sig) (by
    intro b hb
    simp only [Finset.mem_insert, Finset.mem_singleton] at hb
    rcases hb with rfl | rfl | rfl
    · exact unscoped_mem r1 h1
    · exact unscoped_mem r2 h2
    · exact unscoped_mem r3 h3) V]
  congr 1
  unfold StableHlo.held trio
  rw [SparseCore.bigSep_insert' (by
      simp only [Finset.mem_insert, Finset.mem_singleton, not_or]; exact ⟨hne h12, hne h13⟩),
    SparseCore.bigSep_insert' (by simp only [Finset.mem_singleton]; exact hne h23), bigSep_singleton]

include h1 h2 h3 h12 h13 h23 in
theorem three_back (V : Valuation τ sig (Elt F)) (g : Buf (Elt F) (tcLoc d r3)) :
    (StableHlo.held (SparseCore.T d) (Pipeline.ucRefs τ sig) (Function.update V (Proc.devRef .tc r3) g) : sProp 𝕄) =
    iprop(((tcLoc d r1 ↦{fullShare} V r1) ∗ (tcLoc d r2 ↦{fullShare} V r2) ∗ (tcLoc d r3 ↦{fullShare} g))
      ∗ StableHlo.held (SparseCore.T d) (Pipeline.ucRefs τ sig \ trio r1 r2 r3) V) := by
  have hne {a b : Ref sig .tc} (h : a ≠ b) : (Proc.devRef .tc a : DevRef τ sig) ≠ Proc.devRef .tc b := fun e => h (Proc.devRef_injective _ e)
  rw [three_out d r1 r2 r3 h1 h2 h3 h12 h13 h23, Function.update_self, Function.update_of_ne (hne h13), Function.update_of_ne (hne h23)]
  congr 1
  refine StableHlo.held_congr _ fun b hb => Function.update_of_ne ?_ _ _
  rintro rfl
  exact (Finset.mem_sdiff.mp hb).2 (by simp)
end

theorem given_first (d : Dev nD) : (bigSep Finset.univ fun c : Fin ((K (F := F)).nCore 0) => (P m).st 0 d c) =
    iprop((tcLoc d main_v12 ↦{fullShare} val1 m d main_v12) ∗ (tcLoc d main_v2 ↦{fullShare} val1 m d main_v2) ∗ (tcLoc d main_v13 ↦{fullShare} val1 m d main_v13)) :=
  (deal (ℓX := tcLoc d main_v12) (ℓY := tcLoc d main_v2) (ℓO := tcLoc d main_v13) (val1 m d main_v12) (val1 m d main_v2) spots (val1 m d main_v13)
    places_disjoint places_cover).symm
theorem giving_first (d : Dev nD) : (bigSep Finset.univ fun c : Fin ((K (F := F)).nCore 0) => (P m).dn 0 d c) =
    iprop((tcLoc d main_v12 ↦{fullShare} val1 m d main_v12) ∗ (tcLoc d main_v2 ↦{fullShare} val1 m d main_v2)
      ∗ (tcLoc d main_v13 ↦{fullShare} sums (val1 m d main_v12) (val1 m d main_v2))) :=
  (deal (ℓX := tcLoc d main_v12) (ℓY := tcLoc d main_v2) (ℓO := tcLoc d main_v13) (val1 m d main_v12) (val1 m d main_v2) spots
    (sums (val1 m d main_v12) (val1 m d main_v2)) places_disjoint places_cover).symm
theorem given_second (d : Dev nD) : (bigSep Finset.univ fun c : Fin ((K (F := F)).nCore 1) => (P m).st 1 d c) =
    iprop((tcLoc d main_v23_0 ↦{fullShare} val5 m d main_v23_0) ∗ (tcLoc d main_v2 ↦{fullShare} val5 m d main_v2) ∗ (tcLoc d main_v24 ↦{fullShare} val5 m d main_v24)) :=
  (deal (ℓX := tcLoc d main_v23_0) (ℓY := tcLoc d main_v2) (ℓO := tcLoc d main_v24) (val5 m d main_v23_0) (val5 m d main_v2) spots (val5 m d main_v24)
    places_disjoint places_cover).symm
theorem giving_second (d : Dev nD) : (bigSep Finset.univ fun c : Fin ((K (F := F)).nCore 1) => (P m).dn 1 d c) =
    iprop((tcLoc d main_v23_0 ↦{fullShare} val5 m d main_v23_0) ∗ (tcLoc d main_v2 ↦{fullShare} val5 m d main_v2)
      ∗ (tcLoc d main_v24 ↦{fullShare} sums (val5 m d main_v23_0) (val5 m d main_v2))) :=
  (deal (ℓX := tcLoc d main_v23_0) (ℓY := tcLoc d main_v2) (ℓO := tcLoc d main_v24) (val5 m d main_v23_0) (val5 m d main_v2) spots
    (sums (val5 m d main_v23_0) (val5 m d main_v2)) places_disjoint places_cover).symm

theorem call_step (κ : GSem nD τ sig → ℕ) (d : Dev nD) (q : Fin 2) (V V' : Valuation τ sig (Elt F)) (R : sProp 𝕄)
    (hV : (StableHlo.held (SparseCore.T d) (Pipeline.ucRefs τ sig) V : sProp 𝕄) = iprop((bigSep Finset.univ fun c : Fin ((K (F := F)).nCore q) => (P m).st q d c) ∗ R))
    (hV' : (StableHlo.held (SparseCore.T d) (Pipeline.ucRefs τ sig) V' : sProp 𝕄) = iprop((bigSep Finset.univ fun c : Fin ((K (F := F)).nCore q) => (P m).dn q d c) ∗ R))
    (k : Prog (TpuEff nD τ sig (Elt F) (SparseCore.Sig (ΛP (F := F)) 2) .tc) PUnit) (Q : PUnit → sProp 𝕄) :
    iprop((K (F := F)).ctx EH (P m) κ ∗ At d q.val V ∗ (At d (q.val + 1) V' -∗ Runs d k Q)) ⊢ Runs d ((K (F := F)).run d q >>= fun _ => k) Q := by
  unfold Runs At
  rw [wp_bind, hV, hV']
  iintro ⟨#Hctx, ⟨Hb, Hst, ⟨Hg, HR⟩⟩, Hk⟩
  iapply ((K (F := F)).wp_run (D (F := F)) 𝒱 (EH := EH) (P := P m) κ d q) $$ [Hst Hg Hb HR Hk]
  isplitr; · iexact Hctx
  isplitl [Hst]; · iexact Hst
  isplitl [Hg]; · iexact Hg
  iintro ⟨Hst, Hg⟩
  iapply Hk
  isplitl [Hb]; · iexact Hb
  isplitl [Hst]; · iexact Hst
  isplitl [Hg] <;> iassumption

/-! ## An arg-max call -/

/-- The launch's records of a pipeline's copies. -/
def Ghost (d : Dev nD) (p : Fin 2) : sProp 𝕄 :=
  iprop(Pipeline.cellsGhost (Pipeline.pin (pcfgs (F := F)) adm) EP p d ∗ Pipeline.toksInit (Pipeline.pin (pcfgs (F := F)) adm) EP p d)

set_option backward.isDefEq.respectTransparency.types false in
theorem region_step (κ : GSem nD τ sig → ℕ) (d : Dev nD) (p : Fin 2) (n : ℕ) (V V' : Dev nD → Valuation τ sig (Elt F))
    {dats : (p : Fin 2) → (c : Dev nD) → Pipeline.Dat τ (Elt F) (HIx 2) ℕ UU ℕ (Pipeline.pin (pcfgs (F := F)) adm p) c}
    (R : Pipeline.RegionSeg (pcfgs (F := F)) adm dats none defs₀ 𝒱₀ (K (F := F)).L (K (F := F)).lev p)
    (hpre : R.pre d = iprop(unscopedBufs d (onTc V d) ∗ ∃ W : Waits sig (HIx 2), ⌜(↑W : Set (SemLoc sig × HIx 2)) ⊆ waited (F := F) n d⌝ ∗ owes (d : Thread nD τ) (owing (F := F) n d) W))
    (hpost : R.post d = iprop(unscopedBufs d (onTc V' d) ∗ ∃ W : Waits sig (HIx 2), ⌜(↑W : Set (SemLoc sig × HIx 2)) ⊆ waited (F := F) n d⌝ ∗ owes (d : Thread nD τ) (owing (F := F) n d) W))
    (k : Prog (TpuEff nD τ sig (Elt F) (SparseCore.Sig (ΛP (F := F)) 2) .tc) PUnit) (Q : PUnit → sProp 𝕄) :
    iprop((K (F := F)).ctx EH (P m) κ ∗ At d n (V d) ∗ Ghost d p ∗ (At d n (V' d) -∗ Runs d k Q))
      ⊢ Runs d (Prog.lift (.customCall (SparseCore.inner (Pipeline.entry p)) ()) >>= fun _ => k) Q := by
  unfold Runs At Ghost
  rw [wp_bind]
  refine via ?_ ((K (F := F)).wp_liftProg (D (F := F)) 𝒱 (SparseCore.T d) Set.univ none (Prog.lift (.customCall (Pipeline.entry p) ())) _)
  refine via ?_ (Pipeline.RegionSeg.wp (pcfgs (F := F)) adm dats none cellOf_inj EP defs₀ 𝒱₀ (K (F := F)).L (K (F := F)).lev R d none (fun _ h => by cases h)
    (fun a => .ret a) _)
  rw [hpre, hpost, show (unscopedBufs d (onTc V d) : sProp 𝕄) = StableHlo.held (SparseCore.T d) (Pipeline.ucRefs τ sig) (V d) from Pipeline.unscopedBufs_held d (V d),
    show (unscopedBufs d (onTc V' d) : sProp 𝕄) = StableHlo.held (SparseCore.T d) (Pipeline.ucRefs τ sig) (V' d) from Pipeline.unscopedBufs_held d (V' d)]
  unfold SparseCore.Cfg.tcSt
  iintro ⟨#Hctx, ⟨Hb, ⟨⟨%W, %hW, HO⟩, Hst⟩, Hh⟩, ⟨Hg, Ht⟩, Hk⟩
  ihave #HL := (SparseCore.Cfg.ctx_levAts κ) $$ Hctx
  isplitl [Hk Hst]
  · iintro ⟨Hb, Hh, ⟨%W', %hW', HO⟩⟩
    rw [wp_ret]
    imodintro
    iapply Hk
    isplitl [Hb]; · iexact Hb
    isplitl [HO Hst]
    · isplitl [HO]
      · iexists W'
        isplitr
        · ipureintro; exact fun p hp => hW' hp
        iexact HO
      iexact Hst
    iexact Hh
  isplitl [Hb]; · iexact Hb
  isplitl [Hh HO]
  · isplitl [Hh]; · iexact Hh
    iexists W
    isplitr
    · ipureintro; exact fun p hp => hW p hp
    iexact HO
  isplitr; · iexact HL
  isplitl [Hg] <;> iassumption

theorem owing_none (n : ℕ) (c : Dev nD) (g : GSem nD τ sig) : owing (F := F) n c g none = 0 := by
  by_contra h
  have := SparseCore.Cfg.lev_of_Otc_pos (K := K (F := F)) (Nat.pos_of_ne_zero h)
  have e : (K (F := F)).lev g none = 0 := rfl
  omega

theorem waited_none (n : ℕ) (c : Dev nD) (s : SemLoc sig) : (s, none) ∈ waited (F := F) n c := by
  show (K (F := F)).lev _ none ≤ _
  exact Nat.zero_le _

end Cert.Proof

end
-- ==== Proof.Run.lean ====
/-
  The program's run: every unscoped buffer of every device ends at `val9`, every semaphore at zero.
-/
module

public import proofs.«01_k».proof.Proof.Main

@[expose] public section

noncomputable section

namespace Cert.Proof

open Cert.KernelIdeal Cert.KernelIdeal.Gen

open Idealize.ShloMosaic Idealize.ShloMosaic.TcCoe
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => RES F

variable (m : (ℓ : Loc nD τ sig) → Buf (Elt F) ℓ) (ρ : Dev nD → PrngReg)

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_split (a : UH) (b : UP) (c : Counters) : (ownU (a, (b, c)) : sProp 𝕄) ⊢ iprop(BI.own (EH a) ∗ BI.own (EP b)) := by
  refine via (BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, c))))) (sep_mono_right ?_)
  exact via (BI.own_op_elim (((Emb.inr : Emb (UP × Counters) UU).trans
    (uEmb (nD := nD) (sig := sig) (Ix := HIx 2) (Val := Elt F) (Name := ℕ) (U := UU) (Lvl := ℕ)).toEmb).op_of_mem
    (Prod.mk_mem_op (URA.mem_op_one b) (URA.mem_one_op c)))) sep_elim_left

theorem x_emp : (bigSep Finset.univ fun thr : Thread nD τ => bigSep Finset.univ fun q : Fin 2 => (P m).x q thr) = (iprop(emp) : sProp 𝕄) := by
  have e : (bigSep Finset.univ fun _ : Fin 2 => iprop(emp)) = (iprop(emp) : sProp 𝕄) := bigSep_emp_const _
  exact (bigSep_congr fun _ _ => e).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => iprop(Ghost d 0 ∗ Ghost d 1))
        ∗ bigSep Finset.univ fun thr : Thread nD τ => bigSep Finset.univ fun q : Fin 2 => (P m).x q thr) := by
  unfold u₀
  rw [x_emp]
  have hG : (bigSep Finset.univ fun d : Dev nD => iprop(Ghost d 0 ∗ Ghost d 1) : sProp 𝕄)
      = iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) := by
    rw [← bigSep_sep']
    refine bigSep_congr fun d _ => ?_
    rw [bigSep_univ_two, bigSep_univ_two]
    unfold Ghost
    refine equal_of ?_ ?_
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption
  rw [hG]
  iintro Hu
  ihave H := (ownU_split _ _ _) $$ Hu
  icases H with ⟨HH, HK⟩
  imod (Pipeline.fund_ghost (Pipeline.pin (pcfgs (F := F)) adm) EP cellOf_inj) $$ HK with HK
  imodintro
  isplitl [HH]; · iexact HH
  isplitl [HK]; · iexact HK
  iempintro

/-! ## @main on a TensorCore -/

/-- The arg-max calls' proof data, over the buffers each finds. -/
def firstRegion := reg1 (onTc (val3 m)) (owing (F := F) 1) (waited (F := F) 1) adm (onTc (val4 m)) (owing_none 1) (waited_none 1)
  (fun c => Function.update_self ..) (fun c b h => Function.update_of_ne (fun e => h (Proc.devRef_injective _ e)) _ _)
def secondRegion := reg3 (onTc (val7 m)) (owing (F := F) 2) (waited (F := F) 2) adm (onTc (val8 m)) (owing_none 2) (waited_none 2)
  (fun c => Function.update_self ..) (fun c b h => Function.update_of_ne (fun e => h (Proc.devRef_injective _ e)) _ _)

theorem hmain (κ : GSem nD τ sig → ℕ) (d : Dev nD) :
    iprop((K (F := F)).ctx EH (P m) κ ∗ (K (F := F)).tcSt EH d 0 ∗ (K (F := F)).tcRes m ρ d ∗ (Ghost d 0 ∗ Ghost d 1))
      ⊢ wp frame (wpE ((K (F := F)).defs (D (F := F))) 𝒱 (SparseCore.T d) none) Set.univ (main d)
          fun _ => iprop((K (F := F)).tcSt EH d 2 ∗ StableHlo.held (SparseCore.T d) (Pipeline.ucRefs τ sig) (val9 m d) ∗ (K (F := F)).tcEnd d) := by
  rw [main_eq]
  unfold SparseCore.Cfg.tcRes SparseCore.Cfg.tcEnd
  rw [show (unscopedBufs d (fun b => m ((SparseCore.T d).loc b)) : sProp 𝕄) = StableHlo.held (SparseCore.T d) (Pipeline.ucRefs τ sig) (val0 m d) from
    Pipeline.unscopedBufs_held d (val0 m d)]
  iintro ⟨#Hctx, Hst, ⟨Hb, Hh, Hts, -⟩, HG0, HG1⟩
  iapply (host_step d 0 hostA hostA_bufs hostA_fresh (val0 m d) _ _)
  isplitl [Hst Hb Hh]
  · unfold At
    isplitl [Hb]; · iexact Hb
    isplitl [Hst] <;> iassumption
  iintro HA
  iapply (call_step m κ d 0 (val1 m d) (val2 m d) _
    ((three_out d main_v12 main_v2 main_v13 (by decide) (by decide) (by decide) (by decide) (by decide) (by decide) (val1 m d)).trans (by rw [given_first]))
    ((three_back d main_v12 main_v2 main_v13 (by decide) (by decide) (by decide) (by decide) (by decide) (by decide) (val1 m d) _).trans (by rw [giving_first])) _ _)
  isplitr; · iexact Hctx
  isplitl [HA]; · iexact HA
  iintro HA
  iapply (host_step d 1 hostB hostB_bufs hostB_fresh (val2 m d) _ _)
  isplitl [HA]; · iexact HA
  iintro HA
  iapply (region_step m κ d 0 1 (val3 m) (val4 m) (firstRegion m) rfl rfl _ _)
  isplitr; · iexact Hctx
  isplitl [HA]; · iexact HA
  isplitl [HG0]; · iexact HG0
  iintro HA
  iapply (host_step d 1 hostC hostC_bufs hostC_fresh (val4 m d) _ _)
  isplitl [HA]; · iexact HA
  iintro HA
  iapply (call_step m κ d 1 (val5 m d) (val6 m d) _
    ((three_out d main_v23_0 main_v2 main_v24 (by decide) (by decide) (by decide) (by decide) (by decide) (by decide) (val5 m d)).trans (by rw [given_second]))
    ((three_back d main_v23_0 main_v2 main_v24 (by decide) (by decide) (by decide) (by decide) (by decide) (by decide) (val5 m d) _).trans (by rw [giving_second])) _ _)
  isplitr; · iexact Hctx
  isplitl [HA]; · iexact HA
  iintro HA
  iapply (host_step d 2 hostD hostD_bufs hostD_fresh (val6 m d) _ _)
  isplitl [HA]; · iexact HA
  iintro HA
  iapply (region_step m κ d 1 2 (val7 m) (val8 m) (secondRegion m) rfl rfl _ _)
  isplitr; · iexact Hctx
  isplitl [HA]; · iexact HA
  isplitl [HG1]; · iexact HG1
  iintro HA
  iapply (host_step d 2 hostE hostE_bufs hostE_fresh (val8 m d) _ _)
  isplitl [HA]; · iexact HA
  iintro HA
  unfold At Runs
  rw [wp_pure]
  icases HA with ⟨Hb, Hst, Hh⟩
  imodintro
  isplitl [Hst]; · iexact Hst
  isplitl [Hh]; · iexact Hh
  isplitl [Hb] <;> iassumption

/-! ## The run -/

def fq (d : Dev nD) (s' : Phys nD τ sig (Elt F)) : Prop := ∀ b ∈ Pipeline.ucRefs τ sig, s'.mem.mem (d, b) = val9 m d b

theorem hfin (d : Dev nD) (s' : Phys nD τ sig (Elt F)) :
    iprop(StableHlo.held (SparseCore.T d) (Pipeline.ucRefs τ sig) (val9 m d) ∗ SI s') ⊢ (⌜fq m d s'⌝ : sProp 𝕄) := by
  unfold fq StableHlo.held
  iintro ⟨H, HSI⟩
  iapply (SI_pointsTo_bufs_agree (c := d) (qs := fun _ => fullShare) (F := val9 m d) (Pipeline.ucRefs τ sig))
  isplitl [HSI] <;> iassumption

/-- What the program ends at. -/
def Ends : PUnit × MemSt nD τ sig (Elt F) → Prop := fun r => (∀ d : Dev nD, ∀ b ∈ Pipeline.ucRefs τ sig, r.2.mem (d, b) = val9 m d b) ∧ r.2.sem = fun _ => 0

theorem run_main [∀ e, Nonempty (Elt F e)] (h : Fits m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 h | 1 => tileObl1 h)
    (fun q _ => SparseCore.Cfg.VecSplit.of_plain (vecSplit m q))
    m ρ main (fun d => iprop(Ghost d 0 ∗ Ghost d 1)) (fun d => StableHlo.held (SparseCore.T d) (Pipeline.ucRefs τ sig) (val9 m d)) (u₀ (F := F))
    (sep_elim_left.trans (hu₀ m)) (hmain m ρ) (fq m) (hfin m) (Ends m) (fun _ h hz => ⟨h, hz⟩)

end Cert.Proof

end
-- ==== Proof.Range.lean ====
/-
  What the preconditions say of the indices, and the two calls' checks from it.
-/
module

public import proofs.«01_k».proof.Proof.Launch
public import proofs.«01_k».proof.Proof.Gen.Pre_in_range
public import proofs.«01_k».proof.Proof.Gen.Pre_above_padding
public import Idealize.ShloMosaic.Lib.ReduceAll
public import Idealize.ShloMosaic.Lib.Affine

@[expose] public section

noncomputable section

namespace Cert.Proof

open Cert.KernelIdeal Cert.KernelIdeal.Gen

open Idealize.ShloMosaic Idealize.ShloMosaic.TcCoe
open Idealize.SL Idealize.SL.Sem

variable {F : FTy → Type} [FloatOps F] [Named F]

theorem index_bound (v : BitVec 32) (e : IntOp.andi (IntOp.cmpi .sge v 0#32) (IntOp.cmpi .slt v 1000#32) = 1#1) : v.toNat < 1000 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

/-- From the range's precondition, every index is a row of the table. -/
theorem bound_of_range {G : FTy → Type} [FloatOps G] (X : IVec Pre_in_range.S16384x20 32) (A B : FVec G Pre_in_range.S1000x128 .f32) (C : FVec G Pre_in_range.S1000 .f32)
    (h : Pre_in_range.fn (F := G) X A B C = fun _ => 1#1) (x : Pre_in_range.S16384x20.Idx) : (X x).toNat < 1000 := by
  haveI : Subsingleton Pre_in_range.S_.Idx := ⟨fun a b => funext fun k => k.elim0⟩
  have e := congrFun h (fun k => k.elim0)
  dsimp only [Pre_in_range.fn] at e
  exact index_bound _ (Host.reduce_andi_all _ _ _ _ _ e x)

/-- The second precondition contains the first. -/
theorem range_of_padding {G : FTy → Type} [FloatOps G] (X : IVec Pre_in_range.S16384x20 32) (A B : FVec G Pre_in_range.S1000x128 .f32) (C : FVec G Pre_in_range.S1000 .f32)
    (h : Pre_above_padding.fn (F := G) X A B C = fun _ => 1#1) (x : Pre_in_range.S16384x20.Idx) : (X x).toNat < 1000 := by
  haveI : Subsingleton Pre_above_padding.S_.Idx := ⟨fun a b => funext fun k => k.elim0⟩
  have e := congrFun h (fun k => k.elim0)
  dsimp only [Pre_above_padding.fn, Pre_above_padding.fn_part1] at e
  have e1 := (IntOp.andi_eq_one.mp e).1
  exact index_bound _ (Host.reduce_andi_all _ _ _ _ _ e1 x)

variable (m : (ℓ : Loc nD τ sig) → Buf (Elt F) ℓ)

/-- The second call's indices are the second half of the argument, regrouped. -/
theorem idx_second (d : Dev nD) : val5 m d main_v23_0 =
    shapeCast S16x32x320 (extractStridedSlice S1x16x32x320 ![1, 0, 0, 0] (shapeCast S2x16x32x320 (m ((d.tc : Thread nD τ).loc main_arg0)) shapeCasts_S16384x20_S2x16x32x320) slices_S2x16x32x320_S1x16x32x320_1_0_0_0) shapeCasts_S1x16x32x320_S16x32x320 := by
  have e : val4 m d main_v0 = shapeCast S2x16x32x320 (m ((d.tc : Thread nD τ).loc main_arg0)) shapeCasts_S16384x20_S2x16x32x320 := by
    unfold val4
    rw [Function.update_of_ne (by decide)]
    unfold val3 hostB
    after_results
    unfold val2
    rw [Function.update_of_ne (by decide)]
    unfold val1 hostA
    after_results
    rfl
  unfold val5 hostC
  after_results
  rw [e]
  rfl

/-- With every index of the argument a row of the table, both calls' indices are. -/
theorem fits_of (h : ∀ (d : Dev nD) x, ((m ((d.tc : Thread nD τ).loc main_arg0) : S16384x20.Idx → BitVec 32) x).toNat < 1000) : Fits m where
  first d x := by
    rw [idx_first]
    exact h d _
  second d x := by
    rw [idx_second]
    exact h d _

/-- The arguments end as they began. -/
theorem arg0_end (d : Dev nD) : val9 m d main_arg0 = m ((d.tc : Thread nD τ).loc main_arg0) := by
  unfold val9 hostE; after_results
  unfold val8; rw [Function.update_of_ne (by decide)]
  unfold val7 hostD; after_results
  unfold val6; rw [Function.update_of_ne (by decide)]
  unfold val5 hostC; after_results
  unfold val4; rw [Function.update_of_ne (by decide)]
  unfold val3 hostB; after_results
  unfold val2; rw [Function.update_of_ne (by decide)]
  unfold val1 hostA; after_results
  rfl
theorem arg1_end (d : Dev nD) : val9 m d main_arg1 = m ((d.tc : Thread nD τ).loc main_arg1) := by
  unfold val9 hostE; after_results
  unfold val8; rw [Function.update_of_ne (by decide)]
  unfold val7 hostD; after_results
  unfold val6; rw [Function.update_of_ne (by decide)]
  unfold val5 hostC; after_results
  unfold val4; rw [Function.update_of_ne (by decide)]
  unfold val3 hostB; after_results
  unfold val2; rw [Function.update_of_ne (by decide)]
  unfold val1 hostA; after_results
  rfl
theorem arg2_end (d : Dev nD) : val9 m d main_arg2 = m ((d.tc : Thread nD τ).loc main_arg2) := by
  unfold val9 hostE; after_results
  unfold val8; rw [Function.update_of_ne (by decide)]
  unfold val7 hostD; after_results
  unfold val6; rw [Function.update_of_ne (by decide)]
  unfold val5 hostC; after_results
  unfold val4; rw [Function.update_of_ne (by decide)]
  unfold val3 hostB; after_results
  unfold val2; rw [Function.update_of_ne (by decide)]
  unfold val1 hostA; after_results
  rfl
theorem arg3_end (d : Dev nD) : val9 m d main_arg3 = m ((d.tc : Thread nD τ).loc main_arg3) := by
  unfold val9 hostE; after_results
  unfold val8; rw [Function.update_of_ne (by decide)]
  unfold val7 hostD; after_results
  unfold val6; rw [Function.update_of_ne (by decide)]
  unfold val5 hostC; after_results
  unfold val4; rw [Function.update_of_ne (by decide)]
  unfold val3 hostB; after_results
  unfold val2; rw [Function.update_of_ne (by decide)]
  unfold val1 hostA; after_results
  rfl

end Cert.Proof

end
-- ==== Proof.Frames.lean ====
/-
  The frames: the program at words and at the ideal, under both preconditions.
-/
module

public import proofs.«01_k».proof.Defs
public import proofs.«01_k».proof.Proof.Gen.Kernel
public import proofs.«01_k».proof.Proof.Run
public import proofs.«01_k».proof.Proof.Range

@[expose] public section

noncomputable section

namespace Cert.Proof

open Idealize.ShloMosaic Idealize.SL.Sem

/-- At words the named constant is its own literal. -/
instance wordsNamed : Named Bits where
  named _ _ φ bits := (bits : BitVec φ.bits)

theorem unscoped_arg0 : Proc.devRef .tc Cert.KernelIdeal.main_arg0 ∈ Pipeline.ucRefs Cert.KernelIdeal.τ Cert.KernelIdeal.sig := unscoped_mem _ (by decide)
theorem unscoped_arg1 : Proc.devRef .tc Cert.KernelIdeal.main_arg1 ∈ Pipeline.ucRefs Cert.KernelIdeal.τ Cert.KernelIdeal.sig := unscoped_mem _ (by decide)
theorem unscoped_arg2 : Proc.devRef .tc Cert.KernelIdeal.main_arg2 ∈ Pipeline.ucRefs Cert.KernelIdeal.τ Cert.KernelIdeal.sig := unscoped_mem _ (by decide)
theorem unscoped_arg3 : Proc.devRef .tc Cert.KernelIdeal.main_arg3 ∈ Pipeline.ucRefs Cert.KernelIdeal.τ Cert.KernelIdeal.sig := unscoped_mem _ (by decide)

/-- The arguments of every device are as at the launch. -/
theorem args_kept {F : FTy → Type} [FloatOps F] [Named F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Ends m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h.1 c _ unscoped_arg0).trans (arg0_end m c), (h.1 c _ unscoped_arg1).trans (arg1_end m c),
    (h.1 c _ unscoped_arg2).trans (arg2_end m c), (h.1 c _ unscoped_arg3).trans (arg3_end m c)⟩

/-- The program's run with its arguments kept and its counters at zero, at any floats. -/
theorem quiet {F : FTy → Type} [FloatOps F] [Named F] [∀ e, Nonempty (Elt F e)]
    (m : (ℓ : Loc Cert.KernelIdeal.nD Cert.KernelIdeal.τ Cert.KernelIdeal.sig) → Buf (Elt F) ℓ) (g : Dev Cert.KernelIdeal.nD → PrngReg)
    (h : ∀ (d : Dev Cert.KernelIdeal.nD) x, ((m ((d.tc : Thread Cert.KernelIdeal.nD Cert.KernelIdeal.τ).loc Cert.KernelIdeal.main_arg0) : Cert.KernelIdeal.S16384x20.Idx → BitVec 32) x).toNat < 1000) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ e => ⟨args_kept m e, e.2⟩) (run_main m g (fits_of m h))

theorem frame_ideal : Cert.quiescent_KernelIdeal := fun m g hpre =>
  quiet (F := Ideal) m g fun d x => bound_of_range _ _ _ _ (hpre d) x

theorem frame_ideal_padding : Cert.quiescent_KernelIdeal_pre_above_padding := fun m g hpre =>
  quiet (F := Ideal) m g fun d x => range_of_padding _ _ _ _ (hpre d) x

/-- The frame at words, in the names the run is proved in. -/
def wordsFrame : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_in_range.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)) →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs have the same text at words. -/
theorem same_text : Cert.quiescent_Kernel = wordsFrame := by
  sl_kernel_rfl

theorem frame_words : Cert.quiescent_Kernel :=
  same_text.mpr fun m g hpre => quiet (F := Bits) m g fun d x => bound_of_range (G := Bits) _ _ _ _ (hpre d) x

end Cert.Proof

end
-- ==== Proof.Reference.lean ====
/-
  The reference's run.
-/
module

public import proofs.«01_k».proof.Defs
public import proofs.«01_k».proof.Proof.Gen.ReferenceIdeal
public import proofs.«01_k».proof.Proof.Gen.Pre_in_range
public import proofs.«01_k».proof.Proof.Gen.Pre_above_padding
public import Idealize.ShloMosaic.Lib.StableHlo.RunHlo
public import Idealize.ShloMosaic.Lib.Claim
public import Idealize.ShloMosaic.Lib.Quiescent
public import Idealize.ShloMosaic.Lib.Tactic

@[expose] public section

noncomputable section

namespace Cert.Proof

open Idealize.ShloMosaic Idealize.SL.Sem

theorem frame_reference : Cert.quiescent_ReferenceIdeal := by
  intro m g _
  hlo_run
  all_goals first | exact fun _ => ⟨trivial, trivial, trivial, trivial⟩ | exact sem_eq_zero_of_no_sems (sig := Cert.ReferenceIdeal.sig) (by decide) _

theorem frame_reference_padding : Cert.quiescent_ReferenceIdeal_pre_above_padding := by
  intro m g _
  hlo_run
  all_goals first | exact fun _ => ⟨trivial, trivial, trivial, trivial⟩ | exact sem_eq_zero_of_no_sems (sig := Cert.ReferenceIdeal.sig) (by decide) _

theorem constant_kept : Cert.preserves_Kernel_KernelIdeal := by
  unfold Cert.preserves_Kernel_KernelIdeal
  exact IdealRules.named_const.statement Cert.KernelIdeal.κ "inv_len" .f32 0x3D4CCCCD#32 ((1 / 20 : ℝ) : EReal) rfl

end Cert.Proof

end
-- ==== Proof.Pads.lean ====
/-
  The weights and the bias as the kernel's host lines pad them, and the two calls' indices and table, read at a place.
-/
module

public import proofs.«01_k».proof.Proof.Range
public import Idealize.ShloMosaic.Lib.Pointwise
public import Idealize.ShloMosaic.Lib.Routing.OpsSet

@[expose] public section

noncomputable section

namespace Cert.Proof

open Cert.KernelIdeal Cert.KernelIdeal.Gen

open Idealize.ShloMosaic Idealize.ShloMosaic.TcCoe

/-- Where an update of the weights lands. -/
theorem lands_weights (I : IVec S1 32) (hI : ∀ x, I x = 0#32) (p : Fin 1000) (q : Fin 128) (j : Fin 1024) (k : Fin 128) :
    scatter_S1024x128_S1_S1000x128_01_n_0_0.resultIdx? (ix2 p q) I = some (ix2 j k) ↔ p.val = j.val ∧ q = k := by
  let d := scatter_S1024x128_S1_S1000x128_01_n_0_0
  have m0 : (0 : Fin 2) ∈ d.scatterDimsToOperandDims := by decide
  have s0 : d.start (ix2 p q) I 0 = 0 := by
    unfold ScatterDims.start
    rw [dif_pos m0, hI]
    rfl
  have s1 : d.start (ix2 p q) I 1 = 0 := by
    unfold ScatterDims.start
    rw [dif_neg (by decide)]
  have w0 : d.window (ix2 p q) 0 = p.val := by
    unfold ScatterDims.window
    rw [dif_pos (by decide)]
    rfl
  have w1 : d.window (ix2 p q) 1 = q.val := by
    unfold ScatterDims.window
    rw [dif_pos (by decide)]
    rfl
  have hp := p.isLt
  have hq := q.isLt
  have inb : ∀ a : Fin 2, 0 ≤ d.start (ix2 p q) I a + d.window (ix2 p q) a ∧ d.start (ix2 p q) I a + d.window (ix2 p q) a < S1024x128.size a := by
    intro a
    match a with
    | ⟨0, _⟩ =>
      change 0 ≤ d.start (ix2 p q) I 0 + d.window (ix2 p q) 0 ∧ d.start (ix2 p q) I 0 + d.window (ix2 p q) 0 < 1024
      rw [s0, w0]; omega
    | ⟨1, _⟩ =>
      change 0 ≤ d.start (ix2 p q) I 1 + d.window (ix2 p q) 1 ∧ d.start (ix2 p q) I 1 + d.window (ix2 p q) 1 < 128
      rw [s1, w1]; omega
  unfold ScatterDims.resultIdx?
  rw [dif_pos inb, Option.some.injEq]
  constructor
  · intro h
    have h0 : (d.start (ix2 p q) I 0 + d.window (ix2 p q) 0).toNat = j.val := congrArg (fun f => (f 0 : ℕ)) h
    have h1 : (d.start (ix2 p q) I 1 + d.window (ix2 p q) 1).toNat = k.val := congrArg (fun f => (f 1 : ℕ)) h
    rw [s0, w0] at h0
    rw [s1, w1] at h1
    exact ⟨by omega, Fin.ext (by omega)⟩
  · rintro ⟨h0, h1⟩
    funext a
    apply Fin.ext
    match a with
    | ⟨0, _⟩ =>
      change (d.start (ix2 p q) I 0 + d.window (ix2 p q) 0).toNat = j.val
      rw [s0, w0]; omega
    | ⟨1, _⟩ =>
      change (d.start (ix2 p q) I 1 + d.window (ix2 p q) 1).toNat = k.val
      rw [s1, w1, h1]; omega

/-- The padded weights: a row of the weights, -/
theorem weights_row {α : Type} (x : S1024x128.Idx → α) (I : IVec S1 32) (hI : ∀ x, I x = 0#32) (U : S1000x128.Idx → α) (j : Fin 1000) (k : Fin 128) (j' : Fin 1024) (hj : j'.val = j.val) :
    Host.scatter scatter_S1024x128_S1_S1000x128_01_n_0_0 (fun _ b => b) x I U (ix2 j' k) = U (ix2 j k) := by
  refine Routing.scatter_set_hit _ x I U _ _ (fun y hy => ?_) (ix2 j k) ((lands_weights I hI j k j' k).mpr ⟨hj.symm, rfl⟩)
  obtain ⟨p, q, rfl⟩ : ∃ p q, y = ix2 p q := ⟨_, _, eq_ix2 y⟩
  obtain ⟨h0, h1⟩ := (lands_weights I hI p q j' k).mp hy
  rw [h1, show p = j from Fin.ext (h0.trans hj)]

/-- or one behind them. -/
theorem weights_pad {α : Type} (x : S1024x128.Idx → α) (I : IVec S1 32) (hI : ∀ x, I x = 0#32) (U : S1000x128.Idx → α) (j : Fin 1024) (k : Fin 128) (hj : 1000 ≤ j.val) :
    Host.scatter scatter_S1024x128_S1_S1000x128_01_n_0_0 (fun _ b => b) x I U (ix2 j k) = x (ix2 j k) := by
  refine Routing.scatter_set_miss _ x I U _ fun y hy => ?_
  obtain ⟨p, q, rfl⟩ : ∃ p q, y = ix2 p q := ⟨_, _, eq_ix2 y⟩
  have h := ((lands_weights I hI p q j k).mp hy).1
  have := p.isLt
  omega

/-- Where an update of the bias lands. -/
theorem lands_bias (I : IVec S2 32) (hI : ∀ x, I x = 0#32) (p : Fin 1000) (z : Fin 1) (j : Fin 1024) :
    scatter_S1x1024_S2_S1000_0_0_01_0.resultIdx? (ix1 p) I = some (ix2 z j) ↔ p.val = j.val := by
  let d := scatter_S1x1024_S2_S1000_0_0_01_0
  have s0 : d.start (ix1 p) I 0 = 0 := by
    unfold ScatterDims.start
    rw [dif_pos (by decide), hI]
    rfl
  have s1 : d.start (ix1 p) I 1 = 0 := by
    unfold ScatterDims.start
    rw [dif_pos (by decide), hI]
    rfl
  have w0 : d.window (ix1 p) 0 = 0 := by
    unfold ScatterDims.window
    rw [dif_neg (by decide)]
  have w1 : d.window (ix1 p) 1 = p.val := by
    unfold ScatterDims.window
    rw [dif_pos (by decide)]
    rfl
  have hp := p.isLt
  have hz := z.isLt
  have inb : ∀ a : Fin 2, 0 ≤ d.start (ix1 p) I a + d.window (ix1 p) a ∧ d.start (ix1 p) I a + d.window (ix1 p) a < S1x1024.size a := by
    intro a
    match a with
    | ⟨0, _⟩ =>
      change 0 ≤ d.start (ix1 p) I 0 + d.window (ix1 p) 0 ∧ d.start (ix1 p) I 0 + d.window (ix1 p) 0 < 1
      rw [s0, w0]; omega
    | ⟨1, _⟩ =>
      change 0 ≤ d.start (ix1 p) I 1 + d.window (ix1 p) 1 ∧ d.start (ix1 p) I 1 + d.window (ix1 p) 1 < 1024
      rw [s1, w1]; omega
  unfold ScatterDims.resultIdx?
  rw [dif_pos inb, Option.some.injEq]
  constructor
  · intro h
    have h1 : (d.start (ix1 p) I 1 + d.window (ix1 p) 1).toNat = j.val := congrArg (fun f => (f 1 : ℕ)) h
    rw [s1, w1] at h1
    omega
  · intro h1
    funext a
    apply Fin.ext
    match a with
    | ⟨0, _⟩ =>
      change (d.start (ix1 p) I 0 + d.window (ix1 p) 0).toNat = z.val
      rw [s0, w0]; omega
    | ⟨1, _⟩ =>
      change (d.start (ix1 p) I 1 + d.window (ix1 p) 1).toNat = j.val
      rw [s1, w1]; omega

/-- The padded bias: a place of the bias, -/
theorem bias_row {α : Type} (x : S1x1024.Idx → α) (I : IVec S2 32) (hI : ∀ x, I x = 0#32) (U : S1000.Idx → α) (j : Fin 1000) (z : Fin 1) (j' : Fin 1024) (hj : j'.val = j.val) :
    Host.scatter scatter_S1x1024_S2_S1000_0_0_01_0 (fun _ b => b) x I U (ix2 z j') = U (ix1 j) := by
  refine Routing.scatter_set_hit _ x I U _ _ (fun y hy => ?_) (ix1 j) ((lands_bias I hI j z j').mpr hj.symm)
  obtain ⟨p, rfl⟩ : ∃ p, y = ix1 p := ⟨_, eq_ix1 y⟩
  rw [show p = j from Fin.ext (((lands_bias I hI p z j').mp hy).trans hj)]

/-- or one behind it. -/
theorem bias_pad {α : Type} (x : S1x1024.Idx → α) (I : IVec S2 32) (hI : ∀ x, I x = 0#32) (U : S1000.Idx → α) (z : Fin 1) (j : Fin 1024) (hj : 1000 ≤ j.val) :
    Host.scatter scatter_S1x1024_S2_S1000_0_0_01_0 (fun _ b => b) x I U (ix2 z j) = x (ix2 z j) := by
  refine Routing.scatter_set_miss _ x I U _ fun y hy => ?_
  obtain ⟨p, rfl⟩ : ∃ p, y = ix1 p := ⟨_, eq_ix1 y⟩
  have h := (lands_bias I hI p z j).mp hy
  have := p.isLt
  omega

/-- The table's columns, by half. -/
theorem table_apply {α : Type} (T : S1000x128.Idx → α) (c : Fin 2) (w : Fin 1000) (k : Fin 64) (k' : Fin 128) (hk : k'.val = 64 * c.val + k.val) :
    transpose S2x1000x64 [1, 0, 2] (shapeCast S1000x2x64 T shapeCasts_S1000x128_S1000x2x64) transposes_S1000x2x64_S2x1000x64_1_0_2 (ix3 c w k)
      = T (ix2 w k') := by
  rw [transpose_apply _ _ _ _ (ix3 w c k) fun b => match b with | ⟨0, _⟩ => rfl | ⟨1, _⟩ => rfl | ⟨2, _⟩ => rfl]
  refine shapeCast_apply _ _ _ _ ?_
  rw [Shape.rowMajor_val_two, Shape.rowMajor_val_three]
  change w.val * 128 + k'.val = (w.val * 2 + c.val) * 64 + k.val
  omega

/-- A half of the indices, regrouped. -/
theorem index_apply {α : Type} (X : S16384x20.Idx → α) (h : Fin 2) (off : Fin 4 → ℕ) (hoff : off = ![h.val, 0, 0, 0]) (hs : S2x16x32x320.Slices off S1x16x32x320)
    (a : Fin 16) (b : Fin 32) (y : Fin 320) (r : Fin 16384) (l : Fin 20) (e : r.val * 20 + l.val = ((h.val * 16 + a.val) * 32 + b.val) * 320 + y.val) :
    shapeCast S16x32x320 (extractStridedSlice S1x16x32x320 off (shapeCast S2x16x32x320 X shapeCasts_S16384x20_S2x16x32x320) hs) shapeCasts_S1x16x32x320_S16x32x320 (ix3 a b y)
      = X (ix2 r l) := by
  rw [shapeCast_apply _ _ _ (ix4 0 a b y) (by
    rw [Shape.rowMajor_val_four, Shape.rowMajor_val_three]
    change ((0 * 16 + a.val) * 32 + b.val) * 320 + y.val = (a.val * 32 + b.val) * 320 + y.val
    omega)]
  subst hoff
  rw [extractStridedSlice_apply _ _ _ _ (ix4 h a b y) fun c => match c with
    | ⟨0, _⟩ => rfl
    | ⟨1, _⟩ => (Nat.zero_add _).symm
    | ⟨2, _⟩ => (Nat.zero_add _).symm
    | ⟨3, _⟩ => (Nat.zero_add _).symm]
  refine shapeCast_apply _ _ _ _ ?_
  rw [Shape.rowMajor_val_two, Shape.rowMajor_val_four]
  exact e

/-- A half of a call's sums, in rows. -/
theorem half_apply {α : Type} (Y : S2x524288.Idx → α) (c : Fin 2) (off : Fin 2 → ℕ) (hoff : off = ![c.val, 0]) (hs : S2x524288.Slices off S1x524288)
    (r : Fin 8192) (k : Fin 64) (q : Fin 524288) (hq : q.val = r.val * 64 + k.val) :
    shapeCast S8192x64 (shapeCast S524288 (extractStridedSlice S1x524288 off Y hs) shapeCasts_S1x524288_S524288) shapeCasts_S524288_S8192x64 (ix2 r k)
      = Y (ix2 c q) := by
  rw [shapeCast_apply _ _ _ (ix1 q) (by
    rw [Shape.rowMajor_val_one, Shape.rowMajor_val_two]
    exact hq)]
  rw [shapeCast_apply _ _ _ (ix2 0 q) (by
    rw [Shape.rowMajor_val_one, Shape.rowMajor_val_two]
    change 0 * 524288 + q.val = q.val
    omega)]
  subst hoff
  exact extractStridedSlice_apply _ _ _ _ _ fun a => match a with
    | ⟨0, _⟩ => rfl
    | ⟨1, _⟩ => (Nat.zero_add _).symm

end Cert.Proof

end
-- ==== Proof.First.lean ====
/-
  The first place of a greatest value: that there is one, that there is only one, that padding the row with
  a value some entry reaches does not move it, and that both programs' folds find it.
-/
module

public import proofs.«01_k».proof.ReferenceIdeal
public import Idealize.ShloMosaic.PureOps.Ideal.Laws
public import Idealize.ShloMosaic.Lib.ValueIdx

@[expose] public section

noncomputable section

namespace Cert.Proof

open Idealize.ShloMosaic

/-- `j` is the first place at which the row `f` is greatest. -/
def IsFirst {n : ℕ} (f : Fin n → EReal) (j : Fin n) : Prop := (∀ i, f i ≤ f j) ∧ ∀ i, i < j → f i < f j

theorem IsFirst.unique {n : ℕ} {f : Fin n → EReal} {i j : Fin n} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

theorem exists_first {n : ℕ} (hn : 0 < n) (f : Fin n → EReal) : ∃ j, IsFirst f j := by
  classical
  haveI : Nonempty (Fin n) := ⟨⟨0, hn⟩⟩
  obtain ⟨m, hm⟩ := Finite.exists_max f
  let S := Finset.univ.filter fun i => f i = f m
  have hS : S.Nonempty := ⟨m, by simp [S]⟩
  have e : f (S.min' hS) = f m := (Finset.mem_filter.mp (S.min'_mem hS)).2
  refine ⟨S.min' hS, fun i => e ▸ hm i, fun i hi => ?_⟩
  rw [e]
  refine lt_of_le_of_ne (hm i) fun h => ?_
  exact absurd (S.min'_le i (by simp [S, h])) (not_le.mpr hi)

/-- A row padded behind with a value that one of its entries reaches has its first greatest place where the row has. -/
theorem IsFirst.padded {n N : ℕ} (h : n ≤ N) {f : Fin n → EReal} {g : Fin N → EReal} {c : EReal}
    (hf : ∀ i : Fin n, g (i.castLE h) = f i) (hc : ∀ i : Fin N, n ≤ i.val → g i = c) (ex : ∃ i, c ≤ f i)
    {j : Fin n} (hj : IsFirst f j) : IsFirst g (j.castLE h) := by
  refine ⟨fun i => ?_, fun i hi => ?_⟩
  · rw [hf]
    by_cases hi : i.val < n
    · exact (hf ⟨i.val, hi⟩).trans_le (hj.1 _)
    · obtain ⟨k, hk⟩ := ex
      exact (hc i (by omega)).trans_le (hk.trans (hj.1 k))
  · have hi' : i.val < j.val := hi
    rw [hf]
    exact (hf ⟨i.val, by omega⟩).trans_lt (hj.2 _ hi')

/-! ### The reference's fold over pairs -/

/-- One pair comes before another: a lesser value, or the same value at a later or the same index. -/
def Below (p q : EReal × BitVec 32) : Prop := p.1 < q.1 ∨ (p.1 = q.1 ∧ q.2.toInt ≤ p.2.toInt)

theorem Below.refl (p) : Below p p := Or.inr ⟨rfl, le_refl _⟩

theorem Below.trans {p q r} (h : Below p q) (k : Below q r) : Below p r := by
  rcases h with h | ⟨h, h'⟩ <;> rcases k with k | ⟨k, k'⟩
  · exact Or.inl (h.trans k)
  · exact Or.inl (k ▸ h)
  · exact Or.inl (h ▸ k)
  · exact Or.inr ⟨h.trans k, k'.trans h'⟩

local notation "red" => Cert.ReferenceIdeal.reducer_argmax_f32_i32 (F := Ideal)

/-- The reducer keeps one of its two pairs, and both come before the one kept. -/
theorem red_picks (p q : EReal × BitVec 32) : (red p q = p ∨ red p q = q) ∧ Below p (red p q) ∧ Below q (red p q) := by
  obtain ⟨a, i⟩ := p
  obtain ⟨b, j⟩ := q
  have bit1 (x : BitVec 1) : IntOp.ori 1#1 x = 1#1 := by revert x; decide
  rcases lt_trichotomy a b with h | h | h
  · have e : red (a, i) (b, j) = (b, j) := by
      simp [Cert.ReferenceIdeal.reducer_argmax_f32_i32, Ideal.cmpf_def, Ideal.cmp, h.ne, h.le, IntOp.ori, IntOp.andi, Scalar.select, not_lt.mpr h.le]
    rw [e]
    exact ⟨Or.inr rfl, Or.inl h, Below.refl _⟩
  · subst h
    by_cases hs : i.toInt < j.toInt
    · have e : red (a, i) (a, j) = (a, i) := by
        simp [Cert.ReferenceIdeal.reducer_argmax_f32_i32, Ideal.cmpf_def, Ideal.cmp, IntOp.ori, IntOp.andi, IntOp.cmpi, Scalar.select, BitVec.slt_eq_decide, hs]
      rw [e]
      exact ⟨Or.inl rfl, Below.refl _, Or.inr ⟨rfl, hs.le⟩⟩
    · have e : red (a, i) (a, j) = (a, j) := by
        simp [Cert.ReferenceIdeal.reducer_argmax_f32_i32, Ideal.cmpf_def, Ideal.cmp, IntOp.ori, IntOp.andi, IntOp.cmpi, Scalar.select, BitVec.slt_eq_decide, hs]
      rw [e]
      exact ⟨Or.inr rfl, Or.inr ⟨rfl, not_lt.mp hs⟩, Below.refl _⟩
  · have e : red (a, i) (b, j) = (a, i) := by
      simp [Cert.ReferenceIdeal.reducer_argmax_f32_i32, Ideal.cmpf_def, Ideal.cmp, h.ne', IntOp.ori, IntOp.andi, Scalar.select, h]
    rw [e]
    exact ⟨Or.inl rfl, Below.refl _, Or.inl h⟩

/-- The fold of the reducer is one of the pairs or the initial one, and all of these come before it. -/
theorem red_fold (l : List (EReal × BitVec 32)) : ∀ p, (l.foldl red p = p ∨ l.foldl red p ∈ l) ∧ Below p (l.foldl red p)
    ∧ ∀ q ∈ l, Below q (l.foldl red p) := by
  induction l with
  | nil => exact fun p => ⟨Or.inl rfl, Below.refl _, by simp⟩
  | cons q l ih =>
    intro p
    obtain ⟨one, fst, rest⟩ := ih (red p q)
    obtain ⟨pick, hp, hq⟩ := red_picks p q
    refine ⟨?_, hp.trans fst, ?_⟩
    · rcases one with e | e
      · rcases pick with k | k
        · exact Or.inl (e.trans k)
        · exact Or.inr (List.mem_cons.mpr (Or.inl (e.trans k)))
      · exact Or.inr (List.mem_cons.mpr (Or.inr e))
    · intro r hr
      rcases List.mem_cons.mp hr with rfl | h
      · exact hq.trans fst
      · exact rest r h

theorem toInt_word {k : ℕ} (h : k < 1024) : (BitVec.ofNat 32 k).toInt = k := by
  rw [BitVec.toInt_eq_toNat_cond, BitVec.toNat_ofNat]
  omega

/-- The fold from the least value at index zero, over the pairs of a row and its places in any order, ends
    at the row's first greatest place. -/
theorem red_first {n : ℕ} (hn : 0 < n) (hN : n ≤ 1024) (f : Fin n → EReal) (l : List (EReal × BitVec 32))
    (hl : ∀ p, p ∈ l ↔ ∃ k : Fin n, p = (f k, BitVec.ofNat 32 k.val)) :
    ∃ j, IsFirst f j ∧ (l.foldl red (⊥, 0#32)).2 = BitVec.ofNat 32 j.val := by
  obtain ⟨one, -, rest⟩ := red_fold l (⊥, 0#32)
  have all (k : Fin n) := rest _ ((hl _).mpr ⟨k, rfl⟩)
  rcases one with e | e
  · rw [e] at all ⊢
    have bot (k : Fin n) : f k = ⊥ := by
      rcases all k with h | ⟨h, -⟩
      · exact absurd h not_lt_bot
      · exact h
    refine ⟨⟨0, hn⟩, ⟨fun i => by rw [bot, bot], fun i hi => absurd hi (Nat.not_lt_zero _)⟩, rfl⟩
  · obtain ⟨j, ej⟩ := (hl _).mp e
    rw [ej] at all ⊢
    refine ⟨j, ⟨fun i => ?_, fun i hi => ?_⟩, rfl⟩
    · rcases all i with h | ⟨h, -⟩
      · exact h.le
      · exact h.le
    · rcases all i with h | ⟨-, h⟩
      · exact h
      · have hi' : i.val < j.val := hi
        change (BitVec.ofNat 32 j.val).toInt ≤ (BitVec.ofNat 32 i.val).toInt at h
        rw [toInt_word (by omega), toInt_word (by omega)] at h
        omega

/-! ### The kernel's two folds -/

/-- The least of the places at which a row meets its maximum, by words, is its first greatest place. -/
theorem min_first (f : Fin 1024 → EReal) (w : Fin 1024 → BitVec 32) (M : EReal) (hM : M = Finset.univ.fold max ⊥ f)
    (hw : ∀ k, w k = if f k = M then BitVec.ofNat 32 k.val else 1073741824#32) :
    ∃ j, IsFirst f j ∧ Finset.univ.fold IKind.minsi.op 2147483647#32 w = BitVec.ofNat 32 j.val := by
  obtain ⟨j, hj⟩ := exists_first (by decide) f
  have eM : M = f j := by
    rw [hM]
    apply le_antisymm
    · exact Finset.fold_max_le _ |>.mpr ⟨bot_le, fun i _ => hj.1 i⟩
    · exact Finset.le_fold_max _ |>.mpr (Or.inr ⟨j, Finset.mem_univ _, le_refl _⟩)
  have split {c : BitVec 32} := @Finset.fold_op_rel_iff_and _ _ IKind.minsi.op _ _ w 2147483647#32 Finset.univ
    (fun c x : BitVec 32 => c.toInt ≤ x.toInt) (by
      intro x y z
      change x.toInt ≤ (IntOp.minsi y z).toInt ↔ _
      unfold IntOp.minsi
      rw [BitVec.slt_eq_decide]
      by_cases h : y.toInt < z.toInt
      · simp only [h, decide_true, if_true]; omega
      · simp only [h, decide_false, Bool.false_eq_true, if_false]; omega) c
  refine ⟨j, hj, BitVec.eq_of_toInt_eq (le_antisymm ?_ ?_)⟩
  · have := (split.mp (le_refl _)).2 j (Finset.mem_univ _)
    rw [hw, if_pos eM.symm] at this
    exact this
  · refine split.mpr ⟨?_, fun k _ => ?_⟩
    · rw [toInt_word j.isLt]
      exact le_trans (Int.ofNat_le.mpr j.isLt.le) (by decide)
    · rw [hw, toInt_word j.isLt]
      split
      · rename_i h
        rw [toInt_word k.isLt]
        refine Int.ofNat_le.mpr (not_lt.mp fun hk => ?_)
        exact absurd (h.trans eM) (hj.2 k hk).ne
      · exact le_trans (Int.ofNat_le.mpr j.isLt.le) (by decide)

end Cert.Proof

end
-- ==== Proof.PayValue.lean ====
/-
  What one block of the arg-max kernel computes over the extended reals: for each of its rows, the first
  greatest place of the row's products with the weights, the bias added.
-/
module

public import proofs.«01_k».proof.Proof.First
public import proofs.«01_k».proof.Proof.Gen.KernelIdeal.Skeleton
public import Idealize.ShloMosaic.Lib.Pointwise

@[expose] public section

noncomputable section

namespace Cert.Proof

open Cert.KernelIdeal Cert.KernelIdeal.Gen
open Idealize.ShloMosaic

/-- A row of means, its first half of columns from one array and its second from another. -/
def joined {n : ℕ} (A B : (⟨2, ![n, 64]⟩ : Shape).Idx → EReal) (r : Fin n) (k : Fin 128) : EReal :=
  if h : k.val < 64 then A (ix2 r ⟨k.val, h⟩) else B (ix2 r ⟨k.val - 64, by omega⟩)

/-- The sums a block's rows are compared by. -/
def score {n : ℕ} (A B : (⟨2, ![n, 64]⟩ : Shape).Idx → EReal) (W : S1024x128.Idx → EReal) (b : S1x1024.Idx → EReal) (r : Fin n) (j : Fin 1024) : EReal :=
  (∑ k : Fin 128, joined A B r k * W (ix2 j k)) + b (ix2 0 j)

/-- The sums as the kernel writes them. -/
def scores (A B : FVec Ideal S2048x64 .f32) (W : FVec Ideal S1024x128 .f32) (b : FVec Ideal S1x1024 .f32) : FVec Ideal S2048x1024 .f32 :=
  addf (matmul dot_S2048x128_S1024x128_S2048x1024_1_1_0_0_n_n none
      (concatenate S2048x128 1 [⟨S2048x64, A⟩, ⟨S2048x64, B⟩] concatenates_S2048x64_S2048x64_S2048x128_d1) W
      (constant S2048x1024 .f32 0x00000000#32))
    (broadcastTo S2048x1024 b broadcasts_S1x1024_S2048x1024)

theorem scores_apply (A B : FVec Ideal S2048x64 .f32) (W : FVec Ideal S1024x128 .f32) (b : FVec Ideal S1x1024 .f32)
    (r : Fin 2048) (j : Fin 1024) : scores A B W b (ix2 r j) = score A B W b r j := by
  have side (k : Fin 128) : concatenate S2048x128 1 [⟨S2048x64, A⟩, ⟨S2048x64, B⟩] concatenates_S2048x64_S2048x64_S2048x128_d1 (ix2 r k)
      = joined A B r k := by
    unfold joined
    by_cases h : k.val < 64
    · rw [dif_pos h]
      exact concatenate_pair_apply_left (t := S2048x128) 1 A B _ (ix2 r k) rfl (ix2 r ⟨k.val, h⟩) fun b => match b with
        | ⟨0, _⟩ => rfl
        | ⟨1, _⟩ => rfl
    · rw [dif_neg h]
      refine concatenate_pair_apply_right (t := S2048x128) 1 A B _ (ix2 r k) rfl rfl (ix2 r ⟨k.val - 64, by omega⟩) (fun b hb => ?_) ?_
      · match b with
        | ⟨0, _⟩ => rfl
        | ⟨1, _⟩ => exact absurd rfl hb
      · change k.val - 64 + 64 = k.val
        omega
  unfold scores score
  generalize concatenate S2048x128 1 [⟨S2048x64, A⟩, ⟨S2048x64, B⟩] concatenates_S2048x64_S2048x64_S2048x128_d1 = c at side ⊢
  pointwise
  simp only [side]

/-- The greatest of each row's sums. -/
def rowMax (A B : FVec Ideal S2048x64 .f32) (W : FVec Ideal S1024x128 .f32) (b : FVec Ideal S1x1024 .f32) : FVec Ideal S2048 .f32 :=
  multiReduction .maximumf [1] S2048 (scores A B W b) 0xFF800000#32 reduces_S2048x1024_S2048 (.inl rfl) rfl

/-- The places at which each row meets its greatest sum, every other place a number past them all. -/
def places (A B : FVec Ideal S2048x64 .f32) (W : FVec Ideal S1024x128 .f32) (b : FVec Ideal S1x1024 .f32) : IVec S2048x1024 32 :=
  select (cmpf .oeq (scores A B W b)
      (broadcastTo S2048x1024 (shapeCast S2048x1 (rowMax A B W b) shapeCasts_S2048_S2048x1) broadcasts_S2048x1_S2048x1024))
    (iota .tc S2048x1024 32 [1] iota_S2048x1024_d1_w32) (broadcast S2048x1024 1073741824#32)

theorem payload_eq (A B : FVec Ideal S2048x64 .f32) (W : FVec Ideal S1024x128 .f32) (b : FVec Ideal S1x1024 .f32) :
    k1_pay1 (F := Ideal) A B W b = multiReductionI .minsi [1] S2048 (places A B W b) 2147483647#32 reduces_S2048x1024_S2048 rfl := by
  unfold k1_pay1 places rowMax scores
  dsimp only
  rw [shapeCast_self A, shapeCast_self B, shapeCast_self W, shapeCast_self b]

theorem places_apply (A B : FVec Ideal S2048x64 .f32) (W : FVec Ideal S1024x128 .f32) (b : FVec Ideal S1x1024 .f32) (r : Fin 2048) (k : Fin 1024) :
    places A B W b (ix2 r k) = if score A B W b r k = rowMax A B W b (ix1 r) then BitVec.ofNat 32 k.val else 1073741824#32 := by
  rw [← scores_apply A B W b r k]
  unfold places
  generalize scores A B W b = s
  generalize rowMax A B W b = m
  pointwise

/-- For each row of a block the kernel's payload holds the first greatest place of the row's sums. -/
theorem payload_first (A B : FVec Ideal S2048x64 .f32) (W : FVec Ideal S1024x128 .f32) (b : FVec Ideal S1x1024 .f32) (r : Fin 2048) :
    ∃ j, IsFirst (score A B W b r) j ∧ k1_pay1 (F := Ideal) A B W b (ix1 r) = BitVec.ofNat 32 j.val := by
  have ebot : FloatOps.ofBits (F := Ideal) .f32 0xFF800000#32 = (⊥ : EReal) := by
    change Ideal.ofBits .f32 _ = ⊥
    simp [Ideal.ofBits, Ideal.ieee]
  have lift (k : Fin 1024) : reduces_S2048x1024_S2048.lift (ix1 r) k = ix2 r k := by
    funext c
    match c with
    | ⟨0, _⟩ => rfl
    | ⟨1, _⟩ => rfl
  have eM : rowMax A B W b (ix1 r) = Finset.univ.fold max ⊥ (score A B W b r) := by
    unfold rowMax
    refine (Ideal.multiReduction_maximumf_single _ _ _ _ _ _).trans ?_
    rw [ebot]
    refine Finset.fold_congr fun k _ => ?_
    exact (congrArg _ (lift k)).trans (scores_apply A B W b r k)
  obtain ⟨j, hj, e⟩ := min_first (score A B W b r) (fun k => places A B W b (ix2 r k)) _ eM (places_apply A B W b r)
  refine ⟨j, hj, Eq.trans ?_ e⟩
  rw [payload_eq]
  refine (multiReductionI_eq_fold _ _ _ _ _ _).trans ?_
  refine (Shape.Reduces.fold_filter_drop_single _ _ _ _ _).trans ?_
  refine Finset.fold_congr fun k _ => ?_
  exact congrArg (places A B W b) (lift k)

end Cert.Proof

end
-- ==== Proof.Blocks.lean ====
/-
  What the two arg-max calls leave over the extended reals: each row's first greatest place.
-/
module

public import proofs.«01_k».proof.Proof.PayValue
public import proofs.«01_k».proof.Proof.Region
public import Idealize.ShloMosaic.Lib.Pipeline.ValueKit

@[expose] public section

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.Sem
open Idealize.ShloMosaic.Pipeline (Dat Cfg Window)

/-- The first greatest place of a row, as a word. -/
def firstWord {n : ℕ} (hn : 0 < n) (f : Fin n → EReal) : BitVec 32 := BitVec.ofNat 32 (exists_first hn f).choose.val

theorem firstWord_eq {n : ℕ} (hn : 0 < n) (f : Fin n → EReal) {j : Fin n} (hj : IsFirst f j) : BitVec.ofNat 32 j.val = firstWord hn f := by
  unfold firstWord
  rw [hj.unique (exists_first hn f).choose_spec]

theorem score_congr {n m : ℕ} {A B : (⟨2, ![n, 64]⟩ : Shape).Idx → EReal} {A' B' : (⟨2, ![m, 64]⟩ : Shape).Idx → EReal}
    {W W' : S1024x128.Idx → EReal} {b b' : S1x1024.Idx → EReal} {r : Fin n} {r' : Fin m}
    (hA : ∀ k, A (ix2 r k) = A' (ix2 r' k)) (hB : ∀ k, B (ix2 r k) = B' (ix2 r' k)) (hW : ∀ j k, W (ix2 j k) = W' (ix2 j k))
    (hb : ∀ j, b (ix2 0 j) = b' (ix2 0 j)) : score A B W b r = score A' B' W' b' r' := by
  funext j
  unfold score joined
  simp only [hA, hB, hW, hb]

/-- A block's rows hold the first greatest places of the array's rows they were cut from. -/
theorem block_first {A B : FVec Ideal S2048x64 .f32} {W : FVec Ideal S1024x128 .f32} {b : FVec Ideal S1x1024 .f32}
    {A' B' : FVec Ideal S8192x64 .f32} {W' : FVec Ideal S1024x128 .f32} {b' : FVec Ideal S1x1024 .f32} (r : Fin 2048) (r' : Fin 8192)
    (hA : ∀ k, A (ix2 r k) = A' (ix2 r' k)) (hB : ∀ k, B (ix2 r k) = B' (ix2 r' k)) (hW : ∀ j k, W (ix2 j k) = W' (ix2 j k))
    (hb : ∀ j, b (ix2 0 j) = b' (ix2 0 j)) :
    k1_pay1 (F := Ideal) A B W b (ix1 r) = firstWord (by decide) (score A' B' W' b' r') := by
  obtain ⟨j, hj, e⟩ := payload_first A B W b r
  rw [score_congr hA hB hW hb] at hj
  exact e.trans (firstWord_eq _ _ hj)

variable (V : (c : Dev nD) → (b : Ref sig .tc) → Buf (Elt Ideal) ((c : Thread nD τ).loc b))
  (O : Dev nD → CellTallies nD τ sig (HIx 2)) (B : Dev nD → Set (SemLoc sig × HIx 2))

/-- Where the blocks of call 1 lie. -/
theorem index1 : ∀ t : Fin cfg1.N, win1_0.index t = ![t.val, 0] ∧ win1_1.index t = ![t.val, 0] ∧ win1_2.index t = ![0, 0]
    ∧ win1_3.index t = ![0, 0] ∧ win1_4.index t = ![t.val] := by decide +kernel

theorem row1 {t : Fin cfg1.N} (r : Fin 2048) : 2048 * t.val + r.val < 8192 := by
  have h : t.val < 4 := t.isLt
  omega

theorem read1_0 (X : FVec Ideal S8192x64 .f32) (t : Fin cfg1.N) (r : Fin 2048) (k : Fin 64) :
    (win1_0.blk t).view.read (Elt Ideal) X (ix2 r k) = X (ix2 ⟨2048 * t.val + r.val, row1 r⟩ k) := by
  rw [View.read_apply]
  refine (cast_eq _ _).trans (congrArg X (funext fun a => Fin.ext ?_))
  match a with
  | ⟨0, _⟩ => blk_simp [index1 t]; first | rfl | (simp; done) | (simp; omega)
  | ⟨1, _⟩ => blk_simp [index1 t]

theorem read1_1 (X : FVec Ideal S8192x64 .f32) (t : Fin cfg1.N) (r : Fin 2048) (k : Fin 64) :
    (win1_1.blk t).view.read (Elt Ideal) X (ix2 r k) = X (ix2 ⟨2048 * t.val + r.val, row1 r⟩ k) := by
  rw [View.read_apply]
  refine (cast_eq _ _).trans (congrArg X (funext fun a => Fin.ext ?_))
  match a with
  | ⟨0, _⟩ => blk_simp [index1 t]; first | rfl | (simp; done) | (simp; omega)
  | ⟨1, _⟩ => blk_simp [index1 t]

theorem read1_2 (X : FVec Ideal S1024x128 .f32) (t : Fin cfg1.N) (r : Fin 1024) (k : Fin 128) :
    (win1_2.blk t).view.read (Elt Ideal) X (ix2 r k) = X (ix2 r k) := by
  rw [View.read_apply]
  refine (cast_eq _ _).trans (congrArg X (funext fun a => Fin.ext ?_))
  match a with
  | ⟨0, _⟩ => blk_simp [index1 t]
  | ⟨1, _⟩ => blk_simp [index1 t]

theorem read1_3 (X : FVec Ideal S1x1024 .f32) (t : Fin cfg1.N) (r : Fin 1) (k : Fin 1024) :
    (win1_3.blk t).view.read (Elt Ideal) X (ix2 r k) = X (ix2 r k) := by
  rw [View.read_apply]
  refine (cast_eq _ _).trans (congrArg X (funext fun a => Fin.ext ?_))
  match a with
  | ⟨0, _⟩ => blk_simp [index1 t]
  | ⟨1, _⟩ => blk_simp [index1 t]

theorem after1_first (c : Dev nD) (t : Fin cfg1.N) (r : Fin 2048) (q : Fin 8192) (hq : q.val = 2048 * t.val + r.val) :
    (dat1 V O B c).after 4 t (ix1 r : S2048.Idx)
      = firstWord (by decide) (score (n := 8192) (V c main_v16) (V c main_v19) (V c main_v5) (V c main_v10) q) := by
  have e : q = ⟨2048 * t.val + r.val, row1 r⟩ := Fin.ext hq
  rw [e]
  have h : (dat1 V O B c).after 4 t = k1_pay1 (F := Ideal) ((win1_0.blk t).view.read (Elt Ideal) (V c main_v16))
      ((win1_1.blk t).view.read (Elt Ideal) (V c main_v19)) ((win1_2.blk t).view.read (Elt Ideal) (V c main_v5))
      ((win1_3.blk t).view.read (Elt Ideal) (V c main_v10)) := by dsimp only [dat1]
  rw [h]
  refine block_first (A' := V c main_v16) (B' := V c main_v19) (W' := V c main_v5) (b' := V c main_v10) r _ ?_ ?_ ?_ ?_
  · exact fun k => read1_0 _ t r k
  · exact fun k => read1_1 _ t r k
  · exact fun j k => read1_2 _ t j k
  · exact fun j => read1_3 _ t 0 j

theorem covers1 : (cfg1.win 4).Covers := by decide +kernel

/-- The result of call 1. -/
theorem arr1 (c : Dev nD) : (dat1 V O B c).arrAt 4 cfg1.N
    = fun x : S8192.Idx => firstWord (by decide) (score (n := 8192) (V c main_v16) (V c main_v19) (V c main_v5) (V c main_v10) (x 0)) := by
  refine (dat1 V O B c).arrAt_eq_of_covers 4 _ covers1 fun t hf y => ?_
  generalize hz : (cfg1.win 4).xinj (cfg1.grid.coords t) y = z
  have hq : (((cfg1.win 4).blk t).view.emb y 0).val = 2048 * t.val + (z 0).val := by
    subst hz
    blk_simp [index1 t]
    exact congrArg (· + _) (Nat.mul_comm _ _)
  generalize ((cfg1.win 4).blk t).view.emb y = q at hq
  refine (cast_eq _ _).trans ?_
  refine Eq.trans (congrArg ((dat1 V O B c).after 4 t) (@eq_ix1 2048 z)) ?_
  exact after1_first V O B c t (z 0) (q 0) hq

/-- Where the blocks of call 3 lie. -/
theorem index3 : ∀ t : Fin cfg3.N, win3_0.index t = ![t.val, 0] ∧ win3_1.index t = ![t.val, 0] ∧ win3_2.index t = ![0, 0]
    ∧ win3_3.index t = ![0, 0] ∧ win3_4.index t = ![t.val] := by decide +kernel

theorem row3 {t : Fin cfg3.N} (r : Fin 2048) : 2048 * t.val + r.val < 8192 := by
  have h : t.val < 4 := t.isLt
  omega

theorem read3_0 (X : FVec Ideal S8192x64 .f32) (t : Fin cfg3.N) (r : Fin 2048) (k : Fin 64) :
    (win3_0.blk t).view.read (Elt Ideal) X (ix2 r k) = X (ix2 ⟨2048 * t.val + r.val, row3 r⟩ k) := by
  rw [View.read_apply]
  refine (cast_eq _ _).trans (congrArg X (funext fun a => Fin.ext ?_))
  match a with
  | ⟨0, _⟩ => blk_simp [index3 t]; first | rfl | (simp; done) | (simp; omega)
  | ⟨1, _⟩ => blk_simp [index3 t]

theorem read3_1 (X : FVec Ideal S8192x64 .f32) (t : Fin cfg3.N) (r : Fin 2048) (k : Fin 64) :
    (win3_1.blk t).view.read (Elt Ideal) X (ix2 r k) = X (ix2 ⟨2048 * t.val + r.val, row3 r⟩ k) := by
  rw [View.read_apply]
  refine (cast_eq _ _).trans (congrArg X (funext fun a => Fin.ext ?_))
  match a with
  | ⟨0, _⟩ => blk_simp [index3 t]; first | rfl | (simp; done) | (simp; omega)
  | ⟨1, _⟩ => blk_simp [index3 t]

theorem read3_2 (X : FVec Ideal S1024x128 .f32) (t : Fin cfg3.N) (r : Fin 1024) (k : Fin 128) :
    (win3_2.blk t).view.read (Elt Ideal) X (ix2 r k) = X (ix2 r k) := by
  rw [View.read_apply]
  refine (cast_eq _ _).trans (congrArg X (funext fun a => Fin.ext ?_))
  match a with
  | ⟨0, _⟩ => blk_simp [index3 t]
  | ⟨1, _⟩ => blk_simp [index3 t]

theorem read3_3 (X : FVec Ideal S1x1024 .f32) (t : Fin cfg3.N) (r : Fin 1) (k : Fin 1024) :
    (win3_3.blk t).view.read (Elt Ideal) X (ix2 r k) = X (ix2 r k) := by
  rw [View.read_apply]
  refine (cast_eq _ _).trans (congrArg X (funext fun a => Fin.ext ?_))
  match a with
  | ⟨0, _⟩ => blk_simp [index3 t]
  | ⟨1, _⟩ => blk_simp [index3 t]

theorem after3_first (c : Dev nD) (t : Fin cfg3.N) (r : Fin 2048) (q : Fin 8192) (hq : q.val = 2048 * t.val + r.val) :
    (dat3 V O B c).after 4 t (ix1 r : S2048.Idx)
      = firstWord (by decide) (score (n := 8192) (V c main_v27) (V c main_v30) (V c main_v5) (V c main_v10) q) := by
  have e : q = ⟨2048 * t.val + r.val, row3 r⟩ := Fin.ext hq
  rw [e]
  have h : (dat3 V O B c).after 4 t = k1_pay1 (F := Ideal) ((win3_0.blk t).view.read (Elt Ideal) (V c main_v27))
      ((win3_1.blk t).view.read (Elt Ideal) (V c main_v30)) ((win3_2.blk t).view.read (Elt Ideal) (V c main_v5))
      ((win3_3.blk t).view.read (Elt Ideal) (V c main_v10)) := by dsimp only [dat3]
  rw [h]
  refine block_first (A' := V c main_v27) (B' := V c main_v30) (W' := V c main_v5) (b' := V c main_v10) r _ ?_ ?_ ?_ ?_
  · exact fun k => read3_0 _ t r k
  · exact fun k => read3_1 _ t r k
  · exact fun j k => read3_2 _ t j k
  · exact fun j => read3_3 _ t 0 j

theorem covers3 : (cfg3.win 4).Covers := by decide +kernel

/-- The result of call 3. -/
theorem arr3 (c : Dev nD) : (dat3 V O B c).arrAt 4 cfg3.N
    = fun x : S8192.Idx => firstWord (by decide) (score (n := 8192) (V c main_v27) (V c main_v30) (V c main_v5) (V c main_v10) (x 0)) := by
  refine (dat3 V O B c).arrAt_eq_of_covers 4 _ covers3 fun t hf y => ?_
  generalize hz : (cfg3.win 4).xinj (cfg3.grid.coords t) y = z
  have hq : (((cfg3.win 4).blk t).view.emb y 0).val = 2048 * t.val + (z 0).val := by
    subst hz
    blk_simp [index3 t]
    exact congrArg (· + _) (Nat.mul_comm _ _)
  generalize ((cfg3.win 4).blk t).view.emb y = q at hq
  refine (cast_eq _ _).trans ?_
  refine Eq.trans (congrArg ((dat3 V O B c).after 4 t) (@eq_ix1 2048 z)) ?_
  exact after3_first V O B c t (z 0) (q 0) hq

end Cert.Proof

end
-- ==== Proof.RefValue.lean ====
/-
  What the reference computes over the extended reals: for each row, the first greatest place of its sums.
-/
module

public import proofs.«01_k».proof.Proof.First
public import proofs.«01_k».proof.Proof.Gen.ReferenceIdeal
public import Idealize.ShloMosaic.Lib.Pointwise
public import Idealize.ShloMosaic.Lib.ReduceAll

@[expose] public section

noncomputable section

namespace Cert.Proof.Ref

open Cert.ReferenceIdeal Cert.ReferenceIdeal.Gen
open Idealize.ShloMosaic

/-- The rows' indices, a negative one counted from the table's end. -/
def wrapped (X : IVec S16384x20 32) : IVec S16384x20x1 32 :=
  broadcastInDim S16384x20x1 ![0, 1] bcast_S16384x20_S16384x20x1_0_1
    (select (cmpi .slt X (broadcastInDim S16384x20 ![] bcast_S_S16384x20 (constantI S_ 32 0#32)))
      (addi X (broadcastInDim S16384x20 ![] bcast_S_S16384x20 (constantI S_ 32 1000#32))) X)

/-- Which indices name a row of the table. -/
def inside (X : IVec S16384x20 32) : IVec S16384x20x1 1 :=
  andi (cmpi .sge (wrapped X) (broadcastInDim S16384x20x1 ![] bcast_S_S16384x20x1 (constantI S_ 32 0#32)))
    (cmpi .sle (wrapped X) (broadcastInDim S16384x20x1 ![0, 1, 2] bcast_S1x1x1_S16384x20x1_0_1_2
      (broadcastInDim S1x1x1 ![2] bcast_S1_S1x1x1_2 (constantI S1 32 999#32))))

/-- The rows that the indices name. -/
def taken (X : IVec S16384x20 32) (T : FVec Ideal S1000x128 .f32) : FVec Ideal S16384x20x128 .f32 :=
  select (broadcastInDim S16384x20x128 ![0, 1] bcast_S16384x20_S16384x20x128_0_1
      (Host.reduce IntOp.andi (inside X) (constantI S_ 1 1#1) reducesTo_S16384x20x1_S16384x20_d2 h_S_))
    (Host.gather gather_S1000x128_S16384x20x1_S16384x20x128_2_0_n_n_0_2_1128 T (wrapped X))
    (broadcastInDim S16384x20x128 ![] bcast_S_S16384x20x128 (constant S_ .f32 0x7FC00000#32))

/-- The sums of which the reference takes each row's first greatest. -/
def sums (X : IVec S16384x20 32) (T W : FVec Ideal S1000x128 .f32) (b : FVec Ideal S1000 .f32) : FVec Ideal S16384x1000 .f32 :=
  addf (Host.dotGeneral dot_S16384x128_S128x1000_S16384x1000_1_0_0_1_n_n none
      (Host.divf (Host.reduceAdd (taken X T) (constant S_ .f32 0x00000000#32) reducesTo_S16384x20x128_S16384x128_d1 h_S_)
        (broadcastInDim S16384x128 ![] bcast_S_S16384x128 (constant S_ .f32 0x41A00000#32)))
      (transpose S128x1000 [1, 0] W transposes_S1000x128_S128x1000_1_0))
    (broadcastInDim S16384x1000 ![0, 1] bcast_S1x1000_S16384x1000_0_1 (broadcastInDim S1x1000 ![1] bcast_S1000_S1x1000_1 b))

theorem toInt_small {w : BitVec 32} (h : w.toNat < 1000) : w.toInt = w.toNat := by
  rw [BitVec.toInt_eq_toNat_cond]
  omega

theorem wrapped_apply (X : IVec S16384x20 32) (hX : ∀ x, (X x).toNat < 1000) (r : Fin 16384) (l : Fin 20) (z : Fin 1) :
    wrapped X (ix3 r l z) = X (ix2 r l) := by
  unfold wrapped
  pointwise
  have h := toInt_small (hX (ix2 r l))
  have e : IntOp.cmpi .slt (X (ix2 r l)) 0#32 = 0#1 := by
    have z : (0#32).toInt = 0 := by decide
    have n : ¬ (((X (ix2 r l)).toNat : ℤ) < 0) := by omega
    simp only [IntOp.cmpi, BitVec.slt_eq_decide, h, z, decide_eq_false n]
    rfl
  rw [e]
  rfl

theorem inside_one (X : IVec S16384x20 32) (hX : ∀ x, (X x).toNat < 1000) (x : S16384x20x1.Idx) : inside X x = 1#1 := by
  obtain ⟨r, l, z, rfl⟩ : ∃ r l z, x = ix3 r l z := ⟨_, _, _, eq_ix3 x⟩
  unfold inside
  pointwise
  rw [wrapped_apply X hX]
  have h := toInt_small (hX (ix2 r l))
  have k := hX (ix2 r l)
  have z : (0#32).toInt = 0 := by decide
  have y : (999#32).toInt = 999 := by decide
  have a : (0 : ℤ) ≤ ((X (ix2 r l)).toNat : ℤ) := by omega
  have b : ((X (ix2 r l)).toNat : ℤ) ≤ 999 := by omega
  simp only [IntOp.cmpi, BitVec.sle_eq_decide, h, z, y, decide_eq_true a, decide_eq_true b]
  rfl

/-- The rows' gather reads the row its index names, held within the table. -/
theorem gather_apply (T : FVec Ideal S1000x128 .f32) (I : IVec S16384x20x1 32) (r : Fin 16384) (l : Fin 20) (k : Fin 128) :
    Host.gather gather_S1000x128_S16384x20x1_S16384x20x128_2_0_n_n_0_2_1128 T I (ix3 r l k)
      = T (ix2 ⟨min (I (ix3 r l 0)).toInt.toNat 999, by omega⟩ k) := by
  let d := gather_S1000x128_S16384x20x1_S16384x20x128_2_0_n_n_0_2_1128
  have m0 : (0 : Fin 2) ∈ d.startIndexMap := by decide
  have m1 : (1 : Fin 2) ∈ d.sKept := by decide
  have row : d.start (ix3 r l k) I 0 = min (I (ix3 r l 0)).toInt.toNat 999 := by
    unfold GatherDims.start
    rw [dif_pos m0]
    have e : d.siIdx (ix3 r l k) ⟨d.startIndexMap.idxOf 0, List.idxOf_lt_length_iff.2 m0⟩ = ix3 r l 0 := by
      funext b
      apply Fin.ext
      match b with
      | ⟨0, _⟩ => rfl
      | ⟨1, _⟩ => rfl
      | ⟨2, _⟩ => rfl
    rw [e]
    rfl
  have col : d.offCoord (ix3 r l k) 1 = k.val := by
    unfold GatherDims.offCoord
    rw [dif_pos m1]
    rfl
  have none0 : d.offCoord (ix3 r l k) 0 = 0 := d.offCoord_eq_zero _ _ (by decide)
  have none1 : d.start (ix3 r l k) I 1 = 0 := by
    unfold GatherDims.start
    rw [dif_neg (by decide)]
  unfold Host.gather
  refine congrArg T (funext fun a => Fin.ext ?_)
  change d.start (ix3 r l k) I a + d.batchCoord (ix3 r l k) a + d.offCoord (ix3 r l k) a = _
  rw [d.batchCoord_eq_zero _ a (by revert a; decide)]
  match a with
  | ⟨0, _⟩ => exact (congrArg₂ (fun p q => p + 0 + q) row none0)
  | ⟨1, _⟩ => exact (congrArg₂ (fun p q => p + 0 + q) none1 col).trans (Nat.zero_add _)

theorem taken_apply (X : IVec S16384x20 32) (hX : ∀ x, (X x).toNat < 1000) (T : FVec Ideal S1000x128 .f32)
    (r : Fin 16384) (l : Fin 20) (k : Fin 128) :
    taken X T (ix3 r l k) = T (ix2 ⟨(X (ix2 r l)).toNat, hX _⟩ k) := by
  unfold taken
  have e : Host.reduce IntOp.andi (inside X) (constantI S_ 1 1#1) reducesTo_S16384x20x1_S16384x20_d2 h_S_ = fun _ => 1#1 :=
    funext fun _ => Host.reduce_andi_one _ _ _ _ _ rfl (inside_one X hX)
  rw [e]
  change Host.gather gather_S1000x128_S16384x20x1_S16384x20x128_2_0_n_n_0_2_1128 T (wrapped X) (ix3 r l k) = _
  rw [gather_apply]
  have h := toInt_small (hX (ix2 r l))
  have k := hX (ix2 r l)
  have w := wrapped_apply X hX r l 0
  congr 2
  apply Fin.ext
  change min (wrapped X (ix3 r l 0)).toInt.toNat 999 = (X (ix2 r l)).toNat
  rw [w, h]
  omega

/-- The twentieth that makes a mean of a sum. -/
def twentieth : EReal := ((1 / 20 : ℝ) : EReal)

theorem div_twenty (x : EReal) : Ideal.div x (Ideal.ofBits FTy.f32 1101004800#32) = x * twentieth := by
  have e : Ideal.ofBits FTy.f32 1101004800#32 = ((20 : ℝ) : EReal) := by
    simp [Ideal.ofBits, Ideal.ieee]
    rw [← EReal.coe_mul]
    norm_num
  have n : ((20 : ℝ) : EReal) ≠ 0 := by
    rw [ne_eq, EReal.coe_eq_zero]; norm_num
  rw [e, Ideal.div, if_neg n, ← EReal.coe_inv, twentieth, one_div]

/-- What a row of indices scores at a place: the mean of the rows it names, against the place's weights, and its bias. -/
def logit (X : IVec S16384x20 32) (hX : ∀ x, (X x).toNat < 1000) (T W : FVec Ideal S1000x128 .f32) (b : FVec Ideal S1000 .f32)
    (r : Fin 16384) (j : Fin 1000) : EReal :=
  (∑ k : Fin 128, ((∑ l : Fin 20, T (ix2 ⟨(X (ix2 r l)).toNat, hX _⟩ k)) * twentieth) * W (ix2 j k)) + b (ix1 j)

theorem sums_apply (X : IVec S16384x20 32) (hX : ∀ x, (X x).toNat < 1000) (T W : FVec Ideal S1000x128 .f32)
    (b : FVec Ideal S1000 .f32) (r : Fin 16384) (j : Fin 1000) : sums X T W b (ix2 r j) = logit X hX T W b r j := by
  unfold sums
  pointwise
  simp only [div_twenty, taken_apply X hX, logit]

/-- The row an element's place drops to. -/
theorem drop_row {m n : ℕ} (h : (⟨2, ![m, n]⟩ : Shape).ReducesTo [1] ⟨1, ![m]⟩) (r : Fin m) (i : (⟨2, ![m, n]⟩ : Shape).Idx) :
    h.drop i = ix1 r ↔ i 0 = r := by
  have e : (h.drop i 0 : ℕ) = i 0 := h.drop_apply_val_of_eq i 0 0 (show 0 < List.length [(0 : Fin 2)] by simp) rfl
  refine ⟨fun q => Fin.ext (e.symm.trans (congrArg (fun f => (f 0 : ℕ)) q)), fun q => ?_⟩
  funext a
  match a with
  | ⟨0, _⟩ => exact Fin.ext (e.trans (congrArg Fin.val q))

/-- The pairs over which the arg-max of a row folds: the row's values, each with its place. -/
theorem mem_row {m n : ℕ} (z : (⟨2, ![m, n]⟩ : Shape).Idx → EReal) (y : (⟨2, ![m, n]⟩ : Shape).Idx → BitVec 32)
    (hy : ∀ r j, y (ix2 r j) = BitVec.ofNat 32 j.val) (h : (⟨2, ![m, n]⟩ : Shape).ReducesTo [1] ⟨1, ![m]⟩) (r : Fin m) (p : EReal × BitVec 32) :
    p ∈ Host.argReduceFiber z y h (ix1 r) ↔ ∃ k : Fin n, p = (z (ix2 r k), BitVec.ofNat 32 k.val) := by
  unfold Host.argReduceFiber
  simp only [List.mem_map, List.mem_filter, List.mem_finRange, true_and, decide_eq_true_eq, drop_row]
  constructor
  · rintro ⟨q, hq, rfl⟩
    generalize (⟨2, ![m, n]⟩ : Shape).rowMajor.symm q = i at hq
    subst hq
    refine ⟨i 1, ?_⟩
    have e : i = ix2 (i 0) (i 1) := eq_ix2 i
    exact (congrArg (fun i => (z i, y i)) e).trans (congrArg (Prod.mk _) (hy _ _))
  · rintro ⟨k, rfl⟩
    refine ⟨(⟨2, ![m, n]⟩ : Shape).rowMajor (ix2 r k), ?_, ?_⟩
    · rw [Equiv.symm_apply_apply]; rfl
    · rw [Equiv.symm_apply_apply, hy]

theorem least_word : FloatOps.ofBits (F := Ideal) .f32 0xFF800000#32 = (⊥ : EReal) := by
  change Ideal.ofBits .f32 0xFF800000#32 = ⊥
  simp [Ideal.ofBits, Ideal.ieee]

/-- The arg-max of any such array is each row's first greatest place. -/
theorem argmax_first {m n : ℕ} (hn : 0 < n) (hN : n ≤ 1024) (z : FVec Ideal ⟨2, ![m, n]⟩ .f32) (h : (⟨2, ![m, n]⟩ : Shape).ReducesTo [1] ⟨1, ![m]⟩) (r : Fin m) :
    ∃ j, IsFirst (fun k => z (ix2 r k)) j ∧ (Host.argReduce (reducer_argmax_f32_i32 (F := Ideal)) z (iotaInDim ⟨2, ![m, n]⟩ 32 1)
      (constant S_ .f32 0xFF800000#32) (constantI S_ 32 0#32) h h_S_ (ix1 r)).2 = BitVec.ofNat 32 j.val := by
  rw [Ideal.argReduce_eq_reduce2, Host.reduce2_eq_foldl_fiber]
  have e : (constant (F := Ideal) S_ .f32 0xFF800000#32 (Shape.Idx.first h_S_), constantI S_ 32 0#32 (Shape.Idx.first h_S_)) = ((⊥ : EReal), 0#32) :=
    congrArg (·, 0#32) least_word
  rw [e]
  exact red_first hn hN _ _ fun p => mem_row z _ (fun _ _ => rfl) h r p

theorem row_first (z : FVec Ideal S16384x1000 .f32) (r : Fin 16384) :
    ∃ j, IsFirst (fun k => z (ix2 r k)) j ∧ (Host.argReduce (reducer_argmax_f32_i32 (F := Ideal)) z (iotaInDim S16384x1000 32 1)
      (constant S_ .f32 0xFF800000#32) (constantI S_ 32 0#32) reducesTo_S16384x1000_S16384_d1 h_S_ (ix1 r)).2 = BitVec.ofNat 32 j.val :=
  argmax_first (m := 16384) (n := 1000) (by decide) (by decide) z reducesTo_S16384x1000_S16384_d1 r

/-- The reference's result at a row is the first greatest place of the row's logits. -/
theorem places_first (X : IVec S16384x20 32) (hX : ∀ x, (X x).toNat < 1000) (T W : FVec Ideal S1000x128 .f32)
    (b : FVec Ideal S1000 .f32) (z : FVec Ideal S16384x1000 .f32) (hz : z = sums X T W b) (r : Fin 16384) :
    ∃ j, IsFirst (logit X hX T W b r) j ∧ (Host.argReduce (reducer_argmax_f32_i32 (F := Ideal)) z (iotaInDim S16384x1000 32 1)
      (constant S_ .f32 0xFF800000#32) (constantI S_ 32 0#32) reducesTo_S16384x1000_S16384_d1 h_S_ (ix1 r)).2 = BitVec.ofNat 32 j.val := by
  obtain ⟨j, h, e⟩ := row_first z r
  refine ⟨j, ?_, e⟩
  have q : (fun k => z (ix2 r k)) = logit X hX T W b r := funext fun k => (congrFun hz _).trans (sums_apply X hX T W b r k)
  rw [← q]
  exact h

end Cert.Proof.Ref

end
-- ==== Proof.Means.lean ====
/-
  The SparseCore calls' sums over the extended reals: the means of the table's rows that the indices name.
-/
module

public import proofs.«01_k».proof.Proof.Pads
public import proofs.«01_k».proof.Proof.Blocks
public import proofs.«01_k».proof.Proof.RefValue

@[expose] public section

noncomputable section

namespace Cert.Proof

open Cert.KernelIdeal Cert.KernelIdeal.Gen

open Idealize.ShloMosaic Idealize.ShloMosaic.TcCoe

theorem sum20_eq (g : ℕ → Ideal .f32) : sum20 (F := Ideal) g = ∑ l : Fin 20, (g l.val : EReal) := by
  rw [Fin.sum_univ_eq_sum_range (fun n => (g n : EReal)) 20]
  simp only [Finset.sum_range_succ, Finset.sum_range_zero, zero_add]
  rfl

theorem inv_len_eq : (Named.named κ "inv_len" 0x3D4CCCCD#32 : Ideal .f32) = Ref.twentieth :=
  IdealRules.named_const.ideal_named_scalar _ _ _ _ rfl

/-- The mean of the rows that a row of indices names, at a column. -/
def mean (X : S16384x20.Idx → BitVec 32) (hX : ∀ x, (X x).toNat < 1000) (T : S1000x128.Idx → EReal) (r : Fin 16384) (k : Fin 128) : EReal :=
  (∑ l : Fin 20, T (ix2 ⟨(X (ix2 r l)).toNat, hX _⟩ k)) * Ref.twentieth

/-- What a call leaves at row `r`, column `k` of its half `c`, its indices being half `h` of the rows. -/
theorem sums_apply (X : S16384x20.Idx → BitVec 32) (hX : ∀ x, (X x).toNat < 1000) (T : S1000x128.Idx → EReal)
    (I : S16x32x320.Idx → BitVec 32) (Y : S2x1000x64.Idx → EReal) (h : Fin 2)
    (hI : ∀ (a : Fin 16) (b : Fin 32) (y : Fin 320) (r : Fin 16384) (l : Fin 20),
      r.val * 20 + l.val = ((h.val * 16 + a.val) * 32 + b.val) * 320 + y.val → I (ix3 a b y) = X (ix2 r l))
    (hY : ∀ (c : Fin 2) (w : Fin 1000) (k : Fin 64) (k' : Fin 128), k'.val = 64 * c.val + k.val → Y (ix3 c w k) = T (ix2 w k'))
    (c : Fin 2) (r : Fin 8192) (k : Fin 64) (q : Fin 524288) (hq : q.val = r.val * 64 + k.val) (R : Fin 16384) (hR : R.val = 8192 * h.val + r.val)
    (k' : Fin 128) (hk : k'.val = 64 * c.val + k.val) :
    sums (F := Ideal) I Y (ix2 c q) = mean X hX T R k' := by
  have hr := r.isLt
  have hk64 := k.isLt
  unfold sums goal pooled
  rw [inv_len_eq, sum20_eq]
  refine congrArg (· * Ref.twentieth) (Finset.sum_congr rfl fun l _ => ?_)
  have hl := l.isLt
  have e : chunkIdx I (q.val / 32768) (q.val / 1024) (ix1 ⟨(20 * (q.val % 1024 / 64) + l.val) % 320, Nat.mod_lt _ (by decide)⟩) = X (ix2 R l) := by
    refine hI _ _ _ R l ?_
    change R.val * 20 + l.val = ((h.val * 16 + q.val / 32768 % 16) * 32 + q.val / 1024 % 32) * 320 + (20 * (q.val % 1024 / 64) + l.val) % 320
    omega
  have b := hX (ix2 R l)
  change rowAt (half (F := Ideal) Y c.val) (chunkIdx I (q.val / 32768) (q.val / 1024) (ix1 ⟨(20 * (q.val % 1024 / 64) + l.val) % 320, Nat.mod_lt _ (by decide)⟩)) (q.val % 1024 % 64) = _
  rw [e]
  unfold rowAt half
  have hc := c.isLt
  refine (hY _ _ _ k' ?_).trans ?_
  · change k'.val = 64 * (c.val % 2) + q.val % 1024 % 64 % 64
    omega
  · refine congrArg (fun w => T (ix2 w k')) (Fin.ext ?_)
    change (X (ix2 R l)).toNat % 1000 = (X (ix2 R l)).toNat
    omega

/-- The value behind the bias. -/
def padding : EReal := Ideal.ofBits .f32 0xF149F2CA#32

/-- A row that reaches the padding has, padded, its first greatest place where the reference has it. -/
theorem first_word (X : S16384x20.Idx → BitVec 32) (hX : ∀ x, (X x).toNat < 1000) (T W : S1000x128.Idx → EReal) (b : S1000.Idx → EReal)
    (A B : S8192x64.Idx → EReal) (W' : S1024x128.Idx → EReal) (b' : S1x1024.Idx → EReal) (r : Fin 8192) (R : Fin 16384)
    (hA : ∀ (k : Fin 64) (k' : Fin 128), k'.val = k.val → A (ix2 r k) = mean X hX T R k')
    (hB : ∀ (k : Fin 64) (k' : Fin 128), k'.val = 64 + k.val → B (ix2 r k) = mean X hX T R k')
    (hW : ∀ (j : Fin 1000) (k : Fin 128) (j' : Fin 1024), j'.val = j.val → W' (ix2 j' k) = W (ix2 j k))
    (hW0 : ∀ (j : Fin 1024) (k : Fin 128), 1000 ≤ j.val → W' (ix2 j k) = 0)
    (hb : ∀ (j : Fin 1000) (j' : Fin 1024), j'.val = j.val → b' (ix2 0 j') = b (ix1 j))
    (hb0 : ∀ j : Fin 1024, 1000 ≤ j.val → b' (ix2 0 j) = padding)
    (ex : ∃ j, padding ≤ Ref.logit X hX T W b R j) {j : Fin 1000} (hj : IsFirst (Ref.logit X hX T W b R) j) :
    firstWord (by decide) (score (n := 8192) A B W' b' r) = BitVec.ofNat 32 j.val := by
  have side (k : Fin 128) : joined A B r k = mean X hX T R k := by
    unfold joined
    by_cases h : k.val < 64
    · rw [dif_pos h]
      exact hA _ _ rfl
    · rw [dif_neg h]
      refine hB _ _ ?_
      change k.val = 64 + (k.val - 64)
      omega
  have f := IsFirst.padded (show 1000 ≤ 1024 by decide) (g := score (n := 8192) A B W' b' r) (c := padding) (fun i => by
    unfold score Ref.logit
    rw [hb i _ rfl]
    refine congrArg (· + b (ix1 i)) (Finset.sum_congr rfl fun k _ => ?_)
    rw [side, hW i k _ rfl]
    rfl) (fun i hi => by
    unfold score
    rw [hb0 i hi]
    simp only [hW0 i _ hi, mul_zero, Finset.sum_const_zero, zero_add]) ex hj
  exact (firstWord_eq _ _ f).symm

end Cert.Proof

end
-- ==== Proof.Values.lean ====
/-
  What the kernel's result holds over the extended reals: each row's first greatest place.
-/
module

public import proofs.«01_k».proof.Proof.Means

@[expose] public section

noncomputable section

namespace Cert.Proof

open Cert.KernelIdeal Cert.KernelIdeal.Gen

open Idealize.ShloMosaic Idealize.ShloMosaic.TcCoe
open Idealize.SL Idealize.SL.Sem

variable (m : (ℓ : Loc nD τ sig) → Buf (Elt Ideal) ℓ) (d : Dev nD)

/-- The arguments. -/
def argX : S16384x20.Idx → BitVec 32 := m ((d.tc : Thread nD τ).loc main_arg0)
def argT : S1000x128.Idx → EReal := m ((d.tc : Thread nD τ).loc main_arg1)
def argW : S1000x128.Idx → EReal := m ((d.tc : Thread nD τ).loc main_arg2)
def argB : S1000.Idx → EReal := m ((d.tc : Thread nD τ).loc main_arg3)

theorem table1 : val1 m d main_v2 = transpose S2x1000x64 [1, 0, 2] (shapeCast S1000x2x64 (argT m d) shapeCasts_S1000x128_S1000x2x64) transposes_S1000x2x64_S2x1000x64_1_0_2 := by
  unfold val1 hostA
  after_results
  rfl

theorem weights1 : val1 m d main_v5 = Host.scatter scatter_S1024x128_S1_S1000x128_01_n_0_0 (fun _ b => b)
    (broadcastInDim S1024x128 ![] bcast_S_S1024x128 (constant (F := Ideal) S_ .f32 0x00000000#32)) (broadcastInDim S1 ![] bcast_S_S1 (constantI S_ 32 0#32)) (argW m d) := by
  unfold val1 hostA
  after_results
  rfl

theorem bias1 : val1 m d main_v10 = Host.scatter scatter_S1x1024_S2_S1000_0_0_01_0 (fun _ b => b)
    (broadcastInDim S1x1024 ![] bcast_S_S1x1024 (constant (F := Ideal) S_ .f32 0xF149F2CA#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) (argB m d) := by
  unfold val1 hostA
  after_results
  rfl

/-- A buffer that the lines up to the first arg-max call leave as the first line has it. -/
theorem kept3 {b : Ref sig .tc} (h : b = main_v5 ∨ b = main_v10 ∨ b = main_v2) : val3 m d b = val1 m d b := by
  rcases h with rfl | rfl | rfl <;>
  · unfold val3 hostB
    after_results
    unfold val2
    rw [Function.update_of_ne (by decide)]

theorem kept5 {b : Ref sig .tc} (h : b = main_v5 ∨ b = main_v10 ∨ b = main_v2) : val5 m d b = val1 m d b := by
  rw [← kept3 m d h]
  rcases h with rfl | rfl | rfl <;>
  · unfold val5 hostC
    after_results
    unfold val4
    rw [Function.update_of_ne (by decide)]

theorem kept7 {b : Ref sig .tc} (h : b = main_v5 ∨ b = main_v10 ∨ b = main_v2) : val7 m d b = val1 m d b := by
  rw [← kept5 m d h]
  rcases h with rfl | rfl | rfl <;>
  · unfold val7 hostD
    after_results
    unfold val6
    rw [Function.update_of_ne (by decide)]

theorem left3 : val3 m d main_v16 = shapeCast S8192x64 (shapeCast S524288 (extractStridedSlice S1x524288 ![0, 0]
    (sums (F := Ideal) (val1 m d main_v12) (val1 m d main_v2)) slices_S2x524288_S1x524288_0_0) shapeCasts_S1x524288_S524288) shapeCasts_S524288_S8192x64 := by
  unfold val3 hostB
  after_results
  unfold val2
  rw [Function.update_self]
  rfl

theorem right3 : val3 m d main_v19 = shapeCast S8192x64 (shapeCast S524288 (extractStridedSlice S1x524288 ![1, 0]
    (sums (F := Ideal) (val1 m d main_v12) (val1 m d main_v2)) slices_S2x524288_S1x524288_1_0) shapeCasts_S1x524288_S524288) shapeCasts_S524288_S8192x64 := by
  unfold val3 hostB
  after_results
  unfold val2
  rw [Function.update_self]
  rfl

theorem left7 : val7 m d main_v27 = shapeCast S8192x64 (shapeCast S524288 (extractStridedSlice S1x524288 ![0, 0]
    (sums (F := Ideal) (val5 m d main_v23_0) (val5 m d main_v2)) slices_S2x524288_S1x524288_0_0) shapeCasts_S1x524288_S524288) shapeCasts_S524288_S8192x64 := by
  unfold val7 hostD
  after_results
  unfold val6
  rw [Function.update_self]
  rfl

theorem right7 : val7 m d main_v30 = shapeCast S8192x64 (shapeCast S524288 (extractStridedSlice S1x524288 ![1, 0]
    (sums (F := Ideal) (val5 m d main_v23_0) (val5 m d main_v2)) slices_S2x524288_S1x524288_1_0) shapeCasts_S1x524288_S524288) shapeCasts_S524288_S8192x64 := by
  unfold val7 hostD
  after_results
  unfold val6
  rw [Function.update_self]
  rfl

theorem result9 : val9 m d main_v32 = concatenate S16384 0
    [⟨S8192, (dat1 (onTc (val3 m)) (owing (F := Ideal) 1) (waited (F := Ideal) 1) d).arrAt 4 cfg1.N⟩,
     ⟨S8192, (dat3 (onTc (val7 m)) (owing (F := Ideal) 2) (waited (F := Ideal) 2) d).arrAt 4 cfg3.N⟩] concatenates_S8192_S8192_S16384_d0 := by
  have e : val8 m d main_v20 = (dat1 (onTc (val3 m)) (owing (F := Ideal) 1) (waited (F := Ideal) 1) d).arrAt 4 cfg1.N := by
    unfold val8; rw [Function.update_of_ne (by decide)]
    unfold val7 hostD; after_results
    unfold val6; rw [Function.update_of_ne (by decide)]
    unfold val5 hostC; after_results
    unfold val4; rw [Function.update_self]
  have e' : val8 m d main_v31 = (dat3 (onTc (val7 m)) (owing (F := Ideal) 2) (waited (F := Ideal) 2) d).arrAt 4 cfg3.N := by
    unfold val8; rw [Function.update_self]
  unfold val9 hostE
  after_results
  rw [e, e']

end Cert.Proof

end
-- ==== Proof.Result.lean ====
/-
  The kernel's result over the extended reals at each row.
-/
module

public import proofs.«01_k».proof.Proof.Values

@[expose] public section

noncomputable section

namespace Cert.Proof

open Cert.KernelIdeal Cert.KernelIdeal.Gen

open Idealize.ShloMosaic Idealize.ShloMosaic.TcCoe
open Idealize.SL Idealize.SL.Sem

variable (m : (ℓ : Loc nD τ sig) → Buf (Elt Ideal) ℓ) (d : Dev nD)

theorem zero_word : Ideal.ofBits .f32 0x00000000#32 = 0 := by
  simp [Ideal.ofBits, Ideal.ieee]

theorem weights_at (j : Fin 1000) (k : Fin 128) (j' : Fin 1024) (hj : j'.val = j.val) : (val1 m d main_v5 : S1024x128.Idx → EReal) (ix2 j' k) = argW m d (ix2 j k) := by
  rw [weights1]
  exact weights_row _ _ (fun _ => rfl) _ j k j' hj

theorem weights_behind (j : Fin 1024) (k : Fin 128) (hj : 1000 ≤ j.val) : (val1 m d main_v5 : S1024x128.Idx → EReal) (ix2 j k) = (0 : EReal) := by
  rw [weights1]
  exact (weights_pad _ _ (fun _ => rfl) _ j k hj).trans zero_word

theorem starts_zero (x : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 x = 0#32 := by
  revert x
  decide +kernel

theorem bias_at (j : Fin 1000) (j' : Fin 1024) (hj : j'.val = j.val) : (val1 m d main_v10 : S1x1024.Idx → EReal) (ix2 0 j') = argB m d (ix1 j) := by
  rw [bias1]
  exact bias_row _ _ starts_zero _ j 0 j' hj

theorem bias_behind (j : Fin 1024) (hj : 1000 ≤ j.val) : (val1 m d main_v10 : S1x1024.Idx → EReal) (ix2 0 j) = padding := by
  rw [bias1]
  exact bias_pad _ _ starts_zero _ 0 j hj

variable (hX : ∀ x, (argX m d x).toNat < 1000)

theorem table_at (c : Fin 2) (w : Fin 1000) (k : Fin 64) (k' : Fin 128) (hk : k'.val = 64 * c.val + k.val) :
    (val1 m d main_v2 : S2x1000x64.Idx → EReal) (ix3 c w k) = argT m d (ix2 w k') := by
  rw [table1]
  exact table_apply _ c w k k' hk

include hX in
/-- The first call's sums are the means of the first half of the rows, -/
theorem means_first (c : Fin 2) (r : Fin 8192) (k : Fin 64) (q : Fin 524288) (hq : q.val = r.val * 64 + k.val) (R : Fin 16384) (hR : R.val = r.val)
    (k' : Fin 128) (hk : k'.val = 64 * c.val + k.val) :
    sums (F := Ideal) (val1 m d main_v12) (val1 m d main_v2) (ix2 c q) = mean (argX m d) hX (argT m d) R k' := by
  refine sums_apply (argX m d) hX (argT m d) _ _ 0 (fun a b y r' l e => ?_) (table_at m d) c r k q hq R (by rw [hR]; exact (Nat.zero_add _).symm) k' hk
  rw [idx_first]
  exact index_apply (argX m d) 0 _ rfl _ a b y r' l e

include hX in
/-- and the second's of the second half. -/
theorem means_second (c : Fin 2) (r : Fin 8192) (k : Fin 64) (q : Fin 524288) (hq : q.val = r.val * 64 + k.val) (R : Fin 16384) (hR : R.val = 8192 + r.val)
    (k' : Fin 128) (hk : k'.val = 64 * c.val + k.val) :
    sums (F := Ideal) (val5 m d main_v23_0) (val5 m d main_v2) (ix2 c q) = mean (argX m d) hX (argT m d) R k' := by
  rw [kept5 m d (Or.inr (Or.inr rfl))]
  refine sums_apply (argX m d) hX (argT m d) _ _ 1 (fun a b y r' l e => ?_) (table_at m d) c r k q hq R hR k' hk
  rw [idx_second]
  exact index_apply (argX m d) 1 _ rfl _ a b y r' l e

variable (hp : ∀ R, ∃ j, padding ≤ Ref.logit (argX m d) hX (argT m d) (argW m d) (argB m d) R j)

theorem place {r : Fin 8192} {k : Fin 64} : r.val * 64 + k.val < 524288 := by omega

include hp in
theorem word_first (r : Fin 8192) (R : Fin 16384) (hR : R.val = r.val) {j : Fin 1000}
    (hj : IsFirst (Ref.logit (argX m d) hX (argT m d) (argW m d) (argB m d) R) j) :
    firstWord (by decide) (score (n := 8192) (val3 m d main_v16) (val3 m d main_v19) (val3 m d main_v5) (val3 m d main_v10) r) = BitVec.ofNat 32 j.val := by
  rw [left3, right3, kept3 m d (Or.inl rfl), kept3 m d (Or.inr (Or.inl rfl))]
  refine first_word (argX m d) hX (argT m d) (argW m d) (argB m d) _ _ _ _ r R (fun k k' hk => ?_) (fun k k' hk => ?_)
    (weights_at m d) (weights_behind m d) (bias_at m d) (bias_behind m d) (hp R) hj
  · exact (half_apply _ 0 _ rfl _ r k ⟨_, place⟩ rfl).trans (means_first m d hX 0 r k _ rfl R hR k' (hk.trans (Nat.zero_add _).symm))
  · exact (half_apply _ 1 _ rfl _ r k ⟨_, place⟩ rfl).trans (means_first m d hX 1 r k _ rfl R hR k' hk)

include hp in
theorem word_second (r : Fin 8192) (R : Fin 16384) (hR : R.val = 8192 + r.val) {j : Fin 1000}
    (hj : IsFirst (Ref.logit (argX m d) hX (argT m d) (argW m d) (argB m d) R) j) :
    firstWord (by decide) (score (n := 8192) (val7 m d main_v27) (val7 m d main_v30) (val7 m d main_v5) (val7 m d main_v10) r) = BitVec.ofNat 32 j.val := by
  rw [left7, right7, kept7 m d (Or.inl rfl), kept7 m d (Or.inr (Or.inl rfl))]
  refine first_word (argX m d) hX (argT m d) (argW m d) (argB m d) _ _ _ _ r R (fun k k' hk => ?_) (fun k k' hk => ?_)
    (weights_at m d) (weights_behind m d) (bias_at m d) (bias_behind m d) (hp R) hj
  · exact (half_apply _ 0 _ rfl _ r k ⟨_, place⟩ rfl).trans (means_second m d hX 0 r k _ rfl R hR k' (hk.trans (Nat.zero_add _).symm))
  · exact (half_apply _ 1 _ rfl _ r k ⟨_, place⟩ rfl).trans (means_second m d hX 1 r k _ rfl R hR k' hk)

/-- Two results one after the other. -/
theorem pair_at (f g : S8192.Idx → BitVec 32) (R : Fin 16384) :
    concatenate S16384 0 [⟨S8192, f⟩, ⟨S8192, g⟩] concatenates_S8192_S8192_S16384_d0 (ix1 R)
      = if h : R.val < 8192 then f (ix1 ⟨R.val, h⟩) else g (ix1 ⟨R.val - 8192, by omega⟩) := by
  by_cases h : R.val < 8192
  · rw [dif_pos h]
    exact concatenate_pair_apply_left (t := S16384) 0 f g _ (ix1 R) rfl (ix1 ⟨R.val, h⟩) fun b => match b with | ⟨0, _⟩ => rfl
  · rw [dif_neg h]
    refine concatenate_pair_apply_right (t := S16384) 0 f g _ (ix1 R) rfl rfl (ix1 ⟨R.val - 8192, by omega⟩) (fun b hb => match b with | ⟨0, _⟩ => absurd rfl hb) ?_
    change R.val - 8192 + 8192 = R.val
    omega

include hp in
/-- The kernel's result at a row is the first greatest place of the row's logits. -/
theorem result_first (R : Fin 16384) {j : Fin 1000} (hj : IsFirst (Ref.logit (argX m d) hX (argT m d) (argW m d) (argB m d) R) j) :
    (val9 m d main_v32 : S16384.Idx → BitVec 32) (ix1 R) = BitVec.ofNat 32 j.val := by
  rw [result9, arr1, arr3]
  refine (pair_at _ _ R).trans ?_
  by_cases h : R.val < 8192
  · rw [dif_pos h]
    exact word_first m d hX hp ⟨R.val, h⟩ R rfl hj
  · rw [dif_neg h]
    exact word_second m d hX hp ⟨R.val - 8192, by omega⟩ R (by change R.val = 8192 + (R.val - 8192); omega) hj

end Cert.Proof

end
-- ==== Proof.Padding.lean ====
/-
  What the second precondition says of the logits: each row has one that reaches the padding.
-/
module

public import proofs.«01_k».proof.Proof.RefValue
public import proofs.«01_k».proof.Proof.Gen.Pre_above_padding

@[expose] public section

noncomputable section

namespace Cert.Proof

open Idealize.ShloMosaic Cert.Pre_above_padding Cert.Pre_above_padding.Gen

/-- A disjunction over a list that holds is held by one of its members. -/
theorem or_fold {ι : Type} (p : ι → BitVec 1) (l : List ι) : ∀ a : BitVec 1, l.foldl (fun a i => IntOp.ori a (p i)) a = 1#1 → a = 1#1 ∨ ∃ i ∈ l, p i = 1#1 := by
  have split : ∀ a b : BitVec 1, IntOp.ori a b = 1#1 → a = 1#1 ∨ b = 1#1 := by decide
  induction l with
  | nil => exact fun a h => Or.inl h
  | cons i l ih =>
    intro a h
    rcases ih _ h with h | ⟨k, hk, e⟩
    · rcases split _ _ h with h | h
      · exact Or.inl h
      · exact Or.inr ⟨i, List.mem_cons_self, h⟩
    · exact Or.inr ⟨k, List.mem_cons_of_mem _ hk, e⟩

/-- A row's disjunction that holds is held at one of the row's places. -/
theorem or_row {m n : ℕ} (p : (⟨2, ![m, n]⟩ : Shape).Idx → BitVec 1) (h : (⟨2, ![m, n]⟩ : Shape).ReducesTo [1] ⟨1, ![m]⟩) (r : Fin m)
    (e : Host.reduce IntOp.ori p (constantI S_ 1 0#1) h h_S_ (ix1 r) = 1#1) : ∃ j : Fin n, p (ix2 r j) = 1#1 := by
  rw [Host.reduce_eq_foldl] at e
  rcases or_fold p _ _ e with e' | ⟨i, hi, hp⟩
  · exact absurd e' (by change ¬ (0#1 = 1#1); decide)
  · have hr : i 0 = r := (Ref.drop_row h r i).mp (of_decide_eq_true (List.mem_filter.mp hi).2)
    subst hr
    exact ⟨i 1, (congrArg p (eq_ix2 i)).symm.trans hp⟩

theorem reaches_of_padding (X : IVec S16384x20 32) (T W : FVec Ideal S1000x128 .f32) (b : FVec Ideal S1000 .f32)
    (h : Cert.Pre_above_padding.fn (F := Ideal) X T W b = fun _ => 1#1) (r : Fin 16384) :
    ∃ j : Fin 1000, Ideal.ofBits .f32 0xF149F2CA#32 ≤ Ref.sums X T W b (ix2 r j) := by
  haveI : Subsingleton S_.Idx := ⟨fun a b => funext fun k => k.elim0⟩
  have e := congrFun h (fun k => k.elim0)
  dsimp only [Cert.Pre_above_padding.fn, Cert.Pre_above_padding.fn_part1] at e
  have e1 := (IntOp.andi_eq_one.mp e).2
  have e2 := Host.reduce_andi_all _ _ _ _ _ e1 (ix1 r)
  obtain ⟨j, hj⟩ := or_row (m := 16384) (n := 1000) _ _ r e2
  refine ⟨j, ?_⟩
  have one (p : Bool) : (BitVec.ofBool p = 1#1) ↔ p = true := by cases p <;> decide
  exact of_decide_eq_true ((one _).mp hj)

end Cert.Proof

end
-- ==== Proof.Algebraic.lean ====
/-
  The kernel and the reference compute the same result over the extended reals.
-/
module

public import Idealize.ShloMosaic.Lib.Tactic.CleanTypes
public import proofs.«01_k».proof.Proof.Frames
public import proofs.«01_k».proof.Proof.Reference
public import proofs.«01_k».proof.Proof.Result
public import proofs.«01_k».proof.Proof.Padding

@[expose] public section

noncomputable section

namespace Cert.Proof

open Idealize.ShloMosaic Idealize.SL.Sem

theorem unscoped_result : Proc.devRef .tc Cert.KernelIdeal.main_v32 ∈ Pipeline.ucRefs Cert.KernelIdeal.τ Cert.KernelIdeal.sig := unscoped_mem _ (by decide)

theorem algebraic : Cert.algebraic_KernelIdeal_ReferenceIdeal_pre_above_padding := by
  intro m g m' g' hpre hagree
  have hX (d : Dev Cert.KernelIdeal.nD) (x) : (argX m d x).toNat < 1000 := range_of_padding _ _ _ _ (hpre d) x
  have hp (d : Dev Cert.KernelIdeal.nD) (R) : ∃ j, padding ≤ Ref.logit (argX m d) (hX d) (argT m d) (argW m d) (argB m d) R j := by
    obtain ⟨j, hj⟩ := reaches_of_padding _ _ _ _ (hpre d) R
    exact ⟨j, hj.trans (Ref.sums_apply _ (hX d) _ _ _ R j).le⟩
  refine ⟨fun c => val9 m c (Proc.devRef .tc Cert.KernelIdeal.main_v32), ?_, ?_⟩
  · exact (θ_run Cert.KernelIdeal.defs _ _).mono (fun _ e c => ⟨e.1 c _ unscoped_result, args_kept m e c⟩) (run_main m g (fits_of m hX))
  · hlo_run
    · simp -implicitDefEqProofs only [StableHlo.TRef.ofBuf_toBuf, StableHlo.TRef.toBuf, StableHlo.TRef.ofBuf, cast_eq]
      clean_types
      funext x
      obtain ⟨R, rfl⟩ : ∃ R : Fin 16384, x = ix1 R := ⟨_, eq_ix1 x⟩
      obtain ⟨j, hj, e⟩ := Ref.places_first (argX m c) (hX c) (argT m c) (argW m c) (argB m c) _ rfl R
      refine Eq.trans ?_ (result_first m c (hX c) (hp c) R hj).symm
      exact e

end Cert.Proof

end
-- ==== Proof.lean ====
/-
  The claim: the frames of the kernel at words and at the ideal and of the reference, the named constant, and the equality of the kernel's result with the reference's at the ideal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.Pre_above_padding
public import proofs.«01_k».proof.Proof.Frames
public import proofs.«01_k».proof.Proof.Reference
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Pre_above_padding.Gen.facts, frame_words, frame_ideal, frame_ideal_padding, frame_reference, frame_reference_padding, constant_kept, algebraic⟩

end Cert.Proof

end
